-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_window_finite [hPre_window_finite : Cert.Pre_window_finite.Facts] (m : (ℓ : Loc Cert.WindowIdeal.nD Cert.WindowIdeal.τ Cert.WindowIdeal.sig) → Buf (Elt Ideal) ℓ) : Prop :=
  ∀ c : Dev Cert.WindowIdeal.nD,
    (Cert.Pre_window_finite.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1))) = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_window_finite [hPre_window_finite : Cert.Pre_window_finite.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_window_finite.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0))) = (fun _ => 1#1)

def Pre_Start (m : (ℓ : Loc Cert.Start.nD Cert.Start.τ Cert.Start.sig) → Buf (Elt Bits) ℓ) : Prop :=
  True

def Pre_StartIdeal (m : (ℓ : Loc Cert.StartIdeal.nD Cert.StartIdeal.τ Cert.StartIdeal.sig) → Buf (Elt Ideal) ℓ) : Prop :=
  True

def Pre_StartRefIdeal (m : (ℓ : Loc Cert.StartRefIdeal.nD Cert.StartRefIdeal.τ Cert.StartRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ModProj (m : (ℓ : Loc Cert.ModProj.nD Cert.ModProj.τ Cert.ModProj.sig) → Buf (Elt Bits) ℓ) : Prop :=
  True

def Pre_ModProjIdeal (m : (ℓ : Loc Cert.ModProjIdeal.nD Cert.ModProjIdeal.τ Cert.ModProjIdeal.sig) → Buf (Elt Ideal) ℓ) : Prop :=
  True

def Pre_ModProjRefIdeal (m : (ℓ : Loc Cert.ModProjRefIdeal.nD Cert.ModProjRefIdeal.τ Cert.ModProjRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_ProjBwdX (m : (ℓ : Loc Cert.ProjBwdX.nD Cert.ProjBwdX.τ Cert.ProjBwdX.sig) → Buf (Elt Bits) ℓ) : Prop :=
  True

def Pre_ProjBwdXIdeal (m : (ℓ : Loc Cert.ProjBwdXIdeal.nD Cert.ProjBwdXIdeal.τ Cert.ProjBwdXIdeal.sig) → Buf (Elt Ideal) ℓ) : Prop :=
  True

def Pre_ProjBwdXRefIdeal (m : (ℓ : Loc Cert.ProjBwdXRefIdeal.nD Cert.ProjBwdXRefIdeal.τ Cert.ProjBwdXRefIdeal.sig) → Buf (Elt Ideal) ℓ) : Prop :=
  True

def Pre_ProjBwdW (m : (ℓ : Loc Cert.ProjBwdW.nD Cert.ProjBwdW.τ Cert.ProjBwdW.sig) → Buf (Elt Bits) ℓ) : Prop :=
  True

def Pre_ProjBwdWIdeal (m : (ℓ : Loc Cert.ProjBwdWIdeal.nD Cert.ProjBwdWIdeal.τ Cert.ProjBwdWIdeal.sig) → Buf (Elt Ideal) ℓ) : Prop :=
  True

def Pre_ProjBwdWRefIdeal (m : (ℓ : Loc Cert.ProjBwdWRefIdeal.nD Cert.ProjBwdWRefIdeal.τ Cert.ProjBwdWRefIdeal.sig) → Buf (Elt Ideal) ℓ) : Prop :=
  True

def Pre_DenseFwd (m : (ℓ : Loc Cert.DenseFwd.nD Cert.DenseFwd.τ Cert.DenseFwd.sig) → Buf (Elt Bits) ℓ) : Prop :=
  True

def Pre_DenseFwdIdeal (m : (ℓ : Loc Cert.DenseFwdIdeal.nD Cert.DenseFwdIdeal.τ Cert.DenseFwdIdeal.sig) → Buf (Elt Ideal) ℓ) : Prop :=
  True

def Pre_DenseFwdRefIdeal (m : (ℓ : Loc Cert.DenseFwdRefIdeal.nD Cert.DenseFwdRefIdeal.τ Cert.DenseFwdRefIdeal.sig) → Buf (Elt Ideal) ℓ) : Prop :=
  True

def Pre_DenseBwdX (m : (ℓ : Loc Cert.DenseBwdX.nD Cert.DenseBwdX.τ Cert.DenseBwdX.sig) → Buf (Elt Bits) ℓ) : Prop :=
  True

def Pre_DenseBwdXIdeal (m : (ℓ : Loc Cert.DenseBwdXIdeal.nD Cert.DenseBwdXIdeal.τ Cert.DenseBwdXIdeal.sig) → Buf (Elt Ideal) ℓ) : Prop :=
  True

def Pre_DenseBwdXRefIdeal (m : (ℓ : Loc Cert.DenseBwdXRefIdeal.nD Cert.DenseBwdXRefIdeal.τ Cert.DenseBwdXRefIdeal.sig) → Buf (Elt Ideal) ℓ) : Prop :=
  True

def Pre_DenseBwdW (m : (ℓ : Loc Cert.DenseBwdW.nD Cert.DenseBwdW.τ Cert.DenseBwdW.sig) → Buf (Elt Bits) ℓ) : Prop :=
  True

def Pre_DenseBwdWIdeal (m : (ℓ : Loc Cert.DenseBwdWIdeal.nD Cert.DenseBwdWIdeal.τ Cert.DenseBwdWIdeal.sig) → Buf (Elt Ideal) ℓ) : Prop :=
  True

def Pre_DenseBwdWRefIdeal (m : (ℓ : Loc Cert.DenseBwdWRefIdeal.nD Cert.DenseBwdWRefIdeal.τ Cert.DenseBwdWRefIdeal.sig) → Buf (Elt Ideal) ℓ) : Prop :=
  True

def Pre_FfnBwdX (m : (ℓ : Loc Cert.FfnBwdX.nD Cert.FfnBwdX.τ Cert.FfnBwdX.sig) → Buf (Elt Bits) ℓ) : Prop :=
  True

def Pre_FfnBwdXIdeal (m : (ℓ : Loc Cert.FfnBwdXIdeal.nD Cert.FfnBwdXIdeal.τ Cert.FfnBwdXIdeal.sig) → Buf (Elt Ideal) ℓ) : Prop :=
  True

def Pre_FfnBwdXRefIdeal (m : (ℓ : Loc Cert.FfnBwdXRefIdeal.nD Cert.FfnBwdXRefIdeal.τ Cert.FfnBwdXRefIdeal.sig) → Buf (Elt Ideal) ℓ) : Prop :=
  True

def Pre_FfnBwdWgu (m : (ℓ : Loc Cert.FfnBwdWgu.nD Cert.FfnBwdWgu.τ Cert.FfnBwdWgu.sig) → Buf (Elt Bits) ℓ) : Prop :=
  True

def Pre_FfnBwdWguIdeal (m : (ℓ : Loc Cert.FfnBwdWguIdeal.nD Cert.FfnBwdWguIdeal.τ Cert.FfnBwdWguIdeal.sig) → Buf (Elt Ideal) ℓ) : Prop :=
  True

def Pre_FfnBwdWguRefIdeal (m : (ℓ : Loc Cert.FfnBwdWguRefIdeal.nD Cert.FfnBwdWguRefIdeal.τ Cert.FfnBwdWguRefIdeal.sig) → Buf (Elt Ideal) ℓ) : Prop :=
  True

def Pre_FfnBwdWd (m : (ℓ : Loc Cert.FfnBwdWd.nD Cert.FfnBwdWd.τ Cert.FfnBwdWd.sig) → Buf (Elt Bits) ℓ) : Prop :=
  True

def Pre_FfnBwdWdIdeal (m : (ℓ : Loc Cert.FfnBwdWdIdeal.nD Cert.FfnBwdWdIdeal.τ Cert.FfnBwdWdIdeal.sig) → Buf (Elt Ideal) ℓ) : Prop :=
  True

def Pre_FfnBwdWdRefIdeal (m : (ℓ : Loc Cert.FfnBwdWdRefIdeal.nD Cert.FfnBwdWdRefIdeal.τ Cert.FfnBwdWdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ModGrad (m : (ℓ : Loc Cert.ModGrad.nD Cert.ModGrad.τ Cert.ModGrad.sig) → Buf (Elt Bits) ℓ) : Prop :=
  True

def Pre_ModGradIdeal (m : (ℓ : Loc Cert.ModGradIdeal.nD Cert.ModGradIdeal.τ Cert.ModGradIdeal.sig) → Buf (Elt Ideal) ℓ) : Prop :=
  True

def Pre_ModGradRefIdeal (m : (ℓ : Loc Cert.ModGradRefIdeal.nD Cert.ModGradRefIdeal.τ Cert.ModGradRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_PairAdd [hPre_core_number : Cert.Pre_core_number.Facts] (m : (ℓ : Loc Cert.PairAdd.nD Cert.PairAdd.τ Cert.PairAdd.sig) → Buf (Elt Bits) ℓ) : Prop :=
  ∀ c : Dev Cert.PairAdd.nD,
    (Cert.Pre_core_number.fn (F := Bits) (m ((c.tc : Thread Cert.PairAdd.nD Cert.PairAdd.τ).loc Cert.PairAdd.main_arg0)) (m ((c.tc : Thread Cert.PairAdd.nD Cert.PairAdd.τ).loc Cert.PairAdd.main_arg1)) (m ((c.tc : Thread Cert.PairAdd.nD Cert.PairAdd.τ).loc Cert.PairAdd.main_arg2))) = (fun _ => 1#1)

def Pre_PairAddIdeal [hPre_core_number : Cert.Pre_core_number.Facts] (m : (ℓ : Loc Cert.PairAddIdeal.nD Cert.PairAddIdeal.τ Cert.PairAddIdeal.sig) → Buf (Elt Ideal) ℓ) : Prop :=
  ∀ c : Dev Cert.PairAddIdeal.nD,
    (Cert.Pre_core_number.fn (F := Ideal) (m ((c.tc : Thread Cert.PairAddIdeal.nD Cert.PairAddIdeal.τ).loc Cert.PairAddIdeal.main_arg0)) (m ((c.tc : Thread Cert.PairAddIdeal.nD Cert.PairAddIdeal.τ).loc Cert.PairAddIdeal.main_arg1)) (m ((c.tc : Thread Cert.PairAddIdeal.nD Cert.PairAddIdeal.τ).loc Cert.PairAddIdeal.main_arg2))) = (fun _ => 1#1)

def Pre_PairAddRefIdeal (m : (ℓ : Loc Cert.PairAddRefIdeal.nD Cert.PairAddRefIdeal.τ Cert.PairAddRefIdeal.sig) → Buf (Elt Ideal) ℓ) : Prop :=
  True

def Pre_PairAddRefIdeal_core_number [hPre_core_number : Cert.Pre_core_number.Facts] (m : (ℓ : Loc Cert.PairAddRefIdeal.nD Cert.PairAddRefIdeal.τ Cert.PairAddRefIdeal.sig) → Buf (Elt Ideal) ℓ) : Prop :=
  ∀ c : Dev Cert.PairAddRefIdeal.nD,
    (Cert.Pre_core_number.fn (F := Ideal) (m ((c.tc : Thread Cert.PairAddRefIdeal.nD Cert.PairAddRefIdeal.τ).loc Cert.PairAddRefIdeal.main_arg0)) (m ((c.tc : Thread Cert.PairAddRefIdeal.nD Cert.PairAddRefIdeal.τ).loc Cert.PairAddRefIdeal.main_arg1)) (m ((c.tc : Thread Cert.PairAddRefIdeal.nD Cert.PairAddRefIdeal.τ).loc Cert.PairAddRefIdeal.main_arg2))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ r.2.sem = fun _ => 0)

def quiescent_WindowIdeal_pre_window_finite [hWindowIdeal : Cert.WindowIdeal.Facts] [hPre_window_finite : Cert.Pre_window_finite.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_window_finite m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1))
      ∧ r.2.sem = fun _ => 0)

def quiescent_WindowRefIdeal_pre_window_finite [hWindowRefIdeal : Cert.WindowRefIdeal.Facts] [hPre_window_finite : Cert.Pre_window_finite.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_window_finite m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_Start [hStart : Cert.Start.Facts] : Prop :=
  ∀ (m : (ℓ : Loc Cert.Start.nD Cert.Start.τ Cert.Start.sig) → Buf (Elt Bits) ℓ) (g : Dev Cert.Start.nD → PrngReg), Pre_Start m →
    θ_run (Cert.Start.defs (F := Bits)) (onTc (τ := Cert.Start.τ) (Cert.Start.main (F := Bits))) ⟨m, fun _ => 0, g⟩ (fun r => (∀ c : Dev Cert.Start.nD,
      r.2.mem ((c.tc : Thread Cert.Start.nD Cert.Start.τ).loc Cert.Start.main_arg0) = m ((c.tc : Thread Cert.Start.nD Cert.Start.τ).loc Cert.Start.main_arg0)
      ∧ r.2.mem ((c.tc : Thread Cert.Start.nD Cert.Start.τ).loc Cert.Start.main_arg1) = m ((c.tc : Thread Cert.Start.nD Cert.Start.τ).loc Cert.Start.main_arg1)
      ∧ r.2.mem ((c.tc : Thread Cert.Start.nD Cert.Start.τ).loc Cert.Start.main_arg2) = m ((c.tc : Thread Cert.Start.nD Cert.Start.τ).loc Cert.Start.main_arg2)
      ∧ r.2.mem ((c.tc : Thread Cert.Start.nD Cert.Start.τ).loc Cert.Start.main_arg3) = m ((c.tc : Thread Cert.Start.nD Cert.Start.τ).loc Cert.Start.main_arg3))
      ∧ r.2.sem = fun _ => 0)

def quiescent_StartIdeal [hStartIdeal : Cert.StartIdeal.Facts] : Prop :=
  ∀ (m : (ℓ : Loc Cert.StartIdeal.nD Cert.StartIdeal.τ Cert.StartIdeal.sig) → Buf (Elt Ideal) ℓ) (g : Dev Cert.StartIdeal.nD → PrngReg), Pre_StartIdeal m →
    θ_run (Cert.StartIdeal.defs (F := Ideal)) (onTc (τ := Cert.StartIdeal.τ) (Cert.StartIdeal.main (F := Ideal))) ⟨m, fun _ => 0, g⟩ (fun r => (∀ c : Dev Cert.StartIdeal.nD,
      r.2.mem ((c.tc : Thread Cert.StartIdeal.nD Cert.StartIdeal.τ).loc Cert.StartIdeal.main_arg0) = m ((c.tc : Thread Cert.StartIdeal.nD Cert.StartIdeal.τ).loc Cert.StartIdeal.main_arg0)
      ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
      ∧ r.2.mem ((c.tc : Thread Cert.StartIdeal.nD Cert.StartIdeal.τ).loc Cert.StartIdeal.main_arg2) = m ((c.tc : Thread Cert.StartIdeal.nD Cert.StartIdeal.τ).loc Cert.StartIdeal.main_arg2)
      ∧ r.2.mem ((c.tc : Thread Cert.StartIdeal.nD Cert.StartIdeal.τ).loc Cert.StartIdeal.main_arg3) = m ((c.tc : Thread Cert.StartIdeal.nD Cert.StartIdeal.τ).loc Cert.StartIdeal.main_arg3))
      ∧ r.2.sem = fun _ => 0)

def quiescent_StartRefIdeal [hStartRefIdeal : Cert.StartRefIdeal.Facts] : Prop :=
  ∀ (m : (ℓ : Loc Cert.StartRefIdeal.nD Cert.StartRefIdeal.τ Cert.StartRefIdeal.sig) → Buf (Elt Ideal) ℓ) (g : Dev Cert.StartRefIdeal.nD → PrngReg), Pre_StartRefIdeal m →
    θ_run (Cert.StartRefIdeal.defs (F := Ideal)) (onTc (τ := Cert.StartRefIdeal.τ) (Cert.StartRefIdeal.main (F := Ideal))) ⟨m, fun _ => 0, g⟩ (fun r => (∀ c : Dev Cert.StartRefIdeal.nD,
      r.2.mem ((c.tc : Thread Cert.StartRefIdeal.nD Cert.StartRefIdeal.τ).loc Cert.StartRefIdeal.main_arg0) = m ((c.tc : Thread Cert.StartRefIdeal.nD Cert.StartRefIdeal.τ).loc Cert.StartRefIdeal.main_arg0)
      ∧ r.2.mem ((c.tc : Thread Cert.StartRefIdeal.nD Cert.StartRefIdeal.τ).loc Cert.StartRefIdeal.main_arg1) = m ((c.tc : Thread Cert.StartRefIdeal.nD Cert.StartRefIdeal.τ).loc Cert.StartRefIdeal.main_arg1)
      ∧ r.2.mem ((c.tc : Thread Cert.StartRefIdeal.nD Cert.StartRefIdeal.τ).loc Cert.StartRefIdeal.main_arg2) = m ((c.tc : Thread Cert.StartRefIdeal.nD Cert.StartRefIdeal.τ).loc Cert.StartRefIdeal.main_arg2)
      ∧ r.2.mem ((c.tc : Thread Cert.StartRefIdeal.nD Cert.StartRefIdeal.τ).loc Cert.StartRefIdeal.main_arg3) = m ((c.tc : Thread Cert.StartRefIdeal.nD Cert.StartRefIdeal.τ).loc Cert.StartRefIdeal.main_arg3))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4)
      ∧ r.2.mem ((c.tc : Thread Cert.Resid.nD Cert.Resid.τ).loc Cert.Resid.main_arg5) = m ((c.tc : Thread Cert.Resid.nD Cert.Resid.τ).loc Cert.Resid.main_arg5))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4)
      ∧ r.2.mem ((c.tc : Thread Cert.ResidRefIdeal.nD Cert.ResidRefIdeal.τ).loc Cert.ResidRefIdeal.main_arg5) = m ((c.tc : Thread Cert.ResidRefIdeal.nD Cert.ResidRefIdeal.τ).loc Cert.ResidRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_ModProj [hModProj : Cert.ModProj.Facts] : Prop :=
  ∀ (m : (ℓ : Loc Cert.ModProj.nD Cert.ModProj.τ Cert.ModProj.sig) → Buf (Elt Bits) ℓ) (g : Dev Cert.ModProj.nD → PrngReg), Pre_ModProj m →
    θ_run (Cert.ModProj.defs (F := Bits)) (onTc (τ := Cert.ModProj.τ) (Cert.ModProj.main (F := Bits))) ⟨m, fun _ => 0, g⟩ (fun r => (∀ c : Dev Cert.ModProj.nD,
      r.2.mem ((c.tc : Thread Cert.ModProj.nD Cert.ModProj.τ).loc Cert.ModProj.main_arg0) = m ((c.tc : Thread Cert.ModProj.nD Cert.ModProj.τ).loc Cert.ModProj.main_arg0)
      ∧ r.2.mem ((c.tc : Thread Cert.ModProj.nD Cert.ModProj.τ).loc Cert.ModProj.main_arg1) = m ((c.tc : Thread Cert.ModProj.nD Cert.ModProj.τ).loc Cert.ModProj.main_arg1))
      ∧ r.2.sem = fun _ => 0)

def quiescent_ModProjIdeal [hModProjIdeal : Cert.ModProjIdeal.Facts] : Prop :=
  ∀ (m : (ℓ : Loc Cert.ModProjIdeal.nD Cert.ModProjIdeal.τ Cert.ModProjIdeal.sig) → Buf (Elt Ideal) ℓ) (g : Dev Cert.ModProjIdeal.nD → PrngReg), Pre_ModProjIdeal m →
    θ_run (Cert.ModProjIdeal.defs (F := Ideal)) (onTc (τ := Cert.ModProjIdeal.τ) (Cert.ModProjIdeal.main (F := Ideal))) ⟨m, fun _ => 0, g⟩ (fun r => (∀ c : Dev Cert.ModProjIdeal.nD,
      r.2.mem ((c.tc : Thread Cert.ModProjIdeal.nD Cert.ModProjIdeal.τ).loc Cert.ModProjIdeal.main_arg0) = m ((c.tc : Thread Cert.ModProjIdeal.nD Cert.ModProjIdeal.τ).loc Cert.ModProjIdeal.main_arg0)
      ∧ r.2.mem ((c.tc : Thread Cert.ModProjIdeal.nD Cert.ModProjIdeal.τ).loc Cert.ModProjIdeal.main_arg1) = m ((c.tc : Thread Cert.ModProjIdeal.nD Cert.ModProjIdeal.τ).loc Cert.ModProjIdeal.main_arg1))
      ∧ r.2.sem = fun _ => 0)

def quiescent_ModProjRefIdeal [hModProjRefIdeal : Cert.ModProjRefIdeal.Facts] : Prop :=
  ∀ (m : (ℓ : Loc Cert.ModProjRefIdeal.nD Cert.ModProjRefIdeal.τ Cert.ModProjRefIdeal.sig) → Buf (Elt Ideal) ℓ) (g : Dev Cert.ModProjRefIdeal.nD → PrngReg), Pre_ModProjRefIdeal m →
    θ_run (Cert.ModProjRefIdeal.defs (F := Ideal)) (onTc (τ := Cert.ModProjRefIdeal.τ) (Cert.ModProjRefIdeal.main (F := Ideal))) ⟨m, fun _ => 0, g⟩ (fun r => (∀ c : Dev Cert.ModProjRefIdeal.nD,
      r.2.mem ((c.tc : Thread Cert.ModProjRefIdeal.nD Cert.ModProjRefIdeal.τ).loc Cert.ModProjRefIdeal.main_arg0) = m ((c.tc : Thread Cert.ModProjRefIdeal.nD Cert.ModProjRefIdeal.τ).loc Cert.ModProjRefIdeal.main_arg0)
      ∧ r.2.mem ((c.tc : Thread Cert.ModProjRefIdeal.nD Cert.ModProjRefIdeal.τ).loc Cert.ModProjRefIdeal.main_arg1) = m ((c.tc : Thread Cert.ModProjRefIdeal.nD Cert.ModProjRefIdeal.τ).loc Cert.ModProjRefIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_ProjBwdX [hProjBwdX : Cert.ProjBwdX.Facts] : Prop :=
  ∀ (m : (ℓ : Loc Cert.ProjBwdX.nD Cert.ProjBwdX.τ Cert.ProjBwdX.sig) → Buf (Elt Bits) ℓ) (g : Dev Cert.ProjBwdX.nD → PrngReg), Pre_ProjBwdX m →
    θ_run (Cert.ProjBwdX.defs (F := Bits)) (onTc (τ := Cert.ProjBwdX.τ) (Cert.ProjBwdX.main (F := Bits))) ⟨m, fun _ => 0, g⟩ (fun r => (∀ c : Dev Cert.ProjBwdX.nD,
      r.2.mem ((c.tc : Thread Cert.ProjBwdX.nD Cert.ProjBwdX.τ).loc Cert.ProjBwdX.main_arg0) = m ((c.tc : Thread Cert.ProjBwdX.nD Cert.ProjBwdX.τ).loc Cert.ProjBwdX.main_arg0)
      ∧ r.2.mem ((c.tc : Thread Cert.ProjBwdX.nD Cert.ProjBwdX.τ).loc Cert.ProjBwdX.main_arg1) = m ((c.tc : Thread Cert.ProjBwdX.nD Cert.ProjBwdX.τ).loc Cert.ProjBwdX.main_arg1))
      ∧ r.2.sem = fun _ => 0)

def quiescent_ProjBwdXIdeal [hProjBwdXIdeal : Cert.ProjBwdXIdeal.Facts] : Prop :=
  ∀ (m : (ℓ : Loc Cert.ProjBwdXIdeal.nD Cert.ProjBwdXIdeal.τ Cert.ProjBwdXIdeal.sig) → Buf (Elt Ideal) ℓ) (g : Dev Cert.ProjBwdXIdeal.nD → PrngReg), Pre_ProjBwdXIdeal m →
    θ_run (Cert.ProjBwdXIdeal.defs (F := Ideal)) (onTc (τ := Cert.ProjBwdXIdeal.τ) (Cert.ProjBwdXIdeal.main (F := Ideal))) ⟨m, fun _ => 0, g⟩ (fun r => (∀ c : Dev Cert.ProjBwdXIdeal.nD,
      r.2.mem ((c.tc : Thread Cert.ProjBwdXIdeal.nD Cert.ProjBwdXIdeal.τ).loc Cert.ProjBwdXIdeal.main_arg0) = m ((c.tc : Thread Cert.ProjBwdXIdeal.nD Cert.ProjBwdXIdeal.τ).loc Cert.ProjBwdXIdeal.main_arg0)
      ∧ r.2.mem ((c.tc : Thread Cert.ProjBwdXIdeal.nD Cert.ProjBwdXIdeal.τ).loc Cert.ProjBwdXIdeal.main_arg1) = m ((c.tc : Thread Cert.ProjBwdXIdeal.nD Cert.ProjBwdXIdeal.τ).loc Cert.ProjBwdXIdeal.main_arg1))
      ∧ r.2.sem = fun _ => 0)

def quiescent_ProjBwdXRefIdeal [hProjBwdXRefIdeal : Cert.ProjBwdXRefIdeal.Facts] : Prop :=
  ∀ (m : (ℓ : Loc Cert.ProjBwdXRefIdeal.nD Cert.ProjBwdXRefIdeal.τ Cert.ProjBwdXRefIdeal.sig) → Buf (Elt Ideal) ℓ) (g : Dev Cert.ProjBwdXRefIdeal.nD → PrngReg), Pre_ProjBwdXRefIdeal m →
    θ_run (Cert.ProjBwdXRefIdeal.defs (F := Ideal)) (onTc (τ := Cert.ProjBwdXRefIdeal.τ) (Cert.ProjBwdXRefIdeal.main (F := Ideal))) ⟨m, fun _ => 0, g⟩ (fun r => (∀ c : Dev Cert.ProjBwdXRefIdeal.nD,
      r.2.mem ((c.tc : Thread Cert.ProjBwdXRefIdeal.nD Cert.ProjBwdXRefIdeal.τ).loc Cert.ProjBwdXRefIdeal.main_arg0) = m ((c.tc : Thread Cert.ProjBwdXRefIdeal.nD Cert.ProjBwdXRefIdeal.τ).loc Cert.ProjBwdXRefIdeal.main_arg0)
      ∧ r.2.mem ((c.tc : Thread Cert.ProjBwdXRefIdeal.nD Cert.ProjBwdXRefIdeal.τ).loc Cert.ProjBwdXRefIdeal.main_arg1) = m ((c.tc : Thread Cert.ProjBwdXRefIdeal.nD Cert.ProjBwdXRefIdeal.τ).loc Cert.ProjBwdXRefIdeal.main_arg1))
      ∧ r.2.sem = fun _ => 0)

def quiescent_ProjBwdW [hProjBwdW : Cert.ProjBwdW.Facts] : Prop :=
  ∀ (m : (ℓ : Loc Cert.ProjBwdW.nD Cert.ProjBwdW.τ Cert.ProjBwdW.sig) → Buf (Elt Bits) ℓ) (g : Dev Cert.ProjBwdW.nD → PrngReg), Pre_ProjBwdW m →
    θ_run (Cert.ProjBwdW.defs (F := Bits)) (onTc (τ := Cert.ProjBwdW.τ) (Cert.ProjBwdW.main (F := Bits))) ⟨m, fun _ => 0, g⟩ (fun r => (∀ c : Dev Cert.ProjBwdW.nD,
      r.2.mem ((c.tc : Thread Cert.ProjBwdW.nD Cert.ProjBwdW.τ).loc Cert.ProjBwdW.main_arg0) = m ((c.tc : Thread Cert.ProjBwdW.nD Cert.ProjBwdW.τ).loc Cert.ProjBwdW.main_arg0)
      ∧ r.2.mem ((c.tc : Thread Cert.ProjBwdW.nD Cert.ProjBwdW.τ).loc Cert.ProjBwdW.main_arg1) = m ((c.tc : Thread Cert.ProjBwdW.nD Cert.ProjBwdW.τ).loc Cert.ProjBwdW.main_arg1))
      ∧ r.2.sem = fun _ => 0)

def quiescent_ProjBwdWIdeal [hProjBwdWIdeal : Cert.ProjBwdWIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg), Pre_ProjBwdWIdeal m →
    θ_run (Cert.ProjBwdWIdeal.defs (F := Ideal)) (onTc (τ := Cert.ProjBwdWIdeal.τ) (Cert.ProjBwdWIdeal.main (F := Ideal))) ⟨m, fun _ => 0, g⟩ (fun r => (∀ c : Dev Cert.ProjBwdWIdeal.nD,
      r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
      ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1))
      ∧ r.2.sem = fun _ => 0)

def quiescent_ProjBwdWRefIdeal [hProjBwdWRefIdeal : Cert.ProjBwdWRefIdeal.Facts] : Prop :=
  ∀ (m : (ℓ : Loc Cert.ProjBwdWRefIdeal.nD Cert.ProjBwdWRefIdeal.τ Cert.ProjBwdWRefIdeal.sig) → Buf (Elt Ideal) ℓ) (g : Dev Cert.ProjBwdWRefIdeal.nD → PrngReg), Pre_ProjBwdWRefIdeal m →
    θ_run (Cert.ProjBwdWRefIdeal.defs (F := Ideal)) (onTc (τ := Cert.ProjBwdWRefIdeal.τ) (Cert.ProjBwdWRefIdeal.main (F := Ideal))) ⟨m, fun _ => 0, g⟩ (fun r => (∀ c : Dev Cert.ProjBwdWRefIdeal.nD,
      r.2.mem ((c.tc : Thread Cert.ProjBwdWRefIdeal.nD Cert.ProjBwdWRefIdeal.τ).loc Cert.ProjBwdWRefIdeal.main_arg0) = m ((c.tc : Thread Cert.ProjBwdWRefIdeal.nD Cert.ProjBwdWRefIdeal.τ).loc Cert.ProjBwdWRefIdeal.main_arg0)
      ∧ r.2.mem ((c.tc : Thread Cert.ProjBwdWRefIdeal.nD Cert.ProjBwdWRefIdeal.τ).loc Cert.ProjBwdWRefIdeal.main_arg1) = m ((c.tc : Thread Cert.ProjBwdWRefIdeal.nD Cert.ProjBwdWRefIdeal.τ).loc Cert.ProjBwdWRefIdeal.main_arg1))
      ∧ r.2.sem = fun _ => 0)

def quiescent_DenseFwd [hDenseFwd : Cert.DenseFwd.Facts] : Prop :=
  ∀ (m : (ℓ : Loc Cert.DenseFwd.nD Cert.DenseFwd.τ Cert.DenseFwd.sig) → Buf (Elt Bits) ℓ) (g : Dev Cert.DenseFwd.nD → PrngReg), Pre_DenseFwd m →
    θ_run (Cert.DenseFwd.defs (F := Bits)) (onTc (τ := Cert.DenseFwd.τ) (Cert.DenseFwd.main (F := Bits))) ⟨m, fun _ => 0, g⟩ (fun r => (∀ c : Dev Cert.DenseFwd.nD,
      r.2.mem ((c.tc : Thread Cert.DenseFwd.nD Cert.DenseFwd.τ).loc Cert.DenseFwd.main_arg0) = m ((c.tc : Thread Cert.DenseFwd.nD Cert.DenseFwd.τ).loc Cert.DenseFwd.main_arg0)
      ∧ r.2.mem ((c.tc : Thread Cert.DenseFwd.nD Cert.DenseFwd.τ).loc Cert.DenseFwd.main_arg1) = m ((c.tc : Thread Cert.DenseFwd.nD Cert.DenseFwd.τ).loc Cert.DenseFwd.main_arg1))
      ∧ r.2.sem = fun _ => 0)

def quiescent_DenseFwdIdeal [hDenseFwdIdeal : Cert.DenseFwdIdeal.Facts] : Prop :=
  ∀ (m : (ℓ : Loc Cert.DenseFwdIdeal.nD Cert.DenseFwdIdeal.τ Cert.DenseFwdIdeal.sig) → Buf (Elt Ideal) ℓ) (g : Dev Cert.DenseFwdIdeal.nD → PrngReg), Pre_DenseFwdIdeal m →
    θ_run (Cert.DenseFwdIdeal.defs (F := Ideal)) (onTc (τ := Cert.DenseFwdIdeal.τ) (Cert.DenseFwdIdeal.main (F := Ideal))) ⟨m, fun _ => 0, g⟩ (fun r => (∀ c : Dev Cert.DenseFwdIdeal.nD,
      r.2.mem ((c.tc : Thread Cert.DenseFwdIdeal.nD Cert.DenseFwdIdeal.τ).loc Cert.DenseFwdIdeal.main_arg0) = m ((c.tc : Thread Cert.DenseFwdIdeal.nD Cert.DenseFwdIdeal.τ).loc Cert.DenseFwdIdeal.main_arg0)
      ∧ r.2.mem ((c.tc : Thread Cert.DenseFwdIdeal.nD Cert.DenseFwdIdeal.τ).loc Cert.DenseFwdIdeal.main_arg1) = m ((c.tc : Thread Cert.DenseFwdIdeal.nD Cert.DenseFwdIdeal.τ).loc Cert.DenseFwdIdeal.main_arg1))
      ∧ r.2.sem = fun _ => 0)

def quiescent_DenseFwdRefIdeal [hDenseFwdRefIdeal : Cert.DenseFwdRefIdeal.Facts] : Prop :=
  ∀ (m : (ℓ : Loc Cert.DenseFwdRefIdeal.nD Cert.DenseFwdRefIdeal.τ Cert.DenseFwdRefIdeal.sig) → Buf (Elt Ideal) ℓ) (g : Dev Cert.DenseFwdRefIdeal.nD → PrngReg), Pre_DenseFwdRefIdeal m →
    θ_run (Cert.DenseFwdRefIdeal.defs (F := Ideal)) (onTc (τ := Cert.DenseFwdRefIdeal.τ) (Cert.DenseFwdRefIdeal.main (F := Ideal))) ⟨m, fun _ => 0, g⟩ (fun r => (∀ c : Dev Cert.DenseFwdRefIdeal.nD,
      r.2.mem ((c.tc : Thread Cert.DenseFwdRefIdeal.nD Cert.DenseFwdRefIdeal.τ).loc Cert.DenseFwdRefIdeal.main_arg0) = m ((c.tc : Thread Cert.DenseFwdRefIdeal.nD Cert.DenseFwdRefIdeal.τ).loc Cert.DenseFwdRefIdeal.main_arg0)
      ∧ r.2.mem ((c.tc : Thread Cert.DenseFwdRefIdeal.nD Cert.DenseFwdRefIdeal.τ).loc Cert.DenseFwdRefIdeal.main_arg1) = m ((c.tc : Thread Cert.DenseFwdRefIdeal.nD Cert.DenseFwdRefIdeal.τ).loc Cert.DenseFwdRefIdeal.main_arg1))
      ∧ r.2.sem = fun _ => 0)

def quiescent_DenseBwdX [hDenseBwdX : Cert.DenseBwdX.Facts] : Prop :=
  ∀ (m : (ℓ : Loc Cert.DenseBwdX.nD Cert.DenseBwdX.τ Cert.DenseBwdX.sig) → Buf (Elt Bits) ℓ) (g : Dev Cert.DenseBwdX.nD → PrngReg), Pre_DenseBwdX m →
    θ_run (Cert.DenseBwdX.defs (F := Bits)) (onTc (τ := Cert.DenseBwdX.τ) (Cert.DenseBwdX.main (F := Bits))) ⟨m, fun _ => 0, g⟩ (fun r => (∀ c : Dev Cert.DenseBwdX.nD,
      r.2.mem ((c.tc : Thread Cert.DenseBwdX.nD Cert.DenseBwdX.τ).loc Cert.DenseBwdX.main_arg0) = m ((c.tc : Thread Cert.DenseBwdX.nD Cert.DenseBwdX.τ).loc Cert.DenseBwdX.main_arg0)
      ∧ r.2.mem ((c.tc : Thread Cert.DenseBwdX.nD Cert.DenseBwdX.τ).loc Cert.DenseBwdX.main_arg1) = m ((c.tc : Thread Cert.DenseBwdX.nD Cert.DenseBwdX.τ).loc Cert.DenseBwdX.main_arg1))
      ∧ r.2.sem = fun _ => 0)

def quiescent_DenseBwdXIdeal [hDenseBwdXIdeal : Cert.DenseBwdXIdeal.Facts] : Prop :=
  ∀ (m : (ℓ : Loc Cert.DenseBwdXIdeal.nD Cert.DenseBwdXIdeal.τ Cert.DenseBwdXIdeal.sig) → Buf (Elt Ideal) ℓ) (g : Dev Cert.DenseBwdXIdeal.nD → PrngReg), Pre_DenseBwdXIdeal m →
    θ_run (Cert.DenseBwdXIdeal.defs (F := Ideal)) (onTc (τ := Cert.DenseBwdXIdeal.τ) (Cert.DenseBwdXIdeal.main (F := Ideal))) ⟨m, fun _ => 0, g⟩ (fun r => (∀ c : Dev Cert.DenseBwdXIdeal.nD,
      r.2.mem ((c.tc : Thread Cert.DenseBwdXIdeal.nD Cert.DenseBwdXIdeal.τ).loc Cert.DenseBwdXIdeal.main_arg0) = m ((c.tc : Thread Cert.DenseBwdXIdeal.nD Cert.DenseBwdXIdeal.τ).loc Cert.DenseBwdXIdeal.main_arg0)
      ∧ r.2.mem ((c.tc : Thread Cert.DenseBwdXIdeal.nD Cert.DenseBwdXIdeal.τ).loc Cert.DenseBwdXIdeal.main_arg1) = m ((c.tc : Thread Cert.DenseBwdXIdeal.nD Cert.DenseBwdXIdeal.τ).loc Cert.DenseBwdXIdeal.main_arg1))
      ∧ r.2.sem = fun _ => 0)

def quiescent_DenseBwdXRefIdeal [hDenseBwdXRefIdeal : Cert.DenseBwdXRefIdeal.Facts] : Prop :=
  ∀ (m : (ℓ : Loc Cert.DenseBwdXRefIdeal.nD Cert.DenseBwdXRefIdeal.τ Cert.DenseBwdXRefIdeal.sig) → Buf (Elt Ideal) ℓ) (g : Dev Cert.DenseBwdXRefIdeal.nD → PrngReg), Pre_DenseBwdXRefIdeal m →
    θ_run (Cert.DenseBwdXRefIdeal.defs (F := Ideal)) (onTc (τ := Cert.DenseBwdXRefIdeal.τ) (Cert.DenseBwdXRefIdeal.main (F := Ideal))) ⟨m, fun _ => 0, g⟩ (fun r => (∀ c : Dev Cert.DenseBwdXRefIdeal.nD,
      r.2.mem ((c.tc : Thread Cert.DenseBwdXRefIdeal.nD Cert.DenseBwdXRefIdeal.τ).loc Cert.DenseBwdXRefIdeal.main_arg0) = m ((c.tc : Thread Cert.DenseBwdXRefIdeal.nD Cert.DenseBwdXRefIdeal.τ).loc Cert.DenseBwdXRefIdeal.main_arg0)
      ∧ r.2.mem ((c.tc : Thread Cert.DenseBwdXRefIdeal.nD Cert.DenseBwdXRefIdeal.τ).loc Cert.DenseBwdXRefIdeal.main_arg1) = m ((c.tc : Thread Cert.DenseBwdXRefIdeal.nD Cert.DenseBwdXRefIdeal.τ).loc Cert.DenseBwdXRefIdeal.main_arg1))
      ∧ r.2.sem = fun _ => 0)

def quiescent_DenseBwdW [hDenseBwdW : Cert.DenseBwdW.Facts] : Prop :=
  ∀ (m : (ℓ : Loc Cert.DenseBwdW.nD Cert.DenseBwdW.τ Cert.DenseBwdW.sig) → Buf (Elt Bits) ℓ) (g : Dev Cert.DenseBwdW.nD → PrngReg), Pre_DenseBwdW m →
    θ_run (Cert.DenseBwdW.defs (F := Bits)) (onTc (τ := Cert.DenseBwdW.τ) (Cert.DenseBwdW.main (F := Bits))) ⟨m, fun _ => 0, g⟩ (fun r => (∀ c : Dev Cert.DenseBwdW.nD,
      r.2.mem ((c.tc : Thread Cert.DenseBwdW.nD Cert.DenseBwdW.τ).loc Cert.DenseBwdW.main_arg0) = m ((c.tc : Thread Cert.DenseBwdW.nD Cert.DenseBwdW.τ).loc Cert.DenseBwdW.main_arg0)
      ∧ r.2.mem ((c.tc : Thread Cert.DenseBwdW.nD Cert.DenseBwdW.τ).loc Cert.DenseBwdW.main_arg1) = m ((c.tc : Thread Cert.DenseBwdW.nD Cert.DenseBwdW.τ).loc Cert.DenseBwdW.main_arg1))
      ∧ r.2.sem = fun _ => 0)

def quiescent_DenseBwdWIdeal [hDenseBwdWIdeal : Cert.DenseBwdWIdeal.Facts] : Prop :=
  ∀ (m : (ℓ : Loc Cert.DenseBwdWIdeal.nD Cert.DenseBwdWIdeal.τ Cert.DenseBwdWIdeal.sig) → Buf (Elt Ideal) ℓ) (g : Dev Cert.DenseBwdWIdeal.nD → PrngReg), Pre_DenseBwdWIdeal m →
    θ_run (Cert.DenseBwdWIdeal.defs (F := Ideal)) (onTc (τ := Cert.DenseBwdWIdeal.τ) (Cert.DenseBwdWIdeal.main (F := Ideal))) ⟨m, fun _ => 0, g⟩ (fun r => (∀ c : Dev Cert.DenseBwdWIdeal.nD,
      r.2.mem ((c.tc : Thread Cert.DenseBwdWIdeal.nD Cert.DenseBwdWIdeal.τ).loc Cert.DenseBwdWIdeal.main_arg0) = m ((c.tc : Thread Cert.DenseBwdWIdeal.nD Cert.DenseBwdWIdeal.τ).loc Cert.DenseBwdWIdeal.main_arg0)
      ∧ r.2.mem ((c.tc : Thread Cert.DenseBwdWIdeal.nD Cert.DenseBwdWIdeal.τ).loc Cert.DenseBwdWIdeal.main_arg1) = m ((c.tc : Thread Cert.DenseBwdWIdeal.nD Cert.DenseBwdWIdeal.τ).loc Cert.DenseBwdWIdeal.main_arg1))
      ∧ r.2.sem = fun _ => 0)

def quiescent_DenseBwdWRefIdeal [hDenseBwdWRefIdeal : Cert.DenseBwdWRefIdeal.Facts] : Prop :=
  ∀ (m : (ℓ : Loc Cert.DenseBwdWRefIdeal.nD Cert.DenseBwdWRefIdeal.τ Cert.DenseBwdWRefIdeal.sig) → Buf (Elt Ideal) ℓ) (g : Dev Cert.DenseBwdWRefIdeal.nD → PrngReg), Pre_DenseBwdWRefIdeal m →
    θ_run (Cert.DenseBwdWRefIdeal.defs (F := Ideal)) (onTc (τ := Cert.DenseBwdWRefIdeal.τ) (Cert.DenseBwdWRefIdeal.main (F := Ideal))) ⟨m, fun _ => 0, g⟩ (fun r => (∀ c : Dev Cert.DenseBwdWRefIdeal.nD,
      r.2.mem ((c.tc : Thread Cert.DenseBwdWRefIdeal.nD Cert.DenseBwdWRefIdeal.τ).loc Cert.DenseBwdWRefIdeal.main_arg0) = m ((c.tc : Thread Cert.DenseBwdWRefIdeal.nD Cert.DenseBwdWRefIdeal.τ).loc Cert.DenseBwdWRefIdeal.main_arg0)
      ∧ r.2.mem ((c.tc : Thread Cert.DenseBwdWRefIdeal.nD Cert.DenseBwdWRefIdeal.τ).loc Cert.DenseBwdWRefIdeal.main_arg1) = m ((c.tc : Thread Cert.DenseBwdWRefIdeal.nD Cert.DenseBwdWRefIdeal.τ).loc Cert.DenseBwdWRefIdeal.main_arg1))
      ∧ r.2.sem = fun _ => 0)

def quiescent_FfnBwdX [hFfnBwdX : Cert.FfnBwdX.Facts] : Prop :=
  ∀ (m : (ℓ : Loc Cert.FfnBwdX.nD Cert.FfnBwdX.τ Cert.FfnBwdX.sig) → Buf (Elt Bits) ℓ) (g : Dev Cert.FfnBwdX.nD → PrngReg), Pre_FfnBwdX m →
    θ_run (Cert.FfnBwdX.defs (F := Bits)) (onTc (τ := Cert.FfnBwdX.τ) (Cert.FfnBwdX.main (F := Bits))) ⟨m, fun _ => 0, g⟩ (fun r => (∀ c : Dev Cert.FfnBwdX.nD,
      r.2.mem ((c.tc : Thread Cert.FfnBwdX.nD Cert.FfnBwdX.τ).loc Cert.FfnBwdX.main_arg0) = m ((c.tc : Thread Cert.FfnBwdX.nD Cert.FfnBwdX.τ).loc Cert.FfnBwdX.main_arg0)
      ∧ r.2.mem ((c.tc : Thread Cert.FfnBwdX.nD Cert.FfnBwdX.τ).loc Cert.FfnBwdX.main_arg1) = m ((c.tc : Thread Cert.FfnBwdX.nD Cert.FfnBwdX.τ).loc Cert.FfnBwdX.main_arg1)
      ∧ r.2.mem ((c.tc : Thread Cert.FfnBwdX.nD Cert.FfnBwdX.τ).loc Cert.FfnBwdX.main_arg2) = m ((c.tc : Thread Cert.FfnBwdX.nD Cert.FfnBwdX.τ).loc Cert.FfnBwdX.main_arg2)
      ∧ r.2.mem ((c.tc : Thread Cert.FfnBwdX.nD Cert.FfnBwdX.τ).loc Cert.FfnBwdX.main_arg3) = m ((c.tc : Thread Cert.FfnBwdX.nD Cert.FfnBwdX.τ).loc Cert.FfnBwdX.main_arg3))
      ∧ r.2.sem = fun _ => 0)

def quiescent_FfnBwdXIdeal [hFfnBwdXIdeal : Cert.FfnBwdXIdeal.Facts] : Prop :=
  ∀ (m : (ℓ : Loc Cert.FfnBwdXIdeal.nD Cert.FfnBwdXIdeal.τ Cert.FfnBwdXIdeal.sig) → Buf (Elt Ideal) ℓ) (g : Dev Cert.FfnBwdXIdeal.nD → PrngReg), Pre_FfnBwdXIdeal m →
    θ_run (Cert.FfnBwdXIdeal.defs (F := Ideal)) (onTc (τ := Cert.FfnBwdXIdeal.τ) (Cert.FfnBwdXIdeal.main (F := Ideal))) ⟨m, fun _ => 0, g⟩ (fun r => (∀ c : Dev Cert.FfnBwdXIdeal.nD,
      r.2.mem ((c.tc : Thread Cert.FfnBwdXIdeal.nD Cert.FfnBwdXIdeal.τ).loc Cert.FfnBwdXIdeal.main_arg0) = m ((c.tc : Thread Cert.FfnBwdXIdeal.nD Cert.FfnBwdXIdeal.τ).loc Cert.FfnBwdXIdeal.main_arg0)
      ∧ r.2.mem ((c.tc : Thread Cert.FfnBwdXIdeal.nD Cert.FfnBwdXIdeal.τ).loc Cert.FfnBwdXIdeal.main_arg1) = m ((c.tc : Thread Cert.FfnBwdXIdeal.nD Cert.FfnBwdXIdeal.τ).loc Cert.FfnBwdXIdeal.main_arg1)
      ∧ r.2.mem ((c.tc : Thread Cert.FfnBwdXIdeal.nD Cert.FfnBwdXIdeal.τ).loc Cert.FfnBwdXIdeal.main_arg2) = m ((c.tc : Thread Cert.FfnBwdXIdeal.nD Cert.FfnBwdXIdeal.τ).loc Cert.FfnBwdXIdeal.main_arg2)
      ∧ r.2.mem ((c.tc : Thread Cert.FfnBwdXIdeal.nD Cert.FfnBwdXIdeal.τ).loc Cert.FfnBwdXIdeal.main_arg3) = m ((c.tc : Thread Cert.FfnBwdXIdeal.nD Cert.FfnBwdXIdeal.τ).loc Cert.FfnBwdXIdeal.main_arg3))
      ∧ r.2.sem = fun _ => 0)

def quiescent_FfnBwdXRefIdeal [hFfnBwdXRefIdeal : Cert.FfnBwdXRefIdeal.Facts] : Prop :=
  ∀ (m : (ℓ : Loc Cert.FfnBwdXRefIdeal.nD Cert.FfnBwdXRefIdeal.τ Cert.FfnBwdXRefIdeal.sig) → Buf (Elt Ideal) ℓ) (g : Dev Cert.FfnBwdXRefIdeal.nD → PrngReg), Pre_FfnBwdXRefIdeal m →
    θ_run (Cert.FfnBwdXRefIdeal.defs (F := Ideal)) (onTc (τ := Cert.FfnBwdXRefIdeal.τ) (Cert.FfnBwdXRefIdeal.main (F := Ideal))) ⟨m, fun _ => 0, g⟩ (fun r => (∀ c : Dev Cert.FfnBwdXRefIdeal.nD,
      r.2.mem ((c.tc : Thread Cert.FfnBwdXRefIdeal.nD Cert.FfnBwdXRefIdeal.τ).loc Cert.FfnBwdXRefIdeal.main_arg0) = m ((c.tc : Thread Cert.FfnBwdXRefIdeal.nD Cert.FfnBwdXRefIdeal.τ).loc Cert.FfnBwdXRefIdeal.main_arg0)
      ∧ r.2.mem ((c.tc : Thread Cert.FfnBwdXRefIdeal.nD Cert.FfnBwdXRefIdeal.τ).loc Cert.FfnBwdXRefIdeal.main_arg1) = m ((c.tc : Thread Cert.FfnBwdXRefIdeal.nD Cert.FfnBwdXRefIdeal.τ).loc Cert.FfnBwdXRefIdeal.main_arg1)
      ∧ r.2.mem ((c.tc : Thread Cert.FfnBwdXRefIdeal.nD Cert.FfnBwdXRefIdeal.τ).loc Cert.FfnBwdXRefIdeal.main_arg2) = m ((c.tc : Thread Cert.FfnBwdXRefIdeal.nD Cert.FfnBwdXRefIdeal.τ).loc Cert.FfnBwdXRefIdeal.main_arg2)
      ∧ r.2.mem ((c.tc : Thread Cert.FfnBwdXRefIdeal.nD Cert.FfnBwdXRefIdeal.τ).loc Cert.FfnBwdXRefIdeal.main_arg3) = m ((c.tc : Thread Cert.FfnBwdXRefIdeal.nD Cert.FfnBwdXRefIdeal.τ).loc Cert.FfnBwdXRefIdeal.main_arg3))
      ∧ r.2.sem = fun _ => 0)

def quiescent_FfnBwdWgu [hFfnBwdWgu : Cert.FfnBwdWgu.Facts] : Prop :=
  ∀ (m : (ℓ : Loc Cert.FfnBwdWgu.nD Cert.FfnBwdWgu.τ Cert.FfnBwdWgu.sig) → Buf (Elt Bits) ℓ) (g : Dev Cert.FfnBwdWgu.nD → PrngReg), Pre_FfnBwdWgu m →
    θ_run (Cert.FfnBwdWgu.defs (F := Bits)) (onTc (τ := Cert.FfnBwdWgu.τ) (Cert.FfnBwdWgu.main (F := Bits))) ⟨m, fun _ => 0, g⟩ (fun r => (∀ c : Dev Cert.FfnBwdWgu.nD,
      r.2.mem ((c.tc : Thread Cert.FfnBwdWgu.nD Cert.FfnBwdWgu.τ).loc Cert.FfnBwdWgu.main_arg0) = m ((c.tc : Thread Cert.FfnBwdWgu.nD Cert.FfnBwdWgu.τ).loc Cert.FfnBwdWgu.main_arg0)
      ∧ r.2.mem ((c.tc : Thread Cert.FfnBwdWgu.nD Cert.FfnBwdWgu.τ).loc Cert.FfnBwdWgu.main_arg1) = m ((c.tc : Thread Cert.FfnBwdWgu.nD Cert.FfnBwdWgu.τ).loc Cert.FfnBwdWgu.main_arg1)
      ∧ r.2.mem ((c.tc : Thread Cert.FfnBwdWgu.nD Cert.FfnBwdWgu.τ).loc Cert.FfnBwdWgu.main_arg2) = m ((c.tc : Thread Cert.FfnBwdWgu.nD Cert.FfnBwdWgu.τ).loc Cert.FfnBwdWgu.main_arg2))
      ∧ r.2.sem = fun _ => 0)

def quiescent_FfnBwdWguIdeal [hFfnBwdWguIdeal : Cert.FfnBwdWguIdeal.Facts] : Prop :=
  ∀ (m : (ℓ : Loc Cert.FfnBwdWguIdeal.nD Cert.FfnBwdWguIdeal.τ Cert.FfnBwdWguIdeal.sig) → Buf (Elt Ideal) ℓ) (g : Dev Cert.FfnBwdWguIdeal.nD → PrngReg), Pre_FfnBwdWguIdeal m →
    θ_run (Cert.FfnBwdWguIdeal.defs (F := Ideal)) (onTc (τ := Cert.FfnBwdWguIdeal.τ) (Cert.FfnBwdWguIdeal.main (F := Ideal))) ⟨m, fun _ => 0, g⟩ (fun r => (∀ c : Dev Cert.FfnBwdWguIdeal.nD,
      r.2.mem ((c.tc : Thread Cert.FfnBwdWguIdeal.nD Cert.FfnBwdWguIdeal.τ).loc Cert.FfnBwdWguIdeal.main_arg0) = m ((c.tc : Thread Cert.FfnBwdWguIdeal.nD Cert.FfnBwdWguIdeal.τ).loc Cert.FfnBwdWguIdeal.main_arg0)
      ∧ r.2.mem ((c.tc : Thread Cert.FfnBwdWguIdeal.nD Cert.FfnBwdWguIdeal.τ).loc Cert.FfnBwdWguIdeal.main_arg1) = m ((c.tc : Thread Cert.FfnBwdWguIdeal.nD Cert.FfnBwdWguIdeal.τ).loc Cert.FfnBwdWguIdeal.main_arg1)
      ∧ r.2.mem ((c.tc : Thread Cert.FfnBwdWguIdeal.nD Cert.FfnBwdWguIdeal.τ).loc Cert.FfnBwdWguIdeal.main_arg2) = m ((c.tc : Thread Cert.FfnBwdWguIdeal.nD Cert.FfnBwdWguIdeal.τ).loc Cert.FfnBwdWguIdeal.main_arg2))
      ∧ r.2.sem = fun _ => 0)

def quiescent_FfnBwdWguRefIdeal [hFfnBwdWguRefIdeal : Cert.FfnBwdWguRefIdeal.Facts] : Prop :=
  ∀ (m : (ℓ : Loc Cert.FfnBwdWguRefIdeal.nD Cert.FfnBwdWguRefIdeal.τ Cert.FfnBwdWguRefIdeal.sig) → Buf (Elt Ideal) ℓ) (g : Dev Cert.FfnBwdWguRefIdeal.nD → PrngReg), Pre_FfnBwdWguRefIdeal m →
    θ_run (Cert.FfnBwdWguRefIdeal.defs (F := Ideal)) (onTc (τ := Cert.FfnBwdWguRefIdeal.τ) (Cert.FfnBwdWguRefIdeal.main (F := Ideal))) ⟨m, fun _ => 0, g⟩ (fun r => (∀ c : Dev Cert.FfnBwdWguRefIdeal.nD,
      r.2.mem ((c.tc : Thread Cert.FfnBwdWguRefIdeal.nD Cert.FfnBwdWguRefIdeal.τ).loc Cert.FfnBwdWguRefIdeal.main_arg0) = m ((c.tc : Thread Cert.FfnBwdWguRefIdeal.nD Cert.FfnBwdWguRefIdeal.τ).loc Cert.FfnBwdWguRefIdeal.main_arg0)
      ∧ r.2.mem ((c.tc : Thread Cert.FfnBwdWguRefIdeal.nD Cert.FfnBwdWguRefIdeal.τ).loc Cert.FfnBwdWguRefIdeal.main_arg1) = m ((c.tc : Thread Cert.FfnBwdWguRefIdeal.nD Cert.FfnBwdWguRefIdeal.τ).loc Cert.FfnBwdWguRefIdeal.main_arg1)
      ∧ r.2.mem ((c.tc : Thread Cert.FfnBwdWguRefIdeal.nD Cert.FfnBwdWguRefIdeal.τ).loc Cert.FfnBwdWguRefIdeal.main_arg2) = m ((c.tc : Thread Cert.FfnBwdWguRefIdeal.nD Cert.FfnBwdWguRefIdeal.τ).loc Cert.FfnBwdWguRefIdeal.main_arg2))
      ∧ r.2.sem = fun _ => 0)

def quiescent_FfnBwdWd [hFfnBwdWd : Cert.FfnBwdWd.Facts] : Prop :=
  ∀ (m : (ℓ : Loc Cert.FfnBwdWd.nD Cert.FfnBwdWd.τ Cert.FfnBwdWd.sig) → Buf (Elt Bits) ℓ) (g : Dev Cert.FfnBwdWd.nD → PrngReg), Pre_FfnBwdWd m →
    θ_run (Cert.FfnBwdWd.defs (F := Bits)) (onTc (τ := Cert.FfnBwdWd.τ) (Cert.FfnBwdWd.main (F := Bits))) ⟨m, fun _ => 0, g⟩ (fun r => (∀ c : Dev Cert.FfnBwdWd.nD,
      r.2.mem ((c.tc : Thread Cert.FfnBwdWd.nD Cert.FfnBwdWd.τ).loc Cert.FfnBwdWd.main_arg0) = m ((c.tc : Thread Cert.FfnBwdWd.nD Cert.FfnBwdWd.τ).loc Cert.FfnBwdWd.main_arg0)
      ∧ r.2.mem ((c.tc : Thread Cert.FfnBwdWd.nD Cert.FfnBwdWd.τ).loc Cert.FfnBwdWd.main_arg1) = m ((c.tc : Thread Cert.FfnBwdWd.nD Cert.FfnBwdWd.τ).loc Cert.FfnBwdWd.main_arg1))
      ∧ r.2.sem = fun _ => 0)

def quiescent_FfnBwdWdIdeal [hFfnBwdWdIdeal : Cert.FfnBwdWdIdeal.Facts] : Prop :=
  ∀ (m : (ℓ : Loc Cert.FfnBwdWdIdeal.nD Cert.FfnBwdWdIdeal.τ Cert.FfnBwdWdIdeal.sig) → Buf (Elt Ideal) ℓ) (g : Dev Cert.FfnBwdWdIdeal.nD → PrngReg), Pre_FfnBwdWdIdeal m →
    θ_run (Cert.FfnBwdWdIdeal.defs (F := Ideal)) (onTc (τ := Cert.FfnBwdWdIdeal.τ) (Cert.FfnBwdWdIdeal.main (F := Ideal))) ⟨m, fun _ => 0, g⟩ (fun r => (∀ c : Dev Cert.FfnBwdWdIdeal.nD,
      r.2.mem ((c.tc : Thread Cert.FfnBwdWdIdeal.nD Cert.FfnBwdWdIdeal.τ).loc Cert.FfnBwdWdIdeal.main_arg0) = m ((c.tc : Thread Cert.FfnBwdWdIdeal.nD Cert.FfnBwdWdIdeal.τ).loc Cert.FfnBwdWdIdeal.main_arg0)
      ∧ r.2.mem ((c.tc : Thread Cert.FfnBwdWdIdeal.nD Cert.FfnBwdWdIdeal.τ).loc Cert.FfnBwdWdIdeal.main_arg1) = m ((c.tc : Thread Cert.FfnBwdWdIdeal.nD Cert.FfnBwdWdIdeal.τ).loc Cert.FfnBwdWdIdeal.main_arg1))
      ∧ r.2.sem = fun _ => 0)

def quiescent_FfnBwdWdRefIdeal [hFfnBwdWdRefIdeal : Cert.FfnBwdWdRefIdeal.Facts] : Prop :=
  ∀ (m : (ℓ : Loc Cert.FfnBwdWdRefIdeal.nD Cert.FfnBwdWdRefIdeal.τ Cert.FfnBwdWdRefIdeal.sig) → Buf (Elt Ideal) ℓ) (g : Dev Cert.FfnBwdWdRefIdeal.nD → PrngReg), Pre_FfnBwdWdRefIdeal m →
    θ_run (Cert.FfnBwdWdRefIdeal.defs (F := Ideal)) (onTc (τ := Cert.FfnBwdWdRefIdeal.τ) (Cert.FfnBwdWdRefIdeal.main (F := Ideal))) ⟨m, fun _ => 0, g⟩ (fun r => (∀ c : Dev Cert.FfnBwdWdRefIdeal.nD,
      r.2.mem ((c.tc : Thread Cert.FfnBwdWdRefIdeal.nD Cert.FfnBwdWdRefIdeal.τ).loc Cert.FfnBwdWdRefIdeal.main_arg0) = m ((c.tc : Thread Cert.FfnBwdWdRefIdeal.nD Cert.FfnBwdWdRefIdeal.τ).loc Cert.FfnBwdWdRefIdeal.main_arg0)
      ∧ r.2.mem ((c.tc : Thread Cert.FfnBwdWdRefIdeal.nD Cert.FfnBwdWdRefIdeal.τ).loc Cert.FfnBwdWdRefIdeal.main_arg1) = m ((c.tc : Thread Cert.FfnBwdWdRefIdeal.nD Cert.FfnBwdWdRefIdeal.τ).loc Cert.FfnBwdWdRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_ModGrad [hModGrad : Cert.ModGrad.Facts] : Prop :=
  ∀ (m : (ℓ : Loc Cert.ModGrad.nD Cert.ModGrad.τ Cert.ModGrad.sig) → Buf (Elt Bits) ℓ) (g : Dev Cert.ModGrad.nD → PrngReg), Pre_ModGrad m →
    θ_run (Cert.ModGrad.defs (F := Bits)) (onTc (τ := Cert.ModGrad.τ) (Cert.ModGrad.main (F := Bits))) ⟨m, fun _ => 0, g⟩ (fun r => (∀ c : Dev Cert.ModGrad.nD,
      r.2.mem ((c.tc : Thread Cert.ModGrad.nD Cert.ModGrad.τ).loc Cert.ModGrad.main_arg0) = m ((c.tc : Thread Cert.ModGrad.nD Cert.ModGrad.τ).loc Cert.ModGrad.main_arg0)
      ∧ r.2.mem ((c.tc : Thread Cert.ModGrad.nD Cert.ModGrad.τ).loc Cert.ModGrad.main_arg1) = m ((c.tc : Thread Cert.ModGrad.nD Cert.ModGrad.τ).loc Cert.ModGrad.main_arg1)
      ∧ r.2.mem ((c.tc : Thread Cert.ModGrad.nD Cert.ModGrad.τ).loc Cert.ModGrad.main_arg2) = m ((c.tc : Thread Cert.ModGrad.nD Cert.ModGrad.τ).loc Cert.ModGrad.main_arg2)
      ∧ r.2.mem ((c.tc : Thread Cert.ModGrad.nD Cert.ModGrad.τ).loc Cert.ModGrad.main_arg3) = m ((c.tc : Thread Cert.ModGrad.nD Cert.ModGrad.τ).loc Cert.ModGrad.main_arg3)
      ∧ r.2.mem ((c.tc : Thread Cert.ModGrad.nD Cert.ModGrad.τ).loc Cert.ModGrad.main_arg4) = m ((c.tc : Thread Cert.ModGrad.nD Cert.ModGrad.τ).loc Cert.ModGrad.main_arg4))
      ∧ r.2.sem = fun _ => 0)

def quiescent_ModGradIdeal [hModGradIdeal : Cert.ModGradIdeal.Facts] : Prop :=
  ∀ (m : (ℓ : Loc Cert.ModGradIdeal.nD Cert.ModGradIdeal.τ Cert.ModGradIdeal.sig) → Buf (Elt Ideal) ℓ) (g : Dev Cert.ModGradIdeal.nD → PrngReg), Pre_ModGradIdeal m →
    θ_run (Cert.ModGradIdeal.defs (F := Ideal)) (onTc (τ := Cert.ModGradIdeal.τ) (Cert.ModGradIdeal.main (F := Ideal))) ⟨m, fun _ => 0, g⟩ (fun r => (∀ c : Dev Cert.ModGradIdeal.nD,
      r.2.mem ((c.tc : Thread Cert.ModGradIdeal.nD Cert.ModGradIdeal.τ).loc Cert.ModGradIdeal.main_arg0) = m ((c.tc : Thread Cert.ModGradIdeal.nD Cert.ModGradIdeal.τ).loc Cert.ModGradIdeal.main_arg0)
      ∧ r.2.mem ((c.tc : Thread Cert.ModGradIdeal.nD Cert.ModGradIdeal.τ).loc Cert.ModGradIdeal.main_arg1) = m ((c.tc : Thread Cert.ModGradIdeal.nD Cert.ModGradIdeal.τ).loc Cert.ModGradIdeal.main_arg1)
      ∧ r.2.mem ((c.tc : Thread Cert.ModGradIdeal.nD Cert.ModGradIdeal.τ).loc Cert.ModGradIdeal.main_arg2) = m ((c.tc : Thread Cert.ModGradIdeal.nD Cert.ModGradIdeal.τ).loc Cert.ModGradIdeal.main_arg2)
      ∧ r.2.mem ((c.tc : Thread Cert.ModGradIdeal.nD Cert.ModGradIdeal.τ).loc Cert.ModGradIdeal.main_arg3) = m ((c.tc : Thread Cert.ModGradIdeal.nD Cert.ModGradIdeal.τ).loc Cert.ModGradIdeal.main_arg3)
      ∧ r.2.mem ((c.tc : Thread Cert.ModGradIdeal.nD Cert.ModGradIdeal.τ).loc Cert.ModGradIdeal.main_arg4) = m ((c.tc : Thread Cert.ModGradIdeal.nD Cert.ModGradIdeal.τ).loc Cert.ModGradIdeal.main_arg4))
      ∧ r.2.sem = fun _ => 0)

def quiescent_ModGradRefIdeal [hModGradRefIdeal : Cert.ModGradRefIdeal.Facts] : Prop :=
  ∀ (m : (ℓ : Loc Cert.ModGradRefIdeal.nD Cert.ModGradRefIdeal.τ Cert.ModGradRefIdeal.sig) → Buf (Elt Ideal) ℓ) (g : Dev Cert.ModGradRefIdeal.nD → PrngReg), Pre_ModGradRefIdeal m →
    θ_run (Cert.ModGradRefIdeal.defs (F := Ideal)) (onTc (τ := Cert.ModGradRefIdeal.τ) (Cert.ModGradRefIdeal.main (F := Ideal))) ⟨m, fun _ => 0, g⟩ (fun r => (∀ c : Dev Cert.ModGradRefIdeal.nD,
      r.2.mem ((c.tc : Thread Cert.ModGradRefIdeal.nD Cert.ModGradRefIdeal.τ).loc Cert.ModGradRefIdeal.main_arg0) = m ((c.tc : Thread Cert.ModGradRefIdeal.nD Cert.ModGradRefIdeal.τ).loc Cert.ModGradRefIdeal.main_arg0)
      ∧ r.2.mem ((c.tc : Thread Cert.ModGradRefIdeal.nD Cert.ModGradRefIdeal.τ).loc Cert.ModGradRefIdeal.main_arg1) = m ((c.tc : Thread Cert.ModGradRefIdeal.nD Cert.ModGradRefIdeal.τ).loc Cert.ModGradRefIdeal.main_arg1)
      ∧ r.2.mem ((c.tc : Thread Cert.ModGradRefIdeal.nD Cert.ModGradRefIdeal.τ).loc Cert.ModGradRefIdeal.main_arg2) = m ((c.tc : Thread Cert.ModGradRefIdeal.nD Cert.ModGradRefIdeal.τ).loc Cert.ModGradRefIdeal.main_arg2)
      ∧ r.2.mem ((c.tc : Thread Cert.ModGradRefIdeal.nD Cert.ModGradRefIdeal.τ).loc Cert.ModGradRefIdeal.main_arg3) = m ((c.tc : Thread Cert.ModGradRefIdeal.nD Cert.ModGradRefIdeal.τ).loc Cert.ModGradRefIdeal.main_arg3)
      ∧ r.2.mem ((c.tc : Thread Cert.ModGradRefIdeal.nD Cert.ModGradRefIdeal.τ).loc Cert.ModGradRefIdeal.main_arg4) = m ((c.tc : Thread Cert.ModGradRefIdeal.nD Cert.ModGradRefIdeal.τ).loc Cert.ModGradRefIdeal.main_arg4))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0))
      ∧ r.2.sem = fun _ => 0)

def quiescent_PairAdd [hPairAdd : Cert.PairAdd.Facts] [hPre_core_number : Cert.Pre_core_number.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1)
      ∧ r.2.mem ((c.tc : Thread Cert.PairAdd.nD Cert.PairAdd.τ).loc Cert.PairAdd.main_arg2) = m ((c.tc : Thread Cert.PairAdd.nD Cert.PairAdd.τ).loc Cert.PairAdd.main_arg2))
      ∧ r.2.sem = fun _ => 0)

def quiescent_PairAddIdeal [hPairAddIdeal : Cert.PairAddIdeal.Facts] [hPre_core_number : Cert.Pre_core_number.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
      ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ r.2.sem = fun _ => 0)

def quiescent_PairAddRefIdeal [hPairAddRefIdeal : Cert.PairAddRefIdeal.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def quiescent_PairAddRefIdeal_pre_core_number [hPairAddRefIdeal : Cert.PairAddRefIdeal.Facts] [hPre_core_number : Cert.Pre_core_number.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal_core_number m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_v6) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v60) = v0 c
          ∧ r.2.mem ((c.tc : Thread Cert.ConvRefIdeal.nD Cert.ConvRefIdeal.τ).loc Cert.ConvRefIdeal.main_v54) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v13) = v0 c
          ∧ r.2.mem ((c.tc : Thread Cert.FfnRefIdeal.nD Cert.FfnRefIdeal.τ).loc Cert.FfnRefIdeal.main_v21) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Window_WindowIdeal : Prop :=
  True

def algebraic_WindowIdeal_WindowRefIdeal_pre_window_finite [hWindowIdeal : Cert.WindowIdeal.Facts] [hWindowRefIdeal : Cert.WindowRefIdeal.Facts] [hPre_window_finite : Cert.Pre_window_finite.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_window_finite m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)) →
    ∃ (v0 : (c : Dev Cert.WindowIdeal.nD) → Buf (Elt Ideal) ((c.tc : Thread Cert.WindowIdeal.nD Cert.WindowIdeal.τ).loc Cert.WindowIdeal.main_v0)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v130) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v40_0)) (v1 : (c : Dev Cert.AttnIdeal.nD) → Buf (Elt Ideal) ((c.tc : Thread Cert.AttnIdeal.nD Cert.AttnIdeal.τ).loc Cert.AttnIdeal.main_v40_1)) (v2 : (c : Dev Cert.AttnIdeal.nD) → Buf (Elt Ideal) ((c.tc : Thread Cert.AttnIdeal.nD Cert.AttnIdeal.τ).loc Cert.AttnIdeal.main_v40_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v40_0) = v0 c
          ∧ r.2.mem ((c.tc : Thread Cert.AttnIdeal.nD Cert.AttnIdeal.τ).loc Cert.AttnIdeal.main_v40_1) = v1 c
          ∧ r.2.mem ((c.tc : Thread Cert.AttnIdeal.nD Cert.AttnIdeal.τ).loc Cert.AttnIdeal.main_v40_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v55) = v0 c
          ∧ r.2.mem ((c.tc : Thread Cert.AttnRefIdeal.nD Cert.AttnRefIdeal.τ).loc Cert.AttnRefIdeal.main_v56) = v1 c
          ∧ r.2.mem ((c.tc : Thread Cert.AttnRefIdeal.nD Cert.AttnRefIdeal.τ).loc Cert.AttnRefIdeal.main_v57) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v48) = v0 c
          ∧ r.2.mem ((c.tc : Thread Cert.NormRefIdeal.nD Cert.NormRefIdeal.τ).loc Cert.NormRefIdeal.main_v31) = v1 c
          ∧ r.2.mem ((c.tc : Thread Cert.NormRefIdeal.nD Cert.NormRefIdeal.τ).loc Cert.NormRefIdeal.main_v26) = v2 c
          ∧ r.2.mem ((c.tc : Thread Cert.NormRefIdeal.nD Cert.NormRefIdeal.τ).loc Cert.NormRefIdeal.main_v23) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v35) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v75_0)) (v1 : (c : Dev Cert.PoolIdeal.nD) → Buf (Elt Ideal) ((c.tc : Thread Cert.PoolIdeal.nD Cert.PoolIdeal.τ).loc Cert.PoolIdeal.main_v75_1)) (v2 : (c : Dev Cert.PoolIdeal.nD) → Buf (Elt Ideal) ((c.tc : Thread Cert.PoolIdeal.nD Cert.PoolIdeal.τ).loc Cert.PoolIdeal.main_v75_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v75_0) = v0 c
          ∧ r.2.mem ((c.tc : Thread Cert.PoolIdeal.nD Cert.PoolIdeal.τ).loc Cert.PoolIdeal.main_v75_1) = v1 c
          ∧ r.2.mem ((c.tc : Thread Cert.PoolIdeal.nD Cert.PoolIdeal.τ).loc Cert.PoolIdeal.main_v75_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v89) = v0 c
          ∧ r.2.mem ((c.tc : Thread Cert.PoolRefIdeal.nD Cert.PoolRefIdeal.τ).loc Cert.PoolRefIdeal.main_v88) = v1 c
          ∧ r.2.mem ((c.tc : Thread Cert.PoolRefIdeal.nD Cert.PoolRefIdeal.τ).loc Cert.PoolRefIdeal.main_v80) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_AttnFwd_AttnFwdIdeal : Prop :=
  IdealRules.named_const.Statement Cert.AttnFwdIdeal.κ "mask" .f32 0xF149F2CA#32 ⊥
  ∧ IdealRules.named_const.Statement Cert.AttnFwdIdeal.κ "live" .f32 0xC2D20000#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)) →
    ∃ (v0 : (c : Dev Cert.AttnFwdIdeal.nD) → Buf (Elt Ideal) ((c.tc : Thread Cert.AttnFwdIdeal.nD Cert.AttnFwdIdeal.τ).loc Cert.AttnFwdIdeal.main_v1_0)) (v1 : (c : Dev Cert.AttnFwdIdeal.nD) → Buf (Elt Ideal) ((c.tc : Thread Cert.AttnFwdIdeal.nD Cert.AttnFwdIdeal.τ).loc Cert.AttnFwdIdeal.main_v1_1)) (v2 : (c : Dev Cert.AttnFwdIdeal.nD) → Buf (Elt Ideal) ((c.tc : Thread Cert.AttnFwdIdeal.nD Cert.AttnFwdIdeal.τ).loc Cert.AttnFwdIdeal.main_v1_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v1_0) = v0 c
          ∧ r.2.mem ((c.tc : Thread Cert.AttnFwdIdeal.nD Cert.AttnFwdIdeal.τ).loc Cert.AttnFwdIdeal.main_v1_1) = v1 c
          ∧ r.2.mem ((c.tc : Thread Cert.AttnFwdIdeal.nD Cert.AttnFwdIdeal.τ).loc Cert.AttnFwdIdeal.main_v1_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v33) = v0 c
          ∧ r.2.mem ((c.tc : Thread Cert.AttnFwdRefIdeal.nD Cert.AttnFwdRefIdeal.τ).loc Cert.AttnFwdRefIdeal.main_v35) = v1 c
          ∧ r.2.mem ((c.tc : Thread Cert.AttnFwdRefIdeal.nD Cert.AttnFwdRefIdeal.τ).loc Cert.AttnFwdRefIdeal.main_v36) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0))

def preserves_Start_StartIdeal : Prop :=
  True

def algebraic_StartIdeal_StartRefIdeal [hStartIdeal : Cert.StartIdeal.Facts] [hStartRefIdeal : Cert.StartRefIdeal.Facts] : Prop :=
  ∀ (m : (ℓ : Loc Cert.StartIdeal.nD Cert.StartIdeal.τ Cert.StartIdeal.sig) → Buf (Elt Ideal) ℓ) (g : Dev Cert.StartIdeal.nD → PrngReg)
    (m' : (ℓ : Loc Cert.StartRefIdeal.nD Cert.StartRefIdeal.τ Cert.StartRefIdeal.sig) → Buf (Elt Ideal) ℓ) (g' : Dev Cert.StartRefIdeal.nD → PrngReg), Pre_StartIdeal m →
    (∀ c : Dev Cert.StartIdeal.nD,
      m' ((c.tc : Thread Cert.StartRefIdeal.nD Cert.StartRefIdeal.τ).loc Cert.StartRefIdeal.main_arg0) = m ((c.tc : Thread Cert.StartIdeal.nD Cert.StartIdeal.τ).loc Cert.StartIdeal.main_arg0)
      ∧ m' ((c.tc : Thread Cert.StartRefIdeal.nD Cert.StartRefIdeal.τ).loc Cert.StartRefIdeal.main_arg1) = m ((c.tc : Thread Cert.StartIdeal.nD Cert.StartIdeal.τ).loc Cert.StartIdeal.main_arg1)
      ∧ m' ((c.tc : Thread Cert.StartRefIdeal.nD Cert.StartRefIdeal.τ).loc Cert.StartRefIdeal.main_arg2) = m ((c.tc : Thread Cert.StartIdeal.nD Cert.StartIdeal.τ).loc Cert.StartIdeal.main_arg2)
      ∧ m' ((c.tc : Thread Cert.StartRefIdeal.nD Cert.StartRefIdeal.τ).loc Cert.StartRefIdeal.main_arg3) = m ((c.tc : Thread Cert.StartIdeal.nD Cert.StartIdeal.τ).loc Cert.StartIdeal.main_arg3)) →
    ∃ (v0 : (c : Dev Cert.StartIdeal.nD) → Buf (Elt Ideal) ((c.tc : Thread Cert.StartIdeal.nD Cert.StartIdeal.τ).loc Cert.StartIdeal.main_v0)),
      θ_run (Cert.StartIdeal.defs (F := Ideal)) (onTc (τ := Cert.StartIdeal.τ) (Cert.StartIdeal.main (F := Ideal))) ⟨m, fun _ => 0, g⟩ (fun r => ∀ c : Dev Cert.StartIdeal.nD,
          r.2.mem ((c.tc : Thread Cert.StartIdeal.nD Cert.StartIdeal.τ).loc Cert.StartIdeal.main_v0) = v0 c
          ∧ r.2.mem ((c.tc : Thread Cert.StartIdeal.nD Cert.StartIdeal.τ).loc Cert.StartIdeal.main_arg0) = m ((c.tc : Thread Cert.StartIdeal.nD Cert.StartIdeal.τ).loc Cert.StartIdeal.main_arg0)
          ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
          ∧ r.2.mem ((c.tc : Thread Cert.StartIdeal.nD Cert.StartIdeal.τ).loc Cert.StartIdeal.main_arg2) = m ((c.tc : Thread Cert.StartIdeal.nD Cert.StartIdeal.τ).loc Cert.StartIdeal.main_arg2)
          ∧ r.2.mem ((c.tc : Thread Cert.StartIdeal.nD Cert.StartIdeal.τ).loc Cert.StartIdeal.main_arg3) = m ((c.tc : Thread Cert.StartIdeal.nD Cert.StartIdeal.τ).loc Cert.StartIdeal.main_arg3))
      ∧ θ_run (Cert.StartRefIdeal.defs (F := Ideal)) (onTc (τ := Cert.StartRefIdeal.τ) (Cert.StartRefIdeal.main (F := Ideal))) ⟨m', fun _ => 0, g'⟩ (fun r => ∀ c : Dev Cert.StartRefIdeal.nD,
          r.2.mem ((c.tc : Thread Cert.StartRefIdeal.nD Cert.StartRefIdeal.τ).loc Cert.StartRefIdeal.main_v17) = v0 c
          ∧ r.2.mem ((c.tc : Thread Cert.StartRefIdeal.nD Cert.StartRefIdeal.τ).loc Cert.StartRefIdeal.main_arg0) = m' ((c.tc : Thread Cert.StartRefIdeal.nD Cert.StartRefIdeal.τ).loc Cert.StartRefIdeal.main_arg0)
          ∧ r.2.mem ((c.tc : Thread Cert.StartRefIdeal.nD Cert.StartRefIdeal.τ).loc Cert.StartRefIdeal.main_arg1) = m' ((c.tc : Thread Cert.StartRefIdeal.nD Cert.StartRefIdeal.τ).loc Cert.StartRefIdeal.main_arg1)
          ∧ r.2.mem ((c.tc : Thread Cert.StartRefIdeal.nD Cert.StartRefIdeal.τ).loc Cert.StartRefIdeal.main_arg2) = m' ((c.tc : Thread Cert.StartRefIdeal.nD Cert.StartRefIdeal.τ).loc Cert.StartRefIdeal.main_arg2)
          ∧ r.2.mem ((c.tc : Thread Cert.StartRefIdeal.nD Cert.StartRefIdeal.τ).loc Cert.StartRefIdeal.main_arg3) = m' ((c.tc : Thread Cert.StartRefIdeal.nD Cert.StartRefIdeal.τ).loc Cert.StartRefIdeal.main_arg3))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)
      ∧ m' ((c.tc : Thread Cert.ResidRefIdeal.nD Cert.ResidRefIdeal.τ).loc Cert.ResidRefIdeal.main_arg5) = m ((c.tc : Thread Cert.ResidIdeal.nD Cert.ResidIdeal.τ).loc Cert.ResidIdeal.main_arg5)) →
    ∃ (v0 : (c : Dev Cert.ResidIdeal.nD) → Buf (Elt Ideal) ((c.tc : Thread Cert.ResidIdeal.nD Cert.ResidIdeal.τ).loc Cert.ResidIdeal.main_v1_0)) (v1 : (c : Dev Cert.ResidIdeal.nD) → Buf (Elt Ideal) ((c.tc : Thread Cert.ResidIdeal.nD Cert.ResidIdeal.τ).loc Cert.ResidIdeal.main_v1_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1_0) = v0 c
          ∧ r.2.mem ((c.tc : Thread Cert.ResidIdeal.nD Cert.ResidIdeal.τ).loc Cert.ResidIdeal.main_v1_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
          ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v2) = v0 c
          ∧ r.2.mem ((c.tc : Thread Cert.ResidRefIdeal.nD Cert.ResidRefIdeal.τ).loc Cert.ResidRefIdeal.main_v21) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4)
          ∧ r.2.mem ((c.tc : Thread Cert.ResidRefIdeal.nD Cert.ResidRefIdeal.τ).loc Cert.ResidRefIdeal.main_arg5) = m' ((c.tc : Thread Cert.ResidRefIdeal.nD Cert.ResidRefIdeal.τ).loc Cert.ResidRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v24) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v1_0)) (v1 : (c : Dev Cert.PoolFwdIdeal.nD) → Buf (Elt Ideal) ((c.tc : Thread Cert.PoolFwdIdeal.nD Cert.PoolFwdIdeal.τ).loc Cert.PoolFwdIdeal.main_v1_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1_0) = v0 c
          ∧ r.2.mem ((c.tc : Thread Cert.PoolFwdIdeal.nD Cert.PoolFwdIdeal.τ).loc Cert.PoolFwdIdeal.main_v1_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v77) = v0 c
          ∧ r.2.mem ((c.tc : Thread Cert.PoolFwdRefIdeal.nD Cert.PoolFwdRefIdeal.τ).loc Cert.PoolFwdRefIdeal.main_v78) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v11_0)) (v1 : (c : Dev Cert.FfnFwdIdeal.nD) → Buf (Elt Ideal) ((c.tc : Thread Cert.FfnFwdIdeal.nD Cert.FfnFwdIdeal.τ).loc Cert.FfnFwdIdeal.main_v11_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v11_0) = v0 c
          ∧ r.2.mem ((c.tc : Thread Cert.FfnFwdIdeal.nD Cert.FfnFwdIdeal.τ).loc Cert.FfnFwdIdeal.main_v11_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v12) = v0 c
          ∧ r.2.mem ((c.tc : Thread Cert.FfnFwdRefIdeal.nD Cert.FfnFwdRefIdeal.τ).loc Cert.FfnFwdRefIdeal.main_v13) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_ModProj_ModProjIdeal : Prop :=
  True

def algebraic_ModProjIdeal_ModProjRefIdeal [hModProjIdeal : Cert.ModProjIdeal.Facts] [hModProjRefIdeal : Cert.ModProjRefIdeal.Facts] : Prop :=
  ∀ (m : (ℓ : Loc Cert.ModProjIdeal.nD Cert.ModProjIdeal.τ Cert.ModProjIdeal.sig) → Buf (Elt Ideal) ℓ) (g : Dev Cert.ModProjIdeal.nD → PrngReg)
    (m' : (ℓ : Loc Cert.ModProjRefIdeal.nD Cert.ModProjRefIdeal.τ Cert.ModProjRefIdeal.sig) → Buf (Elt Ideal) ℓ) (g' : Dev Cert.ModProjRefIdeal.nD → PrngReg), Pre_ModProjIdeal m →
    (∀ c : Dev Cert.ModProjIdeal.nD,
      m' ((c.tc : Thread Cert.ModProjRefIdeal.nD Cert.ModProjRefIdeal.τ).loc Cert.ModProjRefIdeal.main_arg0) = m ((c.tc : Thread Cert.ModProjIdeal.nD Cert.ModProjIdeal.τ).loc Cert.ModProjIdeal.main_arg0)
      ∧ m' ((c.tc : Thread Cert.ModProjRefIdeal.nD Cert.ModProjRefIdeal.τ).loc Cert.ModProjRefIdeal.main_arg1) = m ((c.tc : Thread Cert.ModProjIdeal.nD Cert.ModProjIdeal.τ).loc Cert.ModProjIdeal.main_arg1)) →
    ∃ (v0 : (c : Dev Cert.ModProjIdeal.nD) → Buf (Elt Ideal) ((c.tc : Thread Cert.ModProjIdeal.nD Cert.ModProjIdeal.τ).loc Cert.ModProjIdeal.main_v2)),
      θ_run (Cert.ModProjIdeal.defs (F := Ideal)) (onTc (τ := Cert.ModProjIdeal.τ) (Cert.ModProjIdeal.main (F := Ideal))) ⟨m, fun _ => 0, g⟩ (fun r => ∀ c : Dev Cert.ModProjIdeal.nD,
          r.2.mem ((c.tc : Thread Cert.ModProjIdeal.nD Cert.ModProjIdeal.τ).loc Cert.ModProjIdeal.main_v2) = v0 c
          ∧ r.2.mem ((c.tc : Thread Cert.ModProjIdeal.nD Cert.ModProjIdeal.τ).loc Cert.ModProjIdeal.main_arg0) = m ((c.tc : Thread Cert.ModProjIdeal.nD Cert.ModProjIdeal.τ).loc Cert.ModProjIdeal.main_arg0)
          ∧ r.2.mem ((c.tc : Thread Cert.ModProjIdeal.nD Cert.ModProjIdeal.τ).loc Cert.ModProjIdeal.main_arg1) = m ((c.tc : Thread Cert.ModProjIdeal.nD Cert.ModProjIdeal.τ).loc Cert.ModProjIdeal.main_arg1))
      ∧ θ_run (Cert.ModProjRefIdeal.defs (F := Ideal)) (onTc (τ := Cert.ModProjRefIdeal.τ) (Cert.ModProjRefIdeal.main (F := Ideal))) ⟨m', fun _ => 0, g'⟩ (fun r => ∀ c : Dev Cert.ModProjRefIdeal.nD,
          r.2.mem ((c.tc : Thread Cert.ModProjRefIdeal.nD Cert.ModProjRefIdeal.τ).loc Cert.ModProjRefIdeal.main_v4) = v0 c
          ∧ r.2.mem ((c.tc : Thread Cert.ModProjRefIdeal.nD Cert.ModProjRefIdeal.τ).loc Cert.ModProjRefIdeal.main_arg0) = m' ((c.tc : Thread Cert.ModProjRefIdeal.nD Cert.ModProjRefIdeal.τ).loc Cert.ModProjRefIdeal.main_arg0)
          ∧ r.2.mem ((c.tc : Thread Cert.ModProjRefIdeal.nD Cert.ModProjRefIdeal.τ).loc Cert.ModProjRefIdeal.main_arg1) = m' ((c.tc : Thread Cert.ModProjRefIdeal.nD Cert.ModProjRefIdeal.τ).loc Cert.ModProjRefIdeal.main_arg1))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v5)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v5) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v0) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_ProjBwdX_ProjBwdXIdeal : Prop :=
  True

def algebraic_ProjBwdXIdeal_ProjBwdXRefIdeal [hProjBwdXIdeal : Cert.ProjBwdXIdeal.Facts] [hProjBwdXRefIdeal : Cert.ProjBwdXRefIdeal.Facts] : Prop :=
  ∀ (m : (ℓ : Loc Cert.ProjBwdXIdeal.nD Cert.ProjBwdXIdeal.τ Cert.ProjBwdXIdeal.sig) → Buf (Elt Ideal) ℓ) (g : Dev Cert.ProjBwdXIdeal.nD → PrngReg)
    (m' : (ℓ : Loc Cert.ProjBwdXRefIdeal.nD Cert.ProjBwdXRefIdeal.τ Cert.ProjBwdXRefIdeal.sig) → Buf (Elt Ideal) ℓ) (g' : Dev Cert.ProjBwdXRefIdeal.nD → PrngReg), Pre_ProjBwdXIdeal m →
    (∀ c : Dev Cert.ProjBwdXIdeal.nD,
      m' ((c.tc : Thread Cert.ProjBwdXRefIdeal.nD Cert.ProjBwdXRefIdeal.τ).loc Cert.ProjBwdXRefIdeal.main_arg0) = m ((c.tc : Thread Cert.ProjBwdXIdeal.nD Cert.ProjBwdXIdeal.τ).loc Cert.ProjBwdXIdeal.main_arg0)
      ∧ m' ((c.tc : Thread Cert.ProjBwdXRefIdeal.nD Cert.ProjBwdXRefIdeal.τ).loc Cert.ProjBwdXRefIdeal.main_arg1) = m ((c.tc : Thread Cert.ProjBwdXIdeal.nD Cert.ProjBwdXIdeal.τ).loc Cert.ProjBwdXIdeal.main_arg1)) →
    ∃ (v0 : (c : Dev Cert.ProjBwdXIdeal.nD) → Buf (Elt Ideal) ((c.tc : Thread Cert.ProjBwdXIdeal.nD Cert.ProjBwdXIdeal.τ).loc Cert.ProjBwdXIdeal.main_v5)),
      θ_run (Cert.ProjBwdXIdeal.defs (F := Ideal)) (onTc (τ := Cert.ProjBwdXIdeal.τ) (Cert.ProjBwdXIdeal.main (F := Ideal))) ⟨m, fun _ => 0, g⟩ (fun r => ∀ c : Dev Cert.ProjBwdXIdeal.nD,
          r.2.mem ((c.tc : Thread Cert.ProjBwdXIdeal.nD Cert.ProjBwdXIdeal.τ).loc Cert.ProjBwdXIdeal.main_v5) = v0 c
          ∧ r.2.mem ((c.tc : Thread Cert.ProjBwdXIdeal.nD Cert.ProjBwdXIdeal.τ).loc Cert.ProjBwdXIdeal.main_arg0) = m ((c.tc : Thread Cert.ProjBwdXIdeal.nD Cert.ProjBwdXIdeal.τ).loc Cert.ProjBwdXIdeal.main_arg0)
          ∧ r.2.mem ((c.tc : Thread Cert.ProjBwdXIdeal.nD Cert.ProjBwdXIdeal.τ).loc Cert.ProjBwdXIdeal.main_arg1) = m ((c.tc : Thread Cert.ProjBwdXIdeal.nD Cert.ProjBwdXIdeal.τ).loc Cert.ProjBwdXIdeal.main_arg1))
      ∧ θ_run (Cert.ProjBwdXRefIdeal.defs (F := Ideal)) (onTc (τ := Cert.ProjBwdXRefIdeal.τ) (Cert.ProjBwdXRefIdeal.main (F := Ideal))) ⟨m', fun _ => 0, g'⟩ (fun r => ∀ c : Dev Cert.ProjBwdXRefIdeal.nD,
          r.2.mem ((c.tc : Thread Cert.ProjBwdXRefIdeal.nD Cert.ProjBwdXRefIdeal.τ).loc Cert.ProjBwdXRefIdeal.main_v1) = v0 c
          ∧ r.2.mem ((c.tc : Thread Cert.ProjBwdXRefIdeal.nD Cert.ProjBwdXRefIdeal.τ).loc Cert.ProjBwdXRefIdeal.main_arg0) = m' ((c.tc : Thread Cert.ProjBwdXRefIdeal.nD Cert.ProjBwdXRefIdeal.τ).loc Cert.ProjBwdXRefIdeal.main_arg0)
          ∧ r.2.mem ((c.tc : Thread Cert.ProjBwdXRefIdeal.nD Cert.ProjBwdXRefIdeal.τ).loc Cert.ProjBwdXRefIdeal.main_arg1) = m' ((c.tc : Thread Cert.ProjBwdXRefIdeal.nD Cert.ProjBwdXRefIdeal.τ).loc Cert.ProjBwdXRefIdeal.main_arg1))

def preserves_ProjBwdW_ProjBwdWIdeal : Prop :=
  True

def algebraic_ProjBwdWIdeal_ProjBwdWRefIdeal [hProjBwdWIdeal : Cert.ProjBwdWIdeal.Facts] [hProjBwdWRefIdeal : Cert.ProjBwdWRefIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg)
    (m' : (ℓ : Loc Cert.ProjBwdWRefIdeal.nD Cert.ProjBwdWRefIdeal.τ Cert.ProjBwdWRefIdeal.sig) → Buf (Elt Ideal) ℓ) (g' : Dev Cert.ProjBwdWRefIdeal.nD → PrngReg), Pre_ProjBwdWIdeal m →
    (∀ c : Dev Cert.ProjBwdWIdeal.nD,
      m' ((c.tc : Thread Cert.ProjBwdWRefIdeal.nD Cert.ProjBwdWRefIdeal.τ).loc Cert.ProjBwdWRefIdeal.main_arg0) = m ((c.tc : Thread Cert.ProjBwdWIdeal.nD Cert.ProjBwdWIdeal.τ).loc Cert.ProjBwdWIdeal.main_arg0)
      ∧ m' ((c.tc : Thread Cert.ProjBwdWRefIdeal.nD Cert.ProjBwdWRefIdeal.τ).loc Cert.ProjBwdWRefIdeal.main_arg1) = m ((c.tc : Thread Cert.ProjBwdWIdeal.nD Cert.ProjBwdWIdeal.τ).loc Cert.ProjBwdWIdeal.main_arg1)) →
    ∃ (v0 : (c : Dev Cert.ProjBwdWIdeal.nD) → Buf (Elt Ideal) ((c.tc : Thread Cert.ProjBwdWIdeal.nD Cert.ProjBwdWIdeal.τ).loc Cert.ProjBwdWIdeal.main_v2)),
      θ_run (Cert.ProjBwdWIdeal.defs (F := Ideal)) (onTc (τ := Cert.ProjBwdWIdeal.τ) (Cert.ProjBwdWIdeal.main (F := Ideal))) ⟨m, fun _ => 0, g⟩ (fun r => ∀ c : Dev Cert.ProjBwdWIdeal.nD,
          r.2.mem ((c.tc : Thread Cert.ProjBwdWIdeal.nD Cert.ProjBwdWIdeal.τ).loc Cert.ProjBwdWIdeal.main_v2) = v0 c
          ∧ r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
          ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1))
      ∧ θ_run (Cert.ProjBwdWRefIdeal.defs (F := Ideal)) (onTc (τ := Cert.ProjBwdWRefIdeal.τ) (Cert.ProjBwdWRefIdeal.main (F := Ideal))) ⟨m', fun _ => 0, g'⟩ (fun r => ∀ c : Dev Cert.ProjBwdWRefIdeal.nD,
          r.2.mem ((c.tc : Thread Cert.ProjBwdWRefIdeal.nD Cert.ProjBwdWRefIdeal.τ).loc Cert.ProjBwdWRefIdeal.main_v5) = v0 c
          ∧ r.2.mem ((c.tc : Thread Cert.ProjBwdWRefIdeal.nD Cert.ProjBwdWRefIdeal.τ).loc Cert.ProjBwdWRefIdeal.main_arg0) = m' ((c.tc : Thread Cert.ProjBwdWRefIdeal.nD Cert.ProjBwdWRefIdeal.τ).loc Cert.ProjBwdWRefIdeal.main_arg0)
          ∧ r.2.mem ((c.tc : Thread Cert.ProjBwdWRefIdeal.nD Cert.ProjBwdWRefIdeal.τ).loc Cert.ProjBwdWRefIdeal.main_arg1) = m' ((c.tc : Thread Cert.ProjBwdWRefIdeal.nD Cert.ProjBwdWRefIdeal.τ).loc Cert.ProjBwdWRefIdeal.main_arg1))

def preserves_DenseFwd_DenseFwdIdeal : Prop :=
  True

def algebraic_DenseFwdIdeal_DenseFwdRefIdeal [hDenseFwdIdeal : Cert.DenseFwdIdeal.Facts] [hDenseFwdRefIdeal : Cert.DenseFwdRefIdeal.Facts] : Prop :=
  ∀ (m : (ℓ : Loc Cert.DenseFwdIdeal.nD Cert.DenseFwdIdeal.τ Cert.DenseFwdIdeal.sig) → Buf (Elt Ideal) ℓ) (g : Dev Cert.DenseFwdIdeal.nD → PrngReg)
    (m' : (ℓ : Loc Cert.DenseFwdRefIdeal.nD Cert.DenseFwdRefIdeal.τ Cert.DenseFwdRefIdeal.sig) → Buf (Elt Ideal) ℓ) (g' : Dev Cert.DenseFwdRefIdeal.nD → PrngReg), Pre_DenseFwdIdeal m →
    (∀ c : Dev Cert.DenseFwdIdeal.nD,
      m' ((c.tc : Thread Cert.DenseFwdRefIdeal.nD Cert.DenseFwdRefIdeal.τ).loc Cert.DenseFwdRefIdeal.main_arg0) = m ((c.tc : Thread Cert.DenseFwdIdeal.nD Cert.DenseFwdIdeal.τ).loc Cert.DenseFwdIdeal.main_arg0)
      ∧ m' ((c.tc : Thread Cert.DenseFwdRefIdeal.nD Cert.DenseFwdRefIdeal.τ).loc Cert.DenseFwdRefIdeal.main_arg1) = m ((c.tc : Thread Cert.DenseFwdIdeal.nD Cert.DenseFwdIdeal.τ).loc Cert.DenseFwdIdeal.main_arg1)) →
    ∃ (v0 : (c : Dev Cert.DenseFwdIdeal.nD) → Buf (Elt Ideal) ((c.tc : Thread Cert.DenseFwdIdeal.nD Cert.DenseFwdIdeal.τ).loc Cert.DenseFwdIdeal.main_v2)),
      θ_run (Cert.DenseFwdIdeal.defs (F := Ideal)) (onTc (τ := Cert.DenseFwdIdeal.τ) (Cert.DenseFwdIdeal.main (F := Ideal))) ⟨m, fun _ => 0, g⟩ (fun r => ∀ c : Dev Cert.DenseFwdIdeal.nD,
          r.2.mem ((c.tc : Thread Cert.DenseFwdIdeal.nD Cert.DenseFwdIdeal.τ).loc Cert.DenseFwdIdeal.main_v2) = v0 c
          ∧ r.2.mem ((c.tc : Thread Cert.DenseFwdIdeal.nD Cert.DenseFwdIdeal.τ).loc Cert.DenseFwdIdeal.main_arg0) = m ((c.tc : Thread Cert.DenseFwdIdeal.nD Cert.DenseFwdIdeal.τ).loc Cert.DenseFwdIdeal.main_arg0)
          ∧ r.2.mem ((c.tc : Thread Cert.DenseFwdIdeal.nD Cert.DenseFwdIdeal.τ).loc Cert.DenseFwdIdeal.main_arg1) = m ((c.tc : Thread Cert.DenseFwdIdeal.nD Cert.DenseFwdIdeal.τ).loc Cert.DenseFwdIdeal.main_arg1))
      ∧ θ_run (Cert.DenseFwdRefIdeal.defs (F := Ideal)) (onTc (τ := Cert.DenseFwdRefIdeal.τ) (Cert.DenseFwdRefIdeal.main (F := Ideal))) ⟨m', fun _ => 0, g'⟩ (fun r => ∀ c : Dev Cert.DenseFwdRefIdeal.nD,
          r.2.mem ((c.tc : Thread Cert.DenseFwdRefIdeal.nD Cert.DenseFwdRefIdeal.τ).loc Cert.DenseFwdRefIdeal.main_v1) = v0 c
          ∧ r.2.mem ((c.tc : Thread Cert.DenseFwdRefIdeal.nD Cert.DenseFwdRefIdeal.τ).loc Cert.DenseFwdRefIdeal.main_arg0) = m' ((c.tc : Thread Cert.DenseFwdRefIdeal.nD Cert.DenseFwdRefIdeal.τ).loc Cert.DenseFwdRefIdeal.main_arg0)
          ∧ r.2.mem ((c.tc : Thread Cert.DenseFwdRefIdeal.nD Cert.DenseFwdRefIdeal.τ).loc Cert.DenseFwdRefIdeal.main_arg1) = m' ((c.tc : Thread Cert.DenseFwdRefIdeal.nD Cert.DenseFwdRefIdeal.τ).loc Cert.DenseFwdRefIdeal.main_arg1))

def preserves_DenseBwdX_DenseBwdXIdeal : Prop :=
  True

def algebraic_DenseBwdXIdeal_DenseBwdXRefIdeal [hDenseBwdXIdeal : Cert.DenseBwdXIdeal.Facts] [hDenseBwdXRefIdeal : Cert.DenseBwdXRefIdeal.Facts] : Prop :=
  ∀ (m : (ℓ : Loc Cert.DenseBwdXIdeal.nD Cert.DenseBwdXIdeal.τ Cert.DenseBwdXIdeal.sig) → Buf (Elt Ideal) ℓ) (g : Dev Cert.DenseBwdXIdeal.nD → PrngReg)
    (m' : (ℓ : Loc Cert.DenseBwdXRefIdeal.nD Cert.DenseBwdXRefIdeal.τ Cert.DenseBwdXRefIdeal.sig) → Buf (Elt Ideal) ℓ) (g' : Dev Cert.DenseBwdXRefIdeal.nD → PrngReg), Pre_DenseBwdXIdeal m →
    (∀ c : Dev Cert.DenseBwdXIdeal.nD,
      m' ((c.tc : Thread Cert.DenseBwdXRefIdeal.nD Cert.DenseBwdXRefIdeal.τ).loc Cert.DenseBwdXRefIdeal.main_arg0) = m ((c.tc : Thread Cert.DenseBwdXIdeal.nD Cert.DenseBwdXIdeal.τ).loc Cert.DenseBwdXIdeal.main_arg0)
      ∧ m' ((c.tc : Thread Cert.DenseBwdXRefIdeal.nD Cert.DenseBwdXRefIdeal.τ).loc Cert.DenseBwdXRefIdeal.main_arg1) = m ((c.tc : Thread Cert.DenseBwdXIdeal.nD Cert.DenseBwdXIdeal.τ).loc Cert.DenseBwdXIdeal.main_arg1)) →
    ∃ (v0 : (c : Dev Cert.DenseBwdXIdeal.nD) → Buf (Elt Ideal) ((c.tc : Thread Cert.DenseBwdXIdeal.nD Cert.DenseBwdXIdeal.τ).loc Cert.DenseBwdXIdeal.main_v2)),
      θ_run (Cert.DenseBwdXIdeal.defs (F := Ideal)) (onTc (τ := Cert.DenseBwdXIdeal.τ) (Cert.DenseBwdXIdeal.main (F := Ideal))) ⟨m, fun _ => 0, g⟩ (fun r => ∀ c : Dev Cert.DenseBwdXIdeal.nD,
          r.2.mem ((c.tc : Thread Cert.DenseBwdXIdeal.nD Cert.DenseBwdXIdeal.τ).loc Cert.DenseBwdXIdeal.main_v2) = v0 c
          ∧ r.2.mem ((c.tc : Thread Cert.DenseBwdXIdeal.nD Cert.DenseBwdXIdeal.τ).loc Cert.DenseBwdXIdeal.main_arg0) = m ((c.tc : Thread Cert.DenseBwdXIdeal.nD Cert.DenseBwdXIdeal.τ).loc Cert.DenseBwdXIdeal.main_arg0)
          ∧ r.2.mem ((c.tc : Thread Cert.DenseBwdXIdeal.nD Cert.DenseBwdXIdeal.τ).loc Cert.DenseBwdXIdeal.main_arg1) = m ((c.tc : Thread Cert.DenseBwdXIdeal.nD Cert.DenseBwdXIdeal.τ).loc Cert.DenseBwdXIdeal.main_arg1))
      ∧ θ_run (Cert.DenseBwdXRefIdeal.defs (F := Ideal)) (onTc (τ := Cert.DenseBwdXRefIdeal.τ) (Cert.DenseBwdXRefIdeal.main (F := Ideal))) ⟨m', fun _ => 0, g'⟩ (fun r => ∀ c : Dev Cert.DenseBwdXRefIdeal.nD,
          r.2.mem ((c.tc : Thread Cert.DenseBwdXRefIdeal.nD Cert.DenseBwdXRefIdeal.τ).loc Cert.DenseBwdXRefIdeal.main_v2) = v0 c
          ∧ r.2.mem ((c.tc : Thread Cert.DenseBwdXRefIdeal.nD Cert.DenseBwdXRefIdeal.τ).loc Cert.DenseBwdXRefIdeal.main_arg0) = m' ((c.tc : Thread Cert.DenseBwdXRefIdeal.nD Cert.DenseBwdXRefIdeal.τ).loc Cert.DenseBwdXRefIdeal.main_arg0)
          ∧ r.2.mem ((c.tc : Thread Cert.DenseBwdXRefIdeal.nD Cert.DenseBwdXRefIdeal.τ).loc Cert.DenseBwdXRefIdeal.main_arg1) = m' ((c.tc : Thread Cert.DenseBwdXRefIdeal.nD Cert.DenseBwdXRefIdeal.τ).loc Cert.DenseBwdXRefIdeal.main_arg1))

def preserves_DenseBwdW_DenseBwdWIdeal : Prop :=
  True

def algebraic_DenseBwdWIdeal_DenseBwdWRefIdeal [hDenseBwdWIdeal : Cert.DenseBwdWIdeal.Facts] [hDenseBwdWRefIdeal : Cert.DenseBwdWRefIdeal.Facts] : Prop :=
  ∀ (m : (ℓ : Loc Cert.DenseBwdWIdeal.nD Cert.DenseBwdWIdeal.τ Cert.DenseBwdWIdeal.sig) → Buf (Elt Ideal) ℓ) (g : Dev Cert.DenseBwdWIdeal.nD → PrngReg)
    (m' : (ℓ : Loc Cert.DenseBwdWRefIdeal.nD Cert.DenseBwdWRefIdeal.τ Cert.DenseBwdWRefIdeal.sig) → Buf (Elt Ideal) ℓ) (g' : Dev Cert.DenseBwdWRefIdeal.nD → PrngReg), Pre_DenseBwdWIdeal m →
    (∀ c : Dev Cert.DenseBwdWIdeal.nD,
      m' ((c.tc : Thread Cert.DenseBwdWRefIdeal.nD Cert.DenseBwdWRefIdeal.τ).loc Cert.DenseBwdWRefIdeal.main_arg0) = m ((c.tc : Thread Cert.DenseBwdWIdeal.nD Cert.DenseBwdWIdeal.τ).loc Cert.DenseBwdWIdeal.main_arg0)
      ∧ m' ((c.tc : Thread Cert.DenseBwdWRefIdeal.nD Cert.DenseBwdWRefIdeal.τ).loc Cert.DenseBwdWRefIdeal.main_arg1) = m ((c.tc : Thread Cert.DenseBwdWIdeal.nD Cert.DenseBwdWIdeal.τ).loc Cert.DenseBwdWIdeal.main_arg1)) →
    ∃ (v0 : (c : Dev Cert.DenseBwdWIdeal.nD) → Buf (Elt Ideal) ((c.tc : Thread Cert.DenseBwdWIdeal.nD Cert.DenseBwdWIdeal.τ).loc Cert.DenseBwdWIdeal.main_v2)),
      θ_run (Cert.DenseBwdWIdeal.defs (F := Ideal)) (onTc (τ := Cert.DenseBwdWIdeal.τ) (Cert.DenseBwdWIdeal.main (F := Ideal))) ⟨m, fun _ => 0, g⟩ (fun r => ∀ c : Dev Cert.DenseBwdWIdeal.nD,
          r.2.mem ((c.tc : Thread Cert.DenseBwdWIdeal.nD Cert.DenseBwdWIdeal.τ).loc Cert.DenseBwdWIdeal.main_v2) = v0 c
          ∧ r.2.mem ((c.tc : Thread Cert.DenseBwdWIdeal.nD Cert.DenseBwdWIdeal.τ).loc Cert.DenseBwdWIdeal.main_arg0) = m ((c.tc : Thread Cert.DenseBwdWIdeal.nD Cert.DenseBwdWIdeal.τ).loc Cert.DenseBwdWIdeal.main_arg0)
          ∧ r.2.mem ((c.tc : Thread Cert.DenseBwdWIdeal.nD Cert.DenseBwdWIdeal.τ).loc Cert.DenseBwdWIdeal.main_arg1) = m ((c.tc : Thread Cert.DenseBwdWIdeal.nD Cert.DenseBwdWIdeal.τ).loc Cert.DenseBwdWIdeal.main_arg1))
      ∧ θ_run (Cert.DenseBwdWRefIdeal.defs (F := Ideal)) (onTc (τ := Cert.DenseBwdWRefIdeal.τ) (Cert.DenseBwdWRefIdeal.main (F := Ideal))) ⟨m', fun _ => 0, g'⟩ (fun r => ∀ c : Dev Cert.DenseBwdWRefIdeal.nD,
          r.2.mem ((c.tc : Thread Cert.DenseBwdWRefIdeal.nD Cert.DenseBwdWRefIdeal.τ).loc Cert.DenseBwdWRefIdeal.main_v2) = v0 c
          ∧ r.2.mem ((c.tc : Thread Cert.DenseBwdWRefIdeal.nD Cert.DenseBwdWRefIdeal.τ).loc Cert.DenseBwdWRefIdeal.main_arg0) = m' ((c.tc : Thread Cert.DenseBwdWRefIdeal.nD Cert.DenseBwdWRefIdeal.τ).loc Cert.DenseBwdWRefIdeal.main_arg0)
          ∧ r.2.mem ((c.tc : Thread Cert.DenseBwdWRefIdeal.nD Cert.DenseBwdWRefIdeal.τ).loc Cert.DenseBwdWRefIdeal.main_arg1) = m' ((c.tc : Thread Cert.DenseBwdWRefIdeal.nD Cert.DenseBwdWRefIdeal.τ).loc Cert.DenseBwdWRefIdeal.main_arg1))

def preserves_FfnBwdX_FfnBwdXIdeal : Prop :=
  True

def algebraic_FfnBwdXIdeal_FfnBwdXRefIdeal [hFfnBwdXIdeal : Cert.FfnBwdXIdeal.Facts] [hFfnBwdXRefIdeal : Cert.FfnBwdXRefIdeal.Facts] : Prop :=
  ∀ (m : (ℓ : Loc Cert.FfnBwdXIdeal.nD Cert.FfnBwdXIdeal.τ Cert.FfnBwdXIdeal.sig) → Buf (Elt Ideal) ℓ) (g : Dev Cert.FfnBwdXIdeal.nD → PrngReg)
    (m' : (ℓ : Loc Cert.FfnBwdXRefIdeal.nD Cert.FfnBwdXRefIdeal.τ Cert.FfnBwdXRefIdeal.sig) → Buf (Elt Ideal) ℓ) (g' : Dev Cert.FfnBwdXRefIdeal.nD → PrngReg), Pre_FfnBwdXIdeal m →
    (∀ c : Dev Cert.FfnBwdXIdeal.nD,
      m' ((c.tc : Thread Cert.FfnBwdXRefIdeal.nD Cert.FfnBwdXRefIdeal.τ).loc Cert.FfnBwdXRefIdeal.main_arg0) = m ((c.tc : Thread Cert.FfnBwdXIdeal.nD Cert.FfnBwdXIdeal.τ).loc Cert.FfnBwdXIdeal.main_arg0)
      ∧ m' ((c.tc : Thread Cert.FfnBwdXRefIdeal.nD Cert.FfnBwdXRefIdeal.τ).loc Cert.FfnBwdXRefIdeal.main_arg1) = m ((c.tc : Thread Cert.FfnBwdXIdeal.nD Cert.FfnBwdXIdeal.τ).loc Cert.FfnBwdXIdeal.main_arg1)
      ∧ m' ((c.tc : Thread Cert.FfnBwdXRefIdeal.nD Cert.FfnBwdXRefIdeal.τ).loc Cert.FfnBwdXRefIdeal.main_arg2) = m ((c.tc : Thread Cert.FfnBwdXIdeal.nD Cert.FfnBwdXIdeal.τ).loc Cert.FfnBwdXIdeal.main_arg2)
      ∧ m' ((c.tc : Thread Cert.FfnBwdXRefIdeal.nD Cert.FfnBwdXRefIdeal.τ).loc Cert.FfnBwdXRefIdeal.main_arg3) = m ((c.tc : Thread Cert.FfnBwdXIdeal.nD Cert.FfnBwdXIdeal.τ).loc Cert.FfnBwdXIdeal.main_arg3)) →
    ∃ (v0 : (c : Dev Cert.FfnBwdXIdeal.nD) → Buf (Elt Ideal) ((c.tc : Thread Cert.FfnBwdXIdeal.nD Cert.FfnBwdXIdeal.τ).loc Cert.FfnBwdXIdeal.main_v16)),
      θ_run (Cert.FfnBwdXIdeal.defs (F := Ideal)) (onTc (τ := Cert.FfnBwdXIdeal.τ) (Cert.FfnBwdXIdeal.main (F := Ideal))) ⟨m, fun _ => 0, g⟩ (fun r => ∀ c : Dev Cert.FfnBwdXIdeal.nD,
          r.2.mem ((c.tc : Thread Cert.FfnBwdXIdeal.nD Cert.FfnBwdXIdeal.τ).loc Cert.FfnBwdXIdeal.main_v16) = v0 c
          ∧ r.2.mem ((c.tc : Thread Cert.FfnBwdXIdeal.nD Cert.FfnBwdXIdeal.τ).loc Cert.FfnBwdXIdeal.main_arg0) = m ((c.tc : Thread Cert.FfnBwdXIdeal.nD Cert.FfnBwdXIdeal.τ).loc Cert.FfnBwdXIdeal.main_arg0)
          ∧ r.2.mem ((c.tc : Thread Cert.FfnBwdXIdeal.nD Cert.FfnBwdXIdeal.τ).loc Cert.FfnBwdXIdeal.main_arg1) = m ((c.tc : Thread Cert.FfnBwdXIdeal.nD Cert.FfnBwdXIdeal.τ).loc Cert.FfnBwdXIdeal.main_arg1)
          ∧ r.2.mem ((c.tc : Thread Cert.FfnBwdXIdeal.nD Cert.FfnBwdXIdeal.τ).loc Cert.FfnBwdXIdeal.main_arg2) = m ((c.tc : Thread Cert.FfnBwdXIdeal.nD Cert.FfnBwdXIdeal.τ).loc Cert.FfnBwdXIdeal.main_arg2)
          ∧ r.2.mem ((c.tc : Thread Cert.FfnBwdXIdeal.nD Cert.FfnBwdXIdeal.τ).loc Cert.FfnBwdXIdeal.main_arg3) = m ((c.tc : Thread Cert.FfnBwdXIdeal.nD Cert.FfnBwdXIdeal.τ).loc Cert.FfnBwdXIdeal.main_arg3))
      ∧ θ_run (Cert.FfnBwdXRefIdeal.defs (F := Ideal)) (onTc (τ := Cert.FfnBwdXRefIdeal.τ) (Cert.FfnBwdXRefIdeal.main (F := Ideal))) ⟨m', fun _ => 0, g'⟩ (fun r => ∀ c : Dev Cert.FfnBwdXRefIdeal.nD,
          r.2.mem ((c.tc : Thread Cert.FfnBwdXRefIdeal.nD Cert.FfnBwdXRefIdeal.τ).loc Cert.FfnBwdXRefIdeal.main_v4) = v0 c
          ∧ r.2.mem ((c.tc : Thread Cert.FfnBwdXRefIdeal.nD Cert.FfnBwdXRefIdeal.τ).loc Cert.FfnBwdXRefIdeal.main_arg0) = m' ((c.tc : Thread Cert.FfnBwdXRefIdeal.nD Cert.FfnBwdXRefIdeal.τ).loc Cert.FfnBwdXRefIdeal.main_arg0)
          ∧ r.2.mem ((c.tc : Thread Cert.FfnBwdXRefIdeal.nD Cert.FfnBwdXRefIdeal.τ).loc Cert.FfnBwdXRefIdeal.main_arg1) = m' ((c.tc : Thread Cert.FfnBwdXRefIdeal.nD Cert.FfnBwdXRefIdeal.τ).loc Cert.FfnBwdXRefIdeal.main_arg1)
          ∧ r.2.mem ((c.tc : Thread Cert.FfnBwdXRefIdeal.nD Cert.FfnBwdXRefIdeal.τ).loc Cert.FfnBwdXRefIdeal.main_arg2) = m' ((c.tc : Thread Cert.FfnBwdXRefIdeal.nD Cert.FfnBwdXRefIdeal.τ).loc Cert.FfnBwdXRefIdeal.main_arg2)
          ∧ r.2.mem ((c.tc : Thread Cert.FfnBwdXRefIdeal.nD Cert.FfnBwdXRefIdeal.τ).loc Cert.FfnBwdXRefIdeal.main_arg3) = m' ((c.tc : Thread Cert.FfnBwdXRefIdeal.nD Cert.FfnBwdXRefIdeal.τ).loc Cert.FfnBwdXRefIdeal.main_arg3))

def preserves_FfnBwdWgu_FfnBwdWguIdeal : Prop :=
  True

def algebraic_FfnBwdWguIdeal_FfnBwdWguRefIdeal [hFfnBwdWguIdeal : Cert.FfnBwdWguIdeal.Facts] [hFfnBwdWguRefIdeal : Cert.FfnBwdWguRefIdeal.Facts] : Prop :=
  ∀ (m : (ℓ : Loc Cert.FfnBwdWguIdeal.nD Cert.FfnBwdWguIdeal.τ Cert.FfnBwdWguIdeal.sig) → Buf (Elt Ideal) ℓ) (g : Dev Cert.FfnBwdWguIdeal.nD → PrngReg)
    (m' : (ℓ : Loc Cert.FfnBwdWguRefIdeal.nD Cert.FfnBwdWguRefIdeal.τ Cert.FfnBwdWguRefIdeal.sig) → Buf (Elt Ideal) ℓ) (g' : Dev Cert.FfnBwdWguRefIdeal.nD → PrngReg), Pre_FfnBwdWguIdeal m →
    (∀ c : Dev Cert.FfnBwdWguIdeal.nD,
      m' ((c.tc : Thread Cert.FfnBwdWguRefIdeal.nD Cert.FfnBwdWguRefIdeal.τ).loc Cert.FfnBwdWguRefIdeal.main_arg0) = m ((c.tc : Thread Cert.FfnBwdWguIdeal.nD Cert.FfnBwdWguIdeal.τ).loc Cert.FfnBwdWguIdeal.main_arg0)
      ∧ m' ((c.tc : Thread Cert.FfnBwdWguRefIdeal.nD Cert.FfnBwdWguRefIdeal.τ).loc Cert.FfnBwdWguRefIdeal.main_arg1) = m ((c.tc : Thread Cert.FfnBwdWguIdeal.nD Cert.FfnBwdWguIdeal.τ).loc Cert.FfnBwdWguIdeal.main_arg1)
      ∧ m' ((c.tc : Thread Cert.FfnBwdWguRefIdeal.nD Cert.FfnBwdWguRefIdeal.τ).loc Cert.FfnBwdWguRefIdeal.main_arg2) = m ((c.tc : Thread Cert.FfnBwdWguIdeal.nD Cert.FfnBwdWguIdeal.τ).loc Cert.FfnBwdWguIdeal.main_arg2)) →
    ∃ (v0 : (c : Dev Cert.FfnBwdWguIdeal.nD) → Buf (Elt Ideal) ((c.tc : Thread Cert.FfnBwdWguIdeal.nD Cert.FfnBwdWguIdeal.τ).loc Cert.FfnBwdWguIdeal.main_v9)),
      θ_run (Cert.FfnBwdWguIdeal.defs (F := Ideal)) (onTc (τ := Cert.FfnBwdWguIdeal.τ) (Cert.FfnBwdWguIdeal.main (F := Ideal))) ⟨m, fun _ => 0, g⟩ (fun r => ∀ c : Dev Cert.FfnBwdWguIdeal.nD,
          r.2.mem ((c.tc : Thread Cert.FfnBwdWguIdeal.nD Cert.FfnBwdWguIdeal.τ).loc Cert.FfnBwdWguIdeal.main_v9) = v0 c
          ∧ r.2.mem ((c.tc : Thread Cert.FfnBwdWguIdeal.nD Cert.FfnBwdWguIdeal.τ).loc Cert.FfnBwdWguIdeal.main_arg0) = m ((c.tc : Thread Cert.FfnBwdWguIdeal.nD Cert.FfnBwdWguIdeal.τ).loc Cert.FfnBwdWguIdeal.main_arg0)
          ∧ r.2.mem ((c.tc : Thread Cert.FfnBwdWguIdeal.nD Cert.FfnBwdWguIdeal.τ).loc Cert.FfnBwdWguIdeal.main_arg1) = m ((c.tc : Thread Cert.FfnBwdWguIdeal.nD Cert.FfnBwdWguIdeal.τ).loc Cert.FfnBwdWguIdeal.main_arg1)
          ∧ r.2.mem ((c.tc : Thread Cert.FfnBwdWguIdeal.nD Cert.FfnBwdWguIdeal.τ).loc Cert.FfnBwdWguIdeal.main_arg2) = m ((c.tc : Thread Cert.FfnBwdWguIdeal.nD Cert.FfnBwdWguIdeal.τ).loc Cert.FfnBwdWguIdeal.main_arg2))
      ∧ θ_run (Cert.FfnBwdWguRefIdeal.defs (F := Ideal)) (onTc (τ := Cert.FfnBwdWguRefIdeal.τ) (Cert.FfnBwdWguRefIdeal.main (F := Ideal))) ⟨m', fun _ => 0, g'⟩ (fun r => ∀ c : Dev Cert.FfnBwdWguRefIdeal.nD,
          r.2.mem ((c.tc : Thread Cert.FfnBwdWguRefIdeal.nD Cert.FfnBwdWguRefIdeal.τ).loc Cert.FfnBwdWguRefIdeal.main_v11) = v0 c
          ∧ r.2.mem ((c.tc : Thread Cert.FfnBwdWguRefIdeal.nD Cert.FfnBwdWguRefIdeal.τ).loc Cert.FfnBwdWguRefIdeal.main_arg0) = m' ((c.tc : Thread Cert.FfnBwdWguRefIdeal.nD Cert.FfnBwdWguRefIdeal.τ).loc Cert.FfnBwdWguRefIdeal.main_arg0)
          ∧ r.2.mem ((c.tc : Thread Cert.FfnBwdWguRefIdeal.nD Cert.FfnBwdWguRefIdeal.τ).loc Cert.FfnBwdWguRefIdeal.main_arg1) = m' ((c.tc : Thread Cert.FfnBwdWguRefIdeal.nD Cert.FfnBwdWguRefIdeal.τ).loc Cert.FfnBwdWguRefIdeal.main_arg1)
          ∧ r.2.mem ((c.tc : Thread Cert.FfnBwdWguRefIdeal.nD Cert.FfnBwdWguRefIdeal.τ).loc Cert.FfnBwdWguRefIdeal.main_arg2) = m' ((c.tc : Thread Cert.FfnBwdWguRefIdeal.nD Cert.FfnBwdWguRefIdeal.τ).loc Cert.FfnBwdWguRefIdeal.main_arg2))

def preserves_FfnBwdWd_FfnBwdWdIdeal : Prop :=
  True

def algebraic_FfnBwdWdIdeal_FfnBwdWdRefIdeal [hFfnBwdWdIdeal : Cert.FfnBwdWdIdeal.Facts] [hFfnBwdWdRefIdeal : Cert.FfnBwdWdRefIdeal.Facts] : Prop :=
  ∀ (m : (ℓ : Loc Cert.FfnBwdWdIdeal.nD Cert.FfnBwdWdIdeal.τ Cert.FfnBwdWdIdeal.sig) → Buf (Elt Ideal) ℓ) (g : Dev Cert.FfnBwdWdIdeal.nD → PrngReg)
    (m' : (ℓ : Loc Cert.FfnBwdWdRefIdeal.nD Cert.FfnBwdWdRefIdeal.τ Cert.FfnBwdWdRefIdeal.sig) → Buf (Elt Ideal) ℓ) (g' : Dev Cert.FfnBwdWdRefIdeal.nD → PrngReg), Pre_FfnBwdWdIdeal m →
    (∀ c : Dev Cert.FfnBwdWdIdeal.nD,
      m' ((c.tc : Thread Cert.FfnBwdWdRefIdeal.nD Cert.FfnBwdWdRefIdeal.τ).loc Cert.FfnBwdWdRefIdeal.main_arg0) = m ((c.tc : Thread Cert.FfnBwdWdIdeal.nD Cert.FfnBwdWdIdeal.τ).loc Cert.FfnBwdWdIdeal.main_arg0)
      ∧ m' ((c.tc : Thread Cert.FfnBwdWdRefIdeal.nD Cert.FfnBwdWdRefIdeal.τ).loc Cert.FfnBwdWdRefIdeal.main_arg1) = m ((c.tc : Thread Cert.FfnBwdWdIdeal.nD Cert.FfnBwdWdIdeal.τ).loc Cert.FfnBwdWdIdeal.main_arg1)) →
    ∃ (v0 : (c : Dev Cert.FfnBwdWdIdeal.nD) → Buf (Elt Ideal) ((c.tc : Thread Cert.FfnBwdWdIdeal.nD Cert.FfnBwdWdIdeal.τ).loc Cert.FfnBwdWdIdeal.main_v4)),
      θ_run (Cert.FfnBwdWdIdeal.defs (F := Ideal)) (onTc (τ := Cert.FfnBwdWdIdeal.τ) (Cert.FfnBwdWdIdeal.main (F := Ideal))) ⟨m, fun _ => 0, g⟩ (fun r => ∀ c : Dev Cert.FfnBwdWdIdeal.nD,
          r.2.mem ((c.tc : Thread Cert.FfnBwdWdIdeal.nD Cert.FfnBwdWdIdeal.τ).loc Cert.FfnBwdWdIdeal.main_v4) = v0 c
          ∧ r.2.mem ((c.tc : Thread Cert.FfnBwdWdIdeal.nD Cert.FfnBwdWdIdeal.τ).loc Cert.FfnBwdWdIdeal.main_arg0) = m ((c.tc : Thread Cert.FfnBwdWdIdeal.nD Cert.FfnBwdWdIdeal.τ).loc Cert.FfnBwdWdIdeal.main_arg0)
          ∧ r.2.mem ((c.tc : Thread Cert.FfnBwdWdIdeal.nD Cert.FfnBwdWdIdeal.τ).loc Cert.FfnBwdWdIdeal.main_arg1) = m ((c.tc : Thread Cert.FfnBwdWdIdeal.nD Cert.FfnBwdWdIdeal.τ).loc Cert.FfnBwdWdIdeal.main_arg1))
      ∧ θ_run (Cert.FfnBwdWdRefIdeal.defs (F := Ideal)) (onTc (τ := Cert.FfnBwdWdRefIdeal.τ) (Cert.FfnBwdWdRefIdeal.main (F := Ideal))) ⟨m', fun _ => 0, g'⟩ (fun r => ∀ c : Dev Cert.FfnBwdWdRefIdeal.nD,
          r.2.mem ((c.tc : Thread Cert.FfnBwdWdRefIdeal.nD Cert.FfnBwdWdRefIdeal.τ).loc Cert.FfnBwdWdRefIdeal.main_v3) = v0 c
          ∧ r.2.mem ((c.tc : Thread Cert.FfnBwdWdRefIdeal.nD Cert.FfnBwdWdRefIdeal.τ).loc Cert.FfnBwdWdRefIdeal.main_arg0) = m' ((c.tc : Thread Cert.FfnBwdWdRefIdeal.nD Cert.FfnBwdWdRefIdeal.τ).loc Cert.FfnBwdWdRefIdeal.main_arg0)
          ∧ r.2.mem ((c.tc : Thread Cert.FfnBwdWdRefIdeal.nD Cert.FfnBwdWdRefIdeal.τ).loc Cert.FfnBwdWdRefIdeal.main_arg1) = m' ((c.tc : Thread Cert.FfnBwdWdRefIdeal.nD Cert.FfnBwdWdRefIdeal.τ).loc Cert.FfnBwdWdRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v2_0)) (v1 : (c : Dev Cert.AdamIdeal.nD) → Buf (Elt Ideal) ((c.tc : Thread Cert.AdamIdeal.nD Cert.AdamIdeal.τ).loc Cert.AdamIdeal.main_v2_1)) (v2 : (c : Dev Cert.AdamIdeal.nD) → Buf (Elt Ideal) ((c.tc : Thread Cert.AdamIdeal.nD Cert.AdamIdeal.τ).loc Cert.AdamIdeal.main_v2_2)) (v3 : (c : Dev Cert.AdamIdeal.nD) → Buf (Elt Ideal) ((c.tc : Thread Cert.AdamIdeal.nD Cert.AdamIdeal.τ).loc Cert.AdamIdeal.main_v2_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v2_0) = v0 c
          ∧ r.2.mem ((c.tc : Thread Cert.AdamIdeal.nD Cert.AdamIdeal.τ).loc Cert.AdamIdeal.main_v2_1) = v1 c
          ∧ r.2.mem ((c.tc : Thread Cert.AdamIdeal.nD Cert.AdamIdeal.τ).loc Cert.AdamIdeal.main_v2_2) = v2 c
          ∧ r.2.mem ((c.tc : Thread Cert.AdamIdeal.nD Cert.AdamIdeal.τ).loc Cert.AdamIdeal.main_v2_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_ModGrad_ModGradIdeal : Prop :=
  True

def algebraic_ModGradIdeal_ModGradRefIdeal [hModGradIdeal : Cert.ModGradIdeal.Facts] [hModGradRefIdeal : Cert.ModGradRefIdeal.Facts] : Prop :=
  ∀ (m : (ℓ : Loc Cert.ModGradIdeal.nD Cert.ModGradIdeal.τ Cert.ModGradIdeal.sig) → Buf (Elt Ideal) ℓ) (g : Dev Cert.ModGradIdeal.nD → PrngReg)
    (m' : (ℓ : Loc Cert.ModGradRefIdeal.nD Cert.ModGradRefIdeal.τ Cert.ModGradRefIdeal.sig) → Buf (Elt Ideal) ℓ) (g' : Dev Cert.ModGradRefIdeal.nD → PrngReg), Pre_ModGradIdeal m →
    (∀ c : Dev Cert.ModGradIdeal.nD,
      m' ((c.tc : Thread Cert.ModGradRefIdeal.nD Cert.ModGradRefIdeal.τ).loc Cert.ModGradRefIdeal.main_arg0) = m ((c.tc : Thread Cert.ModGradIdeal.nD Cert.ModGradIdeal.τ).loc Cert.ModGradIdeal.main_arg0)
      ∧ m' ((c.tc : Thread Cert.ModGradRefIdeal.nD Cert.ModGradRefIdeal.τ).loc Cert.ModGradRefIdeal.main_arg1) = m ((c.tc : Thread Cert.ModGradIdeal.nD Cert.ModGradIdeal.τ).loc Cert.ModGradIdeal.main_arg1)
      ∧ m' ((c.tc : Thread Cert.ModGradRefIdeal.nD Cert.ModGradRefIdeal.τ).loc Cert.ModGradRefIdeal.main_arg2) = m ((c.tc : Thread Cert.ModGradIdeal.nD Cert.ModGradIdeal.τ).loc Cert.ModGradIdeal.main_arg2)
      ∧ m' ((c.tc : Thread Cert.ModGradRefIdeal.nD Cert.ModGradRefIdeal.τ).loc Cert.ModGradRefIdeal.main_arg3) = m ((c.tc : Thread Cert.ModGradIdeal.nD Cert.ModGradIdeal.τ).loc Cert.ModGradIdeal.main_arg3)
      ∧ m' ((c.tc : Thread Cert.ModGradRefIdeal.nD Cert.ModGradRefIdeal.τ).loc Cert.ModGradRefIdeal.main_arg4) = m ((c.tc : Thread Cert.ModGradIdeal.nD Cert.ModGradIdeal.τ).loc Cert.ModGradIdeal.main_arg4)) →
    ∃ (v0 : (c : Dev Cert.ModGradIdeal.nD) → Buf (Elt Ideal) ((c.tc : Thread Cert.ModGradIdeal.nD Cert.ModGradIdeal.τ).loc Cert.ModGradIdeal.main_v4_0)) (v1 : (c : Dev Cert.ModGradIdeal.nD) → Buf (Elt Ideal) ((c.tc : Thread Cert.ModGradIdeal.nD Cert.ModGradIdeal.τ).loc Cert.ModGradIdeal.main_v4_1)) (v2 : (c : Dev Cert.ModGradIdeal.nD) → Buf (Elt Ideal) ((c.tc : Thread Cert.ModGradIdeal.nD Cert.ModGradIdeal.τ).loc Cert.ModGradIdeal.main_v4_2)) (v3 : (c : Dev Cert.ModGradIdeal.nD) → Buf (Elt Ideal) ((c.tc : Thread Cert.ModGradIdeal.nD Cert.ModGradIdeal.τ).loc Cert.ModGradIdeal.main_v4_3)),
      θ_run (Cert.ModGradIdeal.defs (F := Ideal)) (onTc (τ := Cert.ModGradIdeal.τ) (Cert.ModGradIdeal.main (F := Ideal))) ⟨m, fun _ => 0, g⟩ (fun r => ∀ c : Dev Cert.ModGradIdeal.nD,
          r.2.mem ((c.tc : Thread Cert.ModGradIdeal.nD Cert.ModGradIdeal.τ).loc Cert.ModGradIdeal.main_v4_0) = v0 c
          ∧ r.2.mem ((c.tc : Thread Cert.ModGradIdeal.nD Cert.ModGradIdeal.τ).loc Cert.ModGradIdeal.main_v4_1) = v1 c
          ∧ r.2.mem ((c.tc : Thread Cert.ModGradIdeal.nD Cert.ModGradIdeal.τ).loc Cert.ModGradIdeal.main_v4_2) = v2 c
          ∧ r.2.mem ((c.tc : Thread Cert.ModGradIdeal.nD Cert.ModGradIdeal.τ).loc Cert.ModGradIdeal.main_v4_3) = v3 c
          ∧ r.2.mem ((c.tc : Thread Cert.ModGradIdeal.nD Cert.ModGradIdeal.τ).loc Cert.ModGradIdeal.main_arg0) = m ((c.tc : Thread Cert.ModGradIdeal.nD Cert.ModGradIdeal.τ).loc Cert.ModGradIdeal.main_arg0)
          ∧ r.2.mem ((c.tc : Thread Cert.ModGradIdeal.nD Cert.ModGradIdeal.τ).loc Cert.ModGradIdeal.main_arg1) = m ((c.tc : Thread Cert.ModGradIdeal.nD Cert.ModGradIdeal.τ).loc Cert.ModGradIdeal.main_arg1)
          ∧ r.2.mem ((c.tc : Thread Cert.ModGradIdeal.nD Cert.ModGradIdeal.τ).loc Cert.ModGradIdeal.main_arg2) = m ((c.tc : Thread Cert.ModGradIdeal.nD Cert.ModGradIdeal.τ).loc Cert.ModGradIdeal.main_arg2)
          ∧ r.2.mem ((c.tc : Thread Cert.ModGradIdeal.nD Cert.ModGradIdeal.τ).loc Cert.ModGradIdeal.main_arg3) = m ((c.tc : Thread Cert.ModGradIdeal.nD Cert.ModGradIdeal.τ).loc Cert.ModGradIdeal.main_arg3)
          ∧ r.2.mem ((c.tc : Thread Cert.ModGradIdeal.nD Cert.ModGradIdeal.τ).loc Cert.ModGradIdeal.main_arg4) = m ((c.tc : Thread Cert.ModGradIdeal.nD Cert.ModGradIdeal.τ).loc Cert.ModGradIdeal.main_arg4))
      ∧ θ_run (Cert.ModGradRefIdeal.defs (F := Ideal)) (onTc (τ := Cert.ModGradRefIdeal.τ) (Cert.ModGradRefIdeal.main (F := Ideal))) ⟨m', fun _ => 0, g'⟩ (fun r => ∀ c : Dev Cert.ModGradRefIdeal.nD,
          r.2.mem ((c.tc : Thread Cert.ModGradRefIdeal.nD Cert.ModGradRefIdeal.τ).loc Cert.ModGradRefIdeal.main_v5) = v0 c
          ∧ r.2.mem ((c.tc : Thread Cert.ModGradRefIdeal.nD Cert.ModGradRefIdeal.τ).loc Cert.ModGradRefIdeal.main_v29) = v1 c
          ∧ r.2.mem ((c.tc : Thread Cert.ModGradRefIdeal.nD Cert.ModGradRefIdeal.τ).loc Cert.ModGradRefIdeal.main_v10) = v2 c
          ∧ r.2.mem ((c.tc : Thread Cert.ModGradRefIdeal.nD Cert.ModGradRefIdeal.τ).loc Cert.ModGradRefIdeal.main_v16) = v3 c
          ∧ r.2.mem ((c.tc : Thread Cert.ModGradRefIdeal.nD Cert.ModGradRefIdeal.τ).loc Cert.ModGradRefIdeal.main_arg0) = m' ((c.tc : Thread Cert.ModGradRefIdeal.nD Cert.ModGradRefIdeal.τ).loc Cert.ModGradRefIdeal.main_arg0)
          ∧ r.2.mem ((c.tc : Thread Cert.ModGradRefIdeal.nD Cert.ModGradRefIdeal.τ).loc Cert.ModGradRefIdeal.main_arg1) = m' ((c.tc : Thread Cert.ModGradRefIdeal.nD Cert.ModGradRefIdeal.τ).loc Cert.ModGradRefIdeal.main_arg1)
          ∧ r.2.mem ((c.tc : Thread Cert.ModGradRefIdeal.nD Cert.ModGradRefIdeal.τ).loc Cert.ModGradRefIdeal.main_arg2) = m' ((c.tc : Thread Cert.ModGradRefIdeal.nD Cert.ModGradRefIdeal.τ).loc Cert.ModGradRefIdeal.main_arg2)
          ∧ r.2.mem ((c.tc : Thread Cert.ModGradRefIdeal.nD Cert.ModGradRefIdeal.τ).loc Cert.ModGradRefIdeal.main_arg3) = m' ((c.tc : Thread Cert.ModGradRefIdeal.nD Cert.ModGradRefIdeal.τ).loc Cert.ModGradRefIdeal.main_arg3)
          ∧ r.2.mem ((c.tc : Thread Cert.ModGradRefIdeal.nD Cert.ModGradRefIdeal.τ).loc Cert.ModGradRefIdeal.main_arg4) = m' ((c.tc : Thread Cert.ModGradRefIdeal.nD Cert.ModGradRefIdeal.τ).loc Cert.ModGradRefIdeal.main_arg4))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0))

def preserves_PairAdd_PairAddIdeal : Prop :=
  True

def algebraic_PairAddIdeal_PairAddRefIdeal [hPairAddIdeal : Cert.PairAddIdeal.Facts] [hPairAddRefIdeal : Cert.PairAddRefIdeal.Facts] [hPre_core_number : Cert.Pre_core_number.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.PairAddRefIdeal.nD Cert.PairAddRefIdeal.τ Cert.PairAddRefIdeal.sig) → Buf (Elt Ideal) ℓ) (g' : Dev Cert.PairAddRefIdeal.nD → PrngReg), Pre_PairAddIdeal m →
    (∀ c : Dev Cert.PairAddIdeal.nD,
      m' ((c.tc : Thread Cert.PairAddRefIdeal.nD Cert.PairAddRefIdeal.τ).loc Cert.PairAddRefIdeal.main_arg0) = m ((c.tc : Thread Cert.PairAddIdeal.nD Cert.PairAddIdeal.τ).loc Cert.PairAddIdeal.main_arg0)
      ∧ m' ((c.tc : Thread Cert.PairAddRefIdeal.nD Cert.PairAddRefIdeal.τ).loc Cert.PairAddRefIdeal.main_arg1) = m ((c.tc : Thread Cert.PairAddIdeal.nD Cert.PairAddIdeal.τ).loc Cert.PairAddIdeal.main_arg1)
      ∧ m' ((c.tc : Thread Cert.PairAddRefIdeal.nD Cert.PairAddRefIdeal.τ).loc Cert.PairAddRefIdeal.main_arg2) = m ((c.tc : Thread Cert.PairAddIdeal.nD Cert.PairAddIdeal.τ).loc Cert.PairAddIdeal.main_arg2)) →
    ∃ (v0 : (c : Dev Cert.PairAddIdeal.nD) → Buf (Elt Ideal) ((c.tc : Thread Cert.PairAddIdeal.nD Cert.PairAddIdeal.τ).loc Cert.PairAddIdeal.main_v0)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v0) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
          ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ θ_run (Cert.PairAddRefIdeal.defs (F := Ideal)) (onTc (τ := Cert.PairAddRefIdeal.τ) (Cert.PairAddRefIdeal.main (F := Ideal))) ⟨m', fun _ => 0, g'⟩ (fun r => ∀ c : Dev Cert.PairAddRefIdeal.nD,
          r.2.mem ((c.tc : Thread Cert.PairAddRefIdeal.nD Cert.PairAddRefIdeal.τ).loc Cert.PairAddRefIdeal.main_v11) = v0 c
          ∧ r.2.mem ((c.tc : Thread Cert.PairAddRefIdeal.nD Cert.PairAddRefIdeal.τ).loc Cert.PairAddRefIdeal.main_arg0) = m' ((c.tc : Thread Cert.PairAddRefIdeal.nD Cert.PairAddRefIdeal.τ).loc Cert.PairAddRefIdeal.main_arg0)
          ∧ r.2.mem ((c.tc : Thread Cert.PairAddRefIdeal.nD Cert.PairAddRefIdeal.τ).loc Cert.PairAddRefIdeal.main_arg1) = m' ((c.tc : Thread Cert.PairAddRefIdeal.nD Cert.PairAddRefIdeal.τ).loc Cert.PairAddRefIdeal.main_arg1)
          ∧ r.2.mem ((c.tc : Thread Cert.PairAddRefIdeal.nD Cert.PairAddRefIdeal.τ).loc Cert.PairAddRefIdeal.main_arg2) = m' ((c.tc : Thread Cert.PairAddRefIdeal.nD Cert.PairAddRefIdeal.τ).loc Cert.PairAddRefIdeal.main_arg2))

def Claim : Prop :=
  ∃ (hGate : Cert.Gate.Facts) (hGateIdeal : Cert.GateIdeal.Facts) (hGateRefIdeal : Cert.GateRefIdeal.Facts) (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hWindow : Cert.Window.Facts) (hWindowIdeal : Cert.WindowIdeal.Facts) (hWindowRefIdeal : Cert.WindowRefIdeal.Facts) (hAttn : Cert.Attn.Facts) (hAttnIdeal : Cert.AttnIdeal.Facts) (hAttnRefIdeal : Cert.AttnRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hPool : Cert.Pool.Facts) (hPoolIdeal : Cert.PoolIdeal.Facts) (hPoolRefIdeal : Cert.PoolRefIdeal.Facts) (hAttnFwd : Cert.AttnFwd.Facts) (hAttnFwdIdeal : Cert.AttnFwdIdeal.Facts) (hAttnFwdRefIdeal : Cert.AttnFwdRefIdeal.Facts) (hStart : Cert.Start.Facts) (hStartIdeal : Cert.StartIdeal.Facts) (hStartRefIdeal : Cert.StartRefIdeal.Facts) (hResid : Cert.Resid.Facts) (hResidIdeal : Cert.ResidIdeal.Facts) (hResidRefIdeal : Cert.ResidRefIdeal.Facts) (hConvFwd : Cert.ConvFwd.Facts) (hConvFwdIdeal : Cert.ConvFwdIdeal.Facts) (hConvFwdRefIdeal : Cert.ConvFwdRefIdeal.Facts) (hPoolFwd : Cert.PoolFwd.Facts) (hPoolFwdIdeal : Cert.PoolFwdIdeal.Facts) (hPoolFwdRefIdeal : Cert.PoolFwdRefIdeal.Facts) (hFfnFwd : Cert.FfnFwd.Facts) (hFfnFwdIdeal : Cert.FfnFwdIdeal.Facts) (hFfnFwdRefIdeal : Cert.FfnFwdRefIdeal.Facts) (hModProj : Cert.ModProj.Facts) (hModProjIdeal : Cert.ModProjIdeal.Facts) (hModProjRefIdeal : Cert.ModProjRefIdeal.Facts) (hProjFwd : Cert.ProjFwd.Facts) (hProjFwdIdeal : Cert.ProjFwdIdeal.Facts) (hProjFwdRefIdeal : Cert.ProjFwdRefIdeal.Facts) (hProjBwdX : Cert.ProjBwdX.Facts) (hProjBwdXIdeal : Cert.ProjBwdXIdeal.Facts) (hProjBwdXRefIdeal : Cert.ProjBwdXRefIdeal.Facts) (hProjBwdW : Cert.ProjBwdW.Facts) (hProjBwdWIdeal : Cert.ProjBwdWIdeal.Facts) (hProjBwdWRefIdeal : Cert.ProjBwdWRefIdeal.Facts) (hDenseFwd : Cert.DenseFwd.Facts) (hDenseFwdIdeal : Cert.DenseFwdIdeal.Facts) (hDenseFwdRefIdeal : Cert.DenseFwdRefIdeal.Facts) (hDenseBwdX : Cert.DenseBwdX.Facts) (hDenseBwdXIdeal : Cert.DenseBwdXIdeal.Facts) (hDenseBwdXRefIdeal : Cert.DenseBwdXRefIdeal.Facts) (hDenseBwdW : Cert.DenseBwdW.Facts) (hDenseBwdWIdeal : Cert.DenseBwdWIdeal.Facts) (hDenseBwdWRefIdeal : Cert.DenseBwdWRefIdeal.Facts) (hFfnBwdX : Cert.FfnBwdX.Facts) (hFfnBwdXIdeal : Cert.FfnBwdXIdeal.Facts) (hFfnBwdXRefIdeal : Cert.FfnBwdXRefIdeal.Facts) (hFfnBwdWgu : Cert.FfnBwdWgu.Facts) (hFfnBwdWguIdeal : Cert.FfnBwdWguIdeal.Facts) (hFfnBwdWguRefIdeal : Cert.FfnBwdWguRefIdeal.Facts) (hFfnBwdWd : Cert.FfnBwdWd.Facts) (hFfnBwdWdIdeal : Cert.FfnBwdWdIdeal.Facts) (hFfnBwdWdRefIdeal : Cert.FfnBwdWdRefIdeal.Facts) (hAdam : Cert.Adam.Facts) (hAdamIdeal : Cert.AdamIdeal.Facts) (hAdamRefIdeal : Cert.AdamRefIdeal.Facts) (hModGrad : Cert.ModGrad.Facts) (hModGradIdeal : Cert.ModGradIdeal.Facts) (hModGradRefIdeal : Cert.ModGradRefIdeal.Facts) (hSumDev : Cert.SumDev.Facts) (hSumDevIdeal : Cert.SumDevIdeal.Facts) (hSumDevRefIdeal : Cert.SumDevRefIdeal.Facts) (hPairAdd : Cert.PairAdd.Facts) (hPairAddIdeal : Cert.PairAddIdeal.Facts) (hPairAddRefIdeal : Cert.PairAddRefIdeal.Facts) (hPre_ffn_finite : Cert.Pre_ffn_finite.Facts) (hPre_window_finite : Cert.Pre_window_finite.Facts) (hPre_attn_finite : Cert.Pre_attn_finite.Facts) (hPre_norm_finite : Cert.Pre_norm_finite.Facts) (hPre_loss_finite : Cert.Pre_loss_finite.Facts) (hPre_attn_fwd_finite : Cert.Pre_attn_fwd_finite.Facts) (hPre_pool_fwd_finite : Cert.Pre_pool_fwd_finite.Facts) (hPre_core_number : Cert.Pre_core_number.Facts),
    quiescent_Gate (hGate := hGate)
    ∧ quiescent_GateIdeal (hGateIdeal := hGateIdeal)
    ∧ quiescent_GateRefIdeal (hGateRefIdeal := hGateRefIdeal)
    ∧ quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Window (hWindow := hWindow)
    ∧ quiescent_WindowIdeal (hWindowIdeal := hWindowIdeal)
    ∧ quiescent_WindowIdeal_pre_window_finite (hWindowIdeal := hWindowIdeal) (hPre_window_finite := hPre_window_finite)
    ∧ quiescent_WindowRefIdeal (hWindowRefIdeal := hWindowRefIdeal)
    ∧ quiescent_WindowRefIdeal_pre_window_finite (hWindowRefIdeal := hWindowRefIdeal) (hPre_window_finite := hPre_window_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Pool (hPool := hPool)
    ∧ quiescent_PoolIdeal (hPoolIdeal := hPoolIdeal)
    ∧ quiescent_PoolRefIdeal (hPoolRefIdeal := hPoolRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_Start (hStart := hStart)
    ∧ quiescent_StartIdeal (hStartIdeal := hStartIdeal)
    ∧ quiescent_StartRefIdeal (hStartRefIdeal := hStartRefIdeal)
    ∧ quiescent_Resid (hResid := hResid)
    ∧ quiescent_ResidIdeal (hResidIdeal := hResidIdeal)
    ∧ quiescent_ResidRefIdeal (hResidRefIdeal := hResidRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ModProj (hModProj := hModProj)
    ∧ quiescent_ModProjIdeal (hModProjIdeal := hModProjIdeal)
    ∧ quiescent_ModProjRefIdeal (hModProjRefIdeal := hModProjRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_ProjBwdX (hProjBwdX := hProjBwdX)
    ∧ quiescent_ProjBwdXIdeal (hProjBwdXIdeal := hProjBwdXIdeal)
    ∧ quiescent_ProjBwdXRefIdeal (hProjBwdXRefIdeal := hProjBwdXRefIdeal)
    ∧ quiescent_ProjBwdW (hProjBwdW := hProjBwdW)
    ∧ quiescent_ProjBwdWIdeal (hProjBwdWIdeal := hProjBwdWIdeal)
    ∧ quiescent_ProjBwdWRefIdeal (hProjBwdWRefIdeal := hProjBwdWRefIdeal)
    ∧ quiescent_DenseFwd (hDenseFwd := hDenseFwd)
    ∧ quiescent_DenseFwdIdeal (hDenseFwdIdeal := hDenseFwdIdeal)
    ∧ quiescent_DenseFwdRefIdeal (hDenseFwdRefIdeal := hDenseFwdRefIdeal)
    ∧ quiescent_DenseBwdX (hDenseBwdX := hDenseBwdX)
    ∧ quiescent_DenseBwdXIdeal (hDenseBwdXIdeal := hDenseBwdXIdeal)
    ∧ quiescent_DenseBwdXRefIdeal (hDenseBwdXRefIdeal := hDenseBwdXRefIdeal)
    ∧ quiescent_DenseBwdW (hDenseBwdW := hDenseBwdW)
    ∧ quiescent_DenseBwdWIdeal (hDenseBwdWIdeal := hDenseBwdWIdeal)
    ∧ quiescent_DenseBwdWRefIdeal (hDenseBwdWRefIdeal := hDenseBwdWRefIdeal)
    ∧ quiescent_FfnBwdX (hFfnBwdX := hFfnBwdX)
    ∧ quiescent_FfnBwdXIdeal (hFfnBwdXIdeal := hFfnBwdXIdeal)
    ∧ quiescent_FfnBwdXRefIdeal (hFfnBwdXRefIdeal := hFfnBwdXRefIdeal)
    ∧ quiescent_FfnBwdWgu (hFfnBwdWgu := hFfnBwdWgu)
    ∧ quiescent_FfnBwdWguIdeal (hFfnBwdWguIdeal := hFfnBwdWguIdeal)
    ∧ quiescent_FfnBwdWguRefIdeal (hFfnBwdWguRefIdeal := hFfnBwdWguRefIdeal)
    ∧ quiescent_FfnBwdWd (hFfnBwdWd := hFfnBwdWd)
    ∧ quiescent_FfnBwdWdIdeal (hFfnBwdWdIdeal := hFfnBwdWdIdeal)
    ∧ quiescent_FfnBwdWdRefIdeal (hFfnBwdWdRefIdeal := hFfnBwdWdRefIdeal)
    ∧ quiescent_Adam (hAdam := hAdam)
    ∧ quiescent_AdamIdeal (hAdamIdeal := hAdamIdeal)
    ∧ quiescent_AdamRefIdeal (hAdamRefIdeal := hAdamRefIdeal)
    ∧ quiescent_ModGrad (hModGrad := hModGrad)
    ∧ quiescent_ModGradIdeal (hModGradIdeal := hModGradIdeal)
    ∧ quiescent_ModGradRefIdeal (hModGradRefIdeal := hModGradRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_PairAdd (hPairAdd := hPairAdd) (hPre_core_number := hPre_core_number)
    ∧ quiescent_PairAddIdeal (hPairAddIdeal := hPairAddIdeal) (hPre_core_number := hPre_core_number)
    ∧ quiescent_PairAddRefIdeal (hPairAddRefIdeal := hPairAddRefIdeal)
    ∧ quiescent_PairAddRefIdeal_pre_core_number (hPairAddRefIdeal := hPairAddRefIdeal) (hPre_core_number := hPre_core_number)
    ∧ preserves_Gate_GateIdeal
    ∧ algebraic_GateIdeal_GateRefIdeal (hGateIdeal := hGateIdeal) (hGateRefIdeal := hGateRefIdeal)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Window_WindowIdeal
    ∧ algebraic_WindowIdeal_WindowRefIdeal_pre_window_finite (hWindowIdeal := hWindowIdeal) (hWindowRefIdeal := hWindowRefIdeal) (hPre_window_finite := hPre_window_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Pool_PoolIdeal
    ∧ algebraic_PoolIdeal_PoolRefIdeal (hPoolIdeal := hPoolIdeal) (hPoolRefIdeal := hPoolRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_Start_StartIdeal
    ∧ algebraic_StartIdeal_StartRefIdeal (hStartIdeal := hStartIdeal) (hStartRefIdeal := hStartRefIdeal)
    ∧ preserves_Resid_ResidIdeal
    ∧ algebraic_ResidIdeal_ResidRefIdeal (hResidIdeal := hResidIdeal) (hResidRefIdeal := hResidRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ModProj_ModProjIdeal
    ∧ algebraic_ModProjIdeal_ModProjRefIdeal (hModProjIdeal := hModProjIdeal) (hModProjRefIdeal := hModProjRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_ProjBwdX_ProjBwdXIdeal
    ∧ algebraic_ProjBwdXIdeal_ProjBwdXRefIdeal (hProjBwdXIdeal := hProjBwdXIdeal) (hProjBwdXRefIdeal := hProjBwdXRefIdeal)
    ∧ preserves_ProjBwdW_ProjBwdWIdeal
    ∧ algebraic_ProjBwdWIdeal_ProjBwdWRefIdeal (hProjBwdWIdeal := hProjBwdWIdeal) (hProjBwdWRefIdeal := hProjBwdWRefIdeal)
    ∧ preserves_DenseFwd_DenseFwdIdeal
    ∧ algebraic_DenseFwdIdeal_DenseFwdRefIdeal (hDenseFwdIdeal := hDenseFwdIdeal) (hDenseFwdRefIdeal := hDenseFwdRefIdeal)
    ∧ preserves_DenseBwdX_DenseBwdXIdeal
    ∧ algebraic_DenseBwdXIdeal_DenseBwdXRefIdeal (hDenseBwdXIdeal := hDenseBwdXIdeal) (hDenseBwdXRefIdeal := hDenseBwdXRefIdeal)
    ∧ preserves_DenseBwdW_DenseBwdWIdeal
    ∧ algebraic_DenseBwdWIdeal_DenseBwdWRefIdeal (hDenseBwdWIdeal := hDenseBwdWIdeal) (hDenseBwdWRefIdeal := hDenseBwdWRefIdeal)
    ∧ preserves_FfnBwdX_FfnBwdXIdeal
    ∧ algebraic_FfnBwdXIdeal_FfnBwdXRefIdeal (hFfnBwdXIdeal := hFfnBwdXIdeal) (hFfnBwdXRefIdeal := hFfnBwdXRefIdeal)
    ∧ preserves_FfnBwdWgu_FfnBwdWguIdeal
    ∧ algebraic_FfnBwdWguIdeal_FfnBwdWguRefIdeal (hFfnBwdWguIdeal := hFfnBwdWguIdeal) (hFfnBwdWguRefIdeal := hFfnBwdWguRefIdeal)
    ∧ preserves_FfnBwdWd_FfnBwdWdIdeal
    ∧ algebraic_FfnBwdWdIdeal_FfnBwdWdRefIdeal (hFfnBwdWdIdeal := hFfnBwdWdIdeal) (hFfnBwdWdRefIdeal := hFfnBwdWdRefIdeal)
    ∧ preserves_Adam_AdamIdeal
    ∧ algebraic_AdamIdeal_AdamRefIdeal (hAdamIdeal := hAdamIdeal) (hAdamRefIdeal := hAdamRefIdeal)
    ∧ preserves_ModGrad_ModGradIdeal
    ∧ algebraic_ModGradIdeal_ModGradRefIdeal (hModGradIdeal := hModGradIdeal) (hModGradRefIdeal := hModGradRefIdeal)
    ∧ preserves_SumDev_SumDevIdeal
    ∧ algebraic_SumDevIdeal_SumDevRefIdeal (hSumDevIdeal := hSumDevIdeal) (hSumDevRefIdeal := hSumDevRefIdeal)
    ∧ preserves_PairAdd_PairAddIdeal
    ∧ algebraic_PairAddIdeal_PairAddRefIdeal (hPairAddIdeal := hPairAddIdeal) (hPairAddRefIdeal := hPairAddRefIdeal) (hPre_core_number := hPre_core_number)
-- ==== Pre_attn_finite.lean ====
abbrev S8192x6144 : Shape := ⟨2, ![8192, 6144]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x6144 .f32) (main_arg1 : FVec F S8192x2048 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_attn_fwd_finite.lean ====
abbrev S8192x6144 : Shape := ⟨2, ![8192, 6144]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x6144 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  main_v3
-- ==== Pre_core_number.lean ====
abbrev S1 : Shape := ⟨1, ![1]⟩
abbrev S8x2048x1408 : Shape := ⟨3, ![8, 2048, 1408]⟩
abbrev S4x2048x1408 : Shape := ⟨3, ![4, 2048, 1408]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x2048x1408 .bf16) (main_arg2 : FVec F S4x2048x1408 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_ffn_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .f32) (main_arg1 : FVec F S2048x5632 .f32) (main_arg2 : FVec F S2048x5632 .f32) (main_arg3 : FVec F S5632x2048 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : FVec F S5632x2048 .f32 := Host.absf main_arg3
  let main_cst_2 : FVec F S_ .f32 := constant S_ .f32 0x7F800000#32
  let main_v9 : FVec F S5632x2048 .f32 := broadcastInDim S5632x2048 ![] bcast_S_S5632x2048 main_cst_2
  let main_v10 : IVec S5632x2048 1 := cmpf .olt main_v8 main_v9
  let main_c_3 : IVec S_ 1 := constantI S_ 1 1#1
  let main_v11 : IVec S_ 1 := (fun x v => Host.reduce IntOp.andi x v reducesTo_S5632x2048_S_d0_1 h_S_) main_v10 main_c_3
  let main_v12 : FVec F S8192x2048 .f32 := Host.absf main_arg4
  let main_cst_4 : FVec F S_ .f32 := constant S_ .f32 0x7F800000#32
  let main_v13 : FVec F S8192x2048 .f32 := broadcastInDim S8192x2048 ![] bcast_S_S8192x2048 main_cst_4
  let main_v14 : IVec S8192x2048 1 := cmpf .olt main_v12 main_v13
  let main_c_5 : IVec S_ 1 := constantI S_ 1 1#1
  let main_v15 : IVec S_ 1 := (fun x v => Host.reduce IntOp.andi x v reducesTo_S8192x2048_S_d0_1 h_S_) main_v14 main_c_5
  fn_part1 (F := F) main_v3 main_v7 main_v11 main_v15
-- ==== Pre_loss_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S8192x2048 .f32) (main_v3 : IVec S_ 1) (main_v7 : IVec S_ 1) (main_v11 : IVec S_ 1) (main_v15 : IVec S_ 1) : IVec S_ 1 :=
  let main_v16 : FVec F S8192x2048 .f32 := Host.absf main_arg4
  let main_cst_6 : FVec F S_ .f32 := constant S_ .f32 0x7F800000#32
  let main_v17 : FVec F S8192x2048 .f32 := broadcastInDim S8192x2048 ![] bcast_S_S8192x2048 main_cst_6
  let main_v18 : IVec S8192x2048 1 := cmpf .olt main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_v3 main_v7 main_v11 main_v15
-- ==== Pre_norm_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .f32) (main_arg1 : FVec F S1x2048 .f32) (main_arg2 : FVec F S1x2048 .f32) (main_arg3 : FVec F S1x2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S8192x2048 .f32 := Host.absf main_arg5
  let main_cst_4 : FVec F S_ .f32 := constant S_ .f32 0x7F800000#32
  let main_v13 : FVec F S8192x2048 .f32 := broadcastInDim S8192x2048 ![] bcast_S_S8192x2048 main_cst_4
  let main_v14 : IVec S8192x2048 1 := cmpf .olt main_v12 main_v13
  let main_c_5 : IVec S_ 1 := constantI S_ 1 1#1
  let main_v15 : IVec S_ 1 := (fun x v => Host.reduce IntOp.andi x v reducesTo_S8192x2048_S_d0_1 h_S_) main_v14 main_c_5
  fn_part1 (F := F) main_v3 main_v7 main_v11 main_v15
-- ==== Pre_pool_fwd_finite.lean ====
abbrev S8192x2048 : Shape := ⟨2, ![8192, 2048]⟩
abbrev S4x512x512 : Shape := ⟨3, ![4, 512, 512]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S4x512x512 .f32) (main_arg2 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_window_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) : IVec S_ 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Gate.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .sgt arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Conv.lean ====
abbrev S8192x6144 : Shape := ⟨2, ![8192, 6144]⟩
abbrev S3x1x2048 : Shape := ⟨3, ![3, 1, 2048]⟩
abbrev S8192x2048 : Shape := ⟨2, ![8192, 2048]⟩
abbrev S256x2048 : Shape := ⟨2, ![256, 2048]⟩
abbrev S16x2048 : Shape := ⟨2, ![16, 2048]⟩
abbrev S256x6144 : Shape := ⟨2, ![256, 6144]⟩
abbrev S16x6144 : Shape := ⟨2, ![16, 6144]⟩
abbrev S1x1x512 : Shape := ⟨3, ![1, 1, 512]⟩
abbrev S1x512 : Shape := ⟨2, ![1, 512]⟩
abbrev S256x512 : Shape := ⟨2, ![256, 512]⟩
abbrev S16x512 : Shape := ⟨2, ![16, 512]⟩
abbrev S272x512 : Shape := ⟨2, ![272, 512]⟩
abbrev S512 : Shape := ⟨1, ![512]⟩

abbrev nBuf : Space → Nat
  | .hbm => 6
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S3x1x2048, .f32⟩
  | .hbm, ⟨2, _⟩ => ⟨S8192x2048, .f32⟩
  | .hbm, ⟨3, _⟩ => ⟨S8192x2048, .bf16⟩
  | .hbm, ⟨4, _⟩ => ⟨S8192x6144, .bf16⟩
  | .hbm, ⟨5, _⟩ => ⟨S3x1x2048, .f32⟩
  | .local _ .vmem, ⟨0, _⟩ => ⟨S256x2048, .bf16⟩
  | .local _ .vmem, ⟨1, _⟩ => ⟨S256x2048, .bf16⟩
  | .local _ .vmem, ⟨2, _⟩ => ⟨S16x2048, .bf16⟩
  | .local _ .vmem, ⟨3, _⟩ => ⟨S16x2048, .bf16⟩
  | .local _ .vmem, ⟨4, _⟩ => ⟨S256x6144, .f32⟩
  | .local _ .vmem, ⟨5, _⟩ => ⟨S256x6144, .f32⟩
  | .local _ .vmem, ⟨6, _⟩ => ⟨S16x6144, .f32⟩
  | .local _ .vmem, ⟨7, _⟩ => ⟨S16x6144, .f32⟩
  | .local _ .vmem, ⟨8, _⟩ => ⟨S16x6144, .f32⟩
  | .local _ .vmem, ⟨9, _⟩ => ⟨S16x6144, .f32⟩
  | .local _ .vmem, ⟨10, _⟩ => ⟨S3x1x2048, .f32⟩
  | .local _ .vmem, ⟨11, _⟩ => ⟨S256x6144, .bf16⟩
  | .local _ .vmem, ⟨12, _⟩ => ⟨S256x6144, .bf16⟩
  | .local _ .vmem, ⟨13, _⟩ => ⟨S3x1x2048, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_30 : BitVec 32 := 0#32
  let v72 : BitVec 1 := Scalar.cmpi .eq arg0 c0_i32_30
  let v73 : BitVec 32 := Scalar.extui v72
  let c0_i32_31 : BitVec 32 := 0#32
  let v74 : BitVec 1 := Scalar.cmpi .ne v73 c0_i32_31
  v74

def k0_cond2 (i : grid0.Coords) : BitVec 1 :=
  let arg0 : BitVec 32 := BitVec.ofNat 32 (i 0).val
  let c0_i32_32 : BitVec 32 := 0#32
  let v75 : BitVec 1 := Scalar.cmpi .sgt arg0 c0_i32_32
  let v76 : BitVec 32 := Scalar.extui v75
  let c0_i32_33 : BitVec 32 := 0#32
  let v77 : BitVec 1 := Scalar.cmpi .ne v76 c0_i32_33
  v77

def k0_cond3 (i : grid0.Coords) : BitVec 1 :=
  let arg0 : BitVec 32 := BitVec.ofNat 32 (i 0).val
  let c0_i32_73 : BitVec 32 := 0#32
  let v150 : BitVec 1 := Scalar.cmpi .eq arg0 c0_i32_73
  let v151 : BitVec 32 := Scalar.extui v150
  let c0_i32_74 : BitVec 32 := 0#32
  let v152 : BitVec 1 := Scalar.cmpi .ne v151 c0_i32_74
  v152

def k0_cond4 (i : grid0.Coords) : BitVec 1 :=
  let arg0 : BitVec 32 := BitVec.ofNat 32 (i 0).val
  let c0_i32_75 : BitVec 32 := 0#32
  let v153 : BitVec 1 := Scalar.cmpi .sgt arg0 c0_i32_75
  let v154 : BitVec 32 := Scalar.extui v153
  let c0_i32_76 : BitVec 32 := 0#32
  let v155 : BitVec 1 := Scalar.cmpi .ne v154 c0_i32_76
  v155

def k0_cond5 (i : grid0.Coords) : BitVec 1 :=
  let arg0 : BitVec 32 := BitVec.ofNat 32 (i 0).val
  let c0_i32_116 : BitVec 32 := 0#32
  let v228 : BitVec 1 := Scalar.cmpi .eq arg0 c0_i32_116
  let v229 : BitVec 32 := Scalar.extui v228
  let c0_i32_117 : BitVec 32 := 0#32
  let v230 : BitVec 1 := Scalar.cmpi .ne v229 c0_i32_117
  v230

def k0_cond6 (i : grid0.Coords) : BitVec 1 :=
  let arg0 : BitVec 32 := BitVec.ofNat 32 (i 0).val
  let c0_i32_118 : BitVec 32 := 0#32
  let v231 : BitVec 1 := Scalar.cmpi .sgt arg0 c0_i32_118
  let v232 : BitVec 32 := Scalar.extui v231
  let c0_i32_119 : BitVec 32 := 0#32
  let v233 : BitVec 1 := Scalar.cmpi .ne v232 c0_i32_119
  v233

def k0_cond7 (i : grid0.Coords) : BitVec 1 :=
  let arg0 : BitVec 32 := BitVec.ofNat 32 (i 0).val
  let c0_i32_159 : BitVec 32 := 0#32
  let v306 : BitVec 1 := Scalar.cmpi .eq arg0 c0_i32_159
  let v307 : BitVec 32 := Scalar.extui v306
  let c0_i32_160 : BitVec 32 := 0#32
  let v308 : BitVec 1 := Scalar.cmpi .ne v307 c0_i32_160
  v308

def k0_cond8 (i : grid0.Coords) : BitVec 1 :=
  let arg0 : BitVec 32 := BitVec.ofNat 32 (i 0).val
  let c0_i32_161 : BitVec 32 := 0#32
  let v309 : BitVec 1 := Scalar.cmpi .sgt arg0 c0_i32_161
  let v310 : BitVec 32 := Scalar.extui v309
  let c0_i32_162 : BitVec 32 := 0#32
  let v311 : BitVec 1 := Scalar.cmpi .ne v310 c0_i32_162
  v311

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8192x6144 : Shape := ⟨2, ![8192, 6144]⟩
abbrev S3x1x2048 : Shape := ⟨3, ![3, 1, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S3x1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S2x2048, .f32⟩
  | .hbm, ⟨9, _⟩ => ⟨S8194x2048, .f32⟩
  | .hbm, ⟨10, _⟩ => ⟨S_, .f32⟩
  | .hbm, ⟨11, _⟩ => ⟨S2x2048, .f32⟩
  | .hbm, ⟨12, _⟩ => ⟨S1x1x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S8194x2048, .f32⟩
  | .hbm, ⟨40, _⟩ => ⟨S1x1x2048, .f32⟩
  | .hbm, ⟨41, _⟩ => ⟨S_, .f32⟩
  | .hbm, ⟨42, _⟩ => ⟨S3x1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S8194x2048, .f32⟩
  | .hbm, ⟨51, _⟩ => ⟨S8194x2048, .f32⟩
  | .hbm, ⟨52, _⟩ => ⟨S1x1x2048, .f32⟩
  | .hbm, ⟨53, _⟩ => ⟨S_, .f32⟩
  | .hbm, ⟨54, _⟩ => ⟨S3x1x2048, .f32⟩
  | .hbm, ⟨55, _⟩ => ⟨S3x1x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S8194x2048, .f32⟩
  | .hbm, ⟨64, _⟩ => ⟨S8194x2048, .f32⟩
  | .hbm, ⟨65, _⟩ => ⟨S1x1x2048, .f32⟩
  | .hbm, ⟨66, _⟩ => ⟨S_, .f32⟩
  | .hbm, ⟨67, _⟩ => ⟨S3x1x2048, .f32⟩
  | .hbm, ⟨68, _⟩ => ⟨S3x1x2048, .f32⟩
  | .hbm, ⟨69, _⟩ => ⟨S2x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x6144, .f32⟩
  | .hbm, ⟨74, _⟩ => ⟨S8192x6144, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S2x8192x8x704 : Shape := ⟨4, ![2, 8192, 8, 704]⟩
abbrev S2x8x8192x704 : Shape := ⟨4, ![2, 8, 8192, 704]⟩
abbrev S8x704x2048 : Shape := ⟨3, ![8, 704, 2048]⟩
abbrev S8x8192x704 : Shape := ⟨3, ![8, 8192, 704]⟩
abbrev S512x2048 : Shape := ⟨2, ![512, 2048]⟩
abbrev S2x1x512x704 : Shape := ⟨4, ![2, 1, 512, 704]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩
abbrev S1x1x512x704 : Shape := ⟨4, ![1, 1, 512, 704]⟩

abbrev nBuf : Space → Nat
  | .hbm => 18
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S1x8192x5632, .f32⟩
  | .hbm, ⟨8, _⟩ => ⟨S1x8192x5632, .f32⟩
  | .hbm, ⟨9, _⟩ => ⟨S2x8192x5632, .f32⟩
  | .hbm, ⟨10, _⟩ => ⟨S2x8192x8x704, .f32⟩
  | .hbm, ⟨11, _⟩ => ⟨S2x8x8192x704, .f32⟩
  | .hbm, ⟨12, _⟩ => ⟨S2x8x8192x704, .bf16⟩
  | .hbm, ⟨13, _⟩ => ⟨S8x704x2048, .f32⟩
  | .hbm, ⟨14, _⟩ => ⟨S8x704x2048, .bf16⟩
  | .hbm, ⟨15, _⟩ => ⟨S8192x2048, .bf16⟩
  | .hbm, ⟨16, _⟩ => ⟨S8x8192x704, .bf16⟩
  | .hbm, ⟨17, _⟩ => ⟨S2x8x8192x704, .bf16⟩
  | .local _ .vmem, ⟨0, _⟩ => ⟨S512x2048, .bf16⟩
  | .local _ .vmem, ⟨1, _⟩ => ⟨S512x2048, .bf16⟩
  | .local _ .vmem, ⟨2, _⟩ => ⟨S2x1x512x704, .bf16⟩
  | .local _ .vmem, ⟨3, _⟩ => ⟨S2x1x512x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x512x704, .bf16⟩
  | .local _ .vmem, ⟨7, _⟩ => ⟨S1x512x704, .bf16⟩
  | .local _ .vmem, ⟨8, _⟩ => ⟨S2x1x512x704, .bf16⟩
  | .local _ .vmem, ⟨9, _⟩ => ⟨S2x1x512x704, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩
abbrev S1x8x8192x704 : Shape := ⟨4, ![1, 8, 8192, 704]⟩
abbrev S2x8x8192x704 : Shape := ⟨4, ![2, 8, 8192, 704]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2048, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x8x704, .f32⟩
  | .hbm, ⟨40, _⟩ => ⟨S8x8192x704, .f32⟩
  | .hbm, ⟨41, _⟩ => ⟨S8x8192x704, .bf16⟩
  | .hbm, ⟨42, _⟩ => ⟨S8192x8x704, .f32⟩
  | .hbm, ⟨43, _⟩ => ⟨S8x8192x704, .f32⟩
  | .hbm, ⟨44, _⟩ => ⟨S8192x8x704, .f32⟩
  | .hbm, ⟨45, _⟩ => ⟨S8x8192x704, .f32⟩
  | .hbm, ⟨46, _⟩ => ⟨S1x8x8192x704, .f32⟩
  | .hbm, ⟨47, _⟩ => ⟨S1x8x8192x704, .f32⟩
  | .hbm, ⟨48, _⟩ => ⟨S2x8x8192x704, .f32⟩
  | .hbm, ⟨49, _⟩ => ⟨S2x8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_v4_2 : Ref sig .tc := ⟨.hbm, 24, rfl⟩
abbrev main_call1_cst_1 : Ref sig .tc := ⟨.hbm, 25, rfl⟩
abbrev main_call1_v6 : Ref sig .tc := ⟨.hbm, 26, rfl⟩
abbrev main_call1_v7 : Ref sig .tc := ⟨.hbm, 27, rfl⟩
abbrev main_v4_1 : Ref sig .tc := ⟨.hbm, 28, rfl⟩
abbrev main_v4_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩

abbrev nD : Nat := 1
abbrev τ : Topo := Topo.v7x

variable {F : FTy → Type} [FloatOps F]
-- ==== Window.lean ====
abbrev S8192x2048 : Shape := ⟨2, ![8192, 2048]⟩
abbrev S512x2048 : Shape := ⟨2, ![512, 2048]⟩
abbrev S16x2048 : Shape := ⟨2, ![16, 2048]⟩
abbrev S528x1 : Shape := ⟨2, ![528, 1]⟩
abbrev S512x512 : Shape := ⟨2, ![512, 512]⟩
abbrev S16x512 : Shape := ⟨2, ![16, 512]⟩
abbrev S528x512 : Shape := ⟨2, ![528, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WindowRefIdeal.lean ====
abbrev S8192x2048 : Shape := ⟨2, ![8192, 2048]⟩
abbrev S8192x4x512 : Shape := ⟨3, ![8192, 4, 512]⟩
abbrev S8192x1x512 : Shape := ⟨3, ![8192, 1, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S8192 : Shape := ⟨1, ![8192]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩

abbrev nBuf : Space → Nat
  | .hbm => 173
  | .vmem => 0
  | .smem => 0
  | _ => 0

abbrev hbmTy0_0 (i : Nat) : BufTy := match i % 128 with
  | 0 => ⟨S8192x2048, .f32⟩
  | 1 => ⟨S8192x2048, .f32⟩
  | 2 => ⟨S8192x4x512, .f32⟩
  | 3 => ⟨S8192x1x512, .f32⟩
  | 4 => ⟨S8192x512, .f32⟩
  | 5 => ⟨S_, .f32⟩
  | 6 => ⟨S_, .f32⟩
  | 7 => ⟨S8192x512, .f32⟩
  | 8 => ⟨S_, .f32⟩
  | 9 => ⟨S2x512, .f32⟩
  | 10 => ⟨S8194x512, .f32⟩
  | 11 => ⟨S_, .f32⟩
  | 12 => ⟨S2x512, .f32⟩
  | 13 => ⟨S8192x512, .f32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .f32⟩
  | 22 => ⟨S8192x512, .f32⟩
  | 23 => ⟨S8192x1, .f32⟩
  | 24 => ⟨S8192x512, .f32⟩
  | 25 => ⟨S8192x512, .f32⟩
  | 26 => ⟨S8192x1x512, .f32⟩
  | 27 => ⟨S8192x512, .f32⟩
  | 28 => ⟨S_, .f32⟩
  | 29 => ⟨S_, .f32⟩
  | 30 => ⟨S8192x512, .f32⟩
  | 31 => ⟨S_, .f32⟩
  | 32 => ⟨S4x512, .f32⟩
  | 33 => ⟨S8196x512, .f32⟩
  | 34 => ⟨S_, .f32⟩
  | 35 => ⟨S4x512, .f32⟩
  | 36 => ⟨S8192x512, .f32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S8192x512, .f32⟩
  | 46 => ⟨S8192x1, .f32⟩
  | 47 => ⟨S8192x512, .f32⟩
  | 48 => ⟨S8192x512, .f32⟩
  | 49 => ⟨S8192x1x512, .f32⟩
  | 50 => ⟨S8192x512, .f32⟩
  | 51 => ⟨S_, .f32⟩
  | 52 => ⟨S_, .f32⟩
  | 53 => ⟨S8192x512, .f32⟩
  | 54 => ⟨S_, .f32⟩
  | 55 => ⟨S8x512, .f32⟩
  | 56 => ⟨S8200x512, .f32⟩
  | 57 => ⟨S_, .f32⟩
  | 58 => ⟨S8x512, .f32⟩
  | 59 => ⟨S8192x512, .f32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S8192x512, .f32⟩
  | 69 => ⟨S8192x1, .f32⟩
  | 70 => ⟨S8192x512, .f32⟩
  | 71 => ⟨S8192x512, .f32⟩
  | 72 => ⟨S8192x1x512, .f32⟩
  | 73 => ⟨S8192x512, .f32⟩
  | 74 => ⟨S_, .f32⟩
  | 75 => ⟨S_, .f32⟩
  | 76 => ⟨S8192x512, .f32⟩
  | 77 => ⟨S_, .f32⟩
  | 78 => ⟨S16x512, .f32⟩
  | 79 => ⟨S8208x512, .f32⟩
  | 80 => ⟨S_, .f32⟩
  | 81 => ⟨S16x512, .f32⟩
  | 82 => ⟨S8192x512, .f32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S8192x512, .f32⟩
  | 92 => ⟨S8192x1, .f32⟩
  | 93 => ⟨S8192x512, .f32⟩
  | 94 => ⟨S8192x512, .f32⟩
  | 95 => ⟨S8192x1x512, .f32⟩
  | 96 => ⟨S8192x1x512, .f32⟩
  | 97 => ⟨S8192x1x512, .f32⟩
  | 98 => ⟨S8192x1x512, .f32⟩
  | 99 => ⟨S8192x4x512, .f32⟩
  | 100 => ⟨S8192x4x512, .f32⟩
  | 101 => ⟨S8192x2048, .f32⟩
  | 102 => ⟨S8192x4x512, .f32⟩
  | 103 => ⟨S8192x4x512, .f32⟩
  | 104 => ⟨S8192x1x512, .f32⟩
  | 105 => ⟨S8192x512, .f32⟩
  | 106 => ⟨S8192x1x512, .f32⟩
  | 107 => ⟨S8192x512, .f32⟩
  | 108 => ⟨S8192x1x512, .f32⟩
  | 109 => ⟨S8192x512, .f32⟩
  | 110 => ⟨S8192x1x512, .f32⟩
  | 111 => ⟨S8192x512, .f32⟩
  | 112 => ⟨S8192x512, .f32⟩
  | 113 => ⟨S8192x512, .f32⟩
  | 114 => ⟨S8192x512, .f32⟩
  | 115 => ⟨S_, .f32⟩
  | 116 => ⟨S8208x512, .f32⟩
  | 117 => ⟨S16x512, .f32⟩
  | 118 => ⟨S8192x512, .f32⟩
  | 119 => ⟨S8192x512, .f32⟩
  | 120 => ⟨S_, .f32⟩
  | 121 => ⟨S_, .f32⟩
  | 122 => ⟨S8192x512, .f32⟩
  | 123 => ⟨S8192x1x512, .f32⟩
  | 124 => ⟨S_, .f32⟩
  | 125 => ⟨S8192x4x512, .f32⟩
  | 126 => ⟨S8192x4x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S_, .f32⟩
  | 3 => ⟨S8200x512, .f32⟩
  | 4 => ⟨S8x512, .f32⟩
  | 5 => ⟨S8192x512, .f32⟩
  | 6 => ⟨S8192x512, .f32⟩
  | 7 => ⟨S_, .f32⟩
  | 8 => ⟨S_, .f32⟩
  | 9 => ⟨S8192x512, .f32⟩
  | 10 => ⟨S8192x1x512, .f32⟩
  | 11 => ⟨S_, .f32⟩
  | 12 => ⟨S8192x4x512, .f32⟩
  | 13 => ⟨S8192x4x512, .f32⟩
  | 14 => ⟨S8192x512, .f32⟩
  | 15 => ⟨S8192x512, .f32⟩
  | 16 => ⟨S8192x512, .f32⟩
  | 17 => ⟨S_, .f32⟩
  | 18 => ⟨S8196x512, .f32⟩
  | 19 => ⟨S4x512, .f32⟩
  | 20 => ⟨S8192x512, .f32⟩
  | 21 => ⟨S8192x512, .f32⟩
  | 22 => ⟨S_, .f32⟩
  | 23 => ⟨S_, .f32⟩
  | 24 => ⟨S8192x512, .f32⟩
  | 25 => ⟨S8192x1x512, .f32⟩
  | 26 => ⟨S_, .f32⟩
  | 27 => ⟨S8192x4x512, .f32⟩
  | 28 => ⟨S8192x4x512, .f32⟩
  | 29 => ⟨S8192x512, .f32⟩
  | 30 => ⟨S8192x512, .f32⟩
  | 31 => ⟨S8192x512, .f32⟩
  | 32 => ⟨S_, .f32⟩
  | 33 => ⟨S8194x512, .f32⟩
  | 34 => ⟨S2x512, .f32⟩
  | 35 => ⟨S8192x512, .f32⟩
  | 36 => ⟨S8192x512, .f32⟩
  | 37 => ⟨S_, .f32⟩
  | 38 => ⟨S_, .f32⟩
  | 39 => ⟨S8192x512, .f32⟩
  | 40 => ⟨S8192x1x512, .f32⟩
  | 41 => ⟨S_, .f32⟩
  | 42 => ⟨S8192x4x512, .f32⟩
  | 43 => ⟨S8192x4x512, .f32⟩
  | 44 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_cst : Ref sig .tc := ⟨.hbm, 28, rfl⟩
abbrev main_call1_v0 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_cst : Ref sig .tc := ⟨.hbm, 51, rfl⟩
abbrev main_call2_v0 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call3_cst : Ref sig .tc := ⟨.hbm, 74, rfl⟩
abbrev main_call3_v0 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call4_cst : Ref sig .tc := ⟨.hbm, 120, rfl⟩
abbrev main_call4_v0 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_call5_cst : Ref sig .tc := ⟨.hbm, 135, rfl⟩
abbrev main_call5_v0 : Ref sig .tc := ⟨.hbm, 136, rfl⟩
abbrev main_v104 : Ref sig .tc := ⟨.hbm, 137, rfl⟩
abbrev main_v105 : Ref sig .tc := ⟨.hbm, 138, rfl⟩
abbrev main_cst_17 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_18 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_call6_cst : Ref sig .tc := ⟨.hbm, 150, rfl⟩
abbrev main_call6_v0 : Ref sig .tc := ⟨.hbm, 151, rfl⟩
abbrev main_v115 : Ref sig .tc := ⟨.hbm, 152, rfl⟩
abbrev main_v116 : Ref sig .tc := ⟨.hbm, 153, rfl⟩
abbrev main_cst_19 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_20 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call7_cst : Ref sig .tc := ⟨.hbm, 165, rfl⟩
abbrev main_call7_v0 : Ref sig .tc := ⟨.hbm, 166, rfl⟩
abbrev main_v126 : Ref sig .tc := ⟨.hbm, 167, rfl⟩
abbrev main_v127 : Ref sig .tc := ⟨.hbm, 168, rfl⟩
abbrev main_cst_21 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩

abbrev nD : Nat := 1
abbrev τ : Topo := Topo.v7x

variable {F : FTy → Type} [FloatOps F]
-- ==== Attn.lean ====
abbrev S8192x6144 : Shape := ⟨2, ![8192, 6144]⟩
abbrev S8192x2048 : Shape := ⟨2, ![8192, 2048]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S8192x16 : Shape := ⟨2, ![8192, 16]⟩
abbrev S8192x16x1 : Shape := ⟨3, ![8192, 16, 1]⟩
abbrev S16x16 : Shape := ⟨2, ![16, 16]⟩
abbrev S8192x128 : Shape := ⟨2, ![8192, 128]⟩
abbrev S256x256 : Shape := ⟨2, ![256, 256]⟩
abbrev S512x128 : Shape := ⟨2, ![512, 128]⟩
abbrev S512x1 : Shape := ⟨2, ![512, 1]⟩
abbrev S1x1 : Shape := ⟨2, ![1, 1]⟩
abbrev S256x128 : Shape := ⟨2, ![256, 128]⟩
abbrev S512x256 : Shape := ⟨2, ![512, 256]⟩
abbrev S512 : Shape := ⟨1, ![512]⟩

abbrev nBuf : Space → Nat
  | .hbm => 54
  | .vmem => 18
  | .smem => 1
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x3x16x128, .f32⟩
  | .hbm, ⟨3, _⟩ => ⟨S8192x1x16x128, .f32⟩
  | .hbm, ⟨4, _⟩ => ⟨S8192x16x128, .f32⟩
  | .hbm, ⟨5, _⟩ => ⟨S16x8192x128, .f32⟩
  | .hbm, ⟨6, _⟩ => ⟨S8192x3x16x128, .f32⟩
  | .hbm, ⟨7, _⟩ => ⟨S8192x1x16x128, .f32⟩
  | .hbm, ⟨8, _⟩ => ⟨S8192x16x128, .f32⟩
  | .hbm, ⟨9, _⟩ => ⟨S16x8192x128, .f32⟩
  | .hbm, ⟨10, _⟩ => ⟨S8192x3x16x128, .f32⟩
  | .hbm, ⟨11, _⟩ => ⟨S8192x1x16x128, .f32⟩
  | .hbm, ⟨12, _⟩ => ⟨S8192x16x128, .f32⟩
  | .hbm, ⟨13, _⟩ => ⟨S16x8192x128, .f32⟩
  | .hbm, ⟨14, _⟩ => ⟨S16x8192x8192, .f32⟩
  | .hbm, ⟨15, _⟩ => ⟨S_, .f32⟩
  | .hbm, ⟨16, _⟩ => ⟨S16x8192x8192, .f32⟩
  | .hbm, ⟨17, _⟩ => ⟨S16x8192x8192, .f32⟩
  | .hbm, ⟨18, _⟩ => ⟨S_, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S16x8192x8192, .i1⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S8192x16, .f32⟩
  | .hbm, ⟨44, _⟩ => ⟨S8192x16x1, .f32⟩
  | .hbm, ⟨45, _⟩ => ⟨S8192x16x128, .f32⟩
  | .hbm, ⟨46, _⟩ => ⟨S8192x2048, .f32⟩
  | .hbm, ⟨47, _⟩ => ⟨S_, .i32⟩
  | .hbm, ⟨48, _⟩ => ⟨S16x16, .i32⟩
  | .hbm, ⟨49, _⟩ => ⟨S8192x6144, .bf16⟩
  | .hbm, ⟨50, _⟩ => ⟨S8192x2048, .bf16⟩
  | .hbm, ⟨51, _⟩ => ⟨S8192x2048, .bf16⟩
  | .hbm, ⟨52, _⟩ => ⟨S8192x2048, .bf16⟩
  | .hbm, ⟨53, _⟩ => ⟨S8192x2048, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .f32⟩
  | .local _ .vmem, ⟨7, _⟩ => ⟨S8192x128, .f32⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .f32⟩
  | .local _ .vmem, ⟨17, _⟩ => ⟨S8192x128, .f32⟩
  | .local _ .smem, ⟨0, _⟩ => ⟨S16x16, .i32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v40_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v27 : BitVec 32 := Scalar.muli arg12 c512_i32
  v27
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v27 : BitVec 32 := Scalar.muli arg12 c512_i32
  let v28 : BitVec 32 := v27
  let v29 : Index := Scalar.indexCast v28
  let c0_13 : Index := 0#32
  ![v29.toNat, 0]
def k0_off2 (i : grid0.Coords) (k0_t1 : Fin k0_t1_loop.trips) : Fin 2 → Nat :=
  let arg0 : BitVec 32 := BitVec.ofNat 32 (i 0).val
  let v40 : Index := Scalar.indexCast arg0
  let c0_i32 : BitVec 32 := 0#32
  let c1_i32 : BitVec 32 := 1#32
  let arg12 : BitVec 32 := Scf.iv c0_i32 c1_i32 k0_t1
  let v41 : Index := Scalar.indexCast arg12
  ![v40.toNat, v41.toNat]
def k0_mult2 (v42 : BitVec 32) : BitVec 32 :=
  let c256_i32 : BitVec 32 := 256#32
  let v45 : BitVec 32 := Scalar.muli v42 c256_i32
  v45

def k0_off3 (v42 : BitVec 32) : Fin 2 → Nat :=
  let c256_i32 : BitVec 32 := 256#32
  let v45 : BitVec 32 := Scalar.muli v42 c256_i32
  let v46 : BitVec 32 := v45
  let v47 : Index := Scalar.indexCast v46
  let c0_18 : Index := 0#32
  ![v47.toNat, 0]
@[reducible] def k0_t2_loop (k0_t1 : Fin k0_t1_loop.trips) (v42 : BitVec 32) : Scf.Loop 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v55 : BitVec 32 := Scalar.subi v39 v42
  let c1_i32_22 : BitVec 32 := 1#32
  let v57 : BitVec 32 := Scalar.divsi v55 c1_i32_22
  let v58 : BitVec 32 := Scalar.muli v57 c1_i32_22
  let v59 : BitVec 32 := Scalar.addi v42 v58
  let c1_i32_23 : BitVec 32 := 1#32
  ⟨v42, v59, c1_i32_23⟩
def k0_mult3 (k0_t1 : Fin k0_t1_loop.trips) (v42 : BitVec 32) (k0_t2 : Fin (k0_t2_loop k0_t1 v42).trips) : BitVec 32 :=
  let c1_i32_23 : BitVec 32 := 1#32
  let arg13 : BitVec 32 := Scf.iv v42 c1_i32_23 k0_t2
  let c1_i32_77 : BitVec 32 := 1#32
  let v233 : BitVec 32 := Scalar.addi arg13 c1_i32_77
  let c256_i32_78 : BitVec 32 := 256#32
  let v234 : BitVec 32 := Scalar.muli v233 c256_i32_78
  v234
def k0_off4 (k0_t1 : Fin k0_t1_loop.trips) (v42 : BitVec 32) (k0_t2 : Fin (k0_t2_loop k0_t1 v42).trips) : Fin 2 → Nat :=
  let c1_i32_23 : BitVec 32 := 1#32
  let arg13 : BitVec 32 := Scf.iv v42 c1_i32_23 k0_t2
  let c1_i32_77 : BitVec 32 := 1#32
  let v233 : BitVec 32 := Scalar.addi arg13 c1_i32_77
  let c256_i32_78 : BitVec 32 := 256#32
  let v234 : BitVec 32 := Scalar.muli v233 c256_i32_78
  let v235 : BitVec 32 := v234
  let v236 : Index := Scalar.indexCast v235
  let c0_79 : Index := 0#32
  ![v236.toNat, 0]
def k0_mult4 (k0_t1 : Fin k0_t1_loop.trips) (v42 : BitVec 32) (k0_t2 : Fin (k0_t2_loop k0_t1 v42).trips) : BitVec 32 :=
  let c1_i32_23 : BitVec 32 := 1#32
  let arg13 : BitVec 32 := Scf.iv v42 c1_i32_23 k0_t2
  let c256_i32_83 : BitVec 32 := 256#32
  let v244 : BitVec 32 := Scalar.muli arg13 c256_i32_83
  v244
def k0_off5 (k0_t1 : Fin k0_t1_loop.trips) (v42 : BitVec 32) (k0_t2 : Fin (k0_t2_loop k0_t1 v42).trips) : Fin 2 → Nat :=
  let c1_i32_23 : BitVec 32 := 1#32
  let arg13 : BitVec 32 := Scf.iv v42 c1_i32_23 k0_t2
  let c256_i32_83 : BitVec 32 := 256#32
  let v244 : BitVec 32 := Scalar.muli arg13 c256_i32_83
  let v245 : BitVec 32 := v244
  let v285 : Index := Scalar.indexCast v245
  let c0_93 : Index := 0#32
  ![v285.toNat, 0]
@[reducible] def k0_t3_loop (k0_t1 : Fin k0_t1_loop.trips) (v42 : BitVec 32) : Scf.Loop 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v55 : BitVec 32 := Scalar.subi v39 v42
  let c1_i32_22 : BitVec 32 := 1#32
  let v57 : BitVec 32 := Scalar.divsi v55 c1_i32_22
  let v58 : BitVec 32 := Scalar.muli v57 c1_i32_22
  let v59 : BitVec 32 := Scalar.addi v42 v58
  let v56 : BitVec 32 := Scalar.addi v42 v55
  let c1_i32_24 : BitVec 32 := 1#32
  ⟨v59, v56, c1_i32_24⟩
def k0_mult5 (k0_t1 : Fin k0_t1_loop.trips) (v42 : BitVec 32) (k0_t3 : Fin (k0_t3_loop k0_t1 v42).trips) : BitVec 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v55 : BitVec 32 := Scalar.subi v39 v42
  let c1_i32_22 : BitVec 32 := 1#32
  let v57 : BitVec 32 := Scalar.divsi v55 c1_i32_22
  let v58 : BitVec 32 := Scalar.muli v57 c1_i32_22
  let v59 : BitVec 32 := Scalar.addi v42 v58
  let c1_i32_24 : BitVec 32 := 1#32
  let arg13 : BitVec 32 := Scf.iv v59 c1_i32_24 k0_t3
  let c1_i32_77 : BitVec 32 := 1#32
  let v233 : BitVec 32 := Scalar.addi arg13 c1_i32_77
  let c256_i32_78 : BitVec 32 := 256#32
  let v234 : BitVec 32 := Scalar.muli v233 c256_i32_78
  v234
def k0_off6 (k0_t1 : Fin k0_t1_loop.trips) (v42 : BitVec 32) (k0_t3 : Fin (k0_t3_loop k0_t1 v42).trips) : Fin 2 → Nat :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v55 : BitVec 32 := Scalar.subi v39 v42
  let c1_i32_22 : BitVec 32 := 1#32
  let v57 : BitVec 32 := Scalar.divsi v55 c1_i32_22
  let v58 : BitVec 32 := Scalar.muli v57 c1_i32_22
  let v59 : BitVec 32 := Scalar.addi v42 v58
  let c1_i32_24 : BitVec 32 := 1#32
  let arg13 : BitVec 32 := Scf.iv v59 c1_i32_24 k0_t3
  let c1_i32_77 : BitVec 32 := 1#32
  let v233 : BitVec 32 := Scalar.addi arg13 c1_i32_77
  let c256_i32_78 : BitVec 32 := 256#32
  let v234 : BitVec 32 := Scalar.muli v233 c256_i32_78
  let v235 : BitVec 32 := v234
  let v236 : Index := Scalar.indexCast v235
  let c0_79 : Index := 0#32
  ![v236.toNat, 0]
def k0_mult6 (k0_t1 : Fin k0_t1_loop.trips) (v42 : BitVec 32) (k0_t3 : Fin (k0_t3_loop k0_t1 v42).trips) : BitVec 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v55 : BitVec 32 := Scalar.subi v39 v42
  let c1_i32_22 : BitVec 32 := 1#32
  let v57 : BitVec 32 := Scalar.divsi v55 c1_i32_22
  let v58 : BitVec 32 := Scalar.muli v57 c1_i32_22
  let v59 : BitVec 32 := Scalar.addi v42 v58
  let c1_i32_24 : BitVec 32 := 1#32
  let arg13 : BitVec 32 := Scf.iv v59 c1_i32_24 k0_t3
  let c256_i32_83 : BitVec 32 := 256#32
  let v244 : BitVec 32 := Scalar.muli arg13 c256_i32_83
  v244
def k0_off7 (k0_t1 : Fin k0_t1_loop.trips) (v42 : BitVec 32) (k0_t3 : Fin (k0_t3_loop k0_t1 v42).trips) : Fin 2 → Nat :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v55 : BitVec 32 := Scalar.subi v39 v42
  let c1_i32_22 : BitVec 32 := 1#32
  let v57 : BitVec 32 := Scalar.divsi v55 c1_i32_22
  let v58 : BitVec 32 := Scalar.muli v57 c1_i32_22
  let v59 : BitVec 32 := Scalar.addi v42 v58
  let c1_i32_24 : BitVec 32 := 1#32
  let arg13 : BitVec 32 := Scf.iv v59 c1_i32_24 k0_t3
  let c256_i32_83 : BitVec 32 := 256#32
  let v244 : BitVec 32 := Scalar.muli arg13 c256_i32_83
  let v245 : BitVec 32 := v244
  let v285 : Index := Scalar.indexCast v245
  let c0_93 : Index := 0#32
  ![v285.toNat, 0]

def k0_chk1 (k0_t1 : Fin k0_t1_loop.trips) (v42 : BitVec 32) : Prop :=
  (256 ∣ (k0_mult2 v42).toNat) ∧
  (∀ a, (k0_off3 v42) a + S256x128.size a ≤ S8192x128.size a) ∧
  ((k0_t2_loop k0_t1 v42).OK) ∧
  (∀ k0_t2 : Fin (k0_t2_loop k0_t1 v42).trips, 256 ∣ (k0_mult3 k0_t1 v42 k0_t2).toNat) ∧
  (∀ k0_t2 : Fin (k0_t2_loop k0_t1 v42).trips, ∀ a, (k0_off4 k0_t1 v42 k0_t2) a + S256x128.size a ≤ S8192x128.size a) ∧
  (∀ k0_t2 : Fin (k0_t2_loop k0_t1 v42).trips, 256 ∣ (k0_mult4 k0_t1 v42 k0_t2).toNat) ∧
  (∀ k0_t2 : Fin (k0_t2_loop k0_t1 v42).trips, ∀ a, (k0_off5 k0_t1 v42 k0_t2) a + S256x128.size a ≤ S8192x128.size a) ∧
  ((k0_t3_loop k0_t1 v42).OK) ∧
  (∀ k0_t3 : Fin (k0_t3_loop k0_t1 v42).trips, 256 ∣ (k0_mult5 k0_t1 v42 k0_t3).toNat) ∧
  (∀ k0_t3 : Fin (k0_t3_loop k0_t1 v42).trips, ∀ a, (k0_off6 k0_t1 v42 k0_t3) a + S256x128.size a ≤ S8192x128.size a) ∧
  (∀ k0_t3 : Fin (k0_t3_loop k0_t1 v42).trips, 256 ∣ (k0_mult6 k0_t1 v42 k0_t3).toNat) ∧
  (∀ k0_t3 : Fin (k0_t3_loop k0_t1 v42).trips, ∀ a, (k0_off7 k0_t1 v42 k0_t3) a + S256x128.size a ≤ S8192x128.size a)
theorem k0_mult2_dvd : ∀ (k0_t1 : Fin k0_t1_loop.trips) (v42 : BitVec 32) (k0_hw1 : k0_chk1 k0_t1 v42), 256 ∣ (k0_mult2 v42).toNat := fun k0_t1 v42 k0_hw1 => k0_hw1.1
theorem k0_off3_inb : ∀ (k0_t1 : Fin k0_t1_loop.trips) (v42 : BitVec 32) (k0_hw1 : k0_chk1 k0_t1 v42), ∀ a, (k0_off3 v42) a + S256x128.size a ≤ S8192x128.size a := fun k0_t1 v42 k0_hw1 => k0_hw1.2.1
theorem k0_t2_ok : ∀ (k0_t1 : Fin k0_t1_loop.trips) (v42 : BitVec 32) (k0_hw1 : k0_chk1 k0_t1 v42), (k0_t2_loop k0_t1 v42).OK := fun k0_t1 v42 k0_hw1 => k0_hw1.2.2.1
theorem k0_mult3_dvd : ∀ (k0_t1 : Fin k0_t1_loop.trips) (v42 : BitVec 32) (k0_hw1 : k0_chk1 k0_t1 v42) (k0_t2 : Fin (k0_t2_loop k0_t1 v42).trips), 256 ∣ (k0_mult3 k0_t1 v42 k0_t2).toNat := fun k0_t1 v42 k0_hw1 k0_t2 => k0_hw1.2.2.2.1 k0_t2
theorem k0_off4_inb : ∀ (k0_t1 : Fin k0_t1_loop.trips) (v42 : BitVec 32) (k0_hw1 : k0_chk1 k0_t1 v42) (k0_t2 : Fin (k0_t2_loop k0_t1 v42).trips), ∀ a, (k0_off4 k0_t1 v42 k0_t2) a + S256x128.size a ≤ S8192x128.size a := fun k0_t1 v42 k0_hw1 k0_t2 => k0_hw1.2.2.2.2.1 k0_t2
theorem k0_mult4_dvd : ∀ (k0_t1 : Fin k0_t1_loop.trips) (v42 : BitVec 32) (k0_hw1 : k0_chk1 k0_t1 v42) (k0_t2 : Fin (k0_t2_loop k0_t1 v42).trips), 256 ∣ (k0_mult4 k0_t1 v42 k0_t2).toNat := fun k0_t1 v42 k0_hw1 k0_t2 => k0_hw1.2.2.2.2.2.1 k0_t2
theorem k0_off5_inb : ∀ (k0_t1 : Fin k0_t1_loop.trips) (v42 : BitVec 32) (k0_hw1 : k0_chk1 k0_t1 v42) (k0_t2 : Fin (k0_t2_loop k0_t1 v42).trips), ∀ a, (k0_off5 k0_t1 v42 k0_t2) a + S256x128.size a ≤ S8192x128.size a := fun k0_t1 v42 k0_hw1 k0_t2 => k0_hw1.2.2.2.2.2.2.1 k0_t2
theorem k0_t3_ok : ∀ (k0_t1 : Fin k0_t1_loop.trips) (v42 : BitVec 32) (k0_hw1 : k0_chk1 k0_t1 v42), (k0_t3_loop k0_t1 v42).OK := fun k0_t1 v42 k0_hw1 => k0_hw1.2.2.2.2.2.2.2.1
theorem k0_mult5_dvd : ∀ (k0_t1 : Fin k0_t1_loop.trips) (v42 : BitVec 32) (k0_hw1 : k0_chk1 k0_t1 v42) (k0_t3 : Fin (k0_t3_loop k0_t1 v42).trips), 256 ∣ (k0_mult5 k0_t1 v42 k0_t3).toNat := fun k0_t1 v42 k0_hw1 k0_t3 => k0_hw1.2.2.2.2.2.2.2.2.1 k0_t3
theorem k0_off6_inb : ∀ (k0_t1 : Fin k0_t1_loop.trips) (v42 : BitVec 32) (k0_hw1 : k0_chk1 k0_t1 v42) (k0_t3 : Fin (k0_t3_loop k0_t1 v42).trips), ∀ a, (k0_off6 k0_t1 v42 k0_t3) a + S256x128.size a ≤ S8192x128.size a := fun k0_t1 v42 k0_hw1 k0_t3 => k0_hw1.2.2.2.2.2.2.2.2.2.1 k0_t3
theorem k0_mult6_dvd : ∀ (k0_t1 : Fin k0_t1_loop.trips) (v42 : BitVec 32) (k0_hw1 : k0_chk1 k0_t1 v42) (k0_t3 : Fin (k0_t3_loop k0_t1 v42).trips), 256 ∣ (k0_mult6 k0_t1 v42 k0_t3).toNat := fun k0_t1 v42 k0_hw1 k0_t3 => k0_hw1.2.2.2.2.2.2.2.2.2.2.1 k0_t3
theorem k0_off7_inb : ∀ (k0_t1 : Fin k0_t1_loop.trips) (v42 : BitVec 32) (k0_hw1 : k0_chk1 k0_t1 v42) (k0_t3 : Fin (k0_t3_loop k0_t1 v42).trips), ∀ a, (k0_off7 k0_t1 v42 k0_t3) a + S256x128.size a ≤ S8192x128.size a := fun k0_t1 v42 k0_hw1 k0_t3 => k0_hw1.2.2.2.2.2.2.2.2.2.2.2 k0_t3

def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let c0_i32_25 : BitVec 32 := 0#32
  let v62 : BitVec 32 := Scalar.addi v39 c0_i32_25
  let c1_i32_26 : BitVec 32 := 1#32
  let v63 : BitVec 32 := Scalar.addi v62 c1_i32_26
  let c256_i32_27 : BitVec 32 := 256#32
  let v64 : BitVec 32 := Scalar.muli v63 c256_i32_27
  v64
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let c0_i32_25 : BitVec 32 := 0#32
  let v62 : BitVec 32 := Scalar.addi v39 c0_i32_25
  let c1_i32_26 : BitVec 32 := 1#32
  let v63 : BitVec 32 := Scalar.addi v62 c1_i32_26
  let c256_i32_27 : BitVec 32 := 256#32
  let v64 : BitVec 32 := Scalar.muli v63 c256_i32_27
  let v65 : BitVec 32 := v64
  let v66 : Index := Scalar.indexCast v65
  let c0_28 : Index := 0#32
  ![v66.toNat, 0]
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let c0_i32_32 : BitVec 32 := 0#32
  let v74 : BitVec 32 := Scalar.addi v39 c0_i32_32
  let c256_i32_33 : BitVec 32 := 256#32
  let v75 : BitVec 32 := Scalar.muli v74 c256_i32_33
  v75
def k0_off9 (k0_t1 : Fin k0_t1_loop.trips) (c0_i32_32 : BitVec 32) : Fin 2 → Nat :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let v74 : BitVec 32 := Scalar.addi v39 c0_i32_32
  let c256_i32_33 : BitVec 32 := 256#32
  let v75 : BitVec 32 := Scalar.muli v74 c256_i32_33
  let v76 : BitVec 32 := v75
  let v127 : Index := Scalar.indexCast v76
  let c0_45 : Index := 0#32
  ![v127.toNat, 0]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32 : BitVec 32 := 2#32
  let v39 : BitVec 32 := Scalar.muli arg12 c2_i32
  let c1_i32_55 : BitVec 32 := 1#32
  let v155 : BitVec 32 := Scalar.addi v39 c1_i32_55
  let c256_i32_56 : BitVec 32 := 256#32
  let v156 : BitVec 32 := Scalar.muli v155 c256_i32_56
  v156
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v27 : BitVec 32 := Scalar.muli arg12 c512_i32
  let v28 : BitVec 32 := v27
  let v231 : Index := Scalar.indexCast v28
  let c0_76 : Index := 0#32
  ![v231.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S16x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 180
  | .vmem => 0
  | .smem => 0
  | _ => 0

abbrev hbmTy0_0 (i : Nat) : BufTy := match i % 128 with
  | 0 => ⟨S8192x6144, .f32⟩
  | 1 => ⟨S8192x2048, .f32⟩
  | 2 => ⟨S8192x2048, .f32⟩
  | 3 => ⟨S8192x2048, .f32⟩
  | 4 => ⟨S8192x2048, .f32⟩
  | 5 => ⟨S8192x16x128, .f32⟩
  | 6 => ⟨S16x8192x128, .f32⟩
  | 7 => ⟨S8192x16x128, .f32⟩
  | 8 => ⟨S16x8192x128, .f32⟩
  | 9 => ⟨S8192x16x128, .f32⟩
  | 10 => ⟨S16x8192x128, .f32⟩
  | 11 => ⟨S16x8192x8192, .f32⟩
  | 12 => ⟨S_, .f32⟩
  | 13 => ⟨S16x8192x8192, .f32⟩
  | 14 => ⟨S16x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S16x8192x8192, .f32⟩
  | 22 => ⟨S_, .f32⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .i1⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S_, .f32⟩
  | 37 => ⟨S16x8192x8192, .f32⟩
  | 38 => ⟨S16x8192x8192, .i1⟩
  | 39 => ⟨S_, .f32⟩
  | 40 => ⟨S16x8192x8192, .f32⟩
  | 41 => ⟨S16x8192x8192, .f32⟩
  | 42 => ⟨S_, .f32⟩
  | 43 => ⟨S16x8192x8192, .f32⟩
  | 44 => ⟨S16x8192x8192, .i1⟩
  | 45 => ⟨S_, .f32⟩
  | 46 => ⟨S16x8192x8192, .f32⟩
  | 47 => ⟨S16x8192x8192, .f32⟩
  | 48 => ⟨S16x8192x8192, .f32⟩
  | 49 => ⟨S16x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S16x8192x8192, .f32⟩
  | 58 => ⟨S16x8192x8192, .i1⟩
  | 59 => ⟨S_, .f32⟩
  | 60 => ⟨S16x8192x8192, .f32⟩
  | 61 => ⟨S16x8192x8192, .f32⟩
  | 62 => ⟨S16x8192x8192, .f32⟩
  | 63 => ⟨S16x8192x8192, .f32⟩
  | 64 => ⟨S16x8192x8192, .f32⟩
  | 65 => ⟨S_, .f32⟩
  | 66 => ⟨S16x8192x8192, .f32⟩
  | 67 => ⟨S16x8192x8192, .f32⟩
  | 68 => ⟨S16x8192x8192, .f32⟩
  | 69 => ⟨S16x8192x8192, .f32⟩
  | 70 => ⟨S16x8192x8192, .f32⟩
  | 71 => ⟨S_, .f32⟩
  | 72 => ⟨S16x8192x8192, .f32⟩
  | 73 => ⟨S16x8192x8192, .f32⟩
  | 74 => ⟨S16x8192x8192, .f32⟩
  | 75 => ⟨S16x8192x8192, .f32⟩
  | 76 => ⟨S16x8192x8192, .i1⟩
  | 77 => ⟨S16x8192x8192, .f32⟩
  | 78 => ⟨S16x8192x8192, .f32⟩
  | 79 => ⟨S16x8192x8192, .f32⟩
  | 80 => ⟨S16x8192x8192, .f32⟩
  | 81 => ⟨S16x8192x8192, .f32⟩
  | 82 => ⟨S16x8192x8192, .f32⟩
  | 83 => ⟨S16x8192x8192, .f32⟩
  | 84 => ⟨S16x8192x8192, .f32⟩
  | 85 => ⟨S_, .f32⟩
  | 86 => ⟨S16x8192x8192, .f32⟩
  | 87 => ⟨S16x8192x8192, .i1⟩
  | 88 => ⟨S_, .f32⟩
  | 89 => ⟨S16x8192x8192, .f32⟩
  | 90 => ⟨S16x8192x8192, .f32⟩
  | 91 => ⟨S_, .f32⟩
  | 92 => ⟨S16x8192x8192, .f32⟩
  | 93 => ⟨S16x8192x8192, .i1⟩
  | 94 => ⟨S_, .f32⟩
  | 95 => ⟨S16x8192x8192, .f32⟩
  | 96 => ⟨S16x8192x8192, .f32⟩
  | 97 => ⟨S16x8192x8192, .f32⟩
  | 98 => ⟨S16x8192x8192, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S16x8192x8192, .f32⟩
  | 107 => ⟨S16x8192x8192, .i1⟩
  | 108 => ⟨S_, .f32⟩
  | 109 => ⟨S16x8192x8192, .f32⟩
  | 110 => ⟨S16x8192x8192, .f32⟩
  | 111 => ⟨S16x8192x8192, .f32⟩
  | 112 => ⟨S16x8192x8192, .f32⟩
  | 113 => ⟨S16x8192x8192, .f32⟩
  | 114 => ⟨S_, .f32⟩
  | 115 => ⟨S16x8192x8192, .f32⟩
  | 116 => ⟨S16x8192x8192, .f32⟩
  | 117 => ⟨S16x8192x8192, .f32⟩
  | 118 => ⟨S_, .f32⟩
  | 119 => ⟨S_, .f32⟩
  | 120 => ⟨S16x8192x8192, .i1⟩
  | 121 => ⟨S16x8192x8192, .f32⟩
  | 122 => ⟨S16x8192x8192, .f32⟩
  | 123 => ⟨S_, .f32⟩
  | 124 => ⟨S16x8192x8192, .f32⟩
  | 125 => ⟨S_, .f32⟩
  | 126 => ⟨S_, .f32⟩
  | 127 => ⟨S16x8192x8192, .f32⟩
  | _ => ⟨S8192x6144, .f32⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S_, .f32⟩
  | 4 => ⟨S_, .f32⟩
  | 5 => ⟨S16x8192x8192, .i1⟩
  | 6 => ⟨S16x8192x8192, .f32⟩
  | 7 => ⟨S16x8192x8192, .f32⟩
  | 8 => ⟨S_, .f32⟩
  | 9 => ⟨S16x8192x8192, .f32⟩
  | 10 => ⟨S16x8192x128, .f32⟩
  | 11 => ⟨S8192x16x128, .f32⟩
  | 12 => ⟨S8192x2048, .f32⟩
  | 13 => ⟨S8192x16x128, .f32⟩
  | 14 => ⟨S16x8192x128, .f32⟩
  | 15 => ⟨S16x128x8192, .f32⟩
  | 16 => ⟨S16x8192x128, .f32⟩
  | 17 => ⟨S16x8192x8192, .f32⟩
  | 18 => ⟨S_, .f32⟩
  | 19 => ⟨S16x8192x8192, .f32⟩
  | 20 => ⟨S16x8192x8192, .f32⟩
  | 21 => ⟨S16x8192x8192, .f32⟩
  | 22 => ⟨S16x8192x8192, .f32⟩
  | 23 => ⟨S_, .f32⟩
  | 24 => ⟨S_, .f32⟩
  | 25 => ⟨S16x8192x8192, .f32⟩
  | 26 => ⟨S16x8192x8192, .f32⟩
  | 27 => ⟨S_, .f32⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S_, .f32⟩
  | 39 => ⟨S16x8192x8192, .f32⟩
  | 40 => ⟨S16x8192x8192, .f32⟩
  | 41 => ⟨S16x8192x128, .f32⟩
  | 42 => ⟨S16x8192x128, .f32⟩
  | 43 => ⟨S8192x16x128, .f32⟩
  | 44 => ⟨S8192x2048, .f32⟩
  | 45 => ⟨S8192x16x128, .f32⟩
  | 46 => ⟨S8192x2048, .f32⟩
  | 47 => ⟨S8192x16x128, .f32⟩
  | 48 => ⟨S8192x2048, .f32⟩
  | 49 => ⟨S8192x2048, .bf16⟩
  | 50 => ⟨S8192x2048, .bf16⟩
  | 51 => ⟨S8192x2048, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32_20 : BitVec 32 := 0#32
  let v46 : BitVec 1 := Scalar.cmpi .sgt arg0 c0_i32_20
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32_22 : BitVec 32 := 0#32
  let v55 : BitVec 1 := Scalar.cmpi .sgt arg0 c0_i32_22
  let v56 : BitVec 32 := Scalar.extui v55
  let c0_i32_23 : BitVec 32 := 0#32
  let v57 : BitVec 1 := Scalar.cmpi .ne v56 c0_i32_23
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Pool.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S8192x1x512 : Shape := ⟨3, ![8192, 1, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S8192 : Shape := ⟨1, ![8192]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S512x2048 : Shape := ⟨2, ![512, 2048]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩

abbrev nBuf : Space → Nat
  | .hbm => 102
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S8192x4x512, .f32⟩
  | .hbm, ⟨5, _⟩ => ⟨S8192x1x512, .f32⟩
  | .hbm, ⟨6, _⟩ => ⟨S8192x512, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S_, .f32⟩
  | .hbm, ⟨11, _⟩ => ⟨S2x512, .f32⟩
  | .hbm, ⟨12, _⟩ => ⟨S8194x512, .f32⟩
  | .hbm, ⟨13, _⟩ => ⟨S8192x512, .f32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S8192x512, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x1x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S8192x512, .f32⟩
  | .hbm, ⟨31, _⟩ => ⟨S_, .f32⟩
  | .hbm, ⟨32, _⟩ => ⟨S4x512, .f32⟩
  | .hbm, ⟨33, _⟩ => ⟨S8196x512, .f32⟩
  | .hbm, ⟨34, _⟩ => ⟨S8192x512, .f32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .f32⟩
  | .hbm, ⟨43, _⟩ => ⟨S8192x512, .f32⟩
  | .hbm, ⟨44, _⟩ => ⟨S8192x1, .f32⟩
  | .hbm, ⟨45, _⟩ => ⟨S8192x512, .f32⟩
  | .hbm, ⟨46, _⟩ => ⟨S8192x512, .f32⟩
  | .hbm, ⟨47, _⟩ => ⟨S8192x1x512, .f32⟩
  | .hbm, ⟨48, _⟩ => ⟨S8192x512, .f32⟩
  | .hbm, ⟨49, _⟩ => ⟨S_, .f32⟩
  | .hbm, ⟨50, _⟩ => ⟨S_, .f32⟩
  | .hbm, ⟨51, _⟩ => ⟨S8192x512, .f32⟩
  | .hbm, ⟨52, _⟩ => ⟨S_, .f32⟩
  | .hbm, ⟨53, _⟩ => ⟨S8x512, .f32⟩
  | .hbm, ⟨54, _⟩ => ⟨S8200x512, .f32⟩
  | .hbm, ⟨55, _⟩ => ⟨S8192x512, .f32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .f32⟩
  | .hbm, ⟨64, _⟩ => ⟨S8192x512, .f32⟩
  | .hbm, ⟨65, _⟩ => ⟨S8192x1, .f32⟩
  | .hbm, ⟨66, _⟩ => ⟨S8192x512, .f32⟩
  | .hbm, ⟨67, _⟩ => ⟨S8192x512, .f32⟩
  | .hbm, ⟨68, _⟩ => ⟨S8192x1x512, .f32⟩
  | .hbm, ⟨69, _⟩ => ⟨S8192x512, .f32⟩
  | .hbm, ⟨70, _⟩ => ⟨S_, .f32⟩
  | .hbm, ⟨71, _⟩ => ⟨S_, .f32⟩
  | .hbm, ⟨72, _⟩ => ⟨S8192x512, .f32⟩
  | .hbm, ⟨73, _⟩ => ⟨S_, .f32⟩
  | .hbm, ⟨74, _⟩ => ⟨S16x512, .f32⟩
  | .hbm, ⟨75, _⟩ => ⟨S8208x512, .f32⟩
  | .hbm, ⟨76, _⟩ => ⟨S8192x512, .f32⟩
  | .hbm, ⟨77, _⟩ => ⟨S8192, .i32⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .f32⟩
  | .hbm, ⟨85, _⟩ => ⟨S8192x512, .f32⟩
  | .hbm, ⟨86, _⟩ => ⟨S8192x1, .f32⟩
  | .hbm, ⟨87, _⟩ => ⟨S8192x512, .f32⟩
  | .hbm, ⟨88, _⟩ => ⟨S8192x512, .f32⟩
  | .hbm, ⟨89, _⟩ => ⟨S8192x1x512, .f32⟩
  | .hbm, ⟨90, _⟩ => ⟨S8192x1x512, .f32⟩
  | .hbm, ⟨91, _⟩ => ⟨S8192x1x512, .f32⟩
  | .hbm, ⟨92, _⟩ => ⟨S8192x1x512, .f32⟩
  | .hbm, ⟨93, _⟩ => ⟨S8192x4x512, .f32⟩
  | .hbm, ⟨94, _⟩ => ⟨S8192x4x512, .f32⟩
  | .hbm, ⟨95, _⟩ => ⟨S8192x2048, .f32⟩
  | .hbm, ⟨96, _⟩ => ⟨S8192x2048, .bf16⟩
  | .hbm, ⟨97, _⟩ => ⟨S8192x2048, .bf16⟩
  | .hbm, ⟨98, _⟩ => ⟨S4x512x512, .bf16⟩
  | .hbm, ⟨99, _⟩ => ⟨S8192x2048, .f32⟩
  | .hbm, ⟨100, _⟩ => ⟨S4x512x512, .f32⟩
  | .hbm, ⟨101, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4x512x512, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S4x512x512, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_cst : Ref sig .tc := ⟨.hbm, 28, rfl⟩
abbrev main_call1_v0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call2_cst : Ref sig .tc := ⟨.hbm, 49, rfl⟩
abbrev main_call2_v0 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call3_cst : Ref sig .tc := ⟨.hbm, 70, rfl⟩
abbrev main_call3_v0 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75_0 : Ref sig .tc := ⟨.hbm, 99, rfl⟩
abbrev main_v75_1 : Ref sig .tc := ⟨.hbm, 100, rfl⟩
abbrev main_v75_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_16 : BitVec 32 := 0#32
  let v22 : BitVec 1 := Scalar.cmpi .ne v21 c0_i32_16
  v22

def k0_cond2 (i : grid0.Coords) : BitVec 1 :=
  let arg0 : BitVec 32 := BitVec.ofNat 32 (i 0).val
  let c0_i32_17 : BitVec 32 := 0#32
  let v23 : BitVec 1 := Scalar.cmpi .sgt arg0 c0_i32_17
  let v24 : BitVec 32 := Scalar.extui v23
  let c0_i32_18 : BitVec 32 := 0#32
  let v25 : BitVec 1 := Scalar.cmpi .ne v24 c0_i32_18
  v25

def k0_cond3 (i : grid0.Coords) : BitVec 1 :=
  let arg0 : BitVec 32 := BitVec.ofNat 32 (i 0).val
  let c0_i32_35 : BitVec 32 := 0#32
  let v46 : BitVec 1 := Scalar.cmpi .eq arg0 c0_i32_35
  let v47 : BitVec 32 := Scalar.extui v46
  let c0_i32_36 : BitVec 32 := 0#32
  let v48 : BitVec 1 := Scalar.cmpi .ne v47 c0_i32_36
  v48

def k0_cond4 (i : grid0.Coords) : BitVec 1 :=
  let arg0 : BitVec 32 := BitVec.ofNat 32 (i 0).val
  let c0_i32_37 : BitVec 32 := 0#32
  let v49 : BitVec 1 := Scalar.cmpi .sgt arg0 c0_i32_37
  let v50 : BitVec 32 := Scalar.extui v49
  let c0_i32_38 : BitVec 32 := 0#32
  let v51 : BitVec 1 := Scalar.cmpi .ne v50 c0_i32_38
  v51

def k0_cond5 (i : grid0.Coords) : BitVec 1 :=
  let arg0 : BitVec 32 := BitVec.ofNat 32 (i 0).val
  let c0_i32_55 : BitVec 32 := 0#32
  let v72 : BitVec 1 := Scalar.cmpi .eq arg0 c0_i32_55
  let v73 : BitVec 32 := Scalar.extui v72
  let c0_i32_56 : BitVec 32 := 0#32
  let v74 : BitVec 1 := Scalar.cmpi .ne v73 c0_i32_56
  v74

def k0_cond6 (i : grid0.Coords) : BitVec 1 :=
  let arg0 : BitVec 32 := BitVec.ofNat 32 (i 0).val
  let c0_i32_57 : BitVec 32 := 0#32
  let v75 : BitVec 1 := Scalar.cmpi .sgt arg0 c0_i32_57
  let v76 : BitVec 32 := Scalar.extui v75
  let c0_i32_58 : BitVec 32 := 0#32
  let v77 : BitVec 1 := Scalar.cmpi .ne v76 c0_i32_58
  v77

def k0_cond7 (i : grid0.Coords) : BitVec 1 :=
  let arg0 : BitVec 32 := BitVec.ofNat 32 (i 0).val
  let c0_i32_75 : BitVec 32 := 0#32
  let v98 : BitVec 1 := Scalar.cmpi .eq arg0 c0_i32_75
  let v99 : BitVec 32 := Scalar.extui v98
  let c0_i32_76 : BitVec 32 := 0#32
  let v100 : BitVec 1 := Scalar.cmpi .ne v99 c0_i32_76
  v100

def k0_cond8 (i : grid0.Coords) : BitVec 1 :=
  let arg0 : BitVec 32 := BitVec.ofNat 32 (i 0).val
  let c0_i32_77 : BitVec 32 := 0#32
  let v101 : BitVec 1 := Scalar.cmpi .sgt arg0 c0_i32_77
  let v102 : BitVec 32 := Scalar.extui v101
  let c0_i32_78 : BitVec 32 := 0#32
  let v103 : BitVec 1 := Scalar.cmpi .ne v102 c0_i32_78
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolRefIdeal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S8192x1x512 : Shape := ⟨3, ![8192, 1, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S8192 : Shape := ⟨1, ![8192]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S4x512x8192 : Shape := ⟨3, ![4, 512, 8192]⟩
abbrev S2048 : Shape := ⟨1, ![2048]⟩
abbrev S4x8192x512 : Shape := ⟨3, ![4, 8192, 512]⟩

abbrev nBuf : Space → Nat
  | .hbm => 115
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S8192x4x512, .f32⟩
  | .hbm, ⟨5, _⟩ => ⟨S8192x1x512, .f32⟩
  | .hbm, ⟨6, _⟩ => ⟨S8192x512, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S_, .f32⟩
  | .hbm, ⟨11, _⟩ => ⟨S2x512, .f32⟩
  | .hbm, ⟨12, _⟩ => ⟨S8194x512, .f32⟩
  | .hbm, ⟨13, _⟩ => ⟨S8192x512, .f32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S8192x512, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x1x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S8192x512, .f32⟩
  | .hbm, ⟨31, _⟩ => ⟨S_, .f32⟩
  | .hbm, ⟨32, _⟩ => ⟨S4x512, .f32⟩
  | .hbm, ⟨33, _⟩ => ⟨S8196x512, .f32⟩
  | .hbm, ⟨34, _⟩ => ⟨S8192x512, .f32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .f32⟩
  | .hbm, ⟨43, _⟩ => ⟨S8192x512, .f32⟩
  | .hbm, ⟨44, _⟩ => ⟨S8192x1, .f32⟩
  | .hbm, ⟨45, _⟩ => ⟨S8192x512, .f32⟩
  | .hbm, ⟨46, _⟩ => ⟨S8192x512, .f32⟩
  | .hbm, ⟨47, _⟩ => ⟨S8192x1x512, .f32⟩
  | .hbm, ⟨48, _⟩ => ⟨S8192x512, .f32⟩
  | .hbm, ⟨49, _⟩ => ⟨S_, .f32⟩
  | .hbm, ⟨50, _⟩ => ⟨S_, .f32⟩
  | .hbm, ⟨51, _⟩ => ⟨S8192x512, .f32⟩
  | .hbm, ⟨52, _⟩ => ⟨S_, .f32⟩
  | .hbm, ⟨53, _⟩ => ⟨S8x512, .f32⟩
  | .hbm, ⟨54, _⟩ => ⟨S8200x512, .f32⟩
  | .hbm, ⟨55, _⟩ => ⟨S8192x512, .f32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .f32⟩
  | .hbm, ⟨64, _⟩ => ⟨S8192x512, .f32⟩
  | .hbm, ⟨65, _⟩ => ⟨S8192x1, .f32⟩
  | .hbm, ⟨66, _⟩ => ⟨S8192x512, .f32⟩
  | .hbm, ⟨67, _⟩ => ⟨S8192x512, .f32⟩
  | .hbm, ⟨68, _⟩ => ⟨S8192x1x512, .f32⟩
  | .hbm, ⟨69, _⟩ => ⟨S8192x512, .f32⟩
  | .hbm, ⟨70, _⟩ => ⟨S_, .f32⟩
  | .hbm, ⟨71, _⟩ => ⟨S_, .f32⟩
  | .hbm, ⟨72, _⟩ => ⟨S8192x512, .f32⟩
  | .hbm, ⟨73, _⟩ => ⟨S_, .f32⟩
  | .hbm, ⟨74, _⟩ => ⟨S16x512, .f32⟩
  | .hbm, ⟨75, _⟩ => ⟨S8208x512, .f32⟩
  | .hbm, ⟨76, _⟩ => ⟨S8192x512, .f32⟩
  | .hbm, ⟨77, _⟩ => ⟨S8192, .i32⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .f32⟩
  | .hbm, ⟨85, _⟩ => ⟨S8192x512, .f32⟩
  | .hbm, ⟨86, _⟩ => ⟨S8192x1, .f32⟩
  | .hbm, ⟨87, _⟩ => ⟨S8192x512, .f32⟩
  | .hbm, ⟨88, _⟩ => ⟨S8192x512, .f32⟩
  | .hbm, ⟨89, _⟩ => ⟨S8192x1x512, .f32⟩
  | .hbm, ⟨90, _⟩ => ⟨S8192x1x512, .f32⟩
  | .hbm, ⟨91, _⟩ => ⟨S8192x1x512, .f32⟩
  | .hbm, ⟨92, _⟩ => ⟨S8192x1x512, .f32⟩
  | .hbm, ⟨93, _⟩ => ⟨S8192x4x512, .f32⟩
  | .hbm, ⟨94, _⟩ => ⟨S8192x4x512, .f32⟩
  | .hbm, ⟨95, _⟩ => ⟨S8192x2048, .f32⟩
  | .hbm, ⟨96, _⟩ => ⟨S8192x4x512, .f32⟩
  | .hbm, ⟨97, _⟩ => ⟨S4x512x8192, .f32⟩
  | .hbm, ⟨98, _⟩ => ⟨S8192x4x512, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S_, .f32⟩
  | .hbm, ⟨104, _⟩ => ⟨S2048, .f32⟩
  | .hbm, ⟨105, _⟩ => ⟨S1x2048, .f32⟩
  | .hbm, ⟨106, _⟩ => ⟨S8192x2048, .f32⟩
  | .hbm, ⟨107, _⟩ => ⟨S8192x2048, .f32⟩
  | .hbm, ⟨108, _⟩ => ⟨S8192x4x512, .f32⟩
  | .hbm, ⟨109, _⟩ => ⟨S4x512x8192, .f32⟩
  | .hbm, ⟨110, _⟩ => ⟨S4x8192x512, .f32⟩
  | .hbm, ⟨111, _⟩ => ⟨S8192x4x512, .f32⟩
  | .hbm, ⟨112, _⟩ => ⟨S4x512x512, .f32⟩
  | .hbm, ⟨113, _⟩ => ⟨S4x512x512, .f32⟩
  | .hbm, ⟨114, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_cst : Ref sig .tc := ⟨.hbm, 28, rfl⟩
abbrev main_call1_v0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call2_cst : Ref sig .tc := ⟨.hbm, 49, rfl⟩
abbrev main_call2_v0 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call3_cst : Ref sig .tc := ⟨.hbm, 70, rfl⟩
abbrev main_call3_v0 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== AttnFwd.lean ====
abbrev S8192x6144 : Shape := ⟨2, ![8192, 6144]⟩
abbrev S8192x2048 : Shape := ⟨2, ![8192, 2048]⟩
abbrev S16x16 : Shape := ⟨2, ![16, 16]⟩
abbrev S8192x128 : Shape := ⟨2, ![8192, 128]⟩
abbrev S256x256 : Shape := ⟨2, ![256, 256]⟩
abbrev S512x128 : Shape := ⟨2, ![512, 128]⟩
abbrev S512x1 : Shape := ⟨2, ![512, 1]⟩
abbrev S256x128 : Shape := ⟨2, ![256, 128]⟩
abbrev S512x256 : Shape := ⟨2, ![512, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 5
  | .vmem => 10
  | .smem => 1
  | _ => 0

abbrev bufTy : (tb : Table) → Fin (tcTables nBuf tb) → BufTy
  | .hbm, ⟨0, _⟩ => ⟨S8192x6144, .f32⟩
  | .hbm, ⟨1, _⟩ => ⟨S8192x6144, .bf16⟩
  | .hbm, ⟨2, _⟩ => ⟨S8192x2048, .bf16⟩
  | .hbm, ⟨3, _⟩ => ⟨S8192x2048, .f32⟩
  | .hbm, ⟨4, _⟩ => ⟨S16x16, .i32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .smem, ⟨0, _⟩ => ⟨S16x16, .i32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v7 : BitVec 32 := Scalar.muli arg7 c512_i32
  v7
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v7 : BitVec 32 := Scalar.muli arg7 c512_i32
  let v8 : BitVec 32 := v7
  let v9 : Index := Scalar.indexCast v8
  let c0 : Index := 0#32
  ![v9.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c2_i32_2 : BitVec 32 := 2#32
  let v15 : BitVec 32 := Scalar.addi v12 c2_i32_2
  let c1_i32_3 : BitVec 32 := 1#32
  let v16 : BitVec 32 := Scalar.subi v15 c1_i32_3
  let c256_i32 : BitVec 32 := 256#32
  let v17 : BitVec 32 := Scalar.muli v16 c256_i32
  v17
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c2_i32_2 : BitVec 32 := 2#32
  let v15 : BitVec 32 := Scalar.addi v12 c2_i32_2
  let c1_i32_3 : BitVec 32 := 1#32
  let v16 : BitVec 32 := Scalar.subi v15 c1_i32_3
  let c256_i32 : BitVec 32 := 256#32
  let v17 : BitVec 32 := Scalar.muli v16 c256_i32
  let v18 : BitVec 32 := v17
  let v19 : Index := Scalar.indexCast v18
  let c0_4 : Index := 0#32
  ![v19.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c1_i32_6 : BitVec 32 := 1#32
  let v23 : BitVec 32 := Scalar.addi v12 c1_i32_6
  let c1_i32_7 : BitVec 32 := 1#32
  let v24 : BitVec 32 := Scalar.subi v23 c1_i32_7
  let c0_i32_8 : BitVec 32 := 0#32
  let v25 : BitVec 32 := Scalar.maxsi v24 c0_i32_8
  let c256_i32_9 : BitVec 32 := 256#32
  let v26 : BitVec 32 := Scalar.muli v25 c256_i32_9
  v26
def k0_off3 (k0_t1 : Fin k0_t1_loop.trips) (c1_i32_6 : BitVec 32) : Fin 2 → Nat :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let v23 : BitVec 32 := Scalar.addi v12 c1_i32_6
  let c1_i32_7 : BitVec 32 := 1#32
  let v24 : BitVec 32 := Scalar.subi v23 c1_i32_7
  let c0_i32_8 : BitVec 32 := 0#32
  let v25 : BitVec 32 := Scalar.maxsi v24 c0_i32_8
  let c256_i32_9 : BitVec 32 := 256#32
  let v26 : BitVec 32 := Scalar.muli v25 c256_i32_9
  let v27 : BitVec 32 := v26
  let v28 : Index := Scalar.indexCast v27
  let c0_10 : Index := 0#32
  ![v28.toNat, 0]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c1_i32_12 : BitVec 32 := 1#32
  let v32 : BitVec 32 := Scalar.addi v12 c1_i32_12
  let c256_i32_13 : BitVec 32 := 256#32
  let v33 : BitVec 32 := Scalar.muli v32 c256_i32_13
  v33
def k0_off4 (k0_t1 : Fin k0_t1_loop.trips) (c1_i32_12 : BitVec 32) : Fin 2 → Nat :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let v32 : BitVec 32 := Scalar.addi v12 c1_i32_12
  let c256_i32_13 : BitVec 32 := 256#32
  let v33 : BitVec 32 := Scalar.muli v32 c256_i32_13
  let v34 : BitVec 32 := v33
  let v71 : Index := Scalar.indexCast v34
  let c0_22 : Index := 0#32
  ![v71.toNat, 0]
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c0_i32_25 : BitVec 32 := 0#32
  let v79 : BitVec 32 := Scalar.addi v12 c0_i32_25
  let c1_i32_26 : BitVec 32 := 1#32
  let v80 : BitVec 32 := Scalar.subi v79 c1_i32_26
  let c0_i32_27 : BitVec 32 := 0#32
  let v81 : BitVec 32 := Scalar.maxsi v80 c0_i32_27
  let c256_i32_28 : BitVec 32 := 256#32
  let v82 : BitVec 32 := Scalar.muli v81 c256_i32_28
  v82
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c0_i32_31 : BitVec 32 := 0#32
  let v88 : BitVec 32 := Scalar.addi v12 c0_i32_31
  let c256_i32_32 : BitVec 32 := 256#32
  let v89 : BitVec 32 := Scalar.muli v88 c256_i32_32
  v89
def k0_mult7 (k0_t1 : Fin k0_t1_loop.trips) (arg8 : BitVec 32) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c1_i32_51 : BitVec 32 := 1#32
  let v155 : BitVec 32 := Scalar.subi v12 c1_i32_51
  let v156 : BitVec 32 := Scalar.subi v155 arg8
  let c1_i32_52 : BitVec 32 := 1#32
  let v157 : BitVec 32 := Scalar.subi v156 c1_i32_52
  let c0_i32_53 : BitVec 32 := 0#32
  let v158 : BitVec 32 := Scalar.maxsi v157 c0_i32_53
  let c256_i32_54 : BitVec 32 := 256#32
  let v159 : BitVec 32 := Scalar.muli v158 c256_i32_54
  v159

def k0_off5 (k0_t1 : Fin k0_t1_loop.trips) (arg8 : BitVec 32) : Fin 2 → Nat :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c1_i32_51 : BitVec 32 := 1#32
  let v155 : BitVec 32 := Scalar.subi v12 c1_i32_51
  let v156 : BitVec 32 := Scalar.subi v155 arg8
  let c1_i32_52 : BitVec 32 := 1#32
  let v157 : BitVec 32 := Scalar.subi v156 c1_i32_52
  let c0_i32_53 : BitVec 32 := 0#32
  let v158 : BitVec 32 := Scalar.maxsi v157 c0_i32_53
  let c256_i32_54 : BitVec 32 := 256#32
  let v159 : BitVec 32 := Scalar.muli v158 c256_i32_54
  let v160 : BitVec 32 := v159
  let v161 : Index := Scalar.indexCast v160
  let c0_55 : Index := 0#32
  ![v161.toNat, 0]
def k0_mult8 (k0_t1 : Fin k0_t1_loop.trips) (arg8 : BitVec 32) : BitVec 32 :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c1_i32_51 : BitVec 32 := 1#32
  let v155 : BitVec 32 := Scalar.subi v12 c1_i32_51
  let v156 : BitVec 32 := Scalar.subi v155 arg8
  let c256_i32_57 : BitVec 32 := 256#32
  let v165 : BitVec 32 := Scalar.muli v156 c256_i32_57
  v165
def k0_off6 (k0_t1 : Fin k0_t1_loop.trips) (arg8 : BitVec 32) : Fin 2 → Nat :=
  let c0_i32 : BitVec 32 := 0#32
  let c1_i32 : BitVec 32 := 1#32
  let arg7 : BitVec 32 := Scf.iv c0_i32 c1_i32 k0_t1
  let c2_i32 : BitVec 32 := 2#32
  let v12 : BitVec 32 := Scalar.muli arg7 c2_i32
  let c1_i32_51 : BitVec 32 := 1#32
  let v155 : BitVec 32 := Scalar.subi v12 c1_i32_51
  let v156 : BitVec 32 := Scalar.subi v155 arg8
  let c256_i32_57 : BitVec 32 := 256#32
  let v165 : BitVec 32 := Scalar.muli v156 c256_i32_57
  let v166 : BitVec 32 := v165
  let v192 : Index := Scalar.indexCast v166
  let c0_64 : Index := 0#32
  ![v192.toNat, 0]

def k0_chk1 (k0_t1 : Fin k0_t1_loop.trips) (arg8 : BitVec 32) : Prop :=
  (256 ∣ (k0_mult7 k0_t1 arg8).toNat) ∧
  (∀ a, (k0_off5 k0_t1 arg8) a + S256x128.size a ≤ S8192x128.size a) ∧
  (256 ∣ (k0_mult8 k0_t1 arg8).toNat) ∧
  (∀ a, (k0_off6 k0_t1 arg8) a + S256x128.size a ≤ S8192x128.size a)
theorem k0_mult7_dvd : ∀ (k0_t1 : Fin k0_t1_loop.trips) (arg8 : BitVec 32) (k0_hw1 : k0_chk1 k0_t1 arg8), 256 ∣ (k0_mult7 k0_t1 arg8).toNat := fun k0_t1 arg8 k0_hw1 => k0_hw1.1
theorem k0_off5_inb : ∀ (k0_t1 : Fin k0_t1_loop.trips) (arg8 : BitVec 32) (k0_hw1 : k0_chk1 k0_t1 arg8), ∀ a, (k0_off5 k0_t1 arg8) a + S256x128.size a ≤ S8192x128.size a := fun k0_t1 arg8 k0_hw1 => k0_hw1.2.1
theorem k0_mult8_dvd : ∀ (k0_t1 : Fin k0_t1_loop.trips) (arg8 : BitVec 32) (k0_hw1 : k0_chk1 k0_t1 arg8), 256 ∣ (k0_mult8 k0_t1 arg8).toNat := fun k0_t1 arg8 k0_hw1 => k0_hw1.2.2.1
theorem k0_off6_inb : ∀ (k0_t1 : Fin k0_t1_loop.trips) (arg8 : BitVec 32) (k0_hw1 : k0_chk1 k0_t1 arg8), ∀ a, (k0_off6 k0_t1 arg8) a + S256x128.size a ≤ S8192x128.size a := fun k0_t1 arg8 k0_hw1 => k0_hw1.2.2.2

def k0_off7 (i : grid0.Coords) (k0_t1 : Fin k0_t1_loop.trips) : Fin 2 → Nat :=
  let arg0 : BitVec 32 := BitVec.ofNat 32 (i 0).val
  let v152 : Index := Scalar.indexCast arg0
  let c0_i32 : BitVec 32 := 0#32
  let c1_i32 : BitVec 32 := 1#32
  let arg7 : BitVec 32 := Scf.iv c0_i32 c1_i32 k0_t1
  let c1_i32_49 : BitVec 32 := 1#32
  let v150 : BitVec 32 := Scalar.muli arg7 c1_i32_49
  let c0_i32_50 : BitVec 32 := 0#32
  let v151 : BitVec 32 := Scalar.addi v150 c0_i32_50
  let v153 : Index := Scalar.indexCast v151
  ![v152.toNat, v153.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S16x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== AttnFwdIdeal.lean ====
variable {F : FTy → Type} [FloatOps F] [Named F]
def κ : String → Option EReal := fun
  | "live" => some ⊥
  | "mask" => some ⊥
  | _ => none
-- ==== AttnFwdRefIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x16 : Shape := ⟨2, ![16, 16]⟩

abbrev nBuf : Space → Nat
  | .hbm => 81
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x16x128, .f32⟩
  | .hbm, ⟨5, _⟩ => ⟨S16x8192x128, .f32⟩
  | .hbm, ⟨6, _⟩ => ⟨S8192x16x128, .f32⟩
  | .hbm, ⟨7, _⟩ => ⟨S16x8192x128, .f32⟩
  | .hbm, ⟨8, _⟩ => ⟨S8192x16x128, .f32⟩
  | .hbm, ⟨9, _⟩ => ⟨S16x8192x128, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S16x8192x8192, .i1⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S_, .f32⟩
  | .hbm, ⟨54, _⟩ => ⟨S_, .f32⟩
  | .hbm, ⟨55, _⟩ => ⟨S16x8192x8192, .i1⟩
  | .hbm, ⟨56, _⟩ => ⟨S16x8192x8192, .f32⟩
  | .hbm, ⟨57, _⟩ => ⟨S16x8192x8192, .f32⟩
  | .hbm, ⟨58, _⟩ => ⟨S_, .f32⟩
  | .hbm, ⟨59, _⟩ => ⟨S_, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S_, .f32⟩
  | .hbm, ⟨66, _⟩ => ⟨S16x8192x8192, .i1⟩
  | .hbm, ⟨67, _⟩ => ⟨S16x8192x8192, .f32⟩
  | .hbm, ⟨68, _⟩ => ⟨S16x8192x8192, .f32⟩
  | .hbm, ⟨69, _⟩ => ⟨S16x8192x128, .f32⟩
  | .hbm, ⟨70, _⟩ => ⟨S_, .f32⟩
  | .hbm, ⟨71, _⟩ => ⟨S16x8192, .f32⟩
  | .hbm, ⟨72, _⟩ => ⟨S16x8192x1, .f32⟩
  | .hbm, ⟨73, _⟩ => ⟨S16x8192x128, .f32⟩
  | .hbm, ⟨74, _⟩ => ⟨S8192x16x128, .f32⟩
  | .hbm, ⟨75, _⟩ => ⟨S8192x2048, .f32⟩
  | .hbm, ⟨76, _⟩ => ⟨S8192x2048, .bf16⟩
  | .hbm, ⟨77, _⟩ => ⟨S8192x16x128, .f32⟩
  | .hbm, ⟨78, _⟩ => ⟨S8192x2048, .f32⟩
  | .hbm, ⟨79, _⟩ => ⟨S_, .i32⟩
  | .hbm, ⟨80, _⟩ => ⟨S16x16, .i32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c : Ref sig .tc := ⟨.hbm, 79, rfl⟩
abbrev main_v36 : Ref sig .tc := ⟨.hbm, 80, rfl⟩

abbrev nD : Nat := 1
abbrev τ : Topo := Topo.v7x

variable {F : FTy → Type} [FloatOps F]
-- ==== Start.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StartRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Resid.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== ConvFwd.lean ====
abbrev S8192x6144 : Shape := ⟨2, ![8192, 6144]⟩
abbrev S3x1x2048 : Shape := ⟨3, ![3, 1, 2048]⟩
abbrev S8192x2048 : Shape := ⟨2, ![8192, 2048]⟩
abbrev S256x6144 : Shape := ⟨2, ![256, 6144]⟩
abbrev S16x6144 : Shape := ⟨2, ![16, 6144]⟩
abbrev S256x2048 : Shape := ⟨2, ![256, 2048]⟩
abbrev S16x512 : Shape := ⟨2, ![16, 512]⟩
abbrev S256x512 : Shape := ⟨2, ![256, 512]⟩
abbrev S272x512 : Shape := ⟨2, ![272, 512]⟩
abbrev S1x1x512 : Shape := ⟨3, ![1, 1, 512]⟩
abbrev S1x512 : Shape := ⟨2, ![1, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .f32⟩
  | .hbm, ⟨1, _⟩ => ⟨S3x1x2048, .f32⟩
  | .hbm, ⟨2, _⟩ => ⟨S8192x2048, .bf16⟩
  | .local _ .vmem, ⟨0, _⟩ => ⟨S256x6144, .f32⟩
  | .local _ .vmem, ⟨1, _⟩ => ⟨S256x6144, .f32⟩
  | .local _ .vmem, ⟨2, _⟩ => ⟨S16x6144, .f32⟩
  | .local _ .vmem, ⟨3, _⟩ => ⟨S16x6144, .f32⟩
  | .local _ .vmem, ⟨4, _⟩ => ⟨S3x1x2048, .f32⟩
  | .local _ .vmem, ⟨5, _⟩ => ⟨S256x2048, .bf16⟩
  | .local _ .vmem, ⟨6, _⟩ => ⟨S256x2048, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdRefIdeal.lean ====
abbrev S8192x6144 : Shape := ⟨2, ![8192, 6144]⟩
abbrev S3x1x2048 : Shape := ⟨3, ![3, 1, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x1x2048 : Shape := ⟨3, ![1, 1, 2048]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S3x1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S2x2048, .f32⟩
  | .hbm, ⟨8, _⟩ => ⟨S8194x2048, .f32⟩
  | .hbm, ⟨9, _⟩ => ⟨S1x1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S1x1x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== PoolFwd.lean ====
abbrev S8192x2048 : Shape := ⟨2, ![8192, 2048]⟩
abbrev S4x512x512 : Shape := ⟨3, ![4, 512, 512]⟩
abbrev S1x2048 : Shape := ⟨2, ![1, 2048]⟩
abbrev S512x2048 : Shape := ⟨2, ![512, 2048]⟩
abbrev S16x2048 : Shape := ⟨2, ![16, 2048]⟩
abbrev S512x1 : Shape := ⟨2, ![512, 1]⟩
abbrev S512x512 : Shape := ⟨2, ![512, 512]⟩
abbrev S16x512 : Shape := ⟨2, ![16, 512]⟩
abbrev S528x512 : Shape := ⟨2, ![528, 512]⟩
abbrev S1x512x512 : Shape := ⟨3, ![1, 512, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S4x512x512, .bf16⟩
  | .hbm, ⟨4, _⟩ => ⟨S8192x2048, .bf16⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S4x512x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFwdRefIdeal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S8192x1x512 : Shape := ⟨3, ![8192, 1, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S8192 : Shape := ⟨1, ![8192]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S4x512x8192 : Shape := ⟨3, ![4, 512, 8192]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x4x512, .f32⟩
  | .hbm, ⟨4, _⟩ => ⟨S8192x1x512, .f32⟩
  | .hbm, ⟨5, _⟩ => ⟨S8192x512, .f32⟩
  | .hbm, ⟨6, _⟩ => ⟨S_, .f32⟩
  | .hbm, ⟨7, _⟩ => ⟨S_, .f32⟩
  | .hbm, ⟨8, _⟩ => ⟨S8192x512, .f32⟩
  | .hbm, ⟨9, _⟩ => ⟨S_, .f32⟩
  | .hbm, ⟨10, _⟩ => ⟨S2x512, .f32⟩
  | .hbm, ⟨11, _⟩ => ⟨S8194x512, .f32⟩
  | .hbm, ⟨12, _⟩ => ⟨S8192x512, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .f32⟩
  | .hbm, ⟨21, _⟩ => ⟨S8192x512, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x1x512, .f32⟩
  | .hbm, ⟨26, _⟩ => ⟨S8192x512, .f32⟩
  | .hbm, ⟨27, _⟩ => ⟨S_, .f32⟩
  | .hbm, ⟨28, _⟩ => ⟨S_, .f32⟩
  | .hbm, ⟨29, _⟩ => ⟨S8192x512, .f32⟩
  | .hbm, ⟨30, _⟩ => ⟨S_, .f32⟩
  | .hbm, ⟨31, _⟩ => ⟨S4x512, .f32⟩
  | .hbm, ⟨32, _⟩ => ⟨S8196x512, .f32⟩
  | .hbm, ⟨33, _⟩ => ⟨S8192x512, .f32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .f32⟩
  | .hbm, ⟨42, _⟩ => ⟨S8192x512, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S8192x1x512, .f32⟩
  | .hbm, ⟨47, _⟩ => ⟨S8192x512, .f32⟩
  | .hbm, ⟨48, _⟩ => ⟨S_, .f32⟩
  | .hbm, ⟨49, _⟩ => ⟨S_, .f32⟩
  | .hbm, ⟨50, _⟩ => ⟨S8192x512, .f32⟩
  | .hbm, ⟨51, _⟩ => ⟨S_, .f32⟩
  | .hbm, ⟨52, _⟩ => ⟨S8x512, .f32⟩
  | .hbm, ⟨53, _⟩ => ⟨S8200x512, .f32⟩
  | .hbm, ⟨54, _⟩ => ⟨S8192x512, .f32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .f32⟩
  | .hbm, ⟨63, _⟩ => ⟨S8192x512, .f32⟩
  | .hbm, ⟨64, _⟩ => ⟨S8192x1, .f32⟩
  | .hbm, ⟨65, _⟩ => ⟨S8192x512, .f32⟩
  | .hbm, ⟨66, _⟩ => ⟨S8192x512, .f32⟩
  | .hbm, ⟨67, _⟩ => ⟨S8192x1x512, .f32⟩
  | .hbm, ⟨68, _⟩ => ⟨S8192x512, .f32⟩
  | .hbm, ⟨69, _⟩ => ⟨S_, .f32⟩
  | .hbm, ⟨70, _⟩ => ⟨S_, .f32⟩
  | .hbm, ⟨71, _⟩ => ⟨S8192x512, .f32⟩
  | .hbm, ⟨72, _⟩ => ⟨S_, .f32⟩
  | .hbm, ⟨73, _⟩ => ⟨S16x512, .f32⟩
  | .hbm, ⟨74, _⟩ => ⟨S8208x512, .f32⟩
  | .hbm, ⟨75, _⟩ => ⟨S8192x512, .f32⟩
  | .hbm, ⟨76, _⟩ => ⟨S8192, .i32⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S8192, .f32⟩
  | .hbm, ⟨84, _⟩ => ⟨S8192x512, .f32⟩
  | .hbm, ⟨85, _⟩ => ⟨S8192x1, .f32⟩
  | .hbm, ⟨86, _⟩ => ⟨S8192x512, .f32⟩
  | .hbm, ⟨87, _⟩ => ⟨S8192x512, .f32⟩
  | .hbm, ⟨88, _⟩ => ⟨S8192x1x512, .f32⟩
  | .hbm, ⟨89, _⟩ => ⟨S8192x1x512, .f32⟩
  | .hbm, ⟨90, _⟩ => ⟨S8192x1x512, .f32⟩
  | .hbm, ⟨91, _⟩ => ⟨S8192x1x512, .f32⟩
  | .hbm, ⟨92, _⟩ => ⟨S8192x4x512, .f32⟩
  | .hbm, ⟨93, _⟩ => ⟨S8192x4x512, .f32⟩
  | .hbm, ⟨94, _⟩ => ⟨S4x512x8192, .f32⟩
  | .hbm, ⟨95, _⟩ => ⟨S8192x4x512, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .bf16⟩
  | .hbm, ⟨101, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call1_cst : Ref sig .tc := ⟨.hbm, 27, rfl⟩
abbrev main_call1_v0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call2_cst : Ref sig .tc := ⟨.hbm, 48, rfl⟩
abbrev main_call2_v0 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call3_cst : Ref sig .tc := ⟨.hbm, 69, rfl⟩
abbrev main_call3_v0 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== FfnFwd.lean ====
abbrev S8192x2048 : Shape := ⟨2, ![8192, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x2x2048x704 : Shape := ⟨4, ![8, 2, 2048, 704]⟩
abbrev S8x704x2048 : Shape := ⟨3, ![8, 704, 2048]⟩
abbrev S2x8x8192x704 : Shape := ⟨4, ![2, 8, 8192, 704]⟩
abbrev S512x2048 : Shape := ⟨2, ![512, 2048]⟩
abbrev S1x2x2048x704 : Shape := ⟨4, ![1, 2, 2048, 704]⟩
abbrev S1x704x2048 : Shape := ⟨3, ![1, 704, 2048]⟩
abbrev S2x1x512x704 : Shape := ⟨4, ![2, 1, 512, 704]⟩
abbrev S1x1x2048x704 : Shape := ⟨4, ![1, 1, 2048, 704]⟩
abbrev S2048x704 : Shape := ⟨2, ![2048, 704]⟩
abbrev S512x704 : Shape := ⟨2, ![512, 704]⟩
abbrev S1x1x512x704 : Shape := ⟨4, ![1, 1, 512, 704]⟩
abbrev S704x2048 : Shape := ⟨2, ![704, 2048]⟩

abbrev nBuf : Space → Nat
  | .hbm => 17
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x8x704, .f32⟩
  | .hbm, ⟨5, _⟩ => ⟨S8x2048x704, .f32⟩
  | .hbm, ⟨6, _⟩ => ⟨S2048x8x704, .f32⟩
  | .hbm, ⟨7, _⟩ => ⟨S8x2048x704, .f32⟩
  | .hbm, ⟨8, _⟩ => ⟨S8x1x2048x704, .f32⟩
  | .hbm, ⟨9, _⟩ => ⟨S8x1x2048x704, .f32⟩
  | .hbm, ⟨10, _⟩ => ⟨S8x2x2048x704, .f32⟩
  | .hbm, ⟨11, _⟩ => ⟨S8x2x2048x704, .bf16⟩
  | .hbm, ⟨12, _⟩ => ⟨S8x704x2048, .f32⟩
  | .hbm, ⟨13, _⟩ => ⟨S8x704x2048, .bf16⟩
  | .hbm, ⟨14, _⟩ => ⟨S8192x2048, .bf16⟩
  | .hbm, ⟨15, _⟩ => ⟨S2x8x8192x704, .bf16⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2x2048x704, .bf16⟩
  | .local _ .vmem, ⟨3, _⟩ => ⟨S1x2x2048x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnFwdRefIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩
abbrev S1x8x8192x704 : Shape := ⟨4, ![1, 8, 8192, 704]⟩
abbrev S2x8x8192x704 : Shape := ⟨4, ![2, 8, 8192, 704]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | .hbm, ⟨17, _⟩ => ⟨S8192x8x704, .f32⟩
  | .hbm, ⟨18, _⟩ => ⟨S8x8192x704, .f32⟩
  | .hbm, ⟨19, _⟩ => ⟨S8192x8x704, .f32⟩
  | .hbm, ⟨20, _⟩ => ⟨S8x8192x704, .f32⟩
  | .hbm, ⟨21, _⟩ => ⟨S1x8x8192x704, .f32⟩
  | .hbm, ⟨22, _⟩ => ⟨S1x8x8192x704, .f32⟩
  | .hbm, ⟨23, _⟩ => ⟨S2x8x8192x704, .f32⟩
  | .hbm, ⟨24, _⟩ => ⟨S2x8x8192x704, .bf16⟩
  | .hbm, ⟨25, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== ModProj.lean ====
abbrev S8x2048 : Shape := ⟨2, ![8, 2048]⟩
abbrev S4x2048x1536 : Shape := ⟨3, ![4, 2048, 1536]⟩
abbrev S_ : Shape := ⟨0, ![]⟩
abbrev S16x2048 : Shape := ⟨2, ![16, 2048]⟩
abbrev S4x16x1536 : Shape := ⟨3, ![4, 16, 1536]⟩
abbrev S1x2048x256 : Shape := ⟨3, ![1, 2048, 256]⟩
abbrev S1x16x256 : Shape := ⟨3, ![1, 16, 256]⟩
abbrev S2048x256 : Shape := ⟨2, ![2048, 256]⟩
abbrev S16x256 : Shape := ⟨2, ![16, 256]⟩

abbrev nBuf : Space → Nat
  | .hbm => 6
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x1536, .f32⟩
  | .hbm, ⟨2, _⟩ => ⟨S_, .f32⟩
  | .hbm, ⟨3, _⟩ => ⟨S8x2048, .f32⟩
  | .hbm, ⟨4, _⟩ => ⟨S16x2048, .f32⟩
  | .hbm, ⟨5, _⟩ => ⟨S4x16x1536, .f32⟩
  | .local _ .vmem, ⟨0, _⟩ => ⟨S16x2048, .f32⟩
  | .local _ .vmem, ⟨1, _⟩ => ⟨S1x2048x256, .f32⟩
  | .local _ .vmem, ⟨2, _⟩ => ⟨S1x2048x256, .f32⟩
  | .local _ .vmem, ⟨3, _⟩ => ⟨S1x16x256, .f32⟩
  | .local _ .vmem, ⟨4, _⟩ => ⟨S1x16x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModProjRefIdeal.lean ====
abbrev S8x2048 : Shape := ⟨2, ![8, 2048]⟩
abbrev S4x2048x1536 : Shape := ⟨3, ![4, 2048, 1536]⟩
abbrev S_ : Shape := ⟨0, ![]⟩
abbrev S4x1536x8 : Shape := ⟨3, ![4, 1536, 8]⟩
abbrev S4x8x1536 : Shape := ⟨3, ![4, 8, 1536]⟩
abbrev S4x16x1536 : Shape := ⟨3, ![4, 16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x1536, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S4x1536x8, .f32⟩
  | .hbm, ⟨12, _⟩ => ⟨S4x8x1536, .f32⟩
  | .hbm, ⟨13, _⟩ => ⟨S_, .f32⟩
  | .hbm, ⟨14, _⟩ => ⟨S4x8x1536, .f32⟩
  | .hbm, ⟨15, _⟩ => ⟨S4x16x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== ProjFwd.lean ====
abbrev S8192x2048 : Shape := ⟨2, ![8192, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S8x1x2048x768 : Shape := ⟨4, ![8, 1, 2048, 768]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x2048, .bf16⟩
  | .hbm, ⟨3, _⟩ => ⟨S2048x8x768, .f32⟩
  | .hbm, ⟨4, _⟩ => ⟨S8x2048x768, .f32⟩
  | .hbm, ⟨5, _⟩ => ⟨S8x1x2048x768, .f32⟩
  | .hbm, ⟨6, _⟩ => ⟨S8x1x2048x768, .bf16⟩
  | .hbm, ⟨7, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjBwdX.lean ====
abbrev S2048x6144 : Shape := ⟨2, ![2048, 6144]⟩
abbrev S8192x6144 : Shape := ⟨2, ![8192, 6144]⟩
abbrev S2048x8x768 : Shape := ⟨3, ![2048, 8, 768]⟩
abbrev S8x2048x768 : Shape := ⟨3, ![8, 2048, 768]⟩
abbrev S8x1x2048x768 : Shape := ⟨4, ![8, 1, 2048, 768]⟩
abbrev S8192x2048 : Shape := ⟨2, ![8192, 2048]⟩
abbrev S1024x768 : Shape := ⟨2, ![1024, 768]⟩
abbrev S1x1x2048x768 : Shape := ⟨4, ![1, 1, 2048, 768]⟩
abbrev S1024x2048 : Shape := ⟨2, ![1024, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S8192x6144, .bf16⟩
  | .hbm, ⟨3, _⟩ => ⟨S2048x8x768, .f32⟩
  | .hbm, ⟨4, _⟩ => ⟨S8x2048x768, .f32⟩
  | .hbm, ⟨5, _⟩ => ⟨S8x1x2048x768, .f32⟩
  | .hbm, ⟨6, _⟩ => ⟨S8x1x2048x768, .bf16⟩
  | .hbm, ⟨7, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ProjBwdXRefIdeal.lean ====
abbrev S2048x6144 : Shape := ⟨2, ![2048, 6144]⟩
abbrev S8192x6144 : Shape := ⟨2, ![8192, 6144]⟩
abbrev S6144x2048 : Shape := ⟨2, ![6144, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S6144x2048, .f32⟩
  | .hbm, ⟨3, _⟩ => ⟨S8192x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjBwdW.lean ====
abbrev S8192x2048 : Shape := ⟨2, ![8192, 2048]⟩
abbrev S8192x6144 : Shape := ⟨2, ![8192, 6144]⟩
abbrev S8x1x2048x768 : Shape := ⟨4, ![8, 1, 2048, 768]⟩
abbrev S1024x2048 : Shape := ⟨2, ![1024, 2048]⟩
abbrev S1024x768 : Shape := ⟨2, ![1024, 768]⟩
abbrev S1x1x2048x768 : Shape := ⟨4, ![1, 1, 2048, 768]⟩
abbrev S2048x768 : Shape := ⟨2, ![2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S8192x2048, .bf16⟩
  | .hbm, ⟨3, _⟩ => ⟨S8192x6144, .bf16⟩
  | .hbm, ⟨4, _⟩ => ⟨S8x1x2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S1024x768, .bf16⟩
  | .local _ .vmem, ⟨3, _⟩ => ⟨S1024x768, .bf16⟩
  | .local _ .vmem, ⟨4, _⟩ => ⟨S1x1x2048x768, .bf16⟩
  | .local _ .vmem, ⟨5, _⟩ => ⟨S1x1x2048x768, .bf16⟩
  | .local _ .vmem, ⟨6, _⟩ => ⟨S2048x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ProjBwdWRefIdeal.lean ====
abbrev S8192x2048 : Shape := ⟨2, ![8192, 2048]⟩
abbrev S8192x6144 : Shape := ⟨2, ![8192, 6144]⟩
abbrev S2048x8192 : Shape := ⟨2, ![2048, 8192]⟩
abbrev S2048x6144 : Shape := ⟨2, ![2048, 6144]⟩
abbrev S2048x8x768 : Shape := ⟨3, ![2048, 8, 768]⟩
abbrev S8x2048x768 : Shape := ⟨3, ![8, 2048, 768]⟩
abbrev S8x1x2048x768 : Shape := ⟨4, ![8, 1, 2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S2048x8192, .f32⟩
  | .hbm, ⟨3, _⟩ => ⟨S2048x6144, .f32⟩
  | .hbm, ⟨4, _⟩ => ⟨S2048x8x768, .f32⟩
  | .hbm, ⟨5, _⟩ => ⟨S8x2048x768, .f32⟩
  | .hbm, ⟨6, _⟩ => ⟨S8x1x2048x768, .f32⟩
  | .hbm, ⟨7, _⟩ => ⟨S8x1x2048x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DenseFwd.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DenseFwdRefIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DenseBwdX.lean ====
abbrev S2048x2048 : Shape := ⟨2, ![2048, 2048]⟩
abbrev S8192x2048 : Shape := ⟨2, ![8192, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DenseBwdXRefIdeal.lean ====
abbrev S2048x2048 : Shape := ⟨2, ![2048, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DenseBwdW.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DenseBwdWRefIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S2048x2048, .f32⟩
  | .hbm, ⟨4, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnBwdX.lean ====
abbrev S2048x5632 : Shape := ⟨2, ![2048, 5632]⟩
abbrev S8192x5632 : Shape := ⟨2, ![8192, 5632]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x2x2048x704 : Shape := ⟨4, ![8, 2, 2048, 704]⟩
abbrev S8192x8x704 : Shape := ⟨3, ![8192, 8, 704]⟩
abbrev S8x8192x704 : Shape := ⟨3, ![8, 8192, 704]⟩
abbrev S1x8x8192x704 : Shape := ⟨4, ![1, 8, 8192, 704]⟩
abbrev S2x8x8192x704 : Shape := ⟨4, ![2, 8, 8192, 704]⟩
abbrev S8192x2048 : Shape := ⟨2, ![8192, 2048]⟩
abbrev S1x1x1024x704 : Shape := ⟨4, ![1, 1, 1024, 704]⟩
abbrev S1x1x2048x704 : Shape := ⟨4, ![1, 1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 21
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S2048x8x704, .f32⟩
  | .hbm, ⟨5, _⟩ => ⟨S8x2048x704, .f32⟩
  | .hbm, ⟨6, _⟩ => ⟨S2048x8x704, .f32⟩
  | .hbm, ⟨7, _⟩ => ⟨S8x2048x704, .f32⟩
  | .hbm, ⟨8, _⟩ => ⟨S8x1x2048x704, .f32⟩
  | .hbm, ⟨9, _⟩ => ⟨S8x1x2048x704, .f32⟩
  | .hbm, ⟨10, _⟩ => ⟨S8x2x2048x704, .f32⟩
  | .hbm, ⟨11, _⟩ => ⟨S8x2x2048x704, .bf16⟩
  | .hbm, ⟨12, _⟩ => ⟨S8192x8x704, .f32⟩
  | .hbm, ⟨13, _⟩ => ⟨S8x8192x704, .f32⟩
  | .hbm, ⟨14, _⟩ => ⟨S8192x8x704, .f32⟩
  | .hbm, ⟨15, _⟩ => ⟨S8x8192x704, .f32⟩
  | .hbm, ⟨16, _⟩ => ⟨S1x8x8192x704, .f32⟩
  | .hbm, ⟨17, _⟩ => ⟨S1x8x8192x704, .f32⟩
  | .hbm, ⟨18, _⟩ => ⟨S2x8x8192x704, .f32⟩
  | .hbm, ⟨19, _⟩ => ⟨S2x8x8192x704, .bf16⟩
  | .hbm, ⟨20, _⟩ => ⟨S8192x2048, .f32⟩
  | .local _ .vmem, ⟨0, _⟩ => ⟨S1x1x1024x704, .bf16⟩
  | .local _ .vmem, ⟨1, _⟩ => ⟨S1x1x1024x704, .bf16⟩
  | .local _ .vmem, ⟨2, _⟩ => ⟨S1x1x2048x704, .bf16⟩
  | .local _ .vmem, ⟨3, _⟩ => ⟨S1x1x2048x704, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_10 : BitVec 32 := 0#32
  let v13 : BitVec 1 := Scalar.cmpi .ne v12 c0_i32_10
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg2 c8_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg2 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg2 c8_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg2 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnBwdXRefIdeal.lean ====
abbrev S2048x5632 : Shape := ⟨2, ![2048, 5632]⟩
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S5632x2048, .f32⟩
  | .hbm, ⟨7, _⟩ => ⟨S8192x2048, .f32⟩
  | .hbm, ⟨8, _⟩ => ⟨S8192x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnBwdWgu.lean ====
abbrev S8192x2048 : Shape := ⟨2, ![8192, 2048]⟩
abbrev S8192x5632 : Shape := ⟨2, ![8192, 5632]⟩
abbrev S8192x8x704 : Shape := ⟨3, ![8192, 8, 704]⟩
abbrev S8x8192x704 : Shape := ⟨3, ![8, 8192, 704]⟩
abbrev S1x8x8192x704 : Shape := ⟨4, ![1, 8, 8192, 704]⟩
abbrev S2x8x8192x704 : Shape := ⟨4, ![2, 8, 8192, 704]⟩
abbrev S8x2x2048x704 : Shape := ⟨4, ![8, 2, 2048, 704]⟩
abbrev S1024x2048 : Shape := ⟨2, ![1024, 2048]⟩
abbrev S1x1x1024x704 : Shape := ⟨4, ![1, 1, 1024, 704]⟩
abbrev S1x1x2048x704 : Shape := ⟨4, ![1, 1, 2048, 704]⟩
abbrev S2048x704 : Shape := ⟨2, ![2048, 704]⟩
abbrev S1024x704 : Shape := ⟨2, ![1024, 704]⟩

abbrev nBuf : Space → Nat
  | .hbm => 13
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S8192x8x704, .f32⟩
  | .hbm, ⟨4, _⟩ => ⟨S8x8192x704, .f32⟩
  | .hbm, ⟨5, _⟩ => ⟨S8192x8x704, .f32⟩
  | .hbm, ⟨6, _⟩ => ⟨S8x8192x704, .f32⟩
  | .hbm, ⟨7, _⟩ => ⟨S1x8x8192x704, .f32⟩
  | .hbm, ⟨8, _⟩ => ⟨S1x8x8192x704, .f32⟩
  | .hbm, ⟨9, _⟩ => ⟨S2x8x8192x704, .f32⟩
  | .hbm, ⟨10, _⟩ => ⟨S2x8x8192x704, .bf16⟩
  | .hbm, ⟨11, _⟩ => ⟨S8192x2048, .bf16⟩
  | .hbm, ⟨12, _⟩ => ⟨S8x2x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S2048x704, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnBwdWguRefIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x2x2048x704 : Shape := ⟨4, ![8, 2, 2048, 704]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S2048x8192, .f32⟩
  | .hbm, ⟨4, _⟩ => ⟨S2048x5632, .f32⟩
  | .hbm, ⟨5, _⟩ => ⟨S2048x8x704, .f32⟩
  | .hbm, ⟨6, _⟩ => ⟨S8x2048x704, .f32⟩
  | .hbm, ⟨7, _⟩ => ⟨S2048x8192, .f32⟩
  | .hbm, ⟨8, _⟩ => ⟨S2048x5632, .f32⟩
  | .hbm, ⟨9, _⟩ => ⟨S2048x8x704, .f32⟩
  | .hbm, ⟨10, _⟩ => ⟨S8x2048x704, .f32⟩
  | .hbm, ⟨11, _⟩ => ⟨S8x1x2048x704, .f32⟩
  | .hbm, ⟨12, _⟩ => ⟨S8x1x2048x704, .f32⟩
  | .hbm, ⟨13, _⟩ => ⟨S8x2x2048x704, .f32⟩
  | .hbm, ⟨14, _⟩ => ⟨S8x2x2048x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== FfnBwdWd.lean ====
abbrev S8192x5632 : Shape := ⟨2, ![8192, 5632]⟩
abbrev S8192x2048 : Shape := ⟨2, ![8192, 2048]⟩
abbrev S8192x8x704 : Shape := ⟨3, ![8192, 8, 704]⟩
abbrev S8x8192x704 : Shape := ⟨3, ![8, 8192, 704]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x8x704, .f32⟩
  | .hbm, ⟨3, _⟩ => ⟨S8x8192x704, .f32⟩
  | .hbm, ⟨4, _⟩ => ⟨S8x8192x704, .bf16⟩
  | .hbm, ⟨5, _⟩ => ⟨S8192x2048, .bf16⟩
  | .hbm, ⟨6, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnBwdWdRefIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩
abbrev S8x704x2048 : Shape := ⟨3, ![8, 704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S5632x8192, .f32⟩
  | .hbm, ⟨3, _⟩ => ⟨S5632x2048, .f32⟩
  | .hbm, ⟨4, _⟩ => ⟨S8x704x2048, .f32⟩
  | .hbm, ⟨5, _⟩ => ⟨S8x704x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Adam.lean ====
abbrev S4x2048x768 : Shape := ⟨3, ![4, 2048, 768]⟩
abbrev S1x2048x768 : Shape := ⟨3, ![1, 2048, 768]⟩
abbrev S4x1x1x2048x768 : Shape := ⟨5, ![4, 1, 1, 2048, 768]⟩
abbrev S4x1x1x256x768 : Shape := ⟨5, ![4, 1, 1, 256, 768]⟩
abbrev S1x256x768 : Shape := ⟨3, ![1, 256, 768]⟩
abbrev S1x1x1x256x768 : Shape := ⟨5, ![1, 1, 1, 256, 768]⟩
abbrev S256x768 : Shape := ⟨2, ![256, 768]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S4x1x1x2048x768, .f32⟩
  | .hbm, ⟨5, _⟩ => ⟨S4x1x1x2048x768, .bf16⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | .local _ .vmem, ⟨0, _⟩ => ⟨S4x1x1x256x768, .bf16⟩
  | .local _ .vmem, ⟨1, _⟩ => ⟨S4x1x1x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S4x2048x768 : Shape := ⟨3, ![4, 2048, 768]⟩
abbrev S1x2048x768 : Shape := ⟨3, ![1, 2048, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S_, .f32⟩
  | .hbm, ⟨5, _⟩ => ⟨S2048x768, .f32⟩
  | .hbm, ⟨6, _⟩ => ⟨S1x2048x768, .f32⟩
  | .hbm, ⟨7, _⟩ => ⟨S_, .f32⟩
  | .hbm, ⟨8, _⟩ => ⟨S1x2048x768, .f32⟩
  | .hbm, ⟨9, _⟩ => ⟨S1x2048x768, .f32⟩
  | .hbm, ⟨10, _⟩ => ⟨S_, .f32⟩
  | .hbm, ⟨11, _⟩ => ⟨S1x2048x768, .f32⟩
  | .hbm, ⟨12, _⟩ => ⟨S1x2048x768, .f32⟩
  | .hbm, ⟨13, _⟩ => ⟨S1x2048x768, .f32⟩
  | .hbm, ⟨14, _⟩ => ⟨S_, .f32⟩
  | .hbm, ⟨15, _⟩ => ⟨S1x2048x768, .f32⟩
  | .hbm, ⟨16, _⟩ => ⟨S1x2048x768, .f32⟩
  | .hbm, ⟨17, _⟩ => ⟨S1x2048x768, .f32⟩
  | .hbm, ⟨18, _⟩ => ⟨S_, .f32⟩
  | .hbm, ⟨19, _⟩ => ⟨S1x2048x768, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S_, .f32⟩
  | .hbm, ⟨26, _⟩ => ⟨S1x2048x768, .f32⟩
  | .hbm, ⟨27, _⟩ => ⟨S1x2048x768, .f32⟩
  | .hbm, ⟨28, _⟩ => ⟨S1x2048x768, .f32⟩
  | .hbm, ⟨29, _⟩ => ⟨S_, .f32⟩
  | .hbm, ⟨30, _⟩ => ⟨S1x2048x768, .f32⟩
  | .hbm, ⟨31, _⟩ => ⟨S1x2048x768, .f32⟩
  | .hbm, ⟨32, _⟩ => ⟨S1x2048x768, .f32⟩
  | .hbm, ⟨33, _⟩ => ⟨S_, .f32⟩
  | .hbm, ⟨34, _⟩ => ⟨S1x2048x768, .f32⟩
  | .hbm, ⟨35, _⟩ => ⟨S1x2048x768, .f32⟩
  | .hbm, ⟨36, _⟩ => ⟨S1x2048x768, .f32⟩
  | .hbm, ⟨37, _⟩ => ⟨S_, .f32⟩
  | .hbm, ⟨38, _⟩ => ⟨S1x2048x768, .f32⟩
  | .hbm, ⟨39, _⟩ => ⟨S1x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ModGrad.lean ====
abbrev S8x2048 : Shape := ⟨2, ![8, 2048]⟩
abbrev S4x8x1536 : Shape := ⟨3, ![4, 8, 1536]⟩
abbrev S4x2048x1536 : Shape := ⟨3, ![4, 2048, 1536]⟩
abbrev S_ : Shape := ⟨0, ![]⟩
abbrev S16x2048 : Shape := ⟨2, ![16, 2048]⟩
abbrev S4x16x1536 : Shape := ⟨3, ![4, 16, 1536]⟩
abbrev S1x16x256 : Shape := ⟨3, ![1, 16, 256]⟩
abbrev S1x2048x256 : Shape := ⟨3, ![1, 2048, 256]⟩
abbrev S16x256 : Shape := ⟨2, ![16, 256]⟩
abbrev S2048x256 : Shape := ⟨2, ![2048, 256]⟩

abbrev nBuf : Space → Nat
  | .hbm => 15
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S4x8x1536, .f32⟩
  | .hbm, ⟨9, _⟩ => ⟨S16x2048, .f32⟩
  | .hbm, ⟨10, _⟩ => ⟨S4x16x1536, .f32⟩
  | .hbm, ⟨11, _⟩ => ⟨S4x2048x1536, .f32⟩
  | .hbm, ⟨12, _⟩ => ⟨S4x2048x1536, .f32⟩
  | .hbm, ⟨13, _⟩ => ⟨S4x2048x1536, .f32⟩
  | .hbm, ⟨14, _⟩ => ⟨S4x2048x1536, .f32⟩
  | .local _ .vmem, ⟨0, _⟩ => ⟨S16x2048, .f32⟩
  | .local _ .vmem, ⟨1, _⟩ => ⟨S1x16x256, .f32⟩
  | .local _ .vmem, ⟨2, _⟩ => ⟨S1x16x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ModGradRefIdeal.lean ====
abbrev S8x2048 : Shape := ⟨2, ![8, 2048]⟩
abbrev S4x8x1536 : Shape := ⟨3, ![4, 8, 1536]⟩
abbrev S4x2048x1536 : Shape := ⟨3, ![4, 2048, 1536]⟩
abbrev S_ : Shape := ⟨0, ![]⟩
abbrev S4x1536x8 : Shape := ⟨3, ![4, 1536, 8]⟩
abbrev S4x1536x2048 : Shape := ⟨3, ![4, 1536, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x1536x8, .f32⟩
  | .hbm, ⟨15, _⟩ => ⟨S4x8x1536, .f32⟩
  | .hbm, ⟨16, _⟩ => ⟨S4x1536x8, .f32⟩
  | .hbm, ⟨17, _⟩ => ⟨S4x1536x2048, .f32⟩
  | .hbm, ⟨18, _⟩ => ⟨S4x2048x1536, .f32⟩
  | .hbm, ⟨19, _⟩ => ⟨S_, .f32⟩
  | .hbm, ⟨20, _⟩ => ⟨S4x2048x1536, .f32⟩
  | .hbm, ⟨21, _⟩ => ⟨S4x2048x1536, .f32⟩
  | .hbm, ⟨22, _⟩ => ⟨S_, .f32⟩
  | .hbm, ⟨23, _⟩ => ⟨S4x2048x1536, .f32⟩
  | .hbm, ⟨24, _⟩ => ⟨S4x2048x1536, .f32⟩
  | .hbm, ⟨25, _⟩ => ⟨S4x2048x1536, .f32⟩
  | .hbm, ⟨26, _⟩ => ⟨S_, .f32⟩
  | .hbm, ⟨27, _⟩ => ⟨S4x2048x1536, .f32⟩
  | .hbm, ⟨28, _⟩ => ⟨S4x2048x1536, .f32⟩
  | .hbm, ⟨29, _⟩ => ⟨S4x2048x1536, .f32⟩
  | .hbm, ⟨30, _⟩ => ⟨S_, .f32⟩
  | .hbm, ⟨31, _⟩ => ⟨S4x2048x1536, .f32⟩
  | .hbm, ⟨32, _⟩ => ⟨S4x2048x1536, .f32⟩
  | .hbm, ⟨33, _⟩ => ⟨S4x2048x1536, .f32⟩
  | .hbm, ⟨34, _⟩ => ⟨S_, .f32⟩
  | .hbm, ⟨35, _⟩ => ⟨S4x2048x1536, .f32⟩
  | .hbm, ⟨36, _⟩ => ⟨S4x2048x1536, .f32⟩
  | .hbm, ⟨37, _⟩ => ⟨S_, .f32⟩
  | .hbm, ⟨38, _⟩ => ⟨S4x2048x1536, .f32⟩
  | .hbm, ⟨39, _⟩ => ⟨S4x2048x1536, .f32⟩
  | .hbm, ⟨40, _⟩ => ⟨S4x2048x1536, .f32⟩
  | .hbm, ⟨41, _⟩ => ⟨S_, .f32⟩
  | .hbm, ⟨42, _⟩ => ⟨S4x2048x1536, .f32⟩
  | .hbm, ⟨43, _⟩ => ⟨S4x2048x1536, .f32⟩
  | .hbm, ⟨44, _⟩ => ⟨S4x2048x1536, .f32⟩
  | .hbm, ⟨45, _⟩ => ⟨S_, .f32⟩
  | .hbm, ⟨46, _⟩ => ⟨S4x2048x1536, .f32⟩
  | .hbm, ⟨47, _⟩ => ⟨S4x2048x1536, .f32⟩
  | .hbm, ⟨48, _⟩ => ⟨S4x2048x1536, .f32⟩
  | .hbm, ⟨49, _⟩ => ⟨S_, .f32⟩
  | .hbm, ⟨50, _⟩ => ⟨S4x2048x1536, .f32⟩
  | .hbm, ⟨51, _⟩ => ⟨S4x2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== SumDev.lean ====
abbrev S8x608x128 : Shape := ⟨3, ![8, 608, 128]⟩
abbrev S608x128 : Shape := ⟨2, ![608, 128]⟩
abbrev S1x608x128 : Shape := ⟨3, ![1, 608, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x608x128, .f32⟩
  | .hbm, ⟨1, _⟩ => ⟨S608x128, .f32⟩
  | .local _ .vmem, ⟨0, _⟩ => ⟨S8x608x128, .f32⟩
  | .local _ .vmem, ⟨1, _⟩ => ⟨S608x128, .f32⟩
  | _, _ => ⟨S8x608x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x608x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S608x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevRefIdeal.lean ====
abbrev S8x608x128 : Shape := ⟨3, ![8, 608, 128]⟩
abbrev S_ : Shape := ⟨0, ![]⟩
abbrev S608x128 : Shape := ⟨2, ![608, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x608x128, .f32⟩
  | .hbm, ⟨1, _⟩ => ⟨S_, .f32⟩
  | .hbm, ⟨2, _⟩ => ⟨S608x128, .f32⟩
  | _, _ => ⟨S8x608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairAdd.lean ====
abbrev S1 : Shape := ⟨1, ![1]⟩
abbrev S8x2048x1408 : Shape := ⟨3, ![8, 2048, 1408]⟩
abbrev S4x2048x1408 : Shape := ⟨3, ![4, 2048, 1408]⟩
abbrev S1x128x1408 : Shape := ⟨3, ![1, 128, 1408]⟩

abbrev nBuf : Space → Nat
  | .hbm => 3
  | .vmem => 6
  | .smem => 1
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S4x2048x1408, .bf16⟩
  | .local _ .vmem, ⟨0, _⟩ => ⟨S1x128x1408, .bf16⟩
  | .local _ .vmem, ⟨1, _⟩ => ⟨S1x128x1408, .bf16⟩
  | .local _ .vmem, ⟨2, _⟩ => ⟨S1x128x1408, .bf16⟩
  | .local _ .vmem, ⟨3, _⟩ => ⟨S1x128x1408, .bf16⟩
  | .local _ .vmem, ⟨4, _⟩ => ⟨S1x128x1408, .bf16⟩
  | .local _ .vmem, ⟨5, _⟩ => ⟨S1x128x1408, .bf16⟩
  | .local _ .smem, ⟨0, _⟩ => ⟨S1, .i32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddRefIdeal.lean ====
abbrev S1 : Shape := ⟨1, ![1]⟩
abbrev S8x2048x1408 : Shape := ⟨3, ![8, 2048, 1408]⟩
abbrev S4x2048x1408 : Shape := ⟨3, ![4, 2048, 1408]⟩
abbrev S4x2x2048x1408 : Shape := ⟨4, ![4, 2, 2048, 1408]⟩
abbrev S_ : Shape := ⟨0, ![]⟩
abbrev S4x1x2048x1408 : Shape := ⟨4, ![4, 1, 2048, 1408]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x2048x1408, .bf16⟩
  | .hbm, ⟨2, _⟩ => ⟨S4x2048x1408, .bf16⟩
  | .hbm, ⟨3, _⟩ => ⟨S4x2x2048x1408, .bf16⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x2048x1408, .bf16⟩
  | .hbm, ⟨8, _⟩ => ⟨S4x2048x1408, .bf16⟩
  | .hbm, ⟨9, _⟩ => ⟨S4x1x2048x1408, .bf16⟩
  | .hbm, ⟨10, _⟩ => ⟨S4x2048x1408, .bf16⟩
  | .hbm, ⟨11, _⟩ => ⟨S4x2048x1408, .bf16⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S4x2048x1408, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.GateValue.lean ====
/- What the gate gradient's call computes: `dy = gate * dh` rounded, and `dgate` the column sum of `dh * y`. -/
module

public import proofs.«01_k».proof.Proof.Gen.GateIdeal.Value
public import proofs.«01_k».proof.Proof.Gen.GateRefIdeal.Run
public import Idealize.ShloMosaic.Lib.Pipeline.ValueKit

@[expose] public section

noncomputable section

namespace Cert.GateProof

open GateIdeal GateIdeal.Gen Idealize.ShloMosaic TcCoe Idealize.SL.Sem
open Idealize.ShloMosaic.Pipeline (Dat)

/-- The reference's first result over the arguments. -/
def DY (gate : FVec Ideal S1x2048 .f32) (dh : FVec Ideal S8192x2048 .f32) : FVec Ideal S8192x2048 .bf16 :=
  truncf .bf16 (mulf (broadcastInDim S8192x2048 ![0, 1] GateRefIdeal.Gen.bcast_S1x2048_S8192x2048_0_1 gate) dh)
    GateRefIdeal.Gen.bitsLt_bf16_f32

/-- The reference's second result over the arguments. -/
def DGATE (y dh : FVec Ideal S8192x2048 .f32) : FVec Ideal S1x2048 .f32 :=
  shapeCast _ (Host.reduceAdd (mulf dh y) (constant GateRefIdeal.S_ .f32 0x00000000#32)
    GateRefIdeal.Gen.reducesTo_S8192x2048_S2048_d0 GateRefIdeal.Gen.h_S_) GateRefIdeal.Gen.shapeCasts_S2048_S1x2048

/-- One block of `dy` at an index. -/
theorem pay1_at (v0 : FVec Ideal S512x2048 .f32) (v1 : FVec Ideal S1x2048 .f32) (r : Fin 512) (l : Fin 2048) :
    k0_pay1 (F := Ideal) v0 v1 (ix2 r l) = v0 (ix2 r l) * v1 (ix2 0 l) := by
  pointwise [k0_pay1]

/-- One block's column sum. -/
theorem pay2_at (v0 : FVec Ideal S512x2048 .f32) (v6 : FVec Ideal S512x2048 .bf16) (j : S1x2048.Idx) :
    k0_pay2 (F := Ideal) v0 v6 j = ∑ k : Fin 512, v0 (ix2 k (j 1)) * v6 (ix2 k (j 1)) := by
  pointwise [k0_pay2]

theorem pay3_at (v0 : FVec Ideal S512x2048 .f32) (v6 : FVec Ideal S512x2048 .bf16) (acc : FVec Ideal S1x2048 .f32) (j : S1x2048.Idx) :
    k0_pay3 (F := Ideal) v0 v6 acc j = acc j + ∑ k : Fin 512, v0 (ix2 k (j 1)) * v6 (ix2 k (j 1)) := by
  pointwise [k0_pay3, k0_pay2]

theorem DY_at (gate : FVec Ideal S1x2048 .f32) (dh : FVec Ideal S8192x2048 .f32) (r : Fin 8192) (l : Fin 2048) :
    DY gate dh (ix2 r l) = gate (ix2 0 l) * dh (ix2 r l) := by
  pointwise [DY]

theorem DGATE_at (y dh : FVec Ideal S8192x2048 .f32) (j : S1x2048.Idx) :
    DGATE y dh j = ∑ k : Fin 8192, dh (ix2 k (j 1)) * y (ix2 k (j 1)) := by
  pointwise [DGATE]

/-- Every window's block index at point `t`. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ)

/-- After the run the first result array is `DY` of the arguments. -/
theorem final3 (c : Dev nD) : (dats m 0 c).arrAt 3 (cfgs 0).N
    = DY (m ((c : Thread nD τ).loc main_arg1)) (m ((c : Thread nD τ).loc main_arg2)) := by
  refine (dats m 0 c).arrAt_eq_of_covers 3 _ (by decide +kernel) fun t _ y => ?_
  blk_simp
  have hN : t.val < 16 := lt_of_lt_of_eq t.isLt N_0
  rw [after0_3]
  by_cases h : t.val % 16 = 0
  · rw [outsAt0_A m c t h (by omega)]
    frame_out
    pointwise [k0_pay1, DY]
    rw [mul_comm]
    blk_point [iblk, V, idx t]
  · rw [outsAt0_B m c t h (by omega)]
    frame_out
    pointwise [k0_pay1, DY]
    rw [mul_comm]
    blk_point [iblk, V, idx t]

/-- After the run the second result array is `DGATE` of the arguments. -/
theorem final4 (c : Dev nD) : (dats m 0 c).arrAt 4 (cfgs 0).N
    = DGATE (m ((c : Thread nD τ).loc main_arg0)) (m ((c : Thread nD τ).loc main_arg2)) := by
  refine (dats m 0 c).arrAt_eq_of_after_last 4 t0_15 (by decide +kernel) _ fun j => ?_
  blk_simp
  have hN (t : Fin cfg0.N) : t.val < 16 := lt_of_lt_of_eq t.isLt N_0
  rw [after0_4, Pipeline.eq_sum_fin_of_reset_step_apply_last (fun n h => (outsAt0 m c n h).2) 16 (fun _ => 0) _
    (fun t h j => by rw [outsAt0_A m c t h (by have := hN t; omega)]; frame_out; rw [pay2_at, ← zero_add (Finset.sum _ _)])
    (fun t h j => by rw [outsAt0_B m c t h (by have := hN t; omega)]; frame_out; rw [pay3_at])
    (le_of_eq N_0) t0_15 rfl j, zero_add, DGATE_at]
  refine Fin.sum_mul_add_congr fun t k hl => ?_
  blk_point [iblk, V, idx t]

end Cert.GateProof

end
-- ==== Proof.GateClaims.lean ====
/- The claims about the gate gradient's call. -/
module
public import proofs.«01_k».proof.Defs
public import proofs.«01_k».proof.Proof.GateValue
public import proofs.«01_k».proof.Proof.Gen.Gate.Frame

@[expose] public section
noncomputable section
namespace Cert.GateProof
open Idealize.ShloMosaic Idealize.SL.Sem

/-- The frame of the reference. -/
theorem ref_frame : quiescent_GateRefIdeal := fun m ρ _ =>
  (θ_run GateRefIdeal.defs _ _).mono (fun r h => ⟨fun c => (h c).2.2, sem_eq_zero_of_no_sems (by decide) r.2⟩)
    (GateRefIdeal.Value.run (F := Ideal) m ρ)

/-- The call's two results are the reference's. -/
theorem algebraic : algebraic_GateIdeal_GateRefIdeal := fun m ρ m' ρ' _ hag =>
  ⟨fun c => DY (m ((c.tc : Thread _ _).loc GateIdeal.main_arg1)) (m ((c.tc : Thread _ _).loc GateIdeal.main_arg2)),
   fun c => DGATE (m ((c.tc : Thread _ _).loc GateIdeal.main_arg0)) (m ((c.tc : Thread _ _).loc GateIdeal.main_arg2)),
   (θ_run GateIdeal.defs _ _).mono (fun _ h c => ⟨(h c).1.trans (final3 m c), (h c).2.1.trans (final4 m c), (h c).2.2⟩)
     (GateIdeal.Value.run_blocks (F := Ideal) m ρ),
   (θ_run GateRefIdeal.defs _ _).mono (fun _ h c => ⟨(h c).1.trans (by rw [(hag c).2.1, (hag c).2.2]; rfl),
       (h c).2.1.trans (by rw [(hag c).1, (hag c).2.2]; rfl), (h c).2.2⟩)
     (GateRefIdeal.Value.run (F := Ideal) m' ρ')⟩
-- ==== Proof.RealOps.lean ====
module

public import Idealize.ShloMosaic.Lib.Pipeline.ValueKit
public import Mathlib.Algebra.BigOperators.Intervals

/-! The operations of the extended reals at real numbers, and sums over a range read as sums over an axis. -/

@[expose] public section

namespace Cert.RealOps

open Idealize.ShloMosaic
open scoped BigOperators
open Finset

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem min_coe (x y : ℝ) : min (x : EReal) (y : EReal) = ((min x y : ℝ) : EReal) :=
  (EReal.coe_strictMono.monotone.map_min).symm

theorem max_coe (x y : ℝ) : max (x : EReal) (y : EReal) = ((max x y : ℝ) : EReal) :=
  (EReal.coe_strictMono.monotone.map_max).symm

theorem absf_coe {φ : FTy} (x : ℝ) : FloatOps.absf (F := Ideal) (φ := φ) (x : EReal) = ((|x| : ℝ) : EReal) := by
  rw [Ideal.absf_def, ← EReal.coe_neg, max_coe]; rfl

theorem exp_coe (x : ℝ) : Ideal.exp (x : EReal) = ((Real.exp x : ℝ) : EReal) := rfl

theorem log_coe {x : ℝ} (h : 0 < x) : Ideal.log (x : EReal) = ((Real.log x : ℝ) : EReal) :=
  if_neg (not_le.2 h)

/-- The first `n + 1` entries of an axis. -/
theorem sum_upto {N : ℕ} (f : ℕ → ℝ) (n : Fin N) :
    ∑ x : Fin N, f x.val * (if x.val ≤ n.val then 1 else 0 : ℝ) = ∑ x ∈ range (n.val + 1), f x := by
  rw [Fin.sum_univ_eq_sum_range (fun x => f x * (if x ≤ n.val then 1 else 0 : ℝ)) N]
  have h : range (n.val + 1) ⊆ range N := range_subset_range.2 n.isLt
  rw [← sum_subset h fun x _ hx => ?_]
  · exact sum_congr rfl fun x hx => by rw [if_pos (Nat.lt_succ_iff.1 (mem_range.1 hx)), mul_one]
  · rw [if_neg fun hle => hx (mem_range.2 (Nat.lt_succ_of_le hle)), mul_zero]

/-- The first `n` entries of an axis. -/
theorem sum_before {N : ℕ} (f : ℕ → ℝ) (n : Fin N) :
    ∑ x : Fin N, f x.val * (if x.val < n.val then 1 else 0 : ℝ) = ∑ x ∈ range n.val, f x := by
  rw [Fin.sum_univ_eq_sum_range (fun x => f x * (if x < n.val then 1 else 0 : ℝ)) N]
  have h : range n.val ⊆ range N := range_subset_range.2 n.isLt.le
  rw [← sum_subset h fun x _ hx => ?_]
  · exact sum_congr rfl fun x hx => by rw [if_pos (mem_range.1 hx), mul_one]
  · rw [if_neg fun hle => hx (mem_range.2 hle), mul_zero]

end Cert.RealOps
-- ==== Proof.ConvBlock.lean ====
/- The convolution's gradient: what one block of 256 rows computes in one column chunk. -/
module

public import proofs.«01_k».proof.Proof.Gen.ConvIdeal.Frame
public import proofs.«01_k».proof.Proof.RealOps

@[expose] public section

noncomputable section

namespace Cert.ConvProof

open ConvIdeal ConvIdeal.Gen Idealize.ShloMosaic TcCoe Idealize.SL.Sem

abbrev Cur : Type := FVec Ideal S256x512 .f32
abbrev Halo : Type := FVec Ideal S16x512 .f32
abbrev Ext : Type := FVec Ideal S272x512 .f32
abbrev Tap : Type := FVec Ideal S1x1x512 .f32

/-- The body's steps: the halo where it lies inside the array, the gated rows with the rows before them, their shifts, the
    gated cotangent with the rows after it, the convolution and its transpose. -/
def inside (g : BitVec 1) (x y : Halo) : Halo := Scalar.select g (mulf x y) (broadcast S16x512 (Scalar.ofBits .f32 0x00000000#32))
def gated (g : BitVec 1) (c v : Cur) (pc pv : Halo) : Ext :=
  concatenate S272x512 0 [⟨S16x512, inside g pc pv⟩, ⟨S256x512, mulf c v⟩] concatenates_S16x512_S256x512_S272x512_d0
def back0 (z : Ext) : Cur := extractStridedSlice S256x512 ![16, 0] z slices_S272x512_o16_0_S256x512
def back1 (z : Ext) : Cur := back0 (dynamicRotate 0 1#32 none z rotates_S272x512_d0)
def back2 (z : Ext) : Cur := back0 (dynamicRotate 0 2#32 none z rotates_S272x512_d0)
def tap (w : Tap) : FVec Ideal S1x512 .f32 := shapeCast S1x512 w shapeCasts_S1x1x512_S1x512
def conv (w0 w1 w2 : Tap) (z : Ext) : Cur :=
  addf (addf (mulf (broadcastTo S256x512 (tap w2) broadcasts_S1x512_S256x512) (back0 z)) (mulf (broadcastTo S256x512 (tap w1) broadcasts_S1x512_S256x512) (back1 z)))
    (mulf (broadcastTo S256x512 (tap w0) broadcasts_S1x512_S256x512) (back2 z))
def wideQ (q : FVec Ideal S256x512 .bf16) : Cur := extf .f32 (shapeCast S256x512 q shapeCasts_S256x512_S256x512) bitsLt_bf16_f32
def wideN (q : FVec Ideal S16x512 .bf16) : Halo := extf .f32 (shapeCast S16x512 q shapeCasts_S16x512_S16x512) bitsLt_bf16_f32
def cot (g : BitVec 1) (e : Cur) (qn : FVec Ideal S16x512 .bf16) (un : Halo) : Ext :=
  concatenate S272x512 0 [⟨S256x512, e⟩, ⟨S16x512, inside g (wideN qn) un⟩] concatenates_S256x512_S16x512_S272x512_d0
def transposed (w0 w1 w2 : Tap) (e : Ext) : Cur :=
  extractStridedSlice S256x512 ![0, 0]
    (addf (addf (mulf (broadcastTo S272x512 (tap w2) broadcasts_S1x512_S272x512) e) (mulf (broadcastTo S272x512 (tap w1) broadcasts_S1x512_S272x512) (dynamicRotate 0 271#32 none e rotates_S272x512_d0)))
      (mulf (broadcastTo S272x512 (tap w0) broadcasts_S1x512_S272x512) (dynamicRotate 0 270#32 none e rotates_S272x512_d0))) slices_S272x512_o0_0_S256x512
def rowsSum (x : Cur) : FVec Ideal S1x512 .f32 :=
  shapeCast S1x512 (multiReduction .add [0] S512 x 0x00000000#32 reduces_S256x512_S512 (.inl rfl) rfl) shapeCasts_S512_S1x512
def out (x : Cur) : FVec Ideal S256x512 .bf16 := truncf .bf16 x bitsLt_bf16_f32
def first (x : Cur) : Tap := shapeCast S1x1x512 (rowsSum x) shapeCasts_S1x512_S1x1x512
def next (x : Cur) (a : Tap) : Tap := shapeCast S1x1x512 (addf (tap a) (rowsSum x)) shapeCasts_S1x512_S1x1x512

variable (g : BitVec 1) (x y : Halo) (c v e : Cur) (pc pv un : Halo) (qn : FVec Ideal S16x512 .bf16) (q : FVec Ideal S256x512 .bf16) (w0 w1 w2 a : Tap) (z : Ext)

theorem inside_at (p : Fin 16) (j : Fin 512) : inside g x y (ix2 p j) = if g = 1#1 then x (ix2 p j) * y (ix2 p j) else 0 := by
  unfold inside
  by_cases h : g = 1#1
  · rw [if_pos h, h]; rfl
  · rw [if_neg h, (BitVec.eq_zero_or_eq_one g).resolve_right h]
    exact Ideal.ofBits_zero .f32

/-- An array at two row numbers that are one. -/
theorem row_eq {r r' : Fin 272} (h : r.val = r'.val) (j : Fin 512) : z (ix2 r j) = z (ix2 r' j) := congrArg (fun k => z (ix2 k j)) (Fin.ext h)

theorem back0_at (r : Fin 256) (j : Fin 512) : back0 z (ix2 r j) = z (ix2 ⟨r.val + 16, by omega⟩ j) := by
  pointwise [back0]
  exact row_eq z (by show 16 + r.val = r.val + 16; omega) j
theorem back1_at (r : Fin 256) (j : Fin 512) : back1 z (ix2 r j) = z (ix2 ⟨r.val + 15, by omega⟩ j) := by
  pointwise [back1, back0]
  exact row_eq z (by show (16 + r.val + 272 - 1) % 272 = r.val + 15; omega) j
theorem back2_at (r : Fin 256) (j : Fin 512) : back2 z (ix2 r j) = z (ix2 ⟨r.val + 14, by omega⟩ j) := by
  pointwise [back2, back0]
  exact row_eq z (by show (16 + r.val + 272 - 2) % 272 = r.val + 14; omega) j
theorem gated_at (r : Fin 272) (j : Fin 512) : gated g c v pc pv (ix2 r j) = if h : r.val < 16 then inside g pc pv (ix2 ⟨r.val, h⟩ j) else c (ix2 ⟨r.val - 16, by omega⟩ j) * v (ix2 ⟨r.val - 16, by omega⟩ j) := by
  unfold gated
  generalize inside g pc pv = u
  pointwise []
theorem cot_at (r : Fin 272) (j : Fin 512) : cot g e qn un (ix2 r j) = if h : r.val < 256 then e (ix2 ⟨r.val, h⟩ j) else inside g (wideN qn) un (ix2 ⟨r.val - 256, by omega⟩ j) := by
  unfold cot
  generalize inside g (wideN qn) un = u
  pointwise []
theorem conv_at (r : Fin 256) (j : Fin 512) : conv w0 w1 w2 z (ix2 r j) = w2 (ix3 0 0 j) * back0 z (ix2 r j) + w1 (ix3 0 0 j) * back1 z (ix2 r j) + w0 (ix3 0 0 j) * back2 z (ix2 r j) := by
  unfold conv
  generalize back0 z = z0
  generalize back1 z = z1
  generalize back2 z = z2
  pointwise [tap]
theorem transposed_at (r : Fin 256) (j : Fin 512) : transposed w0 w1 w2 z (ix2 r j)
    = w2 (ix3 0 0 j) * z (ix2 ⟨r.val, by omega⟩ j) + w1 (ix3 0 0 j) * z (ix2 ⟨r.val + 1, by omega⟩ j) + w0 (ix3 0 0 j) * z (ix2 ⟨r.val + 2, by omega⟩ j) := by
  rw [row_eq z (r := ⟨r.val + 1, by omega⟩) (r' := ⟨(r.val + 272 - 271) % 272, by omega⟩) (by show r.val + 1 = (r.val + 272 - 271) % 272; omega) j,
    row_eq z (r := ⟨r.val + 2, by omega⟩) (r' := ⟨(r.val + 272 - 270) % 272, by omega⟩) (by show r.val + 2 = (r.val + 272 - 270) % 272; omega) j]
  pointwise [transposed, tap]
theorem first_at (j : Fin 512) : first c (ix3 0 0 j) = ∑ r : Fin 256, c (ix2 r j) := by
  pointwise [first, rowsSum]
theorem next_at (j : Fin 512) : next c a (ix3 0 0 j) = a (ix3 0 0 j) + ∑ r : Fin 256, c (ix2 r j) := by
  pointwise [next, rowsSum, tap]

/-- The gated rows by row numbers, the number two ahead of the row, and nothing before the first row. -/
def zt (C V : ℕ → EReal) (n : ℕ) : EReal := if n < 2 then 0 else C (n - 2) * V (n - 2)

/-- One column of a block: the block starts at row `b`, the halos hold the rows before and after it where there are any. -/
structure Chunk (j : Fin 512) (b : ℕ) (B C V Q : ℕ → EReal) (gp gn : BitVec 1) (bb c v : Cur) (q : FVec Ideal S256x512 .bf16) (pc pv un : Halo) (qn : FVec Ideal S16x512 .bf16) : Prop where
  gate : ∀ r : Fin 256, bb (ix2 r j) = B (b + r.val)
  left : ∀ r : Fin 256, c (ix2 r j) = C (b + r.val)
  right : ∀ r : Fin 256, v (ix2 r j) = V (b + r.val)
  ct : ∀ r : Fin 256, q (ix2 r j) = Q (b + r.val)
  notFirst : gp = 1#1 → 16 ≤ b
  isFirst : ¬gp = 1#1 → b = 0
  prevLeft : gp = 1#1 → ∀ p : Fin 16, pc (ix2 p j) = C (b - 16 + p.val)
  prevRight : gp = 1#1 → ∀ p : Fin 16, pv (ix2 p j) = V (b - 16 + p.val)
  isLast : ¬gn = 1#1 → 8192 ≤ b + 256
  nextCt : gn = 1#1 → ∀ p : Fin 16, qn (ix2 p j) = Q (b + 256 + p.val)
  nextGate : gn = 1#1 → ∀ p : Fin 16, un (ix2 p j) = B (b + 256 + p.val)
  below : ∀ n, 8192 ≤ n → Q n * B n = 0

section
variable {j : Fin 512} {b : ℕ} {B C V Q : ℕ → EReal} {gp gn : BitVec 1} {bb c v : Cur} {q : FVec Ideal S256x512 .bf16} {pc pv un : Halo} {qn : FVec Ideal S16x512 .bf16}
  (h : Chunk j b B C V Q gp gn bb c v q pc pv un qn)
include h

theorem gated_eq (r : Fin 272) (n : ℕ) (hr : 14 ≤ r.val) (hn : n + 14 = b + r.val) : gated gp c v pc pv (ix2 r j) = zt C V n := by
  rw [gated_at]
  unfold zt
  by_cases l : r.val < 16
  · rw [dif_pos l, inside_at]
    by_cases g : gp = 1#1
    · have := h.notFirst g
      rw [if_pos g, if_neg (by omega), h.prevLeft g, h.prevRight g, show b - 16 + r.val = n - 2 by omega]
    · have := h.isFirst g
      rw [if_neg g, if_pos (by omega)]
  · rw [dif_neg l, if_neg (by omega), h.left, h.right]
    show C (b + (r.val - 16)) * V (b + (r.val - 16)) = _
    rw [show b + (r.val - 16) = n - 2 by omega]

theorem back0_eq (r : Fin 256) : back0 (gated gp c v pc pv) (ix2 r j) = zt C V (b + r.val + 2) := by
  rw [back0_at, gated_eq h _ (b + r.val + 2) (by show 14 ≤ r.val + 16; omega) (by show _ = b + (r.val + 16); omega)]
theorem back1_eq (r : Fin 256) : back1 (gated gp c v pc pv) (ix2 r j) = zt C V (b + r.val + 1) := by
  rw [back1_at, gated_eq h _ (b + r.val + 1) (by show 14 ≤ r.val + 15; omega) (by show _ = b + (r.val + 15); omega)]
theorem back2_eq (r : Fin 256) : back2 (gated gp c v pc pv) (ix2 r j) = zt C V (b + r.val) := by
  rw [back2_at, gated_eq h _ (b + r.val) (by show 14 ≤ r.val + 14; omega) (by show _ = b + (r.val + 14); omega)]

theorem ct_eq (r : Fin 256) : mulf (wideQ q) bb (ix2 r j) = Q (b + r.val) * B (b + r.val) := by
  rw [← h.ct, ← h.gate]
  pointwise [wideQ]

theorem wideN_at (p : Fin 16) : wideN qn (ix2 p j) = qn (ix2 p j) := by
  pointwise [wideN]

theorem cot_eq (r : Fin 272) : cot gn (mulf (wideQ q) bb) qn un (ix2 r j) = Q (b + r.val) * B (b + r.val) := by
  rw [cot_at]
  by_cases l : r.val < 256
  · rw [dif_pos l, ct_eq h]
  · rw [dif_neg l, inside_at]
    by_cases g : gn = 1#1
    · rw [if_pos g, wideN_at h, h.nextCt g, h.nextGate g]
      show Q (b + 256 + (r.val - 256)) * B (b + 256 + (r.val - 256)) = _
      rw [show b + 256 + (r.val - 256) = b + r.val by omega]
    · have := h.isLast g
      rw [if_neg g, h.below _ (by omega)]

/-- The cotangent of the gated rows. -/
def dz (Q B : ℕ → EReal) (W0 W1 W2 : EReal) (n : ℕ) : EReal := W2 * (Q n * B n) + W1 * (Q (n + 1) * B (n + 1)) + W0 * (Q (n + 2) * B (n + 2))

omit h
variable {w0 w1 w2 : Tap} {W0 W1 W2 : EReal} (h0 : w0 (ix3 0 0 j) = W0) (h1 : w1 (ix3 0 0 j) = W1) (h2 : w2 (ix3 0 0 j) = W2)
include h h0 h1 h2

theorem gate_out (r : Fin 256) : out (mulf (wideQ q) (conv w0 w1 w2 (gated gp c v pc pv))) (ix2 r j)
    = Q (b + r.val) * (W2 * zt C V (b + r.val + 2) + W1 * zt C V (b + r.val + 1) + W0 * zt C V (b + r.val)) := by
  rw [← back0_eq h, ← back1_eq h, ← back2_eq h, ← h.ct, ← h0, ← h1, ← h2, ← conv_at]
  generalize conv w0 w1 w2 (gated gp c v pc pv) = z
  pointwise [out, wideQ]

theorem dz_eq (r : Fin 256) : transposed w0 w1 w2 (cot gn (mulf (wideQ q) bb) qn un) (ix2 r j) = dz Q B W0 W1 W2 (b + r.val) := by
  rw [transposed_at, cot_eq h, cot_eq h, cot_eq h, h0, h1, h2]
  rfl

theorem left_out (r : Fin 256) : out (mulf (transposed w0 w1 w2 (cot gn (mulf (wideQ q) bb) qn un)) v) (ix2 r j) = dz Q B W0 W1 W2 (b + r.val) * V (b + r.val) := by
  rw [← dz_eq h h0 h1 h2, ← h.right]
  generalize transposed w0 w1 w2 (cot gn (mulf (wideQ q) bb) qn un) = z
  pointwise [out]
theorem right_out (r : Fin 256) : out (mulf (transposed w0 w1 w2 (cot gn (mulf (wideQ q) bb) qn un)) c) (ix2 r j) = dz Q B W0 W1 W2 (b + r.val) * C (b + r.val) := by
  rw [← dz_eq h h0 h1 h2, ← h.left]
  generalize transposed w0 w1 w2 (cot gn (mulf (wideQ q) bb) qn un) = z
  pointwise [out]
end

/-- The block's share of a tap's gradient. -/
def share (b : ℕ) (B C V Q : ℕ → EReal) (k : ℕ) : EReal := ∑ r : Fin 256, Q (b + r.val) * B (b + r.val) * zt C V (b + r.val + k)

section
variable {j : Fin 512} {b : ℕ} {B C V Q : ℕ → EReal} {gp gn : BitVec 1} {bb c v : Cur} {q : FVec Ideal S256x512 .bf16} {pc pv un : Halo} {qn : FVec Ideal S16x512 .bf16}
  (h : Chunk j b B C V Q gp gn bb c v q pc pv un qn)
include h
theorem share0 : ∑ r : Fin 256, mulf (mulf (wideQ q) bb) (back2 (gated gp c v pc pv)) (ix2 r j) = share b B C V Q 0 :=
  Finset.sum_congr rfl fun r _ => congrArg₂ (· * ·) (ct_eq h r) (back2_eq h r)
theorem share1 : ∑ r : Fin 256, mulf (mulf (wideQ q) bb) (back1 (gated gp c v pc pv)) (ix2 r j) = share b B C V Q 1 :=
  Finset.sum_congr rfl fun r _ => congrArg₂ (· * ·) (ct_eq h r) (back1_eq h r)
theorem share2 : ∑ r : Fin 256, mulf (mulf (wideQ q) bb) (back0 (gated gp c v pc pv)) (ix2 r j) = share b B C V Q 2 :=
  Finset.sum_congr rfl fun r _ => congrArg₂ (· * ·) (ct_eq h r) (back0_eq h r)
end

end Cert.ConvProof

end
-- ==== Proof.ConvValue.lean ====
/- The convolution's gradient: what the call's two result arrays hold. -/
module

public import proofs.«01_k».proof.Proof.Gen.ConvIdeal.Value
public import proofs.«01_k».proof.Proof.ConvBlock

@[expose] public section

noncomputable section

namespace Cert.ConvProof

open ConvIdeal ConvIdeal.Gen Idealize.ShloMosaic TcCoe Idealize.SL.Sem
open Idealize.ShloMosaic.Pipeline (Dat)

abbrev Packed : Type := FVec Ideal S8192x6144 .f32
abbrev Wide : Type := FVec Ideal S8192x2048 .f32
abbrev Taps : Type := FVec Ideal S3x1x2048 .f32

/-- A column of the packed input and of the cotangent by row numbers, zero below the last row; a tap. -/
def tabU (U : Packed) (l n : ℕ) : EReal := if h : n < 8192 ∧ l < 6144 then U (ix2 ⟨n, h.1⟩ ⟨l, h.2⟩) else 0
def tabQ (Q : Wide) (l n : ℕ) : EReal := if h : n < 8192 ∧ l < 2048 then Q (ix2 ⟨n, h.1⟩ ⟨l, h.2⟩) else 0
def tabW (W : Taps) (k : Fin 3) (l : ℕ) : EReal := if h : l < 2048 then W (ix3 k 0 ⟨l, h⟩) else 0

/-- The gated rows of column `l` (`zt`, two ahead), and the cotangent of the gated rows (`dz`). -/
def zOf (U : Packed) (l : ℕ) : ℕ → EReal := zt (tabU U (2048 + l)) (tabU U (4096 + l))
def dzOf (U : Packed) (W : Taps) (Q : Wide) (l : ℕ) : ℕ → EReal := dz (tabQ Q l) (tabU U l) (tabW W 0 l) (tabW W 1 l) (tabW W 2 l)

/-- The gradient of the packed input: of the gate, of the left factor, of the right factor. -/
def gateAt (U : Packed) (W : Taps) (Q : Wide) (l n : ℕ) : EReal :=
  tabQ Q l n * (tabW W 2 l * zOf U l (n + 2) + tabW W 1 l * zOf U l (n + 1) + tabW W 0 l * zOf U l n)
def leftAt (U : Packed) (W : Taps) (Q : Wide) (l n : ℕ) : EReal := dzOf U W Q l n * tabU U (4096 + l) n
def rightAt (U : Packed) (W : Taps) (Q : Wide) (l n : ℕ) : EReal := dzOf U W Q l n * tabU U (2048 + l) n
def duAt (U : Packed) (W : Taps) (Q : Wide) (i l : ℕ) : EReal :=
  ![gateAt U W Q, leftAt U W Q, rightAt U W Q] (Fin.ofNat 3 (l / 2048)) (l % 2048) i
def outDu (U : Packed) (W : Taps) (Q : Wide) : FVec Ideal S8192x6144 .bf16 := fun y => duAt U W Q (y 0).val (y 1).val

/-- The gradient of the taps. -/
def dwAt (U : Packed) (Q : Wide) (k l : ℕ) : EReal := ∑ i : Fin 8192, tabQ Q l i.val * tabU U l i.val * zOf U l (i.val + k)
def outDw (U : Packed) (Q : Wide) : Taps := fun y => dwAt U Q (y 0).val (y 2).val

theorem idx : ∀ t : Fin cfg0.N, win0_0.index t = ![t.val, 0] ∧ win0_1.index t = ![min ((t.val + 1) * 16) 511, 0] ∧ win0_2.index t = ![t.val, 0]
    ∧ win0_3.index t = ![t.val * 16 - 1, 0] ∧ win0_4.index t = ![min ((t.val + 1) * 16) 511, 0] ∧ win0_5.index t = ![0, 0, 0] ∧ win0_6.index t = ![t.val, 0] ∧ win0_7.index t = ![0, 0, 0]
    ∧ (grid0.coords t 0).val = t.val :=
  (by decide +kernel : ∀ t : Fin grid0.N, _)

variable (m : (ℓ : Loc nD τ sig) → Buf (Elt Ideal) ℓ) (c : Dev nD)

def argU : Packed := m ((c.tc : Thread nD τ).loc main_arg0)
def argW : Taps := m ((c.tc : Thread nD τ).loc main_arg1)
def argQ : Wide := m ((c.tc : Thread nD τ).loc main_arg2)

variable (t : Fin cfg0.N)

theorem lt32 : t.val < 32 := lt_of_lt_of_eq t.isLt N_0

theorem blkQ (r : Fin 256) (k : Fin 2048) : (iblk m c 0 t : FVec Ideal S256x2048 .bf16) (ix2 r k) = argQ m c (ix2 ⟨t.val * 256 + r.val, by have := lt32 t; omega⟩ k) := by
  blk_point [iblk, V, idx t, argQ]
theorem blkQn (h : t.val < 31) (r : Fin 16) (k : Fin 2048) : (iblk m c 1 t : FVec Ideal S16x2048 .bf16) (ix2 r k) = argQ m c (ix2 ⟨t.val * 256 + 256 + r.val, by omega⟩ k) := by
  blk_point [iblk, V, idx t, argQ]
theorem blkU (r : Fin 256) (k : Fin 6144) : (iblk m c 2 t : FVec Ideal S256x6144 .f32) (ix2 r k) = argU m c (ix2 ⟨t.val * 256 + r.val, by have := lt32 t; omega⟩ k) := by
  blk_point [iblk, V, idx t, argU]
theorem blkUp (h : 0 < t.val) (r : Fin 16) (k : Fin 6144) : (iblk m c 3 t : FVec Ideal S16x6144 .f32) (ix2 r k) = argU m c (ix2 ⟨t.val * 256 - 16 + r.val, by have := lt32 t; omega⟩ k) := by
  have := lt32 t
  blk_point [iblk, V, idx t, argU]
theorem blkUn (h : t.val < 31) (r : Fin 16) (k : Fin 6144) : (iblk m c 4 t : FVec Ideal S16x6144 .f32) (ix2 r k) = argU m c (ix2 ⟨t.val * 256 + 256 + r.val, by omega⟩ k) := by
  blk_point [iblk, V, idx t, argU]
theorem blkW (k : Fin 3) (l : Fin 2048) : (iblk m c 5 t : Taps) (ix3 k 0 l) = argW m c (ix3 k 0 l) := by
  blk_point [iblk, V, idx t, argW]

/-- A load of part of a block. -/
theorem ldU (x : FVec Ideal S256x6144 .f32) (o : ℕ) (h : o + 512 ≤ 6144) (i : ∀ a, (![0, o] : Fin 2 → ℕ) a + (![256, 512] : Fin 2 → ℕ) a ≤ S256x6144.size a) (r : Fin 256) (j : Fin 512) :
    View.ld (Val := Elt Ideal) (S := S256x6144) (e' := .f32) x (Rect.unit ![0, o] ![256, 512] i) (ix2 r j : S256x512.Idx) = x (ix2 r ⟨o + j.val, by omega⟩) := by
  refine congrArg x (funext fun k => ?_)
  fin_cases k <;> exact Fin.ext (by simp [Rect.emb_apply])
theorem ldH (x : FVec Ideal S16x6144 .f32) (o : ℕ) (h : o + 512 ≤ 6144) (i : ∀ a, (![0, o] : Fin 2 → ℕ) a + (![16, 512] : Fin 2 → ℕ) a ≤ S16x6144.size a) (r : Fin 16) (j : Fin 512) :
    View.ld (Val := Elt Ideal) (S := S16x6144) (e' := .f32) x (Rect.unit ![0, o] ![16, 512] i) (ix2 r j : S16x512.Idx) = x (ix2 r ⟨o + j.val, by omega⟩) := by
  refine congrArg x (funext fun k => ?_)
  fin_cases k <;> exact Fin.ext (by simp [Rect.emb_apply])
theorem ldQ (x : FVec Ideal S256x2048 .bf16) (o : ℕ) (h : o + 512 ≤ 2048) (i : ∀ a, (![0, o] : Fin 2 → ℕ) a + (![256, 512] : Fin 2 → ℕ) a ≤ S256x2048.size a) (r : Fin 256) (j : Fin 512) :
    View.ld (Val := Elt Ideal) (S := S256x2048) (e' := .bf16) x (Rect.unit ![0, o] ![256, 512] i) (ix2 r j : S256x512.Idx) = x (ix2 r ⟨o + j.val, by omega⟩) := by
  refine congrArg x (funext fun k => ?_)
  fin_cases k <;> exact Fin.ext (by simp [Rect.emb_apply])
theorem ldN (x : FVec Ideal S16x2048 .bf16) (o : ℕ) (h : o + 512 ≤ 2048) (i : ∀ a, (![0, o] : Fin 2 → ℕ) a + (![16, 512] : Fin 2 → ℕ) a ≤ S16x2048.size a) (r : Fin 16) (j : Fin 512) :
    View.ld (Val := Elt Ideal) (S := S16x2048) (e' := .bf16) x (Rect.unit ![0, o] ![16, 512] i) (ix2 r j : S16x512.Idx) = x (ix2 r ⟨o + j.val, by omega⟩) := by
  refine congrArg x (funext fun k => ?_)
  fin_cases k <;> exact Fin.ext (by simp [Rect.emb_apply])
theorem ldW (x : Taps) (k : Fin 3) (o : ℕ) (h : o + 512 ≤ 2048) (i : ∀ a, (![k.val, 0, o] : Fin 3 → ℕ) a + (![1, 1, 512] : Fin 3 → ℕ) a ≤ S3x1x2048.size a) (j : Fin 512) :
    View.ld (Val := Elt Ideal) (S := S3x1x2048) (e' := .f32) x (Rect.unit ![k.val, 0, o] ![1, 1, 512] i) (ix3 0 0 j : S1x1x512.Idx) = x (ix3 k 0 ⟨o + j.val, by omega⟩) := by
  refine congrArg x (funext fun a => ?_)
  fin_cases a <;> exact Fin.ext (by simp [Rect.emb_apply])

theorem tap_at (j : Fin 512) (k : Fin 3) (o : ℕ) (h : o + 512 ≤ 2048) (i : ∀ a, (![k.val, 0, o] : Fin 3 → ℕ) a + (![1, 1, 512] : Fin 3 → ℕ) a ≤ S3x1x2048.size a) :
    (View.ld (iblk m c 5 t : Taps) (Rect.unit ![k.val, 0, o] ![1, 1, 512] i) : Vec Ideal S1x1x512 .f32) (ix3 0 0 j) = tabW (argW m c) k (o + j.val) := by
  rw [ldW _ k o h, blkW]
  unfold tabW
  rw [dif_pos (show o + j.val < 2048 by omega)]

theorem first_word : ∀ n : Fin 32, Scalar.cmpi .sgt (BitVec.ofNat 32 n.val) 0#32 = if 0 < n.val then 1#1 else 0#1 := by decide
theorem last_word : ∀ n : Fin 32, Scalar.cmpi .slt (BitVec.ofNat 32 n.val) 31#32 = if n.val < 31 then 1#1 else 0#1 := by decide

def word : BitVec 32 := BitVec.ofNat 32 (grid0.coords t 0).val
theorem first_iff : Scalar.cmpi .sgt (word t) 0#32 = 1#1 ↔ 0 < t.val := by
  unfold word
  rw [(idx t).2.2.2.2.2.2.2.2, first_word ⟨t.val, lt32 t⟩]
  by_cases h : 0 < t.val <;> simp [h]
theorem last_iff : Scalar.cmpi .slt (word t) 31#32 = 1#1 ↔ t.val < 31 := by
  unfold word
  rw [(idx t).2.2.2.2.2.2.2.2, last_word ⟨t.val, lt32 t⟩]
  by_cases h : t.val < 31 <;> simp [h]

theorem tabU_pos (U : Packed) (l n : ℕ) (hn : n < 8192) (hl : l < 6144) : tabU U l n = U (ix2 ⟨n, hn⟩ ⟨l, hl⟩) := dif_pos ⟨hn, hl⟩
theorem tabQ_pos (Q : Wide) (l n : ℕ) (hn : n < 8192) (hl : l < 2048) : tabQ Q l n = Q (ix2 ⟨n, hn⟩ ⟨l, hl⟩) := dif_pos ⟨hn, hl⟩

/-- Column chunk `o` of block `t`, at column `j`. -/
theorem chunk (j : Fin 512) (o : ℕ) (ho : o + 512 ≤ 2048)
    (i0 : ∀ a, (![0, o] : Fin 2 → ℕ) a + (![256, 512] : Fin 2 → ℕ) a ≤ S256x6144.size a)
    (i1 : ∀ a, (![0, 2048 + o] : Fin 2 → ℕ) a + (![256, 512] : Fin 2 → ℕ) a ≤ S256x6144.size a)
    (i2 : ∀ a, (![0, 4096 + o] : Fin 2 → ℕ) a + (![256, 512] : Fin 2 → ℕ) a ≤ S256x6144.size a)
    (i3 : ∀ a, (![0, o] : Fin 2 → ℕ) a + (![256, 512] : Fin 2 → ℕ) a ≤ S256x2048.size a)
    (i4 : ∀ a, (![0, 2048 + o] : Fin 2 → ℕ) a + (![16, 512] : Fin 2 → ℕ) a ≤ S16x6144.size a)
    (i5 : ∀ a, (![0, 4096 + o] : Fin 2 → ℕ) a + (![16, 512] : Fin 2 → ℕ) a ≤ S16x6144.size a)
    (i6 : ∀ a, (![0, o] : Fin 2 → ℕ) a + (![16, 512] : Fin 2 → ℕ) a ≤ S16x6144.size a)
    (i7 : ∀ a, (![0, o] : Fin 2 → ℕ) a + (![16, 512] : Fin 2 → ℕ) a ≤ S16x2048.size a) :
    Chunk j (t.val * 256) (tabU (argU m c) (o + j.val)) (tabU (argU m c) (2048 + (o + j.val))) (tabU (argU m c) (4096 + (o + j.val))) (tabQ (argQ m c) (o + j.val))
      (Scalar.cmpi .sgt (word t) 0#32) (Scalar.cmpi .slt (word t) 31#32)
      (View.ld (iblk m c 2 t : FVec Ideal S256x6144 .f32) (Rect.unit ![0, o] ![256, 512] i0) : Vec Ideal S256x512 .f32) (View.ld (iblk m c 2 t : FVec Ideal S256x6144 .f32) (Rect.unit ![0, 2048 + o] ![256, 512] i1) : Vec Ideal S256x512 .f32)
      (View.ld (iblk m c 2 t : FVec Ideal S256x6144 .f32) (Rect.unit ![0, 4096 + o] ![256, 512] i2) : Vec Ideal S256x512 .f32) (View.ld (iblk m c 0 t : FVec Ideal S256x2048 .bf16) (Rect.unit ![0, o] ![256, 512] i3) : Vec Ideal S256x512 .bf16)
      (View.ld (iblk m c 3 t : FVec Ideal S16x6144 .f32) (Rect.unit ![0, 2048 + o] ![16, 512] i4) : Vec Ideal S16x512 .f32) (View.ld (iblk m c 3 t : FVec Ideal S16x6144 .f32) (Rect.unit ![0, 4096 + o] ![16, 512] i5) : Vec Ideal S16x512 .f32)
      (View.ld (iblk m c 4 t : FVec Ideal S16x6144 .f32) (Rect.unit ![0, o] ![16, 512] i6) : Vec Ideal S16x512 .f32) (View.ld (iblk m c 1 t : FVec Ideal S16x2048 .bf16) (Rect.unit ![0, o] ![16, 512] i7) : Vec Ideal S16x512 .bf16) := by
  have hN := lt32 t
  constructor
  · intro r; rw [ldU _ o (by omega), blkU, tabU_pos _ _ _ (by omega) (by omega)]
  · intro r; rw [ldU _ (2048 + o) (by omega), blkU, tabU_pos _ _ _ (by omega) (by omega)]; simp only [Nat.add_assoc]
  · intro r; rw [ldU _ (4096 + o) (by omega), blkU, tabU_pos _ _ _ (by omega) (by omega)]; simp only [Nat.add_assoc]
  · intro r; rw [ldQ _ o (by omega), blkQ, tabQ_pos _ _ _ (by omega) (by omega)]
  · intro g; have := (first_iff t).1 g; omega
  · intro g; have := mt (first_iff t).2 g; omega
  · intro g p; have := (first_iff t).1 g; rw [ldH _ (2048 + o) (by omega), blkUp m c t this, tabU_pos _ _ _ (by omega) (by omega)]; simp only [Nat.add_assoc]
  · intro g p; have := (first_iff t).1 g; rw [ldH _ (4096 + o) (by omega), blkUp m c t this, tabU_pos _ _ _ (by omega) (by omega)]; simp only [Nat.add_assoc]
  · intro g; have := mt (last_iff t).2 g; omega
  · intro g p; have := (last_iff t).1 g; rw [ldN _ o (by omega), blkQn m c t this, tabQ_pos _ _ _ (by omega) (by omega)]
  · intro g p; have := (last_iff t).1 g; rw [ldH _ o (by omega), blkUn m c t this, tabU_pos _ _ _ (by omega) (by omega)]
  · intro n hn; unfold tabQ; rw [dif_neg (by omega), zero_mul]

/-- The four chunks of columns. -/
def chunk0 (j : Fin 512) := chunk m c t j 0 (by omega) (by decide) (by decide) (by decide) (by decide) (by decide) (by decide) (by decide) (by decide)
def chunk1 (j : Fin 512) := chunk m c t j 512 (by omega) (by decide) (by decide) (by decide) (by decide) (by decide) (by decide) (by decide) (by decide)
def chunk2 (j : Fin 512) := chunk m c t j 1024 (by omega) (by decide) (by decide) (by decide) (by decide) (by decide) (by decide) (by decide) (by decide)
def chunk3 (j : Fin 512) := chunk m c t j 1536 (by omega) (by decide) (by decide) (by decide) (by decide) (by decide) (by decide) (by decide) (by decide)

/-! ## The packed gradient -/

/-- The twelve stores lie side by side. -/
theorem canon_at (p0 p1 p2 p3 p4 p5 p6 p7 p8 p9 p10 p11 : FVec Ideal S256x512 .bf16) (r : Fin 256) (g : Fin 12) (j : Fin 512) :
    (View.canon [⟨Rect.unit ![0, 5632] ![256, 512] (by decide), p11⟩, ⟨Rect.unit ![0, 3584] ![256, 512] (by decide), p7⟩, ⟨Rect.unit ![0, 1536] ![256, 512] (by decide), p3⟩, ⟨Rect.unit ![0, 5120] ![256, 512] (by decide), p10⟩, ⟨Rect.unit ![0, 3072] ![256, 512] (by decide), p6⟩, ⟨Rect.unit ![0, 1024] ![256, 512] (by decide), p2⟩, ⟨Rect.unit ![0, 4608] ![256, 512] (by decide), p9⟩, ⟨Rect.unit ![0, 2560] ![256, 512] (by decide), p5⟩, ⟨Rect.unit ![0, 512] ![256, 512] (by decide), p1⟩, ⟨Rect.unit ![0, 4096] ![256, 512] (by decide), p8⟩, ⟨Rect.unit ![0, 2048] ![256, 512] (by decide), p4⟩, ⟨Rect.unit ![0, 0] ![256, 512] (by decide), p0⟩] : Vec Ideal S256x6144 .bf16) (ix2 r ⟨g.val * 512 + j.val, by omega⟩) = ![p0, p1, p2, p3, p4, p5, p6, p7, p8, p9, p10, p11] g (ix2 r j) := by
  generalize hz : (ix2 r ⟨g.val * 512 + j.val, by omega⟩ : S256x6144.Idx) = y
  have y0 : (y 0).val = r.val := by rw [← hz]; rfl
  have y1 : (y 1).val = g.val * 512 + j.val := by rw [← hz]; rfl
  have key : ∀ x : S256x512.Idx, (x 0).val = r.val → (x 1).val = j.val → x = ix2 r j := fun x e0 e1 => by
    funext k; fin_cases k
    · exact Fin.ext e0
    · exact Fin.ext e1
  canon_tiles x h
  all_goals
    rw [key x (by omega) (by omega)]
    obtain ⟨g, hg⟩ := g
    dsimp only at y1
    interval_cases g <;> first | rfl | omega

theorem du_at (r : Fin 256) (g : Fin 12) (j : Fin 512) :
    (outsAt0 m c t.val t.isLt).1 (ix2 r ⟨g.val * 512 + j.val, by omega⟩) = duAt (argU m c) (argW m c) (argQ m c) (t.val * 256 + r.val) (g.val * 512 + j.val) := by
  have hN := lt32 t
  have pick : duAt (argU m c) (argW m c) (argQ m c) (t.val * 256 + r.val) (g.val * 512 + j.val)
      = ![gateAt (argU m c) (argW m c) (argQ m c), leftAt (argU m c) (argW m c) (argQ m c), rightAt (argU m c) (argW m c) (argQ m c)] (Fin.ofNat 3 (g.val / 4)) (g.val % 4 * 512 + j.val) (t.val * 256 + r.val) := by
    unfold duAt
    rw [show (g.val * 512 + j.val) / 2048 = g.val / 4 by omega, show (g.val * 512 + j.val) % 2048 = g.val % 4 * 512 + j.val by omega]
  have T := tap_at m c t j
  rw [pick]
  by_cases h : t.val % 32 = 0
  on_goal 1 => rw [outsAt0_A m c t h (by omega) h (by omega) h (by omega) h (by omega)]
  on_goal 2 => rw [outsAt0_B m c t h (by omega) h (by omega) h (by omega) h (by omega)]
  all_goals
    dsimp only
    frame_out
    rw [canon_at]
    fin_cases g
    · exact gate_out (chunk0 m c t j) (T 0 0 (by omega) _) (T 1 0 (by omega) _) (T 2 0 (by omega) _) r
    · exact gate_out (chunk1 m c t j) (T 0 512 (by omega) _) (T 1 512 (by omega) _) (T 2 512 (by omega) _) r
    · exact gate_out (chunk2 m c t j) (T 0 1024 (by omega) _) (T 1 1024 (by omega) _) (T 2 1024 (by omega) _) r
    · exact gate_out (chunk3 m c t j) (T 0 1536 (by omega) _) (T 1 1536 (by omega) _) (T 2 1536 (by omega) _) r
    · exact left_out (chunk0 m c t j) (T 0 0 (by omega) _) (T 1 0 (by omega) _) (T 2 0 (by omega) _) r
    · exact left_out (chunk1 m c t j) (T 0 512 (by omega) _) (T 1 512 (by omega) _) (T 2 512 (by omega) _) r
    · exact left_out (chunk2 m c t j) (T 0 1024 (by omega) _) (T 1 1024 (by omega) _) (T 2 1024 (by omega) _) r
    · exact left_out (chunk3 m c t j) (T 0 1536 (by omega) _) (T 1 1536 (by omega) _) (T 2 1536 (by omega) _) r
    · exact right_out (chunk0 m c t j) (T 0 0 (by omega) _) (T 1 0 (by omega) _) (T 2 0 (by omega) _) r
    · exact right_out (chunk1 m c t j) (T 0 512 (by omega) _) (T 1 512 (by omega) _) (T 2 512 (by omega) _) r
    · exact right_out (chunk2 m c t j) (T 0 1024 (by omega) _) (T 1 1024 (by omega) _) (T 2 1024 (by omega) _) r
    · exact right_out (chunk3 m c t j) (T 0 1536 (by omega) _) (T 1 1536 (by omega) _) (T 2 1536 (by omega) _) r

/-! ## The taps' gradient -/

/-- The twelve stores lie side by side. -/
theorem canon_tap (p0 p1 p2 p3 p4 p5 p6 p7 p8 p9 p10 p11 : Tap) (g : Fin 4) (k : Fin 3) (j : Fin 512) :
    (View.canon [⟨Rect.unit ![2, 0, 1536] ![1, 1, 512] (by decide), p11⟩, ⟨Rect.unit ![1, 0, 1536] ![1, 1, 512] (by decide), p10⟩, ⟨Rect.unit ![0, 0, 1536] ![1, 1, 512] (by decide), p9⟩, ⟨Rect.unit ![2, 0, 1024] ![1, 1, 512] (by decide), p8⟩, ⟨Rect.unit ![1, 0, 1024] ![1, 1, 512] (by decide), p7⟩, ⟨Rect.unit ![0, 0, 1024] ![1, 1, 512] (by decide), p6⟩, ⟨Rect.unit ![2, 0, 512] ![1, 1, 512] (by decide), p5⟩, ⟨Rect.unit ![1, 0, 512] ![1, 1, 512] (by decide), p4⟩, ⟨Rect.unit ![0, 0, 512] ![1, 1, 512] (by decide), p3⟩, ⟨Rect.unit ![2, 0, 0] ![1, 1, 512] (by decide), p2⟩, ⟨Rect.unit ![1, 0, 0] ![1, 1, 512] (by decide), p1⟩, ⟨Rect.unit ![0, 0, 0] ![1, 1, 512] (by decide), p0⟩] : Vec Ideal S3x1x2048 .f32) (ix3 k 0 ⟨g.val * 512 + j.val, by omega⟩) = ![![p0, p1, p2], ![p3, p4, p5], ![p6, p7, p8], ![p9, p10, p11]] g k (ix3 0 0 j) := by
  generalize hz : (ix3 k 0 ⟨g.val * 512 + j.val, by omega⟩ : S3x1x2048.Idx) = y
  have y0 : (y 0).val = k.val := by rw [← hz]; rfl
  have y1 : (y 1).val = 0 := by rw [← hz]; rfl
  have y2 : (y 2).val = g.val * 512 + j.val := by rw [← hz]; rfl
  have key : ∀ x : S1x1x512.Idx, (x 2).val = j.val → x = ix3 0 0 j := fun x e => by
    funext a; fin_cases a
    · exact Subsingleton.elim (α := Fin 1) _ _
    · exact Subsingleton.elim (α := Fin 1) _ _
    · exact Fin.ext e
  canon_tiles x h
  all_goals
    rw [key x (by omega)]
    obtain ⟨g, hg⟩ := g
    obtain ⟨k, hk⟩ := k
    dsimp only at y0 y2
    interval_cases g <;> interval_cases k <;> first | rfl | omega

/-- What block `t` adds to tap `k` of column `l`. -/
def shareAt (n : ℕ) (U : Packed) (Q : Wide) (y : S3x1x2048.Idx) : EReal :=
  share (n * 256) (tabU U (y 2).val) (tabU U (2048 + (y 2).val)) (tabU U (4096 + (y 2).val)) (tabQ Q (y 2).val) (y 0).val

/-- An index of the taps is a tap, a chunk and a column of it. -/
theorem split (y : S3x1x2048.Idx) : ∃ (k : Fin 3) (g : Fin 4) (j : Fin 512), y = ix3 k 0 ⟨g.val * 512 + j.val, by omega⟩ := by
  have h : (y 2).val < 2048 := (y 2).isLt
  refine ⟨y 0, ⟨(y 2).val / 512, by omega⟩, ⟨(y 2).val % 512, by omega⟩, funext fun a => ?_⟩
  fin_cases a
  · rfl
  · exact Subsingleton.elim (α := Fin 1) _ _
  · exact Fin.ext (by show (y 2).val = (y 2).val / 512 * 512 + (y 2).val % 512; omega)

theorem first_share (h : t.val % 32 = 0) (y : S3x1x2048.Idx) : (outsAt0 m c t.val t.isLt).2 y = shareAt t.val (argU m c) (argQ m c) y := by
  have hN := lt32 t
  obtain ⟨k, g, j, rfl⟩ := split y
  rw [outsAt0_A m c t h (by omega) h (by omega) h (by omega) h (by omega)]
  dsimp only
  frame_out
  rw [canon_tap]
  fin_cases g <;> fin_cases k
  · exact (first_at _ j).trans (share0 (chunk0 m c t j))
  · exact (first_at _ j).trans (share1 (chunk0 m c t j))
  · exact (first_at _ j).trans (share2 (chunk0 m c t j))
  · exact (first_at _ j).trans (share0 (chunk1 m c t j))
  · exact (first_at _ j).trans (share1 (chunk1 m c t j))
  · exact (first_at _ j).trans (share2 (chunk1 m c t j))
  · exact (first_at _ j).trans (share0 (chunk2 m c t j))
  · exact (first_at _ j).trans (share1 (chunk2 m c t j))
  · exact (first_at _ j).trans (share2 (chunk2 m c t j))
  · exact (first_at _ j).trans (share0 (chunk3 m c t j))
  · exact (first_at _ j).trans (share1 (chunk3 m c t j))
  · exact (first_at _ j).trans (share2 (chunk3 m c t j))

theorem next_share (h : ¬t.val % 32 = 0) (y : S3x1x2048.Idx) :
    (outsAt0 m c t.val t.isLt).2 y = (outsAt0 m c (t.val - 1) (by have := t.isLt; omega)).2 y + shareAt t.val (argU m c) (argQ m c) y := by
  have hN := lt32 t
  obtain ⟨k, g, j, rfl⟩ := split y
  rw [outsAt0_B m c t h (by omega) h (by omega) h (by omega) h (by omega)]
  dsimp only
  frame_out
  refine (canon_tap _ _ _ _ _ _ _ _ _ _ _ _ g k j).trans ?_
  fin_cases g <;> fin_cases k
  · exact (next_at _ _ j).trans (congrArg₂ (· + ·) (ldW _ 0 0 (by omega) _ j) (share0 (chunk0 m c t j)))
  · exact (next_at _ _ j).trans (congrArg₂ (· + ·) (ldW _ 1 0 (by omega) _ j) (share1 (chunk0 m c t j)))
  · exact (next_at _ _ j).trans (congrArg₂ (· + ·) (ldW _ 2 0 (by omega) _ j) (share2 (chunk0 m c t j)))
  · exact (next_at _ _ j).trans (congrArg₂ (· + ·) (ldW _ 0 512 (by omega) _ j) (share0 (chunk1 m c t j)))
  · exact (next_at _ _ j).trans (congrArg₂ (· + ·) (ldW _ 1 512 (by omega) _ j) (share1 (chunk1 m c t j)))
  · exact (next_at _ _ j).trans (congrArg₂ (· + ·) (ldW _ 2 512 (by omega) _ j) (share2 (chunk1 m c t j)))
  · exact (next_at _ _ j).trans (congrArg₂ (· + ·) (ldW _ 0 1024 (by omega) _ j) (share0 (chunk2 m c t j)))
  · exact (next_at _ _ j).trans (congrArg₂ (· + ·) (ldW _ 1 1024 (by omega) _ j) (share1 (chunk2 m c t j)))
  · exact (next_at _ _ j).trans (congrArg₂ (· + ·) (ldW _ 2 1024 (by omega) _ j) (share2 (chunk2 m c t j)))
  · exact (next_at _ _ j).trans (congrArg₂ (· + ·) (ldW _ 0 1536 (by omega) _ j) (share0 (chunk3 m c t j)))
  · exact (next_at _ _ j).trans (congrArg₂ (· + ·) (ldW _ 1 1536 (by omega) _ j) (share1 (chunk3 m c t j)))
  · exact (next_at _ _ j).trans (congrArg₂ (· + ·) (ldW _ 2 1536 (by omega) _ j) (share2 (chunk3 m c t j)))

/-- The last grid point. -/
def last : Fin cfg0.N := ⟨31, lt_of_lt_of_eq (by omega : 31 < 32) N_0.symm⟩

theorem final7 : (dats m 0 c).arrAt 7 (cfgs 0).N = outDw (argU m c) (argQ m c) := by
  refine (dats m 0 c).arrAt_eq_of_after_last 7 last (by decide +kernel) _ fun y => ?_
  blk_simp
  rw [after0_7, Pipeline.eq_sum_fin_of_reset_step_apply_last (fun n h => (outsAt0 m c n h).2) 32 (fun _ => 0)
    (fun t => shareAt t.val (argU m c) (argQ m c))
    (fun t h j => by rw [first_share m c t h, zero_add])
    (fun t h j => next_share m c t (by have := lt32 t; omega) j)
    (le_of_eq N_0) last rfl y, zero_add]
  exact Fin.sum_mul_add_congr fun t r hl => by rfl

theorem final6 : (dats m 0 c).arrAt 6 (cfgs 0).N = outDu (argU m c) (argW m c) (argQ m c) := by
  refine (dats m 0 c).arrAt_eq_of_covers 6 _ (by decide +kernel) fun t _ y => ?_
  have hN := lt32 t
  obtain ⟨r, hr⟩ : ∃ r : Fin 256, r = y 0 := ⟨y 0, rfl⟩
  obtain ⟨n, hn⟩ : ∃ n : Fin 6144, n = y 1 := ⟨y 1, rfl⟩
  have hy : (cfg0.win 6).xinj (cfg0.grid.coords t) y = (ix2 r n : S256x6144.Idx) := by
    funext k; fin_cases k
    · exact hr.symm
    · exact hn.symm
  have he : ((cfg0.win 6).blk t).view.emb y = (ix2 ⟨t.val * 256 + r.val, by omega⟩ n : S8192x6144.Idx) := by
    funext k; fin_cases k <;> refine Fin.ext ?_
    · show ((((cfg0.win 6).blk t).view.emb y) 0).val = t.val * 256 + r.val
      rw [hr]; blk_simp [idx t]
    · show ((((cfg0.win 6).blk t).view.emb y) 1).val = n.val
      rw [hn]; blk_simp [idx t]
  rw [he, after0_6]
  refine (cast_eq _ _).trans ?_
  rw [hy]
  clear hn hy he
  obtain ⟨g, j, rfl⟩ : ∃ (g : Fin 12) (j : Fin 512), n = ⟨g.val * 512 + j.val, by omega⟩ :=
    ⟨⟨n.val / 512, by omega⟩, ⟨n.val % 512, by omega⟩, Fin.ext (by show n.val = n.val / 512 * 512 + n.val % 512; omega)⟩
  exact du_at m c t r g j

end Cert.ConvProof

end
-- ==== Proof.RowNorm.lean ====
/- One row of the root-mean-square norm and its gradient, as sums over the row's 2048 entries: the way the calls write the
   gradient, the way the reference writes it, and that the two agree on real rows. -/
module

public import proofs.«01_k».proof.Proof.RealOps

@[expose] public section

noncomputable section

namespace Cert.RowNorm

open Idealize.ShloMosaic

abbrev Row : Type := Fin 2048 → EReal

def len : EReal := Ideal.ofBits .f32 0x45000000#32
def eps : EReal := Ideal.ofBits .f32 0x358637BD#32
def mhalf : EReal := Ideal.ofBits .f32 0xBF000000#32

/-- The mean square with its offset, and its inverse root. -/
def ms (x : Row) : EReal := Ideal.div (∑ k, x k * x k) len + eps
def rs (x : Row) : EReal := Ideal.rsqrt (ms x)

/-- The row's gradient as the calls form it, from the row and the cotangent of the normed row. -/
def callRow (x d : Row) (j : Fin 2048) : EReal := rs x * (d j - x j * rs x * Ideal.div (∑ k, d k * (x k * rs x)) len)

/-- The reference's factor: half the cotangent of the sum of squares. -/
def pull (x d : Row) : EReal := Ideal.div ((∑ k, x k * d k) * (mhalf * Ideal.div (rs x) (ms x))) len

theorem len_eq : len = ((2048 : ℝ) : EReal) := by
  simp [len, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_eq : ∃ e : ℝ, 0 < e ∧ eps = (e : EReal) := by
  refine ⟨_, ?_, (by simp [eps, Ideal.ofBits, Ideal.ieee]; rfl)⟩
  positivity

theorem div_real (a b : ℝ) (h : b ≠ 0) : Ideal.div (a : EReal) (b : EReal) = ((a / b : ℝ) : EReal) := by
  unfold Ideal.div
  rw [if_neg (by rw [← EReal.coe_zero, EReal.coe_eq_coe_iff]; exact h), ← EReal.coe_inv, ← EReal.coe_mul, div_eq_mul_inv]

theorem rsqrt_real (q : ℝ) (h : 0 < q) : Ideal.rsqrt (q : EReal) = (((Real.sqrt q)⁻¹ : ℝ) : EReal) := by
  show (if q < 0 then (⊥ : EReal) else if q = 0 then ⊤ else _) = _
  rw [if_neg (not_lt.2 h.le), if_neg h.ne']

theorem sum_prod (x d : Fin 2048 → ℝ) : ∑ k, (x k : EReal) * (d k : EReal) = ((∑ k, x k * d k : ℝ) : EReal) := by
  rw [← RealOps.coe_sum]
  exact Finset.sum_congr rfl fun k _ => (EReal.coe_mul _ _).symm

theorem ms_real (x : Fin 2048 → ℝ) : ∃ q : ℝ, 0 < q ∧ ms (fun k => (x k : EReal)) = (q : EReal) := by
  obtain ⟨e, he, h⟩ := eps_eq
  refine ⟨(∑ k, x k * x k) / 2048 + e, by have := Finset.sum_nonneg fun k (_ : k ∈ Finset.univ) => mul_self_nonneg (x k); positivity, ?_⟩
  unfold ms
  rw [sum_prod, h, len_eq, div_real _ _ (by norm_num), EReal.coe_add]

/-- The inverse root of a real row is real. -/
theorem rs_real (x : Fin 2048 → ℝ) : ∃ r : ℝ, rs (fun k => (x k : EReal)) = (r : EReal) := by
  obtain ⟨q, hq, h⟩ := ms_real x
  exact ⟨_, by unfold rs; rw [h, rsqrt_real q hq]⟩

/-- On real rows the two gradients are one. -/
theorem row_eq (x d : Fin 2048 → ℝ) (j : Fin 2048) : callRow (fun k => (x k : EReal)) (fun k => (d k : EReal)) j
    = ((d j : EReal) * rs (fun k => (x k : EReal)) + (x j : EReal) * pull (fun k => (x k : EReal)) (fun k => (d k : EReal)))
      + pull (fun k => (x k : EReal)) (fun k => (d k : EReal)) * (x j : EReal) := by
  obtain ⟨q, hq, h⟩ := ms_real x
  have hr : rs (fun k => (x k : EReal)) = (((Real.sqrt q)⁻¹ : ℝ) : EReal) := by unfold rs; rw [h, rsqrt_real q hq]
  have hs : Real.sqrt q * Real.sqrt q = q := Real.mul_self_sqrt hq.le
  have hp : Real.sqrt q ≠ 0 := (Real.sqrt_pos.2 hq).ne'
  unfold callRow pull
  rw [hr, h, mhalf_eq, len_eq, sum_prod, div_real _ _ hq.ne']
  simp only [← EReal.coe_mul]
  rw [RealOps.coe_sum, div_real _ _ (by norm_num), div_real _ _ (by norm_num)]
  norm_cast
  rw [show ∑ k, d k * (x k * (Real.sqrt q)⁻¹) = (∑ k, x k * d k) * (Real.sqrt q)⁻¹ by
    rw [Finset.sum_mul]; exact Finset.sum_congr rfl fun k _ => by ring]
  generalize ∑ k, x k * d k = S
  generalize Real.sqrt q = s at hs hp
  subst hs
  field_simp
  ring

end Cert.RowNorm

end
-- ==== Proof.ConvRef.lean ====
/- What the reference of the convolution's gradient computes, and that it is what the call computes. -/
module

public import proofs.«01_k».proof.Proof.ConvValue
public import proofs.«01_k».proof.Proof.RowNorm
public import proofs.«01_k».proof.Proof.Gen.ConvRefIdeal.Run

@[expose] public section

noncomputable section

namespace Cert.ConvProof

open ConvRefIdeal ConvRefIdeal.Gen Idealize.ShloMosaic TcCoe Idealize.SL.Sem

abbrev Long : Type := FVec Ideal S8194x2048 .f32

def zeroC : FVec Ideal S_ .f32 := constant S_ .f32 0x00000000#32

/-- A third of the packed input; a tap along the rows; the gated rows below two zero rows; a shift of them. -/
def third (o : ℕ) (h : S8192x6144.Slices ![0, o] S8192x2048) (U : Packed) : Wide := extractStridedSlice S8192x2048 ![0, o] U h
def TAP (k : ℕ) (h : S3x1x2048.Slices ![k, 0, 0] S1x1x2048) (W : Taps) : Wide :=
  broadcastInDim S8192x2048 ![0, 1] bcast_S1x2048_S8192x2048_0_1 (shapeCast S1x2048 (extractStridedSlice S1x1x2048 ![k, 0, 0] W h) shapeCasts_S1x1x2048_S1x2048)
def GATED (U : Packed) : Long :=
  concatenate S8194x2048 0 [⟨S2x2048, broadcastInDim S2x2048 ![] bcast_S_S2x2048 zeroC⟩,
    ⟨S8192x2048, mulf (third 2048 slices_S8192x6144_S8192x2048_0_2048 U) (third 4096 slices_S8192x6144_S8192x2048_0_4096 U)⟩] concatenates_S2x2048_S8192x2048_S8194x2048_d0
def SHIFT (k : ℕ) (h : S8194x2048.Slices ![k, 0] S8192x2048) (z : Long) : Wide := extractStridedSlice S8192x2048 ![k, 0] z h
/-- The gate's gradient. -/
def GATE (U : Packed) (W : Taps) (Q : Wide) : Wide :=
  mulf Q (addf (addf (mulf (TAP 0 slices_S3x1x2048_S1x1x2048_0_0_0 W) (SHIFT 0 slices_S8194x2048_S8192x2048_0_0 (GATED U))) (mulf (TAP 1 slices_S3x1x2048_S1x1x2048_1_0_0 W) (SHIFT 1 slices_S8194x2048_S8192x2048_1_0 (GATED U))))
    (mulf (TAP 2 slices_S3x1x2048_S1x1x2048_2_0_0 W) (SHIFT 2 slices_S8194x2048_S8192x2048_2_0 (GATED U))))
/-- The cotangent of the convolution, laid `k` rows down among two more; the cotangent of the gated rows. -/
def COT (U : Packed) (Q : Wide) : Wide := mulf (third 0 slices_S8192x6144_S8192x2048_0_0 U) Q
def LAID (k e : ℕ) (h : S8192x2048.Pads (![k, 0] : Fin 2 → Nat) ![e, 0] ![0, 0] S8194x2048) (x : Wide) : Long := pad S8194x2048 ![k, 0] ![e, 0] ![0, 0] x zeroC h h_S_
def DZ (U : Packed) (W : Taps) (Q : Wide) : Wide :=
  SHIFT 2 slices_S8194x2048_S8192x2048_2_0 (addf (addf
    (LAID 2 0 pads_S8192x2048_S8194x2048_200_000 (mulf (TAP 2 slices_S3x1x2048_S1x1x2048_2_0_0 W) (COT U Q)))
    (LAID 1 1 pads_S8192x2048_S8194x2048_110_000 (mulf (TAP 1 slices_S3x1x2048_S1x1x2048_1_0_0 W) (COT U Q))))
    (LAID 0 2 pads_S8192x2048_S8194x2048_020_000 (mulf (TAP 0 slices_S3x1x2048_S1x1x2048_0_0_0 W) (COT U Q))))
def DU (U : Packed) (W : Taps) (Q : Wide) : FVec Ideal S8192x6144 .bf16 :=
  truncf .bf16 (concatenate S8192x6144 1 [⟨S8192x2048, GATE U W Q⟩, ⟨S8192x2048, mulf (DZ U W Q) (third 4096 slices_S8192x6144_S8192x2048_0_4096 U)⟩,
    ⟨S8192x2048, mulf (third 2048 slices_S8192x6144_S8192x2048_0_2048 U) (DZ U W Q)⟩] concatenates_S8192x2048_S8192x2048_S8192x2048_S8192x6144_d1) bitsLt_bf16_f32
/-- A tap's gradient, and the three side by side. -/
def TAPSUM (x : Wide) : FVec Ideal S1x1x2048 .f32 :=
  broadcastInDim S1x1x2048 ![1, 2] bcast_S1x2048_S1x1x2048_1_2 (shapeCast S1x2048 (Host.reduceAdd x zeroC reducesTo_S8192x2048_S2048_d0 h_S_) shapeCasts_S2048_S1x2048)
def PUT (k e : ℕ) (h : S1x1x2048.Pads (![k, 0, 0] : Fin 3 → Nat) ![e, 0, 0] ![0, 0, 0] S3x1x2048) (x : FVec Ideal S1x1x2048 .f32) : Taps :=
  pad S3x1x2048 ![k, 0, 0] ![e, 0, 0] ![0, 0, 0] x zeroC h h_S_
def DW (U : Packed) (Q : Wide) : Taps :=
  addf (addf (PUT 2 0 pads_S1x1x2048_S3x1x2048_200_000_000 (TAPSUM (mulf (COT U Q) (SHIFT 2 slices_S8194x2048_S8192x2048_2_0 (GATED U)))))
    (PUT 1 1 pads_S1x1x2048_S3x1x2048_110_000_000 (TAPSUM (mulf (COT U Q) (SHIFT 1 slices_S8194x2048_S8192x2048_1_0 (GATED U))))))
    (PUT 0 2 pads_S1x1x2048_S3x1x2048_020_000_000 (TAPSUM (mulf (COT U Q) (SHIFT 0 slices_S8194x2048_S8192x2048_0_0 (GATED U)))))

variable (U : Packed) (W : Taps) (Q : Wide) (i : Fin 8192) (l : Fin 2048)

theorem zeroC_at : zeroC (Shape.Idx.first h_S_) = 0 := Ideal.ofBits_zero .f32

theorem third_at (o : ℕ) (ho : o + 2048 ≤ 6144) (h) : third o h U (ix2 i l) = tabU U (o + l.val) i.val := by
  rw [tabU_pos _ _ _ i.isLt (by omega)]
  pointwise [third]

theorem TAP_at (k : Fin 3) (h) : TAP k.val h W (ix2 i l) = tabW W k l.val := by
  unfold tabW
  rw [dif_pos l.isLt]
  pointwise [TAP]

theorem GATED_at (n : Fin 8194) : GATED U (ix2 n l) = zOf U l.val n.val := by
  have e : ∀ x y : Wide, concatenate S8194x2048 0 [⟨S2x2048, broadcastInDim S2x2048 ![] bcast_S_S2x2048 zeroC⟩, ⟨S8192x2048, mulf x y⟩] concatenates_S2x2048_S8192x2048_S8194x2048_d0 (ix2 n l)
      = if h : n.val < 2 then 0 else x (ix2 ⟨n.val - 2, by omega⟩ l) * y (ix2 ⟨n.val - 2, by omega⟩ l) := fun x y => by
    have z : (0 : EReal) = FloatOps.ofBits (F := Ideal) .f32 0#32 := (Ideal.ofBits_zero .f32).symm
    rw [z]
    pointwise [zeroC]
  unfold GATED zOf zt
  rw [e]
  by_cases h : n.val < 2
  · rw [dif_pos h, if_pos h]
  · rw [dif_neg h, if_neg h, third_at _ _ _ _ (by omega), third_at _ _ _ _ (by omega)]

theorem SHIFT_at (k : ℕ) (hk : k ≤ 2) (h) : SHIFT k h (GATED U) (ix2 i l) = zOf U l.val (i.val + k) := by
  have e : ∀ z : Long, SHIFT k h z (ix2 i l) = z (ix2 ⟨i.val + k, by omega⟩ l) := fun z => by
    unfold SHIFT extractStridedSlice
    refine congrArg z (funext fun a => ?_)
    match a with
    | ⟨0, _⟩ => exact Fin.ext (by show k + i.val = i.val + k; omega)
    | ⟨1, _⟩ => exact Fin.ext (by show 0 + l.val = l.val; omega)
  rw [e, GATED_at]

theorem GATE_at : GATE U W Q (ix2 i l) = gateAt U W Q l.val i.val := by
  show Q (ix2 i l) * (TAP 0 _ W (ix2 i l) * SHIFT 0 _ (GATED U) (ix2 i l) + TAP 1 _ W (ix2 i l) * SHIFT 1 _ (GATED U) (ix2 i l) + TAP 2 _ W (ix2 i l) * SHIFT 2 _ (GATED U) (ix2 i l)) = _
  rw [SHIFT_at _ _ _ 0 (by omega), SHIFT_at _ _ _ 1 (by omega), SHIFT_at _ _ _ 2 (by omega), show TAP 0 _ W (ix2 i l) = _ from TAP_at W i l 0 _, show TAP 1 _ W (ix2 i l) = _ from TAP_at W i l 1 _,
    show TAP 2 _ W (ix2 i l) = _ from TAP_at W i l 2 _]
  unfold gateAt
  rw [tabQ_pos _ _ _ i.isLt l.isLt]
  refine congrArg (Q (ix2 i l) * ·) ?_
  rw [add_zero]
  ac_rfl

theorem COT_at : COT U Q (ix2 i l) = tabQ Q l.val i.val * tabU U l.val i.val := by
  show third 0 _ U (ix2 i l) * Q (ix2 i l) = _
  rw [third_at _ _ _ _ (by omega), tabQ_pos _ _ _ i.isLt l.isLt, Nat.zero_add, mul_comm]

theorem LAID_at (k e : ℕ) (hk : k ≤ 2) (h) (x : Wide) (n : Fin 8194) : LAID k e h x (ix2 n l) = if c : k ≤ n.val ∧ n.val - k < 8192 then x (ix2 ⟨n.val - k, c.2⟩ l) else 0 := by
  unfold LAID pad
  by_cases c : k ≤ n.val ∧ n.val - k < 8192
  · rw [dif_pos c]
    refine (dif_pos ?_).trans ?_
    · intro a
      match a with
      | ⟨0, _⟩ => exact ⟨c.1, Nat.mod_one _, by show (n.val - k) / (0 + 1) < 8192; omega⟩
      | ⟨1, _⟩ => exact ⟨Nat.zero_le _, Nat.mod_one _, by show (l.val - 0) / (0 + 1) < 2048; omega⟩
    · refine congrArg x (funext fun a => ?_)
      match a with
      | ⟨0, _⟩ => exact Fin.ext (by show (n.val - k) / (0 + 1) = n.val - k; omega)
      | ⟨1, _⟩ => exact Fin.ext (by show (l.val - 0) / (0 + 1) = l.val; omega)
  · rw [dif_neg c]
    refine (dif_neg fun hh => c ?_).trans zeroC_at
    have h0 := hh ⟨0, by decide⟩
    have h1 : k ≤ n.val := h0.1
    have h2 : (n.val - k) / (0 + 1) < 8192 := h0.2.2
    exact ⟨h1, by omega⟩

/-- A tap's share of the cotangent of the gated rows: the rows `2 - k` below, none past the end. -/
theorem SHARE_at (k : Fin 3) (e : ℕ) (h) (hw) : LAID k.val e h (mulf (TAP k.val hw W) (COT U Q)) (ix2 ⟨2 + i.val, by omega⟩ l)
    = tabW W k l.val * (tabQ Q l.val (i.val + (2 - k.val)) * tabU U l.val (i.val + (2 - k.val))) := by
  rw [LAID_at _ _ _ (by omega)]
  by_cases c : i.val + (2 - k.val) < 8192
  · rw [dif_pos ⟨by show k.val ≤ 2 + i.val; omega, by show 2 + i.val - k.val < 8192; omega⟩]
    show TAP k.val hw W _ * COT U Q _ = _
    rw [TAP_at, COT_at]
    show tabW W k l.val * (tabQ Q l.val (2 + i.val - k.val) * tabU U l.val (2 + i.val - k.val)) = _
    rw [show 2 + i.val - k.val = i.val + (2 - k.val) by omega]
  · rw [dif_neg (fun hh => c (by have := hh.2; show _ < _; change 2 + i.val - k.val < 8192 at this; omega))]
    unfold tabQ
    rw [dif_neg (by omega), zero_mul, mul_zero]

theorem DZ_at : DZ U W Q (ix2 i l) = dzOf U W Q l.val i.val := by
  have e : ∀ x y z : Long, SHIFT 2 slices_S8194x2048_S8192x2048_2_0 (addf (addf x y) z) (ix2 i l)
      = x (ix2 ⟨2 + i.val, by omega⟩ l) + y (ix2 ⟨2 + i.val, by omega⟩ l) + z (ix2 ⟨2 + i.val, by omega⟩ l) := fun x y z => by
    pointwise [SHIFT]
  unfold DZ
  rw [e]
  exact congrArg₂ (· + ·) (congrArg₂ (· + ·) (SHARE_at U W Q i l 2 0 _ _) (SHARE_at U W Q i l 1 1 _ _)) (SHARE_at U W Q i l 0 2 _ _)

theorem TAPSUM_at (x : Wide) : TAPSUM x (ix3 0 0 l) = ∑ r : Fin 8192, x (ix2 r l) := by
  pointwise [TAPSUM]
  exact (congrArg (· + _) zeroC_at).trans (zero_add _)

theorem PUT_at (k e : ℕ) (hk : k ≤ 2) (h) (x : FVec Ideal S1x1x2048 .f32) (n : Fin 3) : PUT k e h x (ix3 n 0 l) = if n.val = k then x (ix3 0 0 l) else 0 := by
  unfold PUT pad
  by_cases c : n.val = k
  · rw [if_pos c]
    refine (dif_pos ?_).trans ?_
    · intro a
      match a with
      | ⟨0, _⟩ => exact ⟨le_of_eq c.symm, Nat.mod_one _, by show (n.val - k) / (0 + 1) < 1; omega⟩
      | ⟨1, _⟩ => exact ⟨Nat.zero_le _, Nat.mod_one _, by show (0 - 0) / (0 + 1) < 1; omega⟩
      | ⟨2, _⟩ => exact ⟨Nat.zero_le _, Nat.mod_one _, by show (l.val - 0) / (0 + 1) < 2048; omega⟩
    · refine congrArg x (funext fun a => ?_)
      match a with
      | ⟨0, _⟩ => exact Fin.ext (by show (n.val - k) / (0 + 1) = 0; omega)
      | ⟨1, _⟩ => exact Fin.ext (by show (0 - 0) / (0 + 1) = 0; omega)
      | ⟨2, _⟩ => exact Fin.ext (by show (l.val - 0) / (0 + 1) = l.val; omega)
  · rw [if_neg c]
    refine (dif_neg fun hh => c ?_).trans zeroC_at
    have h0 := hh ⟨0, by decide⟩
    have h1 : k ≤ n.val := h0.1
    have h2 : (n.val - k) / (0 + 1) < 1 := h0.2.2
    omega

theorem TAP_sum (k : ℕ) (hk : k ≤ 2) (h) : TAPSUM (mulf (COT U Q) (SHIFT k h (GATED U))) (ix3 0 0 l) = dwAt U Q k l.val := by
  rw [TAPSUM_at]
  refine Finset.sum_congr rfl fun r _ => ?_
  show COT U Q _ * SHIFT k h _ _ = _
  rw [COT_at, SHIFT_at _ _ _ k hk]

/-- The taps' gradient is the call's. -/
theorem DW_eq : DW U Q = outDw U Q := by
  funext y
  obtain ⟨n, hn⟩ : ∃ n : Fin 3, n = y 0 := ⟨y 0, rfl⟩
  obtain ⟨l, hl⟩ : ∃ l : Fin 2048, l = y 2 := ⟨y 2, rfl⟩
  have hy : y = ix3 n 0 l := by
    funext a; fin_cases a
    · exact hn.symm
    · exact Subsingleton.elim (α := Fin 1) _ _
    · exact hl.symm
  rw [hy]
  show PUT 2 0 _ _ _ + PUT 1 1 _ _ _ + PUT 0 2 _ _ _ = dwAt U Q n.val l.val
  rw [PUT_at _ _ _ (by omega), PUT_at _ _ _ (by omega), PUT_at _ _ _ (by omega), TAP_sum _ _ _ _ (by omega), TAP_sum _ _ _ _ (by omega), TAP_sum _ _ _ _ (by omega)]
  fin_cases n <;> simp

/-- The packed gradient is the call's. -/
theorem DU_eq : DU U W Q = outDu U W Q := by
  funext y
  obtain ⟨i, hi⟩ : ∃ i : Fin 8192, i = y 0 := ⟨y 0, rfl⟩
  obtain ⟨g, l, hl⟩ : ∃ (g : Fin 3) (l : Fin 2048), (⟨g.val * 2048 + l.val, by omega⟩ : Fin 6144) = y 1 := by
    have h : (y 1).val < 6144 := (y 1).isLt
    exact ⟨⟨(y 1).val / 2048, by omega⟩, ⟨(y 1).val % 2048, by omega⟩, Fin.ext (by show (y 1).val / 2048 * 2048 + (y 1).val % 2048 = (y 1).val; omega)⟩
  have hy : y = ix2 i ⟨g.val * 2048 + l.val, by omega⟩ := by
    funext a; fin_cases a
    · exact hi.symm
    · exact hl.symm
  rw [hy]
  show _ = duAt U W Q i.val (g.val * 2048 + l.val)
  unfold duAt
  rw [show (g.val * 2048 + l.val) / 2048 = g.val by omega, show (g.val * 2048 + l.val) % 2048 = l.val by omega]
  have e : ∀ a b d : Wide, truncf .bf16 (concatenate S8192x6144 1 [⟨S8192x2048, a⟩, ⟨S8192x2048, b⟩, ⟨S8192x2048, d⟩] concatenates_S8192x2048_S8192x2048_S8192x2048_S8192x6144_d1) bitsLt_bf16_f32
      (ix2 i ⟨g.val * 2048 + l.val, by omega⟩) = ![a, b, d] g (ix2 i l) := fun a b d => by
    fin_cases g
    · pointwise []
    · pointwise []
    · pointwise []
      rw [dif_neg (by omega), dif_neg (by omega)]
      exact congrArg d (congrArg (ix2 i) (Fin.ext (by show 4096 + l.val - 2048 - 2048 = l.val; omega)))
  unfold DU
  rw [e]
  fin_cases g
  · exact GATE_at U W Q i l
  · show DZ U W Q (ix2 i l) * third 4096 _ U (ix2 i l) = _
    rw [DZ_at, third_at _ _ _ _ (by omega)]
    rfl
  · show third 2048 _ U (ix2 i l) * DZ U W Q (ix2 i l) = _
    rw [DZ_at, third_at _ _ _ _ (by omega), mul_comm]
    rfl

end Cert.ConvProof

end
-- ==== Proof.ConvClaims.lean ====
/- The claims about the call of the convolution's gradient. -/
module
public import proofs.«01_k».proof.Defs
public import proofs.«01_k».proof.Proof.ConvRef
public import proofs.«01_k».proof.Proof.Gen.Conv.Frame

@[expose] public section
noncomputable section
namespace Cert.ConvProof
open Idealize.ShloMosaic Idealize.SL.Sem

/-- The frame of the reference. -/
theorem ref_frame : quiescent_ConvRefIdeal := fun m ρ _ =>
  (θ_run ConvRefIdeal.defs _ _).mono (fun r h => ⟨fun c => (h c).2.2, sem_eq_zero_of_no_sems (by decide) r.2⟩)
    (ConvRefIdeal.Value.run (F := Ideal) m ρ)

/-- The call's two results are the reference's, at any arguments. -/
theorem algebraic : algebraic_ConvIdeal_ConvRefIdeal := fun m ρ m' ρ' _ hag =>
  ⟨fun c => outDu (argU m c) (argW m c) (argQ m c), fun c => outDw (argU m c) (argQ m c),
   (θ_run ConvIdeal.defs _ _).mono (fun _ h c => ⟨(h c).1.trans (final6 m c), (h c).2.1.trans (final7 m c), (h c).2.2⟩)
     (ConvIdeal.Value.run_blocks (F := Ideal) m ρ),
   (θ_run ConvRefIdeal.defs _ _).mono (fun _ h c => by
       obtain ⟨e0, e1, e2⟩ := hag c
       refine ⟨(h c).1.trans ?_, (h c).2.1.trans ?_, (h c).2.2⟩
       · unfold ConvRefIdeal.Value.res_main_v60
         rw [e0, e1, e2]
         exact DU_eq (argU m c) (argW m c) (argQ m c)
       · rw [e0, e2]
         exact DW_eq (argU m c) (argQ m c))
     (ConvRefIdeal.Value.run (F := Ideal) m' ρ')⟩
-- ==== Proof.Tables.lean ====
module

public import Idealize.ShloMosaic.Lib.Pipeline.ValueKit

/-! Arrays read at natural numbers: a two-dimensional array as a table that is zero outside the array, so that an
equation of two reads is an equation of numbers. -/

@[expose] public section

noncomputable section

namespace Cert.Tables

open Idealize.ShloMosaic

/-- The table of an array. -/
def tab {a b : ℕ} {φ : FTy} (x : FVec Ideal ⟨2, ![a, b]⟩ φ) (i j : ℕ) : EReal := if h : i < a ∧ j < b then x (ix2 ⟨i, h.1⟩ ⟨j, h.2⟩) else 0

theorem tab_at {a b : ℕ} {φ : FTy} (x : FVec Ideal ⟨2, ![a, b]⟩ φ) (y : (⟨2, ![a, b]⟩ : Shape).Idx) : x y = tab x (y 0).val (y 1).val := by
  unfold tab
  rw [dif_pos ⟨(y 0).isLt, (y 1).isLt⟩]
  exact congrArg x (funext fun k => by fin_cases k <;> rfl)

theorem tab_ix {a b : ℕ} {φ : FTy} (x : FVec Ideal ⟨2, ![a, b]⟩ φ) (i : Fin a) (j : Fin b) : x (ix2 i j) = tab x i.val j.val := tab_at x _

/-- A read of an array at an index whose coordinates are known. -/
theorem tab_of {a b : ℕ} {φ : FTy} (x : FVec Ideal ⟨2, ![a, b]⟩ φ) {y : (⟨2, ![a, b]⟩ : Shape).Idx} {i j : ℕ} (h0 : (y 0).val = i) (h1 : (y 1).val = j) :
    x y = tab x i j := by subst h0 h1; exact tab_at x y

end Cert.Tables

end
-- ==== Proof.FfnPack.lean ====
/- The SwiGLU gradient's entries, and the products as the host packs them for the call. -/
module

public import proofs.«01_k».proof.Proof.Gen.FfnIdeal.Frame
public import proofs.«01_k».proof.Proof.Gen.FfnRefIdeal.Run
public import proofs.«01_k».proof.Proof.Tables

@[expose] public section

noncomputable section

namespace Cert.FfnProof

open FfnIdeal FfnIdeal.Gen Tables Idealize.ShloMosaic TcCoe Idealize.SL.Sem
open Idealize.ShloMosaic.Pipeline (Dat)

/-- An array of a product's entries. -/
abbrev Wide : Type := FVec Ideal S8192x5632 .f32

def logi (g : EReal) : EReal := Ideal.div 1 (1 + Ideal.exp (0 - g))

/-- The value of the product, and the two gradients, at one entry. -/
def actAt (g p : EReal) : EReal := g * logi g * p
def gateAt (g p a : EReal) : EReal := a * p * (logi g * (1 + g * (1 - logi g)))
def upAt (g p a : EReal) : EReal := a * (g * logi g)

def outA (G P : Wide) : FVec Ideal S8x8192x704 .bf16 := fun y =>
  actAt (tab G (y 1).val ((y 0).val * 704 + (y 2).val)) (tab P (y 1).val ((y 0).val * 704 + (y 2).val))
def outD (G P A : Wide) : FVec Ideal S2x8x8192x704 .bf16 := fun y =>
  if (y 0).val = 0 then gateAt (tab G (y 2).val ((y 1).val * 704 + (y 3).val)) (tab P (y 2).val ((y 1).val * 704 + (y 3).val)) (tab A (y 2).val ((y 1).val * 704 + (y 3).val))
  else upAt (tab G (y 2).val ((y 1).val * 704 + (y 3).val)) (tab P (y 2).val ((y 1).val * 704 + (y 3).val)) (tab A (y 2).val ((y 1).val * 704 + (y 3).val))

/-- The two products the call is given, as the host packs them. -/
def stack (G P : Wide) : FVec Ideal S2x8192x5632 .f32 :=
  concatenate S2x8192x5632 0 [⟨S1x8192x5632, broadcastInDim S1x8192x5632 ![1, 2] bcast_S8192x5632_S1x8192x5632_1_2 G⟩,
    ⟨S1x8192x5632, broadcastInDim S1x8192x5632 ![1, 2] bcast_S8192x5632_S1x8192x5632_1_2 P⟩] concatenates_S1x8192x5632_S1x8192x5632_S2x8192x5632_d0
def shard (x : FVec Ideal S2x8192x5632 .f32) : FVec Ideal S2x8x8192x704 .f32 :=
  transpose S2x8x8192x704 [0, 2, 1, 3] (shapeCast S2x8192x8x704 x shapeCasts_S2x8192x5632_S2x8192x8x704) transposes_S2x8192x8x704_S2x8x8192x704_0_2_1_3
def pack (G P : Wide) : FVec Ideal S2x8x8192x704 .bf16 := truncf .bf16 (shard (stack G P)) bitsLt_bf16_f32

theorem stack_at (G P : Wide) (w : Fin 2) (i : Fin 8192) (e : Fin 5632) :
    stack G P (ix3 w i e) = if w.val = 0 then tab G i.val e.val else tab P i.val e.val := by
  pointwise [stack]
  simp only [Nat.lt_one_iff]
  split_ifs
  · exact tab_ix G _ _
  · exact tab_ix P _ _

theorem cut_at (x : FVec Ideal S2x8192x5632 .f32) (w : Fin 2) (i : Fin 8192) (j : Fin 8) (n : Fin 704) :
    shapeCast S2x8192x8x704 x shapeCasts_S2x8192x5632_S2x8192x8x704 (ix4 w i j n) = x (ix3 w i ⟨j.val * 704 + n.val, by omega⟩) := by
  pointwise

theorem turn_at (x : FVec Ideal S2x8192x8x704 .f32) (w : Fin 2) (i : Fin 8192) (j : Fin 8) (n : Fin 704) :
    transpose S2x8x8192x704 [0, 2, 1, 3] x transposes_S2x8192x8x704_S2x8x8192x704_0_2_1_3 (ix4 w j i n) = x (ix4 w i j n) := by
  pointwise

theorem round_at (x : FVec Ideal S2x8x8192x704 .f32) (y : S2x8x8192x704.Idx) : truncf .bf16 x bitsLt_bf16_f32 y = x y := rfl

theorem pack_at (G P : Wide) (w : Fin 2) (i : Fin 8192) (j : Fin 8) (n : Fin 704) : pack G P (ix4 w j i n) = if w.val = 0 then tab G i.val (j.val * 704 + n.val)
    else tab P i.val (j.val * 704 + n.val) := by
  unfold pack
  rw [round_at]
  unfold shard
  rw [turn_at, cut_at, stack_at]

theorem pack_of (G P : Wide) {y : S2x8x8192x704.Idx} {w i j n : ℕ} (h0 : (y 0).val = w) (h1 : (y 1).val = j) (h2 : (y 2).val = i) (h3 : (y 3).val = n) :
    pack G P y = if w = 0 then tab G i (j * 704 + n) else tab P i (j * 704 + n) := by
  subst h0 h1 h2 h3
  exact (congrArg (pack G P) (funext fun k => by fin_cases k <;> rfl)).trans (pack_at G P (y 0) (y 2) (y 1) (y 3))

/-- A shard's rows of the last matrix. -/
theorem rows_of (W : FVec Ideal S5632x2048 .f32) {y : S8x704x2048.Idx} {j n k : ℕ} (h0 : (y 0).val = j) (h1 : (y 1).val = n) (h2 : (y 2).val = k) :
    truncf .bf16 (shapeCast S8x704x2048 W shapeCasts_S5632x2048_S8x704x2048) bitsLt_bf16_f32 y = tab W (j * 704 + n) k := by
  subst h0 h1 h2
  have h : ∀ (a : Fin 8) (b : Fin 704) (e : Fin 2048), shapeCast S8x704x2048 W shapeCasts_S5632x2048_S8x704x2048 (ix3 a b e) = W (ix2 ⟨a.val * 704 + b.val, by omega⟩ e) :=
    fun a b e => by pointwise
  exact (congrArg (shapeCast S8x704x2048 W shapeCasts_S5632x2048_S8x704x2048) (funext fun k => by fin_cases k <;> rfl)).trans ((h (y 0) (y 1) (y 2)).trans (tab_ix W _ _))

/-- One block of the value, and of the two gradients. -/
theorem pay8_at (v5 v8 : FVec Ideal S1x1x512x704 .bf16) (r : Fin 512) (n : Fin 704) :
    k0_pay8 (F := Ideal) v5 v8 (ix3 0 r n) = actAt (v5 (ix4 0 0 r n)) (v8 (ix4 0 0 r n)) := by
  pointwise [k0_pay8, k0_pay7, k0_pay6, k0_pay5, k0_pay4]
  rfl

theorem pay3_at (v0 : FVec Ideal S512x2048 .bf16) (v2 : FVec Ideal S1x704x2048 .bf16) (r : Fin 512) (n : Fin 704) :
    k0_pay3 (F := Ideal) v0 v2 (ix2 r n) = ∑ k : Fin 2048, v0 (ix2 r k) * v2 (ix3 0 n k) := by
  pointwise [k0_pay3]

theorem pay2_at (v4 : FVec Ideal S512x704 .f32) (v5 : FVec Ideal S1x1x512x704 .bf16) (r : Fin 512) (n : Fin 704) :
    k0_pay2 (F := Ideal) v4 (k0_pay7 v5) (ix4 0 0 r n) = v4 (ix2 r n) * (v5 (ix4 0 0 r n) * logi (v5 (ix4 0 0 r n))) := by
  pointwise [k0_pay2, k0_pay7, k0_pay6, k0_pay4]
  rfl

theorem pay1_at (v0 : FVec Ideal S512x2048 .bf16) (v2 : FVec Ideal S1x704x2048 .bf16) (v5 v8 : FVec Ideal S1x1x512x704 .bf16) (r : Fin 512) (n : Fin 704) :
    k0_pay1 (k0_pay9 (F := Ideal) v0 v2 v5 v8) (ix4 0 0 r n) = gateAt (v5 (ix4 0 0 r n)) (v8 (ix4 0 0 r n)) (k0_pay3 (F := Ideal) v0 v2 (ix2 r n)) := by
  pointwise [k0_pay1, k0_pay9, k0_pay6, k0_pay5, k0_pay4]
  rfl

end Cert.FfnProof

end
-- ==== Proof.FfnValue.lean ====
/- What the SwiGLU gradient's call computes, over the products of its arguments. -/
module

public import proofs.«01_k».proof.Proof.Gen.FfnIdeal.Value
public import proofs.«01_k».proof.Proof.FfnPack

@[expose] public section

noncomputable section

namespace Cert.FfnProof

open FfnIdeal FfnIdeal.Gen Tables Idealize.ShloMosaic TcCoe Idealize.SL.Sem
open Idealize.ShloMosaic.Pipeline (Dat)

variable (m : (ℓ : Loc nD τ sig) → Buf (Elt Ideal) ℓ) (c : Dev nD)

def argG : Wide := Host.dotGeneral (F := Ideal) (φ₁ := .f32) (φ₂ := .f32) dot_S8192x2048_S2048x5632_S8192x5632_1_0_0_1_n_n none (m ((c.tc : Thread nD τ).loc main_arg0)) (m ((c.tc : Thread nD τ).loc main_arg1))
def argP : Wide := Host.dotGeneral (F := Ideal) (φ₁ := .f32) (φ₂ := .f32) dot_S8192x2048_S2048x5632_S8192x5632_1_0_0_1_n_n none (m ((c.tc : Thread nD τ).loc main_arg0)) (m ((c.tc : Thread nD τ).loc main_arg2))
def argA : Wide := Host.dotGeneral (F := Ideal) (φ₁ := .f32) (φ₂ := .f32) FfnRefIdeal.dot_S8192x2048_S5632x2048_S8192x5632_1_1_0_0_n_n none (m ((c.tc : Thread nD τ).loc main_arg4)) (m ((c.tc : Thread nD τ).loc main_arg3))

theorem read7 : @Eq (FVec Ideal S2x8x8192x704 .bf16) (V m c main_v7) (pack (argG m c) (argP m c)) := by
  entry_read
  rfl
theorem read9 : @Eq (FVec Ideal S8x704x2048 .bf16) (V m c main_v9) (truncf (F := Ideal) .bf16 (shapeCast S8x704x2048 (m ((c.tc : Thread nD τ).loc main_arg3)) shapeCasts_S5632x2048_S8x704x2048) bitsLt_bf16_f32) := by
  entry_read
  rfl
theorem read10 : @Eq (FVec Ideal S8192x2048 .bf16) (V m c main_v10) (truncf (F := Ideal) .bf16 (m ((c.tc : Thread nD τ).loc main_arg4)) bitsLt_bf16_f32) := by
  entry_read
  rfl

/-- Every window's block index at point `t`: the row block by the shard. -/
theorem idx : ∀ t : Fin cfg0.N, win0_0.index t = ![t.val / 8, 0] ∧ win0_1.index t = ![0, t.val % 8, t.val / 8, 0] ∧ win0_2.index t = ![t.val % 8, 0, 0]
    ∧ win0_3.index t = ![t.val % 8, t.val / 8, 0] ∧ win0_4.index t = ![0, t.val % 8, t.val / 8, 0] :=
  (by decide +kernel : ∀ t : Fin grid0.N, _)

/-- What a block of each operand holds. -/
theorem read_gp (A : FVec Ideal S2x8x8192x704 .bf16) (t : Fin cfg0.N) (y : S2x1x512x704.Idx) :
    ((cfg0.win 1).blk t).view.read (Elt Ideal) A y = A ((win0_1.blk t).view.emb y) := rfl
theorem read_dy (A : FVec Ideal S8192x2048 .bf16) (t : Fin cfg0.N) (y : S512x2048.Idx) :
    ((cfg0.win 0).blk t).view.read (Elt Ideal) A y = A ((win0_0.blk t).view.emb y) := rfl
theorem read_wd (A : FVec Ideal S8x704x2048 .bf16) (t : Fin cfg0.N) (y : S1x704x2048.Idx) :
    ((cfg0.win 2).blk t).view.read (Elt Ideal) A y = A ((win0_2.blk t).view.emb y) := rfl

theorem gp_at (t : Fin cfg0.N) (w : Fin 2) (r : Fin 512) (n : Fin 704) : iblk m c 1 t (ix4 w 0 r n : S2x1x512x704.Idx)
    = if w.val = 0 then tab (argG m c) (t.val / 8 * 512 + r.val) (t.val % 8 * 704 + n.val) else tab (argP m c) (t.val / 8 * 512 + r.val) (t.val % 8 * 704 + n.val) := by
  unfold iblk
  rw [show V m c (Pipeline.arrRef spec0 1) = pack (argG m c) (argP m c) from read7 m c]
  rw [read_gp, pack_of (argG m c) (argP m c) (w := w.val) (j := t.val % 8) (i := t.val / 8 * 512 + r.val) (n := n.val)]
  all_goals blk_simp [idx t]
  simp

theorem dy_at (t : Fin cfg0.N) (r : Fin 512) (k : Fin 2048) : iblk m c 0 t (ix2 r k : S512x2048.Idx)
    = tab (a := 8192) (b := 2048) (φ := .f32) (m ((c.tc : Thread nD τ).loc main_arg4)) (t.val / 8 * 512 + r.val) k.val := by
  unfold iblk
  rw [show V m c (Pipeline.arrRef spec0 0) = _ from read10 m c]
  rw [read_dy]
  refine tab_of (a := 8192) (b := 2048) (φ := .f32) _ ?_ ?_
  all_goals blk_simp [idx t]

theorem wd_at (t : Fin cfg0.N) (n : Fin 704) (k : Fin 2048) : iblk m c 2 t (ix3 0 n k : S1x704x2048.Idx)
    = tab (a := 5632) (b := 2048) (φ := .f32) (m ((c.tc : Thread nD τ).loc main_arg3)) (t.val % 8 * 704 + n.val) k.val := by
  unfold iblk
  rw [show V m c (Pipeline.arrRef spec0 2) = _ from read9 m c]
  rw [read_wd, rows_of _ (j := t.val % 8) (n := n.val) (k := k.val)]
  all_goals blk_simp [idx t]
  simp

theorem argA_at (i : Fin 8192) (e : Fin 5632) : argA m c (ix2 i e) = ∑ k : Fin 2048, tab (a := 8192) (b := 2048) (φ := .f32) (m ((c.tc : Thread nD τ).loc main_arg4)) i.val k.val
    * tab (a := 5632) (b := 2048) (φ := .f32) (m ((c.tc : Thread nD τ).loc main_arg3)) e.val k.val := by
  pointwise [argA]
  refine Finset.sum_congr rfl fun k _ => ?_
  exact congrArg₂ _ (tab_ix _ _ _) (tab_ix _ _ _)

theorem da_at (t : Fin cfg0.N) (r : Fin 512) (n : Fin 704) : k0_pay3 (F := Ideal) (iblk m c 0 t) (iblk m c 2 t) (ix2 r n)
    = tab (argA m c) (t.val / 8 * 512 + r.val) (t.val % 8 * 704 + n.val) := by
  have hN : t.val < 128 := lt_of_lt_of_eq t.isLt N_0
  rw [pay3_at, ← tab_ix (argA m c) ⟨t.val / 8 * 512 + r.val, by omega⟩ ⟨t.val % 8 * 704 + n.val, by omega⟩, argA_at]
  refine Finset.sum_congr rfl fun k _ => congrArg₂ _ (dy_at m c t r k) (wd_at m c t n k)

theorem emb2 (r : Fin 512) (n : Fin 704) : r0_2.emb (ix4 0 0 r n : S1x1x512x704.Idx) = (ix4 0 0 r n : S2x1x512x704.Idx) := by
  funext k
  fin_cases k <;> exact Fin.ext (by rw [Rect.emb_apply]; simp [r0_2])
theorem emb3 (r : Fin 512) (n : Fin 704) : r0_3.emb (ix4 0 0 r n : S1x1x512x704.Idx) = (ix4 1 0 r n : S2x1x512x704.Idx) := by
  funext k
  fin_cases k <;> exact Fin.ext (by rw [Rect.emb_apply]; simp [r0_3])
theorem emb4 (r : Fin 512) (n : Fin 704) : r0_4.emb (ix3 0 r n : S1x512x704.Idx) = (ix3 0 r n : S1x512x704.Idx) := by
  funext k
  fin_cases k <;> exact Fin.ext (by rw [Rect.emb_apply]; simp [r0_4])

theorem ld2 (x : Vec Ideal S2x1x512x704 .bf16) (r : Fin 512) (n : Fin 704) : (View.ld x r0_2 : Vec Ideal S1x1x512x704 .bf16) (ix4 0 0 r n) = x (ix4 0 0 r n) :=
  congrArg x (emb2 r n)
theorem ld3 (x : Vec Ideal S2x1x512x704 .bf16) (r : Fin 512) (n : Fin 704) : (View.ld x r0_3 : Vec Ideal S1x1x512x704 .bf16) (ix4 0 0 r n) = x (ix4 1 0 r n) :=
  congrArg x (emb3 r n)

theorem canon4 (p : Vec Ideal S1x512x704 .bf16) (r : Fin 512) (n : Fin 704) : (View.canon [⟨r0_4, p⟩] : Vec Ideal S1x512x704 .bf16) (ix3 0 r n) = p (ix3 0 r n) :=
  (congrArg (View.canon [⟨r0_4, p⟩] : Vec Ideal S1x512x704 .bf16) (emb4 r n)).symm.trans (View.canon_cons_emb r0_4 p [] _)

theorem out3_at (t : Fin cfg0.N) (r : Fin 512) (n : Fin 704) : out0_3 (iblk m c 0 t) (iblk m c 1 t) (iblk m c 2 t) (ix3 0 r n)
    = actAt (tab (argG m c) (t.val / 8 * 512 + r.val) (t.val % 8 * 704 + n.val)) (tab (argP m c) (t.val / 8 * 512 + r.val) (t.val % 8 * 704 + n.val)) := by
  unfold out0_3
  rw [canon4, pay8_at, ld2, ld3, gp_at, gp_at]
  simp

theorem final3 : (dats m 0 c).arrAt 3 (cfgs 0).N = outA (argG m c) (argP m c) := by
  refine (dats m 0 c).arrAt_eq_of_covers 3 _ (by decide +kernel) fun t _ y => ?_
  rw [after0_3]
  refine (cast_eq _ _).trans ?_
  obtain ⟨r, hr⟩ : ∃ r : Fin 512, r = y 1 := ⟨y 1, rfl⟩
  obtain ⟨n, hn⟩ : ∃ n : Fin 704, n = y 2 := ⟨y 2, rfl⟩
  have hy : (cfg0.win 3).xinj (cfg0.grid.coords t) y = (ix3 0 r n : S1x512x704.Idx) := by
    funext k; fin_cases k
    · exact Subsingleton.elim (α := Fin 1) _ _
    · exact hr.symm
    · exact hn.symm
  rw [hy, out3_at]
  unfold outA
  have h0 : ((((cfg0.win 3).blk t).view.emb y) 0).val = t.val % 8 := by blk_simp [idx t]
  have h1 : ((((cfg0.win 3).blk t).view.emb y) 1).val = t.val / 8 * 512 + r.val := by rw [hr]; blk_simp [idx t]
  have h2 : ((((cfg0.win 3).blk t).view.emb y) 2).val = n.val := by rw [hn]; blk_simp [idx t]
  rw [h0, h1, h2]

theorem canon23 (p q : Vec Ideal S1x1x512x704 .bf16) (w : Fin 2) (r : Fin 512) (n : Fin 704) :
    (View.canon [⟨r0_3, p⟩, ⟨r0_2, q⟩] : Vec Ideal S2x1x512x704 .bf16) (ix4 w 0 r n) = if w.val = 0 then q (ix4 0 0 r n) else p (ix4 0 0 r n) := by
  generalize hz : (ix4 w 0 r n : S2x1x512x704.Idx) = z
  have z0 : (z 0).val = w.val := by rw [← hz]; rfl
  have z2 : (z 2).val = r.val := by rw [← hz]; rfl
  have z3 : (z 3).val = n.val := by rw [← hz]; rfl
  have key : ∀ x : S1x1x512x704.Idx, (x 2).val = r.val → (x 3).val = n.val → x = ix4 0 0 r n := fun x e2 e3 => by
    funext k; fin_cases k
    · exact Subsingleton.elim (α := Fin 1) _ _
    · exact Subsingleton.elim (α := Fin 1) _ _
    · exact Fin.ext e2
    · exact Fin.ext e3
  canon_tiles x h
  case piece0 =>
    rw [key x (by omega) (by omega), if_neg (by omega)]
  case piece1 =>
    rw [key x (by omega) (by omega), if_pos (by omega)]

theorem ld0 (x : Vec Ideal S512x2048 .bf16) : View.ld x r0_0 = x := by
  funext y
  refine congrArg x (?_ : r0_0.emb y = y)
  funext k
  fin_cases k <;> exact Fin.ext (by rw [Rect.emb_apply]; simp [r0_0])
theorem ld1 (x : Vec Ideal S1x704x2048 .bf16) : View.ld x r0_1 = x := by
  funext y
  refine congrArg x (?_ : r0_1.emb y = y)
  funext k
  fin_cases k <;> exact Fin.ext (by rw [Rect.emb_apply]; simp [r0_1])

theorem out4_at (t : Fin cfg0.N) (w : Fin 2) (r : Fin 512) (n : Fin 704) : out0_4 (iblk m c 0 t) (iblk m c 1 t) (iblk m c 2 t) (ix4 w 0 r n)
    = if w.val = 0 then gateAt (tab (argG m c) (t.val / 8 * 512 + r.val) (t.val % 8 * 704 + n.val)) (tab (argP m c) (t.val / 8 * 512 + r.val) (t.val % 8 * 704 + n.val))
        (tab (argA m c) (t.val / 8 * 512 + r.val) (t.val % 8 * 704 + n.val))
      else upAt (tab (argG m c) (t.val / 8 * 512 + r.val) (t.val % 8 * 704 + n.val)) (tab (argP m c) (t.val / 8 * 512 + r.val) (t.val % 8 * 704 + n.val))
        (tab (argA m c) (t.val / 8 * 512 + r.val) (t.val % 8 * 704 + n.val)) := by
  unfold out0_4
  rw [canon23, ld0, ld1, pay1_at, pay2_at, ld2, ld3, gp_at, gp_at, da_at]
  simp [upAt]

theorem final4 : (dats m 0 c).arrAt 4 (cfgs 0).N = outD (argG m c) (argP m c) (argA m c) := by
  refine (dats m 0 c).arrAt_eq_of_covers 4 _ (by decide +kernel) fun t _ y => ?_
  rw [after0_4]
  refine (cast_eq _ _).trans ?_
  obtain ⟨w, hw⟩ : ∃ w : Fin 2, w = y 0 := ⟨y 0, rfl⟩
  obtain ⟨r, hr⟩ : ∃ r : Fin 512, r = y 2 := ⟨y 2, rfl⟩
  obtain ⟨n, hn⟩ : ∃ n : Fin 704, n = y 3 := ⟨y 3, rfl⟩
  have hy : (cfg0.win 4).xinj (cfg0.grid.coords t) y = (ix4 w 0 r n : S2x1x512x704.Idx) := by
    funext k; fin_cases k
    · exact hw.symm
    · exact Subsingleton.elim (α := Fin 1) _ _
    · exact hr.symm
    · exact hn.symm
  rw [hy, out4_at]
  unfold outD
  have h0 : ((((cfg0.win 4).blk t).view.emb y) 0).val = w.val := by rw [hw]; blk_simp [idx t]
  have h1 : ((((cfg0.win 4).blk t).view.emb y) 1).val = t.val % 8 := by blk_simp [idx t]
  have h2 : ((((cfg0.win 4).blk t).view.emb y) 2).val = t.val / 8 * 512 + r.val := by rw [hr]; blk_simp [idx t]
  have h3 : ((((cfg0.win 4).blk t).view.emb y) 3).val = n.val := by rw [hn]; blk_simp [idx t]
  rw [h0, h1, h2, h3]

end Cert.FfnProof

end
-- ==== Proof.FfnRef.lean ====
/- What the reference of the SwiGLU gradient computes, and that it is what the call computes where the products are
   finite. -/
module

public import proofs.«01_k».proof.Proof.FfnPack
public import proofs.«01_k».proof.Proof.RealOps

@[expose] public section

noncomputable section

namespace Cert.FfnProof

open FfnRefIdeal FfnRefIdeal.Gen Tables Idealize.ShloMosaic TcCoe Idealize.SL.Sem

/-- The sigmoid of an extended real. -/
theorem logi_real (r : ℝ) : logi (r : EReal) = (((1 + Real.exp (-r))⁻¹ : ℝ) : EReal) := by
  have h : (0 : ℝ) < 1 + Real.exp (-r) := by positivity
  unfold logi Ideal.div
  rw [show (0 : EReal) - (r : EReal) = ((-r : ℝ) : EReal) by simp]
  rw [show Ideal.exp ((-r : ℝ) : EReal) = ((Real.exp (-r) : ℝ) : EReal) from rfl, ← EReal.coe_one, ← EReal.coe_add, if_neg (by
    rw [← EReal.coe_zero, EReal.coe_eq_coe_iff]; exact h.ne'), ← EReal.coe_inv, ← EReal.coe_mul, one_mul]

theorem logi_top : logi ⊤ = 1 := by
  unfold logi
  rw [zero_sub, EReal.neg_top, show Ideal.exp ⊥ = 0 from rfl]
  simp [Ideal.div]

theorem logi_bot : logi ⊥ = 0 := by
  unfold logi
  rw [zero_sub, EReal.neg_bot, show Ideal.exp ⊤ = ⊤ from rfl, show (1 : EReal) + ⊤ = ⊤ from rfl]
  simp [Ideal.div]

/-- The two spellings of the gate's gradient agree: the factor before the sum is finite. -/
theorem gate_eq (g : EReal) (x : ℝ) : (x : EReal) * logi g + g * (x : EReal) * (logi g * (1 - logi g)) = (x : EReal) * (logi g * (1 + g * (1 - logi g))) := by
  induction g with
  | coe r =>
    rw [logi_real]
    generalize (1 + Real.exp (-r))⁻¹ = s
    norm_cast
    ring
  | top =>
    rw [logi_top, show (1 : EReal) - 1 = 0 by rw [← EReal.coe_one, ← EReal.coe_sub, sub_self, EReal.coe_zero]]
    simp
  | bot =>
    rw [logi_bot]
    simp

def one : Wide := broadcastInDim S8192x5632 ![] bcast_S_S8192x5632 (constant (F := Ideal) S_ .f32 0x3F800000#32)
def LOGI (G : Wide) : Wide := Host.divf one (addf one (Host.exp (Host.negf G)))
def REFA (G P : Wide) : Wide := mulf (mulf G (LOGI G)) P
def REFG (G P A : Wide) : Wide := addf (mulf (mulf A P) (LOGI G)) (mulf (mulf G (mulf A P)) (mulf (LOGI G) (subf one (LOGI G))))
def REFU (G A : Wide) : Wide := mulf (mulf G (LOGI G)) A
def CUT (x : Wide) : FVec Ideal S8x8192x704 .f32 :=
  transpose S8x8192x704 [1, 0, 2] (shapeCast S8192x8x704 x shapeCasts_S8192x5632_S8192x8x704) transposes_S8192x8x704_S8x8192x704_1_0_2
def PAIR (x y : FVec Ideal S8x8192x704 .f32) : FVec Ideal S2x8x8192x704 .f32 :=
  concatenate S2x8x8192x704 0 [⟨S1x8x8192x704, broadcastInDim S1x8x8192x704 ![1, 2, 3] bcast_S8x8192x704_S1x8x8192x704_1_2_3 x⟩,
    ⟨S1x8x8192x704, broadcastInDim S1x8x8192x704 ![1, 2, 3] bcast_S8x8192x704_S1x8x8192x704_1_2_3 y⟩] concatenates_S1x8x8192x704_S1x8x8192x704_S2x8x8192x704_d0

/-- The reference's two results. -/
def REF0 (G P : Wide) : FVec Ideal S8x8192x704 .bf16 := truncf .bf16 (CUT (REFA G P)) bitsLt_bf16_f32
def REF1 (G P A : Wide) : FVec Ideal S2x8x8192x704 .bf16 := truncf .bf16 (PAIR (CUT (REFG G P A)) (CUT (REFU G A))) bitsLt_bf16_f32

theorem one_at (y : S8192x5632.Idx) : one y = 1 := by
  pointwise [one]

theorem LOGI_at (G : Wide) (y : S8192x5632.Idx) : LOGI G y = logi (G y) := by
  unfold logi
  rw [zero_sub, ← one_at y]
  rfl

theorem REFA_at (G P : Wide) (y : S8192x5632.Idx) : REFA G P y = actAt (G y) (P y) := by
  unfold actAt
  rw [← LOGI_at]
  rfl

theorem REFG_at (G P A : Wide) (y : S8192x5632.Idx) (x : ℝ) (hx : A y * P y = x) : REFG G P A y = gateAt (G y) (P y) (A y) := by
  unfold gateAt
  rw [hx, ← gate_eq, ← LOGI_at, ← hx, ← one_at y]
  rfl

theorem REFU_at (G A : Wide) (y : S8192x5632.Idx) : REFU G A y = upAt (G y) 0 (A y) := by
  unfold upAt
  rw [← LOGI_at, mul_comm (A y)]
  rfl

theorem turned (x : FVec Ideal S8192x8x704 .f32) (j : Fin 8) (i : Fin 8192) (n : Fin 704) :
    transpose S8x8192x704 [1, 0, 2] x transposes_S8192x8x704_S8x8192x704_1_0_2 (ix3 j i n) = x (ix3 i j n) := by
  pointwise

theorem cut (x : Wide) (i : Fin 8192) (j : Fin 8) (n : Fin 704) :
    shapeCast S8192x8x704 x shapeCasts_S8192x5632_S8192x8x704 (ix3 i j n) = x (ix2 i ⟨j.val * 704 + n.val, by omega⟩) := by
  pointwise

theorem CUT_at (x : Wide) (j : Fin 8) (i : Fin 8192) (n : Fin 704) : CUT x (ix3 j i n) = x (ix2 i ⟨j.val * 704 + n.val, by omega⟩) := by
  unfold CUT
  rw [turned, cut]

theorem PAIR_at (x y : FVec Ideal S8x8192x704 .f32) (w : Fin 2) (j : Fin 8) (i : Fin 8192) (n : Fin 704) :
    PAIR x y (ix4 w j i n) = if w.val = 0 then x (ix3 j i n) else y (ix3 j i n) := by
  pointwise [PAIR]
  simp only [Nat.lt_one_iff]
  rfl

theorem round3 (x : FVec Ideal S8x8192x704 .f32) (y : S8x8192x704.Idx) : truncf .bf16 x bitsLt_bf16_f32 y = x y := rfl
theorem round4 (x : FVec Ideal S2x8x8192x704 .f32) (y : S2x8x8192x704.Idx) : truncf .bf16 x bitsLt_bf16_f32 y = x y := rfl

theorem REF0_eq (G P : Wide) : REF0 G P = outA G P := by
  funext y
  obtain ⟨j, i, n, rfl⟩ : ∃ (j : Fin 8) (i : Fin 8192) (n : Fin 704), y = ix3 j i n := ⟨y 0, y 1, y 2, funext fun k => by fin_cases k <;> rfl⟩
  unfold REF0
  rw [round3, CUT_at, REFA_at, tab_ix G, tab_ix P]
  rfl

theorem REF1_eq (G P A : Wide) (h : ∀ y, ∃ x : ℝ, A y * P y = x) : REF1 G P A = outD G P A := by
  funext y
  obtain ⟨w, j, i, n, rfl⟩ : ∃ (w : Fin 2) (j : Fin 8) (i : Fin 8192) (n : Fin 704), y = ix4 w j i n := ⟨y 0, y 1, y 2, y 3, funext fun k => by fin_cases k <;> rfl⟩
  obtain ⟨x, hx⟩ := h (ix2 i ⟨j.val * 704 + n.val, by omega⟩)
  unfold REF1
  rw [round4, PAIR_at, CUT_at, CUT_at, REFG_at _ _ _ _ x hx, REFU_at, tab_ix G, tab_ix P, tab_ix A]
  rfl

/-- A product of finite matrices is finite. -/
theorem sum_real (f g : Fin 2048 → EReal) (hf : ∀ k, f k = ((f k).toReal : ℝ)) (hg : ∀ k, g k = ((g k).toReal : ℝ)) : ∃ x : ℝ, ∑ k, f k * g k = x :=
  ⟨∑ k, (f k).toReal * (g k).toReal, by
    rw [← RealOps.coe_sum]
    exact Finset.sum_congr rfl fun k _ => by rw [EReal.coe_mul, ← hf, ← hg]⟩

theorem up_real (u : FVec Ideal S8192x2048 .f32) (w : FVec Ideal S2048x5632 .f32) (hu : ∀ y, u y = ((u y).toReal : ℝ)) (hw : ∀ y, w y = ((w y).toReal : ℝ))
    (y : S8192x5632.Idx) : ∃ x : ℝ, Host.dotGeneral (F := Ideal) (φ₁ := .f32) (φ₂ := .f32) dot_S8192x2048_S2048x5632_S8192x5632_1_0_0_1_n_n none u w y = x := by
  pointwise
  exact sum_real _ _ (fun _ => hu _) fun _ => hw _

theorem down_real (d : FVec Ideal S8192x2048 .f32) (w : FVec Ideal S5632x2048 .f32) (hd : ∀ y, d y = ((d y).toReal : ℝ)) (hw : ∀ y, w y = ((w y).toReal : ℝ))
    (y : S8192x5632.Idx) : ∃ x : ℝ, Host.dotGeneral (F := Ideal) (φ₁ := .f32) (φ₂ := .f32) dot_S8192x2048_S5632x2048_S8192x5632_1_1_0_0_n_n none d w y = x := by
  pointwise
  exact sum_real _ _ (fun _ => hd _) fun _ => hw _

end Cert.FfnProof

end
-- ==== Proof.Finite.lean ====
module

public import Idealize.ShloMosaic.Lib.ReduceAll
public import Idealize.ShloMosaic.Lib.Pipeline.ValueKit

/-! What "every entry is finite" says of an array: it is the array of a table of reals. -/

@[expose] public section

noncomputable section

namespace Cert.Finite

open Idealize.ShloMosaic

/-- An entry whose absolute value lies below +∞ is a real number. -/
theorem real_of_below (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [show Ideal.ofBits .f32 0x7F800000#32 = ⊤ by simp [Ideal.ofBits, Ideal.ieee]] at h
  induction x with
  | coe r => rfl
  | top => exact absurd h (by simp [FloatOps.cmpf, FloatOps.absf, Ideal.cmp])
  | bot => exact absurd h (by simp [FloatOps.cmpf, FloatOps.absf, Ideal.cmp])

/-- The test of a whole array, entry by entry. -/
theorem real_of_all {s t u : Shape} {axes : List (Fin s.rank)} [Subsingleton t.Idx] (x : FVec Ideal s .f32) (init : u.Idx → BitVec 1) (hb : (⟨0, ![]⟩ : Shape).BroadcastsInDim s (![] : Fin 0 → Fin s.rank))
    (h : s.ReducesTo axes t) (hu : 0 < u.numel) (j : t.Idx)
    (e : Host.reduce IntOp.andi (cmpf .olt (Host.absf x) (broadcastInDim s (![] : Fin 0 → Fin s.rank) hb (constant (⟨0, ![]⟩ : Shape) .f32 0x7F800000#32))) init h hu j = 1#1) (i : s.Idx) :
    x i = (((x i).toReal : ℝ) : EReal) :=
  real_of_below _ (Host.reduce_andi_all _ _ _ _ j e i)

/-- A table of reals that reads as the array at the indices it has. -/
def table {a b : ℕ} (x : FVec Ideal ⟨2, ![a, b]⟩ .f32) (i j : ℕ) : ℝ := if h : i < a ∧ j < b then (x (Fin.cons ⟨i, h.1⟩ (Fin.cons ⟨j, h.2⟩ finZeroElim))).toReal else 0

theorem table_at {a b : ℕ} (x : FVec Ideal ⟨2, ![a, b]⟩ .f32) (hx : ∀ i, x i = (((x i).toReal : ℝ) : EReal)) (y : (⟨2, ![a, b]⟩ : Shape).Idx) :
    x y = ((table x (y 0).val (y 1).val : ℝ) : EReal) := by
  unfold table
  rw [dif_pos ⟨(y 0).isLt, (y 1).isLt⟩, ← hx]
  exact congrArg x (funext fun k => by fin_cases k <;> rfl)

end Cert.Finite

end
-- ==== Proof.FfnClaims.lean ====
/- The claims about the SwiGLU gradient's call. -/
module
public import proofs.«01_k».proof.Defs
public import proofs.«01_k».proof.Proof.FfnValue
public import proofs.«01_k».proof.Proof.FfnRef
public import proofs.«01_k».proof.Proof.Finite
public import proofs.«01_k».proof.Proof.Gen.Pre_ffn_finite
public import proofs.«01_k».proof.Proof.Gen.Ffn.Frame

@[expose] public section
noncomputable section
namespace Cert.FfnProof
open Idealize.ShloMosaic Idealize.SL.Sem Cert.Finite

/-- The frame of the reference. -/
theorem ref_frame : quiescent_FfnRefIdeal := fun m ρ _ =>
  (θ_run FfnRefIdeal.defs _ _).mono (fun r h => ⟨fun c => (h c).2.2, sem_eq_zero_of_no_sems (by decide) r.2⟩)
    (FfnRefIdeal.Value.run (F := Ideal) m ρ)

/-- At finite arguments the gradient of the value, times the other product, is finite. -/
theorem args_real (m : (ℓ : Loc FfnIdeal.nD FfnIdeal.τ FfnIdeal.sig) → Buf (Elt Ideal) ℓ) (c : Dev FfnIdeal.nD) (h : Pre_FfnIdeal_ffn_finite m) :
    ∀ y, ∃ x : ℝ, argA m c y * argP m c y = x := fun y => by
  have h1 := IntOp.andi_eq_one.1 (congrFun (h c) default)
  have h2 := IntOp.andi_eq_one.1 h1.1
  have h3 := IntOp.andi_eq_one.1 h2.1
  obtain ⟨a, ha⟩ := down_real _ _ (real_of_all _ _ _ _ _ _ h1.2) (real_of_all _ _ _ _ _ _ h2.2) y
  obtain ⟨p, hp⟩ := up_real _ _ (real_of_all _ _ _ _ _ _ h3.1) (real_of_all _ _ _ _ _ _ h3.2) y
  exact ⟨a * p, by rw [EReal.coe_mul, ← ha, ← hp]; rfl⟩

/-- The call's two results are the reference's, at finite arguments. -/
theorem algebraic : algebraic_FfnIdeal_FfnRefIdeal_pre_ffn_finite := fun m ρ m' ρ' hpre hag =>
  ⟨fun c => outA (argG m c) (argP m c), fun c => outD (argG m c) (argP m c) (argA m c),
   (θ_run FfnIdeal.defs _ _).mono (fun _ h c => ⟨(h c).1.trans (final3 m c), (h c).2.1.trans (final4 m c), (h c).2.2⟩)
     (FfnIdeal.Value.run_blocks (F := Ideal) m ρ),
   (θ_run FfnRefIdeal.defs _ _).mono (fun _ h c =>
       ⟨(h c).1.trans (by rw [(hag c).1, (hag c).2.1, (hag c).2.2.1]; exact REF0_eq (argG m c) (argP m c)),
        (h c).2.1.trans (by rw [(hag c).1, (hag c).2.1, (hag c).2.2.1, (hag c).2.2.2.1, (hag c).2.2.2.2]; exact REF1_eq (argG m c) (argP m c) (argA m c) (args_real m c hpre)), (h c).2.2⟩)
     (FfnRefIdeal.Value.run (F := Ideal) m' ρ')⟩
-- ==== Proof.WindowMath.lean ====
/- Sums over a window of rows: a sum of differences `f k − f (k + w)` is the sum over the first window, and the host's
   running sum from a row on. -/
module

public import proofs.«01_k».proof.Proof.RealOps

@[expose] public section

noncomputable section

namespace Cert.WindowProof

open Idealize.ShloMosaic TcCoe
open Finset

/-- Differences of terms `w` apart add up to the first `w` terms, where the terms from `N` on are zero. -/
theorem telescope (f : ℕ → ℝ) (w N : ℕ) (h : ∀ n, N ≤ n → f n = 0) : ∑ k ∈ range N, (f k - f (k + w)) = ∑ k ∈ range w, f k := by
  have key : ∀ n, ∑ k ∈ range n, (f k - f (k + w)) = ∑ k ∈ range w, f k - ∑ k ∈ range w, f (n + k) := fun n => by
    induction n with
    | zero => simp
    | succ n ih =>
      have e := Finset.sum_range_succ' (fun k => f (n + k)) w
      have e' := Finset.sum_range_succ (fun k => f (n + k)) w
      rw [sum_range_succ, ih, show ∑ k ∈ range w, f (n + 1 + k) = ∑ k ∈ range w, f (n + (k + 1)) from sum_congr rfl fun k _ => by rw [show n + 1 + k = n + (k + 1) by omega]]
      simp only [add_zero] at e
      linarith
  rw [key, sum_eq_zero (fun k _ => h (N + k) (by omega)) (s := range w), sub_zero]

/-- The number of rows a window of `w` has at row `n`. -/
def count (w n : ℕ) : ℝ := (min (n + 1) w : ℕ)

theorem count_ne (w n : ℕ) (h : 0 < w) : count w n ≠ 0 := by
  unfold count
  exact Nat.cast_ne_zero.2 (by omega)

/-- The count as the programs form it, with words. -/
theorem count_word (w n : ℕ) (hw : w < 2 ^ 31) (hn : n + 1 < 2 ^ 31) : (IntOp.minsi (BitVec.ofNat 32 (n + 1)) (BitVec.ofNat 32 w)).toInt = ((min (n + 1) w : ℕ) : ℤ) := by
  have e : ∀ a : ℕ, a < 2 ^ 31 → (BitVec.ofNat 32 a).toInt = a := fun a ha => by
    rw [BitVec.toInt_eq_toNat_of_lt (by rw [BitVec.toNat_ofNat, Nat.mod_eq_of_lt (by omega)]; omega), BitVec.toNat_ofNat, Nat.mod_eq_of_lt (by omega)]
  have s : (BitVec.ofNat 32 (n + 1)).slt (BitVec.ofNat 32 w) = decide (n + 1 < w) := by
    rw [BitVec.slt, e _ hn, e _ hw]
    exact decide_eq_decide.2 (by omega)
  unfold IntOp.minsi
  rw [s]
  by_cases c : n + 1 < w
  · rw [decide_eq_true c, if_pos rfl, e _ hn, min_eq_left c.le]
  · rw [decide_eq_false c, if_neg (by simp), e _ hw, min_eq_right (not_lt.1 c)]

/-- A fold of additions is the start and the sum. -/
theorem fold_add {α : Type} (f : α → EReal) (v : EReal) (l : List α) : l.foldl (fun r n => r + f n) v = v + (l.map f).sum := by
  induction l generalizing v with
  | nil => simp
  | cons a l ih => simp [ih, add_assoc]

abbrev Win (N : ℕ) : Shape := ⟨2, ![N, 1]⟩

def winRow (N : ℕ) : Fin N ≃ (Win N).Idx where
  toFun w := ix2 w 0
  invFun p := p 0
  left_inv w := rfl
  right_inv p := by
    funext a
    match a with
    | ⟨0, _⟩ => rfl
    | ⟨1, _⟩ => exact Subsingleton.elim (α := Fin 1) _ _

/-- The host's running sum along the rows, from a row on. -/
theorem rows_sum {N B : ℕ} (x : FVec Ideal ⟨2, ![N, B]⟩ .f32) (f : ℕ → EReal) (j : Fin B) (hf : ∀ n : Fin N, x (ix2 n j) = f n.val)
    (h : (⟨2, ![N, B]⟩ : Shape).ReduceWindows ![N, 1] ![1, 1] ![0, 0] ![N - 1, 0] ⟨2, ![N, B]⟩)
    {u : Shape} (hu : 0 < u.numel) (init : FVec Ideal u .f32) (h0 : init (Shape.Idx.first hu) = 0) (i : Fin N) :
    Host.reduceWindowAdd (F := Ideal) (φ := .f32) ![N, 1] ![1, 1] ![0, 0] ![N - 1, 0] x init h hu (ix2 i j)
      = ∑ w : Fin N, if i.val + w.val < N then f (i.val + w.val) else 0 := by
  obtain ⟨g, hg⟩ : ∃ g : ℕ → ℕ → EReal, ∀ (n : Fin N) (k : Fin B), x (ix2 n k) = g n.val k.val :=
    ⟨fun n k => if c : n < N ∧ k < B then x (ix2 (⟨n, c.1⟩ : Fin N) (⟨k, c.2⟩ : Fin B)) else 0, fun n k => by
      dsimp only
      rw [dif_pos ⟨n.isLt, k.isLt⟩]⟩
  have hx : x = fun z : (⟨2, ![N, B]⟩ : Shape).Idx => g (z 0).val (z 1).val := funext fun z => by
    exact (congrArg x (funext fun a => by match a with | ⟨0, _⟩ => rfl | ⟨1, _⟩ => rfl)).trans (hg (z 0) (z 1))
  have hB : j.val < B := j.isLt
  have hi : i.val < N := i.isLt
  unfold Host.reduceWindowAdd
  rw [Ideal.hostReduceWindowAdd_def]
  rw [h0, hx]
  unfold Ideal.hostReduceWindowAdd Host.reduceWindow
  refine (fold_add _ _ _).trans ?_
  rw [zero_add, ← Fin.sum_univ_def]
  refine (Fintype.sum_equiv ((winRow N).trans (Win N).rowMajor) _ _ fun w => ?_).symm
  have e : (Win N).rowMajor.symm (((winRow N).trans (Win N).rowMajor) w) = winRow N w := (Win N).rowMajor.symm_apply_apply _
  dsimp only
  rw [e]
  by_cases c : i.val + w.val < N
  · rw [if_pos c, ← hf ⟨i.val + w.val, c⟩, hg]
    refine Eq.symm ((dif_pos ?_).trans ?_)
    · intro a
      match a with
      | ⟨0, _⟩ => exact ⟨Nat.zero_le _, by show i.val * 1 + w.val - 0 < N; omega⟩
      | ⟨1, _⟩ => exact ⟨Nat.zero_le _, by show j.val * 1 + 0 - 0 < B; omega⟩
    · show g (i.val * 1 + w.val - 0) (j.val * 1 + 0 - 0) = g (i.val + w.val) j.val
      simp
  · rw [if_neg c]
    refine Eq.symm ((dif_neg ?_).trans rfl)
    intro hh
    have a2 : i.val * 1 + w.val - 0 < N := (hh 0).2
    omega

end Cert.WindowProof

end
-- ==== Proof.WindowBlock.lean ====
/- The window means' gradient: what one block of 512 rows computes in one column group. -/
module

public import proofs.«01_k».proof.Proof.Gen.WindowIdeal.Frame
public import proofs.«01_k».proof.Proof.WindowMath

@[expose] public section

noncomputable section

namespace Cert.WindowProof

open WindowIdeal WindowIdeal.Gen Idealize.ShloMosaic TcCoe Idealize.SL.Sem

abbrev Cur : Type := FVec Ideal S512x512 .f32
abbrev Nxt : Type := FVec Ideal S16x512 .f32
abbrev Ext : Type := FVec Ideal S528x512 .f32

/-- The body's steps: the rows after the block, the division by the counts, one doubling of the window, the end. -/
def halo (a : BitVec 32) (v : Nxt) : Nxt := Scalar.select (Scalar.cmpi .slt a 15#32) v (broadcast S16x512 (Scalar.ofBits .f32 0x00000000#32))
def rows (i : grid0.Coords) (w : BitVec 32) : IVec S528x1 32 := minsi (addi (k0_pay2 i) (broadcast S528x1 1#32)) (broadcast S528x1 w)
def shared (i : grid0.Coords) (w : BitVec 32) (v : Cur) (u : Nxt) : Ext :=
  divf (concatenate S528x512 0 [⟨S512x512, v⟩, ⟨S16x512, u⟩] concatenates_S512x512_S16x512_S528x512_d0) (broadcastTo S528x512 (sitofp (F := Ideal) .f32 (rows i w)) broadcasts_S528x1_S528x512)
def double (k : BitVec 32) (s : Ext) : Ext := addf s (dynamicRotate 0 k none s rotates_S528x512_d0)
def finish (s : Ext) (v : Cur) : Cur := subf (extractStridedSlice S512x512 ![0, 0] s slices_S528x512_o0_0_S512x512) v

variable (i : grid0.Coords) (v : Cur) (u : Nxt)

def word : BitVec 32 := BitVec.ofNat 32 (i 0).val

theorem pay3_eq : k0_pay3 (F := Ideal) i v u = finish (double 527#32 (shared i 2#32 v (halo (word i) u))) v := rfl
theorem pay5_eq : k0_pay5 (F := Ideal) v (k0_pay4 i v u) = finish (double 526#32 (double 527#32 (shared i 4#32 v (halo (word i) u)))) v := rfl
theorem pay6_eq : k0_pay6 (F := Ideal) (word i) (k0_pay2 i) v u = finish (double 524#32 (double 526#32 (double 527#32 (shared i 8#32 v (halo (word i) u))))) v := rfl
theorem pay1_eq : k0_pay1 (F := Ideal) v (k0_pay7 (word i) u) (k0_pay8 (k0_pay2 i)) 16#32
    = finish (double 520#32 (double 524#32 (double 526#32 (double 527#32 (shared i 16#32 v (halo (word i) u)))))) v := rfl

theorem last_word : ∀ n : Fin 16, Scalar.cmpi .slt (BitVec.ofNat 32 n.val) 15#32 = if n.val < 15 then 1#1 else 0#1 := by decide

theorem halo_at (r : Fin 16) (j : Fin 512) : halo (word i) u (ix2 r j) = if (i 0).val < 15 then u (ix2 r j) else 0 := by
  have h : (i 0).val < 16 := (i 0).isLt
  unfold halo word
  rw [last_word ⟨(i 0).val, h⟩]
  by_cases c : (i 0).val < 15
  · rw [if_pos c, if_pos c]; rfl
  · rw [if_neg c, if_neg c]
    exact Ideal.ofBits_zero .f32

theorem rows_at (w : ℕ) (r : Fin 528) : rows i (BitVec.ofNat 32 w) (ix2 r 0) = IntOp.minsi (BitVec.ofNat 32 ((i 0).val * 512 + r.val + 1)) (BitVec.ofNat 32 w) := by
  have h : (i 0).val < 16 := (i 0).isLt
  have e : (BitVec.ofNat 32 r.val + BitVec.ofNat 32 (i 0).val * 512#32 + 1#32) = BitVec.ofNat 32 ((i 0).val * 512 + r.val + 1) := by
    apply BitVec.eq_of_toNat_eq
    simp only [BitVec.toNat_add, BitVec.toNat_mul, BitVec.toNat_ofNat]
    omega
  rw [← e]
  pointwise [rows, k0_pay2]
  rfl

theorem shared_at (w : ℕ) (hw : w < 2 ^ 31) (h0 : 0 < w) (f : ℕ → EReal) (j : Fin 512) (hv : ∀ r : Fin 512, v (ix2 r j) = f ((i 0).val * 512 + r.val))
    (hu : ∀ r : Fin 16, (i 0).val < 15 → u (ix2 r j) = f ((i 0).val * 512 + 512 + r.val)) (hf : ∀ n, 8192 ≤ n → f n = 0) (r : Fin 528) :
    shared i (BitVec.ofNat 32 w) v (halo (word i) u) (ix2 r j) = Ideal.div (f ((i 0).val * 512 + r.val)) (count w ((i 0).val * 512 + r.val) : ℝ) := by
  have h : (i 0).val < 16 := (i 0).isLt
  have c : concatenate S528x512 0 [⟨S512x512, v⟩, ⟨S16x512, halo (word i) u⟩] concatenates_S512x512_S16x512_S528x512_d0 (ix2 r j) = f ((i 0).val * 512 + r.val) := by
    generalize hh : halo (word i) u = z
    pointwise []
    by_cases c : r.val < 512
    · rw [dif_pos c]
      exact hv ⟨r.val, c⟩
    · rw [dif_neg c, ← hh, halo_at]
      by_cases l : (i 0).val < 15
      · rw [if_pos l, hu _ l]
        exact congrArg f (by show (i 0).val * 512 + 512 + (r.val - 512) = _; omega)
      · rw [if_neg l, hf _ (by omega)]
  have d : broadcastTo S528x512 (sitofp (F := Ideal) .f32 (rows i (BitVec.ofNat 32 w))) broadcasts_S528x1_S528x512 (ix2 r j) = ((count w ((i 0).val * 512 + r.val) : ℝ) : EReal) := by
    have e : broadcastTo S528x512 (sitofp (F := Ideal) .f32 (rows i (BitVec.ofNat 32 w))) broadcasts_S528x1_S528x512 (ix2 r j)
        = (((rows i (BitVec.ofNat 32 w) (ix2 r 0)).toInt : ℝ) : EReal) := by
      generalize rows i (BitVec.ofNat 32 w) = z
      pointwise []
      rfl
    rw [e, rows_at, count_word _ _ hw (by omega)]
    unfold count
    norm_cast
  show Ideal.div _ _ = _
  rw [c, d]

/-- Column `j` of `s` holds, in row `r`, the sum of `n` terms of `g` from number `b + r` on. -/
def Sums (n : ℕ) (g : ℕ → EReal) (b : ℕ) (j : Fin 512) (s : Ext) : Prop := ∀ r : Fin 528, r.val + n ≤ 528 → s (ix2 r j) = ∑ k ∈ Finset.range n, g (b + r.val + k)

/-- One doubling. -/
theorem double_at (n : ℕ) (hn : n < 528) (h0 : 0 < n) (s : Ext) (g : ℕ → EReal) (j : Fin 512) (b : ℕ) (hs : Sums n g b j s) :
    Sums (2 * n) g b j (double (BitVec.ofNat 32 (528 - n)) s) := fun r hr => by
  have e : double (BitVec.ofNat 32 (528 - n)) s (ix2 r j) = s (ix2 r j) + s (ix2 ⟨r.val + n, by omega⟩ j) := by
    refine congrArg (s (ix2 r j) + ·) (congrArg s ?_)
    funext a
    match a with
    | ⟨0, _⟩ => exact Fin.ext (by show (r.val + 528 - ((BitVec.ofNat 32 (528 - n)).toNat + 0) % 528) % 528 = r.val + n; rw [BitVec.toNat_ofNat]; omega)
    | ⟨1, _⟩ => rfl
  rw [e, hs r (by omega), hs ⟨r.val + n, by omega⟩ (by show r.val + n + n ≤ 528; omega), two_mul, Finset.sum_range_add]
  refine congrArg (_ + ·) (Finset.sum_congr rfl fun k _ => congrArg g ?_)
  show b + (r.val + n) + k = b + r.val + (n + k)
  omega

section
variable {s : Ext} {g : ℕ → EReal} {j : Fin 512} {b : ℕ}
theorem sums2 (h : Sums 1 g b j s) : Sums 2 g b j (double 527#32 s) := double_at 1 (by omega) (by omega) s g j b h
theorem sums4 (h : Sums 1 g b j s) : Sums 4 g b j (double 526#32 (double 527#32 s)) := double_at 2 (by omega) (by omega) _ g j b (sums2 h)
theorem sums8 (h : Sums 1 g b j s) : Sums 8 g b j (double 524#32 (double 526#32 (double 527#32 s))) := double_at 4 (by omega) (by omega) _ g j b (sums4 h)
theorem sums16 (h : Sums 1 g b j s) : Sums 16 g b j (double 520#32 (double 524#32 (double 526#32 (double 527#32 s)))) :=
  double_at 8 (by omega) (by omega) _ g j b (sums8 h)
end

theorem finish_at (s : Ext) (r : Fin 512) (j : Fin 512) : finish s v (ix2 r j) = s (ix2 ⟨r.val, by omega⟩ j) - v (ix2 r j) := by
  pointwise [finish]

section
variable (w : ℕ) (f : ℕ → EReal) (j : Fin 512) (hv : ∀ r : Fin 512, v (ix2 r j) = f ((i 0).val * 512 + r.val))
  (hu : ∀ r : Fin 16, (i 0).val < 15 → u (ix2 r j) = f ((i 0).val * 512 + 512 + r.val)) (hf : ∀ n, 8192 ≤ n → f n = 0) (r : Fin 512)
include hv hu hf

theorem group_at (hw : w < 2 ^ 31) (h0 : 0 < w) : Sums 1 (fun n => Ideal.div (f n) (count w n : ℝ)) ((i 0).val * 512) j (shared i (BitVec.ofNat 32 w) v (halo (word i) u)) := fun r _ => by
  rw [Finset.sum_range_one, add_zero]
  exact shared_at i v u w hw h0 f j hv hu hf r

/-! Each group's result: the shares of the window's rows, less the row itself. -/

theorem group2 : k0_pay3 (F := Ideal) i v u (ix2 r j)
    = (∑ k ∈ Finset.range 2, Ideal.div (f ((i 0).val * 512 + r.val + k)) (count 2 ((i 0).val * 512 + r.val + k) : ℝ)) - v (ix2 r j) := by
  rw [pay3_eq, finish_at]
  exact congrArg (· - _) (sums2 (group_at i v u 2 f j hv hu hf (by omega) (by omega)) _ (by show r.val + 2 ≤ 528; omega))

theorem group4 : k0_pay5 (F := Ideal) v (k0_pay4 i v u) (ix2 r j)
    = (∑ k ∈ Finset.range 4, Ideal.div (f ((i 0).val * 512 + r.val + k)) (count 4 ((i 0).val * 512 + r.val + k) : ℝ)) - v (ix2 r j) := by
  rw [pay5_eq, finish_at]
  exact congrArg (· - _) (sums4 (group_at i v u 4 f j hv hu hf (by omega) (by omega)) _ (by show r.val + 4 ≤ 528; omega))

theorem group8 : k0_pay6 (F := Ideal) (word i) (k0_pay2 i) v u (ix2 r j)
    = (∑ k ∈ Finset.range 8, Ideal.div (f ((i 0).val * 512 + r.val + k)) (count 8 ((i 0).val * 512 + r.val + k) : ℝ)) - v (ix2 r j) := by
  rw [pay6_eq, finish_at]
  exact congrArg (· - _) (sums8 (group_at i v u 8 f j hv hu hf (by omega) (by omega)) _ (by show r.val + 8 ≤ 528; omega))

theorem group16 : k0_pay1 (F := Ideal) v (k0_pay7 (word i) u) (k0_pay8 (k0_pay2 i)) 16#32 (ix2 r j)
    = (∑ k ∈ Finset.range 16, Ideal.div (f ((i 0).val * 512 + r.val + k)) (count 16 ((i 0).val * 512 + r.val + k) : ℝ)) - v (ix2 r j) := by
  rw [pay1_eq, finish_at]
  exact congrArg (· - _) (sums16 (group_at i v u 16 f j hv hu hf (by omega) (by omega)) _ (by show r.val + 16 ≤ 528; omega))

end

end Cert.WindowProof

end
-- ==== Proof.WindowValue.lean ====
/- The window means' gradient: what the call's result array holds. -/
module

public import proofs.«01_k».proof.Proof.Gen.WindowIdeal.Value
public import proofs.«01_k».proof.Proof.WindowBlock

@[expose] public section

noncomputable section

namespace Cert.WindowProof

open WindowIdeal WindowIdeal.Gen Idealize.ShloMosaic TcCoe Idealize.SL.Sem
open Idealize.ShloMosaic.Pipeline (Dat)

abbrev Wide : Type := FVec Ideal S8192x2048 .f32

/-- A column of the cotangent by row numbers, zero below the last row. -/
def tab (D : Wide) (l : Fin 2048) (n : ℕ) : EReal := if h : n < 8192 then D (ix2 ⟨n, h⟩ l) else 0
/-- The window of a column. -/
def width (l : Fin 2048) : ℕ := 2 ^ (l.val / 512 + 1)

def outAt (D : Wide) (i : Fin 8192) (l : Fin 2048) : EReal :=
  (∑ k ∈ Finset.range (width l), Ideal.div (tab D l (i.val + k)) (count (width l) (i.val + k) : ℝ)) - D (ix2 i l)
def outW (D : Wide) : Wide := fun y => outAt D (y 0) (y 1)

theorem idx : ∀ t : Fin cfg0.N, win0_0.index t = ![t.val, 0] ∧ win0_1.index t = ![min ((t.val + 1) * 32) 511, 0] ∧ win0_2.index t = ![t.val, 0] ∧ (grid0.coords t 0).val = t.val :=
  (by decide +kernel : ∀ t : Fin grid0.N, _)

variable (m : (ℓ : Loc nD τ sig) → Buf (Elt Ideal) ℓ) (c : Dev nD)

def argD : Wide := m ((c.tc : Thread nD τ).loc main_arg1)

/-- The row of the array that row `r` of block `t` is. -/
def at_ (t : Fin cfg0.N) (r : Fin 512) : Fin 8192 := ⟨t.val * 512 + r.val, by have : t.val < 16 := lt_of_lt_of_eq t.isLt N_0; omega⟩

theorem blkD (t : Fin cfg0.N) (r : Fin 512) (k : Fin 2048) : (iblk m c 0 t : FVec Ideal S512x2048 .f32) (ix2 r k) = argD m c (ix2 (at_ t r) k) := by
  blk_point [iblk, V, idx t, argD, at_]

theorem blkN (t : Fin cfg0.N) (h : t.val < 15) (r : Fin 16) (k : Fin 2048) : (iblk m c 1 t : FVec Ideal S16x2048 .f32) (ix2 r k)
    = argD m c (ix2 ⟨t.val * 512 + 512 + r.val, by omega⟩ k) := by
  blk_point [iblk, V, idx t, argD]

theorem cur_at (t : Fin cfg0.N) (l : Fin 2048) (r : Fin 512) : (iblk m c 0 t : FVec Ideal S512x2048 .f32) (ix2 r l) = tab (argD m c) l ((grid0.coords t 0).val * 512 + r.val) := by
  have hN : t.val < 16 := lt_of_lt_of_eq t.isLt N_0
  rw [(idx t).2.2.2, blkD]
  unfold tab
  rw [dif_pos (show t.val * 512 + r.val < 8192 by omega)]
  rfl

theorem nxt_at (t : Fin cfg0.N) (l : Fin 2048) (r : Fin 16) (h : (grid0.coords t 0).val < 15) :
    (iblk m c 1 t : FVec Ideal S16x2048 .f32) (ix2 r l) = tab (argD m c) l ((grid0.coords t 0).val * 512 + 512 + r.val) := by
  rw [(idx t).2.2.2] at h ⊢
  rw [blkN m c t h]
  unfold tab
  rw [dif_pos (show t.val * 512 + 512 + r.val < 8192 by omega)]

theorem tab_end (D : Wide) (l : Fin 2048) (n : ℕ) (h : 8192 ≤ n) : tab D l n = 0 := dif_neg (by omega)

/-- A column of one of the four groups. -/
def col (g : Fin 4) (j : Fin 512) : Fin 2048 := ⟨g.val * 512 + j.val, by omega⟩

theorem width_col (g : Fin 4) (j : Fin 512) : width (col g j) = 2 ^ (g.val + 1) := by
  unfold width col
  rw [show (g.val * 512 + j.val) / 512 = g.val by omega]

variable (x : FVec Ideal S512x2048 .f32) (z : FVec Ideal S16x2048 .f32) (r : Fin 512) (q : Fin 16) (j : Fin 512)

theorem ld0 : (View.ld x r0_0 : Vec Ideal S512x512 .f32) (ix2 r j) = x (ix2 r (col 0 j)) := congrArg x (show r0_0.emb (ix2 r j) = _ by
  funext k; fin_cases k <;> exact Fin.ext (by rw [Rect.emb_apply]; simp [r0_0, col]))
theorem ld1 : (View.ld z r0_1 : Vec Ideal S16x512 .f32) (ix2 q j) = z (ix2 q (col 0 j)) := congrArg z (show r0_1.emb (ix2 q j) = _ by
  funext k; fin_cases k <;> exact Fin.ext (by rw [Rect.emb_apply]; simp [r0_1, col]))
theorem ld2 : (View.ld x r0_2 : Vec Ideal S512x512 .f32) (ix2 r j) = x (ix2 r (col 1 j)) := congrArg x (show r0_2.emb (ix2 r j) = _ by
  funext k; fin_cases k <;> exact Fin.ext (by rw [Rect.emb_apply]; simp [r0_2, col]))
theorem ld3 : (View.ld z r0_3 : Vec Ideal S16x512 .f32) (ix2 q j) = z (ix2 q (col 1 j)) := congrArg z (show r0_3.emb (ix2 q j) = _ by
  funext k; fin_cases k <;> exact Fin.ext (by rw [Rect.emb_apply]; simp [r0_3, col]))
theorem ld4 : (View.ld x r0_4 : Vec Ideal S512x512 .f32) (ix2 r j) = x (ix2 r (col 2 j)) := congrArg x (show r0_4.emb (ix2 r j) = _ by
  funext k; fin_cases k <;> exact Fin.ext (by rw [Rect.emb_apply]; simp [r0_4, col]))
theorem ld5 : (View.ld z r0_5 : Vec Ideal S16x512 .f32) (ix2 q j) = z (ix2 q (col 2 j)) := congrArg z (show r0_5.emb (ix2 q j) = _ by
  funext k; fin_cases k <;> exact Fin.ext (by rw [Rect.emb_apply]; simp [r0_5, col]))
theorem ld6 : (View.ld x r0_6 : Vec Ideal S512x512 .f32) (ix2 r j) = x (ix2 r (col 3 j)) := congrArg x (show r0_6.emb (ix2 r j) = _ by
  funext k; fin_cases k <;> exact Fin.ext (by rw [Rect.emb_apply]; simp [r0_6, col]))
theorem ld7 : (View.ld z r0_7 : Vec Ideal S16x512 .f32) (ix2 q j) = z (ix2 q (col 3 j)) := congrArg z (show r0_7.emb (ix2 q j) = _ by
  funext k; fin_cases k <;> exact Fin.ext (by rw [Rect.emb_apply]; simp [r0_7, col]))

/-- The four stores lie side by side. -/
theorem canon_at (p0 p1 p2 p3 : Vec Ideal S512x512 .f32) (g : Fin 4) :
    (View.canon [⟨r0_6, p3⟩, ⟨r0_4, p2⟩, ⟨r0_2, p1⟩, ⟨r0_0, p0⟩] : Vec Ideal S512x2048 .f32) (ix2 r (col g j)) = ![p0, p1, p2, p3] g (ix2 r j) := by
  generalize hz : (ix2 r (col g j) : S512x2048.Idx) = y
  have y0 : (y 0).val = r.val := by rw [← hz]; rfl
  have y1 : (y 1).val = g.val * 512 + j.val := by rw [← hz]; rfl
  have key : ∀ x : S512x512.Idx, (x 0).val = r.val → (x 1).val = j.val → x = ix2 r j := fun x e0 e1 => by
    funext k; fin_cases k
    · exact Fin.ext e0
    · exact Fin.ext e1
  canon_tiles x h
  case piece0 =>
    rw [key x (by omega) (by omega), show g = 3 by omega]; rfl
  case piece1 =>
    rw [key x (by omega) (by omega), show g = 2 by omega]; rfl
  case piece2 =>
    rw [key x (by omega) (by omega), show g = 1 by omega]; rfl
  case piece3 =>
    rw [key x (by omega) (by omega), show g = 0 by omega]; rfl

theorem out_at (t : Fin cfg0.N) (g : Fin 4) : out0_2 (grid0.coords t) (iblk m c 0 t) (iblk m c 1 t) (ix2 r (col g j)) = outAt (argD m c) (at_ t r) (col g j) := by
  unfold_out out0_2
  rw [canon_at]
  unfold outAt
  rw [width_col, ← blkD, show (at_ t r).val = (grid0.coords t 0).val * 512 + r.val by rw [(idx t).2.2.2]; rfl]
  fin_cases g
  · exact (group2 (grid0.coords t) _ _ (tab (argD m c) (col 0 j)) j (fun r => (ld0 _ r j).trans (cur_at m c t _ r)) (fun q h => (ld1 _ q j).trans (nxt_at m c t _ q h)) (tab_end _ _) r).trans
      (congrArg (_ - ·) (ld0 _ r j))
  · exact (group4 (grid0.coords t) _ _ (tab (argD m c) (col 1 j)) j (fun r => (ld2 _ r j).trans (cur_at m c t _ r)) (fun q h => (ld3 _ q j).trans (nxt_at m c t _ q h)) (tab_end _ _) r).trans
      (congrArg (_ - ·) (ld2 _ r j))
  · exact (group8 (grid0.coords t) _ _ (tab (argD m c) (col 2 j)) j (fun r => (ld4 _ r j).trans (cur_at m c t _ r)) (fun q h => (ld5 _ q j).trans (nxt_at m c t _ q h)) (tab_end _ _) r).trans
      (congrArg (_ - ·) (ld4 _ r j))
  · exact (group16 (grid0.coords t) _ _ (tab (argD m c) (col 3 j)) j (fun r => (ld6 _ r j).trans (cur_at m c t _ r)) (fun q h => (ld7 _ q j).trans (nxt_at m c t _ q h)) (tab_end _ _) r).trans
      (congrArg (_ - ·) (ld6 _ r j))

theorem final2 : (dats m 0 c).arrAt 2 (cfgs 0).N = outW (argD m c) := by
  refine (dats m 0 c).arrAt_eq_of_covers 2 _ (by decide +kernel) fun t _ y => ?_
  have hN : t.val < 16 := lt_of_lt_of_eq t.isLt N_0
  obtain ⟨r, hr⟩ : ∃ r : Fin 512, r = y 0 := ⟨y 0, rfl⟩
  obtain ⟨n, hn⟩ : ∃ n : Fin 2048, n = y 1 := ⟨y 1, rfl⟩
  have hy : (cfg0.win 2).xinj (cfg0.grid.coords t) y = (ix2 r n : S512x2048.Idx) := by
    funext k; fin_cases k
    · exact hr.symm
    · exact hn.symm
  have he : ((cfg0.win 2).blk t).view.emb y = (ix2 (at_ t r) n : S8192x2048.Idx) := by
    funext k; fin_cases k <;> refine Fin.ext ?_
    · show ((((cfg0.win 2).blk t).view.emb y) 0).val = t.val * 512 + r.val
      rw [hr]; blk_simp [idx t]
    · show ((((cfg0.win 2).blk t).view.emb y) 1).val = n.val
      rw [hn]; blk_simp [idx t]
  rw [he, after0_2]
  refine (cast_eq _ _).trans ?_
  rw [hy]
  obtain ⟨g, j, rfl⟩ : ∃ (g : Fin 4) (j : Fin 512), n = col g j := ⟨⟨n.val / 512, by omega⟩, ⟨n.val % 512, by omega⟩, Fin.ext (by show n.val = n.val / 512 * 512 + n.val % 512; omega)⟩
  exact out_at m c r j t g

end Cert.WindowProof

end
-- ==== Proof.WindowRef.lean ====
/- What the reference of the window means' gradient computes, and that it is what the call computes. -/
module

public import proofs.«01_k».proof.Proof.WindowValue
public import proofs.«01_k».proof.Proof.RowNorm
public import proofs.«01_k».proof.Proof.Gen.WindowRefIdeal.Run

@[expose] public section

noncomputable section

namespace Cert.WindowProof

open WindowRefIdeal WindowRefIdeal.Gen RealOps Idealize.ShloMosaic TcCoe Idealize.SL.Sem

abbrev Group : Type := FVec Ideal S8192x512 .f32
abbrev Groups : Type := FVec Ideal S8192x4x512 .f32
abbrev Long (w : ℕ) : Shape := ⟨2, ![8192 + w, 512]⟩

def zeroC : FVec Ideal S_ .f32 := constant S_ .f32 0x00000000#32
def split (D : Wide) : Groups := shapeCast S8192x4x512 D shapeCasts_S8192x2048_S8192x4x512

/-- One group's columns, the counts of its windows, and the cotangent shared out. -/
def part (g : ℕ) (h : S8192x4x512.Slices ![0, g, 0] S8192x1x512) (x : Groups) : Group :=
  shapeCast S8192x512 (extractStridedSlice S8192x1x512 ![0, g, 0] x h) shapeCasts_S8192x1x512_S8192x512
def COUNT (w : BitVec 32) : Group := broadcastInDim S8192x512 ![0, 1] bcast_S8192x1_S8192x512_0_1 (broadcastInDim S8192x1 ![0] bcast_S8192_S8192x1_0
  (sitofp (F := Ideal) .f32 (minsi (addi (broadcastInDim S8192 ![] bcast_S_S8192 (constantI S_ 32 1#32)) (iotaInDim S8192 32 0)) (broadcastInDim S8192 ![] bcast_S_S8192 (constantI S_ 32 w)))))
def SHARE (w : BitVec 32) (x : Group) : Group := Host.divf x (COUNT w)

/-- The shares `w` rows below, with the sign turned, zero past the end; the running sum from a row on; a group put at its columns. -/
def FALL (w : ℕ) (hp : S8192x512.Pads (![0, 0] : Fin 2 → Nat) ![w, 0] ![0, 0] (Long w)) (hs : (Long w).Slices ![w, 0] S8192x512) (q : Group) : Group :=
  extractStridedSlice S8192x512 ![w, 0] (pad (Long w) ![0, 0] ![w, 0] ![0, 0] (Host.negf q) zeroC hp h_S_) hs
def RUN (x : Group) : Group := Host.reduceWindowAdd ![8192, 1] ![1, 1] ![0, 0] ![8191, 0] x (broadcastInDim S_ ![] bcast_S_S_ zeroC)
  reduceWindows_S8192x512_S8192x512_w8192s1p0_8191_w1s1p0_0 h_S_
def PLACE (g k : ℕ) (h : S8192x1x512.Pads (![0, g, 0] : Fin 3 → Nat) ![0, k, 0] ![0, 0, 0] S8192x4x512) (x : Group) : Groups :=
  pad S8192x4x512 ![0, g, 0] ![0, k, 0] ![0, 0, 0] (broadcastInDim S8192x1x512 ![0, 2] bcast_S8192x512_S8192x1x512_0_2 x) zeroC h h_S_

theorem split_at (D : Wide) (i : Fin 8192) (g : Fin 4) (j : Fin 512) : split D (ix3 i g j) = D (ix2 i (col g j)) := by
  pointwise [split]
  rfl

theorem part_at (g : Fin 4) (h : S8192x4x512.Slices ![0, g.val, 0] S8192x1x512) (x : Groups) (i : Fin 8192) (j : Fin 512) : part g.val h x (ix2 i j) = x (ix3 i g j) := by
  pointwise [part]

theorem COUNT_at (w : ℕ) (hw : w < 2 ^ 31) (i : Fin 8192) (j : Fin 512) : COUNT (BitVec.ofNat 32 w) (ix2 i j) = ((count w i.val : ℝ) : EReal) := by
  pointwise [COUNT]
  rw [show IntOp.addi 1#32 (BitVec.ofNat 32 i.val) = BitVec.ofNat 32 (i.val + 1) by
    apply BitVec.eq_of_toNat_eq
    show (1#32 + BitVec.ofNat 32 i.val).toNat = _
    simp only [BitVec.toNat_add, BitVec.toNat_ofNat]
    omega]
  show (((IntOp.minsi (BitVec.ofNat 32 (i.val + 1)) (BitVec.ofNat 32 w)).toInt : ℝ) : EReal) = _
  rw [count_word _ _ hw (by omega)]
  unfold count
  norm_cast

theorem zeroC_at : zeroC (Shape.Idx.first h_S_) = 0 := Ideal.ofBits_zero .f32

theorem FALL_at (w : ℕ) (hp) (hs) (q : Group) (i : Fin 8192) (j : Fin 512) : FALL w hp hs q (ix2 i j) = if h : i.val + w < 8192 then - q (ix2 ⟨i.val + w, h⟩ j) else 0 := by
  unfold FALL extractStridedSlice pad
  by_cases c : i.val + w < 8192
  · rw [dif_pos c]
    refine (dif_pos ?_).trans ?_
    · intro a
      match a with
      | ⟨0, _⟩ => exact ⟨Nat.zero_le _, Nat.mod_one _, by show (w + i.val - 0) / (0 + 1) < 8192; omega⟩
      | ⟨1, _⟩ => exact ⟨Nat.zero_le _, Nat.mod_one _, by show (0 + j.val - 0) / (0 + 1) < 512; omega⟩
    · refine congrArg (fun z => - q z) (funext fun a => ?_)
      match a with
      | ⟨0, _⟩ => exact Fin.ext (by show (w + i.val - 0) / (0 + 1) = i.val + w; omega)
      | ⟨1, _⟩ => exact Fin.ext (by show (0 + j.val - 0) / (0 + 1) = j.val; omega)
  · rw [dif_neg c]
    refine (dif_neg fun hh => ?_).trans zeroC_at
    have h2 : (w + i.val - 0) / (0 + 1) < 8192 := (hh 0).2.2
    omega

theorem PLACE_at (g k : ℕ) (h) (x : Group) (i : Fin 8192) (a : Fin 4) (j : Fin 512) : PLACE g k h x (ix3 i a j) = if a.val = g then x (ix2 i j) else 0 := by
  pointwise [PLACE]
  rw [zeroC_at]
  exact if_congr (by omega) rfl rfl

theorem RUN_at (x : Group) (f : ℕ → EReal) (j : Fin 512) (hf : ∀ n : Fin 8192, x (ix2 n j) = f n.val) (i : Fin 8192) :
    RUN x (ix2 i j) = ∑ w : Fin 8192, if i.val + w.val < 8192 then f (i.val + w.val) else 0 :=
  rows_sum (N := 8192) (B := 512) x f j hf _ _ _ (by exact Ideal.ofBits_zero .f32) i

/-- A group of the reference, before it is put at its columns. -/
def STEP (w : ℕ) (hp : S8192x512.Pads (![0, 0] : Fin 2 → Nat) ![w, 0] ![0, 0] (Long w)) (hs : (Long w).Slices ![w, 0] S8192x512) (x : Group) : Group := RUN (addf (SHARE (BitVec.ofNat 32 w) x) (FALL w hp hs (SHARE (BitVec.ofNat 32 w) x)))

/-- The shares as real numbers, zero below the last row. -/
def share (D : Wide) (l : Fin 2048) (w n : ℕ) : ℝ := (if h : n < 8192 then (D (ix2 ⟨n, h⟩ l)).toReal else 0) / count w n

theorem share_end (D : Wide) (l : Fin 2048) (w n : ℕ) (h : 8192 ≤ n) : share D l w n = 0 := by
  unfold share
  rw [dif_neg (by omega), zero_div]

theorem share_eq (D : Wide) (hd : ∀ y, D y = ((D y).toReal : ℝ)) (l : Fin 2048) (w n : ℕ) (h0 : 0 < w) : Ideal.div (tab D l n) (count w n : ℝ) = ((share D l w n : ℝ) : EReal) := by
  have e : tab D l n = (((if h : n < 8192 then (D (ix2 ⟨n, h⟩ l)).toReal else 0 : ℝ)) : EReal) := by
    unfold tab
    by_cases c : n < 8192
    · rw [dif_pos c, dif_pos c]; exact hd _
    · rw [dif_neg c, dif_neg c]; rfl
  rw [e, RowNorm.div_real _ _ (count_ne w n h0)]
  rfl

theorem STEP_at (w : ℕ) (hw : w < 2 ^ 31) (h0 : 0 < w) (hp) (hs) (D : Wide) (hd : ∀ y, D y = ((D y).toReal : ℝ)) (l : Fin 2048) (x : Group) (j : Fin 512)
    (hx : ∀ n : Fin 8192, x (ix2 n j) = D (ix2 n l)) (i : Fin 8192) :
    STEP w hp hs x (ix2 i j) = ∑ k ∈ Finset.range w, Ideal.div (tab D l (i.val + k)) (count w (i.val + k) : ℝ) := by
  have hq : ∀ n : Fin 8192, SHARE (BitVec.ofNat 32 w) x (ix2 n j) = ((share D l w n.val : ℝ) : EReal) := fun n => by
    rw [← share_eq D hd l w n.val h0]
    show Ideal.div (x (ix2 n j)) (COUNT (BitVec.ofNat 32 w) (ix2 n j)) = _
    rw [COUNT_at w hw, hx]
    unfold tab
    rw [dif_pos n.isLt]
  have hf : ∀ n : Fin 8192, addf (SHARE (BitVec.ofNat 32 w) x) (FALL w hp hs (SHARE (BitVec.ofNat 32 w) x)) (ix2 n j) = ((share D l w n.val - share D l w (n.val + w) : ℝ) : EReal) := fun n => by
    show SHARE (BitVec.ofNat 32 w) x (ix2 n j) + FALL w hp hs (SHARE (BitVec.ofNat 32 w) x) (ix2 n j) = _
    rw [FALL_at, hq]
    by_cases c : n.val + w < 8192
    · rw [dif_pos c, hq]; norm_cast
    · rw [dif_neg c, share_end D l w (n.val + w) (by omega), sub_zero, add_zero]
  unfold STEP
  rw [RUN_at _ (fun n => ((share D l w n - share D l w (n + w) : ℝ) : EReal)) j hf i]
  simp only [share_eq D hd l w _ h0]
  rw [coe_sum, ← telescope (fun k => share D l w (i.val + k)) w 8192 fun n hn => share_end D l w _ (by omega),
    ← Fin.sum_univ_eq_sum_range (fun k => share D l w (i.val + k) - share D l w (i.val + (k + w))) 8192, ← coe_sum]
  refine Finset.sum_congr rfl fun k _ => ?_
  by_cases c : i.val + k.val < 8192
  · rw [if_pos c, add_assoc]
  · rw [if_neg c, share_end D l w _ (by omega), share_end D l w _ (by omega), sub_zero]; rfl

/-- The reference's result. -/
def REF (D : Wide) : Wide := shapeCast S8192x2048 (addf (addf (addf (addf (Host.negf (split D))
    (PLACE 3 0 pads_S8192x1x512_S8192x4x512_000_300_000 (STEP 16 pads_S8192x512_S8208x512_0160_000 slices_S8208x512_S8192x512_16_0 (part 3 slices_S8192x4x512_S8192x1x512_0_3_0 (split D)))))
    (PLACE 2 1 pads_S8192x1x512_S8192x4x512_000_210_000 (STEP 8 pads_S8192x512_S8200x512_080_000 slices_S8200x512_S8192x512_8_0 (part 2 slices_S8192x4x512_S8192x1x512_0_2_0 (split D)))))
    (PLACE 1 2 pads_S8192x1x512_S8192x4x512_000_120_000 (STEP 4 pads_S8192x512_S8196x512_040_000 slices_S8196x512_S8192x512_4_0 (part 1 slices_S8192x4x512_S8192x1x512_0_1_0 (split D)))))
    (PLACE 0 3 pads_S8192x1x512_S8192x4x512_000_030_000 (STEP 2 pads_S8192x512_S8194x512_020_000 slices_S8194x512_S8192x512_2_0 (part 0 slices_S8192x4x512_S8192x1x512_0_0_0 (split D)))))
  shapeCasts_S8192x4x512_S8192x2048

theorem join_at (x : Groups) (i : Fin 8192) (g : Fin 4) (j : Fin 512) : shapeCast S8192x2048 x shapeCasts_S8192x4x512_S8192x2048 (ix2 i (col g j)) = x (ix3 i g j) := by
  unfold col
  pointwise []

theorem REF_eq (D : Wide) (hd : ∀ y, D y = ((D y).toReal : ℝ)) : REF D = outW D := by
  funext y
  obtain ⟨i, n, rfl⟩ : ∃ (i : Fin 8192) (n : Fin 2048), y = ix2 i n := ⟨y 0, y 1, funext fun k => by fin_cases k <;> rfl⟩
  obtain ⟨g, j, rfl⟩ : ∃ (g : Fin 4) (j : Fin 512), n = col g j := ⟨⟨n.val / 512, by omega⟩, ⟨n.val % 512, by omega⟩, Fin.ext (by show n.val = n.val / 512 * 512 + n.val % 512; omega)⟩
  have st : ∀ (w : ℕ) (hw : w < 2 ^ 31) (h0 : 0 < w) (hp) (hs) (h : S8192x4x512.Slices ![0, g.val, 0] S8192x1x512), STEP w hp hs (part g.val h (split D)) (ix2 i j)
      = ∑ k ∈ Finset.range w, Ideal.div (tab D (col g j) (i.val + k)) (count w (i.val + k) : ℝ) := fun w hw h0 hp hs h =>
    STEP_at w hw h0 hp hs D hd (col g j) _ j (fun n => (part_at g h _ n j).trans (split_at D n g j)) i
  unfold REF
  rw [join_at]
  show - split D (ix3 i g j) + PLACE 3 0 _ _ (ix3 i g j) + PLACE 2 1 _ _ (ix3 i g j) + PLACE 1 2 _ _ (ix3 i g j) + PLACE 0 3 _ _ (ix3 i g j) = outAt D i (col g j)
  simp only [PLACE_at]
  unfold outAt
  rw [split_at, width_col, sub_eq_add_neg, add_comm (∑ k ∈ _, _)]
  fin_cases g
  · refine Eq.trans ?_ (congrArg (_ + ·) (st 2 (by omega) (by omega) pads_S8192x512_S8194x512_020_000 slices_S8194x512_S8192x512_2_0 slices_S8192x4x512_S8192x1x512_0_0_0))
    simp
  · refine Eq.trans ?_ (congrArg (_ + ·) (st 4 (by omega) (by omega) pads_S8192x512_S8196x512_040_000 slices_S8196x512_S8192x512_4_0 slices_S8192x4x512_S8192x1x512_0_1_0))
    simp
  · refine Eq.trans ?_ (congrArg (_ + ·) (st 8 (by omega) (by omega) pads_S8192x512_S8200x512_080_000 slices_S8200x512_S8192x512_8_0 slices_S8192x4x512_S8192x1x512_0_2_0))
    simp
  · refine Eq.trans ?_ (congrArg (_ + ·) (st 16 (by omega) (by omega) pads_S8192x512_S8208x512_0160_000 slices_S8208x512_S8192x512_16_0 slices_S8192x4x512_S8192x1x512_0_3_0))
    simp

end Cert.WindowProof

end
-- ==== Proof.WindowClaims.lean ====
/- The claims about the call of the window means' gradient. -/
module
public import proofs.«01_k».proof.Defs
public import proofs.«01_k».proof.Proof.WindowRef
public import proofs.«01_k».proof.Proof.Finite
public import proofs.«01_k».proof.Proof.Gen.Pre_window_finite
public import proofs.«01_k».proof.Proof.Gen.Window.Frame

@[expose] public section
noncomputable section
namespace Cert.WindowProof
open Idealize.ShloMosaic Idealize.SL.Sem Cert.Finite

/-- The frame of the reference. -/
theorem ref_frame : quiescent_WindowRefIdeal := fun m ρ _ =>
  (θ_run WindowRefIdeal.defs _ _).mono (fun r h => ⟨fun c => (h c).2, sem_eq_zero_of_no_sems (by decide) r.2⟩)
    (WindowRefIdeal.Value.run (F := Ideal) m ρ)

/-- The call's result is the reference's, at a finite cotangent. -/
theorem algebraic : algebraic_WindowIdeal_WindowRefIdeal_pre_window_finite := fun m ρ m' ρ' hpre hag =>
  ⟨fun c => outW (argD m c),
   (θ_run WindowIdeal.defs _ _).mono (fun _ h c => ⟨(h c).1.trans (final2 m c), (h c).2⟩)
     (WindowIdeal.Value.run_blocks (F := Ideal) m ρ),
   (θ_run WindowRefIdeal.defs _ _).mono (fun _ h c => by
       obtain ⟨e0, e1⟩ := hag c
       have h1 := congrFun (hpre c) default
       unfold Pre_window_finite.fn at h1
       refine ⟨(h c).1.trans ?_, (h c).2⟩
       unfold WindowRefIdeal.Value.res_main_v130
       rw [e1]
       exact REF_eq (argD m c) (real_of_all _ _ _ _ _ _ h1))
     (WindowRefIdeal.Value.run (F := Ideal) m' ρ')⟩
-- ==== Proof.AttnStep.lean ====
module

public import proofs.«01_k».proof.Proof.Gen.AttnIdeal.Skeleton
public import Idealize.ShloMosaic.Lib.Tactic
public import Idealize.ShloMosaic.Lib.VecWindow

/-! One head of the attention backward pass as a function of the arrays it reads: what a block of
keys does to the running values, what a block of 512 queries does, what the whole head leaves. -/

@[expose] public section

set_option maxRecDepth 8192

noncomputable section

namespace Cert.AttnProof

open Idealize.ShloMosaic TcCoe
open AttnIdeal AttnIdeal.Gen

variable {F : FTy → Type} [FloatOps F] [Named F]

/-- The row `n` and column `j` of an array of 8192 rows (rows counted modulo 8192). -/
abbrev rc (n : ℕ) (j : Fin 128) : S8192x128.Idx := fun a => match a with
  | 0 => Fin.ofNat 8192 n
  | 1 => j

/-- The 256 rows from row `o` on. -/
def rows256 {α : Type} (X : S8192x128.Idx → α) (o : ℕ) : S256x128.Idx → α := fun y => X (rc (o + (y 0).val) (y 1))

/-- The 512 rows from row `o` on. -/
def rows512 {α : Type} (X : S8192x128.Idx → α) (o : ℕ) : S512x128.Idx → α := fun y => X (rc (o + (y 0).val) (y 1))

theorem window_rows256 {α : Type} (X : S8192x128.Idx → α) (o : ℕ) (inb : ∀ a, (![o, 0] : Fin 2 → ℕ) a + S256x128.size a ≤ S8192x128.size a) :
    VecWindow.window X ![o, 0] S256x128.size inb = rows256 X o := by
  have h0 : o + 256 ≤ 8192 := inb 0
  funext y
  refine congrArg X (funext fun a => Fin.ext ?_)
  have hy : (y 0).val < 256 := (y 0).isLt
  match a with
  | 0 => exact (congrArg (o + ·) (Nat.one_mul _)).trans (Nat.mod_eq_of_lt (by omega : o + (y 0).val < 8192)).symm
  | 1 => exact (Nat.zero_add _).trans (Nat.one_mul _)

theorem window_rows512 {α : Type} (X : S8192x128.Idx → α) (o : ℕ) (inb : ∀ a, (![o, 0] : Fin 2 → ℕ) a + S512x128.size a ≤ S8192x128.size a) :
    VecWindow.window X ![o, 0] S512x128.size inb = rows512 X o := by
  have h0 : o + 512 ≤ 8192 := inb 0
  funext y
  refine congrArg X (funext fun a => Fin.ext ?_)
  have hy : (y 0).val < 512 := (y 0).isLt
  match a with
  | 0 => exact (congrArg (o + ·) (Nat.one_mul _)).trans (Nat.mod_eq_of_lt (by omega : o + (y 0).val < 8192)).symm
  | 1 => exact (Nat.zero_add _).trans (Nat.one_mul _)

/-- A load of 256 rows. -/
theorem load256 {sg : RefSig} {κ : Kind} {sp : Space} {e : EltTy} (v : View sg κ sp S8192x128 e) (f : v.ty.Contents (Elt F)) {off : Fin 2 → ℕ}
    (inb : ∀ a, off a + S256x128.size a ≤ S8192x128.size a) (o : ℕ) (h : off = ![o, 0]) :
    v.readAt (Elt F) (Rect.unit (s := S8192x128) off S256x128.size inb).toLoadRect f = rows256 (v.read (Elt F) f) o := by
  subst h
  exact (v.readAt_unit f inb rfl inb).trans (window_rows256 _ o inb)

/-- A load of 512 rows. -/
theorem load512 {sg : RefSig} {κ : Kind} {sp : Space} {e : EltTy} (v : View sg κ sp S8192x128 e) (f : v.ty.Contents (Elt F)) {off : Fin 2 → ℕ}
    (inb : ∀ a, off a + S512x128.size a ≤ S8192x128.size a) (o : ℕ) (h : off = ![o, 0]) :
    v.readAt (Elt F) (Rect.unit (s := S8192x128) off S512x128.size inb).toLoadRect f = rows512 (v.read (Elt F) f) o := by
  subst h
  exact (v.readAt_unit f inb rfl inb).trans (window_rows512 _ o inb)

/-- What a block of queries carries from one block of keys to the next: the sums over the keys
passed of `log σ(−z)` and of `g`, the gradient of the queries so far, and for the block of keys at
hand the products `⟨q, k⟩` and `⟨do, v⟩`. -/
abbrev Carry (F : FTy → Type) : Type :=
  FVec F S512x1 .f32 × FVec F S512x1 .f32 × FVec F S512x128 .f32 × FVec F S512x256 .f32 × FVec F S512x256 .f32

/-- The carried values and the sums of the gradients of keys and values. -/
abbrev St (F : FTy → Type) : Type := Carry F × FVec F S8192x128 .f32 × FVec F S8192x128 .f32

/-- The constant one of the kernel. -/
abbrev one : F .f32 := Scalar.ofBits .f32 0x3F800000#32

section Step
variable (Q DO : FVec F S512x128 .bf16) (T : FVec F S512x128 .f32) (K V : FVec F S8192x128 .bf16)

/-- Before the first block of keys. -/
def start (DK DV : FVec F S8192x128 .f32) : St F :=
  ((k0_pay32, k0_pay32, k0_pay33, k0_pay34 Q (rows256 K 0), k0_pay35 DO (rows256 V 0)), DK, DV)

/-- The block `n` of keys, all of them before the queries. -/
def inner (n : ℕ) (s : St F) : St F :=
  ((k0_pay40 s.1.1 (k0_pay15 s.1.2.2.2.1),
    k0_pay41 s.1.2.1 (k0_pay17 k0_pay1 (k0_pay31 T) s.1.1 s.1.2.2.2.1 s.1.2.2.2.2),
    k0_pay37 s.1.2.2.1 (k0_pay17 k0_pay1 (k0_pay31 T) s.1.1 s.1.2.2.2.1 s.1.2.2.2.2)
      (k0_pay18 k0_pay1 k0_pay2 (k0_pay31 T) s.1.1 s.1.2.1 s.1.2.2.2.1 s.1.2.2.2.2) (k0_pay19 s.1.2.2.2.1) one (rows256 K (256 * n)),
    k0_pay11 (k0_pay29 Q) (rows256 K (256 * (n + 1))), k0_pay12 (k0_pay30 DO) (rows256 V (256 * (n + 1)))),
   VecWindow.put s.2.1 ![256 * n, 0] S256x128.size
     (k0_pay38 Q (k0_pay17 k0_pay1 (k0_pay31 T) s.1.1 s.1.2.2.2.1 s.1.2.2.2.2)
      (k0_pay18 k0_pay1 k0_pay2 (k0_pay31 T) s.1.1 s.1.2.1 s.1.2.2.2.1 s.1.2.2.2.2) (k0_pay19 s.1.2.2.2.1) one (rows256 s.2.1 (256 * n))),
   VecWindow.put s.2.2 ![256 * n, 0] S256x128.size
     (k0_pay39 DO (k0_pay16 k0_pay1 (k0_pay31 T) s.1.1 s.1.2.2.2.1) (rows256 s.2.2 (256 * n))))

/-- After `n` blocks of keys. -/
def inners (s : St F) : ℕ → St F
  | 0 => s
  | n + 1 => inner Q DO T K V n (inners s n)

/-- The first row of the `t`-th block of queries, and twice its number, as the kernel counts them. -/
abbrev row0 (t : ℕ) : BitVec 32 := Scalar.muli (Scf.iv 0#32 1#32 t) 512#32
abbrev two (t : ℕ) : BitVec 32 := Scalar.muli (Scf.iv 0#32 1#32 t) 2#32
abbrev next (t : ℕ) : BitVec 32 := Scalar.addi (two t) 1#32
/-- The scale of the products, as the kernel spells it. -/
abbrev sc : F .f32 := Scalar.ofBits .f32 0x3DB504F3#32

/-- The two blocks of keys of a block of queries' own: from the blocks of keys and values it reads
(the second block of keys is read twice: `k1` and `k1'`) and the blocks of the two sums, the gradient
of the queries and the new blocks of the two sums. -/
def ownBlock (t : ℕ) (x : Carry F) (k0 k1 k1' v1 : FVec F S256x128 .bf16) (dk0 dk1 dv0 dv1 : FVec F S256x128 .f32) :
    FVec F S512x128 .bf16 × FVec F S256x128 .f32 × FVec F S256x128 .f32 × FVec F S256x128 .f32 × FVec F S256x128 .f32 :=
  let q := k0_pay29 Q
  let o := k0_pay30 DO
  let l := k0_pay31 T
  let z := k0_pay48 q k1
  let da := k0_pay49 o v1
  let lb := k0_pay53 (row0 t) (two t) x.2.2.2.1
  let l1 := k0_pay54 (row0 t) (two t) x.2.2.2.1
  let a := k0_pay55 k0_pay1 (row0 t) l (two t) x.1 x.2.2.2.1
  let dq := k0_pay58 k0_pay2 x.2.1 x.2.2.1 x.2.2.2.2 lb a k0
  let ls := k0_pay61 x.1 l1
  let gs := k0_pay62 x.2.1 x.2.2.2.2 a
  let a' := k0_pay67 k0_pay1 (row0 t) l z ls (next t) 256#32
  let dz' := k0_pay68 k0_pay1 k0_pay2 (row0 t) l z da ls gs (next t) 256#32
  (k0_pay8 dq dz' sc k1', k0_pay59 k0_pay2 q x.2.1 x.2.2.2.2 lb a dk0, k0_pay6 q dz' sc dk1, k0_pay60 o a dv0, k0_pay7 o a' dv1)

/-- The blocks of keys of a block of queries' own, out of the whole arrays. -/
def ownAt (t : ℕ) (s : St F) : FVec F S512x128 .bf16 × FVec F S256x128 .f32 × FVec F S256x128 .f32 × FVec F S256x128 .f32 × FVec F S256x128 .f32 :=
  ownBlock Q DO T t s.1 (rows256 K (512 * t)) (rows256 K (512 * t + 256)) (rows256 K (512 * t + 256)) (rows256 V (512 * t + 256))
    (rows256 s.2.1 (512 * t)) (rows256 s.2.1 (512 * t + 256)) (rows256 s.2.2 (512 * t)) (rows256 s.2.2 (512 * t + 256))

/-- The block of queries `t` from the state `s` left by the blocks of keys before it: the gradient of
its queries and the two sums after its own two blocks of keys. -/
def own (t : ℕ) (s : St F) : FVec F S512x128 .bf16 × FVec F S8192x128 .f32 × FVec F S8192x128 .f32 :=
  ((ownAt Q DO T K V t s).1,
   VecWindow.put (VecWindow.put s.2.1 ![512 * t, 0] S256x128.size (ownAt Q DO T K V t s).2.1) ![512 * t + 256, 0] S256x128.size (ownAt Q DO T K V t s).2.2.1,
   VecWindow.put (VecWindow.put s.2.2 ![512 * t, 0] S256x128.size (ownAt Q DO T K V t s).2.2.2.1) ![512 * t + 256, 0] S256x128.size
    (ownAt Q DO T K V t s).2.2.2.2)

end Step

section Head
variable (Q K V : FVec F S8192x128 .bf16) (T : FVec F S8192x128 .f32) (DO : FVec F S8192x128 .bf16)

/-- The block of queries `t` from the two sums before it. -/
def outer (t : ℕ) (d : FVec F S8192x128 .f32 × FVec F S8192x128 .f32) : FVec F S512x128 .bf16 × FVec F S8192x128 .f32 × FVec F S8192x128 .f32 :=
  own (rows512 Q (512 * t)) (rows512 DO (512 * t)) (rows512 T (512 * t)) K V t
    (inners (rows512 Q (512 * t)) (rows512 DO (512 * t)) (rows512 T (512 * t)) K V
      (start (rows512 Q (512 * t)) (rows512 DO (512 * t)) K V d.1 d.2) (2 * t))

/-- The two sums before the block of queries `t`. -/
def sums : ℕ → FVec F S8192x128 .f32 × FVec F S8192x128 .f32
  | 0 => (k0_pay3, k0_pay4)
  | t + 1 => (outer Q K V T DO t (sums t)).2

/-- The gradients of one head's queries, keys and values. -/
def headDQ : FVec F S8192x128 .bf16 := fun y =>
  (outer Q K V T DO ((y 0).val / 512) (sums Q K V T DO ((y 0).val / 512))).1
    (fun a => match a with | 0 => Fin.ofNat 512 (y 0).val | 1 => y 1)
def headDK : FVec F S8192x128 .bf16 := k0_pay9 (sums Q K V T DO 16).1
def headDV : FVec F S8192x128 .bf16 := k0_pay10 (sums Q K V T DO 16).2

end Head

theorem off9a : ∀ (t : Fin k0_t1_loop.trips), k0_off9 t 0#32 = ![512 * t.val, 0] := by decide +kernel
theorem off9b : ∀ (t : Fin k0_t1_loop.trips), k0_off9 t 1#32 = ![512 * t.val + 256, 0] := by decide +kernel
theorem off3 : k0_off3 0#32 = ![0, 0] := by decide +kernel
theorem off4 : ∀ (t : Fin k0_t1_loop.trips) (k : Fin (k0_t2_loop t 0#32).trips), k0_off4 t 0#32 k = ![256 * (k.val + 1), 0] := by decide +kernel
theorem off5 : ∀ (t : Fin k0_t1_loop.trips) (k : Fin (k0_t2_loop t 0#32).trips), k0_off5 t 0#32 k = ![256 * k.val, 0] := by decide +kernel
theorem trips2 : ∀ (t : Fin k0_t1_loop.trips), (k0_t2_loop t 0#32).trips = 2 * t.val := by decide +kernel
theorem trips3 : ∀ (t : Fin k0_t1_loop.trips), (k0_t3_loop t 0#32).trips = 0 := by decide +kernel
theorem chk1 : ∀ (t : Fin k0_t1_loop.trips), k0_chk1 t 0#32 := by
  set_option synthInstance.maxSize 1000000 in set_option synthInstance.maxHeartbeats 0 in
  decide +kernel

end Cert.AttnProof

end
-- ==== Proof.AttnInner.lean ====
module

public import proofs.«01_k».proof.Proof.AttnStep

/-! The loop over the blocks of keys that lie before a block of queries, run by the model of
`AttnStep`. -/

@[expose] public section

set_option maxRecDepth 8192
set_option maxHeartbeats 4000000

noncomputable section

namespace Cert.AttnProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open AttnIdeal AttnIdeal.Gen

variable {F : FTy → Type} [FloatOps F] [Named F]

local notation "𝕄G" => MT nD τ sig Unit (Elt F) ℕ (UR sig nD τ) ℕ

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .smem S16x16 .i32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .bf16) (harg9 : arg9.IsWhole) (arg10 : Memref sig .tc .vmem S8192x128 .f32) (harg10 : arg10.IsWhole)
  (arg11 : Memref sig .tc .vmem S8192x128 .f32) (harg11 : arg11.IsWhole)

/-- What the loop reads (keys and values) at its contents, and the two sums at contents read as `s`. -/
abbrev Held (f2 : BufTy.Contents (Elt F) arg2.view.ty) (f3 : BufTy.Contents (Elt F) arg3.view.ty) (s : St F) (acc : Carry F) : sProp 𝕄G :=
  iprop((arg2.view.loc (c : Thread nD τ) ↦[arg2.view.set]{fullShare} f2) ∗ (arg3.view.loc (c : Thread nD τ) ↦[arg3.view.set]{fullShare} f3) ∗
    (∃ f, ⌜arg10.view.read (Elt F) f = s.2.1⌝ ∗ (arg10.view.loc (c : Thread nD τ) ↦[arg10.view.set]{fullShare} f)) ∗
    (∃ f, ⌜arg11.view.read (Elt F) f = s.2.2⌝ ∗ (arg11.view.loc (c : Thread nD τ) ↦[arg11.view.set]{fullShare} f)) ∗ ⌜acc = s.1⌝)

theorem inner_run (a0 b0 b1 : BitVec 32) (t : Fin k0_t1_loop.trips)
    (Q DO : Vec F S512x128 .bf16) (T : Vec F S512x128 .f32) (hw : k0_chk1 t 0#32) (k : Fin (k0_t2_loop t 0#32).trips)
    (f2 : BufTy.Contents (Elt F) arg2.view.ty) (f3 : BufTy.Contents (Elt F) arg3.view.ty) (s : St F) (acc : Carry F) :
    Held c arg2 arg3 arg10 arg11 f2 f3 s acc ⊢
      wp frame (wpE (defs₀ (F := F)) Variants.none (c : Thread nD τ) none) Set.univ
        (k0_t2_body (F := F) i arg1 harg1 arg2 harg2 arg3 harg3 arg4 harg4 arg5 harg5 arg6 harg6 arg7 harg7 arg8 harg8 arg9 harg9 arg10 harg10 arg11 harg11
          a0 k0_pay1 k0_pay2 b0 b1 t Q DO T 0#32 hw k acc)
        (Held c arg2 arg3 arg10 arg11 f2 f3 (inner Q DO T (arg2.view.read (Elt F) f2) (arg3.view.read (Elt F) f3) k.val s)) := by
  unfold k0_t2_body
  iintro ⟨H2, H3, ⟨%f10, %h10, H10⟩, ⟨%f11, %h11, H11⟩, %hacc⟩
  subst hacc
  sl_exec
  sl_step
  isplitl [H2]; · iexact H2
  isplitl [H3]; · iexact H3
  isplitl [H10]
  · iexists _
    isplitr; swap; · iexact H10
    ipureintro
    rw [View.read_writes_cons_put _ _ _ _ _ (off5 t k), View.writes_nil, load256 _ _ _ _ (off5 t k), h10]
    rfl
  isplitl [H11]
  · iexists _
    isplitr; swap; · iexact H11
    ipureintro
    rw [View.read_writes_cons_put _ _ _ _ _ (off5 t k), View.writes_nil, load256 _ _ _ _ (off5 t k), h11]
    rfl
  ipureintro
  rw [load256 _ _ _ _ (off5 t k)]
  unfold inner_run.sl.v239 inner_run.sl.v243 inner_run.sl.v238 inner_run.sl.v242
  rw [load256 _ _ _ _ (off4 t k), load256 _ _ _ _ (off4 t k)]
  rfl

/-- The whole loop, from the start values `s`. -/
theorem inners_run (a0 b0 b1 : BitVec 32) (t : Fin k0_t1_loop.trips)
    (Q DO : Vec F S512x128 .bf16) (T : Vec F S512x128 .f32) (hw : k0_chk1 t 0#32)
    (f2 : BufTy.Contents (Elt F) arg2.view.ty) (f3 : BufTy.Contents (Elt F) arg3.view.ty) (s : St F) :
    Held c arg2 arg3 arg10 arg11 f2 f3 s s.1 ⊢
      wp frame (wpE (defs₀ (F := F)) Variants.none (c : Thread nD τ) none) Set.univ
        (Scf.Loop.for (k0_t2_loop t 0#32) (k0_t2_ok t 0#32 hw) s.1
          (k0_t2_body (F := F) i arg1 harg1 arg2 harg2 arg3 harg3 arg4 harg4 arg5 harg5 arg6 harg6 arg7 harg7 arg8 harg8 arg9 harg9 arg10 harg10 arg11 harg11
            a0 k0_pay1 k0_pay2 b0 b1 t Q DO T 0#32 hw))
        (Held c arg2 arg3 arg10 arg11 f2 f3 (inners Q DO T (arg2.view.read (Elt F) f2) (arg3.view.read (Elt F) f3) s (2 * t.val))) := by
  iintro H
  iapply (Scf.wp_for frame (wpE (defs₀ (F := F)) Variants.none (c : Thread nD τ) none) Set.univ _ _ _ (k0_t2_ok t 0#32 hw) s.1 _
    (fun n acc => Held c arg2 arg3 arg10 arg11 f2 f3 (inners Q DO T (arg2.view.read (Elt F) f2) (arg3.view.read (Elt F) f3) s n) acc)
    (fun k acc => inner_run c i arg1 harg1 arg2 harg2 arg3 harg3 arg4 harg4 arg5 harg5 arg6 harg6 arg7 harg7 arg8 harg8 arg9 harg9 arg10 harg10 arg11 harg11
      a0 b0 b1 t Q DO T hw k f2 f3 _ acc))
  isplitl [H]; · iexact H
  iintro %acc H
  rw [show Scf.trips (k0_t2_loop t 0#32).lb (k0_t2_loop t 0#32).ub (k0_t2_loop t 0#32).st = 2 * t.val from trips2 t]
  iexact H

end Cert.AttnProof

end
-- ==== Proof.AttnOuter.lean ====
module

public import proofs.«01_k».proof.Proof.AttnInner

/-! One block of queries, and the loop over them, run by the model of `AttnStep`. -/

@[expose] public section

set_option maxRecDepth 8192
set_option maxHeartbeats 4000000

universe v

noncomputable section

namespace Cert.AttnProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open AttnIdeal AttnIdeal.Gen

variable {F : FTy → Type} [FloatOps F] [Named F]

local notation "𝕄G" => MT nD τ sig Unit (Elt F) ℕ (UR sig nD τ) ℕ

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .smem S16x16 .i32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .bf16) (harg9 : arg9.IsWhole) (arg10 : Memref sig .tc .vmem S8192x128 .f32) (harg10 : arg10.IsWhole)
  (arg11 : Memref sig .tc .vmem S8192x128 .f32) (harg11 : arg11.IsWhole)

/-- What a block of queries reads at its contents (`word` says that the table of first blocks is
zero everywhere), the gradient of the queries at contents that agree with `headDQ` on the blocks
passed, and the two sums. -/
abbrev Whole (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (R : (S8192x128.Idx → Elt F .bf16) → Prop) (d : FVec F S8192x128 .f32 × FVec F S8192x128 .f32) : sProp 𝕄G :=
  iprop((arg1.view.loc (c : Thread nD τ) ↦[arg1.view.set]{fullShare} f1) ∗ (arg2.view.loc (c : Thread nD τ) ↦[arg2.view.set]{fullShare} f2) ∗
    (arg3.view.loc (c : Thread nD τ) ↦[arg3.view.set]{fullShare} f3) ∗ (arg4.view.loc (c : Thread nD τ) ↦[arg4.view.set]{fullShare} f4) ∗
    (arg5.view.loc (c : Thread nD τ) ↦[arg5.view.set]{fullShare} f5) ∗ (arg6.view.loc (c : Thread nD τ) ↦[arg6.view.set]{fullShare} f6) ∗
    (∃ f, ⌜R (arg7.view.read (Elt F) f)⌝ ∗ (arg7.view.loc (c : Thread nD τ) ↦[arg7.view.set]{fullShare} f)) ∗
    (∃ f, ⌜arg10.view.read (Elt F) f = d.1⌝ ∗ (arg10.view.loc (c : Thread nD τ) ↦[arg10.view.set]{fullShare} f)) ∗
    (∃ f, ⌜arg11.view.read (Elt F) f = d.2⌝ ∗ (arg11.view.loc (c : Thread nD τ) ↦[arg11.view.set]{fullShare} f)))

/-- The second loop over blocks of keys runs for a table of first blocks that is not zero: here it
has no trip. -/
theorem for3_eq {E : Type → Type v} {σ : Type} (t : Fin k0_t1_loop.trips) (ok : (k0_t3_loop t 0#32).OK) (init : σ)
    (body : Fin (k0_t3_loop t 0#32).trips → σ → Prog E σ) : (k0_t3_loop t 0#32).for ok init body = .ret init := by
  unfold Scf.Loop.for
  rw [Scf.for_eq]
  have h : List.finRange (Scf.trips (k0_t3_loop t 0#32).lb (k0_t3_loop t 0#32).ub (k0_t3_loop t 0#32).st) = [] :=
    List.length_eq_zero_iff.mp (by rw [List.length_finRange]; exact trips3 t)
  rw [h]
  rfl

theorem outer_run (a0 : BitVec 32) (t : Fin k0_t1_loop.trips)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (h5 : arg5.view.read (Elt F) f5 = fun _ => 0#32)
    (R R' : (S8192x128.Idx → Elt F .bf16) → Prop) (d : FVec F S8192x128 .f32 × FVec F S8192x128 .f32) (acc : Unit)
    (hR : ∀ x, R x → R' (VecWindow.put x ![512 * t.val, 0] S512x128.size
      (outer (arg1.view.read (Elt F) f1) (arg2.view.read (Elt F) f2) (arg3.view.read (Elt F) f3) (arg4.view.read (Elt F) f4) (arg6.view.read (Elt F) f6) t.val d).1)) :
    Whole c arg1 arg2 arg3 arg4 arg5 arg6 arg7 arg10 arg11 f1 f2 f3 f4 f5 f6 R d ⊢
      wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 a0 t acc)
        (fun _ => Whole c arg1 arg2 arg3 arg4 arg5 arg6 arg7 arg10 arg11 f1 f2 f3 f4 f5 f6 R'
          (outer (arg1.view.read (Elt F) f1) (arg2.view.read (Elt F) f2) (arg3.view.read (Elt F) f3) (arg4.view.read (Elt F) f4) (arg6.view.read (Elt F) f6) t.val d).2) := by
  unfold k0_t1_body
  simp only [k0_part3_eq_skeleton]
  unfold k0_part3_skel
  iintro ⟨H1, H2, H3, H4, H5, H6, ⟨%f7, %h7, H7⟩, ⟨%f10, %h10, H10⟩, ⟨%f11, %h11, H11⟩⟩
  sl_exec
  have hr : outer_run.sl.r i arg5 t f5 = 0#32 := by
    unfold outer_run.sl.r
    exact congrFun h5 _
  generalize outer_run.sl.r i arg5 t f5 = w at hr ⊢
  have hw : k0_chk1 t w := hr ▸ chk1 t
  sl_exec
  subst hr
  rw [wp_bind, wp_bind]
  iapply (wp_wand_r frame (wpE (defs₀ (F := F)) Variants.none (c : Thread nD τ) none) Set.univ)
  isplitl [H2 H3 H10 H11]
  · iapply (inners_run c i arg1 harg1 arg2 harg2 arg3 harg3 arg4 harg4 arg5 harg5 arg6 harg6 arg7 harg7 arg8 harg8 arg9 harg9 arg10 harg10 arg11 harg11
      a0 0#32 1#32 t _ _ _ hw f2 f3 ((_, _, _, _, _), d.1, d.2))
    isplitl [H2]; · iexact H2
    isplitl [H3]; · iexact H3
    isplitl [H10]
    · iexists f10
      isplitr; · ipureintro; exact h10
      iexact H10
    isplitl [H11]
    · iexists f11
      isplitr; · ipureintro; exact h11
      iexact H11
    ipureintro; rfl
  iintro %acc ⟨H2, H3, ⟨%g10, %k10, H10⟩, ⟨%g11, %k11, H11⟩, %hacc⟩
  subst hacc
  generalize hs : (inners _ _ _ _ _ _ _ : St F) = s at k10 k11 ⊢
  obtain ⟨⟨x0, x1, x2, x3, x4⟩, s1, s2⟩ := s
  dsimp only at k10 k11 ⊢
  rw [for3_eq, ← wp_bind]
  sl_exec
  sl_step
  have ho : outer (arg1.view.read (Elt F) f1) (arg2.view.read (Elt F) f2) (arg3.view.read (Elt F) f3) (arg4.view.read (Elt F) f4) (arg6.view.read (Elt F) f6) t.val d
      = own (arg1.view.readAt (Elt F) (Rect.unit (s := S8192x128) (k0_off1 t) S512x128.size (k0_off1_inb t)).toLoadRect f1)
        (arg6.view.readAt (Elt F) (Rect.unit (s := S8192x128) (k0_off1 t) S512x128.size (k0_off1_inb t)).toLoadRect f6)
        (arg4.view.readAt (Elt F) (Rect.unit (s := S8192x128) (k0_off1 t) S512x128.size (k0_off1_inb t)).toLoadRect f4)
        (arg2.view.read (Elt F) f2) (arg3.view.read (Elt F) f3) t.val ((x0, x1, x2, x3, x4), s1, s2) := by
    unfold outer start
    rw [← hs, load512 _ _ _ _ (k0_off1_eq t), load512 _ _ _ _ (k0_off1_eq t), load512 _ _ _ _ (k0_off1_eq t),
      load256 _ _ _ _ off3, load256 _ _ _ _ off3]
  rw [ho] at hR
  rw [ho]
  have hb : ownAt (arg1.view.readAt (Elt F) (Rect.unit (s := S8192x128) (k0_off1 t) S512x128.size (k0_off1_inb t)).toLoadRect f1)
        (arg6.view.readAt (Elt F) (Rect.unit (s := S8192x128) (k0_off1 t) S512x128.size (k0_off1_inb t)).toLoadRect f6)
        (arg4.view.readAt (Elt F) (Rect.unit (s := S8192x128) (k0_off1 t) S512x128.size (k0_off1_inb t)).toLoadRect f4)
        (arg2.view.read (Elt F) f2) (arg3.view.read (Elt F) f3) t.val ((x0, x1, x2, x3, x4), s1, s2)
      = ownBlock (arg1.view.readAt (Elt F) (Rect.unit (s := S8192x128) (k0_off1 t) S512x128.size (k0_off1_inb t)).toLoadRect f1)
        (arg6.view.readAt (Elt F) (Rect.unit (s := S8192x128) (k0_off1 t) S512x128.size (k0_off1_inb t)).toLoadRect f6)
        (arg4.view.readAt (Elt F) (Rect.unit (s := S8192x128) (k0_off1 t) S512x128.size (k0_off1_inb t)).toLoadRect f4) t.val (x0, x1, x2, x3, x4)
        (arg2.view.readAt (Elt F) (Rect.unit (s := S8192x128) (k0_off9 t 0#32) S256x128.size (k0_off9_inb t 0)).toLoadRect f2)
        (arg2.view.readAt (Elt F) (Rect.unit (s := S8192x128) (k0_off8 t) S256x128.size (k0_off8_inb t)).toLoadRect f2)
        (arg2.view.readAt (Elt F) (Rect.unit (s := S8192x128) (k0_off9 t 1#32) S256x128.size (k0_off9_inb t 1)).toLoadRect f2)
        (arg3.view.readAt (Elt F) (Rect.unit (s := S8192x128) (k0_off8 t) S256x128.size (k0_off8_inb t)).toLoadRect f3)
        (arg10.view.readAt (Elt F) (Rect.unit (s := S8192x128) (k0_off9 t 0#32) S256x128.size (k0_off9_inb t 0)).toLoadRect g10)
        (arg10.view.readAt (Elt F) (Rect.unit (s := S8192x128) (k0_off9 t 1#32) S256x128.size (k0_off9_inb t 1)).toLoadRect g10)
        (arg11.view.readAt (Elt F) (Rect.unit (s := S8192x128) (k0_off9 t 0#32) S256x128.size (k0_off9_inb t 0)).toLoadRect g11)
        (arg11.view.readAt (Elt F) (Rect.unit (s := S8192x128) (k0_off9 t 1#32) S256x128.size (k0_off9_inb t 1)).toLoadRect g11) := by
    unfold ownAt
    rw [load256 _ _ _ _ (k0_off8_eq t), load256 _ _ _ _ (k0_off8_eq t), load256 _ _ _ _ (off9a t), load256 _ _ _ _ (off9a t), load256 _ _ _ _ (off9a t),
      load256 _ _ _ _ (off9b t), load256 _ _ _ _ (off9b t), load256 _ _ _ _ (off9b t), k10, k11]
  unfold own at hR ⊢
  rw [hb] at hR ⊢
  unfold ownBlock at hR ⊢
  dsimp only at hR ⊢
  isplitl [H1]; · iexact H1
  isplitl [H2]; · iexact H2
  isplitl [H3]; · iexact H3
  isplitl [H4]; · iexact H4
  isplitl [H5]; · iexact H5
  isplitl [H6]; · iexact H6
  isplitl [H7]
  · iexists _
    isplitr; swap; · iexact H7
    ipureintro
    rw [View.read_writes_cons_put _ _ _ _ _ (k0_off10_eq t), View.writes_nil]
    exact hR _ h7
  isplitl [H10]
  · iexists _
    isplitr; swap; · iexact H10
    ipureintro
    rw [View.read_writes_cons_put _ _ _ _ _ (off9b t), View.read_writes_cons_put _ _ _ _ _ (off9a t), View.writes_nil, k10]
    rfl
  · iexists _
    isplitr; swap; · iexact H11
    ipureintro
    rw [View.read_writes_cons_put _ _ _ _ _ (off9b t), View.read_writes_cons_put _ _ _ _ _ (off9a t), View.writes_nil, k11]
    rfl

end Cert.AttnProof

end
-- ==== Proof.AttnHead.lean ====
module

public import proofs.«01_k».proof.Proof.AttnOuter

/-! One head: the body of the kernel leaves the three gradients of the model. -/

@[expose] public section

set_option maxRecDepth 8192
set_option maxHeartbeats 4000000

noncomputable section

namespace Cert.AttnProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open AttnIdeal AttnIdeal.Gen

variable {F : FTy → Type} [FloatOps F] [Named F]

local notation "𝕄G" => MT nD τ sig Unit (Elt F) ℕ (UR sig nD τ) ℕ

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .smem S16x16 .i32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .bf16) (harg9 : arg9.IsWhole) (arg10 : Memref sig .tc .vmem S8192x128 .f32) (harg10 : arg10.IsWhole)
  (arg11 : Memref sig .tc .vmem S8192x128 .f32) (harg11 : arg11.IsWhole)

/-- The blocks of queries before block `n` hold their gradients. -/
def Upto (Q K V : FVec F S8192x128 .bf16) (T : FVec F S8192x128 .f32) (DO : FVec F S8192x128 .bf16) (n : ℕ) (x : S8192x128.Idx → Elt F .bf16) : Prop :=
  ∀ y : S8192x128.Idx, (y 0).val < 512 * n → x y = headDQ Q K V T DO y

theorem upto_zero (Q K V : FVec F S8192x128 .bf16) (T : FVec F S8192x128 .f32) (DO : FVec F S8192x128 .bf16) (x : S8192x128.Idx → Elt F .bf16) :
    Upto Q K V T DO 0 x := fun _ h => absurd h (Nat.not_lt_zero _)

theorem upto_step (Q K V : FVec F S8192x128 .bf16) (T : FVec F S8192x128 .f32) (DO : FVec F S8192x128 .bf16) (n : ℕ) (x : S8192x128.Idx → Elt F .bf16)
    (h : Upto Q K V T DO n x) :
    Upto Q K V T DO (n + 1) (VecWindow.put x ![512 * n, 0] S512x128.size (outer Q K V T DO n (sums Q K V T DO n)).1) := by
  intro y hy
  unfold VecWindow.put
  split_ifs with hw
  · have h0 : 512 * n ≤ (y 0).val ∧ (y 0).val < 512 * n + 512 := hw 0
    have hd : (y 0).val / 512 = n := by omega
    unfold headDQ
    rw [hd]
    refine congrArg _ (funext fun a => Fin.ext ?_)
    match a with
    | 0 => exact (show (y 0).val - 512 * n = (y 0).val % 512 by omega)
    | 1 => exact Nat.sub_zero _
  · refine h y (Nat.lt_of_not_le fun hle => hw fun a => ?_)
    match a with
    | 0 => exact ⟨hle, (by omega : (y 0).val < 512 * n + 512)⟩
    | 1 => exact ⟨Nat.zero_le _, lt_of_lt_of_eq (y 1).isLt (Nat.zero_add _).symm⟩

theorem upto_all (Q K V : FVec F S8192x128 .bf16) (T : FVec F S8192x128 .f32) (DO : FVec F S8192x128 .bf16) (x : S8192x128.Idx → Elt F .bf16)
    (h : Upto Q K V T DO 16 x) : x = headDQ Q K V T DO :=
  funext fun y => h y (y 0).isLt

/-- The loop over the blocks of queries. -/
theorem outers_run (a0 : BitVec 32)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (h5 : arg5.view.read (Elt F) f5 = fun _ => 0#32) (Q K V : FVec F S8192x128 .bf16) (T : FVec F S8192x128 .f32) (DO : FVec F S8192x128 .bf16)
    (h1 : arg1.view.read (Elt F) f1 = Q) (h2 : arg2.view.read (Elt F) f2 = K) (h3 : arg3.view.read (Elt F) f3 = V)
    (h4 : arg4.view.read (Elt F) f4 = T) (h6 : arg6.view.read (Elt F) f6 = DO) :
    Whole c arg1 arg2 arg3 arg4 arg5 arg6 arg7 arg10 arg11 f1 f2 f3 f4 f5 f6 (Upto Q K V T DO 0) (sums Q K V T DO 0) ⊢
      wp frame (wpE (defs₀ (F := F)) Variants.none (c : Thread nD τ) none) Set.univ
        (Scf.Loop.for k0_t1_loop k0_t1_ok ()
          (k0_t1_body (F := F) i arg1 harg1 arg2 harg2 arg3 harg3 arg4 harg4 arg5 harg5 arg6 harg6 arg7 harg7 arg8 harg8 arg9 harg9 arg10 harg10 arg11 harg11 a0))
        (fun _ => Whole c arg1 arg2 arg3 arg4 arg5 arg6 arg7 arg10 arg11 f1 f2 f3 f4 f5 f6 (Upto Q K V T DO 16) (sums Q K V T DO 16)) := by
  subst h1 h2 h3 h4 h6
  iintro H
  iapply (Scf.wp_for frame (wpE (defs₀ (F := F)) Variants.none (c : Thread nD τ) none) Set.univ _ _ _ k0_t1_ok () _
    (fun n _ => Whole c arg1 arg2 arg3 arg4 arg5 arg6 arg7 arg10 arg11 f1 f2 f3 f4 f5 f6
      (Upto (arg1.view.read (Elt F) f1) (arg2.view.read (Elt F) f2) (arg3.view.read (Elt F) f3) (arg4.view.read (Elt F) f4) (arg6.view.read (Elt F) f6) n)
      (sums (arg1.view.read (Elt F) f1) (arg2.view.read (Elt F) f2) (arg3.view.read (Elt F) f3) (arg4.view.read (Elt F) f4) (arg6.view.read (Elt F) f6) n))
    (fun t acc => outer_run c i arg1 harg1 arg2 harg2 arg3 harg3 arg4 harg4 arg5 harg5 arg6 harg6 arg7 harg7 arg8 harg8 arg9 harg9 arg10 harg10 arg11 harg11
      a0 t f1 f2 f3 f4 f5 f6 h5 _ _ _ acc (fun x hx => upto_step _ _ _ _ _ _ x hx)))
  isplitl [H]; · iexact H
  iintro %acc H
  iexact H

/-- ONE HEAD. From the inputs' blocks, the table of first blocks zero everywhere, and anything in the
outputs and the two sums, the body leaves the gradients of the model in the outputs. -/
theorem head_run (Q K V : FVec F S8192x128 .bf16) (T : FVec F S8192x128 .f32) (N : S16x16.Idx → Elt F .i32) (DO : FVec F S8192x128 .bf16)
    (hN : N = fun _ => 0#32) (P : PUnit → sProp 𝕄G) :
    iprop(owns (c : Thread nD τ) arg1 fullShare Q ∗ owns (c : Thread nD τ) arg2 fullShare K ∗ owns (c : Thread nD τ) arg3 fullShare V ∗
      owns (c : Thread nD τ) arg4 fullShare T ∗ owns (c : Thread nD τ) arg5 fullShare N ∗ owns (c : Thread nD τ) arg6 fullShare DO ∗
      (∃ d, owns (c : Thread nD τ) arg7 fullShare d) ∗ (∃ d, owns (c : Thread nD τ) arg8 fullShare d) ∗ (∃ d, owns (c : Thread nD τ) arg9 fullShare d) ∗
      (∃ d, owns (c : Thread nD τ) arg10 fullShare d) ∗ (∃ d, owns (c : Thread nD τ) arg11 fullShare d) ∗
      (iprop(owns (c : Thread nD τ) arg1 fullShare Q ∗ owns (c : Thread nD τ) arg2 fullShare K ∗ owns (c : Thread nD τ) arg3 fullShare V ∗
        owns (c : Thread nD τ) arg4 fullShare T ∗ owns (c : Thread nD τ) arg5 fullShare N ∗ owns (c : Thread nD τ) arg6 fullShare DO ∗
        owns (c : Thread nD τ) arg7 fullShare (headDQ Q K V T DO) ∗ owns (c : Thread nD τ) arg8 fullShare (headDK Q K V T DO) ∗
        owns (c : Thread nD τ) arg9 fullShare (headDV Q K V T DO) ∗
        (∃ d, owns (c : Thread nD τ) arg10 fullShare d) ∗ (∃ d, owns (c : Thread nD τ) arg11 fullShare d)) -∗ P ⟨⟩))
    ⊢ wp frame (wpE (defs₀ (F := F)) Variants.none (c : Thread nD τ) none) Set.univ
        (cc0_attn_bwd (F := F) i arg1 harg1 arg2 harg2 arg3 harg3 arg4 harg4 arg5 harg5 arg6 harg6 arg7 harg7 arg8 harg8 arg9 harg9 arg10 harg10 arg11 harg11) P := by
  simp only [cc0_attn_bwd_eq_skeleton]
  unfold cc0_attn_bwd_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, %h7, H7⟩, ⟨%d8, %f8, %h8, H8⟩,
    ⟨%d9, %f9, %h9, H9⟩, ⟨%d10, %f10, %h10, H10⟩, ⟨%d11, %f11, %h11, H11⟩, HP⟩
  subst hN
  sl_exec
  rw [wp_bind]
  iapply (wp_wand_r frame (wpE (defs₀ (F := F)) Variants.none (c : Thread nD τ) none) Set.univ)
  isplitl [H1 H2 H3 H4 H5 H6 H7 H10 H11]
  · iapply (outers_run c i arg1 harg1 arg2 harg2 arg3 harg3 arg4 harg4 arg5 harg5 arg6 harg6 arg7 harg7 arg8 harg8 arg9 harg9 arg10 harg10 arg11 harg11
      _ f1 f2 f3 f4 f5 f6 h5 Q K V T DO h1 h2 h3 h4 h6)
    isplitl [H1]; · iexact H1
    isplitl [H2]; · iexact H2
    isplitl [H3]; · iexact H3
    isplitl [H4]; · iexact H4
    isplitl [H5]; · iexact H5
    isplitl [H6]; · iexact H6
    isplitl [H7]
    · iexists _
      isplitr; swap; · iexact H7
      ipureintro; exact upto_zero _ _ _ _ _ _
    isplitl [H10]
    · iexists _
      isplitr; swap; · iexact H10
      ipureintro; exact View.read_writes_full _ _ _ _ _
    · iexists _
      isplitr; swap; · iexact H11
      ipureintro; exact View.read_writes_full _ _ _ _ _
  iintro %acc ⟨H1, H2, H3, H4, H5, H6, ⟨%g7, %k7, H7⟩, ⟨%g10, %k10, H10⟩, ⟨%g11, %k11, H11⟩⟩
  sl_exec
  sl_step
  iapply HP
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists g7; isplitr; · ipureintro; exact upto_all _ _ _ _ _ _ k7
                  iexact H7
  isplitl [H8]
  · iexists _
    isplitr; swap; · iexact H8
    ipureintro
    rw [View.read_writes_full, View.readAt_full, k10]
    rfl
  isplitl [H9]
  · iexists _
    isplitr; swap; · iexact H9
    ipureintro
    rw [View.read_writes_full, View.readAt_full, k11]
    rfl
  isplitl [H10]; · iexists _, g10; isplitr; · ipureintro; rfl
                   iexact H10
  iexists _, g11
  isplitr; · ipureintro; rfl
  iexact H11

end Cert.AttnProof

end
-- ==== Proof.AttnFrame.lean ====
module

public import proofs.«01_k».proof.Proof.AttnHead
public import proofs.«01_k».proof.Proof.Gen.AttnIdeal.Frame
public import Idealize.ShloMosaic.Lib.Claim
public import Idealize.ShloMosaic.Lib.StableHlo.RunRead

/-! The launch over the heads: the proof data, the body at every point, the frame. -/

@[expose] public section

set_option maxRecDepth 8192
set_option maxHeartbeats 4000000

noncomputable section

namespace Cert.AttnProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open AttnIdeal AttnIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The table of first blocks, as the host makes it: zero everywhere. -/
theorem table_zero (c : Dev nD) (t : Fin cfg0.N) : iblk m c 4 t = fun _ => 0#32 := by
  have h : V m c main_v37 = fun _ => 0#32 := by
    refine (StableHlo.after_last_write (i := 46) [main_v38, main_v39] rfl rfl (by decide) _).trans ?_
    rw [StableHlo.unary_result']
    refine (congrArg _ (StableHlo.upto_last_write (i := 45) [] rfl rfl (by decide) _)).trans ?_
    rw [StableHlo.nullary_result']
    rfl
  unfold iblk
  funext y
  exact congrFun h _

/-- What each point leaves: the inputs' blocks as found, the outputs at the gradients of the head. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => headDQ (iblk m c 0 t) (iblk m c 1 t) (iblk m c 2 t) (iblk m c 3 t) (iblk m c 5 t)
    | ⟨7, _⟩ => headDK (iblk m c 0 t) (iblk m c 1 t) (iblk m c 2 t) (iblk m c 3 t) (iblk m c 5 t)
    | ⟨8, _⟩ => headDV (iblk m c 0 t) (iblk m c 1 t) (iblk m c 2 t) (iblk m c 3 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = headDQ (iblk m c 0 t) (iblk m c 1 t) (iblk m c 2 t) (iblk m c 3 t) (iblk m c 5 t) := by dsimp only [dats]
theorem after_7 (c : Dev nD) (t : Fin cfg0.N) : (dats m 0 c).after 7 t = headDK (iblk m c 0 t) (iblk m c 1 t) (iblk m c 2 t) (iblk m c 3 t) (iblk m c 5 t) := by dsimp only [dats]
theorem after_8 (c : Dev nD) (t : Fin cfg0.N) : (dats m 0 c).after 8 t = headDV (iblk m c 0 t) (iblk m c 1 t) (iblk m c 2 t) (iblk m c 3 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with, and what it returns. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8,
    show (dats m 0 c).Φ t.castSucc = Pipeline.ΦA spec0 c from rfl]
  unfold Pipeline.ΦA
  rw [scopedRest0_eq]
  iintro ⟨⟨⟨⟨%s0, S0⟩, ⟨%s1, S1⟩⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (head_run c (grid0.coords t) _ _ _ _ _ _ _ _ _ _ _ _ _ _ _ _ _ _ (Memref.whole cc0_scratch0) _ (Memref.whole cc0_scratch1) _
    (iblk m c 0 t) (iblk m c 1 t) (iblk m c 2 t) (iblk m c 3 t) (iblk m c 4 t) (iblk m c 5 t) (table_zero m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexists s0; rw [owns_whole]; iexact S0
  isplitl [S1]; · iexists s1; rw [owns_whole]; iexact S1
  iintro ⟨H0, H1, H2, H3, H4, H5, H6, H7, H8, ⟨%s0', S0⟩, ⟨%s1', S1⟩⟩
  isplitl [HΦ S0 S1]
  · isplitl [S0 S1]
    · isplitl [S0]
      · iexists s0'; rw [← owns_whole]; iexact S0
      · iexists s1'; rw [← owns_whole]; iexact S1
    · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the points leave, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnProof

end
-- ==== Proof.AttnBits.lean ====
module

public import proofs.«01_k».proof.Defs
public import proofs.«01_k».proof.Proof.Gen.Attn
public import proofs.«01_k».proof.Proof.AttnFrame

/-! The frames of the attention kernel, of its idealized form and of the printed program: one run. -/

@[expose] public section

namespace Cert.AttnProof

open Idealize.ShloMosaic

/-- At the machine's own numbers a named constant is the pattern it was printed with. -/
instance namedBits : Named Bits where
  named _ _ {φ} b := FloatOps.ofBits φ b

theorem ideal_frame : quiescent_AttnIdeal := fun m ρ _ => frame m ρ

theorem bits_frame : quiescent_Attn := by
  intro m ρ _
  refine Eq.mp ?_ (frame (F := Bits) m ρ)
  sl_kernel_rfl

end Cert.AttnProof
-- ==== Proof.AttnMath.lean ====
module

public import Idealize.ShloMosaic.PureOps.Ideal
public import Mathlib.Analysis.SpecialFunctions.Log.Basic
public import Mathlib.Algebra.BigOperators.Intervals

/-! The backward pass of one head of stick-breaking attention in the real numbers. Rows are counted by natural numbers;
`q`, `k`, `v` are the head's queries, keys and values and `o` the cotangent of its output. -/

@[expose] public section

noncomputable section

namespace Cert.AttnProof

open scoped BigOperators
open Finset

/-- The rows of an array: row, column. -/
abbrev Rows : Type := ℕ → Fin 128 → ℝ

/-- The scale of the products: the number whose f32 word both programs hold (`1/√128` rounded). -/
def sR : ℝ := 11863283 * 2 ^ (-27 : ℤ)

/-- The product of row `i` of `a` and row `j` of `b`. -/
def dot (a b : Rows) (i j : ℕ) : ℝ := ∑ d, a i d * b j d

/-- `log σ(x)`. -/
def lsig (x : ℝ) : ℝ := min x 0 - Real.log (1 + Real.exp (0 - |x|))

variable (q k v o : Rows)

/-- The scaled product of query `i` and key `j`. -/
def zed (i j : ℕ) : ℝ := dot q k i j * sR

/-- `log(1 − β)` for the keys before the query, zero for the others. -/
def lg (i j : ℕ) : ℝ := if j < i then lsig (zed q k i j) - zed q k i j else 0

/-- The whole sum of a row's `log(1 − β)`. -/
def total (i : ℕ) : ℝ := ∑ j ∈ range 8192, lg q k i j

/-- The weight of key `j` for query `i`. -/
def wt (i j : ℕ) : ℝ :=
  if j < i then Real.exp (lsig (zed q k i j) + (total q k i - ∑ j' ∈ range (j + 1), lg q k i j')) else 0

/-- The weight times its cotangent. -/
def gg (i j : ℕ) : ℝ := wt q k i j * dot o v i j

/-- `β` for the keys before the query. -/
def beta (i j : ℕ) : ℝ := if j < i then Real.exp (lsig (zed q k i j)) else 0

/-- The cotangent of the unscaled product. -/
def dz (i j : ℕ) : ℝ :=
  (gg q k v o i j * (1 - beta q k i j) - (∑ j' ∈ range j, gg q k v o i j') * beta q k i j) * sR

/-- The gradients of queries, keys and values. -/
def gradQ (i : ℕ) (d : Fin 128) : ℝ := ∑ j ∈ range 8192, dz q k v o i j * k j d
def gradK (j : ℕ) (d : Fin 128) : ℝ := ∑ i ∈ range 8192, dz q k v o i j * q i d
def gradV (j : ℕ) (d : Fin 128) : ℝ := ∑ i ∈ range 8192, wt q k i j * o i d

variable {q k v o}

theorem wt_zero {i j : ℕ} (h : ¬ j < i) : wt q k i j = 0 := if_neg h

theorem dz_zero {i j : ℕ} (h : ¬ j < i) : dz q k v o i j = 0 := by
  simp [dz, gg, wt, beta, h]

end Cert.AttnProof

end
-- ==== Proof.AttnBlock.lean ====
module

public import proofs.«01_k».proof.Proof.AttnMath
public import proofs.«01_k».proof.Proof.AttnStep
public import proofs.«01_k».proof.Proof.RealOps
public import Idealize.ShloMosaic.Lib.WordCmp

/-! What the kernel computes for one block of queries and one block of keys, at real numbers. -/

@[expose] public section

set_option maxRecDepth 8192

noncomputable section

namespace Cert.AttnProof

open Idealize.ShloMosaic TcCoe
open AttnIdeal AttnIdeal.Gen RealOps
open scoped BigOperators
open Finset (range)

/-- The rows from row `R` on. -/
abbrev rowsAt {N : ℕ} (R : ℕ) (f : Rows) : Shape.Idx ⟨2, ![N, 128]⟩ → EReal := fun y => ((f (R + (y 0).val) (y 1) : ℝ) : EReal)
/-- The block of 512 queries and 256 keys from query `R` and key `C` on. -/
abbrev blockAt (R C : ℕ) (f : ℕ → ℕ → ℝ) : S512x256.Idx → EReal := fun y => ((f (R + (y 0).val) (C + (y 1).val) : ℝ) : EReal)
/-- One number a query. -/
abbrev colAt (R : ℕ) (f : ℕ → ℝ) : S512x1.Idx → EReal := fun y => ((f (R + (y 0).val) : ℝ) : EReal)

theorem scale_eq : Ideal.ofBits .f32 0x3DB504F3#32 = ((sR : ℝ) : EReal) := by
  unfold sR
  simp [Ideal.ofBits, Ideal.ieee]

theorem sitofp_bit (b : Prop) [Decidable b] :
    FloatOps.sitofp (F := Ideal) FTy.f32 (BitVec.setWidth 32 (BitVec.ofBool (decide b))) = (((if b then 1 else 0 : ℝ)) : EReal) := by
  by_cases h : b <;> simp [h, FloatOps.sitofp] <;> rfl

theorem upto_at (y : S256x256.Idx) : (k0_pay1 (F := Ideal)) y = (((if (y 0).val ≤ (y 1).val then 1 else 0 : ℝ)) : EReal) := by
  have h0 : (y 0).val < 256 := (y 0).isLt
  have h1 : (y 1).val < 256 := (y 1).isLt
  pointwise [k0_pay1]
  rw [WordCmp.cmpi_sle_ofNat (by omega) (by omega)]
  exact sitofp_bit _

theorem before_at (y : S256x256.Idx) : (k0_pay2 (F := Ideal)) y = (((if (y 0).val < (y 1).val then 1 else 0 : ℝ)) : EReal) := by
  have h0 : (y 0).val < 256 := (y 0).isLt
  have h1 : (y 1).val < 256 := (y 1).isLt
  pointwise [k0_pay2]
  rw [WordCmp.cmpi_slt_ofNat (by omega) (by omega)]
  exact sitofp_bit _

theorem upto_eq : (k0_pay1 (F := Ideal)) = fun y => (((if (y 0).val ≤ (y 1).val then 1 else 0 : ℝ)) : EReal) := funext upto_at
theorem before_eq : (k0_pay2 (F := Ideal)) = fun y => (((if (y 0).val < (y 1).val then 1 else 0 : ℝ)) : EReal) := funext before_at

theorem lsig_coe (x : ℝ) :
    min (x : EReal) 0 - Ideal.log (1 + Ideal.exp (0 - FloatOps.absf (F := Ideal) (φ := .f32) (x : EReal))) = ((lsig x : ℝ) : EReal) := by
  have h : (0 : ℝ) < 1 + Real.exp (0 - |x|) := by positivity
  rw [absf_coe, ← EReal.coe_zero, min_coe, ← EReal.coe_sub, exp_coe, ← EReal.coe_one, ← EReal.coe_add, log_coe h, ← EReal.coe_sub]
  rfl

section Blocks
variable (q k v o : Rows) (R C : ℕ)

/-- The unscaled products. -/
theorem dots_eq (a b : Rows) : k0_pay11 (F := Ideal) (rowsAt R a) (rowsAt C b) = blockAt R C (dot a b) := by
  funext y
  pointwise [k0_pay11]
  simp only [← EReal.coe_mul, coe_sum]
  rfl

theorem scaled_eq : k0_pay13 (F := Ideal) (blockAt R C (dot q k)) = blockAt R C (zed q k) := by
  funext y
  pointwise [k0_pay13]
  rw [scale_eq, ← EReal.coe_mul]
  rfl

theorem lsig_eq : k0_pay14 (F := Ideal) (blockAt R C (dot q k)) = blockAt R C fun i j => lsig (zed q k i j) := by
  funext y
  unfold k0_pay14
  rw [scaled_eq]
  pointwise []
  exact lsig_coe _

theorem lsig_sub_eq : k0_pay15 (F := Ideal) (blockAt R C (dot q k)) = blockAt R C fun i j => lsig (zed q k i j) - zed q k i j := by
  funext y
  unfold k0_pay15
  rw [scaled_eq, lsig_eq]
  pointwise []
  rw [← EReal.coe_sub]

/-- The weights as the kernel spells them: `log β` plus what is left of the row's sum after this key. -/
def weight (U : FVec Ideal S256x256 .bf16) (l ls : FVec Ideal S512x1 .f32) (lb l1 : FVec Ideal S512x256 .f32) : FVec Ideal S512x256 .f32 :=
  exp (addf lb (subf (broadcastTo S512x256 (subf l ls) broadcasts_S512x1_S512x256)
    (addf (matmul dot_S512x256_S256x256_S512x256_1_0_0_1_n_n none (truncf .bf16 l1 bitsLt_bf16_f32) U (constant S512x256 .f32 0x00000000#32))
      (matmul dot_S512x256_S256x256_S512x256_1_0_0_1_n_n none
        (truncf .bf16 (subf l1 (extf .f32 (truncf .bf16 l1 bitsLt_bf16_f32) bitsLt_bf16_f32)) bitsLt_bf16_f32) U (constant S512x256 .f32 0x00000000#32)))))

/-- The cotangent of the products as the kernel spells it. -/
def cot (B : FVec Ideal S256x256 .bf16) (gs : FVec Ideal S512x1 .f32) (g be : FVec Ideal S512x256 .f32) : FVec Ideal S512x256 .bf16 :=
  k0_pay36 g (addf (broadcastTo S512x256 gs broadcasts_S512x1_S512x256)
    (matmul dot_S512x256_S256x256_S512x256_1_0_0_1_n_n none (truncf .bf16 g bitsLt_bf16_f32) B (constant S512x256 .f32 0x00000000#32))) be one

theorem weight_eq : weight k0_pay1 (colAt R (total q k)) (colAt R fun i => ∑ j ∈ range C, lg q k i j)
    (fun y => if C + (y 1).val < R + (y 0).val then ((lsig (zed q k (R + (y 0).val) (C + (y 1).val)) : ℝ) : EReal) else ⊥)
    (blockAt R C (lg q k)) = blockAt R C (wt q k) := by
  funext y
  unfold weight
  rw [upto_eq]
  pointwise []
  simp only [← EReal.coe_mul, ← EReal.coe_sub, coe_sum, ← EReal.coe_add, sub_self, zero_mul, Finset.sum_const_zero, add_zero]
  have e := sum_upto (fun x => lg q k (R + (y 0).val) (C + x)) (y 1)
  by_cases h : C + (y 1).val < R + (y 0).val
  · refine (congrArg (fun t => Ideal.exp (t + _)) (if_pos h)).trans ?_
    rw [← EReal.coe_add, exp_coe]
    refine congrArg Real.toEReal (Eq.trans ?_ (if_pos h).symm)
    refine congrArg (fun t => Real.exp (lsig (zed q k (R + (y 0).val) (C + (y 1).val)) + t)) ?_
    rw [add_assoc C, Finset.sum_range_add, ← sub_sub]
    exact congrArg (_ - ·) e
  · refine (congrArg (fun t => Ideal.exp (t + _)) (if_neg h)).trans ?_
    rw [EReal.bot_add]
    exact congrArg Real.toEReal (wt_zero h).symm

theorem cot_eq : cot k0_pay2 (colAt R fun i => ∑ j ∈ range C, gg q k v o i j) (blockAt R C (gg q k v o)) (blockAt R C (beta q k))
    = blockAt R C (dz q k v o) := by
  funext y
  unfold cot
  rw [before_eq]
  pointwise [k0_pay36]
  have e := sum_before (fun x => gg q k v o (R + (y 0).val) (C + x)) (y 1)
  rw [scale_eq, ← EReal.coe_one]
  simp only [← EReal.coe_mul, ← EReal.coe_sub, coe_sum, ← EReal.coe_add]
  refine congrArg Real.toEReal ?_
  unfold dz
  rw [Finset.sum_range_add, ← e]
  rfl

/-- The sums over the keys grow by a block. -/
theorem sums_eq (f : ℕ → ℕ → ℝ) : k0_pay40 (F := Ideal) (colAt R fun i => ∑ j ∈ range C, f i j) (blockAt R C f)
    = colAt R fun i => ∑ j ∈ range (C + 256), f i j := by
  funext y
  pointwise [k0_pay40]
  simp only [coe_sum, ← EReal.coe_add, Finset.sum_range_add]
  exact congrArg Real.toEReal (congrArg (_ + ·) (Fin.sum_univ_eq_sum_range (fun x => f (R + (y 0).val) (C + x)) 256))

/-- The gradient of the queries grows by a block of keys. -/
theorem accQ_eq (w : ℕ → ℕ → ℝ) (a b : Rows) :
    addf (rowsAt (N := 512) R a) (matmul (F := Ideal) dot_S512x256_S256x128_S512x128_1_0_0_1_n_n none (φ₁ := .bf16) (φ₂ := .bf16) (blockAt R C w)
      (shapeCast S256x128 (rowsAt (N := 256) C b : FVec Ideal S256x128 .bf16) shapeCasts_S256x128_S256x128) (constant S512x128 .f32 0x00000000#32))
    = rowsAt R fun i d => a i d + ∑ x ∈ range 256, w i (C + x) * b (C + x) d := by
  funext y
  pointwise []
  simp only [← EReal.coe_mul, coe_sum, ← EReal.coe_add]
  exact congrArg Real.toEReal (congrArg (a _ _ + ·) (Fin.sum_univ_eq_sum_range (fun x => w (R + (y 0).val) (C + x) * b (C + x) (y 1)) 256))

/-- The gradient of the keys, or of the values, grows by a block of queries. -/
theorem accK_eq (w : ℕ → ℕ → ℝ) (a b : Rows) :
    shapeCast S256x128 (addf (rowsAt (N := 256) C a) (matmul (F := Ideal) dot_S512x256_S512x128_S256x128_0_0_1_1_n_n none (φ₁ := .bf16) (φ₂ := .bf16) (blockAt R C w)
      (rowsAt (N := 512) R b) (constant S256x128 .f32 0x00000000#32))) shapeCasts_S256x128_S256x128
    = rowsAt C fun j d => a j d + ∑ x ∈ range 512, w (R + x) j * b (R + x) d := by
  funext y
  pointwise []
  simp only [← EReal.coe_mul, coe_sum, ← EReal.coe_add]
  exact congrArg Real.toEReal (congrArg (a _ _ + ·) (Fin.sum_univ_eq_sum_range (fun x => w (R + x) (C + (y 0).val) * b (R + x) (y 1)) 512))

end Blocks

end Cert.AttnProof

end
-- ==== Proof.AttnHost.lean ====
/- The host lines before the attention gradient's call: what the four kinds of operand hold, over real arguments. -/
module

public import proofs.«01_k».proof.Proof.AttnBlock
public import proofs.«01_k».proof.Proof.Gen.AttnIdeal.Frame

@[expose] public section

noncomputable section

namespace Cert.AttnProof

open AttnIdeal AttnIdeal.Gen RealOps Idealize.ShloMosaic TcCoe Idealize.SL.Sem
open Finset

/-- The columns of a real array from `c` on. -/
def cols (X : ℕ → ℕ → ℝ) (c : ℕ) : Rows := fun i d => X i (c + d.val)

/-- A real array as the contents of an argument. -/
def asX (X : ℕ → ℕ → ℝ) : FVec Ideal S8192x6144 .f32 := fun y => ((X (y 0).val (y 1).val : ℝ) : EReal)
def asD (D : ℕ → ℕ → ℝ) : FVec Ideal S8192x2048 .f32 := fun y => ((D (y 0).val (y 1).val : ℝ) : EReal)

/-- Arrays with a head's rows for each head, and with a head's products. -/
def heads (f : ℕ → Rows) : FVec Ideal S16x8192x128 .f32 := fun y => ((f (y 0).val (y 1).val (y 2) : ℝ) : EReal)
def prods (f : ℕ → ℕ → ℕ → ℝ) : FVec Ideal S16x8192x8192 .f32 := fun y => ((f (y 0).val (y 1).val (y 2).val : ℝ) : EReal)

/-- The queries and the keys of every head, as the host cuts them out. -/
def hostQ (x : FVec Ideal S8192x6144 .f32) : FVec Ideal S16x8192x128 .f32 :=
  transpose S16x8192x128 [1, 0, 2] (shapeCast S8192x16x128 (extractStridedSlice S8192x1x16x128 ![0, 0, 0, 0]
    (shapeCast S8192x3x16x128 x shapeCasts_S8192x6144_S8192x3x16x128) slices_S8192x3x16x128_S8192x1x16x128_0_0_0_0)
    shapeCasts_S8192x1x16x128_S8192x16x128) transposes_S8192x16x128_S16x8192x128_1_0_2
def hostK (x : FVec Ideal S8192x6144 .f32) : FVec Ideal S16x8192x128 .f32 :=
  transpose S16x8192x128 [1, 0, 2] (shapeCast S8192x16x128 (extractStridedSlice S8192x1x16x128 ![0, 1, 0, 0]
    (shapeCast S8192x3x16x128 x shapeCasts_S8192x6144_S8192x3x16x128) slices_S8192x3x16x128_S8192x1x16x128_0_1_0_0)
    shapeCasts_S8192x1x16x128_S8192x16x128) transposes_S8192x16x128_S16x8192x128_1_0_2

/-- The scaled products. -/
def hostZ (q k : FVec Ideal S16x8192x128 .f32) : FVec Ideal S16x8192x8192 .f32 :=
  mulf (Host.dotGeneral dot_S16x8192x128_S16x8192x128_S16x8192x8192_2_2_1_1_0_0 none q k)
    (broadcastInDim S16x8192x8192 ![] bcast_S_S16x8192x8192 (constant S_ .f32 0x3DB504F3#32))

/-- `log(1 − β)` of the scaled products. -/
def hostL (z : FVec Ideal S16x8192x8192 .f32) : FVec Ideal S16x8192x8192 .f32 :=
  subf (subf (minimumf z (broadcastInDim S16x8192x8192 ![] bcast_S_S16x8192x8192 (constant S_ .f32 0x00000000#32)))
    (Host.log (addf (broadcastInDim S16x8192x8192 ![] bcast_S_S16x8192x8192 (constant S_ .f32 0x3F800000#32))
      (Host.exp (Host.negf (Host.absf z)))))) z

/-- The keys before the query. -/
def hostC : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The masked `log(1 − β)`. -/
def hostM (l : FVec Ideal S16x8192x8192 .f32) : FVec Ideal S16x8192x8192 .f32 :=
  select (broadcastInDim S16x8192x8192 ![1, 2] bcast_S8192x8192_S16x8192x8192_1_2 hostC) l
    (broadcastInDim S16x8192x8192 ![] bcast_S_S16x8192x8192 (constant S_ .f32 0x00000000#32))

/-- The row sums, repeated over a head's columns. -/
def hostT (l : FVec Ideal S16x8192x8192 .f32) : FVec Ideal S8192x2048 .f32 :=
  shapeCast S8192x2048 (broadcastInDim S8192x16x128 ![0, 1, 2] bcast_S8192x16x1_S8192x16x128_0_1_2
    (broadcastInDim S8192x16x1 ![0, 1] bcast_S8192x16_S8192x16x1_0_1
      (transpose S8192x16 [1, 0] (Host.reduceAdd l (constant S_ .f32 0x00000000#32) reducesTo_S16x8192x8192_S16x8192_d2 h_S_) transposes_S16x8192_S8192x16_1_0)))
    shapeCasts_S8192x16x128_S8192x2048

/-- A choice by a comparison of two small numbers. -/
theorem select_before {a b : ℕ} (ha : a < 8192) (hb : b < 8192) (x y : EReal) :
    Scalar.select (IntOp.cmpi CmpIPredicate.slt (BitVec.ofNat 32 a) (BitVec.ofNat 32 b)) x y = if a < b then x else y := by
  rw [WordCmp.cmpi_slt_ofNat (by omega) (by omega)]
  by_cases h : a < b <;> simp [h, Scalar.select]

section Real
variable (X : ℕ → ℕ → ℝ)

theorem hostQ_eq : hostQ (asX X) = heads fun h => cols X (128 * h) := by
  funext y
  pointwise [hostQ, heads, asX]
  rw [mul_comm]; rfl

theorem hostK_eq : hostK (asX X) = heads fun h => cols X (2048 + 128 * h) := by
  funext y
  have h1 : (y 0).val < 16 := (y 0).isLt
  pointwise [hostK, heads, asX]
  refine congrArg Real.toEReal (congrArg (X _) ?_)
  show _ = 2048 + 128 * (y 0).val + (y 2).val
  omega

theorem hostZ_eq (q k : ℕ → Rows) : hostZ (heads q) (heads k) = prods fun h i j => zed (q h) (k h) i j := by
  funext y
  pointwise [hostZ, prods, heads]
  rw [scale_eq]
  simp only [← EReal.coe_mul, coe_sum]
  rfl

theorem hostL_eq (z : ℕ → ℕ → ℕ → ℝ) : hostL (prods z) = prods fun h i j => lsig (z h i j) - z h i j := by
  funext y
  pointwise [hostL, prods]
  rw [← zero_sub, lsig_coe, ← EReal.coe_sub]

theorem hostM_eq (l : ℕ → ℕ → ℕ → ℝ) : hostM (prods l) = prods fun h i j => if j < i then l h i j else 0 := by
  funext y
  pointwise [hostM, prods, hostC]
  rw [select_before (y 2).isLt (y 1).isLt]
  split_ifs <;> rfl

theorem hostT_eq (l : ℕ → ℕ → ℕ → ℝ) : hostT (prods l) = asD fun i e => ∑ j ∈ range 8192, l (e / 128) i j := by
  funext y
  pointwise [hostT, prods, asD]
  rw [coe_sum, ← Fin.sum_univ_eq_sum_range]
end Real

variable (m : (ℓ : Loc nD τ sig) → Buf (Elt Ideal) ℓ) (c : Dev nD)

theorem read38 : @Eq (FVec Ideal S8192x6144 .bf16) (V m c main_v38) (truncf (F := Ideal) (s := S8192x6144) (φ := .f32) .bf16 (m ((c.tc : Thread nD τ).loc main_arg0)) bitsLt_bf16_f32) := by
  entry_read
  rfl

theorem read39 : @Eq (FVec Ideal S8192x2048 .bf16) (V m c main_v39) (truncf (F := Ideal) (s := S8192x2048) (φ := .f32) .bf16 (m ((c.tc : Thread nD τ).loc main_arg1)) bitsLt_bf16_f32) := by
  entry_read
  rfl

theorem read36 : V m c main_v36 = hostT (hostM (hostL (hostZ (hostQ (m ((c.tc : Thread nD τ).loc main_arg0))) (hostK (m ((c.tc : Thread nD τ).loc main_arg0)))))) := by
  entry_read
  rfl

/-- The row sums the call is given. -/
theorem read36_eq (X : ℕ → ℕ → ℝ) (hX : m ((c.tc : Thread nD τ).loc main_arg0) = asX X) :
    V m c main_v36 = asD fun i e => total (cols X (128 * (e / 128))) (cols X (2048 + 128 * (e / 128))) i := by
  rw [read36, hX, hostQ_eq, hostK_eq, hostZ_eq, hostL_eq, hostM_eq, hostT_eq]
  rfl

end Cert.AttnProof
-- ==== Proof.AttnCumul.lean ====
/- The reference's running sums along the keys, at real numbers. -/
module

public import proofs.«01_k».proof.Proof.AttnHost

@[expose] public section

noncomputable section

namespace Cert.AttnProof

open RealOps Idealize.ShloMosaic TcCoe
open Finset

/-- A fold of additions is the start and the sum. -/
theorem foldl_add {α : Type} (f : α → EReal) (v : EReal) (l : List α) : l.foldl (fun r n => r + f n) v = v + (l.map f).sum := by
  induction l generalizing v with
  | nil => simp
  | cons a l ih => simp [ih, add_assoc]

/-- The window of a row of `N` numbers. -/
abbrev Win (N : ℕ) : Shape := ⟨3, ![1, 1, N]⟩

/-- Its positions are the numbers below `N`. -/
def winEquiv (N : ℕ) : Fin N ≃ (Win N).Idx where
  toFun w := fun a => match a with | ⟨0, _⟩ => (0 : Fin 1) | ⟨1, _⟩ => (0 : Fin 1) | ⟨2, _⟩ => w
  invFun p := p 2
  left_inv w := rfl
  right_inv p := by
    funext a
    match a with
    | ⟨0, _⟩ => exact Subsingleton.elim (α := Fin 1) _ _
    | ⟨1, _⟩ => exact Subsingleton.elim (α := Fin 1) _ _
    | ⟨2, _⟩ => rfl

theorem window_sum {A B N : ℕ} (L H : ℕ) (f : ℕ → ℕ → ℕ → ℝ)
    (h : (⟨3, ![A, B, N]⟩ : Shape).ReduceWindows ![1, 1, N] ![1, 1, 1] ![0, 0, L] ![0, 0, H] ⟨3, ![A, B, N]⟩)
    {u : Shape} (hu : 0 < u.numel) (init : FVec Ideal u .f32) (h0 : init (Shape.Idx.first hu) = 0) (y : (⟨3, ![A, B, N]⟩ : Shape).Idx) :
    Host.reduceWindowAdd (F := Ideal) (φ := .f32) ![1, 1, N] ![1, 1, 1] ![0, 0, L] ![0, 0, H]
        (fun z : (⟨3, ![A, B, N]⟩ : Shape).Idx => ((f (z 0).val (z 1).val (z 2).val : ℝ) : EReal)) init h hu y
      = ((∑ w : Fin N, if L ≤ (y 2).val + w.val ∧ (y 2).val + w.val - L < N then f (y 0).val (y 1).val ((y 2).val + w.val - L) else 0 : ℝ) : EReal) := by
  unfold Host.reduceWindowAdd
  rw [Ideal.hostReduceWindowAdd_def]
  rw [h0]
  unfold Ideal.hostReduceWindowAdd Host.reduceWindow
  refine (foldl_add _ _ _).trans ?_
  rw [zero_add, ← Fin.sum_univ_def, ← coe_sum]
  refine (Fintype.sum_equiv ((winEquiv N).trans (Win N).rowMajor) _ _ fun w => ?_).symm
  have e : (Win N).rowMajor.symm (((winEquiv N).trans (Win N).rowMajor) w) = winEquiv N w := (Win N).rowMajor.symm_apply_apply _
  have hA : (y 0).val < A := (y 0).isLt
  have hB : (y 1).val < B := (y 1).isLt
  dsimp only
  rw [e]
  by_cases c : L ≤ (y 2).val + w.val ∧ (y 2).val + w.val - L < N
  · rw [if_pos c]
    refine Eq.symm ((dif_pos ?_).trans ?_)
    · intro a
      match a with
      | ⟨0, _⟩ => exact ⟨Nat.zero_le _, by show (y 0).val * 1 + 0 - 0 < A; omega⟩
      | ⟨1, _⟩ => exact ⟨Nat.zero_le _, by show (y 1).val * 1 + 0 - 0 < B; omega⟩
      | ⟨2, _⟩ => exact ⟨by show L ≤ (y 2).val * 1 + w.val; omega, by show (y 2).val * 1 + w.val - L < N; omega⟩
    · refine congrArg Real.toEReal ?_
      show f ((y 0).val * 1 + 0 - 0) ((y 1).val * 1 + 0 - 0) ((y 2).val * 1 + w.val - L) = _
      simp
  · rw [if_neg c]
    refine Eq.symm ((dif_neg ?_).trans rfl)
    intro hh
    have h2 := hh 2
    have a1 : L ≤ (y 2).val * 1 + w.val := h2.1
    have a2 : (y 2).val * 1 + w.val - L < N := h2.2
    exact c ⟨by omega, by omega⟩

/-- Padded below by all but one: the sum up to an index. -/
theorem window_prefix {N n : ℕ} (hn : n < N) (g : ℕ → ℝ) :
    (∑ w : Fin N, if N - 1 ≤ n + w.val ∧ n + w.val - (N - 1) < N then g (n + w.val - (N - 1)) else 0 : ℝ) = ∑ j ∈ range (n + 1), g j := by
  rw [Fin.sum_univ_eq_sum_range (fun w => if N - 1 ≤ n + w ∧ n + w - (N - 1) < N then g (n + w - (N - 1)) else 0) N, ← sum_filter]
  refine sum_bij' (fun w _ => n + w - (N - 1)) (fun j _ => j + (N - 1) - n) ?_ ?_ ?_ ?_ ?_ <;>
    intro a ha <;> simp only [mem_filter, mem_range] at ha ⊢ <;> first | omega | rfl

/-- Padded above by all but one: the sum from an index on. -/
theorem window_suffix {N n : ℕ} (hn : n < N) (g : ℕ → ℝ) :
    (∑ w : Fin N, if 0 ≤ n + w.val ∧ n + w.val - 0 < N then g (n + w.val - 0) else 0 : ℝ) = (∑ j ∈ range N, g j) - ∑ j ∈ range n, g j := by
  rw [Fin.sum_univ_eq_sum_range (fun w => if 0 ≤ n + w ∧ n + w - 0 < N then g (n + w - 0) else 0) N, ← sum_filter,
    eq_sub_iff_add_eq, add_comm, ← sum_range_add_sum_Ico g hn.le]
  refine congrArg _ (sum_bij' (fun w _ => n + w) (fun j _ => j - n) ?_ ?_ ?_ ?_ ?_) <;>
    intro a ha <;> simp only [mem_filter, mem_range, mem_Ico] at ha ⊢ <;> first | omega | rfl

end Cert.AttnProof
-- ==== Proof.AttnRefTerm.lean ====
/- The attention reference's three results, as a composition of named steps. -/
module

public import proofs.«01_k».proof.Proof.AttnCumul
public import proofs.«01_k».proof.Proof.Gen.AttnRefIdeal.Run

@[expose] public section

noncomputable section

namespace Cert.AttnProof

open AttnRefIdeal AttnRefIdeal.Gen Idealize.ShloMosaic TcCoe

/-- An array of every head's products. -/
abbrev Prods : Type := FVec Ideal S16x8192x8192 .f32

/-- The heads of a third of the columns, and of the cotangent. -/
def refHeads (x : FVec Ideal S8192x2048 .f32) : FVec Ideal S16x8192x128 .f32 :=
  transpose S16x8192x128 [1, 0, 2] (shapeCast S8192x16x128 x shapeCasts_S8192x2048_S8192x16x128) transposes_S8192x16x128_S16x8192x128_1_0_2
def refQ (x : FVec Ideal S8192x6144 .f32) := refHeads (extractStridedSlice S8192x2048 ![0, 0] x slices_S8192x6144_S8192x2048_0_0)
def refK (x : FVec Ideal S8192x6144 .f32) := refHeads (extractStridedSlice S8192x2048 ![0, 2048] x slices_S8192x6144_S8192x2048_0_2048)
def refV (x : FVec Ideal S8192x6144 .f32) := refHeads (extractStridedSlice S8192x2048 ![0, 4096] x slices_S8192x6144_S8192x2048_0_4096)

def zeros : Prods := broadcastInDim S16x8192x8192 ![] bcast_S_S16x8192x8192 (constant S_ .f32 0x00000000#32)
def infs : Prods := broadcastInDim S16x8192x8192 ![] bcast_S_S16x8192x8192 (constant S_ .f32 0x7F800000#32)

/-- The products of two arrays' rows. -/
def refDots (a b : FVec Ideal S16x8192x128 .f32) : Prods := Host.dotGeneral dot_S16x8192x128_S16x8192x128_S16x8192x8192_2_2_1_1_0_0 none a b
def refScale (x : Prods) : Prods := mulf x (broadcastInDim S16x8192x8192 ![] bcast_S_S16x8192x8192 (constant S_ .f32 0x3DB504F3#32))

/-- `log(1 + exp x)` and its slope, as the reference's library spells them. -/
def softplus (x : Prods) : Prods :=
  select (cmpf .une (subf x zeros) (subf x zeros)) (addf x zeros)
    (addf (maximumf x zeros) (Host.log1p (Host.exp (Host.negf (Host.absf (subf x zeros))))))
def slope (x s : Prods) : Prods :=
  Host.exp (subf (select (cmpf .oeq x infs) zeros x) (select (cmpf .oeq s infs) zeros s))

/-- The keys before the query. -/
def refMask : IVec S16x8192x8192 1 :=
  broadcastInDim S16x8192x8192 ![1, 2] bcast_S8192x8192_S16x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
def masked (x : Prods) : Prods := select refMask x zeros

/-- The running sums, from an index on and up to an index. -/
def sumsFrom (x : Prods) : Prods := Host.reduceWindowAdd ![1, 1, 8192] ![1, 1, 1] ![0, 0, 0] ![0, 0, 8191] x
  (broadcastInDim S_ ![] bcast_S_S_ (constant S_ .f32 0x00000000#32)) reduceWindows_S16x8192x8192_S16x8192x8192_w1s1p0_0_w1s1p0_0_w8192s1p0_8191 h_S_
def sumsUpto (x : Prods) : Prods := Host.reduceWindowAdd ![1, 1, 8192] ![1, 1, 1] ![0, 0, 8191] ![0, 0, 0] x
  (broadcastInDim S_ ![] bcast_S_S_ (constant S_ .f32 0x00000000#32)) reduceWindows_S16x8192x8192_S16x8192x8192_w1s1p0_0_w1s1p0_0_w8192s1p8191_0 h_S_

/-- `exp(log β + the sum of log(1 − β) behind)`. -/
def refExp (z : Prods) : Prods :=
  let l := masked (Host.negf (softplus (Host.negf (Host.negf z))))
  Host.exp (addf (Host.negf (softplus (Host.negf z))) (subf (sumsFrom l) l))

/-- The cotangent of the scaled products, from the weights' and the weights. -/
def refG (da e : Prods) : Prods := mulf (masked da) e
def refDZ (z g : Prods) : Prods :=
  let u := masked (addf (Host.negf g) (sumsUpto g))
  refScale (addf (Host.negf (Host.negf (mulf (Host.negf u) (slope (Host.negf (Host.negf z)) (softplus (Host.negf (Host.negf z)))))))
    (Host.negf (mulf (Host.negf g) (slope (Host.negf z) (softplus (Host.negf z))))))

/-- From heads back to columns. -/
def refCols (x : FVec Ideal S16x8192x128 .f32) : FVec Ideal S8192x2048 .bf16 :=
  truncf .bf16 (shapeCast S8192x2048 (transpose S8192x16x128 [1, 0, 2] x transposes_S16x8192x128_S8192x16x128_1_0_2) shapeCasts_S8192x16x128_S8192x2048) bitsLt_bf16_f32

def mixQ (dz : Prods) (k : FVec Ideal S16x8192x128 .f32) := Host.dotGeneral dot_S16x8192x8192_S16x8192x128_S16x8192x128_2_1_1_2_0_0 none dz k
def mixK (dz : Prods) (q : FVec Ideal S16x8192x128 .f32) := Host.dotGeneral dot_S16x8192x8192_S16x8192x128_S16x8192x128_1_1_2_2_0_0 none dz q
def mixV (o : FVec Ideal S16x8192x128 .f32) (a : Prods) :=
  transpose S16x8192x128 [0, 2, 1] (Host.dotGeneral dot_S16x8192x128_S16x8192x8192_S16x128x8192_1_1_2_2_0_0 none o a) transposes_S16x128x8192_S16x8192x128_0_2_1

def refZ (x : FVec Ideal S8192x6144 .f32) : Prods := refScale (refDots (refQ x) (refK x))
def refGrad (x : FVec Ideal S8192x6144 .f32) (o : FVec Ideal S8192x2048 .f32) : Prods :=
  refDZ (refZ x) (refG (refDots (refHeads o) (refV x)) (refExp (refZ x)))

def refDQ (x : FVec Ideal S8192x6144 .f32) (o : FVec Ideal S8192x2048 .f32) := refCols (mixQ (refGrad x o) (refK x))
def refDK (x : FVec Ideal S8192x6144 .f32) (o : FVec Ideal S8192x2048 .f32) := refCols (mixK (refGrad x o) (refQ x))
def refDV (x : FVec Ideal S8192x6144 .f32) (o : FVec Ideal S8192x2048 .f32) := refCols (mixV (refHeads o) (masked (refExp (refZ x))))

variable (m : (ℓ : Loc nD τ sig) → Buf (Elt Ideal) ℓ) (c : Dev nD)

theorem out2 : Value.res_out2 m c = refDV (m ((c.tc : Thread nD τ).loc main_arg0)) (m ((c.tc : Thread nD τ).loc main_arg1)) := rfl
theorem out1 : Value.res_out1 m c = refDK (m ((c.tc : Thread nD τ).loc main_arg0)) (m ((c.tc : Thread nD τ).loc main_arg1)) := rfl
theorem out0 : Value.res_out0 m c = refDQ (m ((c.tc : Thread nD τ).loc main_arg0)) (m ((c.tc : Thread nD τ).loc main_arg1)) := rfl

end Cert.AttnProof
-- ==== Proof.AttnSums.lean ====
module

public import proofs.«01_k».proof.Proof.AttnBlock

/-! The kernel's walk over the blocks of one head, at real numbers: what is carried after every block of keys and of
queries, and with it the three gradients the head leaves. -/

@[expose] public section

set_option maxRecDepth 8192

noncomputable section

namespace Cert.AttnProof

open Idealize.ShloMosaic TcCoe
open AttnIdeal AttnIdeal.Gen RealOps
open scoped BigOperators
open Finset (range)

/-- A head's whole array. -/
abbrev whole (f : Rows) : S8192x128.Idx → EReal := fun y => ((f (y 0).val (y 1) : ℝ) : EReal)

theorem rows256_whole (f : Rows) {o : ℕ} (h : o + 256 ≤ 8192) : rows256 (whole f) o = rowsAt o f := by
  funext y
  have hy : (y 0).val < 256 := (y 0).isLt
  exact congrArg (fun n => ((f n (y 1) : ℝ) : EReal)) (Nat.mod_eq_of_lt (by omega : o + (y 0).val < 8192))

theorem rows512_whole (f : Rows) {o : ℕ} (h : o + 512 ≤ 8192) : rows512 (whole f) o = rowsAt o f := by
  funext y
  have hy : (y 0).val < 512 := (y 0).isLt
  exact congrArg (fun n => ((f n (y 1) : ℝ) : EReal)) (Nat.mod_eq_of_lt (by omega : o + (y 0).val < 8192))

theorem put_whole (a b : Rows) (o : ℕ) : VecWindow.put (whole a) ![o, 0] S256x128.size (rowsAt (N := 256) o b)
    = whole fun j d => if o ≤ j ∧ j < o + 256 then b j d else a j d := by
  funext y
  have h1 : (y 1).val < 128 := (y 1).isLt
  by_cases h : o ≤ (y 0).val ∧ (y 0).val < o + 256
  · have hall : ∀ c, (![o, 0] : Fin 2 → ℕ) c ≤ (y c).val ∧ (y c).val < (![o, 0] : Fin 2 → ℕ) c + S256x128.size c := fun c =>
      match c with
      | 0 => h
      | 1 => ⟨Nat.zero_le _, by show (y 1).val < 0 + 128; omega⟩
    refine (dif_pos hall).trans ?_
    refine (congrArg Real.toEReal ?_).trans (congrArg Real.toEReal (if_pos h).symm)
    exact congr (congrArg b (by show o + ((y 0).val - o) = (y 0).val; omega)) (Fin.ext (Nat.sub_zero _))
  · have hall : ¬ ∀ c, (![o, 0] : Fin 2 → ℕ) c ≤ (y c).val ∧ (y c).val < (![o, 0] : Fin 2 → ℕ) c + S256x128.size c := fun H => h (H 0)
    exact (dif_neg hall).trans (congrArg Real.toEReal (if_neg h).symm)

theorem queries_eq (R : ℕ) (f : Rows) : k0_pay29 (F := Ideal) (rowsAt R f) = rowsAt R f := by
  funext y; pointwise [k0_pay29]

theorem cotangents_eq (R : ℕ) (f : Rows) : k0_pay30 (F := Ideal) (rowsAt R f) = rowsAt R f := queries_eq R f

theorem firstCol_eq (R : ℕ) (f : ℕ → ℝ) : k0_pay31 (F := Ideal) (rowsAt R fun i _ => f i) = colAt R f := by
  funext y; pointwise [k0_pay31]; rfl

section Inner
variable (q k v o : Rows) (R C : ℕ)

/-- `log β`, with nothing for the keys not before the query. -/
abbrev logBeta : FVec Ideal S512x256 .f32 := fun y =>
  if C + (y 1).val < R + (y 0).val then ((lsig (zed q k (R + (y 0).val) (C + (y 1).val)) : ℝ) : EReal) else ⊥

theorem exp_logBeta : exp (logBeta q k R C) = blockAt R C (beta q k) := by
  funext y
  pointwise []
  by_cases h : C + (y 1).val < R + (y 0).val
  · exact (congrArg Ideal.exp (if_pos h)).trans (congrArg Real.toEReal (if_pos h).symm)
  · exact (congrArg Ideal.exp (if_neg h)).trans (congrArg Real.toEReal (if_neg h).symm)

theorem mul_weights : mulf (F := Ideal) (φ := .f32) (blockAt R C (wt q k)) (blockAt R C (dot o v)) = blockAt R C (gg q k v o) := by
  funext y
  pointwise []
  exact (EReal.coe_mul _ _).symm

variable {R C}

theorem logBeta_all (h : C + 256 ≤ R) : k0_pay14 (F := Ideal) (blockAt R C (dot q k)) = logBeta q k R C := by
  rw [lsig_eq]
  funext y
  have hy : (y 1).val < 256 := (y 1).isLt
  exact (if_pos (by omega)).symm

theorem lg_all (h : C + 256 ≤ R) : k0_pay15 (F := Ideal) (blockAt R C (dot q k)) = blockAt R C (lg q k) := by
  rw [lsig_sub_eq]
  funext y
  have hy : (y 1).val < 256 := (y 1).isLt
  exact congrArg Real.toEReal (if_pos (by omega)).symm

theorem weights_all (h : C + 256 ≤ R) :
    k0_pay16 (F := Ideal) k0_pay1 (colAt R (total q k)) (colAt R fun i => ∑ j ∈ range C, lg q k i j) (blockAt R C (dot q k)) = blockAt R C (wt q k) :=
  (show _ = weight _ _ _ (k0_pay14 _) (k0_pay15 _) from rfl).trans (by rw [logBeta_all q k h, lg_all q k h]; exact weight_eq q k R C)

theorem gg_all (h : C + 256 ≤ R) :
    k0_pay17 (F := Ideal) k0_pay1 (colAt R (total q k)) (colAt R fun i => ∑ j ∈ range C, lg q k i j) (blockAt R C (dot q k)) (blockAt R C (dot o v))
      = blockAt R C (gg q k v o) := by
  unfold k0_pay17
  rw [weights_all q k h]
  exact mul_weights q k v o R C

/-- The numbers carried when `C` keys are behind. -/
abbrev carried (R C : ℕ) : Carry Ideal :=
  (colAt R fun i => ∑ j ∈ range C, lg q k i j, colAt R fun i => ∑ j ∈ range C, gg q k v o i j,
   rowsAt R fun i d => ∑ j ∈ range C, dz q k v o i j * k j d, blockAt R C (dot q k), blockAt R C (dot o v))

/-- One block of keys before the queries. -/
theorem inner_eq (n : ℕ) (h : 256 * n + 256 ≤ R) (hR : R + 512 ≤ 8192) (a b : Rows) :
    inner (F := Ideal) (rowsAt R q) (rowsAt R o) (rowsAt R fun i _ => total q k i) (whole k) (whole v) n (carried q k v o R (256 * n), whole a, whole b)
      = (carried q k v o R (256 * (n + 1)),
         whole fun j d => if 256 * n ≤ j ∧ j < 256 * n + 256 then a j d + ∑ x ∈ range 512, dz q k v o (R + x) j * q (R + x) d else a j d,
         whole fun j d => if 256 * n ≤ j ∧ j < 256 * n + 256 then b j d + ∑ x ∈ range 512, wt q k (R + x) j * o (R + x) d else b j d) := by
  have e : k0_pay36 (F := Ideal) (blockAt R (256 * n) (gg q k v o))
      (k0_pay18 k0_pay1 k0_pay2 (colAt R (total q k)) (colAt R fun i => ∑ j ∈ range (256 * n), lg q k i j) (colAt R fun i => ∑ j ∈ range (256 * n), gg q k v o i j)
        (blockAt R (256 * n) (dot q k)) (blockAt R (256 * n) (dot o v))) (k0_pay19 (blockAt R (256 * n) (dot q k))) one = blockAt R (256 * n) (dz q k v o) := by
    unfold k0_pay18 k0_pay19
    rw [gg_all q k v o h, logBeta_all q k h, exp_logBeta]
    exact cot_eq q k v o R (256 * n)
  unfold inner
  dsimp only
  rw [firstCol_eq, gg_all q k v o h, weights_all q k h, lg_all q k h, queries_eq, cotangents_eq, rows256_whole k (by omega), rows256_whole k (by omega), rows256_whole v (by omega),
    rows256_whole a (by omega), rows256_whole b (by omega)]
  refine congr (congrArg Prod.mk ?_) (congr (congrArg Prod.mk ?_) ?_)
  · refine congr (congrArg Prod.mk (sums_eq R (256 * n) (lg q k))) (congr (congrArg Prod.mk (sums_eq R (256 * n) (gg q k v o))) (congr (congrArg Prod.mk ?_)
      (congr (congrArg Prod.mk (dots_eq R (256 * (n + 1)) q k)) (dots_eq R (256 * (n + 1)) o v))))
    unfold k0_pay37
    rw [e]
    refine (accQ_eq R (256 * n) (dz q k v o) _ k).trans ?_
    exact congrArg (rowsAt R) (funext fun i => funext fun d => (Finset.sum_range_add _ _ _).symm)
  · unfold k0_pay38
    rw [e, queries_eq]
    exact (congrArg (VecWindow.put (whole a) _ _) (accK_eq R (256 * n) (dz q k v o) a q)).trans (put_whole a _ _)
  · unfold k0_pay39
    rw [cotangents_eq]
    exact (congrArg (VecWindow.put (whole b) _ _) (accK_eq R (256 * n) (wt q k) b o)).trans (put_whole b _ _)

end Inner

end Cert.AttnProof

end
-- ==== Proof.AttnHeadReal.lean ====
module

public import proofs.«01_k».proof.Proof.AttnSums

/-! The two blocks of keys of a block of queries' own, and with them a whole head, at real numbers. -/

@[expose] public section

set_option maxRecDepth 8192

noncomputable section

namespace Cert.AttnProof

open Idealize.ShloMosaic TcCoe
open AttnIdeal AttnIdeal.Gen RealOps
open scoped BigOperators
open Finset (range)

theorem row0_eq : ∀ t : Fin 16, row0 t.val = BitVec.ofNat 32 (512 * t.val) := by decide
theorem first_eq : ∀ t : Fin 16, Scalar.muli (Scalar.addi (two t.val) 0#32) 256#32 = BitVec.ofNat 32 (512 * t.val) := by decide
theorem second_eq : ∀ t : Fin 16, Scalar.muli (next t.val) 256#32 = BitVec.ofNat 32 (512 * t.val + 256) := by decide

/-- Which keys stand before the query, as the kernel compares them. -/
def keyBefore (R C : BitVec 32) : IVec S512x256 1 :=
  cmpi .slt (addi (iota .tc S512x256 32 [1] iota_S512x256_d1_w32) (broadcast S512x256 C)) (addi (iota .tc S512x256 32 [0] iota_S512x256_d0_w32) (broadcast S512x256 R))

theorem keyBefore_at {R C : ℕ} (hR : R + 512 ≤ 8192) (hC : C + 256 ≤ 8192) (y : S512x256.Idx) :
    keyBefore (BitVec.ofNat 32 R) (BitVec.ofNat 32 C) y = if C + (y 1).val < R + (y 0).val then 1#1 else 0#1 := by
  have h0 : (y 0).val < 512 := (y 0).isLt
  have h1 : (y 1).val < 256 := (y 1).isLt
  pointwise [keyBefore]
  rw [WordCmp.addi_ofNat, WordCmp.addi_ofNat, WordCmp.cmpi_slt_ofNat (by omega) (by omega), WordCmp.ofBool_decide_eq_ite,
    add_comm (y 1).val, add_comm (y 0).val]

theorem mask_eq : Named.named (F := Ideal) κ "mask" (φ := .f32) 0xF149F2CA#32 = (⊥ : EReal) := rfl

section Own
variable (q k v o : Rows) {R C : ℕ} (hR : R + 512 ≤ 8192) (hC : C + 256 ≤ 8192)
include hR hC

theorem logBeta_mask : select (keyBefore (BitVec.ofNat 32 R) (BitVec.ofNat 32 C)) (k0_pay14 (F := Ideal) (blockAt R C (dot q k)))
    (broadcast S512x256 (Named.named (F := Ideal) κ "mask" (φ := .f32) 0xF149F2CA#32)) = logBeta q k R C := by
  rw [lsig_eq, mask_eq]
  funext y
  pointwise []
  rw [keyBefore_at hR hC]
  by_cases h : C + (y 1).val < R + (y 0).val
  · rw [if_pos h]; exact (if_pos h).symm
  · rw [if_neg h]; exact (if_neg h).symm

theorem lg_mask : select (keyBefore (BitVec.ofNat 32 R) (BitVec.ofNat 32 C)) (k0_pay15 (F := Ideal) (blockAt R C (dot q k)))
    (broadcast S512x256 (Scalar.ofBits (F := Ideal) .f32 0x00000000#32)) = blockAt R C (lg q k) := by
  rw [lsig_sub_eq]
  funext y
  pointwise []
  rw [keyBefore_at hR hC]
  by_cases h : C + (y 1).val < R + (y 0).val
  · rw [if_pos h]
    exact (EReal.coe_sub _ _).symm.trans (congrArg Real.toEReal (if_pos h).symm)
  · rw [if_neg h]; exact congrArg Real.toEReal (if_neg h).symm

end Own

section Head
variable (q k v o : Rows)

/-- The rows' numbers of the sum over the queries and the sum over its blocks. -/
def DKsum (R : ℕ) : Rows := fun j d => ∑ i ∈ range R, dz q k v o i j * q i d
def DVsum (R : ℕ) : Rows := fun j d => ∑ i ∈ range R, wt q k i j * o i d

/-- The two blocks of keys of the queries' own. -/
theorem own_eq (t : Fin 16) (a b : Rows) :
    ownBlock (F := Ideal) (rowsAt (512 * t.val) q) (rowsAt (512 * t.val) o) (rowsAt (512 * t.val) fun i _ => total q k i) t.val
      (carried q k v o (512 * t.val) (512 * t.val)) (rowsAt (512 * t.val) k) (rowsAt (512 * t.val + 256) k) (rowsAt (512 * t.val + 256) k)
      (rowsAt (512 * t.val + 256) v) (rowsAt (512 * t.val) a) (rowsAt (512 * t.val + 256) a) (rowsAt (512 * t.val) b) (rowsAt (512 * t.val + 256) b)
      = (rowsAt (512 * t.val) fun i d => ∑ j ∈ range (512 * t.val + 256 + 256), dz q k v o i j * k j d,
         rowsAt (512 * t.val) fun j d => a j d + ∑ x ∈ range 512, dz q k v o (512 * t.val + x) j * q (512 * t.val + x) d,
         rowsAt (512 * t.val + 256) fun j d => a j d + ∑ x ∈ range 512, dz q k v o (512 * t.val + x) j * q (512 * t.val + x) d,
         rowsAt (512 * t.val) fun j d => b j d + ∑ x ∈ range 512, wt q k (512 * t.val + x) j * o (512 * t.val + x) d,
         rowsAt (512 * t.val + 256) fun j d => b j d + ∑ x ∈ range 512, wt q k (512 * t.val + x) j * o (512 * t.val + x) d) := by
  have ht := t.isLt
  have eR := row0_eq t
  have e1 := first_eq t
  have e2 := second_eq t
  have hR : 512 * t.val + 512 ≤ 8192 := by omega
  have hC : 512 * t.val + 256 ≤ 8192 := by omega
  have hC' : (512 * t.val + 256) + 256 ≤ 8192 := by omega
  generalize hRR : 512 * t.val = R at *
  -- the first block
  have lb1 : k0_pay53 (F := Ideal) (row0 t.val) (two t.val) (blockAt R R (dot q k)) = logBeta q k R R :=
    (show _ = select (keyBefore (row0 t.val) (Scalar.muli (Scalar.addi (two t.val) 0#32) 256#32)) (k0_pay14 (F := Ideal) (blockAt R R (dot q k))) _ from rfl).trans
      (by rw [eR, e1]; exact logBeta_mask q k hR hC)
  have l1 : k0_pay54 (F := Ideal) (row0 t.val) (two t.val) (blockAt R R (dot q k)) = blockAt R R (lg q k) :=
    (show _ = select (keyBefore (row0 t.val) (Scalar.muli (Scalar.addi (two t.val) 0#32) 256#32)) (k0_pay15 (F := Ideal) (blockAt R R (dot q k))) _ from rfl).trans
      (by rw [eR, e1]; exact lg_mask q k hR hC)
  have w1 : k0_pay55 (F := Ideal) k0_pay1 (row0 t.val) (colAt R (total q k)) (two t.val) (colAt R fun i => ∑ j ∈ range R, lg q k i j) (blockAt R R (dot q k))
      = blockAt R R (wt q k) :=
    (show _ = weight _ _ _ (k0_pay53 _ _ _) (k0_pay54 _ _ _) from rfl).trans (by rw [lb1, l1]; exact weight_eq q k R R)
  have g1 : k0_pay56 (F := Ideal) (blockAt R R (dot o v)) (blockAt R R (wt q k)) = blockAt R R (gg q k v o) := mul_weights q k v o R R
  have d1 : k0_pay57 (F := Ideal) k0_pay2 (colAt R fun i => ∑ j ∈ range R, gg q k v o i j) (blockAt R R (dot o v)) (logBeta q k R R) (blockAt R R (wt q k))
      = blockAt R R (dz q k v o) :=
    (show _ = cot k0_pay2 (colAt R fun i => ∑ j ∈ range R, gg q k v o i j) (k0_pay56 (blockAt R R (dot o v)) (blockAt R R (wt q k))) (exp (logBeta q k R R)) from rfl).trans
      (by rw [g1, exp_logBeta]; exact cot_eq q k v o R R)
  have s1 : k0_pay61 (F := Ideal) (colAt R fun i => ∑ j ∈ range R, lg q k i j) (blockAt R R (lg q k)) = colAt R fun i => ∑ j ∈ range (R + 256), lg q k i j :=
    sums_eq R R (lg q k)
  have s2 : k0_pay62 (F := Ideal) (colAt R fun i => ∑ j ∈ range R, gg q k v o i j) (blockAt R R (dot o v)) (blockAt R R (wt q k))
      = colAt R fun i => ∑ j ∈ range (R + 256), gg q k v o i j :=
    (show _ = k0_pay40 (F := Ideal) _ (k0_pay56 (blockAt R R (dot o v)) (blockAt R R (wt q k))) from rfl).trans (by rw [g1]; exact sums_eq R R (gg q k v o))
  -- the second
  have z2 : k0_pay48 (F := Ideal) (rowsAt R q) (rowsAt (R + 256) k) = blockAt R (R + 256) (dot q k) := dots_eq R (R + 256) q k
  have v2 : k0_pay49 (F := Ideal) (rowsAt R o) (rowsAt (R + 256) v) = blockAt R (R + 256) (dot o v) := dots_eq R (R + 256) o v
  have lb2 : k0_pay66 (F := Ideal) (row0 t.val) (blockAt R (R + 256) (dot q k)) (next t.val) 256#32 = logBeta q k R (R + 256) :=
    (show _ = select (keyBefore (row0 t.val) (Scalar.muli (next t.val) 256#32)) (k0_pay14 (F := Ideal) (blockAt R (R + 256) (dot q k))) _ from rfl).trans
      (by rw [eR, e2]; exact logBeta_mask q k hR hC')
  have w2 : k0_pay67 (F := Ideal) k0_pay1 (row0 t.val) (colAt R (total q k)) (blockAt R (R + 256) (dot q k))
      (colAt R fun i => ∑ j ∈ range (R + 256), lg q k i j) (next t.val) 256#32 = blockAt R (R + 256) (wt q k) :=
    (show _ = weight _ _ _ (k0_pay66 (row0 t.val) (blockAt R (R + 256) (dot q k)) (next t.val) 256#32)
        (select (keyBefore (row0 t.val) (Scalar.muli (next t.val) 256#32)) (k0_pay15 (F := Ideal) (blockAt R (R + 256) (dot q k)))
          (broadcast S512x256 (Scalar.ofBits (F := Ideal) .f32 0x00000000#32))) from rfl).trans
      (by rw [lb2, eR, e2, lg_mask q k hR hC']; exact weight_eq q k R (R + 256))
  have d2 : k0_pay5 (F := Ideal) (k0_pay68 k0_pay1 k0_pay2 (row0 t.val) (colAt R (total q k)) (blockAt R (R + 256) (dot q k)) (blockAt R (R + 256) (dot o v))
      (colAt R fun i => ∑ j ∈ range (R + 256), lg q k i j) (colAt R fun i => ∑ j ∈ range (R + 256), gg q k v o i j) (next t.val) 256#32) sc
      = blockAt R (R + 256) (dz q k v o) :=
    (show _ = cot k0_pay2 (colAt R fun i => ∑ j ∈ range (R + 256), gg q k v o i j)
        (mulf (k0_pay67 k0_pay1 (row0 t.val) (colAt R (total q k)) (blockAt R (R + 256) (dot q k)) (colAt R fun i => ∑ j ∈ range (R + 256), lg q k i j) (next t.val) 256#32)
          (blockAt R (R + 256) (dot o v))) (exp (k0_pay66 (row0 t.val) (blockAt R (R + 256) (dot q k)) (next t.val) 256#32)) from rfl).trans
      (by rw [w2, lb2, mul_weights q k v o, exp_logBeta]; exact cot_eq q k v o R (R + 256))
  unfold ownBlock
  dsimp only
  rw [queries_eq, cotangents_eq, firstCol_eq, z2, v2, lb1, l1, w1, s1, s2, w2]
  unfold k0_pay8 k0_pay58 k0_pay59 k0_pay6 k0_pay60 k0_pay7
  dsimp only
  rw [d1, d2]
  refine congr (congrArg Prod.mk ?_) (congr (congrArg Prod.mk (accK_eq R R (dz q k v o) a q)) (congr (congrArg Prod.mk (accK_eq R (R + 256) (dz q k v o) a q))
    (congr (congrArg Prod.mk (accK_eq R R (wt q k) b o)) (accK_eq R (R + 256) (wt q k) b o))))
  refine (congrArg (fun X : FVec Ideal S512x128 .f32 => addf X _) (accQ_eq R R (dz q k v o) (fun i d => ∑ j ∈ range R, dz q k v o i j * k j d) k)).trans ?_
  refine (accQ_eq R (R + 256) (dz q k v o) _ k).trans ?_
  exact congrArg (rowsAt R) (funext fun i => funext fun d => by rw [← Finset.sum_range_add, ← Finset.sum_range_add])

variable (t : Fin 16)

/-- The carried values before the first block of keys. -/
theorem start_eq (DK DV : FVec Ideal S8192x128 .f32) {R : ℕ} :
    start (F := Ideal) (rowsAt R q) (rowsAt R o) (whole k) (whole v) DK DV = (carried q k v o R 0, DK, DV) := by
  have e32 (f : ℕ → ℕ → ℝ) : k0_pay32 (F := Ideal) = colAt R fun i => ∑ j ∈ range 0, f i j := by
    funext y; pointwise [k0_pay32]; simp
  have e33 : k0_pay33 (F := Ideal) = rowsAt R fun i d => ∑ j ∈ range 0, dz q k v o i j * k j d := by
    funext y; pointwise [k0_pay33]; simp
  have e34 : k0_pay34 (F := Ideal) (rowsAt R q) (rows256 (whole k) 0) = blockAt R 0 (dot q k) := by
    rw [rows256_whole k (by omega)]
    exact (congrArg (fun Q => k0_pay11 Q _) (queries_eq R q)).trans (dots_eq R 0 q k)
  have e35 : k0_pay35 (F := Ideal) (rowsAt R o) (rows256 (whole v) 0) = blockAt R 0 (dot o v) := by
    rw [rows256_whole v (by omega)]
    exact (congrArg (fun Q => k0_pay11 Q _) (queries_eq R o)).trans (dots_eq R 0 o v)
  unfold start
  rw [e33, e34, e35]
  exact congrArg (fun p : Carry Ideal => (p, DK, DV)) (congr (congrArg Prod.mk (e32 (lg q k))) (congrArg (fun c => (c, _)) (e32 (gg q k v o))))

/-- After `n` blocks of keys before the queries. -/
theorem inners_eq (a b : Rows) : ∀ n : ℕ, n ≤ 2 * t.val →
    inners (F := Ideal) (rowsAt (512 * t.val) q) (rowsAt (512 * t.val) o) (rowsAt (512 * t.val) fun i _ => total q k i) (whole k) (whole v)
      (carried q k v o (512 * t.val) 0, whole a, whole b) n
    = (carried q k v o (512 * t.val) (256 * n),
       whole fun j d => if j < 256 * n then a j d + ∑ x ∈ range 512, dz q k v o (512 * t.val + x) j * q (512 * t.val + x) d else a j d,
       whole fun j d => if j < 256 * n then b j d + ∑ x ∈ range 512, wt q k (512 * t.val + x) j * o (512 * t.val + x) d else b j d)
  | 0, _ => rfl
  | n + 1, h => by
    have ht := t.isLt
    show inner _ _ _ _ _ n (inners _ _ _ _ _ _ n) = _
    rw [inners_eq a b n (by omega), inner_eq q k v o n (by omega) (by omega)]
    have e (j : ℕ) : (256 * n ≤ j ∧ j < 256 * n + 256) ∧ ¬ j < 256 * n ∨ ¬ (256 * n ≤ j ∧ j < 256 * n + 256) := by omega
    refine congr (congrArg Prod.mk rfl) (congr (congrArg Prod.mk (congrArg whole ?_)) (congrArg whole ?_)) <;>
    · funext j d
      by_cases h1 : 256 * n ≤ j ∧ j < 256 * n + 256
      · rw [if_pos h1, if_neg (by omega), if_pos (by omega)]
      · rw [if_neg h1]
        by_cases h2 : j < 256 * n
        · rw [if_pos h2, if_pos (by omega)]
        · rw [if_neg h2, if_neg (by omega)]

/-- The block of queries `t`. -/
theorem outer_eq :
    outer (F := Ideal) (whole q) (whole k) (whole v) (whole fun i _ => total q k i) (whole o) t.val (whole (DKsum q k v o (512 * t.val)), whole (DVsum q k o (512 * t.val)))
    = (rowsAt (512 * t.val) (gradQ q k v o), whole (DKsum q k v o (512 * (t.val + 1))), whole (DVsum q k o (512 * (t.val + 1)))) := by
  have ht := t.isLt
  unfold outer
  rw [rows512_whole q (by omega), rows512_whole o (by omega), rows512_whole _ (by omega), start_eq, inners_eq q k v o t _ _ (2 * t.val) le_rfl]
  unfold own ownAt
  dsimp only
  rw [show 256 * (2 * t.val) = 512 * t.val by omega, rows256_whole k (by omega), rows256_whole k (by omega), rows256_whole v (by omega),
    rows256_whole _ (by omega), rows256_whole _ (by omega), rows256_whole _ (by omega), rows256_whole _ (by omega), own_eq]
  dsimp only
  rw [put_whole, put_whole, put_whole, put_whole]
  refine congr (congrArg Prod.mk (funext fun y => congrArg Real.toEReal ?_)) (congr (congrArg Prod.mk (congrArg whole ?_)) (congrArg whole ?_))
  · have hy : (y 0).val < 512 := (y 0).isLt
    refine Finset.sum_subset (Finset.range_subset_range.2 (by omega)) fun j _ hj => ?_
    rw [dz_zero (by simp at hj; omega), zero_mul]
  · funext j d
    have e : DKsum q k v o (512 * (t.val + 1)) j d = DKsum q k v o (512 * t.val) j d + ∑ x ∈ range 512, dz q k v o (512 * t.val + x) j * q (512 * t.val + x) d := by
      unfold DKsum; rw [show 512 * (t.val + 1) = 512 * t.val + 512 by omega, Finset.sum_range_add]
    rw [e]
    by_cases h : j < 512 * t.val + 512
    · split_ifs <;> first | rfl | omega
    · rw [if_neg (by omega), if_neg (by omega), if_neg (by omega), Finset.sum_eq_zero fun x hx => ?_, add_zero]
      rw [dz_zero (by simp at hx; omega), zero_mul]
  · funext j d
    have e : DVsum q k o (512 * (t.val + 1)) j d = DVsum q k o (512 * t.val) j d + ∑ x ∈ range 512, wt q k (512 * t.val + x) j * o (512 * t.val + x) d := by
      unfold DVsum; rw [show 512 * (t.val + 1) = 512 * t.val + 512 by omega, Finset.sum_range_add]
    rw [e]
    by_cases h : j < 512 * t.val + 512
    · split_ifs <;> first | rfl | omega
    · rw [if_neg (by omega), if_neg (by omega), if_neg (by omega), Finset.sum_eq_zero fun x hx => ?_, add_zero]
      rw [wt_zero (by simp at hx; omega), zero_mul]

/-- The two sums before the block of queries `t`. -/
theorem sums_whole : ∀ t : ℕ, t ≤ 16 →
    sums (F := Ideal) (whole q) (whole k) (whole v) (whole fun i _ => total q k i) (whole o) t
      = (whole (DKsum q k v o (512 * t)), whole (DVsum q k o (512 * t)))
  | 0, _ => by
    refine congr (congrArg Prod.mk (funext fun y => ?_)) (funext fun y => ?_)
    · pointwise [k0_pay3]; exact (congrArg Real.toEReal (show DKsum q k v o (512 * 0) (y 0).val (y 1) = 0 from by simp [DKsum])).symm
    · pointwise [k0_pay4]; exact (congrArg Real.toEReal (show DVsum q k o (512 * 0) (y 0).val (y 1) = 0 from by simp [DVsum])).symm
  | t + 1, h => by
    show (outer _ _ _ _ _ t (sums _ _ _ _ _ t)).2 = _
    rw [sums_whole t (by omega), outer_eq q k v o ⟨t, h⟩]

theorem headDQ_eq : headDQ (F := Ideal) (whole q) (whole k) (whole v) (whole fun i _ => total q k i) (whole o) = whole (gradQ q k v o) := by
  funext y
  have hy : (y 0).val < 8192 := (y 0).isLt
  unfold headDQ
  rw [sums_whole q k v o _ (by omega), outer_eq q k v o ⟨(y 0).val / 512, by omega⟩]
  exact congrArg (fun n => ((gradQ q k v o n (y 1) : ℝ) : EReal)) (by show 512 * ((y 0).val / 512) + (y 0).val % 512 = _; omega)

theorem headDK_eq : headDK (F := Ideal) (whole q) (whole k) (whole v) (whole fun i _ => total q k i) (whole o) = whole (gradK q k v o) := by
  unfold headDK
  rw [sums_whole q k v o 16 le_rfl]
  rfl

theorem headDV_eq : headDV (F := Ideal) (whole q) (whole k) (whole v) (whole fun i _ => total q k i) (whole o) = whole (gradV q k o) := by
  unfold headDV
  rw [sums_whole q k v o 16 le_rfl]
  rfl

end Head

end Cert.AttnProof

end
-- ==== Proof.AttnArrays.lean ====
/- What the attention gradient's call leaves in its three result arrays, over real arguments. -/
module

public import proofs.«01_k».proof.Proof.AttnHost
public import proofs.«01_k».proof.Proof.AttnHeadReal
public import proofs.«01_k».proof.Proof.AttnFrame

@[expose] public section

noncomputable section

namespace Cert.AttnProof

open AttnIdeal AttnIdeal.Gen RealOps Idealize.ShloMosaic TcCoe Idealize.SL.Sem
open Idealize.ShloMosaic.Pipeline (Dat)
open Finset

/-- Every window's block index at point `t`. -/
theorem idx : ∀ t : Fin cfg0.N, win0_0.index t = ![0, t.val] ∧ win0_1.index t = ![0, 16 + t.val] ∧ win0_2.index t = ![0, 32 + t.val]
    ∧ win0_3.index t = ![0, t.val] ∧ win0_5.index t = ![0, t.val] ∧ win0_6.index t = ![0, t.val] ∧ win0_7.index t = ![0, t.val]
    ∧ win0_8.index t = ![0, t.val] :=
  (by decide +kernel : ∀ t : Fin grid0.N, _)

/-- Rows for each head as one array: the head of a column is the column by 128. -/
def headwise (f : ℕ → Rows) : FVec Ideal S8192x2048 .bf16 := fun y =>
  ((f ((y 1).val / 128) (y 0).val ⟨(y 1).val % 128, Nat.mod_lt _ (by norm_num)⟩ : ℝ) : EReal)

theorem headwise_at (f : ℕ → Rows) {y : S8192x2048.Idx} {h i : ℕ} {d : Fin 128} (h0 : (y 0).val = i) (h1 : (y 1).val = 128 * h + d.val) :
    headwise f y = ((f h i d : ℝ) : EReal) := by
  have hd := d.isLt
  have e1 : (y 1).val / 128 = h := by omega
  have e2 : (⟨(y 1).val % 128, Nat.mod_lt _ (by norm_num)⟩ : Fin 128) = d := Fin.ext (by show (y 1).val % 128 = d.val; omega)
  unfold headwise
  rw [e2, e1, h0]

/-- The three results over real arguments. -/
def outDQ (X D : ℕ → ℕ → ℝ) : FVec Ideal S8192x2048 .bf16 :=
  headwise fun h => gradQ (cols X (128 * h)) (cols X (2048 + 128 * h)) (cols X (4096 + 128 * h)) (cols D (128 * h))
def outDK (X D : ℕ → ℕ → ℝ) : FVec Ideal S8192x2048 .bf16 :=
  headwise fun h => gradK (cols X (128 * h)) (cols X (2048 + 128 * h)) (cols X (4096 + 128 * h)) (cols D (128 * h))
def outDV (X D : ℕ → ℕ → ℝ) : FVec Ideal S8192x2048 .bf16 :=
  headwise fun h => gradV (cols X (128 * h)) (cols X (2048 + 128 * h)) (cols D (128 * h))

variable (m : (ℓ : Loc nD τ sig) → Buf (Elt Ideal) ℓ) (c : Dev nD) (X D : ℕ → ℕ → ℝ)

/-- A real array read at two indices of the same coordinates. -/
theorem asX_congr {y : S8192x6144.Idx} {i j : ℕ} (h0 : (y 0).val = i) (h1 : (y 1).val = j) : asX X y = ((X i j : ℝ) : EReal) := by
  subst h0 h1; rfl
theorem asD_congr {y : S8192x2048.Idx} {i j : ℕ} (h0 : (y 0).val = i) (h1 : (y 1).val = j) : asD D y = ((D i j : ℝ) : EReal) := by
  subst h0 h1; rfl

section Blocks
variable (hX : m ((c.tc : Thread nD τ).loc main_arg0) = asX X) (hD : m ((c.tc : Thread nD τ).loc main_arg1) = asD D) (t : Fin cfg0.N)

section
include hX
theorem block0 : iblk m c 0 t = whole (cols X (128 * t.val)) := by
  funext y
  refine (congrFun (read38 m c) _).trans ?_
  rw [hX]
  refine asX_congr X (i := (y 0).val) (j := 128 * t.val + (y 1).val) ?_ ?_ <;> blk_simp [idx t] <;> omega

theorem block1 : iblk m c 1 t = whole (cols X (2048 + 128 * t.val)) := by
  funext y
  refine (congrFun (read38 m c) _).trans ?_
  rw [hX]
  refine asX_congr X (i := (y 0).val) (j := 2048 + 128 * t.val + (y 1).val) ?_ ?_ <;> blk_simp [idx t] <;> omega

theorem block2 : iblk m c 2 t = whole (cols X (4096 + 128 * t.val)) := by
  funext y
  refine (congrFun (read38 m c) _).trans ?_
  rw [hX]
  refine asX_congr X (i := (y 0).val) (j := 4096 + 128 * t.val + (y 1).val) ?_ ?_ <;> blk_simp [idx t] <;> omega

theorem block3 : iblk m c 3 t = whole fun i _ => total (cols X (128 * t.val)) (cols X (2048 + 128 * t.val)) i := by
  have hN : t.val < 16 := lt_of_lt_of_eq t.isLt N_0
  funext y
  have hy : (y 1).val < 128 := (y 1).isLt
  refine (congrFun (read36_eq m c X hX) _).trans ?_
  refine (asD_congr _ (i := (y 0).val) (j := 128 * t.val + (y 1).val) ?_ ?_).trans ?_
  · blk_simp [idx t]
  · blk_simp [idx t]; omega
  · rw [show (128 * t.val + (y 1).val) / 128 = t.val by omega]
end

include hD in
theorem block5 : iblk m c 5 t = whole (cols D (128 * t.val)) := by
  funext y
  refine (congrFun (read39 m c) _).trans ?_
  rw [hD]
  refine asD_congr D (i := (y 0).val) (j := 128 * t.val + (y 1).val) ?_ ?_ <;> blk_simp [idx t] <;> omega

include hX hD

theorem final6 : (dats m 0 c).arrAt 6 (cfgs 0).N = outDQ X D := by
  refine (dats m 0 c).arrAt_eq_of_covers 6 _ (by decide +kernel) fun t _ y => ?_
  have hN : t.val < 16 := lt_of_lt_of_eq t.isLt N_0
  blk_simp
  rw [after_6, block0 m c X hX t, block1 m c X hX t, block2 m c X hX t, block3 m c X hX t, block5 m c D hD t, headDQ_eq]
  refine Eq.symm (headwise_at _ (h := t.val) (i := (y 0).val) (d := (y 1 : Fin 128)) (y := ((cfg0.win 6).blk t).view.emb y) ?_ ?_) <;> blk_simp [idx t] <;> omega

theorem final7 : (dats m 0 c).arrAt 7 (cfgs 0).N = outDK X D := by
  refine (dats m 0 c).arrAt_eq_of_covers 7 _ (by decide +kernel) fun t _ y => ?_
  have hN : t.val < 16 := lt_of_lt_of_eq t.isLt N_0
  blk_simp
  rw [after_7, block0 m c X hX t, block1 m c X hX t, block2 m c X hX t, block3 m c X hX t, block5 m c D hD t, headDK_eq]
  refine Eq.symm (headwise_at _ (h := t.val) (i := (y 0).val) (d := (y 1 : Fin 128)) (y := ((cfg0.win 7).blk t).view.emb y) ?_ ?_) <;> blk_simp [idx t] <;> omega

theorem final8 : (dats m 0 c).arrAt 8 (cfgs 0).N = outDV X D := by
  refine (dats m 0 c).arrAt_eq_of_covers 8 _ (by decide +kernel) fun t _ y => ?_
  have hN : t.val < 16 := lt_of_lt_of_eq t.isLt N_0
  blk_simp
  rw [after_8, block0 m c X hX t, block1 m c X hX t, block2 m c X hX t, block3 m c X hX t, block5 m c D hD t, headDV_eq]
  refine Eq.symm (headwise_at _ (h := t.val) (i := (y 0).val) (d := (y 1 : Fin 128)) (y := ((cfg0.win 8).blk t).view.emb y) ?_ ?_) <;> blk_simp [idx t] <;> omega

end Blocks
end Cert.AttnProof
-- ==== Proof.AttnRefReal.lean ====
/- The attention reference's steps at real numbers. -/
module

public import proofs.«01_k».proof.Proof.AttnRefTerm
public import proofs.«01_k».proof.Proof.AttnArrays

@[expose] public section

noncomputable section

namespace Cert.AttnProof

open AttnRefIdeal AttnRefIdeal.Gen RealOps Idealize.ShloMosaic TcCoe
open Finset

theorem inf_eq : Ideal.ofBits .f32 0x7F800000#32 = ⊤ := by simp [Ideal.ofBits, Ideal.ieee]

theorem softplus_coe (x : ℝ) : max (x : EReal) 0 + Ideal.log1p (Ideal.exp (-FloatOps.absf (F := Ideal) (φ := .f32) (x : EReal))) = ((-lsig (-x) : ℝ) : EReal) := by
  have h : (0 : ℝ) < 1 + Real.exp (-|x|) := by positivity
  unfold Ideal.log1p
  rw [absf_coe, ← EReal.coe_zero, max_coe, ← EReal.coe_neg, exp_coe, ← EReal.coe_one, ← EReal.coe_add, log_coe h, ← EReal.coe_add]
  refine congrArg Real.toEReal ?_
  unfold lsig
  rw [abs_neg, zero_sub, neg_sub, show min (-x) 0 = -max x 0 by rw [← neg_zero, min_neg_neg, neg_zero]]
  ring

theorem lsig_neg (x : ℝ) : lsig (-x) = lsig x - x := by
  unfold lsig
  rw [abs_neg]
  rcases le_total x 0 with h | h
  · rw [min_eq_right (by linarith), min_eq_left h]; ring
  · rw [min_eq_left (by linarith), min_eq_right h]; ring

theorem exp_lsig (x : ℝ) : Real.exp (lsig x) = (1 + Real.exp (-x))⁻¹ := by
  have h : (0 : ℝ) < 1 + Real.exp (0 - |x|) := by positivity
  unfold lsig
  rw [Real.exp_sub, Real.exp_log h]
  rcases le_total x 0 with h' | h'
  · rw [min_eq_left h', abs_of_nonpos h', zero_sub, neg_neg, div_eq_iff (by positivity), Real.exp_neg]
    have := Real.exp_pos x
    field_simp
    ring
  · rw [min_eq_right h', abs_of_nonneg h', zero_sub, Real.exp_zero, one_div]

/-- `1 − β`. -/
theorem exp_lsig_sub (x : ℝ) : Real.exp (lsig x - x) = 1 - Real.exp (lsig x) := by
  rw [Real.exp_sub, exp_lsig, Real.exp_neg]
  have := Real.exp_pos x
  field_simp
  ring

variable (X D : ℕ → ℕ → ℝ)

theorem refHeads_eq : refHeads (asD D) = heads fun h => cols D (128 * h) := by
  funext y
  pointwise [refHeads, heads, asD]
  rw [mul_comm]; rfl

theorem refQ_eq : refQ (asX X) = heads fun h => cols X (128 * h) := by
  funext y
  pointwise [refQ, refHeads, heads, asX]
  rw [mul_comm]; rfl

theorem refK_eq : refK (asX X) = heads fun h => cols X (2048 + 128 * h) := by
  funext y
  pointwise [refK, refHeads, heads, asX]
  rw [← add_assoc, mul_comm]; rfl

theorem refV_eq : refV (asX X) = heads fun h => cols X (4096 + 128 * h) := by
  funext y
  pointwise [refV, refHeads, heads, asX]
  rw [← add_assoc, mul_comm]; rfl

theorem refDots_eq (a b : ℕ → Rows) : refDots (heads a) (heads b) = prods fun h i j => dot (a h) (b h) i j := by
  funext y
  pointwise [refDots, prods, heads]
  simp only [← EReal.coe_mul, coe_sum]
  rfl

theorem refScale_eq (f : ℕ → ℕ → ℕ → ℝ) : refScale (prods f) = prods fun h i j => f h i j * sR := by
  funext y
  pointwise [refScale, prods]
  rw [scale_eq, ← EReal.coe_mul]

theorem negf_eq (f : ℕ → ℕ → ℕ → ℝ) : (Host.negf (prods f) : Prods) = prods fun h i j => -f h i j := by
  funext y
  pointwise [prods]
  rw [← EReal.coe_neg]

theorem softplus_eq (f : ℕ → ℕ → ℕ → ℝ) : softplus (prods f) = prods fun h i j => -lsig (-f h i j) := by
  funext y
  pointwise [softplus, prods, zeros]
  rw [if_neg (not_not.2 rfl)]
  exact softplus_coe _

theorem slope_eq (f g : ℕ → ℕ → ℕ → ℝ) : slope (prods f) (prods g) = prods fun h i j => Real.exp (f h i j - g h i j) := by
  funext y
  pointwise [slope, prods, zeros, infs]
  rw [inf_eq, if_neg (EReal.coe_ne_top _), if_neg (EReal.coe_ne_top _), ← EReal.coe_sub, exp_coe]

theorem masked_eq (f : ℕ → ℕ → ℕ → ℝ) : masked (prods f) = prods fun h i j => if j < i then f h i j else 0 := by
  funext y
  pointwise [masked, refMask, prods, zeros]
  rw [select_before (y 2).isLt (y 1).isLt]
  split_ifs <;> rfl

theorem sumsFrom_eq (f : ℕ → ℕ → ℕ → ℝ) : sumsFrom (prods f) = prods fun h i j => (∑ x ∈ range 8192, f h i x) - ∑ x ∈ range j, f h i x := by
  funext y
  refine (window_sum 0 8191 f _ _ _ (by pointwise) y).trans (congrArg Real.toEReal ?_)
  exact window_suffix (y 2).isLt _

theorem sumsUpto_eq (f : ℕ → ℕ → ℕ → ℝ) : sumsUpto (prods f) = prods fun h i j => ∑ x ∈ range (j + 1), f h i x := by
  funext y
  refine (window_sum 8191 0 f _ _ _ (by pointwise) y).trans (congrArg Real.toEReal ?_)
  exact window_prefix (N := 8192) (y 2).isLt _

theorem refCols_eq (f : ℕ → Rows) : refCols (heads f) = headwise f := by
  funext y
  pointwise [refCols, heads, headwise]

theorem mixQ_eq (z : ℕ → ℕ → ℕ → ℝ) (k : ℕ → Rows) : mixQ (prods z) (heads k) = heads fun h i d => ∑ j ∈ range 8192, z h i j * k h j d := by
  funext y
  pointwise [mixQ, heads, prods]
  simp only [← EReal.coe_mul, coe_sum]
  exact congrArg Real.toEReal (Fin.sum_univ_eq_sum_range (fun j => z (y 0).val (y 1).val j * k (y 0).val j (y 2)) 8192)

theorem mixK_eq (z : ℕ → ℕ → ℕ → ℝ) (q : ℕ → Rows) : mixK (prods z) (heads q) = heads fun h j d => ∑ i ∈ range 8192, z h i j * q h i d := by
  funext y
  pointwise [mixK, heads, prods]
  simp only [← EReal.coe_mul, coe_sum]
  exact congrArg Real.toEReal (Fin.sum_univ_eq_sum_range (fun i => z (y 0).val i (y 1).val * q (y 0).val i (y 2)) 8192)

theorem mixV_eq (o : ℕ → Rows) (a : ℕ → ℕ → ℕ → ℝ) : mixV (heads o) (prods a) = heads fun h j d => ∑ i ∈ range 8192, a h i j * o h i d := by
  funext y
  pointwise [mixV, heads, prods]
  simp only [← EReal.coe_mul, coe_sum]
  refine congrArg Real.toEReal (Eq.trans ?_ (Fin.sum_univ_eq_sum_range (fun i => a (y 0).val i (y 1).val * o (y 0).val i (y 2)) 8192))
  exact Finset.sum_congr rfl fun i _ => mul_comm _ _

/-- The weights before the mask, and the masked ones. -/
theorem refExp_eq (q k : ℕ → Rows) : refExp (prods fun h i j => zed (q h) (k h) i j)
    = prods fun h i j => Real.exp (lsig (zed (q h) (k h) i j) + (total (q h) (k h) i - ∑ x ∈ range (j + 1), lg (q h) (k h) i x)) := by
  have hl : masked (Host.negf (softplus (Host.negf (Host.negf (prods fun h i j => zed (q h) (k h) i j))))) = prods fun h i j => lg (q h) (k h) i j := by
    rw [negf_eq, negf_eq, softplus_eq, negf_eq, masked_eq]
    refine congrArg prods (funext fun h => funext fun i => funext fun j => ?_)
    simp only [neg_neg, lsig_neg]
    rfl
  unfold refExp
  rw [hl, negf_eq, softplus_eq, negf_eq]
  dsimp only
  rw [sumsFrom_eq]
  funext y
  pointwise [prods]
  simp only [← EReal.coe_sub, ← EReal.coe_add]
  refine (exp_coe _).trans (congrArg (fun t => ((Real.exp t : ℝ) : EReal)) ?_)
  unfold total
  rw [neg_neg, neg_neg, sum_range_succ _ (y 2).val, ← sub_sub, sub_right_comm]

theorem refWeights_eq (q k : ℕ → Rows) : masked (refExp (prods fun h i j => zed (q h) (k h) i j)) = prods fun h i j => wt (q h) (k h) i j := by
  rw [refExp_eq, masked_eq]
  rfl

theorem refG_eq (q k v o : ℕ → Rows) : refG (prods fun h i j => dot (o h) (v h) i j) (refExp (prods fun h i j => zed (q h) (k h) i j))
    = prods fun h i j => gg (q h) (k h) (v h) (o h) i j := by
  unfold refG
  rw [refExp_eq, masked_eq]
  funext y
  pointwise [prods]
  rw [← EReal.coe_mul]
  refine congrArg Real.toEReal ?_
  unfold gg wt
  split_ifs
  · exact mul_comm _ _
  · simp

theorem refDZ_eq (q k v o : ℕ → Rows) : refDZ (prods fun h i j => zed (q h) (k h) i j) (prods fun h i j => gg (q h) (k h) (v h) (o h) i j)
    = prods fun h i j => dz (q h) (k h) (v h) (o h) i j := by
  have hu : masked (addf (Host.negf (prods fun h i j => gg (q h) (k h) (v h) (o h) i j)) (sumsUpto (prods fun h i j => gg (q h) (k h) (v h) (o h) i j)))
      = prods fun h i j => if j < i then ∑ x ∈ range j, gg (q h) (k h) (v h) (o h) i x else 0 := by
    rw [negf_eq, sumsUpto_eq, ← masked_eq]
    refine congrArg masked (funext fun y => ?_)
    pointwise [prods]
    rw [← EReal.coe_add]
    refine congrArg Real.toEReal ?_
    rw [sum_range_succ]; ring
  unfold refDZ
  rw [hu]
  simp only [negf_eq, softplus_eq, slope_eq, neg_neg]
  funext y
  pointwise [prods, refScale]
  simp only [← EReal.coe_mul, ← EReal.coe_neg, ← EReal.coe_add, scale_eq]
  refine congrArg Real.toEReal ?_
  unfold dz beta
  generalize zed (q (y 0).val) (k (y 0).val) (y 1).val (y 2).val = z
  rw [show z - -lsig (-z) = lsig z by rw [lsig_neg]; ring, show -z - -lsig z = lsig z - z by ring, exp_lsig_sub]
  split_ifs with h
  · ring
  · simp [gg, wt, h]

theorem refGrad_eq : refGrad (asX X) (asD D) = prods fun h i j => dz (cols X (128 * h)) (cols X (2048 + 128 * h)) (cols X (4096 + 128 * h)) (cols D (128 * h)) i j := by
  unfold refGrad refZ
  rw [refQ_eq, refK_eq, refV_eq, refHeads_eq, refDots_eq, refDots_eq, refScale_eq]
  rw [show (prods fun h i j => dot (cols X (128 * h)) (cols X (2048 + 128 * h)) i j * sR) = prods fun h i j => zed (cols X (128 * h)) (cols X (2048 + 128 * h)) i j from rfl,
    refG_eq (fun h => cols X (128 * h)) (fun h => cols X (2048 + 128 * h)), refDZ_eq]

theorem refDQ_eq : refDQ (asX X) (asD D) = outDQ X D := by
  unfold refDQ
  rw [refGrad_eq, refK_eq, mixQ_eq, refCols_eq]
  rfl

theorem refDK_eq : refDK (asX X) (asD D) = outDK X D := by
  unfold refDK
  rw [refGrad_eq, refQ_eq, mixK_eq, refCols_eq]
  rfl

theorem refDV_eq : refDV (asX X) (asD D) = outDV X D := by
  unfold refDV refZ
  rw [refQ_eq, refK_eq, refHeads_eq, refDots_eq, refScale_eq,
    show (prods fun h i j => dot (cols X (128 * h)) (cols X (2048 + 128 * h)) i j * sR) = prods fun h i j => zed (cols X (128 * h)) (cols X (2048 + 128 * h)) i j from rfl,
    refWeights_eq, mixV_eq, refCols_eq]
  rfl

end Cert.AttnProof
-- ==== Proof.AttnClaims.lean ====
module
public import proofs.«01_k».proof.Proof.AttnBits
public import proofs.«01_k».proof.Proof.AttnRefReal
public import proofs.«01_k».proof.Proof.Finite
public import proofs.«01_k».proof.Proof.Gen.Pre_attn_finite

/-! The claims about the attention's backward call that speak of its reference. -/

@[expose] public section
noncomputable section
namespace Cert.AttnProof
open Idealize.ShloMosaic Idealize.SL.Sem Cert.Finite

/-- The frame of the reference. -/
theorem ref_frame : quiescent_AttnRefIdeal := fun m ρ _ =>
  (θ_run AttnRefIdeal.defs _ _).mono (fun r h => ⟨fun c => (h c).2.2.2, sem_eq_zero_of_no_sems (by decide) r.2⟩)
    (AttnRefIdeal.Value.run (F := Ideal) m ρ)

variable (m : (ℓ : Loc AttnIdeal.nD AttnIdeal.τ AttnIdeal.sig) → Buf (Elt Ideal) ℓ) (c : Dev AttnIdeal.nD)

/-- The tables of the two arguments. -/
def argX : ℕ → ℕ → ℝ := table (a := 8192) (b := 6144) (m ((c.tc : Thread _ _).loc AttnIdeal.main_arg0))
def argD : ℕ → ℕ → ℝ := table (a := 8192) (b := 2048) (m ((c.tc : Thread _ _).loc AttnIdeal.main_arg1))

theorem args_real (h : Pre_AttnIdeal_attn_finite m) :
    m ((c.tc : Thread _ _).loc AttnIdeal.main_arg0) = asX (argX m c) ∧ m ((c.tc : Thread _ _).loc AttnIdeal.main_arg1) = asD (argD m c) := by
  have h' := IntOp.andi_eq_one.1 (congrFun (h c) default)
  exact ⟨funext fun y => table_at _ (real_of_all _ _ _ _ _ _ h'.1) y, funext fun y => table_at _ (real_of_all _ _ _ _ _ _ h'.2) y⟩

/-- The call's three results are the reference's, at finite arguments. -/
theorem algebraic : algebraic_AttnIdeal_AttnRefIdeal_pre_attn_finite := fun m ρ m' ρ' hpre hag =>
  ⟨fun c => outDQ (argX m c) (argD m c), fun c => outDK (argX m c) (argD m c), fun c => outDV (argX m c) (argD m c),
   (θ_run AttnIdeal.defs _ _).mono (fun _ h c =>
       ⟨((h.1.1 c).1 6).trans (final6 m c _ _ (args_real m c hpre).1 (args_real m c hpre).2),
        ((h.1.1 c).1 7).trans (final7 m c _ _ (args_real m c hpre).1 (args_real m c hpre).2),
        ((h.1.1 c).1 8).trans (final8 m c _ _ (args_real m c hpre).1 (args_real m c hpre).2), h.2.1 c⟩)
     (θ_run_and (run_main m ρ) (frame m ρ)),
   (θ_run AttnRefIdeal.defs _ _).mono (fun _ h c =>
       ⟨(h c).1.trans ((out0 m' c).trans (by rw [(hag c).1, (hag c).2, (args_real m c hpre).1, (args_real m c hpre).2]; exact refDQ_eq _ _)),
        (h c).2.1.trans ((out1 m' c).trans (by rw [(hag c).1, (hag c).2, (args_real m c hpre).1, (args_real m c hpre).2]; exact refDK_eq _ _)),
        (h c).2.2.1.trans ((out2 m' c).trans (by rw [(hag c).1, (hag c).2, (args_real m c hpre).1, (args_real m c hpre).2]; exact refDV_eq _ _)), (h c).2.2.2⟩)
     (AttnRefIdeal.Value.run (F := Ideal) m' ρ')⟩
-- ==== Proof.NormBlock.lean ====
/- The norm's gradient: what one block of 512 rows computes. -/
module

public import proofs.«01_k».proof.Proof.Gen.NormIdeal.Frame
public import proofs.«01_k».proof.Proof.RowNorm

@[expose] public section

noncomputable section

namespace Cert.NormProof

open NormIdeal NormIdeal.Gen RowNorm Idealize.ShloMosaic TcCoe Idealize.SL.Sem

abbrev Tile : Type := FVec Ideal S512x2048 .f32
abbrev Line : Type := FVec Ideal S1x2048 .f32

def tileRow (v : Tile) (r : Fin 512) : Row := fun k => v (ix2 r k)
def dnRow (v0 : Tile) (v13 v12 : Line) (r : Fin 512) : Row := fun k => v0 (ix2 r k) * (1 + v13 (ix2 0 k)) * v12 (ix2 0 k)

theorem pay6_at (v1 : Tile) (r : Fin 512) : k0_pay6 (F := Ideal) v1 (ix2 r 0) = rs (tileRow v1 r) := by
  pointwise [k0_pay6]
  rfl

theorem pay7_at (v1 : Tile) (r : Fin 512) (j : Fin 2048) : k0_pay7 (F := Ideal) v1 (ix2 r j) = v1 (ix2 r j) * rs (tileRow v1 r) := by
  rw [← pay6_at]
  pointwise [k0_pay7]

theorem pay8_at (v0 : Tile) (v13 : Line) (r : Fin 512) (j : Fin 2048) : k0_pay8 (F := Ideal) v0 v13 (ix2 r j) = v0 (ix2 r j) * (1 + v13 (ix2 0 j)) := by
  pointwise [k0_pay8]

theorem pay9_at (v0 v1 : Tile) (v12 v13 : Line) (v20 : Tile) (r : Fin 512) (j : Fin 2048) :
    k0_pay9 (F := Ideal) v0 v1 v12 v13 v20 (ix2 r j) = v20 (ix2 r j) + callRow (tileRow v1 r) (dnRow v0 v13 v12 r) j := by
  unfold callRow
  rw [← pay6_at]
  simp only [tileRow, dnRow, ← pay8_at]
  pointwise [k0_pay9, k0_pay7]
  rfl

theorem pay10_at (v0 v1 : Tile) (v13 : Line) (j : Fin 2048) :
    k0_pay10 (F := Ideal) v0 v1 v13 (ix2 0 j) = ∑ r : Fin 512, v0 (ix2 r j) * (1 + v13 (ix2 0 j)) * (v1 (ix2 r j) * rs (tileRow v1 r)) := by
  simp only [← pay8_at, ← pay7_at]
  pointwise [k0_pay10]

theorem pay11_at (v0 v1 : Tile) (v12 : Line) (j : Fin 2048) :
    k0_pay1 (k0_pay11 (F := Ideal) v0 v1 v12) (ix2 0 j) = ∑ r : Fin 512, v0 (ix2 r j) * (v1 (ix2 r j) * rs (tileRow v1 r) * v12 (ix2 0 j)) := by
  simp only [← pay7_at]
  pointwise [k0_pay1, k0_pay11]

theorem pay2_at (v0 : Tile) (j : Fin 2048) : k0_pay2 (F := Ideal) v0 (ix2 0 j) = ∑ r : Fin 512, v0 (ix2 r j) := by
  pointwise [k0_pay2]

theorem pay3_at (p acc : Line) (j : Fin 2048) : k0_pay3 (F := Ideal) p acc (ix2 0 j) = acc (ix2 0 j) + p (ix2 0 j) := by
  pointwise [k0_pay3]

theorem pay4_at (v : Tile) (acc : Line) (j : Fin 2048) : k0_pay4 (F := Ideal) v acc (ix2 0 j) = acc (ix2 0 j) + k0_pay1 v (ix2 0 j) := by
  pointwise [k0_pay4]

theorem pay5_at (v : Tile) (acc : Line) (j : Fin 2048) : k0_pay5 (F := Ideal) v acc (ix2 0 j) = acc (ix2 0 j) + k0_pay2 v (ix2 0 j) := by
  pointwise [k0_pay5]

end Cert.NormProof

end
-- ==== Proof.NormRows.lean ====
/- The reference's norm and its gradient, array by array: what each holds at an index, by rows. -/
module

public import proofs.«01_k».proof.Proof.Gen.NormRefIdeal.Run
public import proofs.«01_k».proof.Proof.RowNorm

@[expose] public section

noncomputable section

namespace Cert.NormRows

open NormRefIdeal NormRefIdeal.Gen RowNorm Idealize.ShloMosaic TcCoe Idealize.SL.Sem

abbrev Wide : Type := FVec Ideal S8192x2048 .f32
abbrev Line : Type := FVec Ideal S1x2048 .f32
abbrev Col : Type := FVec Ideal S8192x1 .f32

def rowOf (x : Wide) (i : Fin 8192) : Row := fun k => x (ix2 i k)

def const (b : BitVec 32) : Col := broadcastInDim S8192x1 ![] bcast_S_S8192x1 (constant (F := Ideal) S_ .f32 b)
def spread (v : Line) : Wide := broadcastInDim S8192x2048 ![0, 1] bcast_S1x2048_S8192x2048_0_1 v
def spreadCol (v : Col) : Wide := broadcastInDim S8192x2048 ![0, 1] bcast_S8192x1_S8192x2048_0_1 v
def sumRows (x : Wide) : FVec Ideal S8192 .f32 := Host.reduceAdd x (constant S_ .f32 0x00000000#32) reducesTo_S8192x2048_S8192_d1 h_S_
def sumCols (x : Wide) : Line := shapeCast S1x2048 (Host.reduceAdd x (constant S_ .f32 0x00000000#32) reducesTo_S8192x2048_S2048_d0 h_S_) shapeCasts_S2048_S1x2048

def MS (x : Wide) : Col := addf (Host.divf (broadcastInDim S8192x1 ![0] bcast_S8192_S8192x1_0 (sumRows (mulf x x))) (const 0x45000000#32)) (const 0x358637BD#32)
def RS (x : Wide) : Col := Host.rsqrt (MS x)
def NORMED (x : Wide) : Wide := mulf x (spreadCol (RS x))
def SLOPE (x d : Wide) : Wide := broadcastInDim S8192x2048 ![0] bcast_S8192_S8192x2048_0
  (Host.reduceAdd (Host.divf (mulf (shapeCast S8192x1 (sumRows (mulf x d)) shapeCasts_S8192_S8192x1) (mulf (const 0xBF000000#32) (Host.divf (RS x) (MS x))))
    (const 0x45000000#32)) (constant S_ .f32 0x00000000#32) reducesTo_S8192x1_S8192_d1 h_S_)

theorem const_at (b : BitVec 32) (i : Fin 8192) : const b (ix2 i 0) = Ideal.ofBits .f32 b := by
  pointwise [const]

theorem spread_at (v : Line) (i : Fin 8192) (j : Fin 2048) : spread v (ix2 i j) = v (ix2 0 j) := by
  pointwise [spread]

theorem spreadCol_at (v : Col) (i : Fin 8192) (j : Fin 2048) : spreadCol v (ix2 i j) = v (ix2 i 0) := by
  pointwise [spreadCol]

theorem sumCols_at (x : Wide) (j : Fin 2048) : sumCols x (ix2 0 j) = ∑ i : Fin 8192, x (ix2 i j) := by
  pointwise [sumCols]

theorem MS_at (x : Wide) (i : Fin 8192) : MS x (ix2 i 0) = ms (rowOf x i) := by
  pointwise [MS, sumRows, const]
  rfl

theorem RS_at (x : Wide) (i : Fin 8192) : RS x (ix2 i 0) = rs (rowOf x i) := by
  unfold rs
  rw [← MS_at]
  rfl

theorem NORMED_at (x : Wide) (i : Fin 8192) (j : Fin 2048) : NORMED x (ix2 i j) = x (ix2 i j) * rs (rowOf x i) := by
  rw [← RS_at, ← spreadCol_at (RS x) i j]
  rfl

theorem SLOPE_at (x d : Wide) (i : Fin 8192) (j : Fin 2048) : SLOPE x d (ix2 i j) = pull (rowOf x i) (rowOf d i) := by
  unfold pull
  rw [← RS_at, ← MS_at]
  pointwise [SLOPE, sumRows, const]
  exact Fintype.sum_unique (ι := Fin 1) _

end Cert.NormRows

end
-- ==== Proof.NormValue.lean ====
/- The norm's gradient: what the call's four result arrays hold. -/
module

public import proofs.«01_k».proof.Proof.Gen.NormIdeal.Value
public import proofs.«01_k».proof.Proof.NormBlock
public import proofs.«01_k».proof.Proof.NormRows

@[expose] public section

noncomputable section

namespace Cert.NormProof

open NormIdeal NormIdeal.Gen RowNorm Idealize.ShloMosaic TcCoe Idealize.SL.Sem
open Idealize.ShloMosaic.Pipeline (Dat)
open NormRows (Wide)

/-- The cotangent of the normed row, before the gain and with it. -/
def dgAt (D : Wide) (SC : Line) (i : Fin 8192) (k : Fin 2048) : EReal := D (ix2 i k) * (1 + SC (ix2 0 k))
def dnOf (D : Wide) (SC G : Line) (i : Fin 8192) : Row := fun k => dgAt D SC i k * G (ix2 0 k)
def nAt (H : Wide) (i : Fin 8192) (k : Fin 2048) : EReal := H (ix2 i k) * rs (NormRows.rowOf H i)

def outH (H : Wide) (G SC : Line) (RES D : Wide) : Wide := fun y => RES y + callRow (NormRows.rowOf H (y 0)) (dnOf D SC G (y 0)) (y 1)
def outG (H : Wide) (SC : Line) (D : Wide) : Line := fun y => ∑ i : Fin 8192, dgAt D SC i (y 1) * nAt H i (y 1)
def outSc (H : Wide) (G : Line) (D : Wide) : Line := fun y => ∑ i : Fin 8192, D (ix2 i (y 1)) * (nAt H i (y 1) * G (ix2 0 (y 1)))
def outSh (D : Wide) : Line := fun y => ∑ i : Fin 8192, D (ix2 i (y 1))

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ) (c : Dev nD)

def argH : Wide := m ((c.tc : Thread nD τ).loc main_arg0)
def argG : Line := m ((c.tc : Thread nD τ).loc main_arg1)
def argS : Line := m ((c.tc : Thread nD τ).loc main_arg2)
def argR : Wide := m ((c.tc : Thread nD τ).loc main_arg4)
def argD : Wide := m ((c.tc : Thread nD τ).loc main_arg5)

/-- The row of the array that row `r` of block `t` is. -/
def at_ (t : Fin cfg0.N) (r : Fin 512) : Fin 8192 := ⟨t.val * 512 + r.val, by have : t.val < 16 := lt_of_lt_of_eq t.isLt N_0; omega⟩

theorem blkD (t : Fin cfg0.N) (r : Fin 512) (k : Fin 2048) : (iblk m c 0 t : Tile) (ix2 r k) = argD m c (ix2 (at_ t r) k) := by
  blk_point [iblk, V, idx t, argD, at_]
theorem blkH (t : Fin cfg0.N) (r : Fin 512) (k : Fin 2048) : (iblk m c 1 t : Tile) (ix2 r k) = argH m c (ix2 (at_ t r) k) := by
  blk_point [iblk, V, idx t, argH, at_]
theorem blkR (t : Fin cfg0.N) (r : Fin 512) (k : Fin 2048) : (iblk m c 2 t : Tile) (ix2 r k) = argR m c (ix2 (at_ t r) k) := by
  blk_point [iblk, V, idx t, argR, at_]
theorem blkG (t : Fin cfg0.N) (k : Fin 2048) : (iblk m c 3 t : Line) (ix2 0 k) = argG m c (ix2 0 k) := by
  blk_point [iblk, V, idx t, argG]
theorem blkS (t : Fin cfg0.N) (k : Fin 2048) : (iblk m c 4 t : Line) (ix2 0 k) = argS m c (ix2 0 k) := by
  blk_point [iblk, V, idx t, argS]

theorem row_eq' (t : Fin cfg0.N) (r : Fin 512) : tileRow (iblk m c 1 t) r = NormRows.rowOf (argH m c) (at_ t r) := funext fun k => blkH m c t r k

theorem dn_eq (t : Fin cfg0.N) (r : Fin 512) : dnRow (iblk m c 0 t) (iblk m c 4 t) (iblk m c 3 t) r = dnOf (argD m c) (argS m c) (argG m c) (at_ t r) := by
  funext k
  unfold dnRow dnOf dgAt
  rw [blkD, blkG, blkS]

theorem blk9 (t : Fin cfg0.N) (r : Fin 512) (j : Fin 2048) :
    k0_pay9 (F := Ideal) (iblk m c 0 t) (iblk m c 1 t) (iblk m c 3 t) (iblk m c 4 t) (iblk m c 2 t) (ix2 r j)
      = outH (argH m c) (argG m c) (argS m c) (argR m c) (argD m c) (ix2 (at_ t r) j) := by
  rw [pay9_at, row_eq', dn_eq, blkR]
  rfl

theorem final5 : (dats m 0 c).arrAt 5 (cfgs 0).N = outH (argH m c) (argG m c) (argS m c) (argR m c) (argD m c) := by
  refine (dats m 0 c).arrAt_eq_of_covers 5 _ (by decide +kernel) fun t _ y => ?_
  have hN : t.val < 16 := lt_of_lt_of_eq t.isLt N_0
  obtain ⟨r, hr⟩ : ∃ r : Fin 512, r = y 0 := ⟨y 0, rfl⟩
  obtain ⟨n, hn⟩ : ∃ n : Fin 2048, n = y 1 := ⟨y 1, rfl⟩
  have hy : (cfg0.win 5).xinj (cfg0.grid.coords t) y = (ix2 r n : S512x2048.Idx) := by
    funext k; fin_cases k
    · exact hr.symm
    · exact hn.symm
  have he : ((cfg0.win 5).blk t).view.emb y = (ix2 (at_ t r) n : S8192x2048.Idx) := by
    funext k; fin_cases k <;> refine Fin.ext ?_
    · show ((((cfg0.win 5).blk t).view.emb y) 0).val = t.val * 512 + r.val
      rw [hr]; blk_simp [idx t]
    · show ((((cfg0.win 5).blk t).view.emb y) 1).val = n.val
      rw [hn]; blk_simp [idx t]
  rw [he, ← blk9, after0_5]
  refine (cast_eq _ _).trans ?_
  rw [hy]
  by_cases h : t.val % 16 = 0
  · rw [outsAt0_A m c t h (by omega)]
    frame_out
  · rw [outsAt0_B m c t h (by omega)]
    frame_out

/-- An index of a line is a column. -/
theorem column (j : S1x2048.Idx) : ∃ l : Fin 2048, j = ix2 0 l := ⟨j 1, funext fun k => by
  fin_cases k
  · exact Subsingleton.elim (α := Fin 1) _ _
  · rfl⟩

/-- What block `t` adds to column `l` of the result in window 6. -/
theorem part6 (t : Fin cfg0.N) (l : Fin 2048) : k0_pay10 (F := Ideal) (iblk m c 0 t) (iblk m c 1 t) (iblk m c 4 t) (ix2 0 l) = ∑ r : Fin 512, dgAt (argD m c) (argS m c) (at_ t r) l * nAt (argH m c) (at_ t r) l := by
  rw [pay10_at]
  refine Finset.sum_congr rfl fun r _ => ?_
  rw [blkD, blkS, blkH, row_eq']
  rfl

theorem final6 : (dats m 0 c).arrAt 6 (cfgs 0).N = outG (argH m c) (argS m c) (argD m c) := by
  refine (dats m 0 c).arrAt_eq_of_after_last 6 t0_15 (by decide +kernel) _ fun j => ?_
  blk_simp
  have hN (t : Fin cfg0.N) : t.val < 16 := lt_of_lt_of_eq t.isLt N_0
  obtain ⟨l, rfl⟩ := column j
  rw [after0_6, Pipeline.eq_sum_fin_of_reset_step_apply_last (fun n h => (outsAt0 m c n h).2.1) 16 (fun _ => 0)
    (fun t => k0_pay10 (F := Ideal) (iblk m c 0 t) (iblk m c 1 t) (iblk m c 4 t))
    (fun t h j => by rw [outsAt0_A m c t h (by have := hN t; omega)]; frame_out; rw [zero_add])
    (fun t h j => by rw [outsAt0_B m c t h (by have := hN t; omega)]; obtain ⟨l, rfl⟩ := column j; frame_out; rw [pay3_at])
    (le_of_eq N_0) t0_15 rfl (ix2 0 l), zero_add]
  simp only [part6]
  exact Fin.sum_mul_add_congr fun t r hl => by rfl

/-- What block `t` adds to column `l` of the result in window 7. -/
theorem part7 (t : Fin cfg0.N) (l : Fin 2048) : k0_pay1 (k0_pay11 (F := Ideal) (iblk m c 0 t) (iblk m c 1 t) (iblk m c 3 t)) (ix2 0 l) = ∑ r : Fin 512, argD m c (ix2 (at_ t r) l) * (nAt (argH m c) (at_ t r) l * argG m c (ix2 0 l)) := by
  rw [pay11_at]
  refine Finset.sum_congr rfl fun r _ => ?_
  rw [blkD, blkG, blkH, row_eq']
  rfl

theorem final7 : (dats m 0 c).arrAt 7 (cfgs 0).N = outSc (argH m c) (argG m c) (argD m c) := by
  refine (dats m 0 c).arrAt_eq_of_after_last 7 t0_15 (by decide +kernel) _ fun j => ?_
  blk_simp
  have hN (t : Fin cfg0.N) : t.val < 16 := lt_of_lt_of_eq t.isLt N_0
  obtain ⟨l, rfl⟩ := column j
  rw [after0_7, Pipeline.eq_sum_fin_of_reset_step_apply_last (fun n h => (outsAt0 m c n h).2.2.1) 16 (fun _ => 0)
    (fun t => k0_pay1 (k0_pay11 (F := Ideal) (iblk m c 0 t) (iblk m c 1 t) (iblk m c 3 t)))
    (fun t h j => by rw [outsAt0_A m c t h (by have := hN t; omega)]; frame_out; rw [zero_add])
    (fun t h j => by rw [outsAt0_B m c t h (by have := hN t; omega)]; obtain ⟨l, rfl⟩ := column j; frame_out; rw [pay4_at])
    (le_of_eq N_0) t0_15 rfl (ix2 0 l), zero_add]
  simp only [part7]
  exact Fin.sum_mul_add_congr fun t r hl => by rfl

/-- What block `t` adds to column `l` of the result in window 8. -/
theorem part8 (t : Fin cfg0.N) (l : Fin 2048) : k0_pay2 (F := Ideal) (iblk m c 0 t) (ix2 0 l) = ∑ r : Fin 512, argD m c (ix2 (at_ t r) l) := by
  rw [pay2_at]
  refine Finset.sum_congr rfl fun r _ => ?_
  rw [blkD]

theorem final8 : (dats m 0 c).arrAt 8 (cfgs 0).N = outSh (argD m c) := by
  refine (dats m 0 c).arrAt_eq_of_after_last 8 t0_15 (by decide +kernel) _ fun j => ?_
  blk_simp
  have hN (t : Fin cfg0.N) : t.val < 16 := lt_of_lt_of_eq t.isLt N_0
  obtain ⟨l, rfl⟩ := column j
  rw [after0_8, Pipeline.eq_sum_fin_of_reset_step_apply_last (fun n h => (outsAt0 m c n h).2.2.2) 16 (fun _ => 0)
    (fun t => k0_pay2 (F := Ideal) (iblk m c 0 t))
    (fun t h j => by rw [outsAt0_A m c t h (by have := hN t; omega)]; frame_out; rw [zero_add])
    (fun t h j => by rw [outsAt0_B m c t h (by have := hN t; omega)]; obtain ⟨l, rfl⟩ := column j; frame_out; rw [pay5_at])
    (le_of_eq N_0) t0_15 rfl (ix2 0 l), zero_add]
  simp only [part8]
  exact Fin.sum_mul_add_congr fun t r hl => by rfl

end Cert.NormProof

end
-- ==== Proof.NormRef.lean ====
/- What the reference of the norm's gradient computes, and that it is what the call computes. -/
module

public import proofs.«01_k».proof.Proof.NormValue

@[expose] public section

noncomputable section

namespace Cert.NormProof

open NormRefIdeal NormRefIdeal.Gen RowNorm NormRows Idealize.ShloMosaic TcCoe Idealize.SL.Sem

def plusOne (SC : Line) : Line := addf (broadcastInDim S1x2048 ![] bcast_S_S1x2048 (constant (F := Ideal) S_ .f32 0x3F800000#32)) SC
def same (D : Wide) : Wide := shapeCast S8192x2048 D shapeCasts_S8192x2048_S8192x2048
def DG (D : Wide) (SC : Line) : Wide := mulf (same D) (spread (plusOne SC))
def DN (D : Wide) (SC G : Line) : Wide := mulf (DG D SC) (spread G)

/-- The reference's four results. -/
def REFH (H : Wide) (G SC : Line) (RES D : Wide) : Wide :=
  addf (addf (addf RES (mulf (DN D SC G) (spreadCol (RS H)))) (mulf H (SLOPE H (DN D SC G)))) (mulf (SLOPE H (DN D SC G)) H)
def REFG (H : Wide) (SC : Line) (D : Wide) : Line := sumCols (mulf (NORMED H) (DG D SC))
def REFSc (H : Wide) (G : Line) (D : Wide) : Line := sumCols (mulf (mulf (NORMED H) (spread G)) (same D))
def REFSh (D : Wide) : Line := sumCols D

theorem plusOne_at (SC : Line) (j : Fin 2048) : plusOne SC (ix2 0 j) = 1 + SC (ix2 0 j) := by
  pointwise [plusOne]

theorem same_at (D : Wide) (i : Fin 8192) (j : Fin 2048) : same D (ix2 i j) = D (ix2 i j) := by
  pointwise [same]

theorem DG_at (D : Wide) (SC : Line) (i : Fin 8192) (j : Fin 2048) : DG D SC (ix2 i j) = dgAt D SC i j := by
  unfold dgAt
  rw [← plusOne_at, ← same_at D, ← spread_at (plusOne SC) i j]
  rfl

theorem DN_row (D : Wide) (SC G : Line) (i : Fin 8192) : rowOf (DN D SC G) i = dnOf D SC G i := by
  funext j
  unfold dnOf
  rw [← DG_at, ← spread_at G i j]
  rfl

theorem REFG_eq (H : Wide) (SC : Line) (D : Wide) : REFG H SC D = outG H SC D := by
  funext y
  obtain ⟨l, rfl⟩ := column y
  unfold REFG
  rw [sumCols_at]
  refine Finset.sum_congr rfl fun i _ => ?_
  refine (mul_comm _ _).trans (congrArg₂ (· * ·) (DG_at D SC i l) (NORMED_at H i l))

theorem REFSc_eq (H : Wide) (G : Line) (D : Wide) : REFSc H G D = outSc H G D := by
  funext y
  obtain ⟨l, rfl⟩ := column y
  unfold REFSc
  rw [sumCols_at]
  refine Finset.sum_congr rfl fun i _ => ?_
  refine (mul_comm _ _).trans (congrArg₂ (· * ·) (same_at D i l) (congrArg₂ (· * ·) (NORMED_at H i l) (spread_at G i l)))

theorem REFSh_eq (D : Wide) : REFSh D = outSh D := by
  funext y
  obtain ⟨l, rfl⟩ := column y
  exact sumCols_at D l

/-- The first result: the row's two gradients agree where the row and its cotangent are real. -/
theorem REFH_eq (H : Wide) (G SC : Line) (RES D : Wide) (h : ∀ y, H y = ((H y).toReal : ℝ)) (hg : ∀ y, G y = ((G y).toReal : ℝ))
    (hs : ∀ y, SC y = ((SC y).toReal : ℝ)) (hd : ∀ y, D y = ((D y).toReal : ℝ)) : REFH H G SC RES D = outH H G SC RES D := by
  funext y
  obtain ⟨i, j, rfl⟩ : ∃ (i : Fin 8192) (j : Fin 2048), y = ix2 i j := ⟨y 0, y 1, funext fun k => by fin_cases k <;> rfl⟩
  have hx : rowOf H i = fun k => (((H (ix2 i k)).toReal : ℝ) : EReal) := funext fun k => h _
  have hn : dnOf D SC G i = fun k => (((D (ix2 i k)).toReal * (1 + (SC (ix2 0 k)).toReal) * (G (ix2 0 k)).toReal : ℝ) : EReal) := funext fun k => by
    unfold dnOf dgAt
    rw [hd, hs, hg]
    norm_cast
  show RES (ix2 i j) + DN D SC G (ix2 i j) * spreadCol (RS H) (ix2 i j) + H (ix2 i j) * SLOPE H (DN D SC G) (ix2 i j) + SLOPE H (DN D SC G) (ix2 i j) * H (ix2 i j)
    = RES (ix2 i j) + callRow (rowOf H i) (dnOf D SC G i) j
  rw [show DN D SC G (ix2 i j) = dnOf D SC G i j from congrFun (DN_row D SC G i) j, spreadCol_at, RS_at, SLOPE_at, DN_row, show H (ix2 i j) = rowOf H i j from rfl,
    hx, hn, row_eq, add_assoc, add_assoc, add_assoc]

end Cert.NormProof

end
-- ==== Proof.NormClaims.lean ====
/- The claims about the call of the norm's gradient. -/
module
public import proofs.«01_k».proof.Defs
public import proofs.«01_k».proof.Proof.NormRef
public import proofs.«01_k».proof.Proof.Finite
public import proofs.«01_k».proof.Proof.Gen.Pre_norm_finite
public import proofs.«01_k».proof.Proof.Gen.Norm.Frame

@[expose] public section
noncomputable section
namespace Cert.NormProof
open Idealize.ShloMosaic Idealize.SL.Sem Cert.Finite

/-- The frame of the reference. -/
theorem ref_frame : quiescent_NormRefIdeal := fun m ρ _ =>
  (θ_run NormRefIdeal.defs _ _).mono (fun r h => ⟨fun c => (h c).2.2.2.2, sem_eq_zero_of_no_sems (by decide) r.2⟩)
    (NormRefIdeal.Value.run (F := Ideal) m ρ)

/-- The call's four results are the reference's, at finite arguments. -/
theorem algebraic : algebraic_NormIdeal_NormRefIdeal_pre_norm_finite := fun m ρ m' ρ' hpre hag =>
  ⟨fun c => outH (argH m c) (argG m c) (argS m c) (argR m c) (argD m c), fun c => outG (argH m c) (argS m c) (argD m c),
   fun c => outSc (argH m c) (argG m c) (argD m c), fun c => outSh (argD m c),
   (θ_run NormIdeal.defs _ _).mono (fun _ h c => ⟨(h c).1.trans (final5 m c), (h c).2.1.trans (final6 m c), (h c).2.2.1.trans (final7 m c),
       (h c).2.2.2.1.trans (final8 m c), (h c).2.2.2.2⟩)
     (NormIdeal.Value.run_blocks (F := Ideal) m ρ),
   (θ_run NormRefIdeal.defs _ _).mono (fun _ h c => by
       obtain ⟨e0, e1, e2, e3, e4, e5⟩ := hag c
       have h1 := IntOp.andi_eq_one.1 (congrFun (hpre c) default)
       have h2 := IntOp.andi_eq_one.1 h1.1
       have h3 := IntOp.andi_eq_one.1 h2.1
       refine ⟨(h c).1.trans ?_, (h c).2.1.trans ?_, (h c).2.2.1.trans ?_, (h c).2.2.2.1.trans ?_, (h c).2.2.2.2⟩
       · unfold NormRefIdeal.Value.res_main_v48
         rw [e0, e1, e2, e4, e5]
         exact REFH_eq (argH m c) (argG m c) (argS m c) (argR m c) (argD m c) (real_of_all _ _ _ _ _ _ h3.1) (real_of_all _ _ _ _ _ _ h3.2)
           (real_of_all _ _ _ _ _ _ h2.2) (real_of_all _ _ _ _ _ _ h1.2)
       · rw [e0, e2, e5]; exact REFG_eq (argH m c) (argS m c) (argD m c)
       · rw [e0, e1, e5]; exact REFSc_eq (argH m c) (argG m c) (argD m c)
       · rw [e5]; exact REFSh_eq (argD m c))
     (NormRefIdeal.Value.run (F := Ideal) m' ρ')⟩
-- ==== Proof.LossBlock.lean ====
/- The last norm and the loss: what one block of 512 rows computes. -/
module

public import proofs.«01_k».proof.Proof.Gen.LossIdeal.Frame
public import proofs.«01_k».proof.Proof.RowNorm

@[expose] public section

noncomputable section

namespace Cert.LossProof

open LossIdeal LossIdeal.Gen RowNorm Idealize.ShloMosaic TcCoe Idealize.SL.Sem

abbrev Tile : Type := FVec Ideal S512x2048 .f32
abbrev Half : Type := FVec Ideal S512x2048 .bf16
abbrev Line : Type := FVec Ideal S1x2048 .f32

/-- One over the length of a row, and one half. -/
def share : EReal := Ideal.ofBits .f32 0x3A000000#32
def half : EReal := Ideal.ofBits .f32 0x3F000000#32

/-- The residual row, its error against the target, the error's cotangent, and the mean squared error. -/
def res (v0 : Tile) (v1 : Line) (v2 : Half) (r : Fin 512) : Row := fun k => v0 (ix2 r k) + v1 (ix2 0 k) * v2 (ix2 r k)
def errRow (x g t : Row) : Row := fun k => x k * rs x * g k - t k
def outRow (x g t : Row) : Row := fun k => errRow x g t k * share
def dnRow (x g t : Row) : Row := fun k => outRow x g t k * g k
def sqErr (x g t : Row) : EReal := Ideal.div (∑ k, errRow x g t k * errRow x g t k) len

def tileRow (v : Tile) (r : Fin 512) : Row := fun k => v (ix2 r k)
def lineRow (v : Line) : Row := fun k => v (ix2 0 k)

variable (v0 : Tile) (v1 : Line) (v2 : Half) (v18 : Line) (v21 : Tile)

theorem pay5_at (r : Fin 512) (j : Fin 2048) : k0_pay5 (F := Ideal) v0 v1 v2 (ix2 r j) = res v0 v1 v2 r j := by
  pointwise [k0_pay5]
  rfl

theorem pay6_at (r : Fin 512) : k0_pay6 (F := Ideal) v0 v1 v2 (ix2 r 0) = rs (res v0 v1 v2 r) := by
  pointwise [k0_pay6, k0_pay5]
  rfl

theorem pay7_at (r : Fin 512) (j : Fin 2048) : k0_pay7 (F := Ideal) v0 v1 v2 (ix2 r j) = res v0 v1 v2 r j * rs (res v0 v1 v2 r) := by
  rw [← pay6_at, ← pay5_at]
  pointwise [k0_pay7]

theorem pay8_at (r : Fin 512) (j : Fin 2048) : k0_pay8 (F := Ideal) v0 v1 v2 v18 v21 (ix2 r j) = errRow (res v0 v1 v2 r) (lineRow v18) (tileRow v21 r) j := by
  unfold errRow
  rw [← pay7_at]
  pointwise [k0_pay8]
  rfl

theorem pay9_at (r : Fin 512) (j : Fin 2048) : k0_pay9 (F := Ideal) v0 v1 v2 v18 v21 (ix2 r j) = outRow (res v0 v1 v2 r) (lineRow v18) (tileRow v21 r) j := by
  unfold outRow
  rw [← pay8_at]
  pointwise [k0_pay9]
  rfl

theorem pay10_at (r : Fin 512) (j : Fin 2048) : k0_pay10 (F := Ideal) v0 v1 v2 v18 v21 (ix2 r j)
    = callRow (res v0 v1 v2 r) (dnRow (res v0 v1 v2 r) (lineRow v18) (tileRow v21 r)) j := by
  unfold callRow dnRow
  simp only [← pay7_at, ← pay9_at]
  rw [← pay6_at]
  pointwise [k0_pay10]
  rfl

theorem pay11_at (j : Fin 2048) : k0_pay1 (k0_pay11 (F := Ideal) v0 v1 v2 v18 v21) (ix2 0 j)
    = ∑ r : Fin 512, outRow (res v0 v1 v2 r) (lineRow v18) (tileRow v21 r) j * (res v0 v1 v2 r j * rs (res v0 v1 v2 r)) := by
  simp only [← pay7_at, ← pay9_at]
  pointwise [k0_pay1, k0_pay11]

theorem pay2_at (l : Fin 128) : k0_pay2 (k0_pay8 (F := Ideal) v0 v1 v2 v18 v21) (ix2 0 l)
    = half * ∑ r : Fin 512, sqErr (res v0 v1 v2 r) (lineRow v18) (tileRow v21 r) := by
  unfold sqErr
  simp only [← pay8_at]
  pointwise [k0_pay2]
  rfl

theorem pay3_at (v : Tile) (acc : Line) (j : Fin 2048) : k0_pay3 (F := Ideal) v acc (ix2 0 j) = acc (ix2 0 j) + k0_pay1 v (ix2 0 j) := by
  pointwise [k0_pay3]

theorem pay4_at (v : Tile) (acc : FVec Ideal S1x128 .f32) (l : Fin 128) : k0_pay4 (F := Ideal) v acc (ix2 0 l) = acc (ix2 0 l) + k0_pay2 v (ix2 0 l) := by
  pointwise [k0_pay4]

end Cert.LossProof

end
-- ==== Proof.LossValue.lean ====
/- The last norm and the loss: what the call's three result arrays hold. -/
module

public import proofs.«01_k».proof.Proof.Gen.LossIdeal.Value
public import proofs.«01_k».proof.Proof.LossBlock
public import proofs.«01_k».proof.Proof.NormRows

@[expose] public section

noncomputable section

namespace Cert.LossProof

open LossIdeal LossIdeal.Gen RowNorm Idealize.ShloMosaic TcCoe Idealize.SL.Sem
open Idealize.ShloMosaic.Pipeline (Dat)
open NormRows (Wide)

/-- A row of the last residual. -/
def resOf (H Y : Wide) (A : Line) (i : Fin 8192) : Row := fun k => H (ix2 i k) + A (ix2 0 k) * Y (ix2 i k)

def outH (H Y : Wide) (A G : Line) (T : Wide) : Wide := fun y => callRow (resOf H Y A (y 0)) (dnRow (resOf H Y A (y 0)) (lineRow G) (NormRows.rowOf T (y 0))) (y 1)
def outG (H Y : Wide) (A G : Line) (T : Wide) : Line := fun y =>
  ∑ i : Fin 8192, outRow (resOf H Y A i) (lineRow G) (NormRows.rowOf T i) (y 1) * (resOf H Y A i (y 1) * rs (resOf H Y A i))
def outLoss (H Y : Wide) (A G : Line) (T : Wide) : FVec Ideal S1x128 .f32 := fun _ => half * ∑ i : Fin 8192, sqErr (resOf H Y A i) (lineRow G) (NormRows.rowOf T i)

theorem half_eq : half = ((1 / 2 : ℝ) : EReal) := by
  simp [half, Ideal.ofBits, Ideal.ieee]
  rw [← EReal.coe_mul]
  norm_num

/-- One half goes into a sum. -/
theorem half_sum {ι : Type} [Fintype ι] (f : ι → EReal) : half * ∑ i, f i = ∑ i, half * f i := by
  classical
  refine Finset.induction_on (Finset.univ : Finset ι) (by simp) fun a s ha h => ?_
  rw [Finset.sum_insert ha, Finset.sum_insert ha, ← h, half_eq]
  exact EReal.left_distrib_of_nonneg_of_ne_top (by rw [← EReal.coe_zero, EReal.coe_le_coe_iff]; norm_num) (EReal.coe_ne_top _) _ _

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

variable (m : (ℓ : Loc nD τ sig) → Buf (Elt Ideal) ℓ) (c : Dev nD)

def argH : Wide := m ((c.tc : Thread nD τ).loc main_arg0)
def argY : Wide := m ((c.tc : Thread nD τ).loc main_arg1)
def argA : Line := m ((c.tc : Thread nD τ).loc main_arg2)
def argG : Line := m ((c.tc : Thread nD τ).loc main_arg3)
def argT : Wide := m ((c.tc : Thread nD τ).loc main_arg4)

/-- The row of the array that row `r` of block `t` is. -/
def at_ (t : Fin cfg0.N) (r : Fin 512) : Fin 8192 := ⟨t.val * 512 + r.val, by have : t.val < 16 := lt_of_lt_of_eq t.isLt N_0; omega⟩

theorem blkH (t : Fin cfg0.N) (r : Fin 512) (k : Fin 2048) : (iblk m c 0 t : Tile) (ix2 r k) = argH m c (ix2 (at_ t r) k) := by
  blk_point [iblk, V, idx t, argH, at_]
theorem blkY (t : Fin cfg0.N) (r : Fin 512) (k : Fin 2048) : (iblk m c 1 t : Half) (ix2 r k) = argY m c (ix2 (at_ t r) k) := by
  blk_point [iblk, V, idx t, argY, at_]
theorem blkA (t : Fin cfg0.N) (k : Fin 2048) : (iblk m c 2 t : Line) (ix2 0 k) = argA m c (ix2 0 k) := by
  blk_point [iblk, V, idx t, argA]
theorem blkG (t : Fin cfg0.N) (k : Fin 2048) : (iblk m c 3 t : Line) (ix2 0 k) = argG m c (ix2 0 k) := by
  blk_point [iblk, V, idx t, argG]
theorem blkT (t : Fin cfg0.N) (r : Fin 512) (k : Fin 2048) : (iblk m c 4 t : Tile) (ix2 r k) = argT m c (ix2 (at_ t r) k) := by
  blk_point [iblk, V, idx t, argT, at_]

theorem res_eq (t : Fin cfg0.N) (r : Fin 512) : res (iblk m c 0 t) (iblk m c 2 t) (iblk m c 1 t) r = resOf (argH m c) (argY m c) (argA m c) (at_ t r) := by
  funext k
  unfold res resOf
  rw [blkH, blkA, blkY]

theorem line_eq (t : Fin cfg0.N) : lineRow (iblk m c 3 t) = lineRow (argG m c) := funext fun k => blkG m c t k
theorem target_eq (t : Fin cfg0.N) (r : Fin 512) : tileRow (iblk m c 4 t) r = NormRows.rowOf (argT m c) (at_ t r) := funext fun k => blkT m c t r k

theorem blk10 (t : Fin cfg0.N) (r : Fin 512) (j : Fin 2048) :
    k0_pay10 (F := Ideal) (iblk m c 0 t) (iblk m c 2 t) (iblk m c 1 t) (iblk m c 3 t) (iblk m c 4 t) (ix2 r j)
      = outH (argH m c) (argY m c) (argA m c) (argG m c) (argT m c) (ix2 (at_ t r) j) := by
  rw [pay10_at, res_eq, line_eq, target_eq]
  rfl

theorem final5 : (dats m 0 c).arrAt 5 (cfgs 0).N = outH (argH m c) (argY m c) (argA m c) (argG m c) (argT m c) := by
  refine (dats m 0 c).arrAt_eq_of_covers 5 _ (by decide +kernel) fun t _ y => ?_
  have hN : t.val < 16 := lt_of_lt_of_eq t.isLt N_0
  obtain ⟨r, hr⟩ : ∃ r : Fin 512, r = y 0 := ⟨y 0, rfl⟩
  obtain ⟨n, hn⟩ : ∃ n : Fin 2048, n = y 1 := ⟨y 1, rfl⟩
  have hy : (cfg0.win 5).xinj (cfg0.grid.coords t) y = (ix2 r n : S512x2048.Idx) := by
    funext k; fin_cases k
    · exact hr.symm
    · exact hn.symm
  have he : ((cfg0.win 5).blk t).view.emb y = (ix2 (at_ t r) n : S8192x2048.Idx) := by
    funext k; fin_cases k <;> refine Fin.ext ?_
    · show ((((cfg0.win 5).blk t).view.emb y) 0).val = t.val * 512 + r.val
      rw [hr]; blk_simp [idx t]
    · show ((((cfg0.win 5).blk t).view.emb y) 1).val = n.val
      rw [hn]; blk_simp [idx t]
  rw [he, ← blk10, after0_5]
  refine (cast_eq _ _).trans ?_
  rw [hy]
  by_cases h : t.val % 16 = 0
  · rw [outsAt0_A m c t h (by omega)]
    frame_out
  · rw [outsAt0_B m c t h (by omega)]
    frame_out

/-- An index of a line is a column. -/
theorem column (j : S1x2048.Idx) : ∃ l : Fin 2048, j = ix2 0 l := ⟨j 1, funext fun k => by
  fin_cases k
  · exact Subsingleton.elim (α := Fin 1) _ _
  · rfl⟩

/-- An index of the loss's line is a lane. -/
theorem lane (j : S1x128.Idx) : ∃ l : Fin 128, j = ix2 0 l := ⟨j 1, funext fun k => by
  fin_cases k
  · exact Subsingleton.elim (α := Fin 1) _ _
  · rfl⟩

/-- What block `t` adds to a column of the gain's gradient, and to the loss. -/
theorem part6 (t : Fin cfg0.N) (l : Fin 2048) : k0_pay1 (k0_pay11 (F := Ideal) (iblk m c 0 t) (iblk m c 2 t) (iblk m c 1 t) (iblk m c 3 t) (iblk m c 4 t)) (ix2 0 l)
    = ∑ r : Fin 512, outRow (resOf (argH m c) (argY m c) (argA m c) (at_ t r)) (lineRow (argG m c)) (NormRows.rowOf (argT m c) (at_ t r)) l
        * (resOf (argH m c) (argY m c) (argA m c) (at_ t r) l * rs (resOf (argH m c) (argY m c) (argA m c) (at_ t r))) := by
  rw [pay11_at]
  simp only [res_eq, line_eq, target_eq]

theorem part7 (t : Fin cfg0.N) (l : Fin 128) : k0_pay2 (k0_pay8 (F := Ideal) (iblk m c 0 t) (iblk m c 2 t) (iblk m c 1 t) (iblk m c 3 t) (iblk m c 4 t)) (ix2 0 l)
    = ∑ r : Fin 512, half * sqErr (resOf (argH m c) (argY m c) (argA m c) (at_ t r)) (lineRow (argG m c)) (NormRows.rowOf (argT m c) (at_ t r)) := by
  rw [pay2_at, half_sum]
  simp only [res_eq, line_eq, target_eq]

theorem final6 : (dats m 0 c).arrAt 6 (cfgs 0).N = outG (argH m c) (argY m c) (argA m c) (argG m c) (argT m c) := by
  refine (dats m 0 c).arrAt_eq_of_after_last 6 t0_15 (by decide +kernel) _ fun j => ?_
  blk_simp
  have hN (t : Fin cfg0.N) : t.val < 16 := lt_of_lt_of_eq t.isLt N_0
  obtain ⟨l, rfl⟩ := column j
  rw [after0_6, Pipeline.eq_sum_fin_of_reset_step_apply_last (fun n h => (outsAt0 m c n h).2.1) 16 (fun _ => 0)
    (fun t => k0_pay1 (k0_pay11 (F := Ideal) (iblk m c 0 t) (iblk m c 2 t) (iblk m c 1 t) (iblk m c 3 t) (iblk m c 4 t)))
    (fun t h j => by rw [outsAt0_A m c t h (by have := hN t; omega)]; frame_out; rw [zero_add])
    (fun t h j => by rw [outsAt0_B m c t h (by have := hN t; omega)]; obtain ⟨l, rfl⟩ := column j; frame_out; rw [pay3_at])
    (le_of_eq N_0) t0_15 rfl (ix2 0 l), zero_add]
  simp only [part6]
  exact Fin.sum_mul_add_congr fun t r hl => by rfl

theorem final7 : (dats m 0 c).arrAt 7 (cfgs 0).N = outLoss (argH m c) (argY m c) (argA m c) (argG m c) (argT m c) := by
  refine (dats m 0 c).arrAt_eq_of_after_last 7 t0_15 (by decide +kernel) _ fun j => ?_
  blk_simp
  have hN (t : Fin cfg0.N) : t.val < 16 := lt_of_lt_of_eq t.isLt N_0
  obtain ⟨l, rfl⟩ := lane j
  rw [after0_7, Pipeline.eq_sum_fin_of_reset_step_apply_last (fun n h => (outsAt0 m c n h).2.2) 16 (fun _ => 0)
    (fun t => k0_pay2 (k0_pay8 (F := Ideal) (iblk m c 0 t) (iblk m c 2 t) (iblk m c 1 t) (iblk m c 3 t) (iblk m c 4 t)))
    (fun t h j => by rw [outsAt0_A m c t h (by have := hN t; omega)]; frame_out; rw [zero_add])
    (fun t h j => by rw [outsAt0_B m c t h (by have := hN t; omega)]; obtain ⟨l, rfl⟩ := lane j; frame_out; rw [pay4_at])
    (le_of_eq N_0) t0_15 rfl (ix2 0 l), zero_add]
  unfold outLoss
  rw [half_sum]
  simp only [part7]
  exact Fin.sum_mul_add_congr fun t r hl => by rfl

end Cert.LossProof

end
-- ==== Proof.LossRef.lean ====
/- What the reference of the last norm and the loss computes, and that it is what the call computes. -/
module

public import proofs.«01_k».proof.Proof.LossValue
public import proofs.«01_k».proof.Proof.Gen.LossRefIdeal.Run

@[expose] public section

noncomputable section

namespace Cert.LossProof

open LossRefIdeal LossRefIdeal.Gen RowNorm NormRows Idealize.ShloMosaic TcCoe Idealize.SL.Sem

abbrev RefLine : Type := FVec Ideal S1x2048 .f32

def X (H Y : Wide) (A : RefLine) : Wide := addf H (mulf (spread A) Y)
def ERR (x : Wide) (G : RefLine) (T : Wide) : Wide := subf (mulf (NORMED x) (spread G)) T
/-- The cotangent of a squared error: one half, shared out over a row. -/
def SEED : Wide := broadcastInDim S8192x2048 ![0] bcast_S8192_S8192x2048_0
  (Host.divf (broadcastInDim S8192 ![] bcast_S_S8192 (mulf (constant (F := Ideal) S_ .f32 0x3F000000#32) (constant S_ .f32 0x3F800000#32)))
    (broadcastInDim S8192 ![] bcast_S_S8192 (constant S_ .f32 0x45000000#32)))
def TWO : Wide := broadcastInDim S8192x2048 ![] bcast_S_S8192x2048 (constant (F := Ideal) S_ .f32 0x40000000#32)
def DOUT (x : Wide) (G : RefLine) (T : Wide) : Wide := mulf SEED (mulf TWO (ERR x G T))
def DN (x : Wide) (G : RefLine) (T : Wide) : Wide := mulf (DOUT x G T) (spread G)

/-- The reference's three results, of the residual. -/
def REFH (x : Wide) (G : RefLine) (T : Wide) : Wide := addf (addf (mulf (DN x G T) (spreadCol (RS x))) (mulf x (SLOPE x (DN x G T)))) (mulf (SLOPE x (DN x G T)) x)
def REFG (x : Wide) (G : RefLine) (T : Wide) : RefLine := sumCols (mulf (NORMED x) (DOUT x G T))
def REFLoss (x : Wide) (G : RefLine) (T : Wide) : FVec Ideal S1x128 .f32 := broadcastInDim S1x128 ![] bcast_S_S1x128
  (mulf (constant (F := Ideal) S_ .f32 0x3F000000#32)
    (Host.reduceAdd (Host.divf (sumRows (mulf (ERR x G T) (ERR x G T))) (broadcastInDim S8192 ![] bcast_S_S8192 (constant S_ .f32 0x45000000#32)))
      (constant S_ .f32 0x00000000#32) reducesTo_S8192_S_d0 h_S_))

theorem X_row (H Y : Wide) (A : RefLine) (i : Fin 8192) : rowOf (X H Y A) i = resOf H Y A i := by
  funext k
  unfold resOf
  rw [← spread_at A i k]
  rfl

theorem ERR_at (x : Wide) (G : RefLine) (T : Wide) (i : Fin 8192) (j : Fin 2048) : ERR x G T (ix2 i j) = errRow (rowOf x i) (lineRow G) (rowOf T i) j := by
  unfold errRow lineRow
  rw [← spread_at G i j, show rowOf x i j * rs (rowOf x i) = NORMED x (ix2 i j) from (NORMED_at x i j).symm]
  rfl

theorem share_eq : share = ((1 / 2048 : ℝ) : EReal) := by
  simp [share, Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem SEED_at (i : Fin 8192) (j : Fin 2048) : SEED (ix2 i j) = Ideal.div (half * 1) len := by
  pointwise [SEED]
  rfl

theorem TWO_at (i : Fin 8192) (j : Fin 2048) : TWO (ix2 i j) = ((2 : ℝ) : EReal) := by
  rw [← two_eq]
  pointwise [TWO]

theorem DOUT_at (x : Wide) (G : RefLine) (T : Wide) (i : Fin 8192) (j : Fin 2048) : DOUT x G T (ix2 i j) = outRow (rowOf x i) (lineRow G) (rowOf T i) j := by
  unfold outRow
  rw [← ERR_at]
  show SEED (ix2 i j) * (TWO (ix2 i j) * ERR x G T (ix2 i j)) = _
  rw [SEED_at, TWO_at, ← mul_assoc, mul_one, half_eq, len_eq, div_real _ _ (by norm_num), ← EReal.coe_mul, share_eq, mul_comm]
  norm_num

theorem DN_row (x : Wide) (G : RefLine) (T : Wide) (i : Fin 8192) : rowOf (DN x G T) i = dnRow (rowOf x i) (lineRow G) (rowOf T i) := by
  funext j
  unfold dnRow
  rw [← DOUT_at, show lineRow G j = spread G (ix2 i j) from (spread_at G i j).symm]
  rfl

theorem REFG_eq (H Y : Wide) (A G : RefLine) (T : Wide) : REFG (X H Y A) G T = outG H Y A G T := by
  funext y
  obtain ⟨l, rfl⟩ := column y
  unfold REFG
  rw [sumCols_at]
  refine Finset.sum_congr rfl fun i _ => ?_
  refine (mul_comm _ _).trans ((congrArg₂ (· * ·) (DOUT_at (X H Y A) G T i l) (NORMED_at (X H Y A) i l)).trans ?_)
  rw [show X H Y A (ix2 i l) = rowOf (X H Y A) i l from rfl, X_row]
  rfl

theorem sumRows_at (x : Wide) (i : Fin 8192) : sumRows x (ix1 i) = ∑ k : Fin 2048, x (ix2 i k) := by
  pointwise [sumRows]

theorem REFLoss_eq (H Y : Wide) (A G : RefLine) (T : Wide) : REFLoss (X H Y A) G T = outLoss H Y A G T := by
  funext y
  obtain ⟨l, rfl⟩ := lane y
  have e : ∀ i : Fin 8192, sqErr (resOf H Y A i) (lineRow G) (rowOf T i) = Ideal.div (sumRows (mulf (ERR (X H Y A) G T) (ERR (X H Y A) G T)) (ix1 i)) len := fun i => by
    unfold sqErr
    rw [sumRows_at, ← X_row]
    simp only [← ERR_at]
    rfl
  unfold outLoss
  simp only [e]
  unfold REFLoss
  generalize mulf (ERR (X H Y A) G T) (ERR (X H Y A) G T) = q
  generalize sumRows q = v
  pointwise []
  rfl

/-- The first result: the row's two gradients agree where the row and its cotangent are real. -/
theorem REFH_eq (H Y : Wide) (A G : RefLine) (T : Wide) (h : ∀ y, H y = ((H y).toReal : ℝ)) (hy : ∀ y, Y y = ((Y y).toReal : ℝ))
    (ha : ∀ y, A y = ((A y).toReal : ℝ)) (hg : ∀ y, G y = ((G y).toReal : ℝ)) (ht : ∀ y, T y = ((T y).toReal : ℝ)) : REFH (X H Y A) G T = outH H Y A G T := by
  funext y
  obtain ⟨i, j, rfl⟩ : ∃ (i : Fin 8192) (j : Fin 2048), y = ix2 i j := ⟨y 0, y 1, funext fun k => by fin_cases k <;> rfl⟩
  obtain ⟨x, hx⟩ : ∃ x : Fin 2048 → ℝ, resOf H Y A i = fun k => (x k : EReal) := ⟨fun k => (H (ix2 i k)).toReal + (A (ix2 0 k)).toReal * (Y (ix2 i k)).toReal, funext fun k => by
    unfold resOf
    rw [h, ha, hy]
    norm_cast⟩
  obtain ⟨r, hr⟩ := rs_real x
  obtain ⟨d, hd⟩ : ∃ d : Fin 2048 → ℝ, dnRow (resOf H Y A i) (lineRow G) (rowOf T i) = fun k => (d k : EReal) :=
    ⟨fun k => (x k * r * (G (ix2 0 k)).toReal - (T (ix2 i k)).toReal) * (1 / 2048) * (G (ix2 0 k)).toReal, funext fun k => by
      unfold dnRow outRow errRow
      rw [hx, hr, share_eq, show lineRow G k = G (ix2 0 k) from rfl, show rowOf T i k = T (ix2 i k) from rfl, hg, ht]
      norm_cast⟩
  show DN (X H Y A) G T (ix2 i j) * spreadCol (RS (X H Y A)) (ix2 i j) + X H Y A (ix2 i j) * SLOPE (X H Y A) (DN (X H Y A) G T) (ix2 i j)
      + SLOPE (X H Y A) (DN (X H Y A) G T) (ix2 i j) * X H Y A (ix2 i j)
    = callRow (resOf H Y A i) (dnRow (resOf H Y A i) (lineRow G) (rowOf T i)) j
  rw [show DN (X H Y A) G T (ix2 i j) = rowOf (DN (X H Y A) G T) i j from rfl, show X H Y A (ix2 i j) = rowOf (X H Y A) i j from rfl, spreadCol_at, RS_at, SLOPE_at, DN_row, X_row,
    hd, hx, row_eq]

end Cert.LossProof

end
-- ==== Proof.LossClaims.lean ====
/- The claims about the call of the last norm and the loss. -/
module
public import proofs.«01_k».proof.Defs
public import proofs.«01_k».proof.Proof.LossRef
public import proofs.«01_k».proof.Proof.Finite
public import proofs.«01_k».proof.Proof.Gen.Pre_loss_finite
public import proofs.«01_k».proof.Proof.Gen.Loss.Frame

@[expose] public section
noncomputable section
namespace Cert.LossProof
open Idealize.ShloMosaic Idealize.SL.Sem Cert.Finite

/-- The frame of the reference. -/
theorem ref_frame : quiescent_LossRefIdeal := fun m ρ _ =>
  (θ_run LossRefIdeal.defs _ _).mono (fun r h => ⟨fun c => (h c).2.2.2, sem_eq_zero_of_no_sems (by decide) r.2⟩)
    (LossRefIdeal.Value.run (F := Ideal) m ρ)

/-- The call's three results are the reference's, at finite arguments. -/
theorem algebraic : algebraic_LossIdeal_LossRefIdeal_pre_loss_finite := fun m ρ m' ρ' hpre hag =>
  ⟨fun c => outH (argH m c) (argY m c) (argA m c) (argG m c) (argT m c), fun c => outG (argH m c) (argY m c) (argA m c) (argG m c) (argT m c),
   fun c => outLoss (argH m c) (argY m c) (argA m c) (argG m c) (argT m c),
   (θ_run LossIdeal.defs _ _).mono (fun _ h c => ⟨(h c).1.trans (final5 m c), (h c).2.1.trans (final6 m c), (h c).2.2.1.trans (final7 m c), (h c).2.2.2⟩)
     (LossIdeal.Value.run_blocks (F := Ideal) m ρ),
   (θ_run LossRefIdeal.defs _ _).mono (fun _ h c => by
       obtain ⟨e0, e1, e2, e3, e4⟩ := hag c
       have h1 := IntOp.andi_eq_one.1 (congrFun (hpre c) default)
       have h2 := IntOp.andi_eq_one.1 h1.1
       have h3 := IntOp.andi_eq_one.1 h2.1
       have h4 := IntOp.andi_eq_one.1 h3.1
       refine ⟨(h c).1.trans ?_, (h c).2.1.trans ?_, (h c).2.2.1.trans ?_, (h c).2.2.2⟩
       · unfold LossRefIdeal.Value.res_main_v51
         rw [e0, e1, e2, e3, e4]
         exact REFH_eq (argH m c) (argY m c) (argA m c) (argG m c) (argT m c) (real_of_all _ _ _ _ _ _ h4.1) (real_of_all _ _ _ _ _ _ h4.2)
           (real_of_all _ _ _ _ _ _ h3.2) (real_of_all _ _ _ _ _ _ h2.2) (real_of_all _ _ _ _ _ _ h1.2)
       · rw [e0, e1, e2, e3, e4]; exact REFG_eq (argH m c) (argY m c) (argA m c) (argG m c) (argT m c)
       · rw [e0, e1, e2, e3, e4]; exact REFLoss_eq (argH m c) (argY m c) (argA m c) (argG m c) (argT m c))
     (LossRefIdeal.Value.run (F := Ideal) m' ρ')⟩
-- ==== Proof.PoolDiff.lean ====
/- The pooling mixer: the rows less their window means, as the forward lines compute them before the gradient's call. -/
module

public import proofs.«01_k».proof.Proof.Gen.PoolIdeal.Value
public import proofs.«01_k».proof.Proof.Gen.PoolRefIdeal.Run
public import proofs.«01_k».proof.Proof.RealOps

@[expose] public section

set_option maxRecDepth 131072

noncomputable section

namespace Cert.PoolProof

open Idealize.ShloMosaic TcCoe Idealize.SL.Sem

section Lines
open PoolRefIdeal PoolRefIdeal.Gen

abbrev Wide : Type := FVec Ideal S8192x2048 .f32
abbrev Grouped : Type := FVec Ideal S8192x4x512 .f32
abbrev Part : Type := FVec Ideal S8192x512 .f32

/-- The running sum of a group's rows. -/
def sums (p : Part) : Part :=
  Host.reduceWindowAdd ![8192, 1] ![1, 1] ![8191, 0] ![0, 0] p (broadcastInDim S_ ![] bcast_S_S_ (constant S_ .f32 0x00000000#32))
    reduceWindows_S8192x512_S8192x512_w8192s1p8191_0_w1s1p0_0 h_S_

/-- How many rows a window of at most `w` rows holds. -/
def counts (w : BitVec 32) : Part :=
  broadcastInDim S8192x512 ![0, 1] bcast_S8192x1_S8192x512_0_1 (broadcastInDim S8192x1 ![0] bcast_S8192_S8192x1_0
    (sitofp .f32 (minsi (addi (broadcastInDim S8192 ![] bcast_S_S8192 (constantI S_ 32 1#32)) (iotaInDim S8192 32 0))
      (broadcastInDim S8192 ![] bcast_S_S8192 (constantI S_ 32 w)))))

/-- The mean over a window, from the running sum and the running sum one window back. -/
def mean (p back : Part) (w : BitVec 32) : FVec Ideal S8192x1x512 .f32 :=
  broadcastInDim S8192x1x512 ![0, 2] bcast_S8192x512_S8192x1x512_0_2 (Host.divf (subf (sums p) back) (counts w))

def zeros (s : Shape) (h : S_.BroadcastsInDim s (![] : Fin 0 → Fin s.rank)) : FVec Ideal s .f32 := broadcastInDim s ![] h (constant S_ .f32 0x00000000#32)

/-- A group's columns. -/
def part (x : Grouped) (g : ℕ) (h : Shape.Slices S8192x4x512 ![0, g, 0] S8192x1x512) : Part :=
  shapeCast S8192x512 (extractStridedSlice S8192x1x512 ![0, g, 0] x h) shapeCasts_S8192x1x512_S8192x512

def mean2 (p : Part) : FVec Ideal S8192x1x512 .f32 :=
  mean p (extractStridedSlice S8192x512 ![0, 0] (concatenate S8194x512 0 [⟨S2x512, zeros S2x512 bcast_S_S2x512⟩, ⟨S8192x512, sums p⟩]
    concatenates_S2x512_S8192x512_S8194x512_d0) slices_S8194x512_S8192x512_0_0) 2#32
def mean4 (p : Part) : FVec Ideal S8192x1x512 .f32 :=
  mean p (extractStridedSlice S8192x512 ![0, 0] (concatenate S8196x512 0 [⟨S4x512, zeros S4x512 bcast_S_S4x512⟩, ⟨S8192x512, sums p⟩]
    concatenates_S4x512_S8192x512_S8196x512_d0) slices_S8196x512_S8192x512_0_0) 4#32
def mean8 (p : Part) : FVec Ideal S8192x1x512 .f32 :=
  mean p (extractStridedSlice S8192x512 ![0, 0] (concatenate S8200x512 0 [⟨S8x512, zeros S8x512 bcast_S_S8x512⟩, ⟨S8192x512, sums p⟩]
    concatenates_S8x512_S8192x512_S8200x512_d0) slices_S8200x512_S8192x512_0_0) 8#32
def mean16 (p : Part) : FVec Ideal S8192x1x512 .f32 :=
  mean p (extractStridedSlice S8192x512 ![0, 0] (concatenate S8208x512 0 [⟨S16x512, zeros S16x512 bcast_S_S16x512⟩, ⟨S8192x512, sums p⟩]
    concatenates_S16x512_S8192x512_S8208x512_d0) slices_S8208x512_S8192x512_0_0) 16#32

/-- The four groups' means, less the rows themselves. -/
def diffOf (x : Grouped) : Grouped :=
  subf (concatenate S8192x4x512 1
    [⟨S8192x1x512, mean2 (part x 0 slices_S8192x4x512_S8192x1x512_0_0_0)⟩, ⟨S8192x1x512, mean4 (part x 1 slices_S8192x4x512_S8192x1x512_0_1_0)⟩,
      ⟨S8192x1x512, mean8 (part x 2 slices_S8192x4x512_S8192x1x512_0_2_0)⟩, ⟨S8192x1x512, mean16 (part x 3 slices_S8192x4x512_S8192x1x512_0_3_0)⟩]
    concatenates_S8192x1x512_S8192x1x512_S8192x1x512_S8192x1x512_S8192x4x512_d1) x

def diffRows (x : Wide) : Wide := shapeCast S8192x2048 (diffOf (shapeCast S8192x4x512 x shapeCasts_S8192x2048_S8192x4x512)) shapeCasts_S8192x4x512_S8192x2048

end Lines

section Kernel
open PoolIdeal PoolIdeal.Gen
variable (m : (ℓ : Loc nD τ sig) → Buf (Elt Ideal) ℓ) (c : Dev nD)

theorem read72 : @Eq (FVec Ideal S8192x2048 .bf16) (V m c main_v72)
    (truncf (F := Ideal) .bf16 (diffRows (m ((c.tc : Thread nD τ).loc main_arg0))) bitsLt_bf16_f32) := by
  unfold V
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl
theorem read73 : @Eq (FVec Ideal S8192x2048 .bf16) (V m c main_v73) (truncf (F := Ideal) .bf16 (s := S8192x2048) (φ := .f32) (m ((c.tc : Thread nD τ).loc main_arg3)) bitsLt_bf16_f32) := by
  entry_read
  rfl
theorem read74 : @Eq (FVec Ideal S4x512x512 .bf16) (V m c main_v74) (truncf (F := Ideal) .bf16 (s := S4x512x512) (φ := .f32) (m ((c.tc : Thread nD τ).loc main_arg1)) bitsLt_bf16_f32) := by
  entry_read
  rfl
end Kernel

end Cert.PoolProof
-- ==== Proof.PoolBlock.lean ====
/- The pooling mixer's gradient: what one block of rows gives, group by group. -/
module

public import proofs.«01_k».proof.Proof.Gen.PoolIdeal.Frame
public import proofs.«01_k».proof.Proof.RealOps

@[expose] public section

noncomputable section

namespace Cert.PoolProof

open PoolIdeal PoolIdeal.Gen Idealize.ShloMosaic TcCoe Idealize.SL.Sem

/-- What a group's blocks hold: the cotangent `q`, the forward's rows `d`, the group's matrix `w` and its factors `p`. -/
structure Group (q d w : Fin 512 → Fin 512 → EReal) (p : Fin 512 → EReal) (Q D : Vec Ideal S512x512 .bf16) (W : Vec Ideal S1x512x512 .bf16)
    (P : Vec Ideal S1x512 .f32) : Prop where
  q : ∀ r j, Q (ix2 r j) = q r j
  d : ∀ r j, D (ix2 r j) = d r j
  w : ∀ r j, W (ix3 0 r j) = w r j
  p : ∀ j, P (ix2 0 j) = p j

/-- The gradient of the rows, the block's share of the gradient of the matrix, its share of the gradient of the factors. -/
def rowsOut (q w : Fin 512 → Fin 512 → EReal) (p : Fin 512 → EReal) (r j : Fin 512) : EReal := ∑ k : Fin 512, q r k * p k * w j k
def matShare (q d : Fin 512 → Fin 512 → EReal) (p : Fin 512 → EReal) (a b : Fin 512) : EReal := ∑ r : Fin 512, d r a * (q r b * p b)
def facShare (q d w : Fin 512 → Fin 512 → EReal) (j : Fin 512) : EReal := ∑ r : Fin 512, q r j * ∑ k : Fin 512, d r k * w k j

variable {q d w : Fin 512 → Fin 512 → EReal} {p : Fin 512 → EReal} {Q D : Vec Ideal S512x512 .bf16} {W : Vec Ideal S1x512x512 .bf16}
    {P : Vec Ideal S1x512 .f32}

theorem rows_out (H : Group q d w p Q D W P) (r j : Fin 512) : k0_pay10 (F := Ideal) Q P W (ix2 r j) = rowsOut q w p r j := by
  unfold rowsOut
  simp only [← H.q, ← H.w, ← H.p]
  pointwise [k0_pay10, k0_pay9, k0_pay7]

theorem mat_first (H : Group q d w p Q D W P) (a b : Fin 512) : k0_pay12 (F := Ideal) D Q P (ix3 0 a b) = matShare q d p a b := by
  unfold matShare
  simp only [← H.q, ← H.d, ← H.p]
  pointwise [k0_pay12, k0_pay11, k0_pay6, k0_pay9, k0_pay7]

theorem mat_next (H : Group q d w p Q D W P) (old : Vec Ideal S1x512x512 .f32) (a b : Fin 512) :
    k0_pay13 (F := Ideal) D Q P old (ix3 0 a b) = old (ix3 0 a b) + matShare q d p a b := by
  unfold matShare
  simp only [← H.q, ← H.d, ← H.p]
  pointwise [k0_pay13, k0_pay11, k0_pay6, k0_pay9, k0_pay7]

theorem fac_first (H : Group q d w p Q D W P) (j : Fin 512) : k0_pay8 (F := Ideal) D Q W (ix2 0 j) = facShare q d w j := by
  unfold facShare
  simp only [← H.q, ← H.d, ← H.w]
  pointwise [k0_pay8, k0_pay6, k0_pay7]

theorem fac_next (H : Group q d w p Q D W P) (old : Vec Ideal S1x512 .f32) (j : Fin 512) :
    k0_pay14 (F := Ideal) D Q W old (ix2 0 j) = old (ix2 0 j) + facShare q d w j := by
  rw [← fac_first H]
  pointwise [k0_pay14]

end Cert.PoolProof

end
-- ==== Proof.PoolValue.lean ====
/- The pooling mixer's gradient: what the call's three result arrays hold. -/
module

public import proofs.«01_k».proof.Proof.PoolDiff
public import proofs.«01_k».proof.Proof.PoolBlock
public import proofs.«01_k».proof.Proof.Tables

@[expose] public section

noncomputable section

namespace Cert.PoolProof

open PoolIdeal PoolIdeal.Gen Tables Idealize.ShloMosaic TcCoe Idealize.SL.Sem
open Idealize.ShloMosaic.Pipeline (Dat)

abbrev Mats : Type := FVec Ideal S4x512x512 .f32
abbrev Row : Type := FVec Ideal S1x2048 .f32

/-- The rows, the factors and the groups' matrices by numbers. -/
def tw (A : Wide) (i l : ℕ) : EReal := tab (a := 8192) (b := 2048) (φ := .f32) A i l
def tp (P : Row) (l : ℕ) : EReal := tab (a := 1) (b := 2048) (φ := .f32) P 0 l
def tm (W : Mats) (g : ℕ) (a b : Fin 512) : EReal := if h : g < 4 then W (ix3 ⟨g, h⟩ a b) else 0

/-- The three results: the gradient of the rows, of the matrices, of the factors. -/
def outRows (Q : Wide) (W : Mats) (P : Row) : Wide := fun y =>
  rowsOut (fun _ k => tw Q (y 0).val ((y 1).val / 512 * 512 + k.val)) (tm W ((y 1).val / 512)) (fun k => tp P ((y 1).val / 512 * 512 + k.val))
    0 (Fin.ofNat 512 (y 1).val)
def outMats (Q D : Wide) (P : Row) : Mats := fun y =>
  ∑ i : Fin 8192, tw D i.val ((y 0).val * 512 + (y 1).val) * (tw Q i.val ((y 0).val * 512 + (y 2).val) * tp P ((y 0).val * 512 + (y 2).val))
def outFacs (Q D : Wide) (W : Mats) : Row := fun y =>
  ∑ i : Fin 8192, tw Q i.val (y 1).val * ∑ k : Fin 512, tw D i.val ((y 1).val / 512 * 512 + k.val) * tm W ((y 1).val / 512) k (Fin.ofNat 512 (y 1).val)

theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![0, 0, 0] ∧ win0_6.index t = ![0, 0] :=
  (by decide +kernel : ∀ t : Fin grid0.N, _)

variable (m : (ℓ : Loc nD τ sig) → Buf (Elt Ideal) ℓ) (c : Dev nD)

def argD : Wide := diffRows (m ((c.tc : Thread nD τ).loc main_arg0))
def argW : Mats := m ((c.tc : Thread nD τ).loc main_arg1)
def argP : Row := m ((c.tc : Thread nD τ).loc main_arg2)
def argQ : Wide := m ((c.tc : Thread nD τ).loc main_arg3)

variable (t : Fin cfg0.N)

theorem lt16 : t.val < 16 := lt_of_lt_of_eq t.isLt N_0

theorem readQ (A : FVec Ideal S8192x2048 .bf16) (y : S512x2048.Idx) : ((cfg0.win 0).blk t).view.read (Elt Ideal) A y = A ((win0_0.blk t).view.emb y) := rfl
theorem readD (A : FVec Ideal S8192x2048 .bf16) (y : S512x2048.Idx) : ((cfg0.win 1).blk t).view.read (Elt Ideal) A y = A ((win0_1.blk t).view.emb y) := rfl
theorem readW (A : FVec Ideal S4x512x512 .bf16) (y : S4x512x512.Idx) : ((cfg0.win 2).blk t).view.read (Elt Ideal) A y = A ((win0_2.blk t).view.emb y) := rfl

theorem blkQ (r : Fin 512) (k : Fin 2048) : (iblk m c 0 t : FVec Ideal S512x2048 .bf16) (ix2 r k) = tw (argQ m c) (t.val * 512 + r.val) k.val := by
  unfold iblk
  rw [show V m c (Pipeline.arrRef spec0 0) = _ from read73 m c]
  rw [readQ]
  refine tab_of (a := 8192) (b := 2048) (φ := .f32) _ ?_ ?_
  all_goals blk_simp [idx t]
theorem blkD (r : Fin 512) (k : Fin 2048) : (iblk m c 1 t : FVec Ideal S512x2048 .bf16) (ix2 r k) = tw (argD m c) (t.val * 512 + r.val) k.val := by
  unfold iblk
  rw [show V m c (Pipeline.arrRef spec0 1) = _ from read72 m c]
  rw [readD]
  refine tab_of (a := 8192) (b := 2048) (φ := .f32) _ ?_ ?_
  all_goals blk_simp [idx t]
theorem blkW (g : Fin 4) (a b : Fin 512) : (iblk m c 2 t : FVec Ideal S4x512x512 .bf16) (ix3 g a b) = tm (argW m c) g.val a b := by
  unfold iblk
  rw [show V m c (Pipeline.arrRef spec0 2) = _ from read74 m c]
  rw [readW]
  unfold tm
  rw [dif_pos g.isLt]
  refine congrArg (argW m c) (funext fun k => ?_)
  fin_cases k <;> refine Fin.ext ?_
  all_goals blk_simp [idx t]
theorem blkP (k : Fin 2048) : (iblk m c 3 t : Row) (ix2 0 k) = tp (argP m c) k.val := by
  rw [show tp (argP m c) k.val = argP m c (ix2 0 k) from (tab_ix (a := 1) (b := 2048) (φ := .f32) (argP m c) 0 k).symm]
  blk_point [iblk, V, idx t, argP]

/-- A load of part of a block. -/
theorem ldB (x : FVec Ideal S512x2048 .bf16) (o : ℕ) (h : o + 512 ≤ 2048) (i : ∀ a, (![0, o] : Fin 2 → ℕ) a + (![512, 512] : Fin 2 → ℕ) a ≤ S512x2048.size a) (r : Fin 512) (j : Fin 512) :
    View.ld (Val := Elt Ideal) (S := S512x2048) (e' := .bf16) x (Rect.unit ![0, o] ![512, 512] i) (ix2 r j : S512x512.Idx) = x (ix2 r ⟨o + j.val, by omega⟩) := by
  refine congrArg x (funext fun k => ?_)
  fin_cases k <;> exact Fin.ext (by simp [Rect.emb_apply])
theorem ldP (x : Row) (o : ℕ) (h : o + 512 ≤ 2048) (i : ∀ a, (![0, o] : Fin 2 → ℕ) a + (![1, 512] : Fin 2 → ℕ) a ≤ S1x2048.size a) (j : Fin 512) :
    View.ld (Val := Elt Ideal) (S := S1x2048) (e' := .f32) x (Rect.unit ![0, o] ![1, 512] i) (ix2 0 j : S1x512.Idx) = x (ix2 0 ⟨o + j.val, by omega⟩) := by
  refine congrArg x (funext fun k => ?_)
  fin_cases k <;> exact Fin.ext (by simp [Rect.emb_apply])
theorem ldM {e : EltTy} (x : Vec Ideal S4x512x512 e) (g : Fin 4) (i : ∀ a, (![g.val, 0, 0] : Fin 3 → ℕ) a + (![1, 512, 512] : Fin 3 → ℕ) a ≤ S4x512x512.size a) (a b : Fin 512) :
    View.ld (Val := Elt Ideal) (S := S4x512x512) (e' := e) x (Rect.unit ![g.val, 0, 0] ![1, 512, 512] i) (ix3 0 a b : S1x512x512.Idx) = x (ix3 g a b) := by
  refine congrArg x (funext fun k => ?_)
  fin_cases k <;> exact Fin.ext (by simp [Rect.emb_apply])

/-- Group `g` of block `t`. -/
theorem group (g : Fin 4) (o : ℕ) (ho : o = g.val * 512)
    (i0 : ∀ a, (![0, o] : Fin 2 → ℕ) a + (![512, 512] : Fin 2 → ℕ) a ≤ S512x2048.size a)
    (i2 : ∀ a, (![g.val, 0, 0] : Fin 3 → ℕ) a + (![1, 512, 512] : Fin 3 → ℕ) a ≤ S4x512x512.size a)
    (i3 : ∀ a, (![0, o] : Fin 2 → ℕ) a + (![1, 512] : Fin 2 → ℕ) a ≤ S1x2048.size a) :
    Group (fun r j => tw (argQ m c) (t.val * 512 + r.val) (g.val * 512 + j.val)) (fun r j => tw (argD m c) (t.val * 512 + r.val) (g.val * 512 + j.val))
      (tm (argW m c) g.val) (fun j => tp (argP m c) (g.val * 512 + j.val))
      (View.ld (iblk m c 0 t : FVec Ideal S512x2048 .bf16) (Rect.unit ![0, o] ![512, 512] i0) : Vec Ideal S512x512 .bf16)
      (View.ld (iblk m c 1 t : FVec Ideal S512x2048 .bf16) (Rect.unit ![0, o] ![512, 512] i0) : Vec Ideal S512x512 .bf16)
      (View.ld (iblk m c 2 t : FVec Ideal S4x512x512 .bf16) (Rect.unit ![g.val, 0, 0] ![1, 512, 512] i2) : Vec Ideal S1x512x512 .bf16)
      (View.ld (iblk m c 3 t : Row) (Rect.unit ![0, o] ![1, 512] i3) : Vec Ideal S1x512 .f32) := by
  subst ho
  constructor
  · intro r j; rw [ldB _ _ (by omega), blkQ]
  · intro r j; rw [ldB _ _ (by omega), blkD]
  · intro a b; rw [ldM, blkW]
  · intro j; rw [ldP _ _ (by omega), blkP]

def group0 := group m c t 0 0 rfl (by decide) (by decide) (by decide)
def group1 := group m c t 1 512 rfl (by decide) (by decide) (by decide)
def group2 := group m c t 2 1024 rfl (by decide) (by decide) (by decide)
def group3 := group m c t 3 1536 rfl (by decide) (by decide) (by decide)

/-! ## The gradient of the rows -/

/-- The four stores lie side by side. -/
theorem canon_rows (p0 p1 p2 p3 : FVec Ideal S512x512 .f32) (r : Fin 512) (g : Fin 4) (j : Fin 512) :
    (View.canon [⟨Rect.unit ![0, 1536] ![512, 512] (by decide), p3⟩, ⟨Rect.unit ![0, 1024] ![512, 512] (by decide), p2⟩,
      ⟨Rect.unit ![0, 512] ![512, 512] (by decide), p1⟩, ⟨Rect.unit ![0, 0] ![512, 512] (by decide), p0⟩] : Vec Ideal S512x2048 .f32)
      (ix2 r ⟨g.val * 512 + j.val, by omega⟩) = (![p0, p1, p2, p3] g) (ix2 r j) := by
  generalize hz : (ix2 r ⟨g.val * 512 + j.val, by omega⟩ : S512x2048.Idx) = y
  have y0 : (y 0).val = r.val := by rw [← hz]; rfl
  have y1 : (y 1).val = g.val * 512 + j.val := by rw [← hz]; rfl
  have key : ∀ x : S512x512.Idx, (x 0).val = r.val → (x 1).val = j.val → x = ix2 r j := fun x e0 e1 => by
    funext k; fin_cases k
    · exact Fin.ext e0
    · exact Fin.ext e1
  canon_tiles x h
  case piece0 => rw [key x (by omega) (by omega), show g = 3 by omega]; rfl
  case piece1 => rw [key x (by omega) (by omega), show g = 2 by omega]; rfl
  case piece2 => rw [key x (by omega) (by omega), show g = 1 by omega]; rfl
  case piece3 => rw [key x (by omega) (by omega), show g = 0 by omega]; rfl

theorem rows_at (r : Fin 512) (g : Fin 4) (j : Fin 512) : (outsAt0 m c t.val t.isLt).1 (ix2 r ⟨g.val * 512 + j.val, by omega⟩)
    = rowsOut (fun r j => tw (argQ m c) (t.val * 512 + r.val) (g.val * 512 + j.val)) (tm (argW m c) g.val) (fun j => tp (argP m c) (g.val * 512 + j.val)) r j := by
  have hN := lt16 t
  by_cases h : t.val % 16 = 0
  on_goal 1 => rw [outsAt0_A m c t h (by omega) h (by omega) h (by omega) h (by omega)]
  on_goal 2 => rw [outsAt0_B m c t h (by omega) h (by omega) h (by omega) h (by omega)]
  all_goals
    dsimp only
    frame_out
    rw [canon_rows]
    fin_cases g
    · exact rows_out (group0 m c t) r j
    · exact rows_out (group1 m c t) r j
    · exact rows_out (group2 m c t) r j
    · exact rows_out (group3 m c t) r j

/-! ## The gradient of the matrices -/

theorem canon_mats (p0 p1 p2 p3 : FVec Ideal S1x512x512 .f32) (g : Fin 4) (a b : Fin 512) :
    (View.canon [⟨Rect.unit ![3, 0, 0] ![1, 512, 512] (by decide), p3⟩, ⟨Rect.unit ![2, 0, 0] ![1, 512, 512] (by decide), p2⟩,
      ⟨Rect.unit ![1, 0, 0] ![1, 512, 512] (by decide), p1⟩, ⟨Rect.unit ![0, 0, 0] ![1, 512, 512] (by decide), p0⟩] : Vec Ideal S4x512x512 .f32)
      (ix3 g a b) = (![p0, p1, p2, p3] g) (ix3 0 a b) := by
  generalize hz : (ix3 g a b : S4x512x512.Idx) = y
  have y0 : (y 0).val = g.val := by rw [← hz]; rfl
  have y1 : (y 1).val = a.val := by rw [← hz]; rfl
  have y2 : (y 2).val = b.val := by rw [← hz]; rfl
  have key : ∀ x : S1x512x512.Idx, (x 1).val = a.val → (x 2).val = b.val → x = ix3 0 a b := fun x e1 e2 => by
    funext k; fin_cases k
    · exact Subsingleton.elim (α := Fin 1) _ _
    · exact Fin.ext e1
    · exact Fin.ext e2
  canon_tiles x h
  case piece0 => rw [key x (by omega) (by omega), show g = 3 by omega]; rfl
  case piece1 => rw [key x (by omega) (by omega), show g = 2 by omega]; rfl
  case piece2 => rw [key x (by omega) (by omega), show g = 1 by omega]; rfl
  case piece3 => rw [key x (by omega) (by omega), show g = 0 by omega]; rfl

/-- What block `n` adds to an entry of the matrices' gradient. -/
def matAt (n : ℕ) (Q D : Wide) (P : Row) (y : S4x512x512.Idx) : EReal :=
  matShare (fun r j => tw Q (n * 512 + r.val) ((y 0).val * 512 + j.val)) (fun r j => tw D (n * 512 + r.val) ((y 0).val * 512 + j.val))
    (fun j => tp P ((y 0).val * 512 + j.val)) (y 1) (y 2)

theorem splitM (y : S4x512x512.Idx) : ∃ (g : Fin 4) (a b : Fin 512), y = ix3 g a b :=
  ⟨y 0, y 1, y 2, funext fun k => by fin_cases k <;> rfl⟩

theorem first_mat (h : t.val % 16 = 0) (y : S4x512x512.Idx) : (outsAt0 m c t.val t.isLt).2.1 y = matAt t.val (argQ m c) (argD m c) (argP m c) y := by
  have hN := lt16 t
  obtain ⟨g, a, b, rfl⟩ := splitM y
  rw [outsAt0_A m c t h (by omega) h (by omega) h (by omega) h (by omega)]
  dsimp only
  frame_out
  rw [canon_mats]
  fin_cases g
  · exact mat_first (group0 m c t) a b
  · exact mat_first (group1 m c t) a b
  · exact mat_first (group2 m c t) a b
  · exact mat_first (group3 m c t) a b

theorem next_mat (h : ¬t.val % 16 = 0) (y : S4x512x512.Idx) :
    (outsAt0 m c t.val t.isLt).2.1 y = (outsAt0 m c (t.val - 1) (by have := t.isLt; omega)).2.1 y + matAt t.val (argQ m c) (argD m c) (argP m c) y := by
  have hN := lt16 t
  obtain ⟨g, a, b, rfl⟩ := splitM y
  rw [outsAt0_B m c t h (by omega) h (by omega) h (by omega) h (by omega)]
  dsimp only
  frame_out
  refine (canon_mats _ _ _ _ g a b).trans ?_
  fin_cases g
  · exact (mat_next (group0 m c t) _ a b).trans (congrArg (· + _) (ldM _ 0 _ a b))
  · exact (mat_next (group1 m c t) _ a b).trans (congrArg (· + _) (ldM _ 1 _ a b))
  · exact (mat_next (group2 m c t) _ a b).trans (congrArg (· + _) (ldM _ 2 _ a b))
  · exact (mat_next (group3 m c t) _ a b).trans (congrArg (· + _) (ldM _ 3 _ a b))

/-! ## The gradient of the factors -/

theorem canon_facs (p0 p1 p2 p3 : FVec Ideal S1x512 .f32) (g : Fin 4) (j : Fin 512) :
    (View.canon [⟨Rect.unit ![0, 1536] ![1, 512] (by decide), p3⟩, ⟨Rect.unit ![0, 1024] ![1, 512] (by decide), p2⟩,
      ⟨Rect.unit ![0, 512] ![1, 512] (by decide), p1⟩, ⟨Rect.unit ![0, 0] ![1, 512] (by decide), p0⟩] : Vec Ideal S1x2048 .f32)
      (ix2 0 ⟨g.val * 512 + j.val, by omega⟩) = (![p0, p1, p2, p3] g) (ix2 0 j) := by
  generalize hz : (ix2 0 ⟨g.val * 512 + j.val, by omega⟩ : S1x2048.Idx) = y
  have y0 : (y 0).val = 0 := by rw [← hz]; rfl
  have y1 : (y 1).val = g.val * 512 + j.val := by rw [← hz]; rfl
  have key : ∀ x : S1x512.Idx, (x 1).val = j.val → x = ix2 0 j := fun x e => by
    funext k; fin_cases k
    · exact Subsingleton.elim (α := Fin 1) _ _
    · exact Fin.ext e
  canon_tiles x h
  case piece0 => rw [key x (by omega), show g = 3 by omega]; rfl
  case piece1 => rw [key x (by omega), show g = 2 by omega]; rfl
  case piece2 => rw [key x (by omega), show g = 1 by omega]; rfl
  case piece3 => rw [key x (by omega), show g = 0 by omega]; rfl

/-- What block `n` adds to an entry of the factors' gradient. -/
def facAt (n : ℕ) (Q D : Wide) (W : Mats) (y : S1x2048.Idx) : EReal :=
  facShare (fun r j => tw Q (n * 512 + r.val) ((y 1).val / 512 * 512 + j.val)) (fun r j => tw D (n * 512 + r.val) ((y 1).val / 512 * 512 + j.val))
    (tm W ((y 1).val / 512)) (Fin.ofNat 512 (y 1).val)

theorem splitF (y : S1x2048.Idx) : ∃ (g : Fin 4) (j : Fin 512), y = ix2 0 ⟨g.val * 512 + j.val, by omega⟩ := by
  have h : (y 1).val < 2048 := (y 1).isLt
  refine ⟨⟨(y 1).val / 512, by omega⟩, ⟨(y 1).val % 512, by omega⟩, funext fun a => ?_⟩
  fin_cases a
  · exact Subsingleton.elim (α := Fin 1) _ _
  · exact Fin.ext (by show (y 1).val = (y 1).val / 512 * 512 + (y 1).val % 512; omega)

theorem facAt_ix (n : ℕ) (Q D : Wide) (W : Mats) (g : Fin 4) (j : Fin 512) : facAt n Q D W (ix2 0 ⟨g.val * 512 + j.val, by omega⟩)
    = facShare (fun r j => tw Q (n * 512 + r.val) (g.val * 512 + j.val)) (fun r j => tw D (n * 512 + r.val) (g.val * 512 + j.val)) (tm W g.val) j := by
  unfold facAt
  have e : ((ix2 0 ⟨g.val * 512 + j.val, by omega⟩ : S1x2048.Idx) 1).val = g.val * 512 + j.val := rfl
  rw [e, show (g.val * 512 + j.val) / 512 = g.val by omega, show Fin.ofNat 512 (g.val * 512 + j.val) = j from Fin.ext (by show (g.val * 512 + j.val) % 512 = j.val; omega)]

theorem first_fac (h : t.val % 16 = 0) (y : S1x2048.Idx) : (outsAt0 m c t.val t.isLt).2.2 y = facAt t.val (argQ m c) (argD m c) (argW m c) y := by
  have hN := lt16 t
  obtain ⟨g, j, rfl⟩ := splitF y
  rw [outsAt0_A m c t h (by omega) h (by omega) h (by omega) h (by omega), facAt_ix]
  dsimp only
  frame_out
  rw [canon_facs]
  fin_cases g
  · exact fac_first (group0 m c t) j
  · exact fac_first (group1 m c t) j
  · exact fac_first (group2 m c t) j
  · exact fac_first (group3 m c t) j

theorem next_fac (h : ¬t.val % 16 = 0) (y : S1x2048.Idx) :
    (outsAt0 m c t.val t.isLt).2.2 y = (outsAt0 m c (t.val - 1) (by have := t.isLt; omega)).2.2 y + facAt t.val (argQ m c) (argD m c) (argW m c) y := by
  have hN := lt16 t
  obtain ⟨g, j, rfl⟩ := splitF y
  rw [outsAt0_B m c t h (by omega) h (by omega) h (by omega) h (by omega), facAt_ix]
  dsimp only
  frame_out
  refine (canon_facs _ _ _ _ g j).trans ?_
  fin_cases g
  · exact (fac_next (group0 m c t) _ j).trans (congrArg (· + _) (ldP _ 0 (by omega) _ j))
  · exact (fac_next (group1 m c t) _ j).trans (congrArg (· + _) (ldP _ 512 (by omega) _ j))
  · exact (fac_next (group2 m c t) _ j).trans (congrArg (· + _) (ldP _ 1024 (by omega) _ j))
  · exact (fac_next (group3 m c t) _ j).trans (congrArg (· + _) (ldP _ 1536 (by omega) _ j))

/-! ## The arrays -/

/-- The last grid point. -/
def last : Fin cfg0.N := ⟨15, lt_of_lt_of_eq (by omega : 15 < 16) N_0.symm⟩

theorem final5 : (dats m 0 c).arrAt 5 (cfgs 0).N = outMats (argQ m c) (argD m c) (argP m c) := by
  refine (dats m 0 c).arrAt_eq_of_after_last 5 last (by decide +kernel) _ fun y => ?_
  blk_simp
  rw [after0_5, Pipeline.eq_sum_fin_of_reset_step_apply_last (fun n h => (outsAt0 m c n h).2.1) 16 (fun _ => 0)
    (fun t => matAt t.val (argQ m c) (argD m c) (argP m c))
    (fun t h j => by rw [first_mat m c t h, zero_add])
    (fun t h j => next_mat m c t (by have := lt16 t; omega) j)
    (le_of_eq N_0) last rfl y, zero_add]
  exact Fin.sum_mul_add_congr fun t r hl => by rfl

theorem outFacs_eq (Q D : Wide) (W : Mats) (y : S1x2048.Idx) : outFacs Q D W y
    = ∑ i : Fin 8192, tw Q i.val ((y 1).val / 512 * 512 + (Fin.ofNat 512 (y 1).val).val) * ∑ k : Fin 512, tw D i.val ((y 1).val / 512 * 512 + k.val) * tm W ((y 1).val / 512) k (Fin.ofNat 512 (y 1).val) := by
  unfold outFacs
  rw [show (y 1).val / 512 * 512 + (Fin.ofNat 512 (y 1).val).val = (y 1).val from by show (y 1).val / 512 * 512 + (y 1).val % 512 = (y 1).val; omega]

theorem final6 : (dats m 0 c).arrAt 6 (cfgs 0).N = outFacs (argQ m c) (argD m c) (argW m c) := by
  refine (dats m 0 c).arrAt_eq_of_after_last 6 last (by decide +kernel) _ fun y => ?_
  blk_simp
  rw [after0_6, Pipeline.eq_sum_fin_of_reset_step_apply_last (fun n h => (outsAt0 m c n h).2.2) 16 (fun _ => 0)
    (fun t => facAt t.val (argQ m c) (argD m c) (argW m c))
    (fun t h j => by rw [first_fac m c t h, zero_add])
    (fun t h j => next_fac m c t (by have := lt16 t; omega) j)
    (le_of_eq N_0) last rfl y, zero_add, outFacs_eq]
  exact Fin.sum_mul_add_congr fun t r hl => by rfl

theorem final4 : (dats m 0 c).arrAt 4 (cfgs 0).N = outRows (argQ m c) (argW m c) (argP m c) := by
  refine (dats m 0 c).arrAt_eq_of_covers 4 _ (by decide +kernel) fun t _ y => ?_
  have hN := lt16 t
  obtain ⟨r, hr⟩ : ∃ r : Fin 512, r = y 0 := ⟨y 0, rfl⟩
  obtain ⟨n, hn⟩ : ∃ n : Fin 2048, n = y 1 := ⟨y 1, rfl⟩
  have hy : (cfg0.win 4).xinj (cfg0.grid.coords t) y = (ix2 r n : S512x2048.Idx) := by
    funext k; fin_cases k
    · exact hr.symm
    · exact hn.symm
  have he : ((cfg0.win 4).blk t).view.emb y = (ix2 ⟨t.val * 512 + r.val, by omega⟩ n : S8192x2048.Idx) := by
    funext k; fin_cases k <;> refine Fin.ext ?_
    · show ((((cfg0.win 4).blk t).view.emb y) 0).val = t.val * 512 + r.val
      rw [hr]; blk_simp [idx t]
    · show ((((cfg0.win 4).blk t).view.emb y) 1).val = n.val
      rw [hn]; blk_simp [idx t]
  rw [he, after0_4]
  refine (cast_eq _ _).trans ?_
  rw [hy]
  clear hn hy he
  obtain ⟨g, j, rfl⟩ : ∃ (g : Fin 4) (j : Fin 512), n = ⟨g.val * 512 + j.val, by omega⟩ :=
    ⟨⟨n.val / 512, by omega⟩, ⟨n.val % 512, by omega⟩, Fin.ext (by show n.val = n.val / 512 * 512 + n.val % 512; omega)⟩
  refine (rows_at m c t r g j).trans ?_
  unfold outRows rowsOut
  have e0 : ((ix2 ⟨t.val * 512 + r.val, by omega⟩ ⟨g.val * 512 + j.val, by omega⟩ : S8192x2048.Idx) 0).val = t.val * 512 + r.val := rfl
  have e1 : ((ix2 ⟨t.val * 512 + r.val, by omega⟩ ⟨g.val * 512 + j.val, by omega⟩ : S8192x2048.Idx) 1).val = g.val * 512 + j.val := rfl
  rw [e0, e1, show (g.val * 512 + j.val) / 512 = g.val by omega, show Fin.ofNat 512 (g.val * 512 + j.val) = j from Fin.ext (by show (g.val * 512 + j.val) % 512 = j.val; omega)]

end Cert.PoolProof

end
-- ==== Proof.PoolRef.lean ====
/- The pooling mixer's gradient: what the reference's three results hold. -/
module

public import proofs.«01_k».proof.Proof.PoolValue

@[expose] public section

set_option maxRecDepth 131072

noncomputable section

namespace Cert.PoolProof

open PoolRefIdeal PoolRefIdeal.Gen Tables Idealize.ShloMosaic TcCoe Idealize.SL.Sem

/-- Rows in groups; the cotangent times the factors, a group's columns first. -/
def grouped (x : Wide) : Grouped := shapeCast S8192x4x512 x shapeCasts_S8192x2048_S8192x4x512
def scaled (Q : Wide) (P : Row) : FVec Ideal S4x512x8192 .f32 :=
  transpose S4x512x8192 [1, 2, 0] (grouped (mulf Q (broadcastInDim S8192x2048 ![0, 1] bcast_S1x2048_S8192x2048_0_1 P))) transposes_S8192x4x512_S4x512x8192_1_2_0

def refRows (Q : Wide) (W : Mats) (P : Row) : Wide :=
  shapeCast S8192x2048 (transpose S8192x4x512 [1, 0, 2] (Host.dotGeneral dot_S4x512x8192_S4x512x512_S4x8192x512_1_2_2_1_0_0 none (scaled Q P) W)
    transposes_S4x8192x512_S8192x4x512_1_0_2) shapeCasts_S8192x4x512_S8192x2048
def refMats (Q D : Wide) (P : Row) : Mats :=
  transpose S4x512x512 [0, 2, 1] (Host.dotGeneral dot_S4x512x8192_S8192x4x512_S4x512x512_2_0_1_2_0_1 none (scaled Q P) (grouped D)) transposes_S4x512x512_S4x512x512_0_2_1
def product (D : Wide) (W : Mats) : Wide :=
  shapeCast S8192x2048 (transpose S8192x4x512 [2, 0, 1] (Host.dotGeneral dot_S4x512x512_S8192x4x512_S4x512x8192_1_2_2_0_0_1 none W (grouped D))
    transposes_S4x512x8192_S8192x4x512_2_0_1) shapeCasts_S8192x4x512_S8192x2048
def refFacs (Q D : Wide) (W : Mats) : Row :=
  shapeCast S1x2048 (Host.reduceAdd (mulf (product D W) Q) (constant S_ .f32 0x00000000#32) reducesTo_S8192x2048_S2048_d0 h_S_) shapeCasts_S2048_S1x2048

theorem grouped_at (x : Wide) (i : Fin 8192) (g : Fin 4) (k : Fin 512) : grouped x (ix3 i g k) = tw x i.val (g.val * 512 + k.val) := by
  pointwise [grouped]
  refine tab_of (a := 8192) (b := 2048) (φ := .f32) _ ?_ ?_ <;> rfl

theorem scaled_at (Q : Wide) (P : Row) (g : Fin 4) (k : Fin 512) (i : Fin 8192) :
    scaled Q P (ix3 g k i) = tw Q i.val (g.val * 512 + k.val) * tp P (g.val * 512 + k.val) := by
  unfold scaled grouped
  pointwise []
  exact congrArg₂ (· * ·) (tab_of (a := 8192) (b := 2048) (φ := .f32) _ rfl rfl) (tab_of (a := 1) (b := 2048) (φ := .f32) _ rfl rfl)

theorem tm_at (W : Mats) (g : Fin 4) (a b : Fin 512) : W (ix3 g a b) = tm W g.val a b := by unfold tm; rw [dif_pos g.isLt]

theorem refRows_at (Q : Wide) (W : Mats) (P : Row) (i : Fin 8192) (g : Fin 4) (j : Fin 512) :
    refRows Q W P (ix2 i ⟨g.val * 512 + j.val, by omega⟩) = rowsOut (fun _ k => tw Q i.val (g.val * 512 + k.val)) (tm W g.val) (fun k => tp P (g.val * 512 + k.val)) 0 j := by
  unfold refRows rowsOut
  generalize hz : scaled Q P = z
  pointwise []
  subst hz
  refine Finset.sum_congr rfl fun k _ => ?_
  exact congrArg₂ (· * ·) (scaled_at Q P g k i) (tm_at W g j k)

theorem refMats_at (Q D : Wide) (P : Row) (g : Fin 4) (a b : Fin 512) : refMats Q D P (ix3 g a b) = outMats Q D P (ix3 g a b) := by
  unfold refMats
  generalize hz : scaled Q P = z
  generalize hw : grouped D = w
  pointwise []
  subst hz hw
  refine Finset.sum_congr rfl fun i _ => ?_
  rw [scaled_at, grouped_at, mul_comm]
  rfl

theorem product_at (D : Wide) (W : Mats) (i : Fin 8192) (g : Fin 4) (j : Fin 512) :
    product D W (ix2 i ⟨g.val * 512 + j.val, by omega⟩) = ∑ k : Fin 512, tw D i.val (g.val * 512 + k.val) * tm W g.val k j := by
  unfold product
  generalize hw : grouped D = w
  pointwise []
  subst hw
  refine Finset.sum_congr rfl fun k _ => ?_
  rw [grouped_at, mul_comm]
  exact congrArg (_ * ·) (tm_at W g k j)

theorem refFacs_at (Q D : Wide) (W : Mats) (g : Fin 4) (j : Fin 512) :
    refFacs Q D W (ix2 0 ⟨g.val * 512 + j.val, by omega⟩) = outFacs Q D W (ix2 0 ⟨g.val * 512 + j.val, by omega⟩) := by
  unfold refFacs
  generalize hw : product D W = w
  pointwise []
  subst hw
  unfold outFacs
  have e1 : ((ix2 0 ⟨g.val * 512 + j.val, by omega⟩ : S1x2048.Idx) 1).val = g.val * 512 + j.val := rfl
  rw [e1, show (g.val * 512 + j.val) / 512 = g.val by omega, show Fin.ofNat 512 (g.val * 512 + j.val) = j from Fin.ext (by show (g.val * 512 + j.val) % 512 = j.val; omega)]
  refine Finset.sum_congr rfl fun i _ => ?_
  rw [product_at, mul_comm]
  exact congrArg (· * _) (tab_of (a := 8192) (b := 2048) (φ := .f32) _ rfl rfl)

theorem splitR (y : S8192x2048.Idx) : ∃ (i : Fin 8192) (g : Fin 4) (j : Fin 512), y = ix2 i ⟨g.val * 512 + j.val, by omega⟩ := by
  have h : (y 1).val < 2048 := (y 1).isLt
  refine ⟨y 0, ⟨(y 1).val / 512, by omega⟩, ⟨(y 1).val % 512, by omega⟩, funext fun a => ?_⟩
  fin_cases a
  · rfl
  · exact Fin.ext (by show (y 1).val = (y 1).val / 512 * 512 + (y 1).val % 512; omega)

theorem refRows_eq (Q : Wide) (W : Mats) (P : Row) : refRows Q W P = outRows Q W P := by
  funext y
  obtain ⟨i, g, j, rfl⟩ := splitR y
  refine (refRows_at Q W P i g j).trans ?_
  unfold outRows
  have e1 : ((ix2 i ⟨g.val * 512 + j.val, by omega⟩ : S8192x2048.Idx) 1).val = g.val * 512 + j.val := rfl
  rw [e1, show (g.val * 512 + j.val) / 512 = g.val by omega, show Fin.ofNat 512 (g.val * 512 + j.val) = j from Fin.ext (by show (g.val * 512 + j.val) % 512 = j.val; omega)]
  rfl

theorem refMats_eq (Q D : Wide) (P : Row) : refMats Q D P = outMats Q D P := by
  funext y
  obtain ⟨g, a, b, rfl⟩ := splitM y
  exact refMats_at Q D P g a b

theorem refFacs_eq (Q D : Wide) (W : Mats) : refFacs Q D W = outFacs Q D W := by
  funext y
  obtain ⟨g, j, rfl⟩ := splitF y
  exact refFacs_at Q D W g j

section Run
variable (m : (ℓ : Loc nD τ sig) → Buf (Elt Ideal) ℓ) (c : Dev nD)

theorem run_mats : @Eq Mats (Value.res_main_v88 (F := Ideal) m c) (refMats (m ((c.tc : Thread nD τ).loc main_arg3)) (diffRows (m ((c.tc : Thread nD τ).loc main_arg0))) (m ((c.tc : Thread nD τ).loc main_arg2))) := by
  unfold Value.res_main_v88
  rfl
theorem run_facs : @Eq Row (Value.res_main_v80 (F := Ideal) m c) (refFacs (m ((c.tc : Thread nD τ).loc main_arg3)) (diffRows (m ((c.tc : Thread nD τ).loc main_arg0))) (m ((c.tc : Thread nD τ).loc main_arg1))) := by
  unfold Value.res_main_v80
  rfl
end Run

end Cert.PoolProof

end
-- ==== Proof.PoolClaims.lean ====
/- The claims about the call of the pooling mixer's gradient. -/
module
public import proofs.«01_k».proof.Defs
public import proofs.«01_k».proof.Proof.PoolRef
public import proofs.«01_k».proof.Proof.Gen.Pool.Frame

@[expose] public section

set_option maxRecDepth 131072

noncomputable section

namespace Cert.PoolProof
open Idealize.ShloMosaic Idealize.SL.Sem

/-- The frame of the reference. -/
theorem ref_frame : quiescent_PoolRefIdeal := fun m ρ _ =>
  (θ_run PoolRefIdeal.defs _ _).mono (fun r h => ⟨fun c => (h c).2.2.2, sem_eq_zero_of_no_sems (by decide) r.2⟩)
    (PoolRefIdeal.Value.run (F := Ideal) m ρ)

/-- The call's three results are the reference's, at any arguments. -/
theorem algebraic : algebraic_PoolIdeal_PoolRefIdeal := fun m ρ m' ρ' _ hag =>
  ⟨fun c => outRows (argQ m c) (argW m c) (argP m c), fun c => outMats (argQ m c) (argD m c) (argP m c), fun c => outFacs (argQ m c) (argD m c) (argW m c),
   (θ_run PoolIdeal.defs _ _).mono (fun _ h c => ⟨(h c).1.trans (final4 m c), (h c).2.1.trans (final5 m c), (h c).2.2.1.trans (final6 m c), (h c).2.2.2⟩)
     (PoolIdeal.Value.run_blocks (F := Ideal) m ρ),
   (θ_run PoolRefIdeal.defs _ _).mono (fun _ h c => by
       obtain ⟨e0, e1, e2, e3⟩ := hag c
       refine ⟨(h c).1.trans ?_, (h c).2.1.trans ?_, (h c).2.2.1.trans ?_, (h c).2.2.2⟩
       · rw [e1, e2, e3]
         exact refRows_eq (argQ m c) (argW m c) (argP m c)
       · refine (run_mats m' c).trans ?_
         rw [e0, e2, e3]
         exact refMats_eq (argQ m c) (argD m c) (argP m c)
       · refine (run_facs m' c).trans ?_
         rw [e0, e1, e3]
         exact refFacs_eq (argQ m c) (argD m c) (argW m c))
     (PoolRefIdeal.Value.run (F := Ideal) m' ρ')⟩
-- ==== Proof.AttnFwdEnds.lean ====
module

public import proofs.«01_k».proof.Proof.Gen.AttnFwd.Skeleton
public import proofs.«01_k».proof.Proof.Gen.AttnFwd.Points
public import proofs.«01_k».proof.Proof.Gen.AttnFwd.Launch
public import Idealize.ShloMosaic.Lib.Pipeline.ArrRel
public import Idealize.ShloMosaic.Lib.Pipeline.DatRel
public import Idealize.ShloMosaic.Lib.Pipeline.ValueKit

/-! The frame of the forward attention as printed: the walk over the blocks of keys ends, whatever it
computes, and nothing but the outputs is written. -/

@[expose] public section

set_option maxRecDepth 8192
set_option maxHeartbeats 4000000

noncomputable section

namespace Cert.AttnFwdEnds

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)
open AttnFwd AttnFwd.Gen

variable {F : FTy → Type} [FloatOps F]

local notation "𝕄G" => MT nD τ sig Unit (Elt F) ℕ (UR sig nD τ) ℕ

/-- While the walk goes on, the block it reads lies in the keys. -/
theorem inside : ∀ (t : Fin k0_t1_loop.trips) (n : Fin (2 * t.val)), k0_chk1 t (BitVec.ofNat 32 n.val) := by
  set_option synthInstance.maxSize 1000000 in set_option synthInstance.maxHeartbeats 0 in
  decide +kernel

/-- With all the blocks walked the walk stops. -/
theorem stops : ∀ (t : Fin 16) (x : BitVec 1), Scalar.andi (Scalar.cmpi .slt (BitVec.ofNat 32 (2 * t.val - 0)) (Scalar.muli (Scf.iv 0#32 1#32 t.val) 2#32)) x ≠ 1#1 := by
  decide

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .f32) (harg5 : arg5.IsWhole) (arg6 : Memref sig .tc .smem S16x16 .i32) (harg6 : arg6.IsWhole)

/-- A buffer at given contents, and at some contents. -/
abbrev held {sp : Space} {S : Shape} {e : EltTy} (a : Memref sig .tc sp S e) (f : BufTy.Contents (Elt F) a.view.ty) : sProp 𝕄G :=
  iprop(a.view.loc (c : Thread nD τ) ↦[a.view.set]{fullShare} f)
abbrev some' {sp : Space} {S : Shape} {e : EltTy} (a : Memref sig .tc sp S e) : sProp 𝕄G :=
  iprop(∃ f : BufTy.Contents (Elt F) a.view.ty, held c a f)

/-- From `n` blocks before the end the walk ends. -/
theorem walk_ends (t : Fin k0_t1_loop.trips) (v11 : FVec F S512x128 .bf16) (v5 : FVec F S256x256 .bf16)
    (f2 : BufTy.Contents (Elt F) arg2.view.ty) (f3 : BufTy.Contents (Elt F) arg3.view.ty)
    (Φ : BitVec 32 × BitVec 32 × FVec F S512x1 .f32 × FVec F S512x128 .f32 × FVec F S512x256 .f32 → sProp 𝕄G) :
    ∀ (n : ℕ) (a8 a9 : BitVec 32) (a10 : FVec F S512x1 .f32) (a11 : FVec F S512x128 .f32) (a12 : FVec F S512x256 .f32),
    n ≤ 2 * t.val → a8 = BitVec.ofNat 32 (2 * t.val - n) →
    iprop(held c arg2 f2 ∗ held c arg3 f3 ∗ (∀ x, held c arg2 f2 -∗ held c arg3 f3 -∗ Φ x)) ⊢
      wp frame (wpE (defs₀ (F := F)) Variants.nat (c : Thread nD τ) (some n)) Set.univ
        (cc0_while1 (F := F) i t arg2 harg2 v11 v5 arg3 harg3 a8 a9 a10 a11 a12) Φ
  | 0, a8, a9, a10, a11, a12, _, hs => by
    subst hs
    simp only [cc0_while1_eq_skeleton]
    unfold cc0_while1_skel
    dsimp only
    rw [if_neg (stops t _)]
    iintro ⟨H2, H3, HP⟩
    sl_step
    iapply HP $$ H2 H3
  | n + 1, a8, a9, a10, a11, a12, hn, hs => by
    simp only [cc0_while1_eq_skeleton]
    unfold cc0_while1_skel
    dsimp only
    split
    · have hw : k0_chk1 t a8 := hs ▸ inside t ⟨2 * t.val - (n + 1), by omega⟩
      have hcount : Scalar.addi a8 1#32 = BitVec.ofNat 32 (2 * t.val - n) := by
        rw [hs, show 2 * t.val - n = 2 * t.val - (n + 1) + 1 by omega]
        exact (BitVec.ofNat_add _ 1).symm
      simp only [k0_part4_eq_skeleton]
      unfold k0_part4_skel
      iintro ⟨H2, H3, HP⟩
      sl_exec
      iapply (wp_call Variants.nat (c : Thread nD τ) (some (n + 1)) Set.univ (Γ := .empty) n (fun u hu => (Option.mem_some_iff.mp hu) ▸ Nat.lt_succ_self n))
      iapply (walk_ends t v11 v5 f2 f3 (fun x => wp frame (wpE' (defs₀ (F := F)) Variants.nat (c : Thread nD τ) (some (n + 1)) .empty) Set.univ (Prog.ret x) Φ) n _ _ _ _ _
        (by omega) hcount)
      isplitl [H2]; · iexact H2
      isplitl [H3]; · iexact H3
      iintro %x H2 H3
      sl_step
      iapply HP $$ H2 H3
    · iintro ⟨H2, H3, HP⟩
      sl_step
      iapply HP $$ H2 H3

/-- What a block of queries, and with it a head, keeps. -/
abbrev kept (c : Dev nD) (arg1 : Memref sig .tc .vmem S8192x128 .bf16) (arg2 : Memref sig .tc .vmem S8192x128 .bf16)
    (arg3 : Memref sig .tc .vmem S8192x128 .bf16) (arg4 : Memref sig .tc .vmem S8192x128 .bf16) (arg5 : Memref sig .tc .vmem S8192x128 .f32)
    (arg6 : Memref sig .tc .smem S16x16 .i32)
    (f1 : BufTy.Contents (Elt F) arg1.view.ty) (f2 : BufTy.Contents (Elt F) arg2.view.ty) (f3 : BufTy.Contents (Elt F) arg3.view.ty) : sProp 𝕄G :=
  iprop(held c arg1 f1 ∗ held c arg2 f2 ∗ held c arg3 f3 ∗ some' (F := F) c arg4 ∗ some' (F := F) c arg5 ∗ some' (F := F) c arg6)

theorem block_ends (t : Fin k0_t1_loop.trips) (acc : Unit)
    (f1 : BufTy.Contents (Elt F) arg1.view.ty) (f2 : BufTy.Contents (Elt F) arg2.view.ty) (f3 : BufTy.Contents (Elt F) arg3.view.ty) :
    kept c arg1 arg2 arg3 arg4 arg5 arg6 f1 f2 f3 ⊢
      wp frame (wpE (defs₀ (F := F)) Variants.nat (c : Thread nD τ) none) Set.univ
        (k0_t1_body (F := F) i arg1 harg1 arg2 harg2 arg3 harg3 arg4 harg4 arg5 harg5 arg6 harg6 t acc)
        (fun _ => kept c arg1 arg2 arg3 arg4 arg5 arg6 f1 f2 f3) := by
  unfold k0_t1_body
  simp only [k0_part1_eq_skeleton, k0_part2_eq_skeleton, k0_part3_eq_skeleton]
  unfold k0_part1_skel k0_part2_skel k0_part3_skel
  iintro ⟨H1, H2, H3, ⟨%f4, H4⟩, ⟨%f5, H5⟩, ⟨%f6, H6⟩⟩
  sl_exec
  iapply (wp_call Variants.nat (c : Thread nD τ) none Set.univ (Γ := .empty) (2 * t.val) (fun u hu => nomatch hu))
  dsimp only
  iapply (walk_ends c i arg2 harg2 arg3 harg3 t _ _ f2 f3 _ (2 * t.val) _ _ _ _ _ le_rfl (by rw [Nat.sub_self]))
  isplitl [H2]; · iexact H2
  isplitl [H3]; · iexact H3
  iintro %x H2 H3
  obtain ⟨x0, x1, x2, x3, x4⟩ := x
  dsimp only
  sl_exec
  sl_step
  isplitl [H1]; · iexact H1
  isplitl [H2]; · iexact H2
  isplitl [H3]; · iexact H3
  isplitl [H4]; · iexists _; iexact H4
  isplitl [H5]; · iexists _; iexact H5
  iexists _; iexact H6

theorem head_ends (P : PUnit → sProp 𝕄G) (Q K V : FVec F S8192x128 .bf16) :
    iprop(owns (c : Thread nD τ) arg1 fullShare Q ∗ owns (c : Thread nD τ) arg2 fullShare K ∗ owns (c : Thread nD τ) arg3 fullShare V ∗
      (∃ d, owns (c : Thread nD τ) arg4 fullShare d) ∗ (∃ d, owns (c : Thread nD τ) arg5 fullShare d) ∗ (∃ d, owns (c : Thread nD τ) arg6 fullShare d) ∗
      (iprop(owns (c : Thread nD τ) arg1 fullShare Q ∗ owns (c : Thread nD τ) arg2 fullShare K ∗ owns (c : Thread nD τ) arg3 fullShare V ∗
        (∃ d, owns (c : Thread nD τ) arg4 fullShare d) ∗ (∃ d, owns (c : Thread nD τ) arg5 fullShare d) ∗ (∃ d, owns (c : Thread nD τ) arg6 fullShare d)) -∗ P ⟨⟩))
    ⊢ wp frame (wpE (defs₀ (F := F)) Variants.nat (c : Thread nD τ) none) Set.univ
        (cc0_attn_fwd (F := F) i arg1 harg1 arg2 harg2 arg3 harg3 arg4 harg4 arg5 harg5 arg6 harg6) P := by
  simp only [cc0_attn_fwd_eq_skeleton]
  unfold cc0_attn_fwd_skel
  unfold owns
  iintro ⟨⟨%f1, %h1, H1⟩, ⟨%f2, %h2, H2⟩, ⟨%f3, %h3, H3⟩, ⟨%d4, %f4, %h4, H4⟩, ⟨%d5, %f5, %h5, H5⟩, ⟨%d6, %f6, %h6, H6⟩, HP⟩
  rw [wp_bind]
  iapply (wp_wand_r frame (wpE (defs₀ (F := F)) Variants.nat (c : Thread nD τ) none) Set.univ)
  isplitl [H1 H2 H3 H4 H5 H6]
  · iapply (Scf.wp_for frame (wpE (defs₀ (F := F)) Variants.nat (c : Thread nD τ) none) Set.univ _ _ _ k0_t1_ok () _
      (fun _ _ => kept c arg1 arg2 arg3 arg4 arg5 arg6 f1 f2 f3)
      (fun t acc => block_ends c i arg1 harg1 arg2 harg2 arg3 harg3 arg4 harg4 arg5 harg5 arg6 harg6 t acc f1 f2 f3))
    isplitl [H1 H2 H3 H4 H5 H6]
    · isplitl [H1]; · iexact H1
      isplitl [H2]; · iexact H2
      isplitl [H3]; · iexact H3
      isplitl [H4]; · iexists _; iexact H4
      isplitl [H5]; · iexists _; iexact H5
      iexists _; iexact H6
    iintro %acc H
    iexact H
  iintro %acc ⟨H1, H2, H3, ⟨%g4, H4⟩, ⟨%g5, H5⟩, ⟨%g6, H6⟩⟩
  sl_step
  iapply HP
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists _; iexists g4; isplitr; · ipureintro; rfl
                  iexact H4
  isplitl [H5]; · iexists _; iexists g5; isplitr; · ipureintro; rfl
                  iexact H5
  iexists _; iexists g6; isplitr; · ipureintro; rfl
  iexact H6

section Launch
variable (m : (ℓ : Loc nD τ sig) → Buf (Elt F) ℓ) (ρ : Dev nD → PrngReg)

/-- What the launch finds in a core's buffers. -/
abbrev V (c : Dev nD) (b : Ref sig .tc) : Buf (Elt F) ((c : Thread nD τ).loc b) :=
  StableHlo.after hostOps0 (fun b => m (c, b)) b

/-- The outputs: nothing is said of them. -/
def outs : Fin (cfg0 (F := F)).W → Bool := fun w => match w with
  | ⟨0, _⟩ => false
  | ⟨1, _⟩ => false
  | ⟨2, _⟩ => false
  | _ => true

/-- The data of the launch: the inputs' blocks stay. -/
def dats (_ : Fin 1) (c : Dev nD) : Dat τ (Elt F) Unit ℕ (UR sig nD τ) ℕ (cfg0 (F := F)) c where
  A w := V m c (Pipeline.arrRef spec0 w)
  after w t := match w with
    | ⟨0, _⟩ => (win0_0.blk t).view.read (Elt F) (V m c (Pipeline.arrRef spec0 0))
    | ⟨1, _⟩ => (win0_1.blk t).view.read (Elt F) (V m c (Pipeline.arrRef spec0 1))
    | ⟨2, _⟩ => (win0_2.blk t).view.read (Elt F) (V m c (Pipeline.arrRef spec0 2))
    | ⟨3, _⟩ => fun _ => FloatOps.ofBits .bf16 0#16
    | ⟨4, _⟩ => fun _ => FloatOps.ofBits .f32 0#32
    | ⟨5, _⟩ => fun _ => 0#32
  Φ _ := Pipeline.ΦA spec0 c
  q w := Pipeline.shareOf spec0 w
  owed _ := 0

/-- An input's block is found where the fetch put it, and left there. -/
theorem found (c : Dev nD) (w : Fin (cfg0 (F := F)).W) (hw : outs w = false) (t : Fin (cfg0 (F := F)).N) (d) :
    (dats m 0 c).before w t d = (dats m 0 c).after w t := by
  match w, hw with
  | 0, _ => exact (dats m 0 c).before_in_eq_fetched 0 rfl (fun _ => rfl) (fun _ _ _ => rfl) (fun _ => rfl) t d
  | 1, _ => exact (dats m 0 c).before_in_eq_fetched 1 rfl (fun _ => rfl) (fun _ _ _ => rfl) (fun _ => rfl) t d
  | 2, _ => exact (dats m 0 c).before_in_eq_fetched 2 rfl (fun _ => rfl) (fun _ _ _ => rfl) (fun _ => rfl) t d

/-- The buffers the body is called with, the inputs' at what they hold. -/
def buffers (c : Dev nD) (t : Fin (cfg0 (F := F)).N) : sProp 𝕄G :=
  iprop(owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d) ∗ (∃ d, owns (c : Thread nD τ) (st0_4 t) fullShare d) ∗ (∃ d, owns (c : Thread nD τ) (st0_5 t) fullShare d))

theorem body_ends (c : Dev nD) (t : Fin (cfg0 (F := F)).N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare d) ∗ (∃ d, owns (c : Thread nD τ) (st0_4 t) fullShare d) ∗ (∃ d, owns (c : Thread nD τ) (st0_5 t) fullShare d))
      ⊢ wp frame (wpE (defs₀ (F := F)) Variants.nat c none) Set.univ (bodyAt0 t)
        (fun _ => iprop((dats m 0 c).Φ t.succ ∗ (dats m 0 c).owesAt () t.succ ∗ buffers m c t)) := by
  unfold bodyAt0 buffers
  rw [show (dats m 0 c).Φ t.succ = (dats m 0 c).Φ t.castSucc from rfl,
    show (dats m 0 c).owesAt () t.succ = (dats m 0 c).owesAt () t.castSucc from rfl]
  simp only [found m c 0 rfl, found m c 1 rfl, found m c 2 rfl]
  iintro ⟨HΦ, Ho, ⟨%d0, H0⟩, ⟨%d1, H1⟩, ⟨%d2, H2⟩, H3, H4, H5⟩
  iapply (head_ends c (grid0.coords t) _ _ _ _ _ _ _ _ _ _ _ _ _ ((dats m 0 c).after 0 t) ((dats m 0 c).after 1 t) ((dats m 0 c).after 2 t))
  isplitl [H0]; · iexact H0
  isplitl [H1]; · iexact H1
  isplitl [H2]; · iexact H2
  isplitl [H3]; · iexact H3
  isplitl [H4]; · iexact H4
  isplitl [H5]; · iexact H5
  iintro H
  isplitl [HΦ]; · iexact HΦ
  isplitl [Ho]; · iexact Ho
  iexact H

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem obligation (c : Dev nD) : BodyObligationLoose (dats (F := F) m 0 c) (defs₀ (F := F)) Variants.nat () Set.univ outs := fun t => by
  rw [bigSep_W0, bigSep_W0, body_row]
  exact triple_restated (body_ends m c t) rfl .rfl fun _ => .rfl

theorem main_enters : Pipeline.HMain (Ix := Unit) (Name := ℕ) (U := UR sig nD τ) (Lvl := ℕ) cfgs 0 defs₀ Variants.nat m (main (F := F)) (V m) :=
  Pipeline.hmain_prefixes cfgs 0 defs₀ Variants.nat m main [hostOps0] (by simp only [List.Forall]; exact hostOps0_sub)
    (by simp only [List.Forall]; repeat' constructor) main_chain

theorem argument_kept (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

set_option backward.isDefEq.respectTransparency.types false in
/-- The frame: the argument ends as it was, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  Pipeline.θ_run_frame_forget_shared (Q' := _) cfgs (dats m) (0 : Fin 1) launch₀0 defs₀ Variants.nat outs m ρ main
    (hbody := obligation m) (hq := fun _ _ _ => rfl)
    (howed := fun _ _ => rfl) (V := V m) (hmain := main_enters m) (hA := fun _ _ => rfl) (hΦ := fun _ _ => rfl)
    (hQ' := fun _ h => ⟨fun c => ((h.1 c).2 main_arg0 (Pipeline.mem_restRefs_of main_arg0 (by decide)
      (by exact (by decide : ∀ w : Fin 6, (spec0 w).arr.view.ref ≠ main_arg0)))).trans (argument_kept m c), h.2⟩)

end Launch

end Cert.AttnFwdEnds

end
-- ==== Proof.AttnFwdStep.lean ====
module

public import proofs.«01_k».proof.Proof.Gen.AttnFwdIdeal.Skeleton
public import proofs.«01_k».proof.Proof.AttnStep

/-! One head of the attention as a function of the arrays it reads: what a block of keys does to the
running values, and what the walk over the blocks of keys leaves for a block of 512 queries. -/

@[expose] public section

set_option maxRecDepth 8192

noncomputable section

namespace Cert.AttnFwdProof

open Idealize.ShloMosaic TcCoe
open AttnFwdIdeal AttnFwdIdeal.Gen
open AttnProof (rows256 rows512)

variable {F : FTy → Type} [FloatOps F] [Named F]

/-- The values of the walk: blocks of keys walked, whether to go on, the sums over the keys passed of
`log σ(−z)`, the output so far, and the products `⟨q, k⟩` of the block of keys at hand. -/
abbrev St (F : FTy → Type) : Type := BitVec 32 × BitVec 32 × FVec F S512x1 .f32 × FVec F S512x128 .f32 × FVec F S512x256 .f32

/-- The first row of the `t`-th block of queries, twice its number, and the first keys of its own two
blocks of keys, as the kernel counts them. -/
abbrev row0 (t : ℕ) : BitVec 32 := Scalar.muli (Scf.iv 0#32 1#32 t) 512#32
abbrev two (t : ℕ) : BitVec 32 := Scalar.muli (Scf.iv 0#32 1#32 t) 2#32
abbrev second (t : ℕ) : BitVec 32 := Scalar.muli (Scalar.addi (two t) 1#32) 256#32

/-- Whether a row of the block is still alive: its sum compared with the threshold. -/
abbrev alive (x : F .f32) : BitVec 32 := Scalar.extui (Scalar.cmpf .oge x (Named.named κ "live" 0xC2D20000#32))

section Walk
variable (Q : FVec F S512x128 .bf16) (K V : FVec F S8192x128 .bf16) (t : ℕ)

/-- The two blocks of keys of the queries' own, the later one first. -/
def start : St F :=
  let kB := rows256 K (512 * t + 256)
  let z1 := k0_pay10 Q (rows256 K (512 * t))
  let c := k0_pay19 (row0 t) k0_pay8 (second t) (k0_pay11 Q kB) (k0_pay12 Q kB) (k0_pay13 Q kB) k0_pay14
  let o := k0_pay18 k0_pay1 (row0 t) k0_pay8 k0_pay9 (second t) (k0_pay11 Q kB) (k0_pay12 Q kB) (k0_pay13 Q kB) k0_pay14 (rows256 V (512 * t + 256))
  (0#32, alive (k0_pay2 (k0_pay27 (row0 t) z1 c (Scalar.addi (two t) 0#32) 256#32)),
    k0_pay26 (row0 t) z1 c (Scalar.addi (two t) 0#32) 256#32,
    k0_pay25 k0_pay1 (row0 t) z1 o c (Scalar.addi (two t) 0#32) 256#32 (rows256 V (512 * t)),
    k0_pay20 (k0_pay7 Q) (rows256 K (256 * (2 * t - 1))))

/-- Whether the walk goes on. -/
abbrev more (s : St F) : BitVec 1 := Scalar.andi (Scalar.cmpi .slt s.1 (two t)) (Scalar.cmpi .sgt s.2.1 0#32)

/-- The next block of keys before the ones walked. -/
def step (s : St F) : St F :=
  (Scalar.addi s.1 1#32, alive (k0_pay6 s.2.2.1 (k0_pay33 s.2.2.2.2)), k0_pay5 s.2.2.1 (k0_pay33 s.2.2.2.2),
    k0_pay32 k0_pay1 s.2.2.1 s.2.2.2.1 s.2.2.2.2 (rows256 V (256 * (2 * t - 1 - s.1.toNat))),
    k0_pay28 (k0_pay7 Q) (rows256 K (256 * (2 * t - 1 - s.1.toNat - 1))))

/-- At most `n` blocks of keys, as long as the walk goes on. -/
def walk : ℕ → St F → St F
  | 0, s => s
  | n + 1, s => if more t s = 1#1 then walk n (step Q K V t s) else s

/-- What the walk leaves for the block of queries. -/
def last : St F := walk Q K V t (2 * t) (start Q K V t)

end Walk

/-- Blocks of 512 rows, one below the other. -/
def stacked {α : Type} (B : ℕ → S512x128.Idx → α) : S8192x128.Idx → α := fun y =>
  B ((y 0).val / 512) (fun a => match a with | 0 => Fin.ofNat 512 (y 0).val | 1 => y 1)

section Head
variable (Q K V : FVec F S8192x128 .bf16)

/-- The block of queries `t` of a head. -/
def block (t : ℕ) : St F := last (rows512 Q (512 * t)) K V t

/-- The output of one head, its rows' sums, and the number of blocks of keys not walked. -/
def headO : FVec F S8192x128 .bf16 := stacked fun t => k0_pay3 (block Q K V t).2.2.2.1
def headL : FVec F S8192x128 .f32 := stacked fun t => k0_pay4 (block Q K V t).2.2.1
def headFirst (t : ℕ) : BitVec 32 := Scalar.subi (two t) (block Q K V t).1

end Head

theorem off1 : ∀ (t : Fin k0_t1_loop.trips), k0_off1 t = ![512 * t.val, 0] := by decide +kernel
theorem off2 : ∀ (t : Fin k0_t1_loop.trips), k0_off2 t = ![512 * t.val + 256, 0] := by decide +kernel
theorem off3a : ∀ (t : Fin k0_t1_loop.trips), k0_off3 t 1#32 = ![512 * t.val, 0] := by decide +kernel
theorem off3b : ∀ (t : Fin k0_t1_loop.trips), k0_off3 t 0#32 = ![256 * (2 * t.val - 1), 0] := by decide +kernel
theorem off4a : ∀ (t : Fin k0_t1_loop.trips), k0_off4 t 0#32 = ![512 * t.val, 0] := by decide +kernel
theorem off4b : ∀ (t : Fin k0_t1_loop.trips), k0_off4 t 1#32 = ![512 * t.val + 256, 0] := by decide +kernel
theorem off5 : ∀ (t : Fin k0_t1_loop.trips) (n : Fin (2 * t.val)), k0_off5 t (BitVec.ofNat 32 n.val) = ![256 * (2 * t.val - 1 - n.val - 1), 0] := by decide +kernel
theorem off6 : ∀ (t : Fin k0_t1_loop.trips) (n : Fin (2 * t.val)), k0_off6 t (BitVec.ofNat 32 n.val) = ![256 * (2 * t.val - 1 - n.val), 0] := by decide +kernel
theorem off7 : ∀ (i : grid0.Coords) (t : Fin k0_t1_loop.trips), k0_off7 i t = ![(i 0).val, t.val] := by decide +kernel
theorem chk : ∀ (t : Fin k0_t1_loop.trips) (n : Fin (2 * t.val)), k0_chk1 t (BitVec.ofNat 32 n.val) := by
  set_option synthInstance.maxSize 1000000 in set_option synthInstance.maxHeartbeats 0 in
  decide +kernel
theorem two_eq : ∀ t : Fin 16, two t.val = BitVec.ofNat 32 (2 * t.val) := by decide

/-- After a step, one more block has been walked. -/
theorem step_count (Q : FVec F S512x128 .bf16) (K V : FVec F S8192x128 .bf16) (t n : ℕ) (s : St F) (h : s.1 = BitVec.ofNat 32 n) :
    (step Q K V t s).1 = BitVec.ofNat 32 (n + 1) := by
  show Scalar.addi s.1 1#32 = _
  rw [h]
  exact (BitVec.ofNat_add n 1).symm

end Cert.AttnFwdProof

end
-- ==== Proof.AttnFwdReal.lean ====
module

public import proofs.«01_k».proof.Proof.AttnFwdStep
public import proofs.«01_k».proof.Proof.AttnHeadReal

/-! The walk of the forward attention over a head's blocks of keys, at real numbers. The threshold is read as −∞, so the
walk goes on to the first block: after each block the running sum is the row's whole sum less what the keys not yet walked
add to it, and so is the output. -/

@[expose] public section

set_option maxRecDepth 8192

noncomputable section

namespace Cert.AttnFwdProof

open Idealize.ShloMosaic TcCoe
open AttnFwdIdeal AttnFwdIdeal.Gen RealOps
open AttnProof (Rows rowsAt blockAt colAt whole lg wt total dot zed lsig logBeta keyBefore rows256 rows512 rows256_whole rows512_whole wt_zero sitofp_bit)
open scoped BigOperators
open Finset (range)

theorem after_at (y : S256x256.Idx) : (k0_pay1 (F := Ideal)) y = (((if (y 0).val ≤ (y 1).val then 0 else 1 : ℝ)) : EReal) := by
  have h0 : (y 0).val < 256 := (y 0).isLt
  have h1 : (y 1).val < 256 := (y 1).isLt
  pointwise [k0_pay1]
  rw [WordCmp.cmpi_sgt_ofNat (by omega) (by omega)]
  refine (sitofp_bit _).trans (congrArg Real.toEReal ?_)
  by_cases h : (y 0).val ≤ (y 1).val
  · rw [if_pos h, if_neg (by omega)]
  · rw [if_neg h, if_pos (by omega)]

/-- The shares of the keys after `y`. -/
theorem sum_after (f : ℕ → ℝ) (y : Fin 256) :
    ∑ x : Fin 256, f x.val * (if x.val ≤ y.val then 0 else 1) = ∑ x ∈ range 256, f x - ∑ x ∈ range (y.val + 1), f x := by
  rw [← sum_upto f y, ← Fin.sum_univ_eq_sum_range, ← Finset.sum_sub_distrib]
  exact Finset.sum_congr rfl fun x _ => by split_ifs <;> ring

theorem left_after (T : ℝ) (f : ℕ → ℝ) (C y : ℕ) :
    ∑ x ∈ range 256, f (C + x) - ∑ x ∈ range (y + 1), f (C + x) + (T - ∑ j ∈ range (C + 256), f j) = T - ∑ j ∈ range (C + y + 1), f j := by
  rw [add_assoc C, Finset.sum_range_add f C 256, Finset.sum_range_add f C (y + 1)]
  ring

theorem left_block (T : ℝ) (f : ℕ → ℝ) (C : ℕ) :
    T - ∑ j ∈ range (C + 256), f j + ∑ x : Fin 256, f (C + x.val) = T - ∑ j ∈ range C, f j := by
  rw [Finset.sum_range_add, Fin.sum_univ_eq_sum_range (fun x => f (C + x))]
  ring

/-- The weights as the kernel spells them: `log β` plus the sum over the keys walked and those of the block after this one. -/
def later (c : FVec Ideal S512x1 .f32) (lb l1 : FVec Ideal S512x256 .f32) : FVec Ideal S512x256 .f32 :=
  exp (addf lb (addf
    (addf (matmul dot_S512x256_S256x256_S512x256_1_0_0_1_n_n none (truncf .bf16 l1 bitsLt_bf16_f32) k0_pay1 (constant S512x256 .f32 0x00000000#32))
      (matmul dot_S512x256_S256x256_S512x256_1_0_0_1_n_n none
        (truncf .bf16 (subf l1 (extf .f32 (truncf .bf16 l1 bitsLt_bf16_f32) bitsLt_bf16_f32)) bitsLt_bf16_f32) k0_pay1 (constant S512x256 .f32 0x00000000#32)))
    (broadcastTo S512x256 c broadcasts_S512x1_S512x256)))

/-- The output with a block of keys more, and the sum. -/
def outNext (c : FVec Ideal S512x1 .f32) (o : FVec Ideal S512x128 .f32) (lb l1 : FVec Ideal S512x256 .f32) (v : FVec Ideal S256x128 .bf16) : FVec Ideal S512x128 .f32 :=
  addf o (matmul dot_S512x256_S256x128_S512x128_1_0_0_1_n_n none (truncf .bf16 (later c lb l1) bitsLt_bf16_f32)
    (shapeCast S256x128 v shapeCasts_S256x128_S256x128) (constant S512x128 .f32 0x00000000#32))
def sumNext (c : FVec Ideal S512x1 .f32) (l1 : FVec Ideal S512x256 .f32) : FVec Ideal S512x1 .f32 :=
  addf c (shapeCast S512x1 (multiReduction .add [1] S512 l1 0x00000000#32 reduces_S512x256_S512 (.inl rfl) rfl) shapeCasts_S512_S512x1)

section Real
variable (q k v : Rows)

/-- The attention's output. -/
def out (i : ℕ) (d : Fin 128) : ℝ := ∑ j ∈ range 8192, wt q k i j * v j d

/-- The sum and the output of the rows from `R` on when the keys from `C` on are walked. -/
abbrev sumAt (R C : ℕ) : FVec Ideal S512x1 .f32 := colAt R fun i => total q k i - ∑ j ∈ range C, lg q k i j
abbrev outAt (R C : ℕ) : FVec Ideal S512x128 .f32 := rowsAt R fun i d => out q k v i d - ∑ j ∈ range C, wt q k i j * v j d

variable (R C : ℕ)

theorem later_eq : later (sumAt q k R (C + 256)) (logBeta q k R C) (blockAt R C (lg q k)) = blockAt R C (wt q k) := by
  funext y
  unfold later
  rw [show (k0_pay1 (F := Ideal)) = _ from funext after_at]
  pointwise []
  simp only [← EReal.coe_mul, ← EReal.coe_sub, coe_sum, ← EReal.coe_add, sub_self, zero_mul, Finset.sum_const_zero, add_zero]
  have e := sum_after (fun x => lg q k (R + (y 0).val) (C + x)) (y 1)
  by_cases h : C + (y 1).val < R + (y 0).val
  · refine (congrArg (fun t => Ideal.exp (t + _)) (if_pos h)).trans ?_
    rw [← EReal.coe_add, exp_coe]
    refine congrArg Real.toEReal (Eq.trans ?_ (if_pos h).symm)
    refine congrArg (fun t => Real.exp (lsig (zed q k (R + (y 0).val) (C + (y 1).val)) + t)) ?_
    exact (congrArg (· + _) e).trans (left_after _ (lg q k (R + (y 0).val)) C _)
  · refine (congrArg (fun t => Ideal.exp (t + _)) (if_neg h)).trans ?_
    rw [EReal.bot_add]
    exact congrArg Real.toEReal (wt_zero h).symm

theorem outNext_eq : outNext (sumAt q k R (C + 256)) (outAt q k v R (C + 256)) (logBeta q k R C) (blockAt R C (lg q k)) (rowsAt C v) = outAt q k v R C := by
  unfold outNext
  rw [later_eq]
  refine (AttnProof.accQ_eq R C (wt q k) _ v).trans ?_
  refine congrArg (rowsAt R) (funext fun i => funext fun d => ?_)
  rw [Finset.sum_range_add]
  ring

theorem sumNext_eq : sumNext (sumAt q k R (C + 256)) (blockAt R C (lg q k)) = sumAt q k R C := by
  funext y
  pointwise [sumNext]
  simp only [coe_sum, ← EReal.coe_add]
  exact congrArg Real.toEReal (left_block _ (lg q k (R + (y 0).val)) C)

theorem dots (a b : Rows) : k0_pay20 (F := Ideal) (rowsAt R a) (rowsAt C b) = blockAt R C (dot a b) := AttnProof.dots_eq R C a b

theorem stored (a : Rows) : k0_pay3 (F := Ideal) (rowsAt R a) = rowsAt R a := by
  funext y; pointwise [k0_pay3]

theorem repeated (f : ℕ → ℝ) : k0_pay4 (F := Ideal) (colAt R f) = rowsAt R fun i _ => f i := by
  funext y; pointwise [k0_pay4]; rfl

theorem queries : k0_pay7 (F := Ideal) (rowsAt R q) = rowsAt R q := AttnProof.queries_eq R q

end Real

/-- No row falls under the threshold. -/
theorem alive_eq (x : Ideal .f32) : alive (F := Ideal) x = 1#32 := by
  show Scalar.extui (BitVec.ofBool (decide ((⊥ : EReal) ≤ x))) = 1#32
  rw [decide_eq_true bot_le]
  rfl

theorem goes_on : ∀ (t : Fin 16) (n : Fin (2 * t.val)), Scalar.andi (Scalar.cmpi .slt (BitVec.ofNat 32 n.val) (two t.val)) (Scalar.cmpi .sgt 1#32 0#32) = 1#1 := by
  decide +kernel

section Head
variable (q k v : Rows) (t : Fin 16)

/-- What the walk holds after `n` blocks of keys before the queries' own. -/
def state (n : ℕ) : St Ideal :=
  (BitVec.ofNat 32 n, 1#32, sumAt q k (512 * t.val) (256 * (2 * t.val - n)), outAt q k v (512 * t.val) (256 * (2 * t.val - n)),
    blockAt (512 * t.val) (256 * (2 * t.val - n - 1)) (dot q k))

theorem start_eq : start (F := Ideal) (rowsAt (512 * t.val) q) (whole k) (whole v) t.val = state q k v t 0 := by
  have ht := t.isLt
  have eR : row0 t.val = BitVec.ofNat 32 (512 * t.val) := AttnProof.row0_eq t
  have e1 : Scalar.muli (Scalar.addi (two t.val) 0#32) 256#32 = BitVec.ofNat 32 (512 * t.val) := AttnProof.first_eq t
  have e2 : second t.val = BitVec.ofNat 32 (512 * t.val + 256) := AttnProof.second_eq t
  have hR : 512 * t.val + 512 ≤ 8192 := by omega
  unfold start state
  rw [rows256_whole k (by omega), rows256_whole k (by omega), rows256_whole k (by omega), rows256_whole v (by omega), rows256_whole v (by omega), queries, dots,
    show 256 * (2 * t.val - 0) = 512 * t.val by omega]
  dsimp only
  generalize hRR : 512 * t.val = R at *
  have s0 : k0_pay8 (F := Ideal) = sumAt q k R (R + 256 + 256) := by
    funext y
    have hy : (y 0).val < 512 := (y 0).isLt
    pointwise [k0_pay8]
    refine (congrArg Real.toEReal (Eq.symm (sub_eq_zero.2 ?_)))
    refine (Finset.sum_subset (Finset.range_subset_range.2 (by omega)) fun j _ hj => ?_).symm
    exact if_neg (by simp at hj; omega)
  have o0 : k0_pay9 (F := Ideal) = outAt q k v R (R + 256 + 256) := by
    funext y
    have hy : (y 0).val < 512 := (y 0).isLt
    pointwise [k0_pay9]
    refine (congrArg Real.toEReal (Eq.symm (sub_eq_zero.2 ?_)))
    refine (Finset.sum_subset (Finset.range_subset_range.2 (by omega)) fun j _ hj => ?_).symm
    rw [wt_zero (by simp at hj; omega), zero_mul]
  have z2 : k0_pay10 (F := Ideal) (rowsAt R q) (rowsAt (R + 256) k) = blockAt R (R + 256) (dot q k) :=
    (congrArg (fun Q => k0_pay20 Q _) (queries q R)).trans (dots R (R + 256) q k)
  have z1 : k0_pay10 (F := Ideal) (rowsAt R q) (rowsAt R k) = blockAt R R (dot q k) :=
    (congrArg (fun Q => k0_pay20 Q _) (queries q R)).trans (dots R R q k)
  have l2 : k0_pay17 (F := Ideal) (row0 t.val) (second t.val) (k0_pay11 (rowsAt R q) (rowsAt (R + 256) k)) (k0_pay12 (rowsAt R q) (rowsAt (R + 256) k))
      (k0_pay13 (rowsAt R q) (rowsAt (R + 256) k)) k0_pay14 = blockAt R (R + 256) (lg q k) :=
    (show _ = select (keyBefore (row0 t.val) (second t.val)) (AttnIdeal.Gen.k0_pay15 (F := Ideal) (k0_pay10 (F := Ideal) (rowsAt R q) (rowsAt (R + 256) k)))
      (broadcast S512x256 (Scalar.ofBits (F := Ideal) .f32 0x00000000#32)) from rfl).trans
      (by rw [eR, e2, z2]; exact AttnProof.lg_mask q k hR (by omega))
  have b2 : select (k0_pay16 (row0 t.val) (second t.val)) (k0_pay15 (F := Ideal) (k0_pay12 (rowsAt R q) (rowsAt (R + 256) k)) (k0_pay13 (rowsAt R q) (rowsAt (R + 256) k)) k0_pay14)
      (broadcast S512x256 (Named.named (F := Ideal) κ "mask" (φ := .f32) 0xF149F2CA#32)) = logBeta q k R (R + 256) :=
    (show _ = select (keyBefore (row0 t.val) (second t.val)) (AttnIdeal.Gen.k0_pay14 (F := Ideal) (k0_pay10 (F := Ideal) (rowsAt R q) (rowsAt (R + 256) k)))
      (broadcast S512x256 (Named.named (F := Ideal) AttnIdeal.κ "mask" (φ := .f32) 0xF149F2CA#32)) from rfl).trans
      (by rw [eR, e2, z2]; exact AttnProof.logBeta_mask q k hR (by omega))
  have l1 : k0_pay24 (F := Ideal) (row0 t.val) (blockAt R R (dot q k)) (Scalar.addi (two t.val) 0#32) 256#32 = blockAt R R (lg q k) :=
    (show _ = select (keyBefore (row0 t.val) (Scalar.muli (Scalar.addi (two t.val) 0#32) 256#32)) (AttnIdeal.Gen.k0_pay15 (F := Ideal) (blockAt R R (dot q k)))
      (broadcast S512x256 (Scalar.ofBits (F := Ideal) .f32 0x00000000#32)) from rfl).trans
      (by rw [eR, e1]; exact AttnProof.lg_mask q k hR (by omega))
  have b1 : select (k0_pay23 (row0 t.val) (Scalar.addi (two t.val) 0#32) 256#32) (k0_pay22 (F := Ideal) (blockAt R R (dot q k)))
      (broadcast S512x256 (Named.named (F := Ideal) κ "mask" (φ := .f32) 0xF149F2CA#32)) = logBeta q k R R :=
    (show _ = select (keyBefore (row0 t.val) (Scalar.muli (Scalar.addi (two t.val) 0#32) 256#32)) (AttnIdeal.Gen.k0_pay14 (F := Ideal) (blockAt R R (dot q k)))
      (broadcast S512x256 (Named.named (F := Ideal) AttnIdeal.κ "mask" (φ := .f32) 0xF149F2CA#32)) from rfl).trans
      (by rw [eR, e1]; exact AttnProof.logBeta_mask q k hR (by omega))
  have c2 : k0_pay19 (F := Ideal) (row0 t.val) k0_pay8 (second t.val) (k0_pay11 (rowsAt R q) (rowsAt (R + 256) k)) (k0_pay12 (rowsAt R q) (rowsAt (R + 256) k))
      (k0_pay13 (rowsAt R q) (rowsAt (R + 256) k)) k0_pay14 = sumAt q k R (R + 256) :=
    (show _ = sumNext k0_pay8 (k0_pay17 _ _ _ _ _ _) from rfl).trans (by rw [l2, s0]; exact sumNext_eq q k R (R + 256))
  have w2 : k0_pay18 (F := Ideal) k0_pay1 (row0 t.val) k0_pay8 k0_pay9 (second t.val) (k0_pay11 (rowsAt R q) (rowsAt (R + 256) k)) (k0_pay12 (rowsAt R q) (rowsAt (R + 256) k))
      (k0_pay13 (rowsAt R q) (rowsAt (R + 256) k)) k0_pay14 (rowsAt (R + 256) v) = outAt q k v R (R + 256) :=
    (show _ = outNext k0_pay8 k0_pay9 (select (k0_pay16 _ _) (k0_pay15 _ _ _) _) (k0_pay17 _ _ _ _ _ _) _ from rfl).trans
      (by rw [l2, b2, s0, o0]; exact outNext_eq q k v R (R + 256))
  have c1 : k0_pay26 (F := Ideal) (row0 t.val) (blockAt R R (dot q k)) (sumAt q k R (R + 256)) (Scalar.addi (two t.val) 0#32) 256#32 = sumAt q k R R :=
    (show _ = sumNext _ (k0_pay24 _ _ _ _) from rfl).trans (by rw [l1]; exact sumNext_eq q k R R)
  have w1 : k0_pay25 (F := Ideal) k0_pay1 (row0 t.val) (blockAt R R (dot q k)) (outAt q k v R (R + 256)) (sumAt q k R (R + 256)) (Scalar.addi (two t.val) 0#32) 256#32 (rowsAt R v)
      = outAt q k v R R :=
    (show _ = outNext _ _ (select (k0_pay23 _ _ _) (k0_pay22 _) _) (k0_pay24 _ _ _ _) _ from rfl).trans (by rw [l1, b1]; exact outNext_eq q k v R R)
  rw [z1, c2, w2, c1, w1, alive_eq]
  rfl

theorem step_eq (n : ℕ) (h : n < 2 * t.val) :
    step (F := Ideal) (rowsAt (512 * t.val) q) (whole k) (whole v) t.val (state q k v t n) = state q k v t (n + 1) := by
  have ht := t.isLt
  have hn : (BitVec.ofNat 32 n).toNat = n := by rw [BitVec.toNat_ofNat]; omega
  have hC : 256 * (2 * t.val - n - 1) + 256 = 256 * (2 * t.val - n) := by omega
  unfold step state
  dsimp only
  rw [hn, alive_eq, rows256_whole v (by omega), rows256_whole k (by omega), queries, show 2 * t.val - 1 - n = 2 * t.val - n - 1 by omega,
    show 2 * t.val - (n + 1) = 2 * t.val - n - 1 by omega, ← hC]
  have hle : 256 * (2 * t.val - n - 1) + 256 ≤ 512 * t.val := by omega
  generalize 256 * (2 * t.val - n - 1) = C at *
  generalize 512 * t.val = R at *
  have lb : k0_pay30 (F := Ideal) (blockAt R C (dot q k)) = logBeta q k R C :=
    (show _ = AttnIdeal.Gen.k0_pay14 (F := Ideal) (blockAt R C (dot q k)) from rfl).trans (AttnProof.logBeta_all q k hle)
  have l1 : k0_pay31 (F := Ideal) (blockAt R C (dot q k)) = blockAt R C (lg q k) :=
    (show _ = AttnIdeal.Gen.k0_pay15 (F := Ideal) (blockAt R C (dot q k)) from rfl).trans (AttnProof.lg_all q k hle)
  have c1 : k0_pay5 (F := Ideal) (sumAt q k R (C + 256)) (k0_pay33 (blockAt R C (dot q k))) = sumAt q k R C :=
    (show _ = sumNext _ (k0_pay31 _) from rfl).trans (by rw [l1]; exact sumNext_eq q k R C)
  have w1 : k0_pay32 (F := Ideal) k0_pay1 (sumAt q k R (C + 256)) (outAt q k v R (C + 256)) (blockAt R C (dot q k)) (rowsAt C v) = outAt q k v R C :=
    (show _ = outNext _ _ (k0_pay30 _) (k0_pay31 _) _ from rfl).trans (by rw [lb, l1]; exact outNext_eq q k v R C)
  rw [c1, w1]
  refine congr (congrArg Prod.mk (BitVec.ofNat_add n 1).symm) (congrArg (fun z => ((1#32, sumAt q k R C, outAt q k v R C, z) : BitVec 32 × _)) ?_)
  exact dots R _ q k

theorem walk_eq : ∀ n m : ℕ, m + n = 2 * t.val →
    walk (F := Ideal) (rowsAt (512 * t.val) q) (whole k) (whole v) t.val n (state q k v t m) = state q k v t (2 * t.val)
  | 0, m, h => by rw [← h]; rfl
  | n + 1, m, h => by
    refine (if_pos (goes_on t ⟨m, by omega⟩)).trans ?_
    rw [step_eq q k v t m (by omega)]
    exact walk_eq n (m + 1) (by omega)

theorem block_eq : block (F := Ideal) (whole q) (whole k) (whole v) t.val = state q k v t (2 * t.val) := by
  have ht := t.isLt
  unfold block last
  rw [rows512_whole q (by omega), start_eq]
  exact walk_eq q k v t _ 0 (by omega)

theorem headO_eq : headO (F := Ideal) (whole q) (whole k) (whole v) = whole (out q k v) := by
  funext y
  have hy : (y 0).val < 8192 := (y 0).isLt
  unfold headO stacked
  beta_reduce
  rw [block_eq q k v ⟨(y 0).val / 512, by omega⟩]
  unfold state
  dsimp only
  rw [show 256 * (2 * ((y 0).val / 512) - 2 * ((y 0).val / 512)) = 0 by omega, stored]
  refine congrArg Real.toEReal ((sub_zero _).trans ?_)
  exact congrArg (fun n => out q k v n (y 1)) (by show 512 * ((y 0).val / 512) + (y 0).val % 512 = _; omega)

theorem headL_eq : headL (F := Ideal) (whole q) (whole k) (whole v) = whole fun i _ => total q k i := by
  funext y
  have hy : (y 0).val < 8192 := (y 0).isLt
  unfold headL stacked
  beta_reduce
  rw [block_eq q k v ⟨(y 0).val / 512, by omega⟩]
  unfold state
  dsimp only
  rw [show 256 * (2 * ((y 0).val / 512) - 2 * ((y 0).val / 512)) = 0 by omega, repeated]
  refine congrArg Real.toEReal ((sub_zero _).trans ?_)
  exact congrArg (fun n => total q k n) (by show 512 * ((y 0).val / 512) + (y 0).val % 512 = _; omega)

theorem headFirst_eq : headFirst (F := Ideal) (whole q) (whole k) (whole v) t.val = 0#32 := by
  unfold headFirst
  rw [block_eq, two_eq]
  exact BitVec.sub_self _

end Head

end Cert.AttnFwdProof

end
-- ==== Proof.AttnFwdWalk.lean ====
module

public import proofs.«01_k».proof.Proof.AttnFwdStep

/-! The walk over the blocks of keys before a block of queries, which the kernel repeats as long as a
row is alive, run by the model of `AttnFwdStep`. -/

@[expose] public section

set_option maxRecDepth 8192
set_option maxHeartbeats 4000000

noncomputable section

namespace Cert.AttnFwdProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open AttnFwdIdeal AttnFwdIdeal.Gen
open AttnProof (rows256 rows512 load256 load512)

variable {F : FTy → Type} [FloatOps F] [Named F]

local notation "𝕄G" => MT nD τ sig Unit (Elt F) ℕ (UR sig nD τ) ℕ

variable (c : Dev nD) (i : grid0.Coords)
  (arg2 : Memref sig .tc .vmem S8192x128 .bf16) (harg2 : arg2.IsWhole) (arg3 : Memref sig .tc .vmem S8192x128 .bf16) (harg3 : arg3.IsWhole)

/-- The keys and the values at their contents. -/
abbrev Keys (f2 : BufTy.Contents (Elt F) arg2.view.ty) (f3 : BufTy.Contents (Elt F) arg3.view.ty) : sProp 𝕄G :=
  iprop((arg2.view.loc (c : Thread nD τ) ↦[arg2.view.set]{fullShare} f2) ∗ (arg3.view.loc (c : Thread nD τ) ↦[arg3.view.set]{fullShare} f3))

/-- With all blocks walked the walk stops. -/
theorem more_stop (t : Fin 16) (s : St F) (h : s.1 = BitVec.ofNat 32 (2 * t.val)) : more t.val s ≠ 1#1 := by
  have e : Scalar.cmpi .slt s.1 (two t.val) = 0#1 := by
    rw [h, ← two_eq t]; simp [Scalar.cmpi, IntOp.cmpi, BitVec.slt]
  unfold more
  rw [e]
  exact fun h' => by simp [Scalar.andi, IntOp.andi] at h'

theorem walk_run (t : Fin 16) (Q : FVec F S512x128 .bf16) (f2 : BufTy.Contents (Elt F) arg2.view.ty) (f3 : BufTy.Contents (Elt F) arg3.view.ty)
    (Φ : St F → sProp 𝕄G) : ∀ (n : ℕ) (s : St F), n ≤ 2 * t.val → s.1 = BitVec.ofNat 32 (2 * t.val - n) →
    iprop(Keys c arg2 arg3 f2 f3 ∗ (Keys c arg2 arg3 f2 f3 -∗ Φ (walk Q (arg2.view.read (Elt F) f2) (arg3.view.read (Elt F) f3) t.val n s))) ⊢
      wp frame (wpE (defs₀ (F := F)) Variants.nat (c : Thread nD τ) (some n)) Set.univ
        (cc0_while1 (F := F) i t arg2 harg2 (k0_pay7 Q) k0_pay1 arg3 harg3 s.1 s.2.1 s.2.2.1 s.2.2.2.1 s.2.2.2.2) Φ
  | 0, s, _, hs => by
    have hc := more_stop t s hs
    obtain ⟨a8, a9, a10, a11, a12⟩ := s
    dsimp only at hs hc ⊢
    simp only [cc0_while1_eq_skeleton]
    unfold cc0_while1_skel
    dsimp only
    rw [if_neg hc]
    have e : walk Q (arg2.view.read (Elt F) f2) (arg3.view.read (Elt F) f3) t.val 0 (a8, a9, a10, a11, a12) = (a8, a9, a10, a11, a12) := rfl
    rw [e]
    iintro ⟨H, HP⟩
    sl_step
    iapply HP
    iexact H
  | n + 1, s, hn, hs => by
    simp only [cc0_while1_eq_skeleton]
    unfold cc0_while1_skel
    dsimp only
    by_cases hc : more t.val s = 1#1
    · rw [if_pos hc]
      simp only [k0_part4_eq_skeleton]
      unfold k0_part4_skel
      obtain ⟨a8, a9, a10, a11, a12⟩ := s
      dsimp only at hs hc ⊢
      have hw : k0_chk1 t a8 := hs ▸ chk t ⟨2 * t.val - (n + 1), by omega⟩
      iintro ⟨⟨H2, H3⟩, HP⟩
      sl_exec
      iapply (wp_call Variants.nat (c : Thread nD τ) (some (n + 1)) Set.univ (Γ := .empty) n (fun u hu => (Option.mem_some_iff.mp hu) ▸ Nat.lt_succ_self n))
      have e : walk Q (arg2.view.read (Elt F) f2) (arg3.view.read (Elt F) f3) t.val (n + 1) (a8, a9, a10, a11, a12)
          = walk Q (arg2.view.read (Elt F) f2) (arg3.view.read (Elt F) f3) t.val n
            (step Q (arg2.view.read (Elt F) f2) (arg3.view.read (Elt F) f3) t.val (a8, a9, a10, a11, a12)) := if_pos hc
      rw [e]
      have hv : a8.toNat = 2 * t.val - (n + 1) := by
        have ht := t.isLt
        rw [hs, BitVec.toNat_ofNat]; exact Nat.mod_eq_of_lt (by omega)
      have h5 : k0_off5 t a8 = ![256 * (2 * t.val - 1 - a8.toNat - 1), 0] := by rw [hv, hs]; exact off5 t ⟨2 * t.val - (n + 1), by omega⟩
      have h6 : k0_off6 t a8 = ![256 * (2 * t.val - 1 - a8.toNat), 0] := by rw [hv, hs]; exact off6 t ⟨2 * t.val - (n + 1), by omega⟩
      unfold walk_run.sl.v162 walk_run.sl.v193
      rw [load256 _ _ _ _ h5, load256 _ _ _ _ h6]
      have hcount := step_count Q (arg2.view.read (Elt F) f2) (arg3.view.read (Elt F) f3) t.val (2 * t.val - (n + 1)) (a8, a9, a10, a11, a12) hs
      rw [show 2 * t.val - (n + 1) + 1 = 2 * t.val - n by omega] at hcount
      iapply (walk_run t Q f2 f3 (fun x => wp frame (wpE' (defs₀ (F := F)) Variants.nat (c : Thread nD τ) (some (n + 1)) .empty) Set.univ (Prog.ret x) Φ) n _
        (by omega) hcount)
      isplitl [H2 H3]
      · isplitl [H2]; · iexact H2
        iexact H3
      iintro H
      sl_step
      iapply HP
      iexact H
    · rw [if_neg hc]
      obtain ⟨a8, a9, a10, a11, a12⟩ := s
      iintro ⟨H, HP⟩
      sl_step
      have e : walk Q (arg2.view.read (Elt F) f2) (arg3.view.read (Elt F) f3) t.val (n + 1) (a8, a9, a10, a11, a12) = (a8, a9, a10, a11, a12) := if_neg hc
      rw [e]
      iapply HP
      iexact H

end Cert.AttnFwdProof

end
-- ==== Proof.AttnFwdHead.lean ====
module

public import proofs.«01_k».proof.Proof.AttnFwdWalk

/-! The blocks of queries of one head, and with them a whole head, run by the model of `AttnFwdStep`. -/

@[expose] public section

set_option maxRecDepth 8192
set_option maxHeartbeats 4000000

noncomputable section

namespace Cert.AttnFwdProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open AttnFwdIdeal AttnFwdIdeal.Gen
open AttnProof (rows256 rows512 load256 load512)

variable {F : FTy → Type} [FloatOps F] [Named F]

local notation "𝕄G" => MT nD τ sig Unit (Elt F) ℕ (UR sig nD τ) ℕ

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .f32) (harg5 : arg5.IsWhole) (arg6 : Memref sig .tc .smem S16x16 .i32) (harg6 : arg6.IsWhole)

/-- The inputs at their contents, and the three outputs at contents of which `R4`, `R5`, `R6` hold. -/
abbrev Whole (f1 : BufTy.Contents (Elt F) arg1.view.ty) (f2 : BufTy.Contents (Elt F) arg2.view.ty) (f3 : BufTy.Contents (Elt F) arg3.view.ty)
    (R4 : (S8192x128.Idx → Elt F .bf16) → Prop) (R5 : (S8192x128.Idx → Elt F .f32) → Prop) (R6 : (S16x16.Idx → Elt F .i32) → Prop) : sProp 𝕄G :=
  iprop((arg1.view.loc (c : Thread nD τ) ↦[arg1.view.set]{fullShare} f1) ∗ (arg2.view.loc (c : Thread nD τ) ↦[arg2.view.set]{fullShare} f2) ∗
    (arg3.view.loc (c : Thread nD τ) ↦[arg3.view.set]{fullShare} f3) ∗
    (∃ f, ⌜R4 (arg4.view.read (Elt F) f)⌝ ∗ (arg4.view.loc (c : Thread nD τ) ↦[arg4.view.set]{fullShare} f)) ∗
    (∃ f, ⌜R5 (arg5.view.read (Elt F) f)⌝ ∗ (arg5.view.loc (c : Thread nD τ) ↦[arg5.view.set]{fullShare} f)) ∗
    (∃ f, ⌜R6 (arg6.view.read (Elt F) f)⌝ ∗ (arg6.view.loc (c : Thread nD τ) ↦[arg6.view.set]{fullShare} f)))

theorem block_run (t : Fin 16) (acc : Unit)
    (f1 : BufTy.Contents (Elt F) arg1.view.ty) (f2 : BufTy.Contents (Elt F) arg2.view.ty) (f3 : BufTy.Contents (Elt F) arg3.view.ty)
    (R4 R4' : (S8192x128.Idx → Elt F .bf16) → Prop) (R5 R5' : (S8192x128.Idx → Elt F .f32) → Prop) (R6 R6' : (S16x16.Idx → Elt F .i32) → Prop)
    (h4 : ∀ x, R4 x → R4' (VecWindow.put x ![512 * t.val, 0] S512x128.size
      (k0_pay3 (block (arg1.view.read (Elt F) f1) (arg2.view.read (Elt F) f2) (arg3.view.read (Elt F) f3) t.val).2.2.2.1)))
    (h5 : ∀ x, R5 x → R5' (VecWindow.put x ![512 * t.val, 0] S512x128.size
      (k0_pay4 (block (arg1.view.read (Elt F) f1) (arg2.view.read (Elt F) f2) (arg3.view.read (Elt F) f3) t.val).2.2.1)))
    (h6 : ∀ x, R6 x → R6' (VecWindow.put x ![(i 0).val, t.val] S1x1.size
      (fun _ => headFirst (arg1.view.read (Elt F) f1) (arg2.view.read (Elt F) f2) (arg3.view.read (Elt F) f3) t.val))) :
    Whole c arg1 arg2 arg3 arg4 arg5 arg6 f1 f2 f3 R4 R5 R6 ⊢
      wp frame (wpE (defs₀ (F := F)) Variants.nat (c : Thread nD τ) none) Set.univ
        (k0_t1_body (F := F) i arg1 harg1 arg2 harg2 arg3 harg3 arg4 harg4 arg5 harg5 arg6 harg6 t acc)
        (fun _ => Whole c arg1 arg2 arg3 arg4 arg5 arg6 f1 f2 f3 R4' R5' R6') := by
  unfold k0_t1_body
  simp only [k0_part1_eq_skeleton, k0_part2_eq_skeleton, k0_part3_eq_skeleton]
  unfold k0_part1_skel k0_part2_skel k0_part3_skel
  unfold headFirst block last at h6
  unfold block last at h4 h5
  rw [← load512 arg1.view f1 (k0_off1_inb t) (512 * t.val) (off1 t)] at h4 h5 h6
  iintro ⟨H1, H2, H3, ⟨%f4, %k4, H4⟩, ⟨%f5, %k5, H5⟩, ⟨%f6, %k6, H6⟩⟩
  sl_exec
  iapply (wp_call Variants.nat (c : Thread nD τ) none Set.univ (Γ := .empty) (2 * t.val) (fun u hu => nomatch hu))
  dsimp only
  rw [load256 _ _ _ _ (off2 t), load256 _ _ _ _ (off3a t), load256 _ _ _ _ (off3b t), load256 _ _ _ _ (off4a t), load256 _ _ _ _ (off4b t)]
  iapply (walk_run c i arg2 harg2 arg3 harg3 t _ f2 f3 _ (2 * t.val)
    (start (arg1.view.readAt (Elt F) (Rect.unit (s := S8192x128) (k0_off1 t) S512x128.size (k0_off1_inb t)).toLoadRect f1)
      (arg2.view.read (Elt F) f2) (arg3.view.read (Elt F) f3) t.val) le_rfl (by rw [Nat.sub_self]; rfl))
  isplitl [H2 H3]
  · isplitl [H2]; · iexact H2
    iexact H3
  iintro ⟨H2, H3⟩
  generalize hs : (walk _ _ _ _ _ _ : St F) = s at h4 h5 h6 ⊢
  obtain ⟨s0, s1, s2, s3, s4⟩ := s
  dsimp only at h4 h5 h6 ⊢
  sl_exec
  sl_step
  isplitl [H1]; · iexact H1
  isplitl [H2]; · iexact H2
  isplitl [H3]; · iexact H3
  isplitl [H4]
  · iexists _
    isplitr; swap; · iexact H4
    ipureintro
    rw [View.read_writes_cons_put _ _ _ _ _ (off1 t), View.writes_nil]
    exact h4 _ k4
  isplitl [H5]
  · iexists _
    isplitr; swap; · iexact H5
    ipureintro
    rw [View.read_writes_cons_put _ _ _ _ _ (off1 t), View.writes_nil]
    exact h5 _ k5
  · iexists _
    isplitr; swap; · iexact H6
    ipureintro
    rw [View.read_writes_cons_put _ _ _ _ _ (off7 i t), View.writes_nil]
    exact h6 _ k6

/-- The contents agree with the blocks `B` on the first `n` of them. -/
def Upto {α : Type} (B : ℕ → S512x128.Idx → α) (n : ℕ) (x : S8192x128.Idx → α) : Prop :=
  ∀ y : S8192x128.Idx, (y 0).val < 512 * n → x y = stacked B y

theorem upto_zero {α : Type} (B : ℕ → S512x128.Idx → α) (x : S8192x128.Idx → α) : Upto B 0 x := fun _ h => absurd h (Nat.not_lt_zero _)

theorem upto_step {α : Type} (B : ℕ → S512x128.Idx → α) (n : ℕ) (x : S8192x128.Idx → α) (h : Upto B n x) :
    Upto B (n + 1) (VecWindow.put x ![512 * n, 0] S512x128.size (B n)) := by
  intro y hy
  unfold VecWindow.put
  split_ifs with hw
  · have h0 : 512 * n ≤ (y 0).val ∧ (y 0).val < 512 * n + 512 := hw 0
    have hd : (y 0).val / 512 = n := by omega
    unfold stacked
    rw [hd]
    refine congrArg _ (funext fun a => Fin.ext ?_)
    match a with
    | 0 => exact (show (y 0).val - 512 * n = (y 0).val % 512 by omega)
    | 1 => exact Nat.sub_zero _
  · refine h y (Nat.lt_of_not_le fun hle => hw fun a => ?_)
    match a with
    | 0 => exact ⟨hle, (by omega : (y 0).val < 512 * n + 512)⟩
    | 1 => exact ⟨Nat.zero_le _, lt_of_lt_of_eq (y 1).isLt (Nat.zero_add _).symm⟩

theorem upto_all {α : Type} (B : ℕ → S512x128.Idx → α) (x : S8192x128.Idx → α) (h : Upto B 16 x) : x = stacked B :=
  funext fun y => h y (y 0).isLt

/-- The table of blocks not walked: row `r` holds `B` in its first `n` columns, the rest is `X`. -/
def Line {α : Type} (r : ℕ) (B : ℕ → α) (X : S16x16.Idx → α) (n : ℕ) (x : S16x16.Idx → α) : Prop :=
  ∀ y : S16x16.Idx, x y = if (y 0).val = r ∧ (y 1).val < n then B (y 1).val else X y

theorem line_zero {α : Type} (r : ℕ) (B : ℕ → α) (X : S16x16.Idx → α) : Line r B X 0 X := fun y =>
  (if_neg fun h => Nat.not_lt_zero _ h.2).symm

theorem line_step {α : Type} (r : ℕ) (B : ℕ → α) (X : S16x16.Idx → α) (n : ℕ) (x : S16x16.Idx → α) (h : Line r B X n x) :
    Line r B X (n + 1) (VecWindow.put x ![r, n] S1x1.size (fun _ => B n)) := by
  intro y
  unfold VecWindow.put
  split_ifs with hw h2 h2
  · have h1 : n ≤ (y 1).val ∧ (y 1).val < n + 1 := hw 1
    exact congrArg B (by omega)
  · have h0 : r ≤ (y 0).val ∧ (y 0).val < r + 1 := hw 0
    have h1 : n ≤ (y 1).val ∧ (y 1).val < n + 1 := hw 1
    exact absurd ⟨by omega, h1.2⟩ h2
  · have h3 : (y 1).val ≠ n := fun e => hw fun a => match a with
      | 0 => ⟨le_of_eq h2.1.symm, (by omega : (y 0).val < r + 1)⟩
      | 1 => ⟨le_of_eq e.symm, (by omega : (y 1).val < n + 1)⟩
    rw [h y, if_pos ⟨h2.1, by omega⟩]
  · rw [h y, if_neg fun h' => h2 ⟨h'.1, by omega⟩]

/-- The contents of the table after a head. -/
theorem line_all {α : Type} (r : ℕ) (B : ℕ → α) (X x : S16x16.Idx → α) (h : Line r B X 16 x) (y : S16x16.Idx) :
    x y = if (y 0).val = r then B (y 1).val else X y := by
  rw [h y]
  have h1 : (y 1).val < 16 := (y 1).isLt
  by_cases h0 : (y 0).val = r
  · rw [if_pos ⟨h0, h1⟩, if_pos h0]
  · rw [if_neg fun h' => h0 h'.1, if_neg h0]

section Run
variable (Q K V : FVec F S8192x128 .bf16) (X : S16x16.Idx → Elt F .i32)

/-- What is known of the outputs after `n` blocks of queries. -/
abbrev Done (f1 : BufTy.Contents (Elt F) arg1.view.ty) (f2 : BufTy.Contents (Elt F) arg2.view.ty) (f3 : BufTy.Contents (Elt F) arg3.view.ty) (n : ℕ) : sProp 𝕄G :=
  Whole c arg1 arg2 arg3 arg4 arg5 arg6 f1 f2 f3 (Upto (fun t => k0_pay3 (block Q K V t).2.2.2.1) n) (Upto (fun t => k0_pay4 (block Q K V t).2.2.1) n)
    (Line (i 0).val (headFirst Q K V) X n)

/-- The loop over the blocks of queries. -/
theorem blocks_run (f1 : BufTy.Contents (Elt F) arg1.view.ty) (f2 : BufTy.Contents (Elt F) arg2.view.ty) (f3 : BufTy.Contents (Elt F) arg3.view.ty)
    (h1 : arg1.view.read (Elt F) f1 = Q) (h2 : arg2.view.read (Elt F) f2 = K) (h3 : arg3.view.read (Elt F) f3 = V) :
    Done c i arg1 arg2 arg3 arg4 arg5 arg6 Q K V X f1 f2 f3 0 ⊢
      wp frame (wpE (defs₀ (F := F)) Variants.nat (c : Thread nD τ) none) Set.univ
        (Scf.Loop.for k0_t1_loop k0_t1_ok ()
          (k0_t1_body (F := F) i arg1 harg1 arg2 harg2 arg3 harg3 arg4 harg4 arg5 harg5 arg6 harg6))
        (fun _ => Done c i arg1 arg2 arg3 arg4 arg5 arg6 Q K V X f1 f2 f3 16) := by
  subst h1 h2 h3
  iintro H
  iapply (Scf.wp_for frame (wpE (defs₀ (F := F)) Variants.nat (c : Thread nD τ) none) Set.univ _ _ _ k0_t1_ok () _
    (fun n _ => Done c i arg1 arg2 arg3 arg4 arg5 arg6 (arg1.view.read (Elt F) f1) (arg2.view.read (Elt F) f2) (arg3.view.read (Elt F) f3) X f1 f2 f3 n)
    (fun t acc => block_run c i arg1 harg1 arg2 harg2 arg3 harg3 arg4 harg4 arg5 harg5 arg6 harg6 t acc f1 f2 f3 _ _ _ _ _ _
      (fun x hx => upto_step _ _ x hx) (fun x hx => upto_step _ _ x hx) (fun x hx => line_step _ _ _ _ x hx)))
  isplitl [H]; · iexact H
  iintro %acc H
  iexact H

/-- ONE HEAD. From the inputs' blocks and anything in the outputs, the body leaves the output and the
rows' sums of the model, and the head's row of the table of blocks not walked. -/
theorem head_run (P : PUnit → sProp 𝕄G) :
    iprop(owns (c : Thread nD τ) arg1 fullShare Q ∗ owns (c : Thread nD τ) arg2 fullShare K ∗ owns (c : Thread nD τ) arg3 fullShare V ∗
      (∃ d, owns (c : Thread nD τ) arg4 fullShare d) ∗ (∃ d, owns (c : Thread nD τ) arg5 fullShare d) ∗ owns (c : Thread nD τ) arg6 fullShare X ∗
      (iprop(owns (c : Thread nD τ) arg1 fullShare Q ∗ owns (c : Thread nD τ) arg2 fullShare K ∗ owns (c : Thread nD τ) arg3 fullShare V ∗
        owns (c : Thread nD τ) arg4 fullShare (headO Q K V) ∗ owns (c : Thread nD τ) arg5 fullShare (headL Q K V) ∗
        owns (c : Thread nD τ) arg6 fullShare (fun y => if (y 0).val = (i 0).val then headFirst Q K V (y 1).val else X y)) -∗ P ⟨⟩))
    ⊢ wp frame (wpE (defs₀ (F := F)) Variants.nat (c : Thread nD τ) none) Set.univ
        (cc0_attn_fwd (F := F) i arg1 harg1 arg2 harg2 arg3 harg3 arg4 harg4 arg5 harg5 arg6 harg6) P := by
  simp only [cc0_attn_fwd_eq_skeleton]
  unfold cc0_attn_fwd_skel
  unfold owns
  iintro ⟨⟨%f1, %h1, H1⟩, ⟨%f2, %h2, H2⟩, ⟨%f3, %h3, H3⟩, ⟨%d4, %f4, %h4, H4⟩, ⟨%d5, %f5, %h5, H5⟩, ⟨%f6, %h6, H6⟩, HP⟩
  rw [wp_bind]
  iapply (wp_wand_r frame (wpE (defs₀ (F := F)) Variants.nat (c : Thread nD τ) none) Set.univ)
  isplitl [H1 H2 H3 H4 H5 H6]
  · iapply (blocks_run c i arg1 harg1 arg2 harg2 arg3 harg3 arg4 harg4 arg5 harg5 arg6 harg6 Q K V X f1 f2 f3 h1 h2 h3)
    isplitl [H1]; · iexact H1
    isplitl [H2]; · iexact H2
    isplitl [H3]; · iexact H3
    isplitl [H4]
    · iexists _
      isplitr; swap; · iexact H4
      ipureintro; exact upto_zero _ _
    isplitl [H5]
    · iexists _
      isplitr; swap; · iexact H5
      ipureintro; exact upto_zero _ _
    · iexists _
      isplitr; swap; · iexact H6
      ipureintro; rw [h6]; exact line_zero _ _ _
  iintro %acc ⟨H1, H2, H3, ⟨%g4, %k4, H4⟩, ⟨%g5, %k5, H5⟩, ⟨%g6, %k6, H6⟩⟩
  sl_step
  iapply HP
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists g4; isplitr; · ipureintro; exact upto_all _ _ k4
                  iexact H4
  isplitl [H5]; · iexists g5; isplitr; · ipureintro; exact upto_all _ _ k5
                  iexact H5
  iexists g6
  isplitr; · ipureintro; exact funext fun y => line_all _ _ _ _ k6 y
  iexact H6

end Run

end Cert.AttnFwdProof

end
-- ==== Proof.AttnFwdFrame.lean ====
module

public import proofs.«01_k».proof.Proof.AttnFwdHead
public import proofs.«01_k».proof.Proof.Gen.AttnFwdIdeal.Points
public import proofs.«01_k».proof.Proof.Gen.AttnFwdIdeal.Launch
public import Idealize.ShloMosaic.Lib.Pipeline.ArrRel
public import Idealize.ShloMosaic.Lib.Pipeline.DatRel
public import Idealize.ShloMosaic.Lib.Pipeline.ValueKit

/-! The launch over the heads of the forward attention: the proof data, the body at every point, the
frame. Each head writes its own row of the table of blocks not walked and leaves the other rows, so of
the table the data say only which rows are written so far. -/

@[expose] public section

set_option maxRecDepth 8192
set_option maxHeartbeats 4000000

noncomputable section

namespace Cert.AttnFwdProof

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open AttnFwdIdeal AttnFwdIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- What the launch finds in a core's buffers: the memory after the host's rounding of the argument. -/
abbrev V (c : Dev nD) (b : Ref sig .tc) : Buf (Elt F) ((c : Thread nD τ).loc b) :=
  StableHlo.after hostOps0 (fun b => m (c, b)) b

theorem main_enters : Pipeline.HMain (Ix := Unit) (Name := ℕ) (U := UR sig nD τ) (Lvl := ℕ) cfgs 0 defs₀ Variants.nat m (main (F := F)) (V m) :=
  Pipeline.hmain_prefixes cfgs 0 defs₀ Variants.nat m main [hostOps0] (by simp only [List.Forall]; exact hostOps0_sub)
    (by simp only [List.Forall]; repeat' constructor) main_chain

/-- The host's line does not write the argument. -/
theorem argument_kept (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- The block of window `w` at point `t`, of the array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What each point leaves: the inputs' blocks as found, the outputs' at the head's. -/
def dats (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => headO (iblk m c 0 t) (iblk m c 1 t) (iblk m c 2 t)
    | ⟨4, _⟩ => headL (iblk m c 0 t) (iblk m c 1 t) (iblk m c 2 t)
    | ⟨5, _⟩ => fun _ => 0#32
  Φ _ := Pipeline.ΦA spec0 c
  q w := Pipeline.shareOf spec0 w
  owed _ := 0

/-- The table of blocks not walked is held to a predicate only. -/
def loose : Fin (cfg0 (F := F)).W → Bool := fun w => match w with
  | ⟨5, _⟩ => true
  | _ => false

/-- The rows of the heads up to `t` are written. -/
def Rows (c : Dev nD) (t : Fin (cfg0 (F := F)).N) (X : S16x16.Idx → Elt F .i32) : Prop :=
  ∀ (h : Fin (cfg0 (F := F)).N), h.val ≤ t.val → ∀ y : S16x16.Idx, (y 0).val = h.val →
    X y = headFirst (iblk m c 0 h) (iblk m c 1 h) (iblk m c 2 h) (y 1).val

def Rl (c : Dev nD) : (w : Fin (cfg0 (F := F)).W) → Fin (cfg0 (F := F)).N → (((cfg0 (F := F)).win w).block.Idx → Elt F ((cfg0 (F := F)).win w).elt) → Prop := fun w t => match w with
  | ⟨5, _⟩ => fun X => Rows m c t X
  | ⟨0, _⟩ => fun _ => True
  | ⟨1, _⟩ => fun _ => True
  | ⟨2, _⟩ => fun _ => True
  | ⟨3, _⟩ => fun _ => True
  | ⟨4, _⟩ => fun _ => True

abbrev rdats (c : Dev nD) : RDat τ (Elt F) Unit ℕ (UR sig nD τ) ℕ (cfg0 (F := F)) c := (dats m c).toRRel loose (Rl m c)

theorem A_eq (c : Dev nD) (w : Fin (cfg0 (F := F)).W) : (dats m c).A w = V m c (Pipeline.arrRef spec0 w) := by
  dsimp only [dats]

theorem after_0 (c : Dev nD) (t : Fin (cfg0 (F := F)).N) : (dats m c).after 0 t = iblk m c 0 t := by
  unfold dats; rfl
theorem after_1 (c : Dev nD) (t : Fin (cfg0 (F := F)).N) : (dats m c).after 1 t = iblk m c 1 t := by
  unfold dats; rfl
theorem after_2 (c : Dev nD) (t : Fin (cfg0 (F := F)).N) : (dats m c).after 2 t = iblk m c 2 t := by
  unfold dats; rfl
theorem after_3 (c : Dev nD) (t : Fin (cfg0 (F := F)).N) : (dats m c).after 3 t = headO (iblk m c 0 t) (iblk m c 1 t) (iblk m c 2 t) := by
  unfold dats; rfl
theorem after_4 (c : Dev nD) (t : Fin (cfg0 (F := F)).N) : (dats m c).after 4 t = headL (iblk m c 0 t) (iblk m c 1 t) (iblk m c 2 t) := by
  unfold dats; rfl

theorem before_0 (c : Dev nD) (t : Fin (cfg0 (F := F)).N) (d) : (dats m c).before 0 t d = iblk m c 0 t :=
  ((dats m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m c).before 1 t d = iblk m c 1 t :=
  ((dats m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m c).before 2 t d = iblk m c 2 t :=
  ((dats m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem head_index : ∀ t : Fin grid0.N, (grid0.coords t 0).val = t.val := by decide +kernel
theorem table_kept : ∀ t : Fin (cfg0 (F := F)).N, ((cfg0 (F := F)).win 5).fetch t = false :=
  (by decide +kernel : ∀ t : Fin grid0.N, win0_5.fetch t = false)

/-- The table as the body finds it has the rows of the heads before. -/
theorem rows_before (c : Dev nD) (t : Fin (cfg0 (F := F)).N) (Y) (hY : (rdats m c).Finds 5 t Y) (h : Fin (cfg0 (F := F)).N) (ht : h.val < t.val)
    (y : S16x16.Idx) (hy : (y 0).val = h.val) : Y y = headFirst (iblk m c 0 h) (iblk m c 1 h) (iblk m c 2 h) (y 1).val := by
  have hN : t.val < 16 := t.isLt
  rcases (RDat.finds_of_pos (rdats m c) (table_kept t) (by omega) Y).1 hY with hf | hl
  · have := (flush0_5 _).1 hf
    exact absurd (show (t.val - 1) % 16 = 15 from this) (by omega)
  · exact (Dat.toRRel_leaves (dats m c) rfl hl : Rows m c _ Y) h (by show h.val ≤ t.val - 1; omega) y hy

/-- The table as the body leaves it has the rows up to its own. -/
theorem rows_after (c : Dev nD) (t : Fin (cfg0 (F := F)).N) (Y) (hY : (rdats m c).Finds 5 t Y) :
    Rows m c t (fun y => if (y 0).val = (grid0.coords t 0).val then headFirst (iblk m c 0 t) (iblk m c 1 t) (iblk m c 2 t) (y 1).val else Y y) := by
  intro h hh y hy
  rw [head_index t]
  dsimp only
  by_cases e : h.val = t.val
  · obtain rfl : h = t := Fin.ext e
    exact if_pos hy
  · exact (if_neg (by omega)).trans (rows_before m c t Y hY h (by omega) y hy)

/-- What the body is called with, and what it returns. -/
def bodyPre (c : Dev nD) (t : Fin (cfg0 (F := F)).N) : sProp 𝕄G :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ Y, ⌜(rdats m c).Finds 5 t Y⌝ ∗ owns (c : Thread nD τ) (st0_5 t) fullShare Y))

def bodyPost (c : Dev nD) (t : Fin (cfg0 (F := F)).N) : sProp 𝕄G :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ owns (c : Thread nD τ) (st0_4 t) fullShare ((dats m c).after 4 t)
    ∗ (∃ X, ⌜Rl m c 5 t X⌝ ∗ owns (c : Thread nD τ) (st0_5 t) fullShare X))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2]
  rw [show (dats m c).Φ t.succ = (dats m c).Φ t.castSucc from rfl,
    show (dats m c).owesAt () t.succ = (dats m c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩, ⟨%Y, %hY, H5⟩⟩
  iapply (head_run c (grid0.coords t) _ _ _ _ _ _ _ _ _ _ _ _ (iblk m c 0 t) (iblk m c 1 t) (iblk m c 2 t) Y _)
  isplitl [H0]; · iexact H0
  isplitl [H1]; · iexact H1
  isplitl [H2]; · iexact H2
  isplitl [H3]; · iexists _; iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _
  isplitr; swap; · iexact H5
  ipureintro
  exact rows_after m c t Y hY

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligationRel (dats (F := F) m c) (defs₀ (F := F)) Variants.nat () Set.univ loose (Rl m c) := fun t => by
  rw [bigSep_W0, bigSep_W0, defs₀_row]
  exact triple_restated (sound_body m c t) rfl .rfl fun _ => .rfl

set_option backward.isDefEq.respectTransparency.types false in
/-- The launch: every array of the pipeline ends at what the points leave, and every counter at zero. -/
theorem run_main : θ_run defs (onTc (τ := τ) (main (F := F))) (s₀ m ρ) (fun r => RDat.FramePost (cfg0 (F := F)) (rdats m) (V m) r ∧ r.2.sem = fun _ => 0) :=
  Pipeline.RDat.θ_run_frame_track_shared (Q' := _) cfgs (0 : Fin 1) launch₀0 defs₀ Variants.nat (rdats m) m ρ main
    (hbody := fun c => (body_obligation m c).toRRel) (hq := fun _ _ _ => rfl)
    (howed := fun _ _ => rfl) (V := V m) (hmain := main_enters m) (hA := A_eq m) (hin := fun _ => .rfl) (hout := fun _ => .rfl)

/-- The argument ends as it was. -/
theorem argument_of {r : PUnit × MemSt nD τ sig (Elt F)} (h : RDat.FramePost (cfg0 (F := F)) (rdats m) (V m) r) (c : Dev nD) :
    r.2.mem ((c.tc : Thread nD τ).loc main_arg0) = m ((c.tc : Thread nD τ).loc main_arg0) :=
  ((h c).2 main_arg0 (Pipeline.mem_restRefs_of main_arg0 (by decide) (by exact (by decide : ∀ w : Fin 6, (spec0 w).arr.view.ref ≠ main_arg0)))).trans (argument_kept m c)

/-- The frame: the argument ends as it was, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨argument_of m h.1, h.2⟩) (run_main m ρ)

end Cert.AttnFwdProof

end
-- ==== Proof.AttnFwdArrays.lean ====
/- What the forward attention's call leaves in its three result arrays, over a real argument. -/
module

public import proofs.«01_k».proof.Proof.AttnFwdReal
public import proofs.«01_k».proof.Proof.AttnFwdFrame
public import proofs.«01_k».proof.Proof.AttnArrays

@[expose] public section

noncomputable section

namespace Cert.AttnFwdProof

open AttnFwdIdeal AttnFwdIdeal.Gen RealOps Idealize.ShloMosaic TcCoe Idealize.SL.Sem
open Idealize.ShloMosaic.Pipeline (Dat RDat)
open AttnProof (cols asX asX_congr headwise headwise_at whole total)

/-- Every window's block index at point `t`. -/
theorem idx : ∀ t : Fin (cfg0 (F := Ideal)).N, win0_0.index t = ![0, t.val] ∧ win0_1.index t = ![0, 16 + t.val] ∧ win0_2.index t = ![0, 32 + t.val]
    ∧ win0_3.index t = ![0, t.val] ∧ win0_4.index t = ![0, t.val] ∧ win0_5.index t = ![0, 0] :=
  (by decide +kernel : ∀ t : Fin grid0.N, _)

/-- The output and the rows' sums over a real argument. -/
def outO (X : ℕ → ℕ → ℝ) : FVec Ideal S8192x2048 .bf16 :=
  headwise fun h => out (cols X (128 * h)) (cols X (2048 + 128 * h)) (cols X (4096 + 128 * h))
def outL (X : ℕ → ℕ → ℝ) : FVec Ideal S8192x2048 .f32 :=
  headwise fun h i _ => total (cols X (128 * h)) (cols X (2048 + 128 * h)) i

variable (m : (ℓ : Loc nD τ sig) → Buf (Elt Ideal) ℓ) (c : Dev nD) (X : ℕ → ℕ → ℝ)

theorem rounded : @Eq (FVec Ideal S8192x6144 .bf16) (V m c main_v0) (truncf (F := Ideal) (s := S8192x6144) (φ := .f32) .bf16 (m ((c.tc : Thread nD τ).loc main_arg0)) bitsLt_bf16_f32) := by
  entry_read
  rfl

section Blocks
variable (hX : m ((c.tc : Thread nD τ).loc main_arg0) = asX X)
include hX

theorem block0 (t : Fin (cfg0 (F := Ideal)).N) : iblk m c 0 t = whole (cols X (128 * t.val)) := by
  funext y
  refine (congrFun (rounded m c) _).trans ?_
  rw [hX]
  refine asX_congr X (i := (y 0).val) (j := 128 * t.val + (y 1).val) ?_ ?_ <;> blk_simp [idx t] <;> omega

theorem block1 (t : Fin (cfg0 (F := Ideal)).N) : iblk m c 1 t = whole (cols X (2048 + 128 * t.val)) := by
  funext y
  refine (congrFun (rounded m c) _).trans ?_
  rw [hX]
  refine asX_congr X (i := (y 0).val) (j := 2048 + 128 * t.val + (y 1).val) ?_ ?_ <;> blk_simp [idx t] <;> omega

theorem block2 (t : Fin (cfg0 (F := Ideal)).N) : iblk m c 2 t = whole (cols X (4096 + 128 * t.val)) := by
  funext y
  refine (congrFun (rounded m c) _).trans ?_
  rw [hX]
  refine asX_congr X (i := (y 0).val) (j := 4096 + 128 * t.val + (y 1).val) ?_ ?_ <;> blk_simp [idx t] <;> omega

theorem final3 : (dats m c).arrAt 3 (cfg0 (F := Ideal)).N = outO X := by
  refine (dats m c).arrAt_eq_of_covers 3 _ (by decide +kernel) fun t _ y => ?_
  have hN : t.val < 16 := lt_of_lt_of_eq t.isLt N_0
  blk_simp
  rw [after_3, block0 m c X hX t, block1 m c X hX t, block2 m c X hX t, headO_eq]
  refine Eq.symm (headwise_at _ (h := t.val) (i := (y 0).val) (d := (y 1 : Fin 128)) (y := (((cfg0 (F := Ideal)).win 3).blk t).view.emb y) ?_ ?_) <;> blk_simp [idx t] <;> omega

theorem final4 : (dats m c).arrAt 4 (cfg0 (F := Ideal)).N = outL X := by
  refine (dats m c).arrAt_eq_of_covers 4 _ (by decide +kernel) fun t _ y => ?_
  have hN : t.val < 16 := lt_of_lt_of_eq t.isLt N_0
  blk_simp
  rw [after_4, block0 m c X hX t, block1 m c X hX t, block2 m c X hX t, headL_eq]
  refine Eq.symm (headwise_at _ (h := t.val) (i := (y 0).val) (d := (y 1 : Fin 128)) (y := (((cfg0 (F := Ideal)).win 4).blk t).view.emb y) ?_ ?_) <;> blk_simp [idx t] <;> omega

/-- The table holds zeros: every block of keys was walked. -/
theorem final5 (G : Buf (Elt Ideal) ((c : Thread nD τ).loc main_v1_2)) (hG : (rdats m c).ArrAt 5 (cfg0 (F := Ideal)).N G) : G = fun _ => 0#32 := by
  have hw : ((cfg0 (F := Ideal)).win 5).WholeAt ⟨15, by decide⟩ := by decide +kernel
  obtain ⟨Y, hY, hGY⟩ := RDat.ArrAt.emb_eq_of_wholeAt hG hw
  have hR : Rows m c ⟨15, by decide⟩ Y := Dat.toRRel_leaves (dats m c) rfl hY
  funext y
  have h0 : (y 0).val < 16 := (y 0).isLt
  have h1 : (y 1).val < 16 := (y 1).isLt
  have e : (((cfg0 (F := Ideal)).win 5).arr.view.emb y) = y := rfl
  refine (congrArg G e.symm).trans ((hGY y).trans ?_)
  refine (hR ⟨(y 0).val, by exact h0⟩ (by show (y 0).val ≤ 15; omega) _ rfl).trans ?_
  rw [block0 m c X hX, block1 m c X hX, block2 m c X hX]
  exact headFirst_eq _ _ _ ⟨(y 1).val, h1⟩

/-- What the run leaves in the three result arrays. -/
theorem results {r : PUnit × MemSt nD τ sig (Elt Ideal)} (h : RDat.FramePost (cfg0 (F := Ideal)) (rdats m) (V m) r) :
    r.2.mem ((c : Thread nD τ).loc main_v1_0) = outO X ∧ r.2.mem ((c : Thread nD τ).loc main_v1_1) = outL X
      ∧ r.2.mem ((c : Thread nD τ).loc main_v1_2) = (fun _ => 0#32 : S16x16.Idx → BitVec 32) :=
  ⟨(((dats m c).toR_arrAt_iff 3 _ _).1 (((dats m c).toR.override_arrAt rfl _ _).1 ((h c).1 3))).trans (final3 m c X hX),
   (((dats m c).toR_arrAt_iff 4 _ _).1 (((dats m c).toR.override_arrAt rfl _ _).1 ((h c).1 4))).trans (final4 m c X hX),
   final5 m c X hX _ ((h c).1 5)⟩

end Blocks
end Cert.AttnFwdProof
-- ==== Proof.AttnFwdRef.lean ====
/- The forward attention's reference: its results, as a composition of the steps the backward's reference has too. -/
module

public import proofs.«01_k».proof.Proof.AttnRefReal
public import proofs.«01_k».proof.Proof.AttnFwdReal
public import proofs.«01_k».proof.Proof.Gen.AttnFwdRefIdeal.Run

@[expose] public section

noncomputable section

namespace Cert.AttnFwdProof

open AttnFwdRefIdeal AttnFwdRefIdeal.Gen RealOps Idealize.ShloMosaic TcCoe
open AttnProof (Prods Rows cols asX heads prods headwise refQ refK refV refZ refDots refExp refCols refScale masked softplus mixQ refQ_eq refK_eq refV_eq
  refDots_eq refScale_eq refWeights_eq refCols_eq mixQ_eq negf_eq softplus_eq masked_eq lsig_neg zed dot sR lg wt total)
open Finset

/-- The rows' sums, repeated over a head's columns. -/
def refTotal (l : Prods) : FVec Ideal S8192x2048 .f32 :=
  shapeCast S8192x2048 (transpose S8192x16x128 [1, 0, 2] (broadcastInDim S16x8192x128 ![0, 1, 2] bcast_S16x8192x1_S16x8192x128_0_1_2
    (broadcastInDim S16x8192x1 ![0, 1] bcast_S16x8192_S16x8192x1_0_1
      (Host.reduceAdd l (constant S_ .f32 0x00000000#32) reducesTo_S16x8192x8192_S16x8192_d2 h_S_)))
    transposes_S16x8192x128_S8192x16x128_1_0_2) shapeCasts_S8192x16x128_S8192x2048

/-- The masked `log(1 − β)`. -/
def refLog (z : Prods) : Prods := masked (Host.negf (softplus (Host.negf (Host.negf z))))

variable (m : (ℓ : Loc nD τ sig) → Buf (Elt Ideal) ℓ) (c : Dev nD)

theorem ref0 : Value.res_out0 m c = refCols (mixQ (masked (refExp (refZ (m ((c.tc : Thread nD τ).loc main_arg0))))) (refV (m ((c.tc : Thread nD τ).loc main_arg0)))) := rfl
theorem ref1 : Value.res_out1 m c = refTotal (refLog (refZ (m ((c.tc : Thread nD τ).loc main_arg0)))) := rfl

section Real
variable (X : ℕ → ℕ → ℝ)

theorem refZ_eq : refZ (asX X) = prods fun h i j => zed (cols X (128 * h)) (cols X (2048 + 128 * h)) i j := by
  unfold refZ
  rw [refQ_eq, refK_eq, refDots_eq, refScale_eq]
  rfl

theorem refLog_eq (q k : ℕ → Rows) : refLog (prods fun h i j => zed (q h) (k h) i j) = prods fun h i j => lg (q h) (k h) i j := by
  unfold refLog
  rw [negf_eq, negf_eq, softplus_eq, negf_eq, masked_eq]
  refine congrArg prods (funext fun h => funext fun i => funext fun j => ?_)
  simp only [neg_neg, lsig_neg]
  rfl

theorem refTotal_eq (l : ℕ → ℕ → ℕ → ℝ) : refTotal (prods l) = headwise fun h i _ => ∑ j ∈ range 8192, l h i j := by
  funext y
  pointwise [refTotal, prods, headwise]
  rw [coe_sum, ← Fin.sum_univ_eq_sum_range]

theorem output_eq : refCols (mixQ (masked (refExp (refZ (asX X)))) (refV (asX X)))
    = headwise fun h => out (cols X (128 * h)) (cols X (2048 + 128 * h)) (cols X (4096 + 128 * h)) := by
  rw [refZ_eq, refWeights_eq (fun h => cols X (128 * h)) (fun h => cols X (2048 + 128 * h)), refV_eq, mixQ_eq, refCols_eq]
  rfl

theorem total_eq : refTotal (refLog (refZ (asX X))) = headwise fun h i _ => total (cols X (128 * h)) (cols X (2048 + 128 * h)) i := by
  rw [refZ_eq, refLog_eq (fun h => cols X (128 * h)) (fun h => cols X (2048 + 128 * h)), refTotal_eq]
  rfl

end Real
end Cert.AttnFwdProof
-- ==== Proof.AttnFwdClaims.lean ====
module
public import proofs.«01_k».proof.Defs
public import proofs.«01_k».proof.Proof.AttnFwdArrays
public import proofs.«01_k».proof.Proof.AttnFwdRef
public import proofs.«01_k».proof.Proof.Finite
public import proofs.«01_k».proof.Proof.Gen.Pre_attn_fwd_finite

/-! The claims about the attention's forward call that speak of its reference. -/

@[expose] public section
noncomputable section
namespace Cert.AttnFwdProof
open Idealize.ShloMosaic Idealize.SL.Sem Cert.Finite
open AttnProof (asX)

/-- The frame of the reference. -/
theorem ref_frame : quiescent_AttnFwdRefIdeal := fun m ρ _ =>
  (θ_run AttnFwdRefIdeal.defs _ _).mono (fun r h => ⟨fun c => (h c).2.2.2, sem_eq_zero_of_no_sems (by decide) r.2⟩)
    (AttnFwdRefIdeal.Value.run (F := Ideal) m ρ)

variable (m : (ℓ : Loc AttnFwdIdeal.nD AttnFwdIdeal.τ AttnFwdIdeal.sig) → Buf (Elt Ideal) ℓ) (c : Dev AttnFwdIdeal.nD)

/-- The table of the argument. -/
def argX : ℕ → ℕ → ℝ := table (a := 8192) (b := 6144) (m ((c.tc : Thread _ _).loc AttnFwdIdeal.main_arg0))

theorem arg_real (h : Pre_AttnFwdIdeal_attn_fwd_finite m) : m ((c.tc : Thread _ _).loc AttnFwdIdeal.main_arg0) = asX (argX m c) := by
  have h1 := congrFun (h c) default
  unfold Pre_attn_fwd_finite.fn at h1
  exact funext fun y => table_at _ (real_of_all _ _ _ _ _ _ h1) y

/-- The call's three results are the reference's, at a finite argument. -/
theorem algebraic : algebraic_AttnFwdIdeal_AttnFwdRefIdeal_pre_attn_fwd_finite := fun m ρ m' ρ' hpre hag =>
  ⟨fun c => outO (argX m c), fun c => outL (argX m c), fun _ _ => 0#32,
   (θ_run AttnFwdIdeal.defs _ _).mono (fun _ h c =>
       ⟨(results m c _ (arg_real m c hpre) h.1).1, (results m c _ (arg_real m c hpre) h.1).2.1, (results m c _ (arg_real m c hpre) h.1).2.2, argument_of m h.1 c⟩)
     (run_main m ρ),
   (θ_run AttnFwdRefIdeal.defs _ _).mono (fun _ h c =>
       ⟨(h c).1.trans ((ref0 m' c).trans (by rw [hag c, arg_real m c hpre]; exact output_eq _)),
        (h c).2.1.trans ((ref1 m' c).trans (by rw [hag c, arg_real m c hpre]; exact total_eq _)),
        (h c).2.2.1.trans (funext fun y => rfl), (h c).2.2.2⟩)
     (AttnFwdRefIdeal.Value.run (F := Ideal) m' ρ')⟩
-- ==== Proof.Modulated.lean ====
/- The norm with its scale and shift: one row's entry, and the reference's whole array of them. -/
module

public import proofs.«01_k».proof.Proof.NormRows

@[expose] public section

noncomputable section

namespace Cert.Modulated

open NormRefIdeal NormRefIdeal.Gen RowNorm NormRows Idealize.ShloMosaic TcCoe Idealize.SL.Sem

/-- Entry `j` of a row normed, scaled and shifted. -/
def entry (x : Row) (g sc sh : EReal) (j : Fin 2048) : EReal := x j * rs x * g * (1 + sc) + sh

/-- The array whose rows are the rows of `X`, normed, scaled and shifted. -/
def outU (X : Wide) (G SC SH : Line) : Wide := fun y => entry (rowOf X (y 0)) (G (ix2 0 (y 1))) (SC (ix2 0 (y 1))) (SH (ix2 0 (y 1))) (y 1)

/-- The same as the reference forms it. -/
def MODULATED (X : Wide) (G SC SH : Line) : Wide :=
  addf (mulf (mulf (NORMED X) (spread G)) (spread (addf (broadcastInDim S1x2048 ![] bcast_S_S1x2048 (constant (F := Ideal) S_ .f32 0x3F800000#32)) SC)))
    (spread SH)

theorem onePlus_at (SC : Line) (j : Fin 2048) :
    (addf (broadcastInDim S1x2048 ![] bcast_S_S1x2048 (constant (F := Ideal) S_ .f32 0x3F800000#32)) SC : Line) (ix2 0 j) = 1 + SC (ix2 0 j) := by
  pointwise []

theorem MODULATED_eq (X : Wide) (G SC SH : Line) : MODULATED X G SC SH = outU X G SC SH := by
  funext y
  obtain ⟨i, j, rfl⟩ : ∃ (i : Fin 8192) (j : Fin 2048), y = ix2 i j := ⟨y 0, y 1, funext fun k => by fin_cases k <;> rfl⟩
  exact congrArg₂ (· + ·) (congrArg₂ (· * ·) (congrArg₂ (· * ·) (NORMED_at X i j) (spread_at G i j)) ((spread_at _ i j).trans (onePlus_at SC j)))
    (spread_at SH i j)

end Cert.Modulated

end
-- ==== Proof.StartValue.lean ====
/- The first norm's call, which has no earlier layer to add: what its result array holds. -/
module

public import proofs.«01_k».proof.Proof.Gen.StartIdeal.Value
public import proofs.«01_k».proof.Proof.Gen.StartRefIdeal.Run
public import proofs.«01_k».proof.Proof.Modulated

@[expose] public section

noncomputable section

namespace Cert.StartProof

open StartIdeal StartIdeal.Gen RowNorm Modulated Idealize.ShloMosaic TcCoe Idealize.SL.Sem
open Idealize.ShloMosaic.Pipeline (Dat)

abbrev Tile : Type := FVec Ideal S512x2048 .f32
abbrev Wide : Type := FVec Ideal S8192x2048 .f32
abbrev Line : Type := FVec Ideal S1x2048 .f32

theorem pay1_at (x : Tile) (g sc sh : Line) (r : Fin 512) (j : Fin 2048) :
    k0_pay1 (F := Ideal) x g sc sh (ix2 r j) = entry (fun k => x (ix2 r k)) (g (ix2 0 j)) (sc (ix2 0 j)) (sh (ix2 0 j)) j := by
  pointwise [k0_pay1]
  rfl

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

variable (m : (ℓ : Loc nD τ sig) → Buf (Elt Ideal) ℓ) (c : Dev nD)

def argX : Wide := m ((c.tc : Thread nD τ).loc main_arg0)
def argG : Line := m ((c.tc : Thread nD τ).loc main_arg1)
def argC : Line := m ((c.tc : Thread nD τ).loc main_arg2)
def argS : Line := m ((c.tc : Thread nD τ).loc main_arg3)

def at_ (t : Fin cfg0.N) (r : Fin 512) : Fin 8192 := ⟨t.val * 512 + r.val, by have : t.val < 16 := lt_of_lt_of_eq t.isLt N_0; omega⟩

theorem blkX (t : Fin cfg0.N) (r : Fin 512) (k : Fin 2048) : (iblk m c 0 t : Tile) (ix2 r k) = argX m c (ix2 (at_ t r) k) := by
  blk_point [iblk, V, idx t, argX, at_]

theorem blkG (t : Fin cfg0.N) (k : Fin 2048) : (iblk m c 1 t : Line) (ix2 0 k) = argG m c (ix2 0 k) := by
  blk_point [iblk, V, idx t, argG]

theorem blkC (t : Fin cfg0.N) (k : Fin 2048) : (iblk m c 2 t : Line) (ix2 0 k) = argC m c (ix2 0 k) := by
  blk_point [iblk, V, idx t, argC]

theorem blkS (t : Fin cfg0.N) (k : Fin 2048) : (iblk m c 3 t : Line) (ix2 0 k) = argS m c (ix2 0 k) := by
  blk_point [iblk, V, idx t, argS]

/-- What the body leaves at one index of its block. -/
theorem out_at (t : Fin cfg0.N) (r : Fin 512) (j : Fin 2048) :
    (out0_4 (iblk m c 0 t) (iblk m c 1 t) (iblk m c 2 t) (iblk m c 3 t) : Tile) (ix2 r j) = outU (argX m c) (argG m c) (argC m c) (argS m c) (ix2 (at_ t r) j) := by
  frame_out
  rw [pay1_at, blkG, blkC, blkS, show (fun k => (iblk m c 0 t : Tile) (ix2 r k)) = fun k => argX m c (ix2 (at_ t r) k) from funext (blkX m c t r)]
  rfl

/-- After the run the result array is every row normed, scaled and shifted. -/
theorem final4 : (dats m 0 c).arrAt 4 (cfgs 0).N = outU (argX m c) (argG m c) (argC m c) (argS m c) := by
  refine (dats m 0 c).arrAt_eq_of_covers 4 _ (by decide +kernel) fun t _ y => ?_
  obtain ⟨r, hr⟩ : ∃ r : Fin 512, r = y 0 := ⟨y 0, rfl⟩
  obtain ⟨j, hj⟩ : ∃ j : Fin 2048, j = y 1 := ⟨y 1, rfl⟩
  have hy : (cfg0.win 4).xinj (cfg0.grid.coords t) y = (ix2 r j : S512x2048.Idx) := by
    funext k; fin_cases k
    · exact hr.symm
    · exact hj.symm
  have he : ((cfg0.win 4).blk t).view.emb y = (ix2 (at_ t r) j : S8192x2048.Idx) := by
    funext k; fin_cases k <;> refine Fin.ext ?_
    · show ((((cfg0.win 4).blk t).view.emb y) 0).val = t.val * 512 + r.val
      rw [hr]; blk_simp [idx t]
    · show ((((cfg0.win 4).blk t).view.emb y) 1).val = j.val
      rw [hj]; blk_simp [idx t]
  rw [he, ← out_at, after0_4]
  refine (cast_eq _ _).trans ?_
  rw [hy]

end Cert.StartProof

end
-- ==== Proof.StartClaims.lean ====
/- The claims about the first norm's call. -/
module
public import proofs.«01_k».proof.Defs
public import proofs.«01_k».proof.Proof.StartValue
public import proofs.«01_k».proof.Proof.Gen.Start.Frame

@[expose] public section
noncomputable section
namespace Cert.StartProof
open Idealize.ShloMosaic Idealize.SL.Sem

/-- The frame of the reference. -/
theorem ref_frame : quiescent_StartRefIdeal := fun m ρ _ =>
  (θ_run StartRefIdeal.defs _ _).mono (fun r h => ⟨fun c => (h c).2, sem_eq_zero_of_no_sems (by decide) r.2⟩)
    (StartRefIdeal.Value.run (F := Ideal) m ρ)

/-- The call's result is the reference's. -/
theorem algebraic : algebraic_StartIdeal_StartRefIdeal := fun m ρ m' ρ' _ hag =>
  ⟨fun c => Modulated.outU (argX m c) (argG m c) (argC m c) (argS m c),
   (θ_run StartIdeal.defs _ _).mono (fun _ h c => ⟨(h c).1.trans (final4 m c), (h c).2⟩)
     (StartIdeal.Value.run_blocks (F := Ideal) m ρ),
   (θ_run StartRefIdeal.defs _ _).mono (fun _ h c => ⟨(h c).1.trans (by
       obtain ⟨e0, e1, e2, e3⟩ := hag c
       rw [e0, e1, e2, e3]
       exact Modulated.MODULATED_eq (argX m c) (argG m c) (argC m c) (argS m c)), (h c).2⟩)
     (StartRefIdeal.Value.run (F := Ideal) m' ρ')⟩
-- ==== Proof.ResidValue.lean ====
/- The norm's call inside a layer, which first adds the gated result of the layer before: what its result arrays hold. -/
module

public import proofs.«01_k».proof.Proof.Gen.ResidIdeal.Value
public import proofs.«01_k».proof.Proof.Gen.ResidRefIdeal.Run
public import proofs.«01_k».proof.Proof.Modulated

@[expose] public section

noncomputable section

namespace Cert.ResidProof

open ResidIdeal ResidIdeal.Gen RowNorm Modulated Idealize.ShloMosaic TcCoe Idealize.SL.Sem
open Idealize.ShloMosaic.Pipeline (Dat)

abbrev Tile : Type := FVec Ideal S512x2048 .f32
abbrev Wide : Type := FVec Ideal S8192x2048 .f32
abbrev Line : Type := FVec Ideal S1x2048 .f32

def SUM (X Y : Wide) (A : Line) : Wide := fun y => X y + A (ix2 0 (y 1)) * Y y

theorem pay1_at (x : Tile) (a : Line) (b : FVec Ideal S512x2048 .bf16) (r : Fin 512) (j : Fin 2048) :
    k0_pay1 (F := Ideal) x a b (ix2 r j) = x (ix2 r j) + a (ix2 0 j) * b (ix2 r j) := by
  pointwise [k0_pay1]

theorem pay2_at (x : Tile) (a : Line) (b : FVec Ideal S512x2048 .bf16) (g sc sh : Line) (r : Fin 512) (j : Fin 2048) :
    k0_pay2 (F := Ideal) x a b g sc sh (ix2 r j)
      = entry (fun k => x (ix2 r k) + a (ix2 0 k) * b (ix2 r k)) (g (ix2 0 j)) (sc (ix2 0 j)) (sh (ix2 0 j)) j := by
  simp only [← pay1_at]
  unfold k0_pay2
  generalize k0_pay1 (F := Ideal) x a b = z
  pointwise []
  rfl

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

def argX : Wide := m ((c.tc : Thread nD τ).loc main_arg0)
def argY : Wide := m ((c.tc : Thread nD τ).loc main_arg1)
def argA : Line := m ((c.tc : Thread nD τ).loc main_arg2)
def argG : Line := m ((c.tc : Thread nD τ).loc main_arg3)
def argC : Line := m ((c.tc : Thread nD τ).loc main_arg4)
def argS : Line := m ((c.tc : Thread nD τ).loc main_arg5)

def at_ (t : Fin cfg0.N) (r : Fin 512) : Fin 8192 := ⟨t.val * 512 + r.val, by have : t.val < 16 := lt_of_lt_of_eq t.isLt N_0; omega⟩

theorem blkX (t : Fin cfg0.N) (r : Fin 512) (k : Fin 2048) : (iblk m c 0 t : Tile) (ix2 r k) = argX m c (ix2 (at_ t r) k) := by
  blk_point [iblk, V, idx t, argX, at_]

theorem blkY (t : Fin cfg0.N) (r : Fin 512) (k : Fin 2048) :
    (iblk m c 1 t : FVec Ideal S512x2048 .bf16) (ix2 r k) = argY m c (ix2 (at_ t r) k) := by
  blk_point [iblk, V, idx t, argY, at_]

theorem blkA (t : Fin cfg0.N) (k : Fin 2048) : (iblk m c 2 t : Line) (ix2 0 k) = argA m c (ix2 0 k) := by
  blk_point [iblk, V, idx t, argA]

theorem blkG (t : Fin cfg0.N) (k : Fin 2048) : (iblk m c 3 t : Line) (ix2 0 k) = argG m c (ix2 0 k) := by
  blk_point [iblk, V, idx t, argG]

theorem blkC (t : Fin cfg0.N) (k : Fin 2048) : (iblk m c 4 t : Line) (ix2 0 k) = argC m c (ix2 0 k) := by
  blk_point [iblk, V, idx t, argC]

theorem blkS (t : Fin cfg0.N) (k : Fin 2048) : (iblk m c 5 t : Line) (ix2 0 k) = argS m c (ix2 0 k) := by
  blk_point [iblk, V, idx t, argS]

/-- The two results. -/
def outH : Wide := SUM (argX m c) (argY m c) (argA m c)
def out : Wide := outU (outH m c) (argG m c) (argC m c) (argS m c)

/-- What the body leaves at one index of its two blocks. -/
theorem sum_at (t : Fin cfg0.N) (r : Fin 512) (j : Fin 2048) :
    (out0_6 (iblk m c 0 t) (iblk m c 1 t) (iblk m c 2 t) (iblk m c 3 t) (iblk m c 4 t) (iblk m c 5 t) : Tile) (ix2 r j) = outH m c (ix2 (at_ t r) j) := by
  frame_out
  rw [pay1_at, blkX, blkA, blkY]
  rfl

theorem norm_at (t : Fin cfg0.N) (r : Fin 512) (j : Fin 2048) :
    (out0_7 (iblk m c 0 t) (iblk m c 1 t) (iblk m c 2 t) (iblk m c 3 t) (iblk m c 4 t) (iblk m c 5 t) : FVec Ideal S512x2048 .bf16) (ix2 r j)
      = out m c (ix2 (at_ t r) j) := by
  frame_out
  rw [pay2_at, blkG, blkC, blkS]
  simp only [blkX, blkA, blkY]
  rfl

/-- Where an index of a block lies in the array. -/
theorem emb6 (t : Fin cfg0.N) (y) : ((cfg0.win 6).blk t).view.emb y = (ix2 (at_ t (y 0)) (y 1) : S8192x2048.Idx) := by
  funext k; fin_cases k <;> refine Fin.ext ?_
  · show ((((cfg0.win 6).blk t).view.emb y) 0).val = t.val * 512 + (y 0).val
    blk_simp [idx t]
  · show ((((cfg0.win 6).blk t).view.emb y) 1).val = (y 1).val
    blk_simp [idx t]

theorem emb7 (t : Fin cfg0.N) (y) : ((cfg0.win 7).blk t).view.emb y = (ix2 (at_ t (y 0)) (y 1) : S8192x2048.Idx) := by
  funext k; fin_cases k <;> refine Fin.ext ?_
  · show ((((cfg0.win 7).blk t).view.emb y) 0).val = t.val * 512 + (y 0).val
    blk_simp [idx t]
  · show ((((cfg0.win 7).blk t).view.emb y) 1).val = (y 1).val
    blk_simp [idx t]

theorem final6 : (dats m 0 c).arrAt 6 (cfgs 0).N = outH m c := by
  refine (dats m 0 c).arrAt_eq_of_covers 6 _ (by decide +kernel) fun t _ y => ?_
  rw [emb6, after0_6]
  refine (cast_eq _ _).trans (Eq.trans (congrArg _ ?_) (sum_at m c t (y 0) (y 1)))
  funext k; fin_cases k <;> rfl

theorem final7 : (dats m 0 c).arrAt 7 (cfgs 0).N = out m c := by
  refine (dats m 0 c).arrAt_eq_of_covers 7 _ (by decide +kernel) fun t _ y => ?_
  rw [emb7, after0_7]
  refine (cast_eq _ _).trans (Eq.trans (congrArg _ ?_) (norm_at m c t (y 0) (y 1)))
  funext k; fin_cases k <;> rfl

end Cert.ResidProof

end
-- ==== Proof.ResidClaims.lean ====
/- The claims about the norm's call inside a layer. -/
module
public import proofs.«01_k».proof.Defs
public import proofs.«01_k».proof.Proof.ResidValue
public import proofs.«01_k».proof.Proof.Gen.Resid.Frame

@[expose] public section
noncomputable section
namespace Cert.ResidProof
open Idealize.ShloMosaic Idealize.SL.Sem

/-- The frame of the reference. -/
theorem ref_frame : quiescent_ResidRefIdeal := fun m ρ _ =>
  (θ_run ResidRefIdeal.defs _ _).mono (fun r h => ⟨fun c => (h c).2.2, sem_eq_zero_of_no_sems (by decide) r.2⟩)
    (ResidRefIdeal.Value.run (F := Ideal) m ρ)

/-- The call's two results are the reference's. -/
theorem algebraic : algebraic_ResidIdeal_ResidRefIdeal := fun m ρ m' ρ' _ hag =>
  ⟨fun c => outH m c, fun c => out m c,
   (θ_run ResidIdeal.defs _ _).mono (fun _ h c => ⟨(h c).1.trans (final6 m c), (h c).2.1.trans (final7 m c), (h c).2.2⟩)
     (ResidIdeal.Value.run_blocks (F := Ideal) m ρ),
   (θ_run ResidRefIdeal.defs _ _).mono (fun _ h c => by
       obtain ⟨e0, e1, e2, e3, e4, e5⟩ := hag c
       have hs : addf (argX m c) (mulf (NormRows.spread (argA m c)) (argY m c)) = outH m c := by
         funext y
         obtain ⟨i, j, rfl⟩ : ∃ (i : Fin 8192) (j : Fin 2048), y = ix2 i j := ⟨y 0, y 1, funext fun k => by fin_cases k <;> rfl⟩
         exact congrArg₂ (· + ·) rfl (congrArg₂ (· * ·) (NormRows.spread_at (argA m c) i j) rfl)
       refine ⟨(h c).1.trans ?_, (h c).2.1.trans ?_, (h c).2.2⟩
       · rw [e0, e1, e2]
         exact hs
       · rw [e0, e1, e2, e3, e4, e5]
         exact (congrArg (fun z => Modulated.MODULATED z (argG m c) (argC m c) (argS m c)) hs).trans (Modulated.MODULATED_eq _ _ _ _))
     (ResidRefIdeal.Value.run (F := Ideal) m' ρ')⟩
-- ==== Proof.ConvFwdValue.lean ====
/- The gated convolution's call: what one block computes and what its result array holds. -/
module

public import proofs.«01_k».proof.Proof.Gen.ConvFwdIdeal.Value
public import proofs.«01_k».proof.Proof.ConvRef

@[expose] public section

noncomputable section

namespace Cert.ConvFwdProof

open ConvFwdIdeal ConvFwdIdeal.Gen Idealize.ShloMosaic TcCoe Idealize.SL.Sem
open Idealize.ShloMosaic.Pipeline (Dat)
open ConvProof (Cur Halo Ext Tap Packed Taps Wide Chunk conv gated conv_at back0_at back1_at back2_at back0_eq back1_eq back2_eq row_eq zt ldU ldH ldW
  tabU tabU_pos tabQ tabQ_pos tabW zOf gateAt third third_at GATE GATE_at first_word)

/-- The body after the gated rows: their convolution, times the gate. -/
def weigh (w2 w1 w0 : Tap) (b : Cur) (z : Ext) : FVec Ideal S256x512 .bf16 :=
  truncf .bf16 (mulf b (extractStridedSlice S256x512 ![16, 0]
    (addf (addf (mulf (broadcastTo S272x512 (shapeCast S1x512 w2 shapeCasts_S1x1x512_S1x512) broadcasts_S1x512_S272x512) z)
        (mulf (broadcastTo S272x512 (shapeCast S1x512 w1 shapeCasts_S1x1x512_S1x512) broadcasts_S1x512_S272x512) (dynamicRotate 0 1#32 none z rotates_S272x512_d0)))
      (mulf (broadcastTo S272x512 (shapeCast S1x512 w0 shapeCasts_S1x1x512_S1x512) broadcasts_S1x512_S272x512) (dynamicRotate 0 2#32 none z rotates_S272x512_d0)))
    slices_S272x512_o16_0_S256x512)) bitsLt_bf16_f32

theorem weigh_at (w2 w1 w0 : Tap) (b : Cur) (z : Ext) (r : Fin 256) (j : Fin 512) :
    weigh w2 w1 w0 b z (ix2 r j) = b (ix2 r j) * conv w0 w1 w2 z (ix2 r j) := by
  rw [conv_at, back0_at, back1_at, back2_at,
    row_eq z (r := ⟨r.val + 16, by omega⟩) (r' := ⟨16 + r.val, by omega⟩) (by show r.val + 16 = 16 + r.val; omega) j,
    row_eq z (r := ⟨r.val + 15, by omega⟩) (r' := ⟨(16 + r.val + 272 - 1) % 272, by omega⟩) (by show r.val + 15 = (16 + r.val + 272 - 1) % 272; omega) j,
    row_eq z (r := ⟨r.val + 14, by omega⟩) (r' := ⟨(16 + r.val + 272 - 2) % 272, by omega⟩) (by show r.val + 14 = (16 + r.val + 272 - 2) % 272; omega) j]
  pointwise [weigh]

/-- One column of a block: the block starts at row `b`, the halo holds the rows before it where there are any. -/
structure Piece (j : Fin 512) (b : ℕ) (B C V : ℕ → EReal) (gp : BitVec 1) (bb c v : Cur) (pc pv : Halo) : Prop where
  gate : ∀ r : Fin 256, bb (ix2 r j) = B (b + r.val)
  left : ∀ r : Fin 256, c (ix2 r j) = C (b + r.val)
  right : ∀ r : Fin 256, v (ix2 r j) = V (b + r.val)
  notFirst : gp = 1#1 → 16 ≤ b
  isFirst : ¬gp = 1#1 → b = 0
  prevLeft : gp = 1#1 → ∀ p : Fin 16, pc (ix2 p j) = C (b - 16 + p.val)
  prevRight : gp = 1#1 → ∀ p : Fin 16, pv (ix2 p j) = V (b - 16 + p.val)

section
variable {j : Fin 512} {b : ℕ} {B C V : ℕ → EReal} {gp : BitVec 1} {bb c v : Cur} {pc pv : Halo} (h : Piece j b B C V gp bb c v pc pv)
include h

/-- The gradient's block, with a zero cotangent. -/
theorem Piece.chunk : Chunk j b B C V (fun _ => 0) gp 1#1 bb c v (fun _ => (0 : EReal)) pc pv (fun y => B (b + 256 + (y 0).val)) (fun _ => (0 : EReal)) where
  gate := h.gate
  left := h.left
  right := h.right
  ct _ := rfl
  notFirst := h.notFirst
  isFirst := h.isFirst
  prevLeft := h.prevLeft
  prevRight := h.prevRight
  isLast g := absurd rfl g
  nextCt _ _ := rfl
  nextGate _ _ := rfl
  below _ _ := zero_mul _

variable {w0 w1 w2 : Tap} {W0 W1 W2 : EReal} (h0 : w0 (ix3 0 0 j) = W0) (h1 : w1 (ix3 0 0 j) = W1) (h2 : w2 (ix3 0 0 j) = W2)
include h0 h1 h2

theorem weigh_eq (r : Fin 256) : weigh w2 w1 w0 bb (gated gp c v pc pv) (ix2 r j)
    = B (b + r.val) * (W2 * zt C V (b + r.val + 2) + W1 * zt C V (b + r.val + 1) + W0 * zt C V (b + r.val)) := by
  rw [weigh_at, conv_at, back0_eq h.chunk, back1_eq h.chunk, back2_eq h.chunk, h.gate, h0, h1, h2]

end

/-- The reference's gate, the first third of the packed input. -/
def GT (U : Packed) : Wide := third 0 ConvRefIdeal.Gen.slices_S8192x6144_S8192x2048_0_0 U
def outQ (U : Packed) (W : Taps) : FVec Ideal S8192x2048 .bf16 := fun y => gateAt U W (GT U) (y 1).val (y 0).val

theorem tabQ_gate (U : Packed) (l n : ℕ) (hl : l < 2048) (hn : n < 8192) : tabQ (GT U) l n = tabU U l n := by
  rw [tabQ_pos _ _ _ hn hl]
  refine (third_at U ⟨n, hn⟩ ⟨l, hl⟩ 0 (by omega) _).trans ?_
  rw [Nat.zero_add]

theorem idx : ∀ t : Fin cfg0.N, win0_0.index t = ![t.val, 0] ∧ win0_1.index t = ![t.val * 16 - 1, 0] ∧ win0_2.index t = ![0, 0, 0] ∧ win0_3.index t = ![t.val, 0]
    ∧ (grid0.coords t 0).val = t.val :=
  (by decide +kernel : ∀ t : Fin grid0.N, _)

variable (m : (ℓ : Loc nD τ sig) → Buf (Elt Ideal) ℓ) (c : Dev nD)

def argU : Packed := m ((c.tc : Thread nD τ).loc main_arg0)
def argW : Taps := m ((c.tc : Thread nD τ).loc main_arg1)

variable (t : Fin cfg0.N)

theorem lt32 : t.val < 32 := lt_of_lt_of_eq t.isLt N_0

theorem blkU (r : Fin 256) (k : Fin 6144) : (iblk m c 0 t : FVec Ideal S256x6144 .f32) (ix2 r k) = argU m c (ix2 ⟨t.val * 256 + r.val, by have := lt32 t; omega⟩ k) := by
  blk_point [iblk, V, idx t, argU]
theorem blkUp (h : 0 < t.val) (r : Fin 16) (k : Fin 6144) : (iblk m c 1 t : FVec Ideal S16x6144 .f32) (ix2 r k) = argU m c (ix2 ⟨t.val * 256 - 16 + r.val, by have := lt32 t; omega⟩ k) := by
  have := lt32 t
  blk_point [iblk, V, idx t, argU]
theorem blkW (k : Fin 3) (l : Fin 2048) : (iblk m c 2 t : Taps) (ix3 k 0 l) = argW m c (ix3 k 0 l) := by
  blk_point [iblk, V, idx t, argW]

theorem tap_at (j : Fin 512) (k : Fin 3) (o : ℕ) (h : o + 512 ≤ 2048) (i : ∀ a, (![k.val, 0, o] : Fin 3 → ℕ) a + (![1, 1, 512] : Fin 3 → ℕ) a ≤ S3x1x2048.size a) :
    (View.ld (iblk m c 2 t : Taps) (Rect.unit ![k.val, 0, o] ![1, 1, 512] i) : Vec Ideal S1x1x512 .f32) (ix3 0 0 j) = tabW (argW m c) k (o + j.val) := by
  rw [ldW _ k o h, blkW]
  unfold tabW
  rw [dif_pos (show o + j.val < 2048 by omega)]

def word : BitVec 32 := BitVec.ofNat 32 (grid0.coords t 0).val
theorem first_iff : Scalar.cmpi .sgt (word t) 0#32 = 1#1 ↔ 0 < t.val := by
  unfold word
  rw [(idx t).2.2.2.2, first_word ⟨t.val, lt32 t⟩]
  by_cases h : 0 < t.val <;> simp [h]

/-- Column chunk `o` of block `t`, at column `j`. -/
theorem piece (j : Fin 512) (o : ℕ) (ho : o + 512 ≤ 2048)
    (i0 : ∀ a, (![0, o] : Fin 2 → ℕ) a + (![256, 512] : Fin 2 → ℕ) a ≤ S256x6144.size a)
    (i1 : ∀ a, (![0, 2048 + o] : Fin 2 → ℕ) a + (![256, 512] : Fin 2 → ℕ) a ≤ S256x6144.size a)
    (i2 : ∀ a, (![0, 4096 + o] : Fin 2 → ℕ) a + (![256, 512] : Fin 2 → ℕ) a ≤ S256x6144.size a)
    (i4 : ∀ a, (![0, 2048 + o] : Fin 2 → ℕ) a + (![16, 512] : Fin 2 → ℕ) a ≤ S16x6144.size a)
    (i5 : ∀ a, (![0, 4096 + o] : Fin 2 → ℕ) a + (![16, 512] : Fin 2 → ℕ) a ≤ S16x6144.size a) :
    Piece j (t.val * 256) (tabU (argU m c) (o + j.val)) (tabU (argU m c) (2048 + (o + j.val))) (tabU (argU m c) (4096 + (o + j.val)))
      (Scalar.cmpi .sgt (word t) 0#32)
      (View.ld (iblk m c 0 t : FVec Ideal S256x6144 .f32) (Rect.unit ![0, o] ![256, 512] i0) : Vec Ideal S256x512 .f32)
      (View.ld (iblk m c 0 t : FVec Ideal S256x6144 .f32) (Rect.unit ![0, 2048 + o] ![256, 512] i1) : Vec Ideal S256x512 .f32)
      (View.ld (iblk m c 0 t : FVec Ideal S256x6144 .f32) (Rect.unit ![0, 4096 + o] ![256, 512] i2) : Vec Ideal S256x512 .f32)
      (View.ld (iblk m c 1 t : FVec Ideal S16x6144 .f32) (Rect.unit ![0, 2048 + o] ![16, 512] i4) : Vec Ideal S16x512 .f32)
      (View.ld (iblk m c 1 t : FVec Ideal S16x6144 .f32) (Rect.unit ![0, 4096 + o] ![16, 512] i5) : Vec Ideal S16x512 .f32) := by
  have hN := lt32 t
  constructor
  · intro r; rw [ldU _ o (by omega), blkU, tabU_pos _ _ _ (by omega) (by omega)]
  · intro r; rw [ldU _ (2048 + o) (by omega), blkU, tabU_pos _ _ _ (by omega) (by omega)]; simp only [Nat.add_assoc]
  · intro r; rw [ldU _ (4096 + o) (by omega), blkU, tabU_pos _ _ _ (by omega) (by omega)]; simp only [Nat.add_assoc]
  · intro g; have := (first_iff t).1 g; omega
  · intro g; have := mt (first_iff t).2 g; omega
  · intro g p; have := (first_iff t).1 g; rw [ldH _ (2048 + o) (by omega), blkUp m c t this, tabU_pos _ _ _ (by omega) (by omega)]; simp only [Nat.add_assoc]
  · intro g p; have := (first_iff t).1 g; rw [ldH _ (4096 + o) (by omega), blkUp m c t this, tabU_pos _ _ _ (by omega) (by omega)]; simp only [Nat.add_assoc]

/-- The four stores lie side by side. -/
theorem canon_at (p0 p1 p2 p3 : FVec Ideal S256x512 .bf16) (r : Fin 256) (g : Fin 4) (j : Fin 512) :
    (View.canon [⟨r0_35, p3⟩, ⟨r0_26, p2⟩, ⟨r0_17, p1⟩, ⟨r0_8, p0⟩] : Vec Ideal S256x2048 .bf16) (ix2 r ⟨g.val * 512 + j.val, by omega⟩)
      = (![p0, p1, p2, p3] : Fin 4 → FVec Ideal S256x512 .bf16) g (ix2 r j) := by
  generalize hz : (ix2 r ⟨g.val * 512 + j.val, by omega⟩ : S256x2048.Idx) = y
  have y0 : (y 0).val = r.val := by rw [← hz]; rfl
  have y1 : (y 1).val = g.val * 512 + j.val := by rw [← hz]; rfl
  have key : ∀ x : S256x512.Idx, (x 0).val = r.val → (x 1).val = j.val → x = ix2 r j := fun x e0 e1 => by
    funext k; fin_cases k
    · exact Fin.ext e0
    · exact Fin.ext e1
  canon_tiles x h
  case piece0 => rw [key x (by omega) (by omega), show g = 3 by omega]; rfl
  case piece1 => rw [key x (by omega) (by omega), show g = 2 by omega]; rfl
  case piece2 => rw [key x (by omega) (by omega), show g = 1 by omega]; rfl
  case piece3 => rw [key x (by omega) (by omega), show g = 0 by omega]; rfl

theorem q_at (r : Fin 256) (g : Fin 4) (j : Fin 512) :
    (out0_3 (grid0.coords t) (iblk m c 0 t) (iblk m c 1 t) (iblk m c 2 t) : FVec Ideal S256x2048 .bf16) (ix2 r ⟨g.val * 512 + j.val, by omega⟩)
      = gateAt (argU m c) (argW m c) (GT (argU m c)) (g.val * 512 + j.val) (t.val * 256 + r.val) := by
  have hN := lt32 t
  unfold gateAt
  rw [tabQ_gate _ _ _ (by omega) (by omega)]
  unfold out0_3
  rw [canon_at]
  fin_cases g
  · exact weigh_eq (piece m c t j 0 (by omega) _ _ _ _ _)
      (tap_at m c t j 0 0 (by omega) _) (tap_at m c t j 1 0 (by omega) _) (tap_at m c t j 2 0 (by omega) _) r
  · exact weigh_eq (piece m c t j 512 (by omega) _ _ _ _ _)
      (tap_at m c t j 0 512 (by omega) _) (tap_at m c t j 1 512 (by omega) _) (tap_at m c t j 2 512 (by omega) _) r
  · exact weigh_eq (piece m c t j 1024 (by omega) _ _ _ _ _)
      (tap_at m c t j 0 1024 (by omega) _) (tap_at m c t j 1 1024 (by omega) _) (tap_at m c t j 2 1024 (by omega) _) r
  · exact weigh_eq (piece m c t j 1536 (by omega) _ _ _ _ _)
      (tap_at m c t j 0 1536 (by omega) _) (tap_at m c t j 1 1536 (by omega) _) (tap_at m c t j 2 1536 (by omega) _) r

theorem final3 : (dats m 0 c).arrAt 3 (cfgs 0).N = outQ (argU m c) (argW m c) := by
  refine (dats m 0 c).arrAt_eq_of_covers 3 _ (by decide +kernel) fun t _ y => ?_
  have hN := lt32 t
  obtain ⟨r, hr⟩ : ∃ r : Fin 256, r = y 0 := ⟨y 0, rfl⟩
  obtain ⟨n, hn⟩ : ∃ n : Fin 2048, n = y 1 := ⟨y 1, rfl⟩
  have hy : (cfg0.win 3).xinj (cfg0.grid.coords t) y = (ix2 r n : S256x2048.Idx) := by
    funext k; fin_cases k
    · exact hr.symm
    · exact hn.symm
  have he : ((cfg0.win 3).blk t).view.emb y = (ix2 ⟨t.val * 256 + r.val, by omega⟩ n : S8192x2048.Idx) := by
    funext k; fin_cases k <;> refine Fin.ext ?_
    · show ((((cfg0.win 3).blk t).view.emb y) 0).val = t.val * 256 + r.val
      rw [hr]; blk_simp [idx t]
    · show ((((cfg0.win 3).blk t).view.emb y) 1).val = n.val
      rw [hn]; blk_simp [idx t]
  rw [he, after0_3]
  refine (cast_eq _ _).trans ?_
  rw [hy]
  clear hn hy he
  obtain ⟨g, j, rfl⟩ : ∃ (g : Fin 4) (j : Fin 512), n = ⟨g.val * 512 + j.val, by omega⟩ :=
    ⟨⟨n.val / 512, by omega⟩, ⟨n.val % 512, by omega⟩, Fin.ext (by show n.val = n.val / 512 * 512 + n.val % 512; omega)⟩
  exact q_at m c t r g j

end Cert.ConvFwdProof

end
-- ==== Proof.ConvFwdClaims.lean ====
/- The claims about the gated convolution's call. -/
module
public import proofs.«01_k».proof.Defs
public import proofs.«01_k».proof.Proof.ConvFwdValue
public import proofs.«01_k».proof.Proof.Gen.ConvFwdRefIdeal.Run
public import proofs.«01_k».proof.Proof.Gen.ConvFwd.Frame

@[expose] public section
noncomputable section
namespace Cert.ConvFwdProof
open Idealize.ShloMosaic Idealize.SL.Sem

/-- The frame of the reference. -/
theorem ref_frame : quiescent_ConvFwdRefIdeal := fun m ρ _ =>
  (θ_run ConvFwdRefIdeal.defs _ _).mono (fun r h => ⟨fun c => (h c).2, sem_eq_zero_of_no_sems (by decide) r.2⟩)
    (ConvFwdRefIdeal.Value.run (F := Ideal) m ρ)

/-- What the reference computes is the gate's gradient at the gate itself. -/
theorem ref_eq (U : ConvProof.Packed) (W : ConvProof.Taps) :
    truncf .bf16 (ConvProof.GATE U W (GT U)) ConvFwdIdeal.Gen.bitsLt_bf16_f32 = outQ U W := by
  funext y
  obtain ⟨i, l, rfl⟩ : ∃ (i : Fin 8192) (l : Fin 2048), y = ix2 i l := ⟨y 0, y 1, funext fun k => by fin_cases k <;> rfl⟩
  exact ConvProof.GATE_at U W (GT U) i l

/-- The call's result is the reference's. -/
theorem algebraic : algebraic_ConvFwdIdeal_ConvFwdRefIdeal := fun m ρ m' ρ' _ hag =>
  ⟨fun c => outQ (argU m c) (argW m c),
   (θ_run ConvFwdIdeal.defs _ _).mono (fun _ h c => ⟨(h c).1.trans (final3 m c), (h c).2⟩)
     (ConvFwdIdeal.Value.run_blocks (F := Ideal) m ρ),
   (θ_run ConvFwdRefIdeal.defs _ _).mono (fun _ h c => ⟨(h c).1.trans (by
       obtain ⟨e0, e1⟩ := hag c
       rw [e0, e1]
       exact ref_eq (argU m c) (argW m c)), (h c).2⟩)
     (ConvFwdRefIdeal.Value.run (F := Ideal) m' ρ')⟩
-- ==== Proof.PoolFwdRef.lean ====
/- The pooling mixer's forward lines at finite rows: each row's window mean, as the sum of the rows of its window over their number. -/
module

public import proofs.«01_k».proof.Proof.PoolRef
public import proofs.«01_k».proof.Proof.WindowMath
public import proofs.«01_k».proof.Proof.Finite

@[expose] public section

noncomputable section

namespace Cert.PoolFwdProof

open PoolRefIdeal PoolRefIdeal.Gen PoolProof RealOps Tables Idealize.ShloMosaic TcCoe
open WindowProof (count count_word fold_add Win winRow)
open Finset

/-- A column with sixteen zeros before it. -/
def back (f : ℕ → EReal) (n : ℕ) : EReal := if n < 16 then 0 else f (n - 16)

/-- A row's window mean, less the row. -/
def diffAt (w : ℕ) (f : ℕ → EReal) (i : ℕ) : EReal := Ideal.div (∑ k ∈ range w, back f (i + 16 - k)) ((count w i : ℝ) : EReal) - f i

/-- A difference of running sums is the window's sum, the last row first. -/
theorem window_diff (F : ℕ → ℝ) (w i : ℕ) :
    ∑ k ∈ range (i + 1), F k - (if i < w then 0 else ∑ k ∈ range (i - w + 1), F k) = ∑ k ∈ range w, if k ≤ i then F (i - k) else 0 := by
  by_cases c : i < w
  · rw [if_pos c, sub_zero, ← sum_range_reflect F (i + 1), ← sum_subset (range_subset_range.2 (show i + 1 ≤ w by omega)) fun k _ hk => ?_]
    · exact sum_congr rfl fun k hk => by rw [if_pos (Nat.lt_succ_iff.1 (mem_range.1 hk)), show i + 1 - 1 - k = i - k by omega]
    · rw [if_neg fun h => hk (mem_range.2 (by omega))]
  · have e := sum_range_add F (i - w + 1) w
    rw [show i - w + 1 + w = i + 1 by omega] at e
    rw [if_neg c, e, add_sub_cancel_left, ← sum_range_reflect (fun k => F (i - w + 1 + k)) w]
    refine sum_congr rfl fun k hk => ?_
    have := mem_range.1 hk
    rw [if_pos (by omega)]
    exact congrArg F (by omega)

/-- The same with the padded column. -/
theorem window_back (f : ℕ → EReal) (F : ℕ → ℝ) (hF : ∀ n, f n = (F n : EReal)) (w i : ℕ) (hw : w ≤ 16) :
    ∑ k ∈ range w, back f (i + 16 - k) = ((∑ k ∈ range w, if k ≤ i then F (i - k) else 0 : ℝ) : EReal) := by
  rw [← coe_sum]
  refine sum_congr rfl fun k hk => ?_
  have := mem_range.1 hk
  unfold back
  by_cases c : k ≤ i
  · rw [if_neg (by omega), if_pos c, hF, show i + 16 - k - 16 = i - k by omega]
  · rw [if_pos (by omega), if_neg c]; rfl

/-- The host's running sum along the rows, up to a row. -/
theorem rows_upto {N B : ℕ} (x : FVec Ideal ⟨2, ![N + 1, B]⟩ .f32) (F : ℕ → ℝ) (j : Fin B) (hF : ∀ n : Fin (N + 1), x (ix2 n j) = (F n.val : EReal))
    (h : (⟨2, ![N + 1, B]⟩ : Shape).ReduceWindows ![N + 1, 1] ![1, 1] ![N, 0] ![0, 0] ⟨2, ![N + 1, B]⟩)
    {u : Shape} (hu : 0 < u.numel) (init : FVec Ideal u .f32) (h0 : init (Shape.Idx.first hu) = 0) (i : Fin (N + 1)) :
    Host.reduceWindowAdd (F := Ideal) (φ := .f32) ![N + 1, 1] ![1, 1] ![N, 0] ![0, 0] x init h hu (ix2 i j)
      = ((∑ k ∈ range (i.val + 1), F k : ℝ) : EReal) := by
  have hi : i.val < N + 1 := i.isLt
  have hj : j.val < B := j.isLt
  obtain ⟨g, hg⟩ : ∃ g : ℕ → ℕ → EReal, ∀ (n : Fin (N + 1)) (k : Fin B), x (ix2 n k) = g n.val k.val :=
    ⟨fun n k => if c : n < N + 1 ∧ k < B then x (ix2 ⟨n, c.1⟩ ⟨k, c.2⟩) else 0, fun n k => by
      dsimp only
      rw [dif_pos ⟨n.isLt, k.isLt⟩]⟩
  have hx : x = fun z : (⟨2, ![N + 1, B]⟩ : Shape).Idx => g (z 0).val (z 1).val := funext fun z => by
    exact (congrArg x (funext fun a => by match a with | ⟨0, _⟩ => rfl | ⟨1, _⟩ => rfl)).trans (hg (z 0) (z 1))
  have split := sum_range_add (fun k => if N ≤ i.val + k then F (i.val + k - N) else 0) (N - i.val) (i.val + 1)
  rw [show N - i.val + (i.val + 1) = N + 1 by omega, sum_eq_zero (s := range (N - i.val)) (fun k hk => if_neg (by have := mem_range.1 hk; omega)), zero_add] at split
  rw [show ∑ k ∈ range (i.val + 1), F k = ∑ k ∈ range (N + 1), (if N ≤ i.val + k then F (i.val + k - N) else 0) from
    Eq.trans (sum_congr rfl fun k hk => by rw [if_pos (by omega)]; exact congrArg F (by omega)) split.symm, ← Fin.sum_univ_eq_sum_range, ← coe_sum]
  unfold Host.reduceWindowAdd
  rw [Ideal.hostReduceWindowAdd_def]
  rw [h0, hx]
  unfold Ideal.hostReduceWindowAdd Host.reduceWindow
  refine (fold_add _ _ _).trans ?_
  rw [zero_add, ← Fin.sum_univ_def]
  refine (Fintype.sum_equiv ((winRow (N + 1)).trans (Win (N + 1)).rowMajor) _ _ fun w => ?_).symm
  have e : (Win (N + 1)).rowMajor.symm (((winRow (N + 1)).trans (Win (N + 1)).rowMajor) w) = winRow (N + 1) w := (Win (N + 1)).rowMajor.symm_apply_apply _
  have hw : w.val < N + 1 := w.isLt
  dsimp only
  rw [e]
  by_cases c : N ≤ i.val + w.val
  · rw [if_pos c, ← hF ⟨i.val + w.val - N, by omega⟩, hg]
    refine Eq.symm ((dif_pos ?_).trans ?_)
    · intro a
      match a with
      | ⟨0, _⟩ => exact ⟨by show N ≤ i.val * 1 + w.val; omega, by show i.val * 1 + w.val - N < N + 1; omega⟩
      | ⟨1, _⟩ => exact ⟨Nat.zero_le _, by show j.val * 1 + 0 - 0 < B; omega⟩
    · show g (i.val * 1 + w.val - N) (j.val * 1 + 0 - 0) = g (i.val + w.val - N) j.val
      simp
  · rw [if_neg c]
    refine Eq.symm ((dif_neg ?_).trans rfl)
    intro hh
    have a1 : N ≤ i.val * 1 + w.val := (hh 0).1
    omega

section Lines
variable (p : Part) (F : ℕ → ℝ) (j : Fin 512) (hF : ∀ n : Fin 8192, p (ix2 n j) = (F n.val : EReal)) (i : Fin 8192)

theorem counts_at (w : ℕ) (hw : w < 2 ^ 31) : counts (BitVec.ofNat 32 w) (ix2 i j) = ((count w i.val : ℝ) : EReal) := by
  have e : (1#32 + BitVec.ofNat 32 i.val) = BitVec.ofNat 32 (i.val + 1) := by
    apply BitVec.eq_of_toNat_eq
    simp only [BitVec.toNat_add, BitVec.toNat_ofNat]
    omega
  have h : counts (BitVec.ofNat 32 w) (ix2 i j) = (((IntOp.minsi (1#32 + BitVec.ofNat 32 i.val) (BitVec.ofNat 32 w)).toInt : ℝ) : EReal) := by
    pointwise [counts]
    rfl
  rw [h, e, count_word w i.val hw (by omega)]
  unfold WindowProof.count
  norm_cast

include hF

theorem sums_at : sums p (ix2 i j) = ((∑ k ∈ range (i.val + 1), F k : ℝ) : EReal) :=
  rows_upto (N := 8191) p F j hF _ h_S_ _ (Ideal.ofBits_zero .f32) i

/-- A group's mean less its rows, where `b` holds the running sum `w` rows back. -/
theorem mean_at (f : ℕ → EReal) (hf : ∀ n, f n = (F n : EReal)) (b : Part) (w : ℕ) (hw : w ≤ 16)
    (hb : b (ix2 i j) = if h : i.val < w then 0 else sums p (ix2 ⟨i.val - w, by omega⟩ j)) :
    mean p b (BitVec.ofNat 32 w) (ix3 i 0 j) - f i.val = diffAt w f i.val := by
  have e : mean p b (BitVec.ofNat 32 w) (ix3 i 0 j) = Ideal.div (sums p (ix2 i j) - b (ix2 i j)) (counts (BitVec.ofNat 32 w) (ix2 i j)) := by
    unfold mean
    generalize sums p = s
    generalize counts (BitVec.ofNat 32 w) = n
    pointwise []
  unfold diffAt
  rw [e, counts_at j i w (by omega), sums_at p F j hF, hb, window_back f F hf w i.val hw, ← window_diff]
  by_cases c : i.val < w
  · rw [dif_pos c, if_pos c, sub_zero, sub_zero]
  · rw [dif_neg c, if_neg c, sums_at p F j hF, EReal.coe_sub]

theorem mean2_at (f : ℕ → EReal) (hf : ∀ n, f n = (F n : EReal)) : mean2 p (ix3 i 0 j) - f i.val = diffAt 2 f i.val := by
  refine mean_at p F j hF i f hf _ 2 (by omega) ?_
  generalize sums p = s
  pointwise [zeros]
theorem mean4_at (f : ℕ → EReal) (hf : ∀ n, f n = (F n : EReal)) : mean4 p (ix3 i 0 j) - f i.val = diffAt 4 f i.val := by
  refine mean_at p F j hF i f hf _ 4 (by omega) ?_
  generalize sums p = s
  pointwise [zeros]
theorem mean8_at (f : ℕ → EReal) (hf : ∀ n, f n = (F n : EReal)) : mean8 p (ix3 i 0 j) - f i.val = diffAt 8 f i.val := by
  refine mean_at p F j hF i f hf _ 8 (by omega) ?_
  generalize sums p = s
  pointwise [zeros]
theorem mean16_at (f : ℕ → EReal) (hf : ∀ n, f n = (F n : EReal)) : mean16 p (ix3 i 0 j) - f i.val = diffAt 16 f i.val := by
  refine mean_at p F j hF i f hf _ 16 (by omega) ?_
  generalize sums p = s
  pointwise [zeros]
end Lines

/-- A group's window. -/
def width (g : ℕ) : ℕ := 2 ^ (g + 1)

/-- What the mixer subtracts and averages, at row `i` and column `l`. -/
def DIFF (x : Wide) : Wide := fun y => diffAt (width ((y 1).val / 512)) (fun n => tw x n (y 1).val) (y 0).val

theorem part_at (x : Wide) (g : Fin 4) (h) (n : Fin 8192) (j : Fin 512) :
    part (grouped x) g.val h (ix2 n j) = tw x n.val (g.val * 512 + j.val) := by
  rw [← grouped_at]
  generalize grouped x = z
  pointwise [part]

theorem flat_at (z : Grouped) (i : Fin 8192) (g : Fin 4) (j : Fin 512) :
    shapeCast S8192x2048 z shapeCasts_S8192x4x512_S8192x2048 (ix2 i ⟨g.val * 512 + j.val, by omega⟩) = z (ix3 i g j) := by
  pointwise []

/-- Flattening the groups and splitting them again. -/
theorem grouped_flat (z : Grouped) : grouped (shapeCast S8192x2048 z shapeCasts_S8192x4x512_S8192x2048) = z := by
  funext y
  obtain ⟨i, g, j, rfl⟩ : ∃ (i : Fin 8192) (g : Fin 4) (j : Fin 512), y = ix3 i g j := ⟨y 0, y 1, y 2, funext fun k => by fin_cases k <;> rfl⟩
  rw [← flat_at z i g j, grouped_at]
  unfold tw tab
  rw [dif_pos (show i.val < 8192 ∧ g.val * 512 + j.val < 2048 by omega)]

theorem diffRows_at (x : Wide) (hx : ∀ y, x y = (((x y).toReal : ℝ) : EReal)) (i : Fin 8192) (g : Fin 4) (j : Fin 512) :
    diffRows x (ix2 i ⟨g.val * 512 + j.val, by omega⟩) = diffAt (width g.val) (fun n => tw x n (g.val * 512 + j.val)) i.val := by
  have hf : ∀ n, (fun n => tw x n (g.val * 512 + j.val)) n = (((tw x n (g.val * 512 + j.val)).toReal : ℝ) : EReal) := fun n => by
    dsimp only
    unfold tw tab
    split
    · exact hx _
    · rfl
  have e : diffRows x (ix2 i ⟨g.val * 512 + j.val, by omega⟩)
      = (![mean2 (part (grouped x) 0 slices_S8192x4x512_S8192x1x512_0_0_0), mean4 (part (grouped x) 1 slices_S8192x4x512_S8192x1x512_0_1_0),
          mean8 (part (grouped x) 2 slices_S8192x4x512_S8192x1x512_0_2_0), mean16 (part (grouped x) 3 slices_S8192x4x512_S8192x1x512_0_3_0)] : Fin 4 → FVec Ideal S8192x1x512 .f32) g (ix3 i 0 j)
        - tw x i.val (g.val * 512 + j.val) := by
    rw [← grouped_at]
    show diffRows x _ = _ - grouped x (ix3 i g j)
    unfold diffRows diffOf
    rw [show shapeCast S8192x4x512 x shapeCasts_S8192x2048_S8192x4x512 = grouped x from rfl]
    generalize mean2 (part (grouped x) 0 slices_S8192x4x512_S8192x1x512_0_0_0) = a
    generalize mean4 (part (grouped x) 1 slices_S8192x4x512_S8192x1x512_0_1_0) = b
    generalize mean8 (part (grouped x) 2 slices_S8192x4x512_S8192x1x512_0_2_0) = c
    generalize mean16 (part (grouped x) 3 slices_S8192x4x512_S8192x1x512_0_3_0) = d
    generalize grouped x = z
    rw [flat_at]
    fin_cases g <;> pointwise []
  rw [e]
  fin_cases g
  · exact mean2_at _ _ j (fun n => (part_at x 0 _ n j).trans (hf n.val)) i (fun n => tw x n (0 * 512 + j.val)) hf
  · exact mean4_at _ _ j (fun n => (part_at x 1 _ n j).trans (hf n.val)) i (fun n => tw x n (1 * 512 + j.val)) hf
  · exact mean8_at _ _ j (fun n => (part_at x 2 _ n j).trans (hf n.val)) i (fun n => tw x n (2 * 512 + j.val)) hf
  · exact mean16_at _ _ j (fun n => (part_at x 3 _ n j).trans (hf n.val)) i (fun n => tw x n (3 * 512 + j.val)) hf

theorem diffRows_eq (x : Wide) (hx : ∀ y, x y = (((x y).toReal : ℝ) : EReal)) : diffRows x = DIFF x := by
  funext y
  obtain ⟨i, g, j, rfl⟩ := splitR y
  rw [diffRows_at x hx]
  show _ = diffAt (width ((g.val * 512 + j.val) / 512)) (fun n => tw x n (g.val * 512 + j.val)) i.val
  rw [show (g.val * 512 + j.val) / 512 = g.val by omega]

/-- The mixed rows: the differences times their group's matrix, times the factors. -/
def MIX (D : Wide) (W : Mats) (P : Row) : Wide := fun y =>
  (∑ k : Fin 512, tw D (y 0).val ((y 1).val / 512 * 512 + k.val) * tm W ((y 1).val / 512) k (Fin.ofNat 512 (y 1).val)) * tp P (y 1).val

/-- The products from the grouped rows. -/
def mixedG (z : Grouped) (W : Mats) (P : Row) : Wide :=
  mulf (shapeCast S8192x2048 (transpose S8192x4x512 [2, 0, 1] (Host.dotGeneral dot_S4x512x512_S8192x4x512_S4x512x8192_1_2_2_0_0_1 none W z)
    transposes_S4x512x8192_S8192x4x512_2_0_1) shapeCasts_S8192x4x512_S8192x2048) (broadcastInDim S8192x2048 ![0, 1] bcast_S1x2048_S8192x2048_0_1 P)
def mixed (D : Wide) (W : Mats) (P : Row) : Wide := mulf (product D W) (broadcastInDim S8192x2048 ![0, 1] bcast_S1x2048_S8192x2048_0_1 P)

theorem mixed_eq (D : Wide) (W : Mats) (P : Row) : mixed D W P = MIX D W P := by
  funext y
  obtain ⟨i, g, j, rfl⟩ := splitR y
  unfold MIX
  have e1 : ((ix2 i ⟨g.val * 512 + j.val, by omega⟩ : S8192x2048.Idx) 1).val = g.val * 512 + j.val := rfl
  rw [e1, show (g.val * 512 + j.val) / 512 = g.val by omega, show Fin.ofNat 512 (g.val * 512 + j.val) = j from Fin.ext (by show (g.val * 512 + j.val) % 512 = j.val; omega)]
  refine Eq.trans ?_ (congrArg (· * _) (product_at D W i g j))
  unfold mixed
  generalize product D W = z
  pointwise []
  exact congrArg (_ * ·) (tab_of (a := 1) (b := 2048) (φ := .f32) _ rfl rfl)

theorem mixedG_eq (x : Wide) (W : Mats) (P : Row) : mixedG (diffOf (grouped x)) W P = MIX (diffRows x) W P := by
  rw [← mixed_eq]
  unfold mixed product
  rw [show grouped (diffRows x) = diffOf (grouped x) from grouped_flat _]
  rfl

end Cert.PoolFwdProof

end
-- ==== Proof.PoolFwdBlock.lean ====
/- The pooling mixer's call: what one block computes, group by group. -/
module

public import proofs.«01_k».proof.Proof.Gen.PoolFwdIdeal.Value
public import proofs.«01_k».proof.Proof.PoolFwdRef

@[expose] public section

noncomputable section

namespace Cert.PoolFwdProof

open PoolFwdIdeal PoolFwdIdeal.Gen Idealize.ShloMosaic TcCoe Idealize.SL.Sem
open WindowProof (count_word)

abbrev Cur : Type := FVec Ideal S512x512 .f32
abbrev Prev : Type := FVec Ideal S16x512 .f32
abbrev Ext : Type := FVec Ideal S528x512 .f32
abbrev Res : Type := FVec Ideal S512x512 .bf16

def word (i : grid0.Coords) : BitVec 32 := BitVec.ofNat 32 (i 0).val

/-- The body's steps: the rows with the sixteen before them, one doubling of the window, the division by the counts, the product. -/
def ext (i : grid0.Coords) (v : Cur) (u : Prev) : Ext :=
  concatenate S528x512 0 [⟨S16x512, Scalar.select (Scalar.cmpi .sgt (word i) 0#32) u (broadcast S16x512 (Scalar.ofBits .f32 0x00000000#32))⟩, ⟨S512x512, v⟩]
    concatenates_S16x512_S512x512_S528x512_d0
def double (k : BitVec 32) (s : Ext) : Ext := addf s (dynamicRotate 0 k none s rotates_S528x512_d0)
def rows (i : grid0.Coords) (w : BitVec 32) : IVec S512x1 32 := minsi (addi (k0_pay3 i) (broadcast S512x1 1#32)) (broadcast S512x1 w)
def finish (i : grid0.Coords) (w : BitVec 32) (s : Ext) (v : Cur) : Res :=
  truncf .bf16 (subf (divf (extractStridedSlice S512x512 ![16, 0] s slices_S528x512_o16_0_S512x512)
    (broadcastTo S512x512 (sitofp (F := Ideal) .f32 (rows i w)) broadcasts_S512x1_S512x512)) v) bitsLt_bf16_f32
def times (d : Res) (w : Vec Ideal S1x512x512 .bf16) (p : Vec Ideal S1x512 .f32) : Res :=
  truncf .bf16 (mulf (matmul dot_S512x512_S512x512_S512x512_1_0_0_1_n_n none d (shapeCast S512x512 w shapeCasts_S1x512x512_S512x512 : FVec Ideal S512x512 .bf16) (constant S512x512 .f32 0x00000000#32))
    (broadcastTo S512x512 p broadcasts_S1x512_S512x512)) bitsLt_bf16_f32

variable (i : grid0.Coords) (v : Cur) (u : Prev)

/-- The four groups' differences. -/
def group (g : Fin 4) : Res :=
  (![finish i 2#32 (double 1#32 (ext i v u)) v, finish i 4#32 (double 2#32 (double 1#32 (ext i v u))) v,
    finish i 8#32 (double 4#32 (double 2#32 (double 1#32 (ext i v u)))) v,
    finish i 16#32 (double 8#32 (double 4#32 (double 2#32 (double 1#32 (ext i v u))))) v] : Fin 4 → Res) g

theorem pay_rows0 : k0_pay4 (F := Ideal) i v u = group i v u 0 := rfl
theorem pay_rows1 : k0_pay6 (F := Ideal) (k0_pay3 i) v (Scalar.cmpi .sgt (word i) 0#32) u = group i v u 1 := rfl
theorem pay_rows2 : k0_pay9 (F := Ideal) (k0_pay3 i) v (k0_pay8 (word i) v u) = group i v u 2 := rfl
theorem pay_rows3 : k0_pay1 (F := Ideal) (k0_pay3 i) v (k0_pay11 (word i) v u) = group i v u 3 := rfl

section
variable (w : Vec Ideal S1x512x512 .bf16) (p : Vec Ideal S1x512 .f32)
theorem pay_mix0 : k0_pay5 (F := Ideal) i v u w p = times (group i v u 0) w p := rfl
theorem pay_mix1 : k0_pay7 (F := Ideal) (k0_pay3 i) v (Scalar.cmpi .sgt (word i) 0#32) u w p = times (group i v u 1) w p := rfl
theorem pay_mix2 : k0_pay10 (F := Ideal) (k0_pay3 i) v (k0_pay8 (word i) v u) w p = times (group i v u 2) w p := rfl
theorem pay_mix3 : k0_pay2 (F := Ideal) (k0_pay3 i) v (k0_pay11 (word i) v u) w p = times (group i v u 3) w p := rfl

theorem times_at (d : Res) (r j : Fin 512) : times d w p (ix2 r j) = (∑ k : Fin 512, d (ix2 r k) * w (ix3 0 k j)) * p (ix2 0 j) := by
  pointwise [times]
end

theorem first_word : ∀ n : Fin 16, Scalar.cmpi .sgt (BitVec.ofNat 32 n.val) 0#32 = if 0 < n.val then 1#1 else 0#1 := by decide

theorem rows_at (w : ℕ) (r : Fin 512) : rows i (BitVec.ofNat 32 w) (ix2 r 0) = IntOp.minsi (BitVec.ofNat 32 ((i 0).val * 512 + r.val + 1)) (BitVec.ofNat 32 w) := by
  have h : (i 0).val < 16 := (i 0).isLt
  have e : (BitVec.ofNat 32 r.val + BitVec.ofNat 32 (i 0).val * 512#32 + 1#32) = BitVec.ofNat 32 ((i 0).val * 512 + r.val + 1) := by
    apply BitVec.eq_of_toNat_eq
    simp only [BitVec.toNat_add, BitVec.toNat_mul, BitVec.toNat_ofNat]
    omega
  rw [← e]
  pointwise [rows, k0_pay3]
  rfl

/-- Column `j` of `s` holds, in row `r`, the last `n` terms of `g` up to number `b + r`. -/
def Sums (n : ℕ) (g : ℕ → EReal) (b : ℕ) (j : Fin 512) (s : Ext) : Prop := ∀ r : Fin 528, n ≤ r.val + 1 → s (ix2 r j) = ∑ k ∈ Finset.range n, g (b + r.val - k)

section
variable (f : ℕ → EReal) (j : Fin 512) (hv : ∀ r : Fin 512, v (ix2 r j) = f ((i 0).val * 512 + r.val))
  (hu : ∀ r : Fin 16, 0 < (i 0).val → u (ix2 r j) = f ((i 0).val * 512 - 16 + r.val))
include hv hu

theorem ext_at : Sums 1 (back f) ((i 0).val * 512) j (ext i v u) := fun r _ => by
  have h : (i 0).val < 16 := (i 0).isLt
  rw [Finset.sum_range_one, Nat.sub_zero]
  unfold ext word
  rw [first_word ⟨(i 0).val, h⟩]
  generalize hh : (Scalar.select (if 0 < (i 0).val then 1#1 else 0#1) u (broadcast S16x512 (Scalar.ofBits (F := Ideal) .f32 0x00000000#32)) : Prev) = z
  pointwise []
  unfold back
  by_cases c : r.val < 16
  · rw [dif_pos c, ← hh]
    by_cases l : 0 < (i 0).val
    · rw [if_pos l, if_neg (by omega)]
      refine (hu ⟨r.val, c⟩ l).trans (congrArg f ?_)
      show (i 0).val * 512 - 16 + r.val = (i 0).val * 512 + r.val - 16
      omega
    · rw [if_neg l, if_pos (by omega)]
      exact Ideal.ofBits_zero .f32
  · rw [dif_neg c]
    rw [if_neg (show ¬ (i 0).val * 512 + r.val < 16 by omega)]
    refine (hv ⟨r.val - 16, by omega⟩).trans (congrArg f ?_)
    show (i 0).val * 512 + (r.val - 16) = _
    omega
end

/-- One doubling. -/
theorem double_at (n : ℕ) (hn : n < 528) (h0 : 0 < n) (s : Ext) (g : ℕ → EReal) (j : Fin 512) (b : ℕ) (hs : Sums n g b j s) :
    Sums (2 * n) g b j (double (BitVec.ofNat 32 n) s) := fun r hr => by
  have e : double (BitVec.ofNat 32 n) s (ix2 r j) = s (ix2 r j) + s (ix2 ⟨r.val - n, by omega⟩ j) := by
    refine congrArg (s (ix2 r j) + ·) (congrArg s ?_)
    funext a
    match a with
    | ⟨0, _⟩ => exact Fin.ext (by show (r.val + 528 - ((BitVec.ofNat 32 n).toNat + 0) % 528) % 528 = r.val - n; rw [BitVec.toNat_ofNat]; omega)
    | ⟨1, _⟩ => rfl
  rw [e, hs r (by omega), hs ⟨r.val - n, by omega⟩ (by show n ≤ r.val - n + 1; omega), two_mul, Finset.sum_range_add]
  refine congrArg (_ + ·) (Finset.sum_congr rfl fun k hk => congrArg g ?_)
  show b + (r.val - n) - k = b + r.val - (n + k)
  omega

section
variable {s : Ext} {g : ℕ → EReal} {j : Fin 512} {b : ℕ}
theorem sums2 (h : Sums 1 g b j s) : Sums 2 g b j (double 1#32 s) := double_at 1 (by omega) (by omega) s g j b h
theorem sums4 (h : Sums 1 g b j s) : Sums 4 g b j (double 2#32 (double 1#32 s)) := double_at 2 (by omega) (by omega) _ g j b (sums2 h)
theorem sums8 (h : Sums 1 g b j s) : Sums 8 g b j (double 4#32 (double 2#32 (double 1#32 s))) := double_at 4 (by omega) (by omega) _ g j b (sums4 h)
theorem sums16 (h : Sums 1 g b j s) : Sums 16 g b j (double 8#32 (double 4#32 (double 2#32 (double 1#32 s)))) :=
  double_at 8 (by omega) (by omega) _ g j b (sums8 h)
end

theorem finish_at (w : ℕ) (hw : w ≤ 16) (f : ℕ → EReal) (j : Fin 512) (hv : ∀ r : Fin 512, v (ix2 r j) = f ((i 0).val * 512 + r.val))
    (s : Ext) (hs : Sums w (back f) ((i 0).val * 512) j s) (r : Fin 512) :
    finish i (BitVec.ofNat 32 w) s v (ix2 r j) = diffAt w f ((i 0).val * 512 + r.val) := by
  have h : (i 0).val < 16 := (i 0).isLt
  have e : finish i (BitVec.ofNat 32 w) s v (ix2 r j)
      = Ideal.div (s (ix2 ⟨16 + r.val, by omega⟩ j)) ((((rows i (BitVec.ofNat 32 w) (ix2 r 0)).toInt : ℝ) : EReal)) - v (ix2 r j) := by
    unfold finish
    generalize rows i (BitVec.ofNat 32 w) = n
    pointwise []
    rfl
  unfold diffAt
  rw [e, rows_at, count_word _ _ (by omega) (by omega), hv, hs ⟨16 + r.val, by omega⟩ (by show w ≤ 16 + r.val + 1; omega)]
  unfold WindowProof.count
  rw [show ∀ a : ℕ, (((a : ℤ) : ℝ)) = (a : ℝ) from fun a => by norm_cast]
  refine congrArg (fun x => Ideal.div x _ - _) (Finset.sum_congr rfl fun k _ => congrArg (back f) ?_)
  show (i 0).val * 512 + (16 + r.val) - k = (i 0).val * 512 + r.val + 16 - k
  omega

theorem group_at (f : ℕ → EReal) (j : Fin 512) (hv : ∀ r : Fin 512, v (ix2 r j) = f ((i 0).val * 512 + r.val))
    (hu : ∀ r : Fin 16, 0 < (i 0).val → u (ix2 r j) = f ((i 0).val * 512 - 16 + r.val)) (g : Fin 4) (r : Fin 512) :
    group i v u g (ix2 r j) = diffAt (width g.val) f ((i 0).val * 512 + r.val) := by
  have h := ext_at i v u f j hv hu
  fin_cases g
  · exact finish_at i v 2 (by omega) f j hv _ (sums2 h) r
  · exact finish_at i v 4 (by omega) f j hv _ (sums4 h) r
  · exact finish_at i v 8 (by omega) f j hv _ (sums8 h) r
  · exact finish_at i v 16 (by omega) f j hv _ (sums16 h) r

end Cert.PoolFwdProof

end
-- ==== Proof.PoolFwdValue.lean ====
/- The pooling mixer's call: what its two result arrays hold. -/
module

public import proofs.«01_k».proof.Proof.PoolFwdBlock

@[expose] public section

noncomputable section

namespace Cert.PoolFwdProof

open PoolFwdIdeal PoolFwdIdeal.Gen Tables Idealize.ShloMosaic TcCoe Idealize.SL.Sem
open Idealize.ShloMosaic.Pipeline (Dat)
open PoolProof (Wide Mats Row tw tp tm tm_at splitR ldP ldM)

theorem idx : ∀ t : Fin cfg0.N, win0_0.index t = ![t.val, 0] ∧ win0_1.index t = ![t.val * 32 - 1, 0] ∧ win0_2.index t = ![0, 0, 0] ∧ win0_3.index t = ![0, 0]
    ∧ win0_4.index t = ![t.val, 0] ∧ win0_5.index t = ![t.val, 0] ∧ (grid0.coords t 0).val = t.val :=
  (by decide +kernel : ∀ t : Fin grid0.N, _)

theorem tw_ix (A : Wide) (i l : ℕ) (hi : i < 8192) (hl : l < 2048) : tw A i l = A (ix2 ⟨i, hi⟩ ⟨l, hl⟩) := by
  unfold tw tab
  rw [dif_pos ⟨hi, hl⟩]

variable (m : (ℓ : Loc nD τ sig) → Buf (Elt Ideal) ℓ) (c : Dev nD)

def argH : Wide := m ((c.tc : Thread nD τ).loc main_arg0)
def argW : Mats := m ((c.tc : Thread nD τ).loc main_arg1)
def argP : Row := m ((c.tc : Thread nD τ).loc main_arg2)

variable (t : Fin cfg0.N)

theorem lt16 : t.val < 16 := lt_of_lt_of_eq t.isLt N_0
theorem coord : (grid0.coords t 0).val = t.val := (idx t).2.2.2.2.2.2

theorem blkH (r : Fin 512) (k : Fin 2048) : (iblk m c 0 t : FVec Ideal S512x2048 .f32) (ix2 r k) = tw (argH m c) (t.val * 512 + r.val) k.val := by
  have := lt16 t
  rw [tw_ix _ _ _ (by omega) k.isLt]
  blk_point [iblk, V, idx t, argH]
theorem blkU (h : 0 < t.val) (r : Fin 16) (k : Fin 2048) : (iblk m c 1 t : FVec Ideal S16x2048 .f32) (ix2 r k) = tw (argH m c) (t.val * 512 - 16 + r.val) k.val := by
  have := lt16 t
  rw [tw_ix _ _ _ (by omega) k.isLt]
  blk_point [iblk, V, idx t, argH]
theorem blkW (g : Fin 4) (a b : Fin 512) : (iblk m c 2 t : FVec Ideal S4x512x512 .bf16) (ix3 g a b) = tm (argW m c) g.val a b := by
  rw [← tm_at]
  blk_point [iblk, V, idx t, argW]
theorem blkP (k : Fin 2048) : (iblk m c 3 t : Row) (ix2 0 k) = tp (argP m c) k.val := by
  rw [show tp (argP m c) k.val = argP m c (ix2 0 k) from (tab_ix (a := 1) (b := 2048) (φ := .f32) (argP m c) 0 k).symm]
  blk_point [iblk, V, idx t, argP]

/-- A load of part of a block. -/
theorem ldC (x : FVec Ideal S512x2048 .f32) (o : ℕ) (h : o + 512 ≤ 2048) (i : ∀ a, (![0, o] : Fin 2 → ℕ) a + (![512, 512] : Fin 2 → ℕ) a ≤ S512x2048.size a) (r : Fin 512) (j : Fin 512) :
    View.ld (Val := Elt Ideal) (S := S512x2048) (e' := .f32) x (Rect.unit ![0, o] ![512, 512] i) (ix2 r j : S512x512.Idx) = x (ix2 r ⟨o + j.val, by omega⟩) := by
  refine congrArg x (funext fun k => ?_)
  fin_cases k <;> exact Fin.ext (by simp [Rect.emb_apply])
theorem ldU (x : FVec Ideal S16x2048 .f32) (o : ℕ) (h : o + 512 ≤ 2048) (i : ∀ a, (![0, o] : Fin 2 → ℕ) a + (![16, 512] : Fin 2 → ℕ) a ≤ S16x2048.size a) (r : Fin 16) (j : Fin 512) :
    View.ld (Val := Elt Ideal) (S := S16x2048) (e' := .f32) x (Rect.unit ![0, o] ![16, 512] i) (ix2 r j : S16x512.Idx) = x (ix2 r ⟨o + j.val, by omega⟩) := by
  refine congrArg x (funext fun k => ?_)
  fin_cases k <;> exact Fin.ext (by simp [Rect.emb_apply])

section
variable (g : Fin 4) (o : ℕ) (ho : o = g.val * 512)
    (i0 : ∀ a, (![0, o] : Fin 2 → ℕ) a + (![512, 512] : Fin 2 → ℕ) a ≤ S512x2048.size a)
    (i1 : ∀ a, (![0, o] : Fin 2 → ℕ) a + (![16, 512] : Fin 2 → ℕ) a ≤ S16x2048.size a)
    (i2 : ∀ a, (![g.val, 0, 0] : Fin 3 → ℕ) a + (![1, 512, 512] : Fin 3 → ℕ) a ≤ S4x512x512.size a)
    (i3 : ∀ a, (![0, o] : Fin 2 → ℕ) a + (![1, 512] : Fin 2 → ℕ) a ≤ S1x2048.size a) (r j : Fin 512)
include ho

/-- Group `g` of block `t`: its differences and its mixed rows. -/
theorem diff_at : group (grid0.coords t) (View.ld (iblk m c 0 t : FVec Ideal S512x2048 .f32) (Rect.unit ![0, o] ![512, 512] i0) : Vec Ideal S512x512 .f32)
      (View.ld (iblk m c 1 t : FVec Ideal S16x2048 .f32) (Rect.unit ![0, o] ![16, 512] i1) : Vec Ideal S16x512 .f32) g (ix2 r j)
    = tw (DIFF (argH m c)) (t.val * 512 + r.val) (g.val * 512 + j.val) := by
  have hN := lt16 t
  subst ho
  rw [group_at _ _ _ (fun n => tw (argH m c) n (g.val * 512 + j.val)) j
    (fun r => by rw [ldC _ _ (by omega), blkH, coord]) (fun r h => by rw [coord] at h ⊢; rw [ldU _ _ (by omega), blkU m c t h]) g r, coord]
  rw [tw_ix (DIFF (argH m c)) _ _ (by omega) (by omega)]
  show _ = diffAt (width ((g.val * 512 + j.val) / 512)) (fun n => tw (argH m c) n (g.val * 512 + j.val)) (t.val * 512 + r.val)
  rw [show (g.val * 512 + j.val) / 512 = g.val by omega]

theorem mix_at : times (group (grid0.coords t) (View.ld (iblk m c 0 t : FVec Ideal S512x2048 .f32) (Rect.unit ![0, o] ![512, 512] i0) : Vec Ideal S512x512 .f32)
      (View.ld (iblk m c 1 t : FVec Ideal S16x2048 .f32) (Rect.unit ![0, o] ![16, 512] i1) : Vec Ideal S16x512 .f32) g)
      (View.ld (iblk m c 2 t : FVec Ideal S4x512x512 .bf16) (Rect.unit ![g.val, 0, 0] ![1, 512, 512] i2) : Vec Ideal S1x512x512 .bf16)
      (View.ld (iblk m c 3 t : Row) (Rect.unit ![0, o] ![1, 512] i3) : Vec Ideal S1x512 .f32) (ix2 r j)
    = (∑ k : Fin 512, tw (DIFF (argH m c)) (t.val * 512 + r.val) (g.val * 512 + k.val) * tm (argW m c) g.val k j) * tp (argP m c) (g.val * 512 + j.val) := by
  rw [times_at]
  refine congrArg₂ (· * ·) (Finset.sum_congr rfl fun k _ => congrArg₂ (· * ·) (diff_at m c t g o ho i0 i1 r k) ((ldM _ g i2 k j).trans (blkW m c t g k j))) ?_
  subst ho
  rw [ldP _ _ (by omega), blkP]
end

/-- The four stores lie side by side. -/
theorem canon_at (p0 p1 p2 p3 : Res) (r : Fin 512) (g : Fin 4) (j : Fin 512) :
    (View.canon [⟨r0_12, p3⟩, ⟨r0_8, p2⟩, ⟨r0_4, p1⟩, ⟨r0_0, p0⟩] : Vec Ideal S512x2048 .bf16) (ix2 r ⟨g.val * 512 + j.val, by omega⟩)
      = (![p0, p1, p2, p3] : Fin 4 → Res) g (ix2 r j) := by
  generalize hz : (ix2 r ⟨g.val * 512 + j.val, by omega⟩ : S512x2048.Idx) = y
  have y0 : (y 0).val = r.val := by rw [← hz]; rfl
  have y1 : (y 1).val = g.val * 512 + j.val := by rw [← hz]; rfl
  have key : ∀ x : S512x512.Idx, (x 0).val = r.val → (x 1).val = j.val → x = ix2 r j := fun x e0 e1 => by
    funext k; fin_cases k
    · exact Fin.ext e0
    · exact Fin.ext e1
  canon_tiles x h
  case piece0 => rw [key x (by omega) (by omega), show g = 3 by omega]; rfl
  case piece1 => rw [key x (by omega) (by omega), show g = 2 by omega]; rfl
  case piece2 => rw [key x (by omega) (by omega), show g = 1 by omega]; rfl
  case piece3 => rw [key x (by omega) (by omega), show g = 0 by omega]; rfl

theorem d_at (r : Fin 512) (g : Fin 4) (j : Fin 512) :
    (out0_4 (grid0.coords t) (iblk m c 0 t) (iblk m c 1 t) (iblk m c 2 t) (iblk m c 3 t) : FVec Ideal S512x2048 .bf16) (ix2 r ⟨g.val * 512 + j.val, by omega⟩)
      = tw (DIFF (argH m c)) (t.val * 512 + r.val) (g.val * 512 + j.val) := by
  unfold out0_4
  rw [canon_at]
  fin_cases g
  · exact (congrFun (pay_rows0 (grid0.coords t) _ _) (ix2 r j)).trans (diff_at m c t 0 0 rfl _ _ r j)
  · exact (congrFun (pay_rows1 (grid0.coords t) _ _) (ix2 r j)).trans (diff_at m c t 1 512 rfl _ _ r j)
  · exact (congrFun (pay_rows2 (grid0.coords t) _ _) (ix2 r j)).trans (diff_at m c t 2 1024 rfl _ _ r j)
  · exact (congrFun (pay_rows3 (grid0.coords t) _ _) (ix2 r j)).trans (diff_at m c t 3 1536 rfl _ _ r j)

theorem y_at (r : Fin 512) (g : Fin 4) (j : Fin 512) :
    (out0_5 (grid0.coords t) (iblk m c 0 t) (iblk m c 1 t) (iblk m c 2 t) (iblk m c 3 t) : FVec Ideal S512x2048 .bf16) (ix2 r ⟨g.val * 512 + j.val, by omega⟩)
      = (∑ k : Fin 512, tw (DIFF (argH m c)) (t.val * 512 + r.val) (g.val * 512 + k.val) * tm (argW m c) g.val k j) * tp (argP m c) (g.val * 512 + j.val) := by
  unfold out0_5
  rw [canon_at]
  fin_cases g
  · exact (congrFun (pay_mix0 (grid0.coords t) _ _ _ _) (ix2 r j)).trans (mix_at m c t 0 0 rfl _ _ _ _ r j)
  · exact (congrFun (pay_mix1 (grid0.coords t) _ _ _ _) (ix2 r j)).trans (mix_at m c t 1 512 rfl _ _ _ _ r j)
  · exact (congrFun (pay_mix2 (grid0.coords t) _ _ _ _) (ix2 r j)).trans (mix_at m c t 2 1024 rfl _ _ _ _ r j)
  · exact (congrFun (pay_mix3 (grid0.coords t) _ _ _ _) (ix2 r j)).trans (mix_at m c t 3 1536 rfl _ _ _ _ r j)

/-- The two results. -/
def outD (H : Wide) : FVec Ideal S8192x2048 .bf16 := DIFF H
def outY (H : Wide) (W : Mats) (P : Row) : FVec Ideal S8192x2048 .bf16 := MIX (DIFF H) W P

theorem split (n : Fin 2048) : ∃ (g : Fin 4) (j : Fin 512), n = ⟨g.val * 512 + j.val, by omega⟩ :=
  ⟨⟨n.val / 512, by omega⟩, ⟨n.val % 512, by omega⟩, Fin.ext (by show n.val = n.val / 512 * 512 + n.val % 512; omega)⟩

theorem final4 : (dats m 0 c).arrAt 4 (cfgs 0).N = outD (argH m c) := by
  refine (dats m 0 c).arrAt_eq_of_covers 4 _ (by decide +kernel) fun t _ y => ?_
  have hN := lt16 t
  obtain ⟨r, hr⟩ : ∃ r : Fin 512, r = y 0 := ⟨y 0, rfl⟩
  obtain ⟨n, hn⟩ : ∃ n : Fin 2048, n = y 1 := ⟨y 1, rfl⟩
  have hy : (cfg0.win 4).xinj (cfg0.grid.coords t) y = (ix2 r n : S512x2048.Idx) := by
    funext k; fin_cases k
    · exact hr.symm
    · exact hn.symm
  have he : ((cfg0.win 4).blk t).view.emb y = (ix2 ⟨t.val * 512 + r.val, by omega⟩ n : S8192x2048.Idx) := by
    funext k; fin_cases k <;> refine Fin.ext ?_
    · show ((((cfg0.win 4).blk t).view.emb y) 0).val = t.val * 512 + r.val
      rw [hr]; blk_simp [idx t]
    · show ((((cfg0.win 4).blk t).view.emb y) 1).val = n.val
      rw [hn]; blk_simp [idx t]
  rw [he, after0_4]
  refine (cast_eq _ _).trans ?_
  rw [hy]
  clear hn hy he
  obtain ⟨g, j, rfl⟩ := split n
  exact (d_at m c t r g j).trans (tw_ix (DIFF (argH m c)) _ _ (by omega) (by omega))

theorem final5 : (dats m 0 c).arrAt 5 (cfgs 0).N = outY (argH m c) (argW m c) (argP m c) := by
  refine (dats m 0 c).arrAt_eq_of_covers 5 _ (by decide +kernel) fun t _ y => ?_
  have hN := lt16 t
  obtain ⟨r, hr⟩ : ∃ r : Fin 512, r = y 0 := ⟨y 0, rfl⟩
  obtain ⟨n, hn⟩ : ∃ n : Fin 2048, n = y 1 := ⟨y 1, rfl⟩
  have hy : (cfg0.win 5).xinj (cfg0.grid.coords t) y = (ix2 r n : S512x2048.Idx) := by
    funext k; fin_cases k
    · exact hr.symm
    · exact hn.symm
  have he : ((cfg0.win 5).blk t).view.emb y = (ix2 ⟨t.val * 512 + r.val, by omega⟩ n : S8192x2048.Idx) := by
    funext k; fin_cases k <;> refine Fin.ext ?_
    · show ((((cfg0.win 5).blk t).view.emb y) 0).val = t.val * 512 + r.val
      rw [hr]; blk_simp [idx t]
    · show ((((cfg0.win 5).blk t).view.emb y) 1).val = n.val
      rw [hn]; blk_simp [idx t]
  rw [he, after0_5]
  refine (cast_eq _ _).trans ?_
  rw [hy]
  clear hn hy he
  obtain ⟨g, j, rfl⟩ := split n
  refine (y_at m c t r g j).trans ?_
  show _ = (∑ k : Fin 512, tw (DIFF (argH m c)) (t.val * 512 + r.val) ((g.val * 512 + j.val) / 512 * 512 + k.val)
    * tm (argW m c) ((g.val * 512 + j.val) / 512) k (Fin.ofNat 512 (g.val * 512 + j.val))) * tp (argP m c) (g.val * 512 + j.val)
  rw [show (g.val * 512 + j.val) / 512 = g.val by omega, show Fin.ofNat 512 (g.val * 512 + j.val) = j from Fin.ext (by show (g.val * 512 + j.val) % 512 = j.val; omega)]

end Cert.PoolFwdProof

end
-- ==== Proof.PoolFwdClaims.lean ====
/- The claims about the pooling mixer's call. -/
module
public import proofs.«01_k».proof.Defs
public import proofs.«01_k».proof.Proof.PoolFwdValue
public import proofs.«01_k».proof.Proof.Gen.PoolFwdRefIdeal.Run
public import proofs.«01_k».proof.Proof.Gen.PoolFwd.Frame
public import proofs.«01_k».proof.Proof.Gen.Pre_pool_fwd_finite

@[expose] public section

set_option maxRecDepth 131072

noncomputable section

namespace Cert.PoolFwdProof
open Idealize.ShloMosaic Idealize.SL.Sem
open Cert.Finite (real_of_all)

/-- The frame of the reference. -/
theorem ref_frame : quiescent_PoolFwdRefIdeal := fun m ρ _ =>
  (θ_run PoolFwdRefIdeal.defs _ _).mono (fun r h => ⟨fun c => (h c).2.2, sem_eq_zero_of_no_sems (by decide) r.2⟩)
    (PoolFwdRefIdeal.Value.run (F := Ideal) m ρ)

section Run
open PoolFwdRefIdeal PoolFwdRefIdeal.Gen
variable (m : (ℓ : Loc nD τ sig) → Buf (Elt Ideal) ℓ) (c : Dev nD)

theorem run_diff : @Eq (FVec Ideal S8192x2048 .bf16) (Value.res_main_v77 (F := Ideal) m c) (PoolProof.diffRows (m ((c.tc : Thread nD τ).loc main_arg0))) := by
  unfold Value.res_main_v77
  rfl
theorem run_mix : @Eq (FVec Ideal S8192x2048 .bf16) (Value.res_main_v78 (F := Ideal) m c)
    (mixedG (PoolProof.diffOf (PoolProof.grouped (m ((c.tc : Thread nD τ).loc main_arg0)))) (m ((c.tc : Thread nD τ).loc main_arg1)) (m ((c.tc : Thread nD τ).loc main_arg2))) := by
  unfold Value.res_main_v78
  rfl
end Run

/-- The call's two results are the reference's, at finite rows. -/
theorem algebraic : algebraic_PoolFwdIdeal_PoolFwdRefIdeal_pre_pool_fwd_finite := fun m ρ m' ρ' hpre hag =>
  ⟨fun c => outD (argH m c), fun c => outY (argH m c) (argW m c) (argP m c),
   (θ_run PoolFwdIdeal.defs _ _).mono (fun _ h c => ⟨(h c).1.trans (final4 m c), (h c).2.1.trans (final5 m c), (h c).2.2⟩)
     (PoolFwdIdeal.Value.run_blocks (F := Ideal) m ρ),
   (θ_run PoolFwdRefIdeal.defs _ _).mono (fun _ h c => by
       obtain ⟨e0, e1, e2⟩ := hag c
       have h1 := congrFun (hpre c) default
       unfold Pre_pool_fwd_finite.fn at h1
       have hH : PoolProof.diffRows (argH m c) = DIFF (argH m c) := diffRows_eq (argH m c) (real_of_all _ _ _ _ _ _ h1)
       refine ⟨(h c).1.trans ?_, (h c).2.1.trans ?_, (h c).2.2⟩
       · refine (run_diff m' c).trans ?_
         rw [e0]
         exact hH
       · refine (run_mix m' c).trans ?_
         rw [e0, e1, e2]
         refine (mixedG_eq (argH m c) (argW m c) (argP m c)).trans ?_
         exact congrArg (fun D => MIX D (argW m c) (argP m c)) hH)
     (PoolFwdRefIdeal.Value.run (F := Ideal) m' ρ')⟩
-- ==== Proof.Silu.lean ====
/- The gate `g / (1 + exp (-g))` is `g` times its sigmoid, at every extended real. -/
module

public import proofs.«01_k».proof.Proof.FfnPack

@[expose] public section

noncomputable section

namespace Cert.Silu

open Idealize.ShloMosaic FfnProof

theorem den_ne (g : EReal) : (1 : EReal) + Ideal.exp (0 - g) ≠ 0 := by
  induction g with
  | coe r =>
    have h : (0 : ℝ) < 1 + Real.exp (-r) := by positivity
    rw [show (0 : EReal) - (r : EReal) = ((-r : ℝ) : EReal) by simp, show Ideal.exp ((-r : ℝ) : EReal) = ((Real.exp (-r) : ℝ) : EReal) from rfl,
      ← EReal.coe_one, ← EReal.coe_add, ← EReal.coe_zero, Ne, EReal.coe_eq_coe_iff]
    exact h.ne'
  | top => rw [zero_sub, EReal.neg_top, show Ideal.exp ⊥ = 0 from rfl]; simp
  | bot => rw [zero_sub, EReal.neg_bot, show Ideal.exp ⊤ = ⊤ from rfl, show (1 : EReal) + ⊤ = ⊤ from rfl]; simp

theorem silu_eq (g : EReal) : Ideal.div g (1 + Ideal.exp (0 - g)) = g * logi g := by
  unfold logi Ideal.div
  rw [if_neg (den_ne g), if_neg (den_ne g), one_mul]

theorem silu_zero : Ideal.div 0 (1 + Ideal.exp (0 - 0)) = 0 := by rw [silu_eq, zero_mul]

end Cert.Silu

end
-- ==== Proof.FfnFwdBlock.lean ====
/- What one block of the SwiGLU's forward call computes, and how the host packs its matrices. -/
module

public import proofs.«01_k».proof.Proof.Gen.FfnFwdIdeal.Value
public import proofs.«01_k».proof.Proof.Silu

@[expose] public section

noncomputable section

namespace Cert.FfnFwdProof

open FfnFwdIdeal FfnFwdIdeal.Gen Tables Idealize.ShloMosaic TcCoe Idealize.SL.Sem
open FfnProof (logi actAt)
open Idealize.ShloMosaic.Pipeline (Dat)

abbrev Rows : Type := FVec Ideal S8192x2048 .f32
abbrev Into : Type := FVec Ideal S2048x5632 .f32
abbrev Back : Type := FVec Ideal S5632x2048 .f32

/-- An entry of the rows' product with a matrix. -/
def dotU (U : Rows) (W : Into) (i e : ℕ) : EReal := ∑ k : Fin 2048, tab (a := 8192) (b := 2048) (φ := .f32) U i k.val * tab (a := 2048) (b := 5632) (φ := .f32) W k.val e
/-- The value of the product of both at an entry. -/
def actU (U : Rows) (Wg Wu : Into) (i e : ℕ) : EReal := actAt (dotU U Wg i e) (dotU U Wu i e)

/-- The two products by shards, and the call's value. -/
def OUTG (U : Rows) (Wg Wu : Into) : FVec Ideal S2x8x8192x704 .bf16 := fun y =>
  if (y 0).val = 0 then dotU U Wg (y 2).val ((y 1).val * 704 + (y 3).val) else dotU U Wu (y 2).val ((y 1).val * 704 + (y 3).val)
def OUTY (U : Rows) (Wg Wu : Into) (Wd : Back) : FVec Ideal S8192x2048 .bf16 := fun y =>
  ∑ e : Fin 5632, actU U Wg Wu (y 0).val e.val * tab (a := 5632) (b := 2048) (φ := .f32) Wd e.val (y 1).val

theorem pay5_at (v0 : Vec Ideal S512x2048 .bf16) (v2 : Vec Ideal S1x1x2048x704 .bf16) (r : Fin 512) (n : Fin 704) :
    k0_pay5 (F := Ideal) v0 v2 (ix2 r n) = ∑ k : Fin 2048, v0 (ix2 r k) * v2 (ix4 0 0 k n) := by
  pointwise [k0_pay5, k0_pay4]
theorem pay6_at (v0 : Vec Ideal S512x2048 .bf16) (v2 : Vec Ideal S1x1x2048x704 .bf16) (r : Fin 512) (n : Fin 704) :
    k0_pay6 (F := Ideal) v0 v2 (ix2 r n) = ∑ k : Fin 2048, v0 (ix2 r k) * v2 (ix4 0 0 k n) := by
  pointwise [k0_pay6, k0_pay4]
theorem pay7_at (v0 : Vec Ideal S512x2048 .bf16) (v2 : Vec Ideal S1x1x2048x704 .bf16) (r : Fin 512) (n : Fin 704) :
    k0_pay7 (F := Ideal) v0 v2 (ix4 0 0 r n) = k0_pay5 (F := Ideal) v0 v2 (ix2 r n) := by
  unfold k0_pay7
  generalize k0_pay5 (F := Ideal) v0 v2 = z
  pointwise []
theorem pay8_at (v0 : Vec Ideal S512x2048 .bf16) (v2 : Vec Ideal S1x1x2048x704 .bf16) (r : Fin 512) (n : Fin 704) :
    k0_pay8 (F := Ideal) v0 v2 (ix4 0 0 r n) = k0_pay6 (F := Ideal) v0 v2 (ix2 r n) := by
  unfold k0_pay8
  generalize k0_pay6 (F := Ideal) v0 v2 = z
  pointwise []

theorem pay9_at (v0 : Vec Ideal S512x2048 .bf16) (v2 v5 : Vec Ideal S1x1x2048x704 .bf16) (v24 : Vec Ideal S1x704x2048 .bf16) (r : Fin 512) (l : Fin 2048) :
    k0_pay9 (F := Ideal) v0 v2 v5 v24 (ix2 r l)
    = ∑ n : Fin 704, actAt (k0_pay5 (F := Ideal) v0 v2 (ix2 r n)) (k0_pay6 (F := Ideal) v0 v5 (ix2 r n)) * v24 (ix3 0 n l) := by
  unfold k0_pay9 actAt
  generalize k0_pay5 (F := Ideal) v0 v2 = g
  generalize k0_pay6 (F := Ideal) v0 v5 = p
  simp only [← Silu.silu_eq]
  pointwise []

theorem pay1_eq (v : FVec Ideal S512x2048 .f32) (y : S512x2048.Idx) : k0_pay1 (F := Ideal) v y = v y := by
  obtain ⟨r, l, rfl⟩ : ∃ (r : Fin 512) (l : Fin 2048), y = ix2 r l := ⟨y 0, y 1, funext fun k => by fin_cases k <;> rfl⟩
  pointwise [k0_pay1]
theorem pay2_eq (v : FVec Ideal S512x2048 .f32) (a : Vec Ideal S512x2048 .f32) (y : S512x2048.Idx) : k0_pay2 (F := Ideal) v a y = a y + v y := by
  obtain ⟨r, l, rfl⟩ : ∃ (r : Fin 512) (l : Fin 2048), y = ix2 r l := ⟨y 0, y 1, funext fun k => by fin_cases k <;> rfl⟩
  pointwise [k0_pay2]
theorem pay3_eq (a : Vec Ideal S512x2048 .f32) (y : S512x2048.Idx) : k0_pay3 (F := Ideal) a y = a y := rfl

/-- The two matrices as the host stacks them, cut into shards. -/
def cutW (W : Into) : FVec Ideal S8x2048x704 .f32 := transpose S8x2048x704 [1, 0, 2] (shapeCast S2048x8x704 W shapeCasts_S2048x5632_S2048x8x704) transposes_S2048x8x704_S8x2048x704_1_0_2
def stackW (Wg Wu : Into) : FVec Ideal S8x2x2048x704 .bf16 :=
  truncf .bf16 (concatenate S8x2x2048x704 1 [⟨S8x1x2048x704, broadcastInDim S8x1x2048x704 ![0, 2, 3] bcast_S8x2048x704_S8x1x2048x704_0_2_3 (cutW Wg)⟩,
    ⟨S8x1x2048x704, broadcastInDim S8x1x2048x704 ![0, 2, 3] bcast_S8x2048x704_S8x1x2048x704_0_2_3 (cutW Wu)⟩] concatenates_S8x1x2048x704_S8x1x2048x704_S8x2x2048x704_d1) bitsLt_bf16_f32

theorem cutW_at (W : Into) (j : Fin 8) (k : Fin 2048) (n : Fin 704) : cutW W (ix3 j k n) = tab (a := 2048) (b := 5632) (φ := .f32) W k.val (j.val * 704 + n.val) := by
  have e : cutW W (ix3 j k n) = W (ix2 k ⟨j.val * 704 + n.val, by omega⟩) := by
    pointwise [cutW]
  rw [e]
  exact tab_ix (a := 2048) (b := 5632) (φ := .f32) W k ⟨j.val * 704 + n.val, by omega⟩

theorem stackW_at (Wg Wu : Into) (j : Fin 8) (w : Fin 2) (k : Fin 2048) (n : Fin 704) : stackW Wg Wu (ix4 j w k n)
    = if w.val = 0 then tab (a := 2048) (b := 5632) (φ := .f32) Wg k.val (j.val * 704 + n.val) else tab (a := 2048) (b := 5632) (φ := .f32) Wu k.val (j.val * 704 + n.val) := by
  rw [← cutW_at, ← cutW_at]
  unfold stackW
  generalize cutW Wg = g
  generalize cutW Wu = p
  pointwise []
  simp only [Nat.lt_one_iff]
  rfl

theorem stackW_of (Wg Wu : Into) {y : S8x2x2048x704.Idx} {j w k n : ℕ} (h0 : (y 0).val = j) (h1 : (y 1).val = w) (h2 : (y 2).val = k) (h3 : (y 3).val = n) :
    stackW Wg Wu y = if w = 0 then tab (a := 2048) (b := 5632) (φ := .f32) Wg k (j * 704 + n) else tab (a := 2048) (b := 5632) (φ := .f32) Wu k (j * 704 + n) := by
  subst h0 h1 h2 h3
  exact (congrArg (stackW Wg Wu) (funext fun k => by fin_cases k <;> rfl)).trans (stackW_at Wg Wu (y 0) (y 1) (y 2) (y 3))

variable (m : (ℓ : Loc nD τ sig) → Buf (Elt Ideal) ℓ) (c : Dev nD)

abbrev argU : Rows := m ((c.tc : Thread nD τ).loc main_arg0)
abbrev argWg : Into := m ((c.tc : Thread nD τ).loc main_arg1)
abbrev argWu : Into := m ((c.tc : Thread nD τ).loc main_arg2)
abbrev argWd : Back := m ((c.tc : Thread nD τ).loc main_arg3)

theorem readW : @Eq (FVec Ideal S8x2x2048x704 .bf16) (V m c main_v7) (stackW (argWg m c) (argWu m c)) := by
  entry_read
  rfl
theorem readD : @Eq (FVec Ideal S8x704x2048 .bf16) (V m c main_v9) (truncf (F := Ideal) .bf16 (shapeCast S8x704x2048 (argWd m c) shapeCasts_S5632x2048_S8x704x2048) bitsLt_bf16_f32) := by
  entry_read
  rfl
theorem readU : @Eq (FVec Ideal S8192x2048 .bf16) (V m c main_v10) (truncf (F := Ideal) .bf16 (argU m c) bitsLt_bf16_f32) := by
  entry_read
  rfl

/-- Every window's block index at point `t`: the row block by the shard. -/
theorem idx : ∀ t : Fin cfg0.N, win0_0.index t = ![t.val / 8, 0] ∧ win0_1.index t = ![t.val % 8, 0, 0, 0] ∧ win0_2.index t = ![t.val % 8, 0, 0]
    ∧ win0_3.index t = ![0, t.val % 8, t.val / 8, 0] ∧ win0_4.index t = ![t.val / 8, 0] :=
  (by decide +kernel : ∀ t : Fin grid0.N, _)

theorem blk_u (A : FVec Ideal S8192x2048 .bf16) (t : Fin cfg0.N) (y : S512x2048.Idx) :
    ((cfg0.win 0).blk t).view.read (Elt Ideal) A y = A ((win0_0.blk t).view.emb y) := rfl
theorem blk_w (A : FVec Ideal S8x2x2048x704 .bf16) (t : Fin cfg0.N) (y : S1x2x2048x704.Idx) :
    ((cfg0.win 1).blk t).view.read (Elt Ideal) A y = A ((win0_1.blk t).view.emb y) := rfl
theorem blk_d (A : FVec Ideal S8x704x2048 .bf16) (t : Fin cfg0.N) (y : S1x704x2048.Idx) :
    ((cfg0.win 2).blk t).view.read (Elt Ideal) A y = A ((win0_2.blk t).view.emb y) := rfl

theorem u_at (t : Fin cfg0.N) (r : Fin 512) (k : Fin 2048) : iblk m c 0 t (ix2 r k : S512x2048.Idx)
    = tab (a := 8192) (b := 2048) (φ := .f32) (argU m c) (t.val / 8 * 512 + r.val) k.val := by
  unfold iblk
  rw [show V m c (Pipeline.arrRef spec0 0) = _ from readU m c]
  rw [blk_u]
  refine tab_of (a := 8192) (b := 2048) (φ := .f32) _ ?_ ?_
  all_goals blk_simp [idx t]

theorem w_at (t : Fin cfg0.N) (w : Fin 2) (k : Fin 2048) (n : Fin 704) : iblk m c 1 t (ix4 0 w k n : S1x2x2048x704.Idx)
    = if w.val = 0 then tab (a := 2048) (b := 5632) (φ := .f32) (argWg m c) k.val (t.val % 8 * 704 + n.val)
      else tab (a := 2048) (b := 5632) (φ := .f32) (argWu m c) k.val (t.val % 8 * 704 + n.val) := by
  unfold iblk
  rw [show V m c (Pipeline.arrRef spec0 1) = _ from readW m c]
  rw [blk_w, stackW_of (argWg m c) (argWu m c) (j := t.val % 8) (w := w.val) (k := k.val) (n := n.val)]
  all_goals blk_simp [idx t]
  simp

theorem d_at (t : Fin cfg0.N) (n : Fin 704) (k : Fin 2048) : iblk m c 2 t (ix3 0 n k : S1x704x2048.Idx)
    = tab (a := 5632) (b := 2048) (φ := .f32) (argWd m c) (t.val % 8 * 704 + n.val) k.val := by
  unfold iblk
  rw [show V m c (Pipeline.arrRef spec0 2) = _ from readD m c]
  rw [blk_d, FfnProof.rows_of _ (j := t.val % 8) (n := n.val) (k := k.val)]
  all_goals blk_simp [idx t]
  simp

end Cert.FfnFwdProof

end
-- ==== Proof.FfnFwdValue.lean ====
/- What the result arrays of the SwiGLU's forward call hold. -/
module

public import proofs.«01_k».proof.Proof.FfnFwdBlock
public import Idealize.ShloMosaic.Lib.Pipeline.ReadBack

@[expose] public section

noncomputable section

namespace Cert.FfnFwdProof

open FfnFwdIdeal FfnFwdIdeal.Gen Tables Idealize.ShloMosaic TcCoe Idealize.SL.Sem
open FfnProof (logi actAt)
open Idealize.ShloMosaic.Pipeline (Dat)

variable (m : (ℓ : Loc nD τ sig) → Buf (Elt Ideal) ℓ) (c : Dev nD)

/-- The halves of a shard's stacked matrices. -/
abbrev lo : Rect S1x2x2048x704 := Rect.unit (s := S1x2x2048x704) ![0, 0, 0, 0] ![1, 1, 2048, 704] inb_S1x2x2048x704_S1x1x2048x704_0_0_0_0
abbrev hi : Rect S1x2x2048x704 := Rect.unit (s := S1x2x2048x704) ![0, 1, 0, 0] ![1, 1, 2048, 704] inb_S1x2x2048x704_S1x1x2048x704_0_1_0_0

theorem ld_lo (x : Vec Ideal S1x2x2048x704 .bf16) (k : Fin 2048) (n : Fin 704) : (View.ld x lo : Vec Ideal S1x1x2048x704 .bf16) (ix4 0 0 k n) = x (ix4 0 0 k n) :=
  congrArg x (funext fun a => by fin_cases a <;> exact Fin.ext (by simp [Rect.emb_apply]))
theorem ld_hi (x : Vec Ideal S1x2x2048x704 .bf16) (k : Fin 2048) (n : Fin 704) : (View.ld x hi : Vec Ideal S1x1x2048x704 .bf16) (ix4 0 0 k n) = x (ix4 0 1 k n) :=
  congrArg x (funext fun a => by fin_cases a <;> exact Fin.ext (by simp [Rect.emb_apply]))

variable (t : Fin cfg0.N)

theorem g_at (r : Fin 512) (n : Fin 704) : k0_pay5 (F := Ideal) (iblk m c 0 t) (View.ld (iblk m c 1 t) lo) (ix2 r n)
    = dotU (argU m c) (argWg m c) (t.val / 8 * 512 + r.val) (t.val % 8 * 704 + n.val) := by
  rw [pay5_at]
  unfold dotU
  refine Finset.sum_congr rfl fun k _ => ?_
  rw [u_at, ld_lo, w_at]
  exact congrArg _ (if_pos rfl)
theorem p_at (r : Fin 512) (n : Fin 704) : k0_pay6 (F := Ideal) (iblk m c 0 t) (View.ld (iblk m c 1 t) hi) (ix2 r n)
    = dotU (argU m c) (argWu m c) (t.val / 8 * 512 + r.val) (t.val % 8 * 704 + n.val) := by
  rw [pay6_at]
  unfold dotU
  refine Finset.sum_congr rfl fun k _ => ?_
  rw [u_at, ld_hi, w_at]
  exact congrArg _ (if_neg one_ne_zero)

/-- A shard's share of the value. -/
def share (y : S512x2048.Idx) : EReal := ∑ n : Fin 704, actU (argU m c) (argWg m c) (argWu m c) (t.val / 8 * 512 + (y 0).val) (t.val % 8 * 704 + n.val)
  * tab (a := 5632) (b := 2048) (φ := .f32) (argWd m c) (t.val % 8 * 704 + n.val) (y 1).val

theorem share_at (y : S512x2048.Idx) : k0_pay9 (F := Ideal) (iblk m c 0 t) (View.ld (iblk m c 1 t) lo) (View.ld (iblk m c 1 t) hi) (iblk m c 2 t) y = share m c t y := by
  obtain ⟨r, l, rfl⟩ : ∃ (r : Fin 512) (l : Fin 2048), y = ix2 r l := ⟨y 0, y 1, funext fun k => by fin_cases k <;> rfl⟩
  rw [pay9_at]
  refine Finset.sum_congr rfl fun n _ => ?_
  rw [g_at, p_at, d_at]
  rfl

theorem sum_A (h : t.val % 8 = 0) (y : S512x2048.Idx) : (outsAt0 m c t.val t.isLt).2.2 y = 0 + share m c t y := by
  rw [outsAt0_A m c t h (by omega) (by omega), zero_add]
  frame_out
  rw [pay1_eq]
  exact share_at m c t y
theorem sum_BC (h : ¬t.val % 8 = 0) (y : S512x2048.Idx) :
    (outsAt0 m c t.val t.isLt).2.2 y = (outsAt0 m c (t.val - 1) (Nat.lt_of_le_of_lt (Nat.sub_le _ _) t.isLt)).2.2 y + share m c t y := by
  by_cases h7 : t.val % 8 = 7
  · rw [outsAt0_C m c t h (by omega) h7]
    frame_out
    rw [pay2_eq]
    exact congrArg₂ (· + ·) (congrFun (read_unread_whole cc0_scratch0 _ _) y) (share_at m c t y)
  · rw [outsAt0_B m c t h (by omega) h7]
    frame_out
    rw [pay2_eq]
    exact congrArg₂ (· + ·) (congrFun (read_unread_whole cc0_scratch0 _ _) y) (share_at m c t y)

theorem last_C (h : t.val % 8 = 7) (y : S512x2048.Idx) : (outsAt0 m c t.val t.isLt).2.1 y = (outsAt0 m c t.val t.isLt).2.2 y := by
  rw [outsAt0_C m c t (by omega) (by omega) h]
  frame_out
  rw [pay3_eq]

theorem final4 : (dats m 0 c).arrAt 4 (cfgs 0).N = OUTY (argU m c) (argWg m c) (argWu m c) (argWd m c) := by
  refine (dats m 0 c).arrAt_eq_of_covers 4 _ (by decide +kernel) fun t hf y => ?_
  have hN : t.val < 128 := lt_of_lt_of_eq t.isLt N_0
  have h7 : t.val % 8 = 7 := (flush0_4 t).mp hf
  have e0 : ((((cfg0.win 4).blk t).view.emb y) 0).val = t.val / 8 * 512 + (y 0).val := by blk_simp [idx t]
  have e1 : ((((cfg0.win 4).blk t).view.emb y) 1).val = (y 1).val := by blk_simp [idx t]
  rw [after0_4]
  refine (cast_eq _ _).trans ((last_C m c t h7 _).trans ?_)
  rw [Pipeline.eq_sum_fin_of_reset_step_apply_of_flush (fun n h => (outsAt0 m c n h).2.2) 8 (fun _ => 0) (share m c)
    (fun t h y => sum_A m c t h y) (fun t h y => sum_BC m c t h y) t h7, zero_add]
  unfold OUTY
  rw [e0, e1]
  refine Fin.sum_mul_add_congr fun s n hl => ?_
  have d : (8 * (t.val / 8) + s.val) / 8 = t.val / 8 := by omega
  have r : (8 * (t.val / 8) + s.val) % 8 = s.val := by omega
  show actU _ _ _ ((8 * (t.val / 8) + s.val) / 8 * 512 + (y 0).val) ((8 * (t.val / 8) + s.val) % 8 * 704 + n.val)
    * tab (a := 5632) (b := 2048) (φ := .f32) (argWd m c) ((8 * (t.val / 8) + s.val) % 8 * 704 + n.val) (y 1).val = _
  rw [d, r]

theorem two (p q : Vec Ideal S1x1x512x704 .bf16) (w : Fin 2) (r : Fin 512) (n : Fin 704) :
    (View.canon [⟨Rect.unit ![1, 0, 0, 0] ![1, 1, 512, 704] inb_S2x1x512x704_S1x1x512x704_1_0_0_0, p⟩, ⟨Rect.unit ![0, 0, 0, 0] ![1, 1, 512, 704] inb_S2x1x512x704_S1x1x512x704_0_0_0_0, q⟩] : Vec Ideal S2x1x512x704 .bf16) (ix4 w 0 r n)
    = if w.val = 0 then q (ix4 0 0 r n) else p (ix4 0 0 r n) := by
  generalize hz : (ix4 w 0 r n : S2x1x512x704.Idx) = z
  have z0 : (z 0).val = w.val := by rw [← hz]; rfl
  have z2 : (z 2).val = r.val := by rw [← hz]; rfl
  have z3 : (z 3).val = n.val := by rw [← hz]; rfl
  have key : ∀ x : S1x1x512x704.Idx, (x 2).val = r.val → (x 3).val = n.val → x = ix4 0 0 r n := fun x e2 e3 => by
    funext k; fin_cases k
    · exact Subsingleton.elim (α := Fin 1) _ _
    · exact Subsingleton.elim (α := Fin 1) _ _
    · exact Fin.ext e2
    · exact Fin.ext e3
  canon_tiles x h
  case piece0 =>
    rw [key x (by omega) (by omega), if_neg (by omega)]
  case piece1 =>
    rw [key x (by omega) (by omega), if_pos (by omega)]

theorem halves (w : Fin 2) (r : Fin 512) (n : Fin 704) : (outsAt0 m c t.val t.isLt).1 (ix4 w 0 r n)
    = if w.val = 0 then dotU (argU m c) (argWg m c) (t.val / 8 * 512 + r.val) (t.val % 8 * 704 + n.val)
      else dotU (argU m c) (argWu m c) (t.val / 8 * 512 + r.val) (t.val % 8 * 704 + n.val) := by
  rw [← g_at, ← p_at, ← pay7_at, ← pay8_at]
  by_cases h : t.val % 8 = 0
  · rw [outsAt0_A m c t h (by omega) (by omega)]
    frame_out
    exact two _ _ w r n
  · by_cases h7 : t.val % 8 = 7
    · rw [outsAt0_C m c t h (by omega) h7]
      frame_out
      exact two _ _ w r n
    · rw [outsAt0_B m c t h (by omega) h7]
      frame_out
      exact two _ _ w r n

theorem final3 : (dats m 0 c).arrAt 3 (cfgs 0).N = OUTG (argU m c) (argWg m c) (argWu m c) := by
  refine (dats m 0 c).arrAt_eq_of_covers 3 _ (by decide +kernel) fun t _ y => ?_
  rw [after0_3]
  refine (cast_eq _ _).trans ?_
  obtain ⟨w, hw⟩ : ∃ w : Fin 2, w = y 0 := ⟨y 0, rfl⟩
  obtain ⟨r, hr⟩ : ∃ r : Fin 512, r = y 2 := ⟨y 2, rfl⟩
  obtain ⟨n, hn⟩ : ∃ n : Fin 704, n = y 3 := ⟨y 3, rfl⟩
  have hy : (cfg0.win 3).xinj (cfg0.grid.coords t) y = (ix4 w 0 r n : S2x1x512x704.Idx) := by
    funext k; fin_cases k
    · exact hw.symm
    · exact Subsingleton.elim (α := Fin 1) _ _
    · exact hr.symm
    · exact hn.symm
  rw [hy, halves]
  unfold OUTG
  have h0 : ((((cfg0.win 3).blk t).view.emb y) 0).val = w.val := by rw [hw]; blk_simp [idx t]
  have h1 : ((((cfg0.win 3).blk t).view.emb y) 1).val = t.val % 8 := by blk_simp [idx t]
  have h2 : ((((cfg0.win 3).blk t).view.emb y) 2).val = t.val / 8 * 512 + r.val := by rw [hr]; blk_simp [idx t]
  have h3 : ((((cfg0.win 3).blk t).view.emb y) 3).val = n.val := by rw [hn]; blk_simp [idx t]
  rw [h0, h1, h2, h3]

end Cert.FfnFwdProof

end
-- ==== Proof.FfnFwdRef.lean ====
/- What the reference of the SwiGLU's forward call computes. -/
module

public import proofs.«01_k».proof.Proof.Gen.FfnFwdRefIdeal.Run
public import proofs.«01_k».proof.Proof.FfnRef
public import proofs.«01_k».proof.Proof.FfnFwdBlock

@[expose] public section

noncomputable section

namespace Cert.FfnFwdProof

open FfnFwdRefIdeal FfnFwdRefIdeal.Gen Tables Idealize.ShloMosaic TcCoe Idealize.SL.Sem
open FfnProof (Wide logi actAt)

def INTO (U : Rows) (W : Into) : Wide := Host.dotGeneral (F := Ideal) (φ₁ := .f32) (φ₂ := .f32) dot_S8192x2048_S2048x5632_S8192x5632_1_0_0_1_n_n none U W
def REFG (U : Rows) (Wg Wu : Into) : FVec Ideal S2x8x8192x704 .bf16 :=
  truncf .bf16 (FfnProof.PAIR (FfnProof.CUT (INTO U Wg)) (FfnProof.CUT (INTO U Wu))) bitsLt_bf16_f32
def REFY (U : Rows) (Wg Wu : Into) (Wd : Back) : FVec Ideal S8192x2048 .bf16 :=
  truncf .bf16 (Host.dotGeneral (F := Ideal) (φ₁ := .f32) (φ₂ := .f32) dot_S8192x5632_S5632x2048_S8192x2048_1_0_0_1_n_n none (FfnProof.REFA (INTO U Wg) (INTO U Wu)) Wd) bitsLt_bf16_f32

theorem into_at (U : Rows) (W : Into) (i : Fin 8192) (e : Fin 5632) : INTO U W (ix2 i e) = dotU U W i.val e.val := by
  pointwise [INTO]
  unfold dotU
  exact Finset.sum_congr rfl fun k _ => congrArg₂ _ (tab_ix (a := 8192) (b := 2048) (φ := .f32) U i k) (tab_ix (a := 2048) (b := 5632) (φ := .f32) W k e)

theorem REFG_eq (U : Rows) (Wg Wu : Into) : REFG U Wg Wu = OUTG U Wg Wu := by
  funext y
  obtain ⟨w, j, i, n, rfl⟩ : ∃ (w : Fin 2) (j : Fin 8) (i : Fin 8192) (n : Fin 704), y = ix4 w j i n := ⟨y 0, y 1, y 2, y 3, funext fun k => by fin_cases k <;> rfl⟩
  unfold REFG
  rw [FfnProof.round4, FfnProof.PAIR_at, FfnProof.CUT_at, FfnProof.CUT_at, into_at, into_at]
  rfl

theorem back_at (z : Wide) (Wd : Back) (i : Fin 8192) (l : Fin 2048) :
    Host.dotGeneral (F := Ideal) (φ₁ := .f32) (φ₂ := .f32) dot_S8192x5632_S5632x2048_S8192x2048_1_0_0_1_n_n none z Wd (ix2 i l) = ∑ e : Fin 5632, z (ix2 i e) * Wd (ix2 e l) := by
  pointwise []

theorem roundY (x : FVec Ideal S8192x2048 .f32) (y : S8192x2048.Idx) : truncf .bf16 x bitsLt_bf16_f32 y = x y := rfl

theorem REFY_eq (U : Rows) (Wg Wu : Into) (Wd : Back) : REFY U Wg Wu Wd = OUTY U Wg Wu Wd := by
  funext y
  obtain ⟨i, l, rfl⟩ : ∃ (i : Fin 8192) (l : Fin 2048), y = ix2 i l := ⟨y 0, y 1, funext fun k => by fin_cases k <;> rfl⟩
  unfold REFY
  rw [roundY, back_at]
  refine Finset.sum_congr rfl fun e _ => ?_
  rw [FfnProof.REFA_at, into_at, into_at]
  exact congrArg _ (tab_ix (a := 5632) (b := 2048) (φ := .f32) Wd e l)

end Cert.FfnFwdProof

end
-- ==== Proof.FfnFwdClaims.lean ====
/- The claims about the SwiGLU's forward call. -/
module
public import proofs.«01_k».proof.Defs
public import proofs.«01_k».proof.Proof.FfnFwdValue
public import proofs.«01_k».proof.Proof.FfnFwdRef
public import proofs.«01_k».proof.Proof.Gen.FfnFwd.Frame

@[expose] public section
noncomputable section
namespace Cert.FfnFwdProof
open Idealize.ShloMosaic Idealize.SL.Sem

/-- The frame of the reference. -/
theorem ref_frame : quiescent_FfnFwdRefIdeal := fun m ρ _ =>
  (θ_run FfnFwdRefIdeal.defs _ _).mono (fun r h => ⟨fun c => (h c).2.2, sem_eq_zero_of_no_sems (by decide) r.2⟩)
    (FfnFwdRefIdeal.Value.run (F := Ideal) m ρ)

/-- The call's two results are the reference's, at any arguments. -/
theorem algebraic : algebraic_FfnFwdIdeal_FfnFwdRefIdeal := fun m ρ m' ρ' _ hag =>
  ⟨fun c => OUTG (argU m c) (argWg m c) (argWu m c), fun c => OUTY (argU m c) (argWg m c) (argWu m c) (argWd m c),
   (θ_run FfnFwdIdeal.defs _ _).mono (fun _ h c => ⟨(h c).1.trans (final3 m c), (h c).2.1.trans (final4 m c), (h c).2.2⟩)
     (FfnFwdIdeal.Value.run_blocks (F := Ideal) m ρ),
   (θ_run FfnFwdRefIdeal.defs _ _).mono (fun _ h c => by
       obtain ⟨e0, e1, e2, e3⟩ := hag c
       refine ⟨(h c).1.trans ?_, (h c).2.1.trans ?_, (h c).2.2⟩
       · rw [e0, e1, e2]
         exact REFG_eq (argU m c) (argWg m c) (argWu m c)
       · rw [e0, e1, e2, e3]
         exact REFY_eq (argU m c) (argWg m c) (argWu m c) (argWd m c))
     (FfnFwdRefIdeal.Value.run (F := Ideal) m' ρ')⟩
-- ==== Proof.ModProjValue.lean ====
/- The modulation's projection: what one block computes, what the result array holds, and what the reference computes. -/
module

public import proofs.«01_k».proof.Proof.Gen.ModProjIdeal.Value
public import proofs.«01_k».proof.Proof.Gen.ModProjRefIdeal.Run
public import proofs.«01_k».proof.Proof.Silu

@[expose] public section

noncomputable section

namespace Cert.ModProjProof

open Idealize.ShloMosaic TcCoe Idealize.SL.Sem
open FfnProof (logi)
open Silu

section Kernel
open ModProjIdeal ModProjIdeal.Gen

abbrev Cond : Type := FVec Ideal S8x2048 .f32
abbrev Mats : Type := FVec Ideal S4x2048x1536 .f32
abbrev Outs : Type := FVec Ideal S4x16x1536 .f32

/-- The projection of the eight rows; the rows below are zero. -/
def OUT (C : Cond) (W : Mats) : Outs := fun y =>
  if h : (y 1).val < 8 then ∑ d : Fin 2048, C (ix2 ⟨(y 1).val, h⟩ d) * logi (C (ix2 ⟨(y 1).val, h⟩ d)) * W (ix3 (y 0) d (y 2)) else 0

theorem out_pos (C : Cond) (W : Mats) (l : Fin 4) (r : Fin 16) (n : Fin 1536) (h : r.val < 8) :
    OUT C W (ix3 l r n) = ∑ d : Fin 2048, C (ix2 ⟨r.val, h⟩ d) * logi (C (ix2 ⟨r.val, h⟩ d)) * W (ix3 l d n) := by
  unfold OUT
  exact dif_pos (show ((ix3 l r n : S4x16x1536.Idx) 1).val < 8 from h)
theorem out_neg (C : Cond) (W : Mats) (l : Fin 4) (r : Fin 16) (n : Fin 1536) (h : ¬r.val < 8) : OUT C W (ix3 l r n) = 0 := by
  unfold OUT
  exact dif_neg (show ¬((ix3 l r n : S4x16x1536.Idx) 1).val < 8 from h)

theorem pay_at (x : Vec Ideal S16x2048 .f32) (w : Vec Ideal S1x2048x256 .f32) (r : Fin 16) (n : Fin 256) :
    k0_pay1 (F := Ideal) x w (ix3 0 r n) = ∑ d : Fin 2048, Ideal.div (x (ix2 r d)) (1 + Ideal.exp (0 - x (ix2 r d))) * w (ix3 0 d n) := by
  pointwise [k0_pay1]

/-- The eight rows and eight rows of zeros. -/
def PAD (C : Cond) : FVec Ideal S16x2048 .f32 :=
  concatenate S16x2048 0 [⟨S8x2048, C⟩, ⟨S8x2048, broadcastInDim S8x2048 ![] bcast_S_S8x2048 (constant (F := Ideal) S_ .f32 0x00000000#32)⟩] concatenates_S8x2048_S8x2048_S16x2048_d0

theorem pad_at (C : Cond) (r : Fin 16) (d : Fin 2048) : PAD C (ix2 r d) = if h : r.val < 8 then C (ix2 ⟨r.val, h⟩ d) else 0 := by
  pointwise [PAD]

theorem idx : ∀ t : Fin cfg0.N, win0_0.index t = ![0, 0] ∧ win0_1.index t = ![t.val / 6, 0, t.val % 6] ∧ win0_2.index t = ![t.val / 6, 0, t.val % 6] :=
  (by decide +kernel : ∀ t : Fin grid0.N, _)

variable (m : (ℓ : Loc nD τ sig) → Buf (Elt Ideal) ℓ) (c : Dev nD)

def argC : Cond := m ((c.tc : Thread nD τ).loc main_arg0)
def argW : Mats := m ((c.tc : Thread nD τ).loc main_arg1)

theorem readC : @Eq (FVec Ideal S16x2048 .f32) (V m c main_v1) (PAD (argC m c)) := by
  entry_read
  rfl

variable (t : Fin cfg0.N)

theorem lt24 : t.val < 24 := lt_of_lt_of_eq t.isLt N_0

theorem readA (A : FVec Ideal S16x2048 .f32) (y : S16x2048.Idx) : ((cfg0.win 0).blk t).view.read (Elt Ideal) A y = A ((win0_0.blk t).view.emb y) := rfl

theorem blkC (r : Fin 16) (d : Fin 2048) : (iblk m c 0 t : FVec Ideal S16x2048 .f32) (ix2 r d) = PAD (argC m c) (ix2 r d) := by
  unfold iblk
  rw [show V m c (Pipeline.arrRef spec0 0) = _ from readC m c]
  rw [readA]
  refine congrArg (PAD (argC m c)) (funext fun k => ?_)
  fin_cases k <;> refine Fin.ext ?_
  all_goals blk_simp [idx t]
theorem blkW (d : Fin 2048) (n : Fin 256) : (iblk m c 1 t : FVec Ideal S1x2048x256 .f32) (ix3 0 d n)
    = argW m c (ix3 ⟨t.val / 6, by have := lt24 t; omega⟩ d ⟨t.val % 6 * 256 + n.val, by omega⟩) := by
  blk_point [iblk, V, idx t, argW]

theorem out_at (r : Fin 16) (n : Fin 256) : (out0_2 (iblk m c 0 t) (iblk m c 1 t) : FVec Ideal S1x16x256 .f32) (ix3 0 r n)
    = OUT (argC m c) (argW m c) (ix3 ⟨t.val / 6, by have := lt24 t; omega⟩ r ⟨t.val % 6 * 256 + n.val, by omega⟩) := by
  frame_out
  rw [pay_at]
  simp only [blkW, blkC, pad_at]
  by_cases h : r.val < 8
  · rw [out_pos _ _ _ _ _ h]
    simp only [dif_pos h, silu_eq]
  · rw [out_neg _ _ _ _ _ h]
    simp only [dif_neg h, silu_zero, zero_mul, Finset.sum_const_zero]

theorem final2 : (dats m 0 c).arrAt 2 (cfgs 0).N = OUT (argC m c) (argW m c) := by
  refine (dats m 0 c).arrAt_eq_of_covers 2 _ (by decide +kernel) fun t _ y => ?_
  have hN := lt24 t
  have h0 : (y 0).val < 1 := (y 0).isLt
  have he : ((cfg0.win 2).blk t).view.emb y = (ix3 ⟨t.val / 6, by omega⟩ (y 1) ⟨t.val % 6 * 256 + (y 2).val, by have : (y 2).val < 256 := (y 2).isLt; omega⟩ : S4x16x1536.Idx) := by
    funext k; fin_cases k <;> refine Fin.ext ?_
    · show ((((cfg0.win 2).blk t).view.emb y) 0).val = t.val / 6
      blk_simp [idx t]
    · show ((((cfg0.win 2).blk t).view.emb y) 1).val = (y 1).val
      blk_simp [idx t]
    · show ((((cfg0.win 2).blk t).view.emb y) 2).val = t.val % 6 * 256 + (y 2).val
      blk_simp [idx t]
  rw [he, after0_2]
  refine (cast_eq _ _).trans (Eq.trans (congrArg _ ?_) (out_at m c t (y 1) (y 2)))
  funext k; fin_cases k
  · exact Fin.ext (by show (y 0).val = 0; omega)
  · rfl
  · rfl

end Kernel

section Reference
open ModProjRefIdeal ModProjRefIdeal.Gen

def one : FVec Ideal S8x2048 .f32 := broadcastInDim S8x2048 ![] bcast_S_S8x2048 (constant (F := Ideal) S_ .f32 0x3F800000#32)
def GATED (C : Cond) : FVec Ideal S8x2048 .f32 := mulf C (Host.divf one (addf one (Host.exp (Host.negf C))))
def ROWS (C : Cond) (W : Mats) : FVec Ideal S4x8x1536 .f32 :=
  transpose S4x8x1536 [0, 2, 1] (Host.dotGeneral dot_S4x2048x1536_S8x2048_S4x1536x8_1_1_02_0_n_n none W (GATED C)) transposes_S4x1536x8_S4x8x1536_0_2_1
def REF (C : Cond) (W : Mats) : Outs :=
  concatenate S4x16x1536 1 [⟨S4x8x1536, ROWS C W⟩, ⟨S4x8x1536, broadcastInDim S4x8x1536 ![] bcast_S_S4x8x1536 (constant (F := Ideal) S_ .f32 0x00000000#32)⟩]
    concatenates_S4x8x1536_S4x8x1536_S4x16x1536_d1

theorem gated_at (C : Cond) (y : S8x2048.Idx) : GATED C y = C y * logi (C y) := by
  pointwise [GATED, one, logi]
  rw [zero_sub]

theorem rows_at (C : Cond) (W : Mats) (l : Fin 4) (r : Fin 8) (n : Fin 1536) :
    ROWS C W (ix3 l r n) = ∑ d : Fin 2048, C (ix2 r d) * logi (C (ix2 r d)) * W (ix3 l d n) := by
  unfold ROWS
  generalize hz : GATED C = z
  pointwise []
  subst hz
  refine Finset.sum_congr rfl fun d _ => ?_
  rw [gated_at, mul_comm]

theorem REF_eq (C : Cond) (W : Mats) : REF C W = OUT C W := by
  funext y
  obtain ⟨l, r, n, rfl⟩ : ∃ (l : Fin 4) (r : Fin 16) (n : Fin 1536), y = ix3 l r n := ⟨y 0, y 1, y 2, funext fun k => by fin_cases k <;> rfl⟩
  have e : REF C W (ix3 l r n) = if h : r.val < 8 then ROWS C W (ix3 l ⟨r.val, h⟩ n) else 0 := by
    unfold REF
    generalize ROWS C W = z
    pointwise []
  rw [e]
  by_cases h : r.val < 8
  · rw [dif_pos h, rows_at, out_pos _ _ _ _ _ h]
  · rw [dif_neg h, out_neg _ _ _ _ _ h]

end Reference

end Cert.ModProjProof

end
-- ==== Proof.ModProjClaims.lean ====
/- The claims about the modulation's projection. -/
module
public import proofs.«01_k».proof.Defs
public import proofs.«01_k».proof.Proof.ModProjValue
public import proofs.«01_k».proof.Proof.Gen.ModProj.Frame

@[expose] public section
noncomputable section
namespace Cert.ModProjProof
open Idealize.ShloMosaic Idealize.SL.Sem

/-- The frame of the reference. -/
theorem ref_frame : quiescent_ModProjRefIdeal := fun m ρ _ =>
  (θ_run ModProjRefIdeal.defs _ _).mono (fun r h => ⟨fun c => (h c).2, sem_eq_zero_of_no_sems (by decide) r.2⟩)
    (ModProjRefIdeal.Value.run (F := Ideal) m ρ)

/-- The call's result is the reference's, at any arguments. -/
theorem algebraic : algebraic_ModProjIdeal_ModProjRefIdeal := fun m ρ m' ρ' _ hag =>
  ⟨fun c => OUT (argC m c) (argW m c),
   (θ_run ModProjIdeal.defs _ _).mono (fun _ h c => ⟨(h c).1.trans (final2 m c), (h c).2⟩)
     (ModProjIdeal.Value.run_blocks (F := Ideal) m ρ),
   (θ_run ModProjRefIdeal.defs _ _).mono (fun _ h c => ⟨(h c).1.trans (by
       obtain ⟨e0, e1⟩ := hag c
       rw [e0, e1]
       exact REF_eq (argC m c) (argW m c)), (h c).2⟩)
     (ModProjRefIdeal.Value.run (F := Ideal) m' ρ')⟩
-- ==== Proof.Products.lean ====
/- The entries of the three products of two matrices, of the first with the second, of the first with the second turned and
   of the first turned with the second, at natural numbers; and their sums by blocks. -/
module

public import proofs.«01_k».proof.Proof.Tables

@[expose] public section

noncomputable section

namespace Cert.Products

open Idealize.ShloMosaic Tables

variable {a b n : ℕ}

/-- An array of extended reals with two axes. -/
abbrev Mat (a b : ℕ) : Type := FVec Ideal ⟨2, ![a, b]⟩ .f32

/-- An index of two axes is its two coordinates. -/
theorem ix2_of (y : Shape.Idx ⟨2, ![a, b]⟩) : ∃ (r : Fin a) (l : Fin b), y = ix2 r l := ⟨y 0, y 1, funext fun k => by fin_cases k <;> rfl⟩

def nn (A : Mat a n) (B : Mat n b) (i j : ℕ) : EReal := ∑ k : Fin n, tab A i k.val * tab B k.val j
def nt (A : Mat a n) (B : Mat b n) (i j : ℕ) : EReal := ∑ k : Fin n, tab A i k.val * tab B j k.val
def tn (A : Mat n a) (B : Mat n b) (i j : ℕ) : EReal := ∑ k : Fin n, tab A k.val i * tab B k.val j

theorem nn_ix (A : Mat a n) (B : Mat n b) (i : Fin a) (j : Fin b) : ∑ k : Fin n, A (ix2 i k) * B (ix2 k j) = nn A B i.val j.val :=
  Finset.sum_congr rfl fun k _ => congrArg₂ _ (tab_ix A i k) (tab_ix B k j)
theorem nt_ix (A : Mat a n) (B : Mat b n) (i : Fin a) (j : Fin b) : ∑ k : Fin n, A (ix2 i k) * B (ix2 j k) = nt A B i.val j.val :=
  Finset.sum_congr rfl fun k _ => congrArg₂ _ (tab_ix A i k) (tab_ix B j k)
theorem tn_ix (A : Mat n a) (B : Mat n b) (i : Fin a) (j : Fin b) : ∑ k : Fin n, A (ix2 k i) * B (ix2 k j) = tn A B i.val j.val :=
  Finset.sum_congr rfl fun k _ => congrArg₂ _ (tab_ix A k i) (tab_ix B k j)

/-- The products as sums over blocks of the inner axis. -/
theorem nt_blocks (A : Mat a n) (B : Mat b n) (i j S w : ℕ) (h : n = S * w) :
    ∑ s : Fin S, ∑ k : Fin w, tab A i (s.val * w + k.val) * tab B j (s.val * w + k.val) = nt A B i j :=
  Fin.sum_mul_add_congr (fun _ _ _ => rfl) h
theorem tn_blocks (A : Mat n a) (B : Mat n b) (i j S w : ℕ) (h : n = S * w) :
    ∑ s : Fin S, ∑ k : Fin w, tab A (s.val * w + k.val) i * tab B (s.val * w + k.val) j = tn A B i j :=
  Fin.sum_mul_add_congr (fun _ _ _ => rfl) h

end Cert.Products

end
-- ==== Proof.ProjShards.lean ====
/- The projection's matrix as the calls take it: cut into eight shards of 768 columns. -/
module

public import proofs.«01_k».proof.Proof.Gen.ProjFwdIdeal.Value
public import proofs.«01_k».proof.Proof.Products

@[expose] public section

noncomputable section

namespace Cert.ProjShards

open Tables Products Idealize.ShloMosaic ProjFwdIdeal ProjFwdIdeal.Gen

def SHARDS (W : Mat 2048 6144) : FVec Ideal S8x1x2048x768 .bf16 :=
  truncf .bf16 (broadcastInDim S8x1x2048x768 ![0, 2, 3] bcast_S8x2048x768_S8x1x2048x768_0_2_3
    (transpose S8x2048x768 [1, 0, 2] (shapeCast S2048x8x768 W shapeCasts_S2048x6144_S2048x8x768) transposes_S2048x8x768_S8x2048x768_1_0_2)) bitsLt_bf16_f32

theorem shards_at (W : Mat 2048 6144) (j : Fin 8) (k : Fin 2048) (n : Fin 768) : SHARDS W (ix4 j 0 k n) = W (ix2 k ⟨j.val * 768 + n.val, by omega⟩) := by
  pointwise [SHARDS]

theorem shards_of (W : Mat 2048 6144) {y : S8x1x2048x768.Idx} {j k n : ℕ} (h0 : (y 0).val = j) (h2 : (y 2).val = k) (h3 : (y 3).val = n) :
    SHARDS W y = tab W k (j * 768 + n) := by
  subst h0 h2 h3
  refine Eq.trans (congrArg (SHARDS W) (funext fun k => ?_)) ((shards_at W (y 0) (y 2) (y 3)).trans (tab_ix W (y 2) ⟨(y 0).val * 768 + (y 3).val, _⟩))
  fin_cases k
  · rfl
  · exact Fin.ext (by simp)
  · rfl
  · rfl

end Cert.ProjShards

end
-- ==== Proof.ProjFwdClaims.lean ====
/- The convolution's input projection: the call, its reference and the claims. -/
module
public import proofs.«01_k».proof.Defs
public import proofs.«01_k».proof.Proof.Gen.ProjFwdRefIdeal.Run
public import proofs.«01_k».proof.Proof.Gen.ProjFwd.Frame
public import proofs.«01_k».proof.Proof.ProjShards

@[expose] public section
noncomputable section
namespace Cert.ProjFwdProof
open Tables Products ProjShards Idealize.ShloMosaic TcCoe Idealize.SL.Sem

section Kernel
open ProjFwdIdeal ProjFwdIdeal.Gen

/-- The product, entry by entry. -/
def PROD (U : Mat 8192 2048) (W : Mat 2048 6144) : FVec Ideal S8192x6144 .f32 := fun y => nn U W (y 0).val (y 1).val

variable (m : (ℓ : Loc nD τ sig) → Buf (Elt Ideal) ℓ) (c : Dev nD)

abbrev argU : Mat 8192 2048 := m ((c.tc : Thread nD τ).loc main_arg0)
abbrev argW : Mat 2048 6144 := m ((c.tc : Thread nD τ).loc main_arg1)

theorem pay_at (v0 : Vec Ideal S1024x2048 .bf16) (v2 : Vec Ideal S1x1x2048x768 .bf16) (r : Fin 1024) (l : Fin 768) :
    k0_pay1 (F := Ideal) v0 v2 (ix2 r l) = ∑ k : Fin 2048, v0 (ix2 r k) * v2 (ix4 0 0 k l) := by
  pointwise [k0_pay1]

/-- Every window's block index at point `t`: the row block by the shard. -/
theorem idx : ∀ t : Fin cfg0.N, win0_0.index t = ![t.val / 8, 0] ∧ win0_1.index t = ![t.val % 8, 0, 0, 0] ∧ win0_2.index t = ![t.val / 8, t.val % 8] :=
  (by decide +kernel : ∀ t : Fin grid0.N, _)

theorem readW : @Eq (FVec Ideal S8x1x2048x768 .bf16) (V m c main_v4) (SHARDS (argW m c)) := by
  entry_read
  rfl
theorem readU : @Eq (FVec Ideal S8192x2048 .bf16) (V m c main_v0) (truncf (F := Ideal) .bf16 (argU m c) bitsLt_bf16_f32) := by
  entry_read
  rfl

variable (t : Fin cfg0.N)

theorem blk_u (A : FVec Ideal S8192x2048 .bf16) (y : S1024x2048.Idx) : ((cfg0.win 0).blk t).view.read (Elt Ideal) A y = A ((win0_0.blk t).view.emb y) := rfl
theorem blk_w (A : FVec Ideal S8x1x2048x768 .bf16) (y : S1x1x2048x768.Idx) : ((cfg0.win 1).blk t).view.read (Elt Ideal) A y = A ((win0_1.blk t).view.emb y) := rfl

theorem u_at (r : Fin 1024) (k : Fin 2048) : iblk m c 0 t (ix2 r k : S1024x2048.Idx) = tab (argU m c) (t.val / 8 * 1024 + r.val) k.val := by
  unfold iblk
  rw [show V m c (Pipeline.arrRef spec0 0) = _ from readU m c]
  rw [blk_u]
  refine tab_of (argU m c) ?_ ?_
  all_goals blk_simp [idx t]
theorem w_at (k : Fin 2048) (n : Fin 768) : iblk m c 1 t (ix4 0 0 k n : S1x1x2048x768.Idx) = tab (argW m c) k.val (t.val % 8 * 768 + n.val) := by
  unfold iblk
  rw [show V m c (Pipeline.arrRef spec0 1) = _ from readW m c]
  rw [blk_w, shards_of (argW m c) (j := t.val % 8) (k := k.val) (n := n.val)]
  all_goals blk_simp [idx t]
  simp

theorem out_at (y : S1024x768.Idx) : out0_2 (iblk m c 0 t) (iblk m c 1 t) y
    = nn (argU m c) (argW m c) (t.val / 8 * 1024 + (y 0).val) (t.val % 8 * 768 + (y 1).val) := by
  obtain ⟨r, l, rfl⟩ := ix2_of y
  frame_out
  rw [pay_at]
  exact Finset.sum_congr rfl fun k _ => congrArg₂ (· * ·) (u_at m c t r k) (w_at m c t k l)

theorem final : (dats m 0 c).arrAt 2 (cfgs 0).N = PROD (argU m c) (argW m c) := by
  refine (dats m 0 c).arrAt_eq_of_covers 2 _ (by decide +kernel) fun t _ y => ?_
  have e0 : ((((cfg0.win 2).blk t).view.emb y) 0).val = t.val / 8 * 1024 + (y 0).val := by blk_simp [idx t]
  have e1 : ((((cfg0.win 2).blk t).view.emb y) 1).val = t.val % 8 * 768 + (y 1).val := by blk_simp [idx t]
  rw [after0_2]
  refine (cast_eq _ _).trans ((out_at m c t _).trans ?_)
  unfold PROD
  rw [e0, e1]

end Kernel

section Reference
open ProjFwdRefIdeal ProjFwdRefIdeal.Gen

def REF (U : Mat 8192 2048) (W : Mat 2048 6144) : FVec Ideal S8192x6144 .f32 :=
  Host.dotGeneral (F := Ideal) (φ₁ := .f32) (φ₂ := .f32) dot_S8192x2048_S2048x6144_S8192x6144_1_0_0_1_n_n none U W

theorem REF_eq (U : Mat 8192 2048) (W : Mat 2048 6144) : REF U W = PROD U W := by
  funext y
  obtain ⟨r, l, rfl⟩ := ix2_of (a := 8192) (b := 6144) y
  refine Eq.trans ?_ (nn_ix U W r l)
  pointwise [REF]

end Reference

/-- The frame of the reference. -/
theorem ref_frame : quiescent_ProjFwdRefIdeal := fun m ρ _ =>
  (θ_run ProjFwdRefIdeal.defs _ _).mono (fun r h => ⟨fun c => (h c).2, sem_eq_zero_of_no_sems (by decide) r.2⟩)
    (ProjFwdRefIdeal.Value.run (F := Ideal) m ρ)

/-- The call's result is the reference's, at any arguments. -/
theorem algebraic : algebraic_ProjFwdIdeal_ProjFwdRefIdeal := fun m ρ m' ρ' _ hag =>
  ⟨fun c => PROD (argU m c) (argW m c),
   (θ_run ProjFwdIdeal.defs _ _).mono (fun _ h c => ⟨(h c).1.trans (final m c), (h c).2⟩)
     (ProjFwdIdeal.Value.run_blocks (F := Ideal) m ρ),
   (θ_run ProjFwdRefIdeal.defs _ _).mono (fun _ h c => ⟨(h c).1.trans (by
       obtain ⟨e0, e1⟩ := hag c
       rw [e0, e1]
       exact REF_eq (argU m c) (argW m c)), (h c).2⟩)
     (ProjFwdRefIdeal.Value.run (F := Ideal) m' ρ')⟩
-- ==== Proof.ProjBwdXClaims.lean ====
/- The gradient of the convolution's input projection by the rows: the call, its reference and the claims. -/
module
public import proofs.«01_k».proof.Defs
public import proofs.«01_k».proof.Proof.ProjShards
public import proofs.«01_k».proof.Proof.Gen.ProjBwdXIdeal.Value
public import proofs.«01_k».proof.Proof.Gen.ProjBwdXRefIdeal.Run
public import proofs.«01_k».proof.Proof.Gen.ProjBwdX.Frame
public import Idealize.ShloMosaic.Lib.Pipeline.ReadBack

@[expose] public section
noncomputable section
namespace Cert.ProjBwdXProof
open Tables Products ProjShards Idealize.ShloMosaic TcCoe Idealize.SL.Sem

section Kernel
open ProjBwdXIdeal ProjBwdXIdeal.Gen

/-- The product, entry by entry. -/
def PROD (D : Mat 8192 6144) (W : Mat 2048 6144) : FVec Ideal S8192x2048 .f32 := fun y => nt D W (y 0).val (y 1).val

variable (m : (ℓ : Loc nD τ sig) → Buf (Elt Ideal) ℓ) (c : Dev nD)

abbrev argW : Mat 2048 6144 := m ((c.tc : Thread nD τ).loc main_arg0)
abbrev argD : Mat 8192 6144 := m ((c.tc : Thread nD τ).loc main_arg1)

/-- The payloads: the block's product, put into the running sum, added to it. -/
theorem pay1_at (v0 : Vec Ideal S1024x768 .bf16) (v2 : Vec Ideal S1x1x2048x768 .bf16) (r : Fin 1024) (l : Fin 2048) :
    k0_pay1 (F := Ideal) v0 v2 (ix2 r l) = ∑ k : Fin 768, v0 (ix2 r k) * v2 (ix4 0 0 l k) := by
  pointwise [k0_pay1]
theorem pay2_eq (v0 : Vec Ideal S1024x768 .bf16) (v2 : Vec Ideal S1x1x2048x768 .bf16) : k0_pay2 (F := Ideal) v0 v2 = k0_pay1 v0 v2 := shapeCast_self _ _
theorem pay3_eq (v0 : Vec Ideal S1024x768 .bf16) (v2 : Vec Ideal S1x1x2048x768 .bf16) (a : Vec Ideal S1024x2048 .f32) : k0_pay3 (F := Ideal) v0 v2 a = addf a (k0_pay1 v0 v2) := shapeCast_self _ _

/-- Every window's block index at point `t`. -/
theorem idx : ∀ t : Fin cfg0.N, win0_0.index t = ![t.val / 8, t.val % 8] ∧ win0_1.index t = ![t.val % 8, 0, 0, 0] ∧ win0_2.index t = ![t.val / 8, 0] :=
  (by decide +kernel : ∀ t : Fin grid0.N, _)

theorem readW : @Eq (FVec Ideal S8x1x2048x768 .bf16) (V m c main_v4) (SHARDS (argW m c)) := by
  entry_read
  rfl
theorem readD : @Eq (FVec Ideal S8192x6144 .bf16) (V m c main_v0) (truncf (F := Ideal) .bf16 (argD m c) bitsLt_bf16_f32) := by
  entry_read
  rfl

variable (t : Fin cfg0.N)

theorem lt_N : t.val < 64 := lt_of_lt_of_eq t.isLt N_0

theorem blk_d (A : FVec Ideal S8192x6144 .bf16) (y : S1024x768.Idx) : ((cfg0.win 0).blk t).view.read (Elt Ideal) A y = A ((win0_0.blk t).view.emb y) := rfl
theorem blk_w (A : FVec Ideal S8x1x2048x768 .bf16) (y : S1x1x2048x768.Idx) : ((cfg0.win 1).blk t).view.read (Elt Ideal) A y = A ((win0_1.blk t).view.emb y) := rfl

theorem d_at (r : Fin 1024) (k : Fin 768) : iblk m c 0 t (ix2 r k : S1024x768.Idx) = tab (argD m c) (t.val / 8 * 1024 + r.val) (t.val % 8 * 768 + k.val) := by
  unfold iblk
  rw [show V m c (Pipeline.arrRef spec0 0) = _ from readD m c]
  rw [blk_d]
  refine tab_of (argD m c) ?_ ?_
  all_goals blk_simp [idx t]

theorem w_at (l : Fin 2048) (k : Fin 768) : iblk m c 1 t (ix4 0 0 l k : S1x1x2048x768.Idx) = tab (argW m c) l.val (t.val % 8 * 768 + k.val) := by
  unfold iblk
  rw [show V m c (Pipeline.arrRef spec0 1) = _ from readW m c]
  rw [blk_w, shards_of (argW m c) (j := t.val % 8) (k := l.val) (n := k.val)]
  all_goals blk_simp [idx t]
  simp

/-- What a point adds to the running sum. -/
def share (y : S1024x2048.Idx) : EReal := ∑ k : Fin 768, tab (argD m c) (t.val / 8 * 1024 + (y 0).val) (t.val % 8 * 768 + k.val)
  * tab (argW m c) (y 1).val (t.val % 8 * 768 + k.val)

theorem share_at (y : S1024x2048.Idx) : k0_pay1 (F := Ideal) (iblk m c 0 t) (iblk m c 1 t) y = share m c t y := by
  obtain ⟨r, l, rfl⟩ := ix2_of (a := 1024) (b := 2048) y
  rw [pay1_at]
  exact Finset.sum_congr rfl fun k _ => congrArg₂ (· * ·) (d_at m c t r k) (w_at m c t l k)

theorem first (h : t.val % 8 = 0) (y : S1024x2048.Idx) : (outsAt0 m c t.val t.isLt).2 y = 0 + share m c t y := by
  rw [outsAt0_A m c t h (by omega) (by omega), zero_add, ← share_at, ← pay2_eq]
  frame_out
theorem next (h : ¬t.val % 8 = 0) (y : S1024x2048.Idx) :
    (outsAt0 m c t.val t.isLt).2 y = (outsAt0 m c (t.val - 1) (Nat.lt_of_le_of_lt (Nat.sub_le _ _) t.isLt)).2 y + share m c t y := by
  refine Eq.trans ?_ (congrArg _ (share_at m c t y))
  by_cases h7 : t.val % 8 = 7
  · rw [outsAt0_C m c t h (by omega) h7]
    frame_out
    rw [pay3_eq, read_unread_whole]
    rfl
  · rw [outsAt0_B m c t h (by omega) h7]
    frame_out
    rw [pay3_eq, read_unread_whole]
    rfl

theorem last (h : t.val % 8 = 7) (r : Fin 1024) (l : Fin 2048) : (outsAt0 m c t.val t.isLt).1 (ix2 r l) = (outsAt0 m c t.val t.isLt).2 (ix2 r l) := by
  rw [outsAt0_C m c t (by omega) (by omega) h]
  frame_out

theorem final : (dats m 0 c).arrAt 2 (cfgs 0).N = PROD (argD m c) (argW m c) := by
  refine (dats m 0 c).arrAt_eq_of_covers 2 _ (by decide +kernel) fun t hf y => ?_
  have hN := lt_N t
  have h7 : t.val % 8 = 7 := (flush0_2 t).mp hf
  have e0 : ((((cfg0.win 2).blk t).view.emb y) 0).val = t.val / 8 * 1024 + (y 0).val := by blk_simp [idx t]
  have e1 : ((((cfg0.win 2).blk t).view.emb y) 1).val = (y 1).val := by blk_simp [idx t]
  obtain ⟨r, l, rfl⟩ := ix2_of (a := 1024) (b := 2048) y
  rw [after0_2]
  refine (cast_eq _ _).trans ((last m c t h7 r l).trans ?_)
  rw [Pipeline.eq_sum_fin_of_reset_step_apply_of_flush (fun n h => (outsAt0 m c n h).2) 8 (fun _ => 0) (share m c)
    (first m c) (next m c) t h7, zero_add]
  unfold PROD
  rw [e0, e1, ← nt_blocks (S := 8) (w := 768) _ _ _ _ (by decide)]
  refine Finset.sum_congr rfl fun s _ => ?_
  have d : (8 * (t.val / 8) + s.val) / 8 = t.val / 8 := by omega
  have q : (8 * (t.val / 8) + s.val) % 8 = s.val := by omega
  unfold share
  simp only [d, q]

end Kernel

section Reference
open ProjBwdXRefIdeal ProjBwdXRefIdeal.Gen

def REF (D : Mat 8192 6144) (W : Mat 2048 6144) : FVec Ideal S8192x2048 .f32 :=
  Host.dotGeneral (F := Ideal) (φ₁ := .f32) (φ₂ := .f32) dot_S8192x6144_S6144x2048_S8192x2048_1_0_0_1_n_n none D (transpose S6144x2048 [1, 0] W transposes_S2048x6144_S6144x2048_1_0)

theorem REF_eq (D : Mat 8192 6144) (W : Mat 2048 6144) : REF D W = PROD D W := by
  funext y
  obtain ⟨r, l, rfl⟩ := ix2_of (a := 8192) (b := 2048) y
  refine Eq.trans ?_ (nt_ix D W r l)
  pointwise [REF]

end Reference

/-- The frame of the reference. -/
theorem ref_frame : quiescent_ProjBwdXRefIdeal := fun m ρ _ =>
  (θ_run ProjBwdXRefIdeal.defs _ _).mono (fun r h => ⟨fun c => (h c).2, sem_eq_zero_of_no_sems (by decide) r.2⟩)
    (ProjBwdXRefIdeal.Value.run (F := Ideal) m ρ)

/-- The call's result is the reference's, at any arguments. -/
theorem algebraic : algebraic_ProjBwdXIdeal_ProjBwdXRefIdeal := fun m ρ m' ρ' _ hag =>
  ⟨fun c => PROD (argD m c) (argW m c),
   (θ_run ProjBwdXIdeal.defs _ _).mono (fun _ h c => ⟨(h c).1.trans (final m c), (h c).2⟩)
     (ProjBwdXIdeal.Value.run_blocks (F := Ideal) m ρ),
   (θ_run ProjBwdXRefIdeal.defs _ _).mono (fun _ h c => ⟨(h c).1.trans (by
       obtain ⟨e0, e1⟩ := hag c
       rw [e0, e1]
       exact REF_eq (argD m c) (argW m c)), (h c).2⟩)
     (ProjBwdXRefIdeal.Value.run (F := Ideal) m' ρ')⟩
-- ==== Proof.ProjBwdWClaims.lean ====
/- The gradient of the convolution's input projection by the matrix: the call, its reference and the claims. -/
module
public import proofs.«01_k».proof.Defs
public import proofs.«01_k».proof.Proof.ProjShards
public import proofs.«01_k».proof.Proof.Gen.ProjBwdWIdeal.Value
public import proofs.«01_k».proof.Proof.Gen.ProjBwdWRefIdeal.Run
public import proofs.«01_k».proof.Proof.Gen.ProjBwdW.Frame
public import Idealize.ShloMosaic.Lib.Pipeline.ReadBack

@[expose] public section
noncomputable section
namespace Cert.ProjBwdWProof
open Tables Products ProjShards Idealize.ShloMosaic TcCoe Idealize.SL.Sem

section Kernel
open ProjBwdWIdeal ProjBwdWIdeal.Gen

/-- The product, entry by entry, in shards of columns. -/
def PROD (U : Mat 8192 2048) (D : Mat 8192 6144) : FVec Ideal S8x1x2048x768 .bf16 := fun y => tn U D (y 2).val ((y 0).val * 768 + (y 3).val)

variable (m : (ℓ : Loc nD τ sig) → Buf (Elt Ideal) ℓ) (c : Dev nD)

abbrev argU : Mat 8192 2048 := m ((c.tc : Thread nD τ).loc main_arg0)
abbrev argD : Mat 8192 6144 := m ((c.tc : Thread nD τ).loc main_arg1)

/-- The payloads: the block's product, put into the running sum, added to it, and the sum at the end. -/
theorem pay1_at (v0 : Vec Ideal S1024x2048 .bf16) (v2 : Vec Ideal S1024x768 .bf16) (r : Fin 2048) (l : Fin 768) :
    k0_pay1 (F := Ideal) v0 v2 (ix2 r l) = ∑ k : Fin 1024, v0 (ix2 k r) * v2 (ix2 k l) := by
  pointwise [k0_pay1]
theorem pay2_eq (v0 : Vec Ideal S1024x2048 .bf16) (v2 : Vec Ideal S1024x768 .bf16) : k0_pay2 (F := Ideal) v0 v2 = k0_pay1 v0 v2 := shapeCast_self _ _
theorem pay3_eq (v0 : Vec Ideal S1024x2048 .bf16) (v2 : Vec Ideal S1024x768 .bf16) (a : Vec Ideal S2048x768 .f32) : k0_pay3 (F := Ideal) v0 v2 a = addf a (k0_pay1 v0 v2) := shapeCast_self _ _
theorem pay4_at (a : Vec Ideal S2048x768 .f32) (r : Fin 2048) (l : Fin 768) : k0_pay4 (F := Ideal) a (ix4 0 0 r l) = a (ix2 r l) := by
  pointwise [k0_pay4]

/-- Every window's block index at point `t`. -/
theorem idx : ∀ t : Fin cfg0.N, win0_0.index t = ![t.val % 8, 0] ∧ win0_1.index t = ![t.val % 8, t.val / 8] ∧ win0_2.index t = ![t.val / 8, 0, 0, 0] :=
  (by decide +kernel : ∀ t : Fin grid0.N, _)

theorem readU : @Eq (FVec Ideal S8192x2048 .bf16) (V m c main_v0) (truncf (F := Ideal) .bf16 (argU m c) bitsLt_bf16_f32) := by
  entry_read
  rfl
theorem readD : @Eq (FVec Ideal S8192x6144 .bf16) (V m c main_v1) (truncf (F := Ideal) .bf16 (argD m c) bitsLt_bf16_f32) := by
  entry_read
  rfl

variable (t : Fin cfg0.N)

theorem lt_N : t.val < 64 := lt_of_lt_of_eq t.isLt N_0

theorem blk_u (A : FVec Ideal S8192x2048 .bf16) (y : S1024x2048.Idx) : ((cfg0.win 0).blk t).view.read (Elt Ideal) A y = A ((win0_0.blk t).view.emb y) := rfl
theorem blk_d (A : FVec Ideal S8192x6144 .bf16) (y : S1024x768.Idx) : ((cfg0.win 1).blk t).view.read (Elt Ideal) A y = A ((win0_1.blk t).view.emb y) := rfl

theorem u_at (k : Fin 1024) (r : Fin 2048) : iblk m c 0 t (ix2 k r : S1024x2048.Idx) = tab (argU m c) (t.val % 8 * 1024 + k.val) r.val := by
  unfold iblk
  rw [show V m c (Pipeline.arrRef spec0 0) = _ from readU m c]
  rw [blk_u]
  refine tab_of (argU m c) ?_ ?_
  all_goals blk_simp [idx t]

theorem d_at (k : Fin 1024) (l : Fin 768) : iblk m c 1 t (ix2 k l : S1024x768.Idx) = tab (argD m c) (t.val % 8 * 1024 + k.val) (t.val / 8 * 768 + l.val) := by
  unfold iblk
  rw [show V m c (Pipeline.arrRef spec0 1) = _ from readD m c]
  rw [blk_d]
  refine tab_of (argD m c) ?_ ?_
  all_goals blk_simp [idx t]

/-- What a point adds to the running sum. -/
def share (y : S2048x768.Idx) : EReal := ∑ k : Fin 1024, tab (argU m c) (t.val % 8 * 1024 + k.val) (y 0).val
  * tab (argD m c) (t.val % 8 * 1024 + k.val) (t.val / 8 * 768 + (y 1).val)

theorem share_at (y : S2048x768.Idx) : k0_pay1 (F := Ideal) (iblk m c 0 t) (iblk m c 1 t) y = share m c t y := by
  obtain ⟨r, l, rfl⟩ := ix2_of (a := 2048) (b := 768) y
  rw [pay1_at]
  exact Finset.sum_congr rfl fun k _ => congrArg₂ (· * ·) (u_at m c t k r) (d_at m c t k l)

theorem first (h : t.val % 8 = 0) (y : S2048x768.Idx) : (outsAt0 m c t.val t.isLt).2 y = 0 + share m c t y := by
  rw [outsAt0_A m c t h (by omega) (by omega), zero_add, ← share_at, ← pay2_eq]
  frame_out
theorem next (h : ¬t.val % 8 = 0) (y : S2048x768.Idx) :
    (outsAt0 m c t.val t.isLt).2 y = (outsAt0 m c (t.val - 1) (Nat.lt_of_le_of_lt (Nat.sub_le _ _) t.isLt)).2 y + share m c t y := by
  refine Eq.trans ?_ (congrArg _ (share_at m c t y))
  by_cases h7 : t.val % 8 = 7
  · rw [outsAt0_C m c t h (by omega) h7]
    frame_out
    rw [pay3_eq, read_unread_whole]
    rfl
  · rw [outsAt0_B m c t h (by omega) h7]
    frame_out
    rw [pay3_eq, read_unread_whole]
    rfl

theorem last (h : t.val % 8 = 7) (r : Fin 2048) (l : Fin 768) : (outsAt0 m c t.val t.isLt).1 (ix4 0 0 r l) = (outsAt0 m c t.val t.isLt).2 (ix2 r l) := by
  rw [← pay4_at (outsAt0 m c t.val t.isLt).2, outsAt0_C m c t (by omega) (by omega) h]
  frame_out

theorem piece (y : S1x1x2048x768.Idx) : ∃ (r : Fin 2048) (l : Fin 768), y = ix4 0 0 r l :=
  ⟨y 2, y 3, funext fun k => by fin_cases k <;> first | rfl | exact Subsingleton.elim (α := Fin 1) _ _⟩

theorem final : (dats m 0 c).arrAt 2 (cfgs 0).N = PROD (argU m c) (argD m c) := by
  refine (dats m 0 c).arrAt_eq_of_covers 2 _ (by decide +kernel) fun t hf y => ?_
  have hN := lt_N t
  have h7 : t.val % 8 = 7 := (flush0_2 t).mp hf
  have e0 : ((((cfg0.win 2).blk t).view.emb y) 0).val = t.val / 8 + (y 0).val := by blk_simp [idx t]
  have e2 : ((((cfg0.win 2).blk t).view.emb y) 2).val = (y 2).val := by blk_simp [idx t]
  have e3 : ((((cfg0.win 2).blk t).view.emb y) 3).val = (y 3).val := by blk_simp [idx t]
  obtain ⟨r, l, rfl⟩ := piece y
  rw [after0_2]
  refine (cast_eq _ _).trans ((last m c t h7 r l).trans ?_)
  rw [Pipeline.eq_sum_fin_of_reset_step_apply_of_flush (fun n h => (outsAt0 m c n h).2) 8 (fun _ => 0) (share m c)
    (first m c) (next m c) t h7, zero_add]
  unfold PROD
  have z : (((ix4 0 0 r l : S1x1x2048x768.Idx) 0).val) = 0 := rfl
  rw [z, Nat.add_zero] at e0
  rw [e0, e2, e3, ← tn_blocks (S := 8) (w := 1024) _ _ _ _ (by decide)]
  refine Finset.sum_congr rfl fun s _ => ?_
  have d : (8 * (t.val / 8) + s.val) / 8 = t.val / 8 := by omega
  have q : (8 * (t.val / 8) + s.val) % 8 = s.val := by omega
  unfold share
  simp only [d, q]
  rfl

end Kernel

section Reference
open ProjBwdWRefIdeal ProjBwdWRefIdeal.Gen

def REF (U : Mat 8192 2048) (D : Mat 8192 6144) : Mat 2048 6144 :=
  Host.dotGeneral (F := Ideal) (φ₁ := .f32) (φ₂ := .f32) dot_S2048x8192_S8192x6144_S2048x6144_1_0_0_1_n_n none (transpose S2048x8192 [1, 0] U transposes_S8192x2048_S2048x8192_1_0) D

theorem REF_eq (U : Mat 8192 2048) (D : Mat 8192 6144) : SHARDS (REF U D) = PROD U D := by
  funext y
  obtain ⟨j, q, k, n, rfl⟩ : ∃ (j : Fin 8) (q : Fin 1) (k : Fin 2048) (n : Fin 768), y = ix4 j q k n := ⟨y 0, y 1, y 2, y 3, funext fun k => by fin_cases k <;> rfl⟩
  obtain rfl : q = 0 := Subsingleton.elim _ _
  rw [shards_at]
  refine Eq.trans ?_ (tn_ix U D k ⟨j.val * 768 + n.val, by omega⟩)
  pointwise [REF]

end Reference

/-- The frame of the reference. -/
theorem ref_frame : quiescent_ProjBwdWRefIdeal := fun m ρ _ =>
  (θ_run ProjBwdWRefIdeal.defs _ _).mono (fun r h => ⟨fun c => (h c).2, sem_eq_zero_of_no_sems (by decide) r.2⟩)
    (ProjBwdWRefIdeal.Value.run (F := Ideal) m ρ)

/-- The call's result is the reference's, at any arguments. -/
theorem algebraic : algebraic_ProjBwdWIdeal_ProjBwdWRefIdeal := fun m ρ m' ρ' _ hag =>
  ⟨fun c => PROD (argU m c) (argD m c),
   (θ_run ProjBwdWIdeal.defs _ _).mono (fun _ h c => ⟨(h c).1.trans (final m c), (h c).2⟩)
     (ProjBwdWIdeal.Value.run_blocks (F := Ideal) m ρ),
   (θ_run ProjBwdWRefIdeal.defs _ _).mono (fun _ h c => ⟨(h c).1.trans (by
       obtain ⟨e0, e1⟩ := hag c
       rw [e0, e1]
       exact REF_eq (argU m c) (argD m c)), (h c).2⟩)
     (ProjBwdWRefIdeal.Value.run (F := Ideal) m' ρ')⟩
-- ==== Proof.DenseFwdClaims.lean ====
/- The product of the rows with a square matrix: the call, its reference and the claims. -/
module
public import proofs.«01_k».proof.Defs
public import proofs.«01_k».proof.Proof.Gen.DenseFwdIdeal.Value
public import proofs.«01_k».proof.Proof.Gen.DenseFwdRefIdeal.Run
public import proofs.«01_k».proof.Proof.Gen.DenseFwd.Frame
public import proofs.«01_k».proof.Proof.Products

@[expose] public section
noncomputable section
namespace Cert.DenseFwdProof
open Tables Products Idealize.ShloMosaic TcCoe Idealize.SL.Sem

section Kernel
open DenseFwdIdeal DenseFwdIdeal.Gen

/-- The product, entry by entry. -/
def PROD (A : Mat 8192 2048) (W : Mat 2048 2048) : FVec Ideal S8192x2048 .bf16 := fun y =>
  nn A W (y 0).val (y 1).val

variable (m : (ℓ : Loc nD τ sig) → Buf (Elt Ideal) ℓ) (c : Dev nD)

abbrev argA : Mat 8192 2048 := m ((c.tc : Thread nD τ).loc main_arg0)
abbrev argW : Mat 2048 2048 := m ((c.tc : Thread nD τ).loc main_arg1)

theorem pay_at (v0 : Vec Ideal S1024x2048 .bf16) (v2 : Vec Ideal S2048x2048 .bf16) (r : Fin 1024) (l : Fin 2048) :
    k0_pay1 (F := Ideal) v0 v2 (ix2 r l) = ∑ k : Fin 2048, v0 (ix2 r k) * v2 (ix2 k l) := by
  pointwise [k0_pay1]

/-- Every window's block index at point `t`. -/
theorem idx : ∀ t : Fin cfg0.N, win0_0.index t = ![t.val, 0] ∧ win0_1.index t = ![0, 0] ∧ win0_2.index t = ![t.val, 0] :=
  (by decide +kernel : ∀ t : Fin grid0.N, _)

variable (t : Fin cfg0.N)

theorem a_at (r : Fin 1024) (k : Fin 2048) : iblk m c 0 t (ix2 r k : S1024x2048.Idx) = tab (argA m c) (t.val * 1024 + r.val) k.val := by
  have hN : t.val < 8 := lt_of_lt_of_eq t.isLt N_0
  refine Eq.trans ?_ (tab_ix (argA m c) ⟨t.val * 1024 + r.val, by omega⟩ k)
  blk_point [iblk, V, idx t, argA]
theorem w_at (k l : Fin 2048) : iblk m c 1 t (ix2 k l : S2048x2048.Idx) = tab (argW m c) k.val l.val := by
  refine Eq.trans ?_ (tab_ix (argW m c) k l)
  blk_point [iblk, V, idx t, argW]

theorem out_at (y : S1024x2048.Idx) : out0_2 (iblk m c 0 t) (iblk m c 1 t) y = nn (argA m c) (argW m c) (t.val * 1024 + (y 0).val) (y 1).val := by
  obtain ⟨r, l, rfl⟩ : ∃ (r : Fin 1024) (l : Fin 2048), y = ix2 r l := ⟨y 0, y 1, funext fun k => by fin_cases k <;> rfl⟩
  frame_out
  rw [pay_at]
  exact Finset.sum_congr rfl fun k _ => congrArg₂ (· * ·) (a_at m c t r k) (w_at m c t k l)

theorem final : (dats m 0 c).arrAt 2 (cfgs 0).N = PROD (argA m c) (argW m c) := by
  refine (dats m 0 c).arrAt_eq_of_covers 2 _ (by decide +kernel) fun t _ y => ?_
  have e0 : ((((cfg0.win 2).blk t).view.emb y) 0).val = t.val * 1024 + (y 0).val := by blk_simp [idx t]
  have e1 : ((((cfg0.win 2).blk t).view.emb y) 1).val = (y 1).val := by blk_simp [idx t]
  rw [after0_2]
  refine (cast_eq _ _).trans ((out_at m c t _).trans ?_)
  unfold PROD
  rw [e0, e1]

end Kernel

section Reference
open DenseFwdRefIdeal DenseFwdRefIdeal.Gen

def REF (A : Mat 8192 2048) (W : Mat 2048 2048) : FVec Ideal S8192x2048 .bf16 :=
  truncf .bf16 (Host.dotGeneral (F := Ideal) (φ₁ := .f32) (φ₂ := .f32) dot_S8192x2048_S2048x2048_S8192x2048_1_0_0_1_n_n none A W) bitsLt_bf16_f32

theorem REF_eq (A : Mat 8192 2048) (W : Mat 2048 2048) : REF A W = PROD A W := by
  funext y
  obtain ⟨r, l, rfl⟩ : ∃ (r : Fin 8192) (l : Fin 2048), y = ix2 r l := ⟨y 0, y 1, funext fun k => by fin_cases k <;> rfl⟩
  refine Eq.trans ?_ (nn_ix A W r l)
  pointwise [REF]

end Reference

/-- The frame of the reference. -/
theorem ref_frame : quiescent_DenseFwdRefIdeal := fun m ρ _ =>
  (θ_run DenseFwdRefIdeal.defs _ _).mono (fun r h => ⟨fun c => (h c).2, sem_eq_zero_of_no_sems (by decide) r.2⟩)
    (DenseFwdRefIdeal.Value.run (F := Ideal) m ρ)

/-- The call's result is the reference's, at any arguments. -/
theorem algebraic : algebraic_DenseFwdIdeal_DenseFwdRefIdeal := fun m ρ m' ρ' _ hag =>
  ⟨fun c => PROD (argA m c) (argW m c),
   (θ_run DenseFwdIdeal.defs _ _).mono (fun _ h c => ⟨(h c).1.trans (final m c), (h c).2⟩)
     (DenseFwdIdeal.Value.run_blocks (F := Ideal) m ρ),
   (θ_run DenseFwdRefIdeal.defs _ _).mono (fun _ h c => ⟨(h c).1.trans (by
       obtain ⟨e0, e1⟩ := hag c
       rw [e0, e1]
       exact REF_eq (argA m c) (argW m c)), (h c).2⟩)
     (DenseFwdRefIdeal.Value.run (F := Ideal) m' ρ')⟩
-- ==== Proof.DenseBwdXClaims.lean ====
/- The gradient of that product by the rows: the call, its reference and the claims. -/
module
public import proofs.«01_k».proof.Defs
public import proofs.«01_k».proof.Proof.Gen.DenseBwdXIdeal.Value
public import proofs.«01_k».proof.Proof.Gen.DenseBwdXRefIdeal.Run
public import proofs.«01_k».proof.Proof.Gen.DenseBwdX.Frame
public import proofs.«01_k».proof.Proof.Products

@[expose] public section
noncomputable section
namespace Cert.DenseBwdXProof
open Tables Products Idealize.ShloMosaic TcCoe Idealize.SL.Sem

section Kernel
open DenseBwdXIdeal DenseBwdXIdeal.Gen

/-- The product, entry by entry. -/
def PROD (A : Mat 8192 2048) (W : Mat 2048 2048) : FVec Ideal S8192x2048 .bf16 := fun y =>
  nt A W (y 0).val (y 1).val

variable (m : (ℓ : Loc nD τ sig) → Buf (Elt Ideal) ℓ) (c : Dev nD)

abbrev argA : Mat 8192 2048 := m ((c.tc : Thread nD τ).loc main_arg1)
abbrev argW : Mat 2048 2048 := m ((c.tc : Thread nD τ).loc main_arg0)

theorem pay_at (v0 : Vec Ideal S1024x2048 .bf16) (v2 : Vec Ideal S2048x2048 .bf16) (r : Fin 1024) (l : Fin 2048) :
    k0_pay1 (F := Ideal) v0 v2 (ix2 r l) = ∑ k : Fin 2048, v0 (ix2 r k) * v2 (ix2 l k) := by
  pointwise [k0_pay1]

/-- Every window's block index at point `t`. -/
theorem idx : ∀ t : Fin cfg0.N, win0_0.index t = ![t.val, 0] ∧ win0_1.index t = ![0, 0] ∧ win0_2.index t = ![t.val, 0] :=
  (by decide +kernel : ∀ t : Fin grid0.N, _)

variable (t : Fin cfg0.N)

theorem a_at (r : Fin 1024) (k : Fin 2048) : iblk m c 0 t (ix2 r k : S1024x2048.Idx) = tab (argA m c) (t.val * 1024 + r.val) k.val := by
  have hN : t.val < 8 := lt_of_lt_of_eq t.isLt N_0
  refine Eq.trans ?_ (tab_ix (argA m c) ⟨t.val * 1024 + r.val, by omega⟩ k)
  blk_point [iblk, V, idx t, argA]
theorem w_at (k l : Fin 2048) : iblk m c 1 t (ix2 k l : S2048x2048.Idx) = tab (argW m c) k.val l.val := by
  refine Eq.trans ?_ (tab_ix (argW m c) k l)
  blk_point [iblk, V, idx t, argW]

theorem out_at (y : S1024x2048.Idx) : out0_2 (iblk m c 0 t) (iblk m c 1 t) y = nt (argA m c) (argW m c) (t.val * 1024 + (y 0).val) (y 1).val := by
  obtain ⟨r, l, rfl⟩ : ∃ (r : Fin 1024) (l : Fin 2048), y = ix2 r l := ⟨y 0, y 1, funext fun k => by fin_cases k <;> rfl⟩
  frame_out
  rw [pay_at]
  exact Finset.sum_congr rfl fun k _ => congrArg₂ (· * ·) (a_at m c t r k) (w_at m c t l k)

theorem final : (dats m 0 c).arrAt 2 (cfgs 0).N = PROD (argA m c) (argW m c) := by
  refine (dats m 0 c).arrAt_eq_of_covers 2 _ (by decide +kernel) fun t _ y => ?_
  have e0 : ((((cfg0.win 2).blk t).view.emb y) 0).val = t.val * 1024 + (y 0).val := by blk_simp [idx t]
  have e1 : ((((cfg0.win 2).blk t).view.emb y) 1).val = (y 1).val := by blk_simp [idx t]
  rw [after0_2]
  refine (cast_eq _ _).trans ((out_at m c t _).trans ?_)
  unfold PROD
  rw [e0, e1]

end Kernel

section Reference
open DenseBwdXRefIdeal DenseBwdXRefIdeal.Gen

def REF (A : Mat 8192 2048) (W : Mat 2048 2048) : FVec Ideal S8192x2048 .bf16 :=
  truncf .bf16 (Host.dotGeneral (F := Ideal) (φ₁ := .f32) (φ₂ := .f32) dot_S8192x2048_S2048x2048_S8192x2048_1_0_0_1_n_n none A (transpose S2048x2048 [1, 0] W transposes_S2048x2048_S2048x2048_1_0)) bitsLt_bf16_f32

theorem REF_eq (A : Mat 8192 2048) (W : Mat 2048 2048) : REF A W = PROD A W := by
  funext y
  obtain ⟨r, l, rfl⟩ : ∃ (r : Fin 8192) (l : Fin 2048), y = ix2 r l := ⟨y 0, y 1, funext fun k => by fin_cases k <;> rfl⟩
  refine Eq.trans ?_ (nt_ix A W r l)
  pointwise [REF]

end Reference

/-- The frame of the reference. -/
theorem ref_frame : quiescent_DenseBwdXRefIdeal := fun m ρ _ =>
  (θ_run DenseBwdXRefIdeal.defs _ _).mono (fun r h => ⟨fun c => (h c).2, sem_eq_zero_of_no_sems (by decide) r.2⟩)
    (DenseBwdXRefIdeal.Value.run (F := Ideal) m ρ)

/-- The call's result is the reference's, at any arguments. -/
theorem algebraic : algebraic_DenseBwdXIdeal_DenseBwdXRefIdeal := fun m ρ m' ρ' _ hag =>
  ⟨fun c => PROD (argA m c) (argW m c),
   (θ_run DenseBwdXIdeal.defs _ _).mono (fun _ h c => ⟨(h c).1.trans (final m c), (h c).2⟩)
     (DenseBwdXIdeal.Value.run_blocks (F := Ideal) m ρ),
   (θ_run DenseBwdXRefIdeal.defs _ _).mono (fun _ h c => ⟨(h c).1.trans (by
       obtain ⟨e0, e1⟩ := hag c
       rw [e0, e1]
       exact REF_eq (argA m c) (argW m c)), (h c).2⟩)
     (DenseBwdXRefIdeal.Value.run (F := Ideal) m' ρ')⟩
-- ==== Proof.DenseBwdWClaims.lean ====
/- The gradient of the product with a square matrix by the matrix: the call, its reference and the claims. -/
module
public import proofs.«01_k».proof.Defs
public import proofs.«01_k».proof.Proof.Gen.DenseBwdWIdeal.Value
public import proofs.«01_k».proof.Proof.Gen.DenseBwdWRefIdeal.Run
public import proofs.«01_k».proof.Proof.Gen.DenseBwdW.Frame
public import Idealize.ShloMosaic.Lib.Pipeline.ReadBack
public import proofs.«01_k».proof.Proof.Products

@[expose] public section
noncomputable section
namespace Cert.DenseBwdWProof
open Tables Products Idealize.ShloMosaic TcCoe Idealize.SL.Sem

section Kernel
open DenseBwdWIdeal DenseBwdWIdeal.Gen

/-- The product, entry by entry. -/
def PROD (A D : Mat 8192 2048) : FVec Ideal S2048x2048 .bf16 := fun y => tn A D (y 0).val (y 1).val

variable (m : (ℓ : Loc nD τ sig) → Buf (Elt Ideal) ℓ) (c : Dev nD)

abbrev argA : Mat 8192 2048 := m ((c.tc : Thread nD τ).loc main_arg0)
abbrev argD : Mat 8192 2048 := m ((c.tc : Thread nD τ).loc main_arg1)

/-- The payloads: the block's product, put into the running sum, added to it, and the sum at the end. -/
theorem pay1_at (v0 : Vec Ideal S1024x2048 .bf16) (v2 : Vec Ideal S1024x1024 .bf16) (r : Fin 2048) (l : Fin 1024) :
    k0_pay1 (F := Ideal) v0 v2 (ix2 r l) = ∑ k : Fin 1024, v0 (ix2 k r) * v2 (ix2 k l) := by
  pointwise [k0_pay1]
theorem pay2_eq (v0 : Vec Ideal S1024x2048 .bf16) (v2 : Vec Ideal S1024x1024 .bf16) : k0_pay2 (F := Ideal) v0 v2 = k0_pay1 v0 v2 := shapeCast_self _ _
theorem pay3_eq (v0 : Vec Ideal S1024x2048 .bf16) (v2 : Vec Ideal S1024x1024 .bf16) (a : Vec Ideal S2048x1024 .f32) : k0_pay3 (F := Ideal) v0 v2 a = addf a (k0_pay1 v0 v2) := shapeCast_self _ _
theorem pay4_at (a : Vec Ideal S2048x1024 .f32) (r : Fin 2048) (l : Fin 1024) : k0_pay4 (F := Ideal) a (ix2 r l) = a (ix2 r l) := by
  pointwise [k0_pay4]

/-- Every window's block index at point `t`: the column block by the block of rows. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

variable (t : Fin cfg0.N)

theorem lt16 : t.val < 16 := lt_of_lt_of_eq t.isLt N_0

theorem a_at (k : Fin 1024) (r : Fin 2048) : iblk m c 0 t (ix2 k r : S1024x2048.Idx) = tab (argA m c) (t.val % 8 * 1024 + k.val) r.val := by
  refine Eq.trans ?_ (tab_ix (argA m c) ⟨t.val % 8 * 1024 + k.val, by omega⟩ r)
  blk_point [iblk, V, idx t, argA]
theorem d_at (k l : Fin 1024) : iblk m c 1 t (ix2 k l : S1024x1024.Idx) = tab (argD m c) (t.val % 8 * 1024 + k.val) (t.val / 8 * 1024 + l.val) := by
  have hN := lt16 t
  refine Eq.trans ?_ (tab_ix (argD m c) ⟨t.val % 8 * 1024 + k.val, by omega⟩ ⟨t.val / 8 * 1024 + l.val, by omega⟩)
  blk_point [iblk, V, idx t, argD]

/-- What a point adds to the running sum. -/
def share (y : S2048x1024.Idx) : EReal := ∑ k : Fin 1024, tab (argA m c) (t.val % 8 * 1024 + k.val) (y 0).val
  * tab (argD m c) (t.val % 8 * 1024 + k.val) (t.val / 8 * 1024 + (y 1).val)

theorem share_at (y : S2048x1024.Idx) : k0_pay1 (F := Ideal) (iblk m c 0 t) (iblk m c 1 t) y = share m c t y := by
  obtain ⟨r, l, rfl⟩ := ix2_of (a := 2048) (b := 1024) y
  rw [pay1_at]
  exact Finset.sum_congr rfl fun k _ => congrArg₂ (· * ·) (a_at m c t k r) (d_at m c t k l)

theorem first (h : t.val % 8 = 0) (y : S2048x1024.Idx) : (outsAt0 m c t.val t.isLt).2 y = 0 + share m c t y := by
  rw [outsAt0_A m c t h (by omega) (by omega), zero_add, ← share_at, ← pay2_eq]
  frame_out
theorem next (h : ¬t.val % 8 = 0) (y : S2048x1024.Idx) :
    (outsAt0 m c t.val t.isLt).2 y = (outsAt0 m c (t.val - 1) (Nat.lt_of_le_of_lt (Nat.sub_le _ _) t.isLt)).2 y + share m c t y := by
  refine Eq.trans ?_ (congrArg _ (share_at m c t y))
  by_cases h7 : t.val % 8 = 7
  · rw [outsAt0_C m c t h (by omega) h7]
    frame_out
    rw [pay3_eq, read_unread_whole]
    rfl
  · rw [outsAt0_B m c t h (by omega) h7]
    frame_out
    rw [pay3_eq, read_unread_whole]
    rfl

theorem last (h : t.val % 8 = 7) (r : Fin 2048) (l : Fin 1024) : (outsAt0 m c t.val t.isLt).1 (ix2 r l) = (outsAt0 m c t.val t.isLt).2 (ix2 r l) := by
  rw [← pay4_at (outsAt0 m c t.val t.isLt).2, outsAt0_C m c t (by omega) (by omega) h]
  frame_out

theorem final : (dats m 0 c).arrAt 2 (cfgs 0).N = PROD (argA m c) (argD m c) := by
  refine (dats m 0 c).arrAt_eq_of_covers 2 _ (by decide +kernel) fun t hf y => ?_
  have hN := lt16 t
  have h7 : t.val % 8 = 7 := (flush0_2 t).mp hf
  have e0 : ((((cfg0.win 2).blk t).view.emb y) 0).val = (y 0).val := by blk_simp [idx t]
  have e1 : ((((cfg0.win 2).blk t).view.emb y) 1).val = t.val / 8 * 1024 + (y 1).val := by blk_simp [idx t]
  obtain ⟨r, l, rfl⟩ := ix2_of (a := 2048) (b := 1024) y
  rw [after0_2]
  refine (cast_eq _ _).trans ((last m c t h7 r l).trans ?_)
  rw [Pipeline.eq_sum_fin_of_reset_step_apply_of_flush (fun n h => (outsAt0 m c n h).2) 8 (fun _ => 0) (share m c)
    (first m c) (next m c) t h7, zero_add]
  unfold PROD
  rw [e0, e1, ← tn_blocks (S := 8) (w := 1024) _ _ _ _ (by decide)]
  refine Finset.sum_congr rfl fun s _ => ?_
  have d : (8 * (t.val / 8) + s.val) / 8 = t.val / 8 := by omega
  have q : (8 * (t.val / 8) + s.val) % 8 = s.val := by omega
  unfold share
  simp only [d, q]

end Kernel

section Reference
open DenseBwdWRefIdeal DenseBwdWRefIdeal.Gen

def REF (A D : Mat 8192 2048) : FVec Ideal S2048x2048 .bf16 :=
  truncf .bf16 (Host.dotGeneral (F := Ideal) (φ₁ := .f32) (φ₂ := .f32) dot_S2048x8192_S8192x2048_S2048x2048_1_0_0_1_n_n none
    (transpose S2048x8192 [1, 0] A transposes_S8192x2048_S2048x8192_1_0) D) bitsLt_bf16_f32

theorem REF_eq (A D : Mat 8192 2048) : REF A D = PROD A D := by
  funext y
  obtain ⟨r, l, rfl⟩ := ix2_of (a := 2048) (b := 2048) y
  refine Eq.trans ?_ (tn_ix A D r l)
  pointwise [REF]

end Reference

/-- The frame of the reference. -/
theorem ref_frame : quiescent_DenseBwdWRefIdeal := fun m ρ _ =>
  (θ_run DenseBwdWRefIdeal.defs _ _).mono (fun r h => ⟨fun c => (h c).2, sem_eq_zero_of_no_sems (by decide) r.2⟩)
    (DenseBwdWRefIdeal.Value.run (F := Ideal) m ρ)

/-- The call's result is the reference's, at any arguments. -/
theorem algebraic : algebraic_DenseBwdWIdeal_DenseBwdWRefIdeal := fun m ρ m' ρ' _ hag =>
  ⟨fun c => PROD (argA m c) (argD m c),
   (θ_run DenseBwdWIdeal.defs _ _).mono (fun _ h c => ⟨(h c).1.trans (final m c), (h c).2⟩)
     (DenseBwdWIdeal.Value.run_blocks (F := Ideal) m ρ),
   (θ_run DenseBwdWRefIdeal.defs _ _).mono (fun _ h c => ⟨(h c).1.trans (by
       obtain ⟨e0, e1⟩ := hag c
       rw [e0, e1]
       exact REF_eq (argA m c) (argD m c)), (h c).2⟩)
     (DenseBwdWRefIdeal.Value.run (F := Ideal) m' ρ')⟩
-- ==== Proof.FfnShards.lean ====
/- The feed-forward's wide arrays as the calls take them: cut into shards of 704 columns, one array or two of them stacked. -/
module

public import proofs.«01_k».proof.Proof.FfnRef
public import proofs.«01_k».proof.Proof.Products

@[expose] public section

noncomputable section

namespace Cert.FfnShards

open Tables Products FfnProof Idealize.ShloMosaic FfnRefIdeal FfnRefIdeal.Gen

theorem shard_of (A : Mat 8192 5632) {y : S8x8192x704.Idx} {j i n : ℕ} (h0 : (y 0).val = j) (h1 : (y 1).val = i) (h2 : (y 2).val = n) :
    truncf .bf16 (CUT A) bitsLt_bf16_f32 y = tab A i (j * 704 + n) := by
  subst h0 h1 h2
  refine ((round3 (CUT A) y).trans (congrArg (CUT A) (funext fun k => by fin_cases k <;> rfl))).trans
    ((CUT_at A (y 0) (y 1) (y 2)).trans (tab_ix A (y 1) ⟨(y 0).val * 704 + (y 2).val, _⟩))

theorem pair_at (G P : Mat 8192 5632) (w : Fin 2) (j : Fin 8) (i : Fin 8192) (n : Fin 704) : PAIR (CUT G) (CUT P) (ix4 w j i n)
    = if w.val = 0 then tab G i.val (j.val * 704 + n.val) else tab P i.val (j.val * 704 + n.val) := by
  rw [PAIR_at, CUT_at, CUT_at, tab_ix G, tab_ix P]

theorem pair_of (G P : Mat 8192 5632) {y : S2x8x8192x704.Idx} {w j i n : ℕ} (h0 : (y 0).val = w) (h1 : (y 1).val = j) (h2 : (y 2).val = i) (h3 : (y 3).val = n) :
    truncf .bf16 (PAIR (CUT G) (CUT P)) bitsLt_bf16_f32 y = if w = 0 then tab G i (j * 704 + n) else tab P i (j * 704 + n) := by
  subst h0 h1 h2 h3
  exact ((round4 (PAIR (CUT G) (CUT P)) y).trans (congrArg (PAIR (CUT G) (CUT P)) (funext fun k => by fin_cases k <;> rfl))).trans
    (pair_at G P (y 0) (y 1) (y 2) (y 3))

end Cert.FfnShards

end
-- ==== Proof.FfnBwdXClaims.lean ====
/- The gradient of the feed-forward's two wide products by the rows: the call, its reference and the claims. -/
module
public import proofs.«01_k».proof.Defs
public import proofs.«01_k».proof.Proof.FfnShards
public import proofs.«01_k».proof.Proof.FfnFwdBlock
public import proofs.«01_k».proof.Proof.Gen.FfnBwdXIdeal.Value
public import proofs.«01_k».proof.Proof.Gen.FfnBwdXRefIdeal.Run
public import proofs.«01_k».proof.Proof.Gen.FfnBwdX.Frame
public import Idealize.ShloMosaic.Lib.Pipeline.ReadBack

@[expose] public section
noncomputable section
namespace Cert.FfnBwdXProof
open Tables Products FfnProof FfnShards FfnFwdProof Idealize.ShloMosaic TcCoe Idealize.SL.Sem

section Kernel
open FfnBwdXIdeal FfnBwdXIdeal.Gen

/-- The sum of the two products, entry by entry. -/
def PROD (Wg Wu : Mat 2048 5632) (G P : Mat 8192 5632) : FVec Ideal S8192x2048 .f32 := fun y =>
  nt G Wg (y 0).val (y 1).val + nt P Wu (y 0).val (y 1).val

variable (m : (ℓ : Loc nD τ sig) → Buf (Elt Ideal) ℓ) (c : Dev nD)

abbrev argWg : Mat 2048 5632 := m ((c.tc : Thread nD τ).loc main_arg0)
abbrev argWu : Mat 2048 5632 := m ((c.tc : Thread nD τ).loc main_arg1)
abbrev argG : Mat 8192 5632 := m ((c.tc : Thread nD τ).loc main_arg2)
abbrev argP : Mat 8192 5632 := m ((c.tc : Thread nD τ).loc main_arg3)

/-- The payloads: the block's product, put into the running sum, added to it. -/
theorem pay1_at (v0 : Vec Ideal S1x1x1024x704 .bf16) (v2 : Vec Ideal S1x1x2048x704 .bf16) (r : Fin 1024) (l : Fin 2048) :
    k0_pay1 (F := Ideal) v0 v2 (ix2 r l) = ∑ k : Fin 704, v0 (ix4 0 0 r k) * v2 (ix4 0 0 l k) := by
  pointwise [k0_pay1]
theorem pay2_eq (v0 : Vec Ideal S1x1x1024x704 .bf16) (v2 : Vec Ideal S1x1x2048x704 .bf16) : k0_pay2 (F := Ideal) v0 v2 = k0_pay1 v0 v2 := shapeCast_self _ _
theorem pay3_eq (v0 : Vec Ideal S1x1x1024x704 .bf16) (v2 : Vec Ideal S1x1x2048x704 .bf16) (a : Vec Ideal S1024x2048 .f32) : k0_pay3 (F := Ideal) v0 v2 a = addf a (k0_pay1 v0 v2) := shapeCast_self _ _

/-- Every window's block index at point `t`. -/
theorem idx : ∀ t : Fin cfg0.N, win0_0.index t = ![t.val % 16 / 8, t.val % 16 % 8, t.val / 16, 0] ∧ win0_1.index t = ![t.val % 16 % 8, t.val % 16 / 8, 0, 0] ∧ win0_2.index t = ![t.val / 16, 0] :=
  (by decide +kernel : ∀ t : Fin grid0.N, _)

theorem readW : @Eq (FVec Ideal S8x2x2048x704 .bf16) (V m c main_v7) (stackW (argWg m c) (argWu m c)) := by
  entry_read
  rfl
theorem readD : @Eq (FVec Ideal S2x8x8192x704 .bf16) (V m c main_v15) (truncf (F := Ideal) .bf16 (PAIR (CUT (argG m c)) (CUT (argP m c))) bitsLt_bf16_f32) := by
  entry_read
  rfl

variable (t : Fin cfg0.N)

theorem lt_N : t.val < 128 := lt_of_lt_of_eq t.isLt N_0

theorem blk_d (A : FVec Ideal S2x8x8192x704 .bf16) (y : S1x1x1024x704.Idx) : ((cfg0.win 0).blk t).view.read (Elt Ideal) A y = A ((win0_0.blk t).view.emb y) := rfl
theorem blk_w (A : FVec Ideal S8x2x2048x704 .bf16) (y : S1x1x2048x704.Idx) : ((cfg0.win 1).blk t).view.read (Elt Ideal) A y = A ((win0_1.blk t).view.emb y) := rfl

/-- The two gradients and the two matrices, chosen by number. -/
def grad (w i n : ℕ) : EReal := if w = 0 then tab (argG m c) i n else tab (argP m c) i n
def mat (w k n : ℕ) : EReal := if w = 0 then tab (argWg m c) k n else tab (argWu m c) k n

theorem d_at (r : Fin 1024) (k : Fin 704) : iblk m c 0 t (ix4 0 0 r k : S1x1x1024x704.Idx) = grad m c (t.val % 16 / 8) (t.val / 16 * 1024 + r.val) (t.val % 16 % 8 * 704 + k.val) := by
  unfold iblk
  rw [show V m c (Pipeline.arrRef spec0 0) = _ from readD m c]
  rw [blk_d, pair_of (argG m c) (argP m c) (w := t.val % 16 / 8) (j := t.val % 16 % 8) (i := t.val / 16 * 1024 + r.val) (n := k.val)]
  · rfl
  all_goals blk_simp [idx t]
  all_goals simp

theorem w_at (l : Fin 2048) (k : Fin 704) : iblk m c 1 t (ix4 0 0 l k : S1x1x2048x704.Idx) = mat m c (t.val % 16 / 8) l.val (t.val % 16 % 8 * 704 + k.val) := by
  unfold iblk
  rw [show V m c (Pipeline.arrRef spec0 1) = _ from readW m c]
  rw [blk_w, stackW_of (argWg m c) (argWu m c) (j := t.val % 16 % 8) (w := t.val % 16 / 8) (k := l.val) (n := k.val)]
  · rfl
  all_goals blk_simp [idx t]
  all_goals simp

/-- What a point adds to the running sum. -/
def share (y : S1024x2048.Idx) : EReal := ∑ k : Fin 704, grad m c (t.val % 16 / 8) (t.val / 16 * 1024 + (y 0).val) (t.val % 16 % 8 * 704 + k.val)
  * mat m c (t.val % 16 / 8) (y 1).val (t.val % 16 % 8 * 704 + k.val)

theorem share_at (y : S1024x2048.Idx) : k0_pay1 (F := Ideal) (iblk m c 0 t) (iblk m c 1 t) y = share m c t y := by
  obtain ⟨r, l, rfl⟩ := ix2_of (a := 1024) (b := 2048) y
  rw [pay1_at]
  exact Finset.sum_congr rfl fun k _ => congrArg₂ (· * ·) (d_at m c t r k) (w_at m c t l k)

theorem first (h : t.val % 16 = 0) (y : S1024x2048.Idx) : (outsAt0 m c t.val t.isLt).2 y = 0 + share m c t y := by
  rw [outsAt0_A m c t h (by omega) (by omega), zero_add, ← share_at, ← pay2_eq]
  frame_out
theorem next (h : ¬t.val % 16 = 0) (y : S1024x2048.Idx) :
    (outsAt0 m c t.val t.isLt).2 y = (outsAt0 m c (t.val - 1) (Nat.lt_of_le_of_lt (Nat.sub_le _ _) t.isLt)).2 y + share m c t y := by
  refine Eq.trans ?_ (congrArg _ (share_at m c t y))
  by_cases h7 : t.val % 16 = 15
  · rw [outsAt0_C m c t h (by omega) h7]
    frame_out
    rw [pay3_eq, read_unread_whole]
    rfl
  · rw [outsAt0_B m c t h (by omega) h7]
    frame_out
    rw [pay3_eq, read_unread_whole]
    rfl

theorem last (h : t.val % 16 = 15) (r : Fin 1024) (l : Fin 2048) : (outsAt0 m c t.val t.isLt).1 (ix2 r l) = (outsAt0 m c t.val t.isLt).2 (ix2 r l) := by
  rw [outsAt0_C m c t (by omega) (by omega) h]
  frame_out

theorem final : (dats m 0 c).arrAt 2 (cfgs 0).N = PROD (argWg m c) (argWu m c) (argG m c) (argP m c) := by
  refine (dats m 0 c).arrAt_eq_of_covers 2 _ (by decide +kernel) fun t hf y => ?_
  have hN := lt_N t
  have h7 : t.val % 16 = 15 := (flush0_2 t).mp hf
  have e0 : ((((cfg0.win 2).blk t).view.emb y) 0).val = t.val / 16 * 1024 + (y 0).val := by blk_simp [idx t]
  have e1 : ((((cfg0.win 2).blk t).view.emb y) 1).val = (y 1).val := by blk_simp [idx t]
  obtain ⟨r, l, rfl⟩ := ix2_of (a := 1024) (b := 2048) y
  rw [after0_2]
  refine (cast_eq _ _).trans ((last m c t h7 r l).trans ?_)
  rw [Pipeline.eq_sum_fin_of_reset_step_apply_of_flush (fun n h => (outsAt0 m c n h).2) 16 (fun _ => 0) (share m c)
    (first m c) (next m c) t h7, zero_add]
  unfold PROD
  rw [e0, e1, ← nt_blocks (S := 8) (w := 704) _ _ _ _ (by decide), ← nt_blocks (S := 8) (w := 704) _ _ _ _ (by decide)]
  refine (Fin.sum_mul_add_congr (F := fun (w : Fin 2) (j : Fin 8) => ∑ k : Fin 704, grad m c w.val (t.val / 16 * 1024 + r.val) (j.val * 704 + k.val)
    * mat m c w.val l.val (j.val * 704 + k.val)) (fun w j _ => ?_) rfl).symm.trans (Fin.sum_univ_two _)
  have d : (16 * (t.val / 16) + (w.val * 8 + j.val)) / 16 = t.val / 16 := by omega
  have q : (16 * (t.val / 16) + (w.val * 8 + j.val)) % 16 / 8 = w.val := by omega
  have p : (16 * (t.val / 16) + (w.val * 8 + j.val)) % 16 % 8 = j.val := by omega
  unfold share
  simp only [d, p, q]
  rfl

end Kernel

section Reference
open FfnBwdXRefIdeal FfnBwdXRefIdeal.Gen

def REF (Wg Wu : Mat 2048 5632) (G P : Mat 8192 5632) : FVec Ideal S8192x2048 .f32 :=
  addf (F := Ideal) (Host.dotGeneral (F := Ideal) (φ₁ := .f32) (φ₂ := .f32) dot_S8192x5632_S5632x2048_S8192x2048_1_0_0_1_n_n none G (transpose S5632x2048 [1, 0] Wg transposes_S2048x5632_S5632x2048_1_0))
    (Host.dotGeneral (F := Ideal) (φ₁ := .f32) (φ₂ := .f32) dot_S8192x5632_S5632x2048_S8192x2048_1_0_0_1_n_n none P (transpose S5632x2048 [1, 0] Wu transposes_S2048x5632_S5632x2048_1_0))

theorem REF_eq (Wg Wu : Mat 2048 5632) (G P : Mat 8192 5632) : REF Wg Wu G P = PROD Wg Wu G P := by
  funext y
  obtain ⟨r, l, rfl⟩ := ix2_of (a := 8192) (b := 2048) y
  refine Eq.trans ?_ (congrArg₂ (· + ·) (nt_ix G Wg r l) (nt_ix P Wu r l))
  pointwise [REF]

end Reference

/-- The frame of the reference. -/
theorem ref_frame : quiescent_FfnBwdXRefIdeal := fun m ρ _ =>
  (θ_run FfnBwdXRefIdeal.defs _ _).mono (fun r h => ⟨fun c => (h c).2, sem_eq_zero_of_no_sems (by decide) r.2⟩)
    (FfnBwdXRefIdeal.Value.run (F := Ideal) m ρ)

/-- The call's result is the reference's, at any arguments. -/
theorem algebraic : algebraic_FfnBwdXIdeal_FfnBwdXRefIdeal := fun m ρ m' ρ' _ hag =>
  ⟨fun c => PROD (argWg m c) (argWu m c) (argG m c) (argP m c),
   (θ_run FfnBwdXIdeal.defs _ _).mono (fun _ h c => ⟨(h c).1.trans (final m c), (h c).2⟩)
     (FfnBwdXIdeal.Value.run_blocks (F := Ideal) m ρ),
   (θ_run FfnBwdXRefIdeal.defs _ _).mono (fun _ h c => ⟨(h c).1.trans (by
       obtain ⟨e0, e1, e2, e3⟩ := hag c
       rw [e0, e1, e2, e3]
       exact REF_eq (argWg m c) (argWu m c) (argG m c) (argP m c)), (h c).2⟩)
     (FfnBwdXRefIdeal.Value.run (F := Ideal) m' ρ')⟩
-- ==== Proof.FfnBwdWguClaims.lean ====
/- The gradients of the feed-forward's two wide matrices: the call, its reference and the claims. -/
module
public import proofs.«01_k».proof.Defs
public import proofs.«01_k».proof.Proof.FfnShards
public import proofs.«01_k».proof.Proof.FfnFwdBlock
public import proofs.«01_k».proof.Proof.Gen.FfnBwdWguIdeal.Value
public import proofs.«01_k».proof.Proof.Gen.FfnBwdWguRefIdeal.Run
public import proofs.«01_k».proof.Proof.Gen.FfnBwdWgu.Frame
public import Idealize.ShloMosaic.Lib.Pipeline.ReadBack

@[expose] public section
noncomputable section
namespace Cert.FfnBwdWguProof
open Tables Products FfnProof FfnShards FfnFwdProof Idealize.ShloMosaic TcCoe Idealize.SL.Sem

section Kernel
open FfnBwdWguIdeal FfnBwdWguIdeal.Gen

/-- The two products, entry by entry, stacked in shards of columns. -/
def PROD (U : Mat 8192 2048) (G P : Mat 8192 5632) : FVec Ideal S8x2x2048x704 .bf16 := fun y =>
  if (y 1).val = 0 then tn U G (y 2).val ((y 0).val * 704 + (y 3).val) else tn U P (y 2).val ((y 0).val * 704 + (y 3).val)

variable (m : (ℓ : Loc nD τ sig) → Buf (Elt Ideal) ℓ) (c : Dev nD)

abbrev argU : Mat 8192 2048 := m ((c.tc : Thread nD τ).loc main_arg0)
abbrev argG : Mat 8192 5632 := m ((c.tc : Thread nD τ).loc main_arg1)
abbrev argP : Mat 8192 5632 := m ((c.tc : Thread nD τ).loc main_arg2)

/-- The payloads: the block's product, put into the running sum, added to it, and the sum at the end. -/
theorem pay1_at (v0 : Vec Ideal S1024x2048 .bf16) (v2 : Vec Ideal S1x1x1024x704 .bf16) (r : Fin 2048) (l : Fin 704) :
    k0_pay1 (F := Ideal) v0 v2 (ix2 r l) = ∑ k : Fin 1024, v0 (ix2 k r) * v2 (ix4 0 0 k l) := by
  pointwise [k0_pay1]
theorem pay2_eq (v0 : Vec Ideal S1024x2048 .bf16) (v2 : Vec Ideal S1x1x1024x704 .bf16) : k0_pay2 (F := Ideal) v0 v2 = k0_pay1 v0 v2 := shapeCast_self _ _
theorem pay3_eq (v0 : Vec Ideal S1024x2048 .bf16) (v2 : Vec Ideal S1x1x1024x704 .bf16) (a : Vec Ideal S2048x704 .f32) : k0_pay3 (F := Ideal) v0 v2 a = addf a (k0_pay1 v0 v2) := shapeCast_self _ _
theorem pay4_at (a : Vec Ideal S2048x704 .f32) (r : Fin 2048) (l : Fin 704) : k0_pay4 (F := Ideal) a (ix4 0 0 r l) = a (ix2 r l) := by
  pointwise [k0_pay4]

/-- Every window's block index at point `t`. -/
theorem idx : ∀ t : Fin cfg0.N, win0_0.index t = ![t.val % 8, 0] ∧ win0_1.index t = ![t.val / 8 % 2, t.val / 16, t.val % 8, 0] ∧ win0_2.index t = ![t.val / 16, t.val / 8 % 2, 0, 0] :=
  (by decide +kernel : ∀ t : Fin grid0.N, _)

theorem readU : @Eq (FVec Ideal S8192x2048 .bf16) (V m c main_v8) (truncf (F := Ideal) .bf16 (argU m c) bitsLt_bf16_f32) := by
  entry_read
  rfl
theorem readD : @Eq (FVec Ideal S2x8x8192x704 .bf16) (V m c main_v7) (truncf (F := Ideal) .bf16 (PAIR (CUT (argG m c)) (CUT (argP m c))) bitsLt_bf16_f32) := by
  entry_read
  rfl

variable (t : Fin cfg0.N)

theorem lt_N : t.val < 128 := lt_of_lt_of_eq t.isLt N_0

theorem blk_u (A : FVec Ideal S8192x2048 .bf16) (y : S1024x2048.Idx) : ((cfg0.win 0).blk t).view.read (Elt Ideal) A y = A ((win0_0.blk t).view.emb y) := rfl
theorem blk_d (A : FVec Ideal S2x8x8192x704 .bf16) (y : S1x1x1024x704.Idx) : ((cfg0.win 1).blk t).view.read (Elt Ideal) A y = A ((win0_1.blk t).view.emb y) := rfl

/-- The two gradients, chosen by number. -/
def grad (w i n : ℕ) : EReal := if w = 0 then tab (argG m c) i n else tab (argP m c) i n

theorem u_at (k : Fin 1024) (r : Fin 2048) : iblk m c 0 t (ix2 k r : S1024x2048.Idx) = tab (argU m c) (t.val % 8 * 1024 + k.val) r.val := by
  unfold iblk
  rw [show V m c (Pipeline.arrRef spec0 0) = _ from readU m c]
  rw [blk_u]
  refine tab_of (argU m c) ?_ ?_
  all_goals blk_simp [idx t]

theorem d_at (k : Fin 1024) (l : Fin 704) : iblk m c 1 t (ix4 0 0 k l : S1x1x1024x704.Idx) = grad m c (t.val / 8 % 2) (t.val % 8 * 1024 + k.val) (t.val / 16 * 704 + l.val) := by
  unfold iblk
  rw [show V m c (Pipeline.arrRef spec0 1) = _ from readD m c]
  rw [blk_d, pair_of (argG m c) (argP m c) (w := t.val / 8 % 2) (j := t.val / 16) (i := t.val % 8 * 1024 + k.val) (n := l.val)]
  · rfl
  all_goals blk_simp [idx t]
  all_goals simp

/-- What a point adds to the running sum. -/
def share (y : S2048x704.Idx) : EReal := ∑ k : Fin 1024, tab (argU m c) (t.val % 8 * 1024 + k.val) (y 0).val
  * grad m c (t.val / 8 % 2) (t.val % 8 * 1024 + k.val) (t.val / 16 * 704 + (y 1).val)

theorem share_at (y : S2048x704.Idx) : k0_pay1 (F := Ideal) (iblk m c 0 t) (iblk m c 1 t) y = share m c t y := by
  obtain ⟨r, l, rfl⟩ := ix2_of (a := 2048) (b := 704) y
  rw [pay1_at]
  exact Finset.sum_congr rfl fun k _ => congrArg₂ (· * ·) (u_at m c t k r) (d_at m c t k l)

theorem first (h : t.val % 8 = 0) (y : S2048x704.Idx) : (outsAt0 m c t.val t.isLt).2 y = 0 + share m c t y := by
  rw [outsAt0_A m c t h (by omega) (by omega), zero_add, ← share_at, ← pay2_eq]
  frame_out
theorem next (h : ¬t.val % 8 = 0) (y : S2048x704.Idx) :
    (outsAt0 m c t.val t.isLt).2 y = (outsAt0 m c (t.val - 1) (Nat.lt_of_le_of_lt (Nat.sub_le _ _) t.isLt)).2 y + share m c t y := by
  refine Eq.trans ?_ (congrArg _ (share_at m c t y))
  by_cases h7 : t.val % 8 = 7
  · rw [outsAt0_C m c t h (by omega) h7]
    frame_out
    rw [pay3_eq, read_unread_whole]
    rfl
  · rw [outsAt0_B m c t h (by omega) h7]
    frame_out
    rw [pay3_eq, read_unread_whole]
    rfl

theorem last (h : t.val % 8 = 7) (r : Fin 2048) (l : Fin 704) : (outsAt0 m c t.val t.isLt).1 (ix4 0 0 r l) = (outsAt0 m c t.val t.isLt).2 (ix2 r l) := by
  rw [← pay4_at (outsAt0 m c t.val t.isLt).2, outsAt0_C m c t (by omega) (by omega) h]
  frame_out

theorem piece (y : S1x1x2048x704.Idx) : ∃ (r : Fin 2048) (l : Fin 704), y = ix4 0 0 r l :=
  ⟨y 2, y 3, funext fun k => by fin_cases k <;> first | rfl | exact Subsingleton.elim (α := Fin 1) _ _⟩

theorem final : (dats m 0 c).arrAt 2 (cfgs 0).N = PROD (argU m c) (argG m c) (argP m c) := by
  refine (dats m 0 c).arrAt_eq_of_covers 2 _ (by decide +kernel) fun t hf y => ?_
  have hN := lt_N t
  have h7 : t.val % 8 = 7 := (flush0_2 t).mp hf
  have e0 : ((((cfg0.win 2).blk t).view.emb y) 0).val = t.val / 16 + (y 0).val := by blk_simp [idx t]
  have e1 : ((((cfg0.win 2).blk t).view.emb y) 1).val = t.val / 8 % 2 + (y 1).val := by blk_simp [idx t]
  have e2 : ((((cfg0.win 2).blk t).view.emb y) 2).val = (y 2).val := by blk_simp [idx t]
  have e3 : ((((cfg0.win 2).blk t).view.emb y) 3).val = (y 3).val := by blk_simp [idx t]
  obtain ⟨r, l, rfl⟩ := piece y
  rw [after0_2]
  refine (cast_eq _ _).trans ((last m c t h7 r l).trans ?_)
  rw [Pipeline.eq_sum_fin_of_reset_step_apply_of_flush (fun n h => (outsAt0 m c n h).2) 8 (fun _ => 0) (share m c)
    (first m c) (next m c) t h7, zero_add]
  unfold PROD
  have z : (((ix4 0 0 r l : S1x1x2048x704.Idx) 0).val) = 0 := rfl
  have z1 : (((ix4 0 0 r l : S1x1x2048x704.Idx) 1).val) = 0 := rfl
  rw [z, Nat.add_zero] at e0
  rw [z1, Nat.add_zero] at e1
  rw [e0, e1, e2, e3, ← tn_blocks (S := 8) (w := 1024) _ _ _ _ (by decide), ← tn_blocks (S := 8) (w := 1024) _ _ _ _ (by decide)]
  have d : ∀ s : Fin 8, (8 * (t.val / 8) + s.val) / 16 = t.val / 16 := fun s => by omega
  have p : ∀ s : Fin 8, (8 * (t.val / 8) + s.val) / 8 % 2 = t.val / 8 % 2 := fun s => by omega
  have q : ∀ s : Fin 8, (8 * (t.val / 8) + s.val) % 8 = s.val := fun s => by omega
  unfold share grad
  simp only [d, p, q]
  split_ifs <;> rfl

end Kernel

section Reference
open FfnBwdWguRefIdeal FfnBwdWguRefIdeal.Gen

def REF (U : Mat 8192 2048) (G : Mat 8192 5632) : Mat 2048 5632 :=
  Host.dotGeneral (F := Ideal) (φ₁ := .f32) (φ₂ := .f32) dot_S2048x8192_S8192x5632_S2048x5632_1_0_0_1_n_n none (transpose S2048x8192 [1, 0] U transposes_S8192x2048_S2048x8192_1_0) G

theorem REF_at (U : Mat 8192 2048) (G : Mat 8192 5632) (k : Fin 2048) (n : Fin 5632) : tab (REF U G) k.val n.val = tn U G k.val n.val := by
  rw [← tab_ix]
  refine Eq.trans ?_ (tn_ix U G k n)
  pointwise [REF]

theorem REF_eq (U : Mat 8192 2048) (G P : Mat 8192 5632) : stackW (REF U G) (REF U P) = PROD U G P := by
  funext y
  obtain ⟨j, w, k, n, rfl⟩ : ∃ (j : Fin 8) (w : Fin 2) (k : Fin 2048) (n : Fin 704), y = ix4 j w k n := ⟨y 0, y 1, y 2, y 3, funext fun k => by fin_cases k <;> rfl⟩
  have e : ∀ A, tab (REF U A) k.val (j.val * 704 + n.val) = _ := fun A => REF_at U A k ⟨j.val * 704 + n.val, by omega⟩
  rw [stackW_at, e, e]
  rfl

end Reference

/-- The frame of the reference. -/
theorem ref_frame : quiescent_FfnBwdWguRefIdeal := fun m ρ _ =>
  (θ_run FfnBwdWguRefIdeal.defs _ _).mono (fun r h => ⟨fun c => (h c).2, sem_eq_zero_of_no_sems (by decide) r.2⟩)
    (FfnBwdWguRefIdeal.Value.run (F := Ideal) m ρ)

/-- The call's result is the reference's, at any arguments. -/
theorem algebraic : algebraic_FfnBwdWguIdeal_FfnBwdWguRefIdeal := fun m ρ m' ρ' _ hag =>
  ⟨fun c => PROD (argU m c) (argG m c) (argP m c),
   (θ_run FfnBwdWguIdeal.defs _ _).mono (fun _ h c => ⟨(h c).1.trans (final m c), (h c).2⟩)
     (FfnBwdWguIdeal.Value.run_blocks (F := Ideal) m ρ),
   (θ_run FfnBwdWguRefIdeal.defs _ _).mono (fun _ h c => ⟨(h c).1.trans (by
       obtain ⟨e0, e1, e2⟩ := hag c
       rw [e0, e1, e2]
       exact REF_eq (argU m c) (argG m c) (argP m c)), (h c).2⟩)
     (FfnBwdWguRefIdeal.Value.run (F := Ideal) m' ρ')⟩
-- ==== Proof.FfnBwdWdClaims.lean ====
/- The gradient of the feed-forward's last matrix: the call, its reference and the claims. -/
module
public import proofs.«01_k».proof.Defs
public import proofs.«01_k».proof.Proof.FfnShards
public import proofs.«01_k».proof.Proof.Gen.FfnBwdWdIdeal.Value
public import proofs.«01_k».proof.Proof.Gen.FfnBwdWdRefIdeal.Run
public import proofs.«01_k».proof.Proof.Gen.FfnBwdWd.Frame
public import Idealize.ShloMosaic.Lib.Pipeline.ReadBack

@[expose] public section
noncomputable section
namespace Cert.FfnBwdWdProof
open Tables Products FfnProof FfnShards Idealize.ShloMosaic TcCoe Idealize.SL.Sem

section Kernel
open FfnBwdWdIdeal FfnBwdWdIdeal.Gen

/-- The product, entry by entry, in shards of rows. -/
def PROD (A : Mat 8192 5632) (D : Mat 8192 2048) : FVec Ideal S8x704x2048 .bf16 := fun y => tn A D ((y 0).val * 704 + (y 1).val) (y 2).val

variable (m : (ℓ : Loc nD τ sig) → Buf (Elt Ideal) ℓ) (c : Dev nD)

abbrev argA : Mat 8192 5632 := m ((c.tc : Thread nD τ).loc main_arg0)
abbrev argD : Mat 8192 2048 := m ((c.tc : Thread nD τ).loc main_arg1)

/-- The payloads: the block's product, put into the running sum, added to it, and the sum at the end. -/
theorem pay1_at (v0 : Vec Ideal S1x1024x704 .bf16) (v2 : Vec Ideal S1024x2048 .bf16) (r : Fin 704) (l : Fin 2048) :
    k0_pay1 (F := Ideal) v0 v2 (ix2 r l) = ∑ k : Fin 1024, v0 (ix3 0 k r) * v2 (ix2 k l) := by
  pointwise [k0_pay1]
theorem pay2_eq (v0 : Vec Ideal S1x1024x704 .bf16) (v2 : Vec Ideal S1024x2048 .bf16) : k0_pay2 (F := Ideal) v0 v2 = k0_pay1 v0 v2 := shapeCast_self _ _
theorem pay3_eq (v0 : Vec Ideal S1x1024x704 .bf16) (v2 : Vec Ideal S1024x2048 .bf16) (a : Vec Ideal S704x2048 .f32) : k0_pay3 (F := Ideal) v0 v2 a = addf a (k0_pay1 v0 v2) := shapeCast_self _ _
theorem pay4_at (a : Vec Ideal S704x2048 .f32) (r : Fin 704) (l : Fin 2048) : k0_pay4 (F := Ideal) a (ix3 0 r l) = a (ix2 r l) := by
  pointwise [k0_pay4]

/-- Every window's block index at point `t`. -/
theorem idx : ∀ t : Fin cfg0.N, win0_0.index t = ![t.val / 8, t.val % 8, 0] ∧ win0_1.index t = ![t.val % 8, 0] ∧ win0_2.index t = ![t.val / 8, 0, 0] :=
  (by decide +kernel : ∀ t : Fin grid0.N, _)

theorem readA : @Eq (FVec Ideal S8x8192x704 .bf16) (V m c main_v2) (truncf (F := Ideal) .bf16 (CUT (argA m c)) bitsLt_bf16_f32) := by
  entry_read
  rfl
theorem readD : @Eq (FVec Ideal S8192x2048 .bf16) (V m c main_v3) (truncf (F := Ideal) .bf16 (argD m c) bitsLt_bf16_f32) := by
  entry_read
  rfl

variable (t : Fin cfg0.N)

theorem lt_N : t.val < 64 := lt_of_lt_of_eq t.isLt N_0

theorem blk_a (A : FVec Ideal S8x8192x704 .bf16) (y : S1x1024x704.Idx) : ((cfg0.win 0).blk t).view.read (Elt Ideal) A y = A ((win0_0.blk t).view.emb y) := rfl
theorem blk_d (A : FVec Ideal S8192x2048 .bf16) (y : S1024x2048.Idx) : ((cfg0.win 1).blk t).view.read (Elt Ideal) A y = A ((win0_1.blk t).view.emb y) := rfl

theorem a_at (k : Fin 1024) (r : Fin 704) : iblk m c 0 t (ix3 0 k r : S1x1024x704.Idx) = tab (argA m c) (t.val % 8 * 1024 + k.val) (t.val / 8 * 704 + r.val) := by
  unfold iblk
  rw [show V m c (Pipeline.arrRef spec0 0) = _ from readA m c]
  rw [blk_a, shard_of (argA m c) (j := t.val / 8) (i := t.val % 8 * 1024 + k.val) (n := r.val)]
  all_goals blk_simp [idx t]
  simp

theorem d_at (k : Fin 1024) (l : Fin 2048) : iblk m c 1 t (ix2 k l : S1024x2048.Idx) = tab (argD m c) (t.val % 8 * 1024 + k.val) l.val := by
  unfold iblk
  rw [show V m c (Pipeline.arrRef spec0 1) = _ from readD m c]
  rw [blk_d]
  refine tab_of (argD m c) ?_ ?_
  all_goals blk_simp [idx t]

/-- What a point adds to the running sum. -/
def share (y : S704x2048.Idx) : EReal := ∑ k : Fin 1024, tab (argA m c) (t.val % 8 * 1024 + k.val) (t.val / 8 * 704 + (y 0).val)
  * tab (argD m c) (t.val % 8 * 1024 + k.val) (y 1).val

theorem share_at (y : S704x2048.Idx) : k0_pay1 (F := Ideal) (iblk m c 0 t) (iblk m c 1 t) y = share m c t y := by
  obtain ⟨r, l, rfl⟩ := ix2_of (a := 704) (b := 2048) y
  rw [pay1_at]
  exact Finset.sum_congr rfl fun k _ => congrArg₂ (· * ·) (a_at m c t k r) (d_at m c t k l)

theorem first (h : t.val % 8 = 0) (y : S704x2048.Idx) : (outsAt0 m c t.val t.isLt).2 y = 0 + share m c t y := by
  rw [outsAt0_A m c t h (by omega) (by omega), zero_add, ← share_at, ← pay2_eq]
  frame_out
theorem next (h : ¬t.val % 8 = 0) (y : S704x2048.Idx) :
    (outsAt0 m c t.val t.isLt).2 y = (outsAt0 m c (t.val - 1) (Nat.lt_of_le_of_lt (Nat.sub_le _ _) t.isLt)).2 y + share m c t y := by
  refine Eq.trans ?_ (congrArg _ (share_at m c t y))
  by_cases h7 : t.val % 8 = 7
  · rw [outsAt0_C m c t h (by omega) h7]
    frame_out
    rw [pay3_eq, read_unread_whole]
    rfl
  · rw [outsAt0_B m c t h (by omega) h7]
    frame_out
    rw [pay3_eq, read_unread_whole]
    rfl

theorem last (h : t.val % 8 = 7) (r : Fin 704) (l : Fin 2048) : (outsAt0 m c t.val t.isLt).1 (ix3 0 r l) = (outsAt0 m c t.val t.isLt).2 (ix2 r l) := by
  rw [← pay4_at (outsAt0 m c t.val t.isLt).2, outsAt0_C m c t (by omega) (by omega) h]
  frame_out

theorem piece (y : S1x704x2048.Idx) : ∃ (r : Fin 704) (l : Fin 2048), y = ix3 0 r l :=
  ⟨y 1, y 2, funext fun k => by fin_cases k <;> first | rfl | exact Subsingleton.elim (α := Fin 1) _ _⟩

theorem final : (dats m 0 c).arrAt 2 (cfgs 0).N = PROD (argA m c) (argD m c) := by
  refine (dats m 0 c).arrAt_eq_of_covers 2 _ (by decide +kernel) fun t hf y => ?_
  have hN := lt_N t
  have h7 : t.val % 8 = 7 := (flush0_2 t).mp hf
  have e0 : ((((cfg0.win 2).blk t).view.emb y) 0).val = t.val / 8 + (y 0).val := by blk_simp [idx t]
  have e1 : ((((cfg0.win 2).blk t).view.emb y) 1).val = (y 1).val := by blk_simp [idx t]
  have e2 : ((((cfg0.win 2).blk t).view.emb y) 2).val = (y 2).val := by blk_simp [idx t]
  obtain ⟨r, l, rfl⟩ := piece y
  rw [after0_2]
  refine (cast_eq _ _).trans ((last m c t h7 r l).trans ?_)
  rw [Pipeline.eq_sum_fin_of_reset_step_apply_of_flush (fun n h => (outsAt0 m c n h).2) 8 (fun _ => 0) (share m c)
    (first m c) (next m c) t h7, zero_add]
  unfold PROD
  have z : (((ix3 0 r l : S1x704x2048.Idx) 0).val) = 0 := rfl
  rw [z, Nat.add_zero] at e0
  rw [e0, e1, e2, ← tn_blocks (S := 8) (w := 1024) _ _ _ _ (by decide)]
  refine Finset.sum_congr rfl fun s _ => ?_
  have d : (8 * (t.val / 8) + s.val) / 8 = t.val / 8 := by omega
  have q : (8 * (t.val / 8) + s.val) % 8 = s.val := by omega
  unfold share
  simp only [d, q]
  rfl

end Kernel

section Reference
open FfnBwdWdRefIdeal FfnBwdWdRefIdeal.Gen

def REF (A : Mat 8192 5632) (D : Mat 8192 2048) : Mat 5632 2048 :=
  Host.dotGeneral (F := Ideal) (φ₁ := .f32) (φ₂ := .f32) dot_S5632x8192_S8192x2048_S5632x2048_1_0_0_1_n_n none (transpose S5632x8192 [1, 0] A transposes_S8192x5632_S5632x8192_1_0) D

theorem REF_at (A : Mat 8192 5632) (D : Mat 8192 2048) (i : Fin 5632) (k : Fin 2048) : REF A D (ix2 i k) = tn A D i.val k.val := by
  refine Eq.trans ?_ (tn_ix A D i k)
  pointwise [REF]

theorem REF_eq (A : Mat 8192 5632) (D : Mat 8192 2048) :
    truncf .bf16 (shapeCast S8x704x2048 (REF A D) shapeCasts_S5632x2048_S8x704x2048) bitsLt_bf16_f32 = PROD A D := by
  funext y
  obtain ⟨j, n, k, rfl⟩ : ∃ (j : Fin 8) (n : Fin 704) (k : Fin 2048), y = ix3 j n k := ⟨y 0, y 1, y 2, funext fun k => by fin_cases k <;> rfl⟩
  refine (rows_of (REF A D) (j := j.val) (n := n.val) (k := k.val) rfl rfl rfl).trans ?_
  exact ((tab_ix (REF A D) ⟨j.val * 704 + n.val, by omega⟩ k).symm.trans (REF_at A D _ k))

end Reference

/-- The frame of the reference. -/
theorem ref_frame : quiescent_FfnBwdWdRefIdeal := fun m ρ _ =>
  (θ_run FfnBwdWdRefIdeal.defs _ _).mono (fun r h => ⟨fun c => (h c).2, sem_eq_zero_of_no_sems (by decide) r.2⟩)
    (FfnBwdWdRefIdeal.Value.run (F := Ideal) m ρ)

/-- The call's result is the reference's, at any arguments. -/
theorem algebraic : algebraic_FfnBwdWdIdeal_FfnBwdWdRefIdeal := fun m ρ m' ρ' _ hag =>
  ⟨fun c => PROD (argA m c) (argD m c),
   (θ_run FfnBwdWdIdeal.defs _ _).mono (fun _ h c => ⟨(h c).1.trans (final m c), (h c).2⟩)
     (FfnBwdWdIdeal.Value.run_blocks (F := Ideal) m ρ),
   (θ_run FfnBwdWdRefIdeal.defs _ _).mono (fun _ h c => ⟨(h c).1.trans (by
       obtain ⟨e0, e1⟩ := hag c
       rw [e0, e1]
       exact REF_eq (argA m c) (argD m c)), (h c).2⟩)
     (FfnBwdWdRefIdeal.Value.run (F := Ideal) m' ρ')⟩
-- ==== Proof.AdamwStep.lean ====
/- One AdamW step on one entry, as both kernels that do it and the reference write it. -/
module

public import proofs.«01_k».proof.Proof.Products

@[expose] public section

noncomputable section

namespace Cert.Adamw

open Idealize.ShloMosaic

abbrev R : Type := Ideal .f32
abbrev num (b : BitVec 32) : R := Scalar.ofBits .f32 b

/-- The new first and second moments of an entry with gradient `g`. -/
def stepM (g m : R) : R := num 0x3F666666#32 * m + num 0x3DCCCCCD#32 * g
def stepV (g v : R) : R := num 0x3F7FBE77#32 * v + num 0x3A83126F#32 * (g * g)

/-- The change of the entry, from its gradient, its value and its old moments. -/
def delta (g w m v : R) : R :=
  num 0xBA83126F#32 * (Ideal.div (Ideal.div (stepM g m) (num 0x3F26BD02#32)) (Ideal.sqrt (Ideal.div (stepV g v) (num 0x3C231ACC#32)) + num 0x322BCC77#32)
    + num 0x3C23D70A#32 * w)

/-- An index whose first axis has one entry. -/
theorem one_of {a b : ℕ} (y : (⟨3, ![1, a, b]⟩ : Shape).Idx) : ∃ r l, y = ix3 0 r l :=
  ⟨y 1, y 2, funext fun k => by
    fin_cases k
    · exact Fin.ext (by have : (y 0).val < 1 := (y 0).isLt; show (y 0).val = 0; omega)
    · rfl
    · rfl⟩

section Reference

variable {S : Shape} (h : (⟨0, ![]⟩ : Shape).BroadcastsInDim S (![] : Fin 0 → Fin S.rank)) (g w m v : FVec Ideal S .f32)

/-- The same on whole arrays, as the reference computes it. -/
def every (b : BitVec 32) : FVec Ideal S .f32 := broadcastInDim S ![] h (constant (F := Ideal) ⟨0, ![]⟩ .f32 b)
def MS : FVec Ideal S .f32 := addf (mulf (every h 0x3F666666#32) m) (mulf (every h 0x3DCCCCCD#32) g)
def VS : FVec Ideal S .f32 := addf (mulf (every h 0x3F7FBE77#32) v) (mulf (every h 0x3A83126F#32) (mulf g g))
def DS : FVec Ideal S .f32 :=
  mulf (every h 0xBA83126F#32) (addf (Host.divf (Host.divf (MS h g m) (every h 0x3F26BD02#32))
    (addf (Host.sqrt (Host.divf (VS h g v) (every h 0x3C231ACC#32))) (every h 0x322BCC77#32))) (mulf (every h 0x3C23D70A#32) w))

theorem MS_eq : MS h g m = fun y => stepM (g y) (m y) := rfl
theorem VS_eq : VS h g v = fun y => stepV (g y) (v y) := rfl
theorem DS_eq : DS h g w m v = fun y => delta (g y) (w y) (m y) (v y) := rfl

end Reference

end Cert.Adamw

end
-- ==== Proof.AdamClaims.lean ====
/- The sum of four gradient parts with its AdamW step: the call, its reference and the claims. -/
module
public import proofs.«01_k».proof.Defs
public import proofs.«01_k».proof.Proof.Gen.AdamIdeal.Value
public import proofs.«01_k».proof.Proof.Gen.AdamRefIdeal.Run
public import proofs.«01_k».proof.Proof.Gen.Adam.Frame
public import proofs.«01_k».proof.Proof.AdamwStep

@[expose] public section
noncomputable section
namespace Cert.AdamProof
open Adamw Idealize.ShloMosaic TcCoe Idealize.SL.Sem

abbrev Parts : Type := FVec Ideal ⟨3, ![4, 2048, 768]⟩ .f32
abbrev Arr : Type := FVec Ideal ⟨3, ![1, 2048, 768]⟩ .f32

/-- The four results: the gradient, the change and the new moments. -/
def G (A : Parts) : Arr := fun y => ∑ d : Fin 4, A (ix3 d (y 1) (y 2))
def D (A : Parts) (w m v : Arr) : Arr := fun y => delta (G A y) (w y) (m y) (v y)
def M (A : Parts) (m : Arr) : Arr := fun y => stepM (G A y) (m y)
def V' (A : Parts) (v : Arr) : Arr := fun y => stepV (G A y) (v y)

section Kernel
open AdamIdeal AdamIdeal.Gen

variable (m : (ℓ : Loc nD τ sig) → Buf (Elt Ideal) ℓ) (c : Dev nD)

abbrev argA : Parts := m ((c.tc : Thread nD τ).loc main_arg0)
abbrev argW : Arr := m ((c.tc : Thread nD τ).loc main_arg1)
abbrev argM : Arr := m ((c.tc : Thread nD τ).loc main_arg2)
abbrev argV : Arr := m ((c.tc : Thread nD τ).loc main_arg3)

abbrev One : Type := Vec Ideal S1x1x1x256x768 .bf16
abbrev Blk : Type := Vec Ideal S1x256x768 .f32

theorem pay6_at (p : Fin 4 → One) (r : Fin 256) (l : Fin 768) :
    k0_pay6 (F := Ideal) (p 0) (p 1) (p 2) (p 3) (ix2 r l) = ∑ d : Fin 4, p d (ix5 0 0 0 r l) := by
  rw [Fin.sum_univ_four]
  generalize p 0 = x0, p 1 = x1, p 2 = x2, p 3 = x3
  pointwise [k0_pay6]

theorem pay2_at (g : FVec Ideal S256x768 .f32) (r : Fin 256) (l : Fin 768) : k0_pay2 g (ix3 0 r l) = g (ix2 r l) := by pointwise [k0_pay2]
theorem pay4_at (g : FVec Ideal S256x768 .f32) (r : Fin 256) (l : Fin 768) : k0_pay4 g (ix3 0 r l) = g (ix2 r l) := by pointwise [k0_pay4]
theorem pay7_at (w : Blk) (r : Fin 256) (l : Fin 768) : k0_pay7 (F := Ideal) w (ix2 r l) = w (ix3 0 r l) := by pointwise [k0_pay7]
theorem pay8_at (w : Blk) (r : Fin 256) (l : Fin 768) : k0_pay8 (F := Ideal) w (ix2 r l) = w (ix3 0 r l) := by pointwise [k0_pay8]
theorem pay9_at (x0 x1 x2 x3 : One) (w : Blk) (r : Fin 256) (l : Fin 768) :
    k0_pay9 (F := Ideal) x0 x1 x2 x3 w (ix2 r l) = stepM (k0_pay6 x0 x1 x2 x3 (ix2 r l)) (w (ix3 0 r l)) := by
  unfold stepM; pointwise [k0_pay9]
theorem pay5_at (g v : FVec Ideal S256x768 .f32) (r : Fin 256) (l : Fin 768) :
    k0_pay5 g v (num 0x3F7FBE77#32) (ix3 0 r l) = stepV (g (ix2 r l)) (v (ix2 r l)) := by
  unfold stepV; pointwise [k0_pay5, k0_pay1]
theorem pay3_at (g w v n : FVec Ideal S256x768 .f32) (x : R) (r : Fin 256) (l : Fin 768) (h : n (ix2 r l) = stepM (g (ix2 r l)) x) :
    k0_pay3 g w v n (num 0x3F7FBE77#32) (ix3 0 r l) = delta (g (ix2 r l)) (w (ix2 r l)) x (v (ix2 r l)) := by
  unfold delta; rw [← h]; unfold stepV; pointwise [k0_pay3, k0_pay1]

theorem inside (d : Fin 4) : ∀ a, (![d.val, 0, 0, 0, 0] : Fin 5 → ℕ) a + (![1, 1, 1, 256, 768] : Fin 5 → ℕ) a ≤ S4x1x1x256x768.size a := by
  revert d; decide

/-- The load of one part, and of a whole block. -/
def load (x : Vec Ideal S4x1x1x256x768 .bf16) (d : Fin 4) : One :=
  View.ld (Val := Elt Ideal) (S := S4x1x1x256x768) (e' := .bf16) x (Rect.unit ![d.val, 0, 0, 0, 0] ![1, 1, 1, 256, 768] (inside d))

theorem load_at (x : Vec Ideal S4x1x1x256x768 .bf16) (d : Fin 4) (r : Fin 256) (l : Fin 768) : load x d (ix5 0 0 0 r l) = x (ix5 d 0 0 r l) := by
  refine congrArg x (funext fun k => ?_)
  fin_cases k <;> exact Fin.ext (by simp [Rect.emb_apply])

theorem whole_at (x : Blk) (r : Fin 256) (l : Fin 768) : (View.ld (Val := Elt Ideal) (S := S1x256x768) (e' := .f32) x r0_4 : Blk) (ix3 0 r l) = x (ix3 0 r l) := by
  refine congrArg x (funext fun k => ?_)
  fin_cases k <;> exact Fin.ext (by simp [Rect.emb_apply])

variable (x0 : Vec Ideal S4x1x1x256x768 .bf16) (x1 x2 x3 : Blk) (r : Fin 256) (l : Fin 768)

abbrev sumOf : R := ∑ d : Fin 4, x0 (ix5 d 0 0 r l)

theorem p10_at : k0_pay10 (F := Ideal) x0 x1 x2 x3 (ix2 r l) = sumOf x0 r l :=
  (pay6_at (load x0) r l).trans (Finset.sum_congr rfl fun d _ => load_at x0 d r l)
theorem p11_at : k0_pay11 (F := Ideal) x0 x1 x2 x3 (ix2 r l) = x3 (ix3 0 r l) := (pay8_at _ r l).trans (whole_at x3 r l)
theorem p12_at : k0_pay12 (F := Ideal) x0 x1 x2 x3 (ix2 r l) = stepM (k0_pay10 (F := Ideal) x0 x1 x2 x3 (ix2 r l)) (x2 (ix3 0 r l)) :=
  (pay9_at _ _ _ _ _ r l).trans (congrArg _ (whole_at x2 r l))

theorem out4_at : out0_4 (F := Ideal) x0 x1 x2 x3 (ix3 0 r l) = sumOf x0 r l := by
  frame_out
  exact (pay2_at _ r l).trans (p10_at x0 x1 x2 x3 r l)
theorem out5_at : out0_5 (F := Ideal) x0 x1 x2 x3 (ix3 0 r l) = delta (sumOf x0 r l) (x1 (ix3 0 r l)) (x2 (ix3 0 r l)) (x3 (ix3 0 r l)) := by
  frame_out
  refine (pay3_at _ _ _ _ _ r l (p12_at x0 x1 x2 x3 r l)).trans ?_
  rw [p10_at, p11_at, pay7_at]
theorem out6_at : out0_6 (F := Ideal) x0 x1 x2 x3 (ix3 0 r l) = stepM (sumOf x0 r l) (x2 (ix3 0 r l)) := by
  frame_out
  refine (pay4_at _ r l).trans ?_
  rw [p12_at, p10_at]
theorem out7_at : out0_7 (F := Ideal) x0 x1 x2 x3 (ix3 0 r l) = stepV (sumOf x0 r l) (x3 (ix3 0 r l)) := by
  frame_out
  refine (pay5_at _ _ r l).trans ?_
  rw [p10_at, p11_at]

omit x0 x1 x2 x3 r l

/-- The four parts in the shape the call takes them in. -/
theorem readG : @Eq (FVec Ideal S4x1x1x2048x768 .bf16) (V m c main_v1)
    (truncf (F := Ideal) .bf16 (shapeCast S4x1x1x2048x768 (argA m c) shapeCasts_S4x2048x768_S4x1x1x2048x768) bitsLt_bf16_f32) := by
  entry_read
  rfl

theorem five_at (A : Parts) (d : Fin 4) (r : Fin 2048) (l : Fin 768) :
    truncf (F := Ideal) .bf16 (shapeCast S4x1x1x2048x768 A shapeCasts_S4x2048x768_S4x1x1x2048x768) bitsLt_bf16_f32 (ix5 d 0 0 r l) = A (ix3 d r l) := by
  pointwise

variable (t : Fin cfg0.N) (r : Fin 256) (l : Fin 768)

theorem lt8 : t.val < 8 := lt_of_lt_of_eq t.isLt N_0

theorem idx : ∀ t : Fin cfg0.N, (win0_0.index t 0 = 0 ∧ win0_0.index t 1 = 0 ∧ win0_0.index t 2 = 0 ∧ win0_0.index t 3 = t.val ∧ win0_0.index t 4 = 0)
    ∧ (win0_1.index t 0 = 0 ∧ win0_1.index t 1 = t.val ∧ win0_1.index t 2 = 0) ∧ (win0_2.index t 0 = 0 ∧ win0_2.index t 1 = t.val ∧ win0_2.index t 2 = 0)
    ∧ (win0_3.index t 0 = 0 ∧ win0_3.index t 1 = t.val ∧ win0_3.index t 2 = 0) ∧ (win0_4.index t 0 = 0 ∧ win0_4.index t 1 = t.val ∧ win0_4.index t 2 = 0)
    ∧ (win0_5.index t 0 = 0 ∧ win0_5.index t 1 = t.val ∧ win0_5.index t 2 = 0) ∧ (win0_6.index t 0 = 0 ∧ win0_6.index t 1 = t.val ∧ win0_6.index t 2 = 0)
    ∧ (win0_7.index t 0 = 0 ∧ win0_7.index t 1 = t.val ∧ win0_7.index t 2 = 0) := by decide +kernel

/-- The row of the array that row `r` of the block is. -/
abbrev row : Fin 2048 := ⟨t.val * 256 + r.val, by have := lt8 t; omega⟩

theorem read_at (A : FVec Ideal S4x1x1x2048x768 .bf16) (y : S4x1x1x256x768.Idx) : ((cfg0.win 0).blk t).view.read (Elt Ideal) A y = A ((win0_0.blk t).view.emb y) := rfl

theorem blkG (d : Fin 4) : (iblk m c 0 t : Vec Ideal S4x1x1x256x768 .bf16) (ix5 d 0 0 r l) = argA m c (ix3 d (row t r) l) := by
  unfold iblk
  rw [show V m c (Pipeline.arrRef spec0 0) = _ from readG m c]
  rw [read_at]
  refine Eq.trans (congrArg _ (funext fun k => ?_)) (five_at _ d (row t r) l)
  fin_cases k <;> refine Fin.ext ?_
  all_goals blk_simp [idx t] <;> rfl
theorem blkW : (iblk m c 1 t : Blk) (ix3 0 r l) = argW m c (ix3 0 (row t r) l) := by blk_point [iblk, V, idx t, argW]
theorem blkM : (iblk m c 2 t : Blk) (ix3 0 r l) = argM m c (ix3 0 (row t r) l) := by blk_point [iblk, V, idx t, argM]
theorem blkV : (iblk m c 3 t : Blk) (ix3 0 r l) = argV m c (ix3 0 (row t r) l) := by blk_point [iblk, V, idx t, argV]

theorem sum_at : sumOf (iblk m c 0 t) r l = G (argA m c) (ix3 0 (row t r) l) := Finset.sum_congr rfl fun d _ => blkG m c t r l d

/-- Where an entry of an output block lies in its array. -/
theorem at4 : (ix3 0 (row t r) l : S1x2048x768.Idx) = ((cfg0.win 4).blk t).view.emb (ix3 0 r l : S1x256x768.Idx) := by
  funext k; fin_cases k <;> refine Fin.ext (Eq.symm ?_) <;> blk_simp [idx t] <;> rfl
theorem at5 : (ix3 0 (row t r) l : S1x2048x768.Idx) = ((cfg0.win 5).blk t).view.emb (ix3 0 r l : S1x256x768.Idx) := by
  funext k; fin_cases k <;> refine Fin.ext (Eq.symm ?_) <;> blk_simp [idx t] <;> rfl
theorem at6 : (ix3 0 (row t r) l : S1x2048x768.Idx) = ((cfg0.win 6).blk t).view.emb (ix3 0 r l : S1x256x768.Idx) := by
  funext k; fin_cases k <;> refine Fin.ext (Eq.symm ?_) <;> blk_simp [idx t] <;> rfl
theorem at7 : (ix3 0 (row t r) l : S1x2048x768.Idx) = ((cfg0.win 7).blk t).view.emb (ix3 0 r l : S1x256x768.Idx) := by
  funext k; fin_cases k <;> refine Fin.ext (Eq.symm ?_) <;> blk_simp [idx t] <;> rfl

omit r l

theorem final : (dats m 0 c).arrAt 4 (cfgs 0).N = G (argA m c) ∧ (dats m 0 c).arrAt 5 (cfgs 0).N = D (argA m c) (argW m c) (argM m c) (argV m c)
    ∧ (dats m 0 c).arrAt 6 (cfgs 0).N = M (argA m c) (argM m c) ∧ (dats m 0 c).arrAt 7 (cfgs 0).N = V' (argA m c) (argV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  all_goals obtain ⟨r, l, rfl⟩ := one_of (a := 256) (b := 768) y
  · rw [after0_4]
    exact (cast_eq _ _).trans ((out4_at _ _ _ _ r l).trans ((sum_at m c t r l).trans (congrArg (G (argA m c)) (at4 t r l))))
  · rw [after0_5]
    refine (cast_eq _ _).trans ((out5_at _ _ _ _ r l).trans ?_)
    rw [sum_at, blkW, blkM, blkV]
    exact congrArg (D (argA m c) (argW m c) (argM m c) (argV m c)) (at5 t r l)
  · rw [after0_6]
    refine (cast_eq _ _).trans ((out6_at _ _ _ _ r l).trans ?_)
    rw [sum_at, blkM]
    exact congrArg (M (argA m c) (argM m c)) (at6 t r l)
  · rw [after0_7]
    refine (cast_eq _ _).trans ((out7_at _ _ _ _ r l).trans ?_)
    rw [sum_at, blkV]
    exact congrArg (V' (argA m c) (argV m c)) (at7 t r l)

end Kernel

section Reference
open AdamRefIdeal AdamRefIdeal.Gen

def SUM (A : Parts) : Arr :=
  broadcastInDim S1x2048x768 ![1, 2] bcast_S2048x768_S1x2048x768_1_2 (Host.reduceAdd (F := Ideal) (φ := .f32) A (constant S_ .f32 0x00000000#32) reducesTo_S4x2048x768_S2048x768_d0 h_S_)

theorem SUM_eq (A : Parts) : SUM A = G A := by
  funext y
  obtain ⟨r, l, rfl⟩ := one_of (a := 2048) (b := 768) y
  unfold G
  pointwise [SUM]

end Reference

/-- The frame of the reference. -/
theorem ref_frame : quiescent_AdamRefIdeal := fun m ρ _ =>
  (θ_run AdamRefIdeal.defs _ _).mono (fun r h => ⟨fun c => (h c).2.2.2.2, sem_eq_zero_of_no_sems (by decide) r.2⟩)
    (AdamRefIdeal.Value.run (F := Ideal) m ρ)

/-- The call's four results are the reference's, at any arguments. -/
theorem algebraic : algebraic_AdamIdeal_AdamRefIdeal := fun m ρ m' ρ' _ hag =>
  ⟨fun c => G (argA m c), fun c => D (argA m c) (argW m c) (argM m c) (argV m c), fun c => M (argA m c) (argM m c), fun c => V' (argA m c) (argV m c),
   (θ_run AdamIdeal.defs _ _).mono (fun _ h c => by
       obtain ⟨f0, f1, f2, f3⟩ := final m c
       exact ⟨(h c).1.trans f0, (h c).2.1.trans f1, (h c).2.2.1.trans f2, (h c).2.2.2.1.trans f3, (h c).2.2.2.2⟩)
     (AdamIdeal.Value.run_blocks (F := Ideal) m ρ),
   (θ_run AdamRefIdeal.defs _ _).mono (fun _ h c => by
       obtain ⟨e0, e1, e2, e3⟩ := hag c
       have es := SUM_eq (argA m c)
       refine ⟨(h c).1.trans ?_, (h c).2.1.trans ?_, (h c).2.2.1.trans ?_, (h c).2.2.2.1.trans ?_, (h c).2.2.2.2⟩
       · rw [e0]
         exact es
       · rw [e0, e1, e2, e3]
         exact (congrArg (fun g => DS AdamRefIdeal.Gen.bcast_S_S1x2048x768 g (argW m c) (argM m c) (argV m c)) es).trans (DS_eq _ _ _ _ _)
       · rw [e0, e2]
         exact (congrArg (fun g => MS AdamRefIdeal.Gen.bcast_S_S1x2048x768 g (argM m c)) es).trans (MS_eq _ _ _)
       · rw [e0, e3]
         exact (congrArg (fun g => VS AdamRefIdeal.Gen.bcast_S_S1x2048x768 g (argV m c)) es).trans (VS_eq _ _ _))
     (AdamRefIdeal.Value.run (F := Ideal) m' ρ')⟩
-- ==== Proof.ModGradClaims.lean ====
/- The modulation's weight gradient with its AdamW step: the call, its reference and the claims. -/
module
public import proofs.«01_k».proof.Defs
public import proofs.«01_k».proof.Proof.Gen.ModGradIdeal.Value
public import proofs.«01_k».proof.Proof.Gen.ModGradRefIdeal.Run
public import proofs.«01_k».proof.Proof.Gen.ModGrad.Frame
public import proofs.«01_k».proof.Proof.AdamwStep
public import proofs.«01_k».proof.Proof.ModProjValue

@[expose] public section
noncomputable section
namespace Cert.ModGradProof
open Adamw Silu Idealize.ShloMosaic TcCoe Idealize.SL.Sem
open FfnProof (logi)
open ModProjProof (Cond PAD pad_at GATED gated_at)

abbrev Rows : Type := FVec Ideal ⟨3, ![4, 8, 1536]⟩ .f32
abbrev Arr : Type := FVec Ideal ⟨3, ![4, 2048, 1536]⟩ .f32

/-- The four results: the gradient, the change and the new moments. -/
def G (C : Cond) (X : Rows) : Arr := fun y => ∑ k : Fin 8, C (ix2 k (y 1)) * logi (C (ix2 k (y 1))) * X (ix3 (y 0) k (y 2))
def D (C : Cond) (X : Rows) (w m v : Arr) : Arr := fun y => delta (G C X y) (w y) (m y) (v y)
def M (C : Cond) (X : Rows) (m : Arr) : Arr := fun y => stepM (G C X y) (m y)
def V' (C : Cond) (X : Rows) (v : Arr) : Arr := fun y => stepV (G C X y) (v y)

section Kernel
open ModGradIdeal ModGradIdeal.Gen

variable (m : (ℓ : Loc nD τ sig) → Buf (Elt Ideal) ℓ) (c : Dev nD)

abbrev argC : Cond := m ((c.tc : Thread nD τ).loc main_arg0)
abbrev argX : Rows := m ((c.tc : Thread nD τ).loc main_arg1)
abbrev argW : Arr := m ((c.tc : Thread nD τ).loc main_arg2)
abbrev argM : Arr := m ((c.tc : Thread nD τ).loc main_arg3)
abbrev argV : Arr := m ((c.tc : Thread nD τ).loc main_arg4)

abbrev Blk : Type := Vec Ideal S1x2048x256 .f32

section Body
variable (x0 : Vec Ideal S16x2048 .f32) (x1 : Vec Ideal S1x16x256 .f32) (x2 x3 x4 : Blk) (r : Fin 2048) (l : Fin 256)

abbrev sumOf : R := ∑ k : Fin 16, Ideal.div (x0 (ix2 k r)) (1 + Ideal.exp (0 - x0 (ix2 k r))) * x1 (ix3 0 k l)

theorem pay5_at : k0_pay5 (F := Ideal) x0 x1 (ix2 r l) = sumOf x0 x1 r l := by pointwise [k0_pay5]
theorem pay7_at : k0_pay7 (F := Ideal) x0 x1 x3 (ix2 r l) = stepM (sumOf x0 x1 r l) (x3 (ix3 0 r l)) := by
  rw [← pay5_at]; unfold stepM; pointwise [k0_pay7]
theorem pay8_at : k0_pay8 (F := Ideal) x0 x1 x4 (ix2 r l) = stepV (sumOf x0 x1 r l) (x4 (ix3 0 r l)) := by
  rw [← pay5_at]; unfold stepV; pointwise [k0_pay8]

theorem out5_at : out0_5 (F := Ideal) x0 x1 x2 x3 x4 (ix3 0 r l) = sumOf x0 x1 r l := by
  frame_out
  rw [← pay5_at]; pointwise [k0_pay1]
theorem out6_at : out0_6 (F := Ideal) x0 x1 x2 x3 x4 (ix3 0 r l) = delta (sumOf x0 x1 r l) (x2 (ix3 0 r l)) (x3 (ix3 0 r l)) (x4 (ix3 0 r l)) := by
  frame_out
  unfold delta
  rw [← pay7_at, ← pay8_at]; pointwise [k0_pay2, k0_pay9, k0_pay10, k0_pay6]
theorem out7_at : out0_7 (F := Ideal) x0 x1 x2 x3 x4 (ix3 0 r l) = stepM (sumOf x0 x1 r l) (x3 (ix3 0 r l)) := by
  frame_out
  rw [← pay7_at]; pointwise [k0_pay3]
theorem out8_at : out0_8 (F := Ideal) x0 x1 x2 x3 x4 (ix3 0 r l) = stepV (sumOf x0 x1 r l) (x4 (ix3 0 r l)) := by
  frame_out
  rw [← pay8_at]; pointwise [k0_pay4]
end Body

/-- The rows below the eight are zero. -/
def PADX (X : Rows) : FVec Ideal S4x16x1536 .f32 :=
  concatenate S4x16x1536 1 [⟨S4x8x1536, X⟩, ⟨S4x8x1536, broadcastInDim S4x8x1536 ![] bcast_S_S4x8x1536 (constant (F := Ideal) S_ .f32 0x00000000#32)⟩] concatenates_S4x8x1536_S4x8x1536_S4x16x1536_d1

theorem padx_at (X : Rows) (a : Fin 4) (k : Fin 16) (l : Fin 1536) : PADX X (ix3 a k l) = if h : k.val < 8 then X (ix3 a ⟨k.val, h⟩ l) else 0 := by
  pointwise [PADX]

theorem readC : @Eq (FVec Ideal S16x2048 .f32) (V m c main_v2) (PAD (argC m c)) := by
  entry_read
  rfl
theorem readX : @Eq (FVec Ideal S4x16x1536 .f32) (V m c main_v3) (PADX (argX m c)) := by
  entry_read
  rfl

variable (t : Fin cfg0.N) (r : Fin 2048) (l : Fin 256)

theorem lt24 : t.val < 24 := lt_of_lt_of_eq t.isLt N_0

theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] ∧ win0_4.index t = ![t.val / 6, 0, t.val % 6] ∧ win0_5.index t = ![t.val / 6, 0, t.val % 6]
    ∧ win0_6.index t = ![t.val / 6, 0, t.val % 6] ∧ win0_7.index t = ![t.val / 6, 0, t.val % 6] ∧ win0_8.index t = ![t.val / 6, 0, t.val % 6] :=
  (by decide +kernel : ∀ t : Fin grid0.N, _)

/-- The matrix and the column that the block's column `l` is. -/
abbrev mat : Fin 4 := ⟨t.val / 6, by have := lt24 t; omega⟩
abbrev col : Fin 1536 := ⟨t.val % 6 * 256 + l.val, by omega⟩

theorem read0 (A : FVec Ideal S16x2048 .f32) (y : S16x2048.Idx) : ((cfg0.win 0).blk t).view.read (Elt Ideal) A y = A ((win0_0.blk t).view.emb y) := rfl
theorem read1 (A : FVec Ideal S4x16x1536 .f32) (y : S1x16x256.Idx) : ((cfg0.win 1).blk t).view.read (Elt Ideal) A y = A ((win0_1.blk t).view.emb y) := rfl

theorem blkC (k : Fin 16) : (iblk m c 0 t : FVec Ideal S16x2048 .f32) (ix2 k r) = PAD (argC m c) (ix2 k r) := by
  unfold iblk
  rw [show V m c (Pipeline.arrRef spec0 0) = _ from readC m c]
  rw [read0]
  refine congrArg (PAD (argC m c)) (funext fun k => ?_)
  fin_cases k <;> refine Fin.ext ?_
  all_goals blk_simp [idx t]
theorem blkX (k : Fin 16) : (iblk m c 1 t : FVec Ideal S1x16x256 .f32) (ix3 0 k l) = PADX (argX m c) (ix3 (mat t) k (col t l)) := by
  unfold iblk
  rw [show V m c (Pipeline.arrRef spec0 1) = _ from readX m c]
  rw [read1]
  refine congrArg (PADX (argX m c)) (funext fun k => ?_)
  fin_cases k <;> refine Fin.ext ?_
  all_goals blk_simp [idx t] <;> rfl
theorem blkW : (iblk m c 2 t : Blk) (ix3 0 r l) = argW m c (ix3 (mat t) r (col t l)) := by blk_point [iblk, V, idx t, argW]
theorem blkM : (iblk m c 3 t : Blk) (ix3 0 r l) = argM m c (ix3 (mat t) r (col t l)) := by blk_point [iblk, V, idx t, argM]
theorem blkV : (iblk m c 4 t : Blk) (ix3 0 r l) = argV m c (ix3 (mat t) r (col t l)) := by blk_point [iblk, V, idx t, argV]

theorem sum_at : sumOf (iblk m c 0 t) (iblk m c 1 t) r l = G (argC m c) (argX m c) (ix3 (mat t) r (col t l)) := by
  unfold G
  refine (Finset.sum_congr rfl fun k _ => by rw [blkC, blkX, pad_at, padx_at] : sumOf (iblk m c 0 t) (iblk m c 1 t) r l = ∑ k : Fin (8 + 8), _).trans ?_
  rw [Fin.sum_univ_add]
  refine (congrArg₂ (· + ·) (Finset.sum_congr rfl fun k _ => ?_) (Finset.sum_eq_zero fun k _ => ?_)).trans (add_zero _)
  · rw [dif_pos (by simp : (Fin.castAdd 8 k).val < 8), dif_pos (by simp : (Fin.castAdd 8 k).val < 8), silu_eq]
    rfl
  · rw [dif_neg (by simp : ¬(Fin.natAdd 8 k).val < 8), silu_zero, zero_mul]

/-- Where an entry of an output block lies in its array. -/
theorem at5 : (ix3 (mat t) r (col t l) : S4x2048x1536.Idx) = ((cfg0.win 5).blk t).view.emb (ix3 0 r l : S1x2048x256.Idx) := by
  funext k; fin_cases k <;> refine Fin.ext (Eq.symm ?_) <;> blk_simp [idx t] <;> rfl
theorem at6 : (ix3 (mat t) r (col t l) : S4x2048x1536.Idx) = ((cfg0.win 6).blk t).view.emb (ix3 0 r l : S1x2048x256.Idx) := by
  funext k; fin_cases k <;> refine Fin.ext (Eq.symm ?_) <;> blk_simp [idx t] <;> rfl
theorem at7 : (ix3 (mat t) r (col t l) : S4x2048x1536.Idx) = ((cfg0.win 7).blk t).view.emb (ix3 0 r l : S1x2048x256.Idx) := by
  funext k; fin_cases k <;> refine Fin.ext (Eq.symm ?_) <;> blk_simp [idx t] <;> rfl
theorem at8 : (ix3 (mat t) r (col t l) : S4x2048x1536.Idx) = ((cfg0.win 8).blk t).view.emb (ix3 0 r l : S1x2048x256.Idx) := by
  funext k; fin_cases k <;> refine Fin.ext (Eq.symm ?_) <;> blk_simp [idx t] <;> rfl

omit r l

theorem final : (dats m 0 c).arrAt 5 (cfgs 0).N = G (argC m c) (argX m c)
    ∧ (dats m 0 c).arrAt 6 (cfgs 0).N = D (argC m c) (argX m c) (argW m c) (argM m c) (argV m c)
    ∧ (dats m 0 c).arrAt 7 (cfgs 0).N = M (argC m c) (argX m c) (argM m c) ∧ (dats m 0 c).arrAt 8 (cfgs 0).N = V' (argC m c) (argX m c) (argV m c) := by
  refine ⟨(dats m 0 c).arrAt_eq_of_covers 5 _ (by decide +kernel) fun t _ y => ?_, (dats m 0 c).arrAt_eq_of_covers 6 _ (by decide +kernel) fun t _ y => ?_,
    (dats m 0 c).arrAt_eq_of_covers 7 _ (by decide +kernel) fun t _ y => ?_, (dats m 0 c).arrAt_eq_of_covers 8 _ (by decide +kernel) fun t _ y => ?_⟩
  all_goals obtain ⟨r, l, rfl⟩ := one_of (a := 2048) (b := 256) y
  · rw [after0_5]
    exact (cast_eq _ _).trans ((out5_at _ _ _ _ _ r l).trans ((sum_at m c t r l).trans (congrArg (G (argC m c) (argX m c)) (at5 t r l))))
  · rw [after0_6]
    refine (cast_eq _ _).trans ((out6_at _ _ _ _ _ r l).trans ?_)
    rw [sum_at, blkW, blkM, blkV]
    exact congrArg (D (argC m c) (argX m c) (argW m c) (argM m c) (argV m c)) (at6 t r l)
  · rw [after0_7]
    refine (cast_eq _ _).trans ((out7_at _ _ _ _ _ r l).trans ?_)
    rw [sum_at, blkM]
    exact congrArg (M (argC m c) (argX m c) (argM m c)) (at7 t r l)
  · rw [after0_8]
    refine (cast_eq _ _).trans ((out8_at _ _ _ _ _ r l).trans ?_)
    rw [sum_at, blkV]
    exact congrArg (V' (argC m c) (argX m c) (argV m c)) (at8 t r l)

end Kernel

section Reference
open ModGradRefIdeal ModGradRefIdeal.Gen

def GRAD (C : Cond) (X : Rows) : Arr :=
  transpose S4x2048x1536 [0, 2, 1] (Host.dotGeneral (F := Ideal) dot_S4x1536x8_S8x2048_S4x1536x2048_2_0_01_1_n_n none (transpose S4x1536x8 [0, 2, 1] X transposes_S4x8x1536_S4x1536x8_0_2_1) (GATED C)) transposes_S4x1536x2048_S4x2048x1536_0_2_1

theorem GRAD_eq (C : Cond) (X : Rows) : GRAD C X = G C X := by
  funext y
  obtain ⟨a, r, l, rfl⟩ : ∃ (a : Fin 4) (r : Fin 2048) (l : Fin 1536), y = ix3 a r l := ⟨y 0, y 1, y 2, funext fun k => by fin_cases k <;> rfl⟩
  have h : GRAD C X (ix3 a r l) = ∑ k : Fin 8, X (ix3 a k l) * GATED C (ix2 k r) := by pointwise [GRAD]
  rw [h]
  exact Finset.sum_congr rfl fun k _ => by rw [gated_at, mul_comm]; rfl

end Reference

/-- The frame of the reference. -/
theorem ref_frame : quiescent_ModGradRefIdeal := fun m ρ _ =>
  (θ_run ModGradRefIdeal.defs _ _).mono (fun r h => ⟨fun c => (h c).2.2.2.2, sem_eq_zero_of_no_sems (by decide) r.2⟩)
    (ModGradRefIdeal.Value.run (F := Ideal) m ρ)

/-- The call's four results are the reference's, at any arguments. -/
theorem algebraic : algebraic_ModGradIdeal_ModGradRefIdeal := fun m ρ m' ρ' _ hag =>
  ⟨fun c => G (argC m c) (argX m c), fun c => D (argC m c) (argX m c) (argW m c) (argM m c) (argV m c),
   fun c => M (argC m c) (argX m c) (argM m c), fun c => V' (argC m c) (argX m c) (argV m c),
   (θ_run ModGradIdeal.defs _ _).mono (fun _ h c => by
       obtain ⟨f0, f1, f2, f3⟩ := final m c
       exact ⟨(h c).1.trans f0, (h c).2.1.trans f1, (h c).2.2.1.trans f2, (h c).2.2.2.1.trans f3, (h c).2.2.2.2⟩)
     (ModGradIdeal.Value.run_blocks (F := Ideal) m ρ),
   (θ_run ModGradRefIdeal.defs _ _).mono (fun _ h c => by
       obtain ⟨e0, e1, e2, e3, e4⟩ := hag c
       have es := GRAD_eq (argC m c) (argX m c)
       refine ⟨(h c).1.trans ?_, (h c).2.1.trans ?_, (h c).2.2.1.trans ?_, (h c).2.2.2.1.trans ?_, (h c).2.2.2.2⟩
       · rw [e0, e1]
         exact es
       · rw [e0, e1, e2, e3, e4]
         exact (congrArg (fun g => DS ModGradRefIdeal.Gen.bcast_S_S4x2048x1536 g (argW m c) (argM m c) (argV m c)) es).trans (DS_eq _ _ _ _ _)
       · rw [e0, e1, e3]
         exact (congrArg (fun g => MS ModGradRefIdeal.Gen.bcast_S_S4x2048x1536 g (argM m c)) es).trans (MS_eq _ _ _)
       · rw [e0, e1, e4]
         exact (congrArg (fun g => VS ModGradRefIdeal.Gen.bcast_S_S4x2048x1536 g (argV m c)) es).trans (VS_eq _ _ _))
     (ModGradRefIdeal.Value.run (F := Ideal) m' ρ')⟩
-- ==== Proof.SumDevClaims.lean ====
/- The sum of the eight devices' small gradients: the call, its reference and the claims. -/
module
public import proofs.«01_k».proof.Defs
public import proofs.«01_k».proof.Proof.Gen.SumDevIdeal.Value
public import proofs.«01_k».proof.Proof.Gen.SumDevRefIdeal.Run
public import proofs.«01_k».proof.Proof.Gen.SumDev.Frame
public import proofs.«01_k».proof.Proof.Products

@[expose] public section
noncomputable section
namespace Cert.SumDevProof
open Products Idealize.ShloMosaic TcCoe Idealize.SL.Sem

abbrev Parts : Type := FVec Ideal ⟨3, ![8, 608, 128]⟩ .f32

/-- The sum, entry by entry. -/
def SUM (A : Parts) : Mat 608 128 := fun y => ∑ d : Fin 8, A (ix3 d (y 0) (y 1))

section Kernel
open SumDevIdeal SumDevIdeal.Gen

variable (m : (ℓ : Loc nD τ sig) → Buf (Elt Ideal) ℓ) (c : Dev nD)

abbrev argA : Parts := m ((c.tc : Thread nD τ).loc main_arg0)

theorem pay_at (v : Fin 8 → Vec Ideal S1x608x128 .f32) (r : Fin 608) (l : Fin 128) :
    k0_pay1 (F := Ideal) (v 0) (v 1) (v 2) (v 3) (v 4) (v 5) (v 6) (v 7) (ix2 r l) = ∑ d : Fin 8, v d (ix3 0 r l) := by
  rw [Fin.sum_univ_eight]
  generalize v 0 = x0, v 1 = x1, v 2 = x2, v 3 = x3, v 4 = x4, v 5 = x5, v 6 = x6, v 7 = x7
  pointwise [k0_pay1]

theorem inside (d : Fin 8) : ∀ a, (![d.val, 0, 0] : Fin 3 → ℕ) a + (![1, 608, 128] : Fin 3 → ℕ) a ≤ S8x608x128.size a := by
  revert d; decide

/-- The load of one device's part. -/
theorem load_at (x : Parts) (d : Fin 8) (r : Fin 608) (l : Fin 128) :
    (View.ld (Val := Elt Ideal) (S := S8x608x128) (e' := .f32) x (Rect.unit ![d.val, 0, 0] ![1, 608, 128] (inside d)) : Vec Ideal S1x608x128 .f32) (ix3 0 r l) = x (ix3 d r l) := by
  refine congrArg x (funext fun k => ?_)
  fin_cases k <;> exact Fin.ext (by simp [Rect.emb_apply])

variable (t : Fin cfg0.N)

theorem idx : ∀ t : Fin cfg0.N, (∀ a, win0_0.index t a = 0) ∧ ∀ a, win0_1.index t a = 0 := by decide +kernel

theorem a_at (d : Fin 8) (r : Fin 608) (l : Fin 128) : iblk m c 0 t (ix3 d r l : S8x608x128.Idx) = argA m c (ix3 d r l) := by
  blk_point [iblk, V, argA, (idx t).1]

theorem out_at (x : Parts) (r : Fin 608) (l : Fin 128) : out0_1 (F := Ideal) x (ix2 r l) = ∑ d : Fin 8, x (ix3 d r l) := by
  frame_out
  exact (pay_at (fun d => View.ld (Val := Elt Ideal) (S := S8x608x128) (e' := .f32) x (Rect.unit ![d.val, 0, 0] ![1, 608, 128] (inside d))) r l).trans
    (Finset.sum_congr rfl fun d _ => load_at x d r l)

theorem final : (dats m 0 c).arrAt 1 (cfgs 0).N = SUM (argA m c) := by
  refine (dats m 0 c).arrAt_eq_of_covers 1 _ (by decide +kernel) fun t _ y => ?_
  have e : ((cfg0.win 1).blk t).view.emb y = (ix2 (y 0) (y 1) : S608x128.Idx) := by
    funext k; fin_cases k <;> refine Fin.ext ?_
    · show ((((cfg0.win 1).blk t).view.emb y) 0).val = (y 0).val
      blk_simp [(idx t).2]
    · show ((((cfg0.win 1).blk t).view.emb y) 1).val = (y 1).val
      blk_simp [(idx t).2]
  obtain ⟨r, l, rfl⟩ := ix2_of (a := 608) (b := 128) y
  rw [after0_1, e]
  exact (cast_eq _ _).trans ((out_at (iblk m c 0 t) r l).trans (Finset.sum_congr rfl fun d _ => a_at m c t d r l))

end Kernel

section Reference
open SumDevRefIdeal SumDevRefIdeal.Gen

def REF (A : Parts) : Mat 608 128 := Host.reduceAdd (F := Ideal) (φ := .f32) A (constant S_ .f32 0x00000000#32) reducesTo_S8x608x128_S608x128_d0 h_S_

theorem REF_eq (A : Parts) : REF A = SUM A := by
  funext y
  obtain ⟨r, l, rfl⟩ := ix2_of (a := 608) (b := 128) y
  unfold SUM
  pointwise [REF]

end Reference

/-- The frame of the reference. -/
theorem ref_frame : quiescent_SumDevRefIdeal := fun m ρ _ =>
  (θ_run SumDevRefIdeal.defs _ _).mono (fun r h => ⟨fun c => (h c).2, sem_eq_zero_of_no_sems (by decide) r.2⟩)
    (SumDevRefIdeal.Value.run (F := Ideal) m ρ)

/-- The call's result is the reference's, at any argument. -/
theorem algebraic : algebraic_SumDevIdeal_SumDevRefIdeal := fun m ρ m' ρ' _ hag =>
  ⟨fun c => SUM (argA m c),
   (θ_run SumDevIdeal.defs _ _).mono (fun _ h c => ⟨(h c).1.trans (final m c), (h c).2⟩)
     (SumDevIdeal.Value.run_blocks (F := Ideal) m ρ),
   (θ_run SumDevRefIdeal.defs _ _).mono (fun _ h c => ⟨(h c).1.trans (by
       have e0 := hag c
       rw [e0]
       exact REF_eq (argA m c)), (h c).2⟩)
     (SumDevRefIdeal.Value.run (F := Ideal) m' ρ')⟩
-- ==== Proof.PairAddClaims.lean ====
/- The partner's half added to the own one: the call, its reference and the claims. -/
module
public import proofs.«01_k».proof.Defs
public import proofs.«01_k».proof.Proof.Gen.PairAddIdeal.Frame
public import proofs.«01_k».proof.Proof.Gen.PairAddRefIdeal.Run
public import proofs.«01_k».proof.Proof.Gen.PairAdd.Frame
public import proofs.«01_k».proof.Proof.Gen.Pre_core_number
public import proofs.«01_k».proof.Proof.Products
public import Idealize.ShloMosaic.Lib.StableHlo.Predicate

@[expose] public section
noncomputable section
namespace Cert.PairAddProof
open Products Idealize.ShloMosaic TcCoe Idealize.SL.Sem

abbrev Own : Type := FVec Ideal ⟨3, ![8, 2048, 1408]⟩ .bf16
abbrev Half : Type := FVec Ideal ⟨3, ![4, 2048, 1408]⟩ .bf16

/-- The part of chip `k` that core `b` owns. -/
def part (b : Fin 2) (k : Fin 4) : Fin 8 := ⟨2 * k.val + b.val, by omega⟩

/-- The result, entry by entry, on core `b`. -/
def RES (b : Fin 2) (G : Own) (H : Half) : Half := fun y => G (ix3 (part b (y 0)) (y 1) (y 2)) + H y

/-- A word that passes the precondition is a core's number. -/
theorem core_of (x : IVec ⟨1, ![1]⟩ 32) (G : Own) (H : Half) (h : Pre_core_number.fn (F := Ideal) x G H = fun _ => 1#1) :
    ∃ b : Fin 2, x = fun _ => BitVec.ofNat 32 b.val := by
  have e := congrFun h fun a => ⟨0, by fin_cases a; decide⟩
  have one : ∀ y : Shape.Idx ⟨1, ![1]⟩, y = fun a => ⟨0, by fin_cases a; decide⟩ := fun y => by
    funext a; fin_cases a; exact Subsingleton.elim (α := Fin 1) _ _
  simp only [Pre_core_number.fn, ori, cmpi] at e
  rcases IntOp.ori_eq_one.1 e with e | e <;> rw [StableHlo.Predicate.cmpi_eq_iff] at e
  · exact ⟨0, funext fun y => by rw [one y]; exact e⟩
  · exact ⟨1, funext fun y => by rw [one y]; exact e⟩

section Bits
open PairAdd PairAdd.Gen

def pin (b : Fin 2) : pre0.Contents (Elt Bits) := fun | ⟨0, _⟩ => fun _ => BitVec.ofNat 32 b.val | ⟨_ + 1, h⟩ => absurd h (by simp)

theorem ok_bits (m : (ℓ : Loc nD τ sig) → Buf (Elt Bits) ℓ) (h : Pre_PairAdd m) : Ok (F := Bits) m := by
  obtain ⟨b, hb⟩ := core_of _ (fun _ => 0) (fun _ => 0) (h 0)
  have e : tbl m = pin b := by
    funext j
    match j with
    | ⟨0, _⟩ => exact hb
  exact (congrArg ok0 e).mpr ((by decide +kernel : ∀ b, ok0 (F := Bits) (pin b)) b)

end Bits

section Kernel
open PairAddIdeal PairAddIdeal.Gen

variable (m : (ℓ : Loc nD τ sig) → Buf (Elt Ideal) ℓ) (c : Dev nD)

abbrev argG : Own := m ((c.tc : Thread nD τ).loc main_arg1)
abbrev argH : Half := m ((c.tc : Thread nD τ).loc main_arg2)

def table (b : Fin 2) : pre0.Contents (Elt Ideal) := fun | ⟨0, _⟩ => fun _ => BitVec.ofNat 32 b.val | ⟨_ + 1, h⟩ => absurd h (by simp)

/-- The precondition gives the core's number. -/
theorem core_ex (h : Pre_PairAddIdeal m) : ∃ b : Fin 2, tbl m = table b ∧ ∀ c : Dev nD, m ((c.tc : Thread nD τ).loc main_arg0) = fun _ => BitVec.ofNat 32 b.val := by
  obtain ⟨b, hb⟩ := core_of _ _ _ (h 0)
  refine ⟨b, ?_, fun c => (Subsingleton.elim c 0) ▸ hb⟩
  funext j
  match j with
  | ⟨0, _⟩ => exact hb

theorem ok_ideal (h : Pre_PairAddIdeal m) : Ok (F := Ideal) m := by
  obtain ⟨b, e, -⟩ := core_ex m h
  exact (congrArg ok0 e).mpr ((by decide +kernel : ∀ b, ok0 (F := Ideal) (table b)) b)

theorem idx0 : ∀ (b : Fin 2) (t : Fin grid0.N), cc0_transform_0 inb_S1_S1_0 numel1_S1 (table b) (grid0.coords t) = ![2 * (t.val / 16) + b.val, t.val % 16, 0] := by
  decide +kernel

theorem idx2 : ∀ t : Fin grid0.N, cc0_transform_2 (grid0.coords t) = ![t.val / 16, t.val % 16, 0] := by
  decide +kernel

variable (b : Fin 2) (hO : Ok m) (hb : tbl m = table b) (t : Fin (cfgM m hO).N)

include hb in
theorem index0 : ((cfgM m hO).win 0).index t = ![2 * (t.val / 16) + b.val, t.val % 16, 0] := by
  show cc0_transform_0 inb_S1_S1_0 numel1_S1 (tbl m) (grid0.coords t) = _
  rw [hb]
  exact idx0 b t

theorem index2 : ((cfgM m hO).win 2).index t = ![t.val / 16, t.val % 16, 0] := idx2 t

abbrev own : S1x128x1408.Idx → EReal := iblk m hO c 0 t
abbrev half : S1x128x1408.Idx → EReal := iblk m hO c 1 t

theorem out_at (y : S1x128x1408.Idx) : outsAt0 m hO c t y = own m c hO t y + half m c hO t y := by
  unfold outsAt0 out0_A_2 kernelRun0_A
  frame_out
  exact congrArg₂ (fun p q => k0_pay1 (F := Ideal) p q y) ((hs0_0 m hO t).read_unread _) ((hs0_1 m hO t).read_unread _)

abbrev at0 (y : S1x128x1408.Idx) : S8x2048x1408.Idx := (((cfgM m hO).win 0).blk t).view.emb y
abbrev at2 (y : S1x128x1408.Idx) : S4x2048x1408.Idx := (((cfgM m hO).win 2).blk t).view.emb y

theorem at0_val (y : S1x128x1408.Idx) (k : Fin 3) : (at0 m hO t y k).val = ((cfgM m hO).win 0).index t k * S1x128x1408.size k + (y k).val :=
  Pipeline.Window.rect_emb_val ((cfgM m hO).win 0) t y k rfl
theorem at2_val (y : S1x128x1408.Idx) (k : Fin 3) : (at2 m hO t y k).val = ((cfgM m hO).win 2).index t k * S1x128x1408.size k + (y k).val :=
  Pipeline.Window.rect_emb_val ((cfgM m hO).win 2) t y k rfl

include hb in
theorem own_at (y : S1x128x1408.Idx) : own m c hO t y = argG m c (ix3 (part b (at2 m hO t y 0)) (at2 m hO t y 1) (at2 m hO t y 2)) := by
  have h0 : (y 0).val = 0 := Nat.lt_one_iff.1 (y 0).isLt
  show argG m c (at0 m hO t y) = _
  refine congrArg (argG m c) (funext fun k => ?_)
  fin_cases k <;> refine Fin.ext ?_
  · refine (at0_val m hO t y 0).trans ?_
    show _ = 2 * (at2 m hO t y 0).val + b.val
    rw [at2_val m hO t y 0, index0 m b hO hb t, index2 m hO t, h0]
    show (2 * (t.val / 16) + b.val) * 1 + 0 = 2 * (t.val / 16 * 1 + 0) + b.val
    omega
  · refine (at0_val m hO t y 1).trans (Eq.trans ?_ (at2_val m hO t y 1).symm)
    rw [index0 m b hO hb t, index2 m hO t]; rfl
  · refine (at0_val m hO t y 2).trans (Eq.trans ?_ (at2_val m hO t y 2).symm)
    rw [index0 m b hO hb t, index2 m hO t]; rfl

theorem half_at (y : S1x128x1408.Idx) : half m c hO t y = argH m c (at2 m hO t y) := rfl

theorem covers : ((cfgM m hO).win 2).Covers := by
  have e : ∀ β : (a : Fin 3) → Fin (![4, 16, 1] a), ∃ t : Fin grid0.N, ∀ a, cc0_transform_2 (grid0.coords t) a = β a := by decide +kernel
  refine ⟨(by decide : ∀ a : Fin 3, 0 < S1x128x1408.size a), fun β => ?_⟩
  obtain ⟨t, h⟩ := e fun a => ⟨(β a).val, (β a).isLt.trans_eq (by unfold Pipeline.Window.nblk; fin_cases a <;> simp [Pipeline.Window.nblk])⟩
  exact ⟨t, flush0_2 _ t, fun a => ⟨h a, Or.inl rfl⟩⟩

include hb in
theorem final : (dats m hO 0 c).arrAt 2 (cfgM m hO).N = RES b (argG m c) (argH m c) := by
  refine (dats m hO 0 c).arrAt_eq_of_covers 2 _ (covers m hO) fun t _ y => ?_
  rw [after0_2]
  refine (cast_eq _ _).trans ((out_at m c hO t y).trans ?_)
  rw [own_at m c b hO hb t y, half_at m c hO t y]; rfl

end Kernel

section Reference
open PairAddRefIdeal PairAddRefIdeal.Gen

def REF (x : IVec S1 32) (G : Own) (H : Half) : Half :=
  truncf (F := Ideal) .bf16 (addf (extf .f32 (select (broadcastInDim S4x2048x1408 ![] bcast_S_S4x2048x1408 (cmpi .eq (shapeCast _ x shapeCasts_S1_S_) (constantI S_ 32 0#32))) (shapeCast _ (extractStridedSlice S4x1x2048x1408 ![0, 0, 0, 0] (shapeCast _ G shapeCasts_S8x2048x1408_S4x2x2048x1408) slices_S4x2x2048x1408_S4x1x2048x1408_0_0_0_0) shapeCasts_S4x1x2048x1408_S4x2048x1408) (shapeCast _ (extractStridedSlice S4x1x2048x1408 ![0, 1, 0, 0] (shapeCast _ G shapeCasts_S8x2048x1408_S4x2x2048x1408) slices_S4x2x2048x1408_S4x1x2048x1408_0_1_0_0) shapeCasts_S4x1x2048x1408_S4x2048x1408)) bitsLt_bf16_f32) (extf .f32 H bitsLt_bf16_f32)) bitsLt_bf16_f32

theorem REF_eq (b : Fin 2) (G : Own) (H : Half) : REF (fun _ => BitVec.ofNat 32 b.val) G H = RES b G H := by
  funext y
  obtain ⟨k, r, l, rfl⟩ : ∃ (k : Fin 4) (r : Fin 2048) (l : Fin 1408), y = ix3 k r l := ⟨y 0, y 1, y 2, funext fun a => by fin_cases a <;> rfl⟩
  unfold RES
  have e : ∀ b : Fin 2, ix3 (part b k) r l = (ix3 (⟨k.val * 2 + b.val, by omega⟩ : Fin 8) r l : Shape.Idx ⟨3, ![8, 2048, 1408]⟩) := fun b =>
    congrArg (fun q => ix3 q r l) (Fin.ext (by show 2 * k.val + b.val = k.val * 2 + b.val; omega))
  show REF _ G H (ix3 k r l) = G (ix3 (part b k) r l) + H (ix3 k r l)
  rw [e b]
  fin_cases b <;> pointwise [REF] <;> rfl

end Reference

/-- The frame of the reference. -/
theorem ref_frame : quiescent_PairAddRefIdeal := fun m ρ _ =>
  (θ_run PairAddRefIdeal.defs _ _).mono (fun r h => ⟨fun c => (h c).2, sem_eq_zero_of_no_sems (by decide) r.2⟩)
    (PairAddRefIdeal.Value.run (F := Ideal) m ρ)

open PairAddIdeal.Gen in
/-- The call's result is the reference's, at either core's number. -/
theorem algebraic : algebraic_PairAddIdeal_PairAddRefIdeal := fun m ρ m' ρ' hp hag => by
  obtain ⟨b, hb, hx⟩ := core_ex m hp
  have hO := ok_ideal m hp
  exact ⟨fun c => RES b (argG m c) (argH m c),
   (θ_run PairAddIdeal.defs _ _).mono (fun _ h c => ⟨((h.1 c).1 2).trans (final m c b hO hb), h.2.1 c⟩)
     (θ_run_and (run_main m ρ hO) (frame m ρ hO)),
   (θ_run PairAddRefIdeal.defs _ _).mono (fun _ h c => ⟨(h c).1.trans (by
       rw [(hag c).1, (hag c).2.1, (hag c).2.2, hx c]
       exact REF_eq b (argG m c) (argH m c)), (h c).2⟩)
     (PairAddRefIdeal.Value.run (F := Ideal) m' ρ')⟩
-- ==== Proof.lean ====
module

public import proofs.«01_k».proof.Proof.GateClaims
public import proofs.«01_k».proof.Proof.ConvClaims
public import proofs.«01_k».proof.Proof.FfnClaims
public import proofs.«01_k».proof.Proof.WindowClaims
public import proofs.«01_k».proof.Proof.AttnClaims
public import proofs.«01_k».proof.Proof.NormClaims
public import proofs.«01_k».proof.Proof.LossClaims
public import proofs.«01_k».proof.Proof.PoolClaims
public import proofs.«01_k».proof.Proof.AttnFwdEnds
public import proofs.«01_k».proof.Proof.AttnFwdClaims
public import proofs.«01_k».proof.Proof.StartClaims
public import proofs.«01_k».proof.Proof.ResidClaims
public import proofs.«01_k».proof.Proof.ConvFwdClaims
public import proofs.«01_k».proof.Proof.PoolFwdClaims
public import proofs.«01_k».proof.Proof.FfnFwdClaims
public import proofs.«01_k».proof.Proof.ModProjClaims
public import proofs.«01_k».proof.Proof.ProjFwdClaims
public import proofs.«01_k».proof.Proof.ProjBwdXClaims
public import proofs.«01_k».proof.Proof.ProjBwdWClaims
public import proofs.«01_k».proof.Proof.DenseFwdClaims
public import proofs.«01_k».proof.Proof.DenseBwdXClaims
public import proofs.«01_k».proof.Proof.DenseBwdWClaims
public import proofs.«01_k».proof.Proof.FfnBwdXClaims
public import proofs.«01_k».proof.Proof.FfnBwdWguClaims
public import proofs.«01_k».proof.Proof.FfnBwdWdClaims
public import proofs.«01_k».proof.Proof.AdamClaims
public import proofs.«01_k».proof.Proof.ModGradClaims
public import proofs.«01_k».proof.Proof.SumDevClaims
public import proofs.«01_k».proof.Proof.PairAddClaims

/-! The claims, put together from the modules that prove them: first the facts the programs state, then the frames, then
what each pair has in common. -/

@[expose] public section

set_option maxRecDepth 16384

noncomputable section

namespace Cert.Proof

open Idealize.ShloMosaic Idealize.SL.Sem

theorem attn_preserves : preserves_Attn_AttnIdeal :=
  IdealRules.named_const.statement AttnIdeal.κ "mask" .f32 0xF149F2CA#32 _ rfl

theorem attnfwd_preserves : preserves_AttnFwd_AttnFwdIdeal :=
  ⟨IdealRules.named_const.statement AttnFwdIdeal.κ "mask" .f32 0xF149F2CA#32 _ rfl,
    IdealRules.named_const.statement AttnFwdIdeal.κ "live" .f32 0xC2D20000#32 _ rfl⟩

theorem claim : Claim := ⟨Gate.Gen.facts, GateIdeal.Gen.facts, GateRefIdeal.Gen.facts,
  Conv.Gen.facts, ConvIdeal.Gen.facts, ConvRefIdeal.Gen.facts,
  Ffn.Gen.facts, FfnIdeal.Gen.facts, FfnRefIdeal.Gen.facts,
  Window.Gen.facts, WindowIdeal.Gen.facts, WindowRefIdeal.Gen.facts,
  Attn.Gen.facts, AttnIdeal.Gen.facts, AttnRefIdeal.Gen.facts,
  Cert.Norm.Gen.facts, NormIdeal.Gen.facts, NormRefIdeal.Gen.facts,
  Loss.Gen.facts, LossIdeal.Gen.facts, LossRefIdeal.Gen.facts,
  Pool.Gen.facts, PoolIdeal.Gen.facts, PoolRefIdeal.Gen.facts,
  AttnFwd.Gen.facts, AttnFwdIdeal.Gen.facts, AttnFwdRefIdeal.Gen.facts,
  Start.Gen.facts, StartIdeal.Gen.facts, StartRefIdeal.Gen.facts,
  Resid.Gen.facts, ResidIdeal.Gen.facts, ResidRefIdeal.Gen.facts,
  ConvFwd.Gen.facts, ConvFwdIdeal.Gen.facts, ConvFwdRefIdeal.Gen.facts,
  PoolFwd.Gen.facts, PoolFwdIdeal.Gen.facts, PoolFwdRefIdeal.Gen.facts,
  FfnFwd.Gen.facts, FfnFwdIdeal.Gen.facts, FfnFwdRefIdeal.Gen.facts,
  ModProj.Gen.facts, ModProjIdeal.Gen.facts, ModProjRefIdeal.Gen.facts,
  ProjFwd.Gen.facts, ProjFwdIdeal.Gen.facts, ProjFwdRefIdeal.Gen.facts,
  ProjBwdX.Gen.facts, ProjBwdXIdeal.Gen.facts, ProjBwdXRefIdeal.Gen.facts,
  ProjBwdW.Gen.facts, ProjBwdWIdeal.Gen.facts, ProjBwdWRefIdeal.Gen.facts,
  DenseFwd.Gen.facts, DenseFwdIdeal.Gen.facts, DenseFwdRefIdeal.Gen.facts,
  DenseBwdX.Gen.facts, DenseBwdXIdeal.Gen.facts, DenseBwdXRefIdeal.Gen.facts,
  DenseBwdW.Gen.facts, DenseBwdWIdeal.Gen.facts, DenseBwdWRefIdeal.Gen.facts,
  FfnBwdX.Gen.facts, FfnBwdXIdeal.Gen.facts, FfnBwdXRefIdeal.Gen.facts,
  FfnBwdWgu.Gen.facts, FfnBwdWguIdeal.Gen.facts, FfnBwdWguRefIdeal.Gen.facts,
  FfnBwdWd.Gen.facts, FfnBwdWdIdeal.Gen.facts, FfnBwdWdRefIdeal.Gen.facts,
  Adam.Gen.facts, AdamIdeal.Gen.facts, AdamRefIdeal.Gen.facts,
  ModGrad.Gen.facts, ModGradIdeal.Gen.facts, ModGradRefIdeal.Gen.facts,
  SumDev.Gen.facts, SumDevIdeal.Gen.facts, SumDevRefIdeal.Gen.facts,
  PairAdd.Gen.facts, PairAddIdeal.Gen.facts, PairAddRefIdeal.Gen.facts,
  Pre_ffn_finite.Gen.facts, Pre_window_finite.Gen.facts, Pre_attn_finite.Gen.facts,
  Pre_norm_finite.Gen.facts, Pre_loss_finite.Gen.facts, Pre_attn_fwd_finite.Gen.facts,
  Pre_pool_fwd_finite.Gen.facts, Pre_core_number.Gen.facts,
  fun m g _ => Gate.Gen.frame m g,
  fun m g _ => GateIdeal.Gen.frame m g,
  GateProof.ref_frame,
  fun m g _ => Conv.Gen.frame m g,
  fun m g _ => ConvIdeal.Gen.frame m g,
  ConvProof.ref_frame,
  fun m g _ => Ffn.Gen.frame m g,
  fun m g _ => FfnIdeal.Gen.frame m g,
  fun m g _ => FfnIdeal.Gen.frame m g,
  FfnProof.ref_frame,
  fun m g _ => FfnProof.ref_frame m g trivial, fun m g _ => Window.Gen.frame m g,
  fun m g _ => WindowIdeal.Gen.frame m g,
  fun m g _ => WindowIdeal.Gen.frame m g,
  WindowProof.ref_frame,
  fun m g _ => WindowProof.ref_frame m g trivial, AttnProof.bits_frame,
  AttnProof.ideal_frame,
  fun m g _ => AttnProof.ideal_frame m g trivial, AttnProof.ref_frame,
  fun m g _ => AttnProof.ref_frame m g trivial, fun m g _ => Cert.Norm.Gen.frame m g,
  fun m g _ => NormIdeal.Gen.frame m g,
  fun m g _ => NormIdeal.Gen.frame m g,
  NormProof.ref_frame,
  fun m g _ => NormProof.ref_frame m g trivial, fun m g _ => Loss.Gen.frame m g,
  fun m g _ => LossIdeal.Gen.frame m g,
  fun m g _ => LossIdeal.Gen.frame m g,
  LossProof.ref_frame,
  fun m g _ => LossProof.ref_frame m g trivial, fun m g _ => Pool.Gen.frame m g,
  fun m g _ => PoolIdeal.Gen.frame m g,
  PoolProof.ref_frame,
  fun m g _ => AttnFwdEnds.frame m g,
  fun m g _ => AttnFwdProof.frame m g,
  fun m g _ => AttnFwdProof.frame m g,
  AttnFwdProof.ref_frame,
  fun m g _ => AttnFwdProof.ref_frame m g trivial, fun m g _ => Start.Gen.frame m g,
  fun m g _ => StartIdeal.Gen.frame m g,
  StartProof.ref_frame,
  fun m g _ => Resid.Gen.frame m g,
  fun m g _ => ResidIdeal.Gen.frame m g,
  ResidProof.ref_frame,
  fun m g _ => ConvFwd.Gen.frame m g,
  fun m g _ => ConvFwdIdeal.Gen.frame m g,
  ConvFwdProof.ref_frame,
  fun m g _ => PoolFwd.Gen.frame m g,
  fun m g _ => PoolFwdIdeal.Gen.frame m g,
  fun m g _ => PoolFwdIdeal.Gen.frame m g,
  PoolFwdProof.ref_frame,
  fun m g _ => PoolFwdProof.ref_frame m g trivial, fun m g _ => FfnFwd.Gen.frame m g,
  fun m g _ => FfnFwdIdeal.Gen.frame m g,
  FfnFwdProof.ref_frame,
  fun m g _ => ModProj.Gen.frame m g,
  fun m g _ => ModProjIdeal.Gen.frame m g,
  ModProjProof.ref_frame,
  fun m g _ => ProjFwd.Gen.frame m g,
  fun m g _ => ProjFwdIdeal.Gen.frame m g,
  ProjFwdProof.ref_frame,
  fun m g _ => ProjBwdX.Gen.frame m g,
  fun m g _ => ProjBwdXIdeal.Gen.frame m g,
  ProjBwdXProof.ref_frame,
  fun m g _ => ProjBwdW.Gen.frame m g,
  fun m g _ => ProjBwdWIdeal.Gen.frame m g,
  ProjBwdWProof.ref_frame,
  fun m g _ => DenseFwd.Gen.frame m g,
  fun m g _ => DenseFwdIdeal.Gen.frame m g,
  DenseFwdProof.ref_frame,
  fun m g _ => DenseBwdX.Gen.frame m g,
  fun m g _ => DenseBwdXIdeal.Gen.frame m g,
  DenseBwdXProof.ref_frame,
  fun m g _ => DenseBwdW.Gen.frame m g,
  fun m g _ => DenseBwdWIdeal.Gen.frame m g,
  DenseBwdWProof.ref_frame,
  fun m g _ => FfnBwdX.Gen.frame m g,
  fun m g _ => FfnBwdXIdeal.Gen.frame m g,
  FfnBwdXProof.ref_frame,
  fun m g _ => FfnBwdWgu.Gen.frame m g,
  fun m g _ => FfnBwdWguIdeal.Gen.frame m g,
  FfnBwdWguProof.ref_frame,
  fun m g _ => FfnBwdWd.Gen.frame m g,
  fun m g _ => FfnBwdWdIdeal.Gen.frame m g,
  FfnBwdWdProof.ref_frame,
  fun m g _ => Adam.Gen.frame m g,
  fun m g _ => AdamIdeal.Gen.frame m g,
  AdamProof.ref_frame,
  fun m g _ => ModGrad.Gen.frame m g,
  fun m g _ => ModGradIdeal.Gen.frame m g,
  ModGradProof.ref_frame,
  fun m g _ => SumDev.Gen.frame m g,
  fun m g _ => SumDevIdeal.Gen.frame m g,
  SumDevProof.ref_frame,
  fun m g h => PairAdd.Gen.frame m g (PairAddProof.ok_bits m h),
  fun m g h => PairAddIdeal.Gen.frame m g (PairAddProof.ok_ideal m h),
  PairAddProof.ref_frame,
  fun m g _ => PairAddProof.ref_frame m g trivial, trivial, GateProof.algebraic,
  trivial, ConvProof.algebraic,
  trivial, FfnProof.algebraic,
  trivial, WindowProof.algebraic,
  attn_preserves,
  AttnProof.algebraic,
  trivial, NormProof.algebraic,
  trivial, LossProof.algebraic,
  trivial, PoolProof.algebraic,
  attnfwd_preserves,
  AttnFwdProof.algebraic,
  trivial, StartProof.algebraic,
  trivial, ResidProof.algebraic,
  trivial, ConvFwdProof.algebraic,
  trivial, PoolFwdProof.algebraic,
  trivial, FfnFwdProof.algebraic,
  trivial, ModProjProof.algebraic,
  trivial, ProjFwdProof.algebraic,
  trivial, ProjBwdXProof.algebraic,
  trivial, ProjBwdWProof.algebraic,
  trivial, DenseFwdProof.algebraic,
  trivial, DenseBwdXProof.algebraic,
  trivial, DenseBwdWProof.algebraic,
  trivial, FfnBwdXProof.algebraic,
  trivial, FfnBwdWguProof.algebraic,
  trivial, FfnBwdWdProof.algebraic,
  trivial, AdamProof.algebraic,
  trivial, ModGradProof.algebraic,
  trivial, SumDevProof.algebraic,
  trivial, PairAddProof.algebraic⟩
